-- ==== Defs.lean ====
def Pre_Mlp0 (m : (ℓ : Loc Cert.Mlp0.nD Cert.Mlp0.τ Cert.Mlp0.sig) → Buf (Elt Bits) ℓ) : Prop :=
  True

def Pre_Mlp0Ideal (m : (ℓ : Loc Cert.Mlp0Ideal.nD Cert.Mlp0Ideal.τ Cert.Mlp0Ideal.sig) → Buf (Elt Ideal) ℓ) : Prop :=
  True

def Pre_Mlp0RefIdeal (m : (ℓ : Loc Cert.Mlp0RefIdeal.nD Cert.Mlp0RefIdeal.τ Cert.Mlp0RefIdeal.sig) → Buf (Elt Ideal) ℓ) : Prop :=
  True

def Pre_Pe0 (m : (ℓ : Loc Cert.Pe0.nD Cert.Pe0.τ Cert.Pe0.sig) → Buf (Elt Bits) ℓ) : Prop :=
  True

def Pre_Pe0Ideal (m : (ℓ : Loc Cert.Pe0Ideal.nD Cert.Pe0Ideal.τ Cert.Pe0Ideal.sig) → Buf (Elt Ideal) ℓ) : Prop :=
  True

def Pre_Pe0RefIdeal (m : (ℓ : Loc Cert.Pe0RefIdeal.nD Cert.Pe0RefIdeal.τ Cert.Pe0RefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_DsaOut (m : (ℓ : Loc Cert.DsaOut.nD Cert.DsaOut.τ Cert.DsaOut.sig) → Buf (Elt Bits) ℓ) : Prop :=
  True

def Pre_DsaOutIdeal (m : (ℓ : Loc Cert.DsaOutIdeal.nD Cert.DsaOutIdeal.τ Cert.DsaOutIdeal.sig) → Buf (Elt Ideal) ℓ) : Prop :=
  True

def Pre_DsaOutRefIdeal (m : (ℓ : Loc Cert.DsaOutRefIdeal.nD Cert.DsaOutRefIdeal.τ Cert.DsaOutRefIdeal.sig) → Buf (Elt Ideal) ℓ) : Prop :=
  True

def Pre_Mlp1 (m : (ℓ : Loc Cert.Mlp1.nD Cert.Mlp1.τ Cert.Mlp1.sig) → Buf (Elt Bits) ℓ) : Prop :=
  True

def Pre_Mlp1Ideal (m : (ℓ : Loc Cert.Mlp1Ideal.nD Cert.Mlp1Ideal.τ Cert.Mlp1Ideal.sig) → Buf (Elt Ideal) ℓ) : Prop :=
  True

def Pre_Mlp1RefIdeal (m : (ℓ : Loc Cert.Mlp1RefIdeal.nD Cert.Mlp1RefIdeal.τ Cert.Mlp1RefIdeal.sig) → Buf (Elt Ideal) ℓ) : Prop :=
  True

def Pre_Pe1 (m : (ℓ : Loc Cert.Pe1.nD Cert.Pe1.τ Cert.Pe1.sig) → Buf (Elt Bits) ℓ) : Prop :=
  True

def Pre_Pe1Ideal (m : (ℓ : Loc Cert.Pe1Ideal.nD Cert.Pe1Ideal.τ Cert.Pe1Ideal.sig) → Buf (Elt Ideal) ℓ) : Prop :=
  True

def Pre_Pe1RefIdeal (m : (ℓ : Loc Cert.Pe1RefIdeal.nD Cert.Pe1RefIdeal.τ Cert.Pe1RefIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutRefIdeal (m : (ℓ : Loc Cert.ConvOutRefIdeal.nD Cert.ConvOutRefIdeal.τ Cert.ConvOutRefIdeal.sig) → Buf (Elt Ideal) ℓ) : Prop :=
  True

def Pre_Attn [hPre_attn_args : Cert.Pre_attn_args.Facts] (m : (ℓ : Loc Cert.Attn.nD Cert.Attn.τ Cert.Attn.sig) → Buf (Elt Bits) ℓ) : Prop :=
  ∀ c : Dev Cert.Attn.nD,
    (Cert.Pre_attn_args.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5))).1 = (fun _ => 1#1)
    ∧ (Cert.Pre_attn_args.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5))).2.1 = (fun _ => 1#1)
    ∧ (Cert.Pre_attn_args.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5))).2.2.1 = (fun _ => 1#1)
    ∧ (Cert.Pre_attn_args.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5))).2.2.2.1 = (fun _ => 1#1)
    ∧ (Cert.Pre_attn_args.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5))).2.2.2.2.1 = (fun _ => 1#1)
    ∧ (Cert.Pre_attn_args.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5))).2.2.2.2.2.1 = (fun _ => 1#1)
    ∧ (Cert.Pre_attn_args.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5))).2.2.2.2.2.2 = (fun _ => 1#1)

def Pre_AttnIdeal [hPre_attn_args : Cert.Pre_attn_args.Facts] (m : (ℓ : Loc Cert.AttnIdeal.nD Cert.AttnIdeal.τ Cert.AttnIdeal.sig) → Buf (Elt Ideal) ℓ) : Prop :=
  ∀ c : Dev Cert.AttnIdeal.nD,
    (Cert.Pre_attn_args.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_attn_args.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_attn_args.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_attn_args.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.1 = (fun _ => 1#1)
    ∧ (Cert.Pre_attn_args.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.1 = (fun _ => 1#1)
    ∧ (Cert.Pre_attn_args.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.2.1 = (fun _ => 1#1)
    ∧ (Cert.Pre_attn_args.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.2.2 = (fun _ => 1#1)

def Pre_AttnRefIdeal [hPre_attn_args : Cert.Pre_attn_args.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_args.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_attn_args.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_attn_args.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_attn_args.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.1 = (fun _ => 1#1)
    ∧ (Cert.Pre_attn_args.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.1 = (fun _ => 1#1)
    ∧ (Cert.Pre_attn_args.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.2.1 = (fun _ => 1#1)
    ∧ (Cert.Pre_attn_args.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.2.2 = (fun _ => 1#1)

def quiescent_Mlp0 [hMlp0 : Cert.Mlp0.Facts] : Prop :=
  ∀ (m : (ℓ : Loc Cert.Mlp0.nD Cert.Mlp0.τ Cert.Mlp0.sig) → Buf (Elt Bits) ℓ) (g : Dev Cert.Mlp0.nD → PrngReg), Pre_Mlp0 m →
    θ_run (Cert.Mlp0.defs (F := Bits)) (onTc (τ := Cert.Mlp0.τ) (Cert.Mlp0.main (F := Bits))) ⟨m, fun _ => 0, g⟩ (fun r => (∀ c : Dev Cert.Mlp0.nD,
      r.2.mem ((c.tc : Thread Cert.Mlp0.nD Cert.Mlp0.τ).loc Cert.Mlp0.main_arg0) = m ((c.tc : Thread Cert.Mlp0.nD Cert.Mlp0.τ).loc Cert.Mlp0.main_arg0)
      ∧ r.2.mem ((c.tc : Thread Cert.Mlp0.nD Cert.Mlp0.τ).loc Cert.Mlp0.main_arg1) = m ((c.tc : Thread Cert.Mlp0.nD Cert.Mlp0.τ).loc Cert.Mlp0.main_arg1)
      ∧ r.2.mem ((c.tc : Thread Cert.Mlp0.nD Cert.Mlp0.τ).loc Cert.Mlp0.main_arg2) = m ((c.tc : Thread Cert.Mlp0.nD Cert.Mlp0.τ).loc Cert.Mlp0.main_arg2)
      ∧ r.2.mem ((c.tc : Thread Cert.Mlp0.nD Cert.Mlp0.τ).loc Cert.Mlp0.main_arg3) = m ((c.tc : Thread Cert.Mlp0.nD Cert.Mlp0.τ).loc Cert.Mlp0.main_arg3))
      ∧ r.2.sem = fun _ => 0)

def quiescent_Mlp0Ideal [hMlp0Ideal : Cert.Mlp0Ideal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg), Pre_Mlp0Ideal m →
    θ_run (Cert.Mlp0Ideal.defs (F := Ideal)) (onTc (τ := Cert.Mlp0Ideal.τ) (Cert.Mlp0Ideal.main (F := Ideal))) ⟨m, fun _ => 0, g⟩ (fun r => (∀ c : Dev Cert.Mlp0Ideal.nD,
      r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
      ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
      ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
      ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3))
      ∧ r.2.sem = fun _ => 0)

def quiescent_Mlp0RefIdeal [hMlp0RefIdeal : Cert.Mlp0RefIdeal.Facts] : Prop :=
  ∀ (m : (ℓ : Loc Cert.Mlp0RefIdeal.nD Cert.Mlp0RefIdeal.τ Cert.Mlp0RefIdeal.sig) → Buf (Elt Ideal) ℓ) (g : Dev Cert.Mlp0RefIdeal.nD → PrngReg), Pre_Mlp0RefIdeal m →
    θ_run (Cert.Mlp0RefIdeal.defs (F := Ideal)) (onTc (τ := Cert.Mlp0RefIdeal.τ) (Cert.Mlp0RefIdeal.main (F := Ideal))) ⟨m, fun _ => 0, g⟩ (fun r => (∀ c : Dev Cert.Mlp0RefIdeal.nD,
      r.2.mem ((c.tc : Thread Cert.Mlp0RefIdeal.nD Cert.Mlp0RefIdeal.τ).loc Cert.Mlp0RefIdeal.main_arg0) = m ((c.tc : Thread Cert.Mlp0RefIdeal.nD Cert.Mlp0RefIdeal.τ).loc Cert.Mlp0RefIdeal.main_arg0)
      ∧ r.2.mem ((c.tc : Thread Cert.Mlp0RefIdeal.nD Cert.Mlp0RefIdeal.τ).loc Cert.Mlp0RefIdeal.main_arg1) = m ((c.tc : Thread Cert.Mlp0RefIdeal.nD Cert.Mlp0RefIdeal.τ).loc Cert.Mlp0RefIdeal.main_arg1)
      ∧ r.2.mem ((c.tc : Thread Cert.Mlp0RefIdeal.nD Cert.Mlp0RefIdeal.τ).loc Cert.Mlp0RefIdeal.main_arg2) = m ((c.tc : Thread Cert.Mlp0RefIdeal.nD Cert.Mlp0RefIdeal.τ).loc Cert.Mlp0RefIdeal.main_arg2)
      ∧ r.2.mem ((c.tc : Thread Cert.Mlp0RefIdeal.nD Cert.Mlp0RefIdeal.τ).loc Cert.Mlp0RefIdeal.main_arg3) = m ((c.tc : Thread Cert.Mlp0RefIdeal.nD Cert.Mlp0RefIdeal.τ).loc Cert.Mlp0RefIdeal.main_arg3))
      ∧ r.2.sem = fun _ => 0)

def quiescent_Pe0 [hPe0 : Cert.Pe0.Facts] : Prop :=
  ∀ (m : (ℓ : Loc Cert.Pe0.nD Cert.Pe0.τ Cert.Pe0.sig) → Buf (Elt Bits) ℓ) (g : Dev Cert.Pe0.nD → PrngReg), Pre_Pe0 m →
    θ_run (Cert.Pe0.defs (F := Bits)) (onTc (τ := Cert.Pe0.τ) (Cert.Pe0.main (F := Bits))) ⟨m, fun _ => 0, g⟩ (fun r => (∀ c : Dev Cert.Pe0.nD,
      r.2.mem ((c.tc : Thread Cert.Pe0.nD Cert.Pe0.τ).loc Cert.Pe0.main_arg0) = m ((c.tc : Thread Cert.Pe0.nD Cert.Pe0.τ).loc Cert.Pe0.main_arg0)
      ∧ r.2.mem ((c.tc : Thread Cert.Pe0.nD Cert.Pe0.τ).loc Cert.Pe0.main_arg1) = m ((c.tc : Thread Cert.Pe0.nD Cert.Pe0.τ).loc Cert.Pe0.main_arg1)
      ∧ r.2.mem ((c.tc : Thread Cert.Pe0.nD Cert.Pe0.τ).loc Cert.Pe0.main_arg2) = m ((c.tc : Thread Cert.Pe0.nD Cert.Pe0.τ).loc Cert.Pe0.main_arg2)
      ∧ r.2.mem ((c.tc : Thread Cert.Pe0.nD Cert.Pe0.τ).loc Cert.Pe0.main_arg3) = m ((c.tc : Thread Cert.Pe0.nD Cert.Pe0.τ).loc Cert.Pe0.main_arg3)
      ∧ r.2.mem ((c.tc : Thread Cert.Pe0.nD Cert.Pe0.τ).loc Cert.Pe0.main_arg4) = m ((c.tc : Thread Cert.Pe0.nD Cert.Pe0.τ).loc Cert.Pe0.main_arg4))
      ∧ r.2.sem = fun _ => 0)

def quiescent_Pe0Ideal [hPe0Ideal : Cert.Pe0Ideal.Facts] : Prop :=
  ∀ (m : (ℓ : Loc Cert.Pe0Ideal.nD Cert.Pe0Ideal.τ Cert.Pe0Ideal.sig) → Buf (Elt Ideal) ℓ) (g : Dev Cert.Pe0Ideal.nD → PrngReg), Pre_Pe0Ideal m →
    θ_run (Cert.Pe0Ideal.defs (F := Ideal)) (onTc (τ := Cert.Pe0Ideal.τ) (Cert.Pe0Ideal.main (F := Ideal))) ⟨m, fun _ => 0, g⟩ (fun r => (∀ c : Dev Cert.Pe0Ideal.nD,
      r.2.mem ((c.tc : Thread Cert.Pe0Ideal.nD Cert.Pe0Ideal.τ).loc Cert.Pe0Ideal.main_arg0) = m ((c.tc : Thread Cert.Pe0Ideal.nD Cert.Pe0Ideal.τ).loc Cert.Pe0Ideal.main_arg0)
      ∧ r.2.mem ((c.tc : Thread Cert.Pe0Ideal.nD Cert.Pe0Ideal.τ).loc Cert.Pe0Ideal.main_arg1) = m ((c.tc : Thread Cert.Pe0Ideal.nD Cert.Pe0Ideal.τ).loc Cert.Pe0Ideal.main_arg1)
      ∧ r.2.mem ((c.tc : Thread Cert.Pe0Ideal.nD Cert.Pe0Ideal.τ).loc Cert.Pe0Ideal.main_arg2) = m ((c.tc : Thread Cert.Pe0Ideal.nD Cert.Pe0Ideal.τ).loc Cert.Pe0Ideal.main_arg2)
      ∧ r.2.mem ((c.tc : Thread Cert.Pe0Ideal.nD Cert.Pe0Ideal.τ).loc Cert.Pe0Ideal.main_arg3) = m ((c.tc : Thread Cert.Pe0Ideal.nD Cert.Pe0Ideal.τ).loc Cert.Pe0Ideal.main_arg3)
      ∧ r.2.mem ((c.tc : Thread Cert.Pe0Ideal.nD Cert.Pe0Ideal.τ).loc Cert.Pe0Ideal.main_arg4) = m ((c.tc : Thread Cert.Pe0Ideal.nD Cert.Pe0Ideal.τ).loc Cert.Pe0Ideal.main_arg4))
      ∧ r.2.sem = fun _ => 0)

def quiescent_Pe0RefIdeal [hPe0RefIdeal : Cert.Pe0RefIdeal.Facts] : Prop :=
  ∀ (m : (ℓ : Loc Cert.Pe0RefIdeal.nD Cert.Pe0RefIdeal.τ Cert.Pe0RefIdeal.sig) → Buf (Elt Ideal) ℓ) (g : Dev Cert.Pe0RefIdeal.nD → PrngReg), Pre_Pe0RefIdeal m →
    θ_run (Cert.Pe0RefIdeal.defs (F := Ideal)) (onTc (τ := Cert.Pe0RefIdeal.τ) (Cert.Pe0RefIdeal.main (F := Ideal))) ⟨m, fun _ => 0, g⟩ (fun r => (∀ c : Dev Cert.Pe0RefIdeal.nD,
      r.2.mem ((c.tc : Thread Cert.Pe0RefIdeal.nD Cert.Pe0RefIdeal.τ).loc Cert.Pe0RefIdeal.main_arg0) = m ((c.tc : Thread Cert.Pe0RefIdeal.nD Cert.Pe0RefIdeal.τ).loc Cert.Pe0RefIdeal.main_arg0)
      ∧ r.2.mem ((c.tc : Thread Cert.Pe0RefIdeal.nD Cert.Pe0RefIdeal.τ).loc Cert.Pe0RefIdeal.main_arg1) = m ((c.tc : Thread Cert.Pe0RefIdeal.nD Cert.Pe0RefIdeal.τ).loc Cert.Pe0RefIdeal.main_arg1)
      ∧ r.2.mem ((c.tc : Thread Cert.Pe0RefIdeal.nD Cert.Pe0RefIdeal.τ).loc Cert.Pe0RefIdeal.main_arg2) = m ((c.tc : Thread Cert.Pe0RefIdeal.nD Cert.Pe0RefIdeal.τ).loc Cert.Pe0RefIdeal.main_arg2)
      ∧ r.2.mem ((c.tc : Thread Cert.Pe0RefIdeal.nD Cert.Pe0RefIdeal.τ).loc Cert.Pe0RefIdeal.main_arg3) = m ((c.tc : Thread Cert.Pe0RefIdeal.nD Cert.Pe0RefIdeal.τ).loc Cert.Pe0RefIdeal.main_arg3)
      ∧ r.2.mem ((c.tc : Thread Cert.Pe0RefIdeal.nD Cert.Pe0RefIdeal.τ).loc Cert.Pe0RefIdeal.main_arg4) = m ((c.tc : Thread Cert.Pe0RefIdeal.nD Cert.Pe0RefIdeal.τ).loc Cert.Pe0RefIdeal.main_arg4))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2)
      ∧ r.2.mem ((c.tc : Thread Cert.ConvIn.nD Cert.ConvIn.τ).loc Cert.ConvIn.main_arg3) = m ((c.tc : Thread Cert.ConvIn.nD Cert.ConvIn.τ).loc Cert.ConvIn.main_arg3))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
      ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2)
      ∧ r.2.mem ((c.tc : Thread Cert.ConvInRefIdeal.nD Cert.ConvInRefIdeal.τ).loc Cert.ConvInRefIdeal.main_arg3) = m ((c.tc : Thread Cert.ConvInRefIdeal.nD Cert.ConvInRefIdeal.τ).loc Cert.ConvInRefIdeal.main_arg3))
      ∧ r.2.sem = fun _ => 0)

def quiescent_DsaOut [hDsaOut : Cert.DsaOut.Facts] : Prop :=
  ∀ (m : (ℓ : Loc Cert.DsaOut.nD Cert.DsaOut.τ Cert.DsaOut.sig) → Buf (Elt Bits) ℓ) (g : Dev Cert.DsaOut.nD → PrngReg), Pre_DsaOut m →
    θ_run (Cert.DsaOut.defs (F := Bits)) (onTc (τ := Cert.DsaOut.τ) (Cert.DsaOut.main (F := Bits))) ⟨m, fun _ => 0, g⟩ (fun r => (∀ c : Dev Cert.DsaOut.nD,
      r.2.mem ((c.tc : Thread Cert.DsaOut.nD Cert.DsaOut.τ).loc Cert.DsaOut.main_arg0) = m ((c.tc : Thread Cert.DsaOut.nD Cert.DsaOut.τ).loc Cert.DsaOut.main_arg0)
      ∧ r.2.mem ((c.tc : Thread Cert.DsaOut.nD Cert.DsaOut.τ).loc Cert.DsaOut.main_arg1) = m ((c.tc : Thread Cert.DsaOut.nD Cert.DsaOut.τ).loc Cert.DsaOut.main_arg1)
      ∧ r.2.mem ((c.tc : Thread Cert.DsaOut.nD Cert.DsaOut.τ).loc Cert.DsaOut.main_arg2) = m ((c.tc : Thread Cert.DsaOut.nD Cert.DsaOut.τ).loc Cert.DsaOut.main_arg2))
      ∧ r.2.sem = fun _ => 0)

def quiescent_DsaOutIdeal [hDsaOutIdeal : Cert.DsaOutIdeal.Facts] : Prop :=
  ∀ (m : (ℓ : Loc Cert.DsaOutIdeal.nD Cert.DsaOutIdeal.τ Cert.DsaOutIdeal.sig) → Buf (Elt Ideal) ℓ) (g : Dev Cert.DsaOutIdeal.nD → PrngReg), Pre_DsaOutIdeal m →
    θ_run (Cert.DsaOutIdeal.defs (F := Ideal)) (onTc (τ := Cert.DsaOutIdeal.τ) (Cert.DsaOutIdeal.main (F := Ideal))) ⟨m, fun _ => 0, g⟩ (fun r => (∀ c : Dev Cert.DsaOutIdeal.nD,
      r.2.mem ((c.tc : Thread Cert.DsaOutIdeal.nD Cert.DsaOutIdeal.τ).loc Cert.DsaOutIdeal.main_arg0) = m ((c.tc : Thread Cert.DsaOutIdeal.nD Cert.DsaOutIdeal.τ).loc Cert.DsaOutIdeal.main_arg0)
      ∧ r.2.mem ((c.tc : Thread Cert.DsaOutIdeal.nD Cert.DsaOutIdeal.τ).loc Cert.DsaOutIdeal.main_arg1) = m ((c.tc : Thread Cert.DsaOutIdeal.nD Cert.DsaOutIdeal.τ).loc Cert.DsaOutIdeal.main_arg1)
      ∧ r.2.mem ((c.tc : Thread Cert.DsaOutIdeal.nD Cert.DsaOutIdeal.τ).loc Cert.DsaOutIdeal.main_arg2) = m ((c.tc : Thread Cert.DsaOutIdeal.nD Cert.DsaOutIdeal.τ).loc Cert.DsaOutIdeal.main_arg2))
      ∧ r.2.sem = fun _ => 0)

def quiescent_DsaOutRefIdeal [hDsaOutRefIdeal : Cert.DsaOutRefIdeal.Facts] : Prop :=
  ∀ (m : (ℓ : Loc Cert.DsaOutRefIdeal.nD Cert.DsaOutRefIdeal.τ Cert.DsaOutRefIdeal.sig) → Buf (Elt Ideal) ℓ) (g : Dev Cert.DsaOutRefIdeal.nD → PrngReg), Pre_DsaOutRefIdeal m →
    θ_run (Cert.DsaOutRefIdeal.defs (F := Ideal)) (onTc (τ := Cert.DsaOutRefIdeal.τ) (Cert.DsaOutRefIdeal.main (F := Ideal))) ⟨m, fun _ => 0, g⟩ (fun r => (∀ c : Dev Cert.DsaOutRefIdeal.nD,
      r.2.mem ((c.tc : Thread Cert.DsaOutRefIdeal.nD Cert.DsaOutRefIdeal.τ).loc Cert.DsaOutRefIdeal.main_arg0) = m ((c.tc : Thread Cert.DsaOutRefIdeal.nD Cert.DsaOutRefIdeal.τ).loc Cert.DsaOutRefIdeal.main_arg0)
      ∧ r.2.mem ((c.tc : Thread Cert.DsaOutRefIdeal.nD Cert.DsaOutRefIdeal.τ).loc Cert.DsaOutRefIdeal.main_arg1) = m ((c.tc : Thread Cert.DsaOutRefIdeal.nD Cert.DsaOutRefIdeal.τ).loc Cert.DsaOutRefIdeal.main_arg1)
      ∧ r.2.mem ((c.tc : Thread Cert.DsaOutRefIdeal.nD Cert.DsaOutRefIdeal.τ).loc Cert.DsaOutRefIdeal.main_arg2) = m ((c.tc : Thread Cert.DsaOutRefIdeal.nD Cert.DsaOutRefIdeal.τ).loc Cert.DsaOutRefIdeal.main_arg2))
      ∧ r.2.sem = fun _ => 0)

def quiescent_Mlp1 [hMlp1 : Cert.Mlp1.Facts] : Prop :=
  ∀ (m : (ℓ : Loc Cert.Mlp1.nD Cert.Mlp1.τ Cert.Mlp1.sig) → Buf (Elt Bits) ℓ) (g : Dev Cert.Mlp1.nD → PrngReg), Pre_Mlp1 m →
    θ_run (Cert.Mlp1.defs (F := Bits)) (onTc (τ := Cert.Mlp1.τ) (Cert.Mlp1.main (F := Bits))) ⟨m, fun _ => 0, g⟩ (fun r => (∀ c : Dev Cert.Mlp1.nD,
      r.2.mem ((c.tc : Thread Cert.Mlp1.nD Cert.Mlp1.τ).loc Cert.Mlp1.main_arg0) = m ((c.tc : Thread Cert.Mlp1.nD Cert.Mlp1.τ).loc Cert.Mlp1.main_arg0)
      ∧ r.2.mem ((c.tc : Thread Cert.Mlp1.nD Cert.Mlp1.τ).loc Cert.Mlp1.main_arg1) = m ((c.tc : Thread Cert.Mlp1.nD Cert.Mlp1.τ).loc Cert.Mlp1.main_arg1)
      ∧ r.2.mem ((c.tc : Thread Cert.Mlp1.nD Cert.Mlp1.τ).loc Cert.Mlp1.main_arg2) = m ((c.tc : Thread Cert.Mlp1.nD Cert.Mlp1.τ).loc Cert.Mlp1.main_arg2)
      ∧ r.2.mem ((c.tc : Thread Cert.Mlp1.nD Cert.Mlp1.τ).loc Cert.Mlp1.main_arg3) = m ((c.tc : Thread Cert.Mlp1.nD Cert.Mlp1.τ).loc Cert.Mlp1.main_arg3))
      ∧ r.2.sem = fun _ => 0)

def quiescent_Mlp1Ideal [hMlp1Ideal : Cert.Mlp1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg), Pre_Mlp1Ideal m →
    θ_run (Cert.Mlp1Ideal.defs (F := Ideal)) (onTc (τ := Cert.Mlp1Ideal.τ) (Cert.Mlp1Ideal.main (F := Ideal))) ⟨m, fun _ => 0, g⟩ (fun r => (∀ c : Dev Cert.Mlp1Ideal.nD,
      r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
      ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
      ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
      ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3))
      ∧ r.2.sem = fun _ => 0)

def quiescent_Mlp1RefIdeal [hMlp1RefIdeal : Cert.Mlp1RefIdeal.Facts] : Prop :=
  ∀ (m : (ℓ : Loc Cert.Mlp1RefIdeal.nD Cert.Mlp1RefIdeal.τ Cert.Mlp1RefIdeal.sig) → Buf (Elt Ideal) ℓ) (g : Dev Cert.Mlp1RefIdeal.nD → PrngReg), Pre_Mlp1RefIdeal m →
    θ_run (Cert.Mlp1RefIdeal.defs (F := Ideal)) (onTc (τ := Cert.Mlp1RefIdeal.τ) (Cert.Mlp1RefIdeal.main (F := Ideal))) ⟨m, fun _ => 0, g⟩ (fun r => (∀ c : Dev Cert.Mlp1RefIdeal.nD,
      r.2.mem ((c.tc : Thread Cert.Mlp1RefIdeal.nD Cert.Mlp1RefIdeal.τ).loc Cert.Mlp1RefIdeal.main_arg0) = m ((c.tc : Thread Cert.Mlp1RefIdeal.nD Cert.Mlp1RefIdeal.τ).loc Cert.Mlp1RefIdeal.main_arg0)
      ∧ r.2.mem ((c.tc : Thread Cert.Mlp1RefIdeal.nD Cert.Mlp1RefIdeal.τ).loc Cert.Mlp1RefIdeal.main_arg1) = m ((c.tc : Thread Cert.Mlp1RefIdeal.nD Cert.Mlp1RefIdeal.τ).loc Cert.Mlp1RefIdeal.main_arg1)
      ∧ r.2.mem ((c.tc : Thread Cert.Mlp1RefIdeal.nD Cert.Mlp1RefIdeal.τ).loc Cert.Mlp1RefIdeal.main_arg2) = m ((c.tc : Thread Cert.Mlp1RefIdeal.nD Cert.Mlp1RefIdeal.τ).loc Cert.Mlp1RefIdeal.main_arg2)
      ∧ r.2.mem ((c.tc : Thread Cert.Mlp1RefIdeal.nD Cert.Mlp1RefIdeal.τ).loc Cert.Mlp1RefIdeal.main_arg3) = m ((c.tc : Thread Cert.Mlp1RefIdeal.nD Cert.Mlp1RefIdeal.τ).loc Cert.Mlp1RefIdeal.main_arg3))
      ∧ r.2.sem = fun _ => 0)

def quiescent_Pe1 [hPe1 : Cert.Pe1.Facts] : Prop :=
  ∀ (m : (ℓ : Loc Cert.Pe1.nD Cert.Pe1.τ Cert.Pe1.sig) → Buf (Elt Bits) ℓ) (g : Dev Cert.Pe1.nD → PrngReg), Pre_Pe1 m →
    θ_run (Cert.Pe1.defs (F := Bits)) (onTc (τ := Cert.Pe1.τ) (Cert.Pe1.main (F := Bits))) ⟨m, fun _ => 0, g⟩ (fun r => (∀ c : Dev Cert.Pe1.nD,
      r.2.mem ((c.tc : Thread Cert.Pe1.nD Cert.Pe1.τ).loc Cert.Pe1.main_arg0) = m ((c.tc : Thread Cert.Pe1.nD Cert.Pe1.τ).loc Cert.Pe1.main_arg0)
      ∧ r.2.mem ((c.tc : Thread Cert.Pe1.nD Cert.Pe1.τ).loc Cert.Pe1.main_arg1) = m ((c.tc : Thread Cert.Pe1.nD Cert.Pe1.τ).loc Cert.Pe1.main_arg1)
      ∧ r.2.mem ((c.tc : Thread Cert.Pe1.nD Cert.Pe1.τ).loc Cert.Pe1.main_arg2) = m ((c.tc : Thread Cert.Pe1.nD Cert.Pe1.τ).loc Cert.Pe1.main_arg2)
      ∧ r.2.mem ((c.tc : Thread Cert.Pe1.nD Cert.Pe1.τ).loc Cert.Pe1.main_arg3) = m ((c.tc : Thread Cert.Pe1.nD Cert.Pe1.τ).loc Cert.Pe1.main_arg3)
      ∧ r.2.mem ((c.tc : Thread Cert.Pe1.nD Cert.Pe1.τ).loc Cert.Pe1.main_arg4) = m ((c.tc : Thread Cert.Pe1.nD Cert.Pe1.τ).loc Cert.Pe1.main_arg4)
      ∧ r.2.mem ((c.tc : Thread Cert.Pe1.nD Cert.Pe1.τ).loc Cert.Pe1.main_arg5) = m ((c.tc : Thread Cert.Pe1.nD Cert.Pe1.τ).loc Cert.Pe1.main_arg5))
      ∧ r.2.sem = fun _ => 0)

def quiescent_Pe1Ideal [hPe1Ideal : Cert.Pe1Ideal.Facts] : Prop :=
  ∀ (m : (ℓ : Loc Cert.Pe1Ideal.nD Cert.Pe1Ideal.τ Cert.Pe1Ideal.sig) → Buf (Elt Ideal) ℓ) (g : Dev Cert.Pe1Ideal.nD → PrngReg), Pre_Pe1Ideal m →
    θ_run (Cert.Pe1Ideal.defs (F := Ideal)) (onTc (τ := Cert.Pe1Ideal.τ) (Cert.Pe1Ideal.main (F := Ideal))) ⟨m, fun _ => 0, g⟩ (fun r => (∀ c : Dev Cert.Pe1Ideal.nD,
      r.2.mem ((c.tc : Thread Cert.Pe1Ideal.nD Cert.Pe1Ideal.τ).loc Cert.Pe1Ideal.main_arg0) = m ((c.tc : Thread Cert.Pe1Ideal.nD Cert.Pe1Ideal.τ).loc Cert.Pe1Ideal.main_arg0)
      ∧ r.2.mem ((c.tc : Thread Cert.Pe1Ideal.nD Cert.Pe1Ideal.τ).loc Cert.Pe1Ideal.main_arg1) = m ((c.tc : Thread Cert.Pe1Ideal.nD Cert.Pe1Ideal.τ).loc Cert.Pe1Ideal.main_arg1)
      ∧ r.2.mem ((c.tc : Thread Cert.Pe1Ideal.nD Cert.Pe1Ideal.τ).loc Cert.Pe1Ideal.main_arg2) = m ((c.tc : Thread Cert.Pe1Ideal.nD Cert.Pe1Ideal.τ).loc Cert.Pe1Ideal.main_arg2)
      ∧ r.2.mem ((c.tc : Thread Cert.Pe1Ideal.nD Cert.Pe1Ideal.τ).loc Cert.Pe1Ideal.main_arg3) = m ((c.tc : Thread Cert.Pe1Ideal.nD Cert.Pe1Ideal.τ).loc Cert.Pe1Ideal.main_arg3)
      ∧ r.2.mem ((c.tc : Thread Cert.Pe1Ideal.nD Cert.Pe1Ideal.τ).loc Cert.Pe1Ideal.main_arg4) = m ((c.tc : Thread Cert.Pe1Ideal.nD Cert.Pe1Ideal.τ).loc Cert.Pe1Ideal.main_arg4)
      ∧ r.2.mem ((c.tc : Thread Cert.Pe1Ideal.nD Cert.Pe1Ideal.τ).loc Cert.Pe1Ideal.main_arg5) = m ((c.tc : Thread Cert.Pe1Ideal.nD Cert.Pe1Ideal.τ).loc Cert.Pe1Ideal.main_arg5))
      ∧ r.2.sem = fun _ => 0)

def quiescent_Pe1RefIdeal [hPe1RefIdeal : Cert.Pe1RefIdeal.Facts] : Prop :=
  ∀ (m : (ℓ : Loc Cert.Pe1RefIdeal.nD Cert.Pe1RefIdeal.τ Cert.Pe1RefIdeal.sig) → Buf (Elt Ideal) ℓ) (g : Dev Cert.Pe1RefIdeal.nD → PrngReg), Pre_Pe1RefIdeal m →
    θ_run (Cert.Pe1RefIdeal.defs (F := Ideal)) (onTc (τ := Cert.Pe1RefIdeal.τ) (Cert.Pe1RefIdeal.main (F := Ideal))) ⟨m, fun _ => 0, g⟩ (fun r => (∀ c : Dev Cert.Pe1RefIdeal.nD,
      r.2.mem ((c.tc : Thread Cert.Pe1RefIdeal.nD Cert.Pe1RefIdeal.τ).loc Cert.Pe1RefIdeal.main_arg0) = m ((c.tc : Thread Cert.Pe1RefIdeal.nD Cert.Pe1RefIdeal.τ).loc Cert.Pe1RefIdeal.main_arg0)
      ∧ r.2.mem ((c.tc : Thread Cert.Pe1RefIdeal.nD Cert.Pe1RefIdeal.τ).loc Cert.Pe1RefIdeal.main_arg1) = m ((c.tc : Thread Cert.Pe1RefIdeal.nD Cert.Pe1RefIdeal.τ).loc Cert.Pe1RefIdeal.main_arg1)
      ∧ r.2.mem ((c.tc : Thread Cert.Pe1RefIdeal.nD Cert.Pe1RefIdeal.τ).loc Cert.Pe1RefIdeal.main_arg2) = m ((c.tc : Thread Cert.Pe1RefIdeal.nD Cert.Pe1RefIdeal.τ).loc Cert.Pe1RefIdeal.main_arg2)
      ∧ r.2.mem ((c.tc : Thread Cert.Pe1RefIdeal.nD Cert.Pe1RefIdeal.τ).loc Cert.Pe1RefIdeal.main_arg3) = m ((c.tc : Thread Cert.Pe1RefIdeal.nD Cert.Pe1RefIdeal.τ).loc Cert.Pe1RefIdeal.main_arg3)
      ∧ r.2.mem ((c.tc : Thread Cert.Pe1RefIdeal.nD Cert.Pe1RefIdeal.τ).loc Cert.Pe1RefIdeal.main_arg4) = m ((c.tc : Thread Cert.Pe1RefIdeal.nD Cert.Pe1RefIdeal.τ).loc Cert.Pe1RefIdeal.main_arg4)
      ∧ r.2.mem ((c.tc : Thread Cert.Pe1RefIdeal.nD Cert.Pe1RefIdeal.τ).loc Cert.Pe1RefIdeal.main_arg5) = m ((c.tc : Thread Cert.Pe1RefIdeal.nD Cert.Pe1RefIdeal.τ).loc Cert.Pe1RefIdeal.main_arg5))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2)
      ∧ r.2.mem ((c.tc : Thread Cert.ConvOut.nD Cert.ConvOut.τ).loc Cert.ConvOut.main_arg3) = m ((c.tc : Thread Cert.ConvOut.nD Cert.ConvOut.τ).loc Cert.ConvOut.main_arg3))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
      ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3))
      ∧ r.2.sem = fun _ => 0)

def quiescent_ConvOutRefIdeal [hConvOutRefIdeal : Cert.ConvOutRefIdeal.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1)
      ∧ r.2.mem ((c.tc : Thread Cert.ConvOutRefIdeal.nD Cert.ConvOutRefIdeal.τ).loc Cert.ConvOutRefIdeal.main_arg2) = m ((c.tc : Thread Cert.ConvOutRefIdeal.nD Cert.ConvOutRefIdeal.τ).loc Cert.ConvOutRefIdeal.main_arg2)
      ∧ r.2.mem ((c.tc : Thread Cert.ConvOutRefIdeal.nD Cert.ConvOutRefIdeal.τ).loc Cert.ConvOutRefIdeal.main_arg3) = m ((c.tc : Thread Cert.ConvOutRefIdeal.nD Cert.ConvOutRefIdeal.τ).loc Cert.ConvOutRefIdeal.main_arg3))
      ∧ r.2.sem = fun _ => 0)

def quiescent_Attn [hAttn : Cert.Attn.Facts] [hPre_attn_args : Cert.Pre_attn_args.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] [hPre_attn_args : Cert.Pre_attn_args.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] [hPre_attn_args : Cert.Pre_attn_args.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def preserves_Mlp0_Mlp0Ideal : Prop :=
  True

def algebraic_Mlp0Ideal_Mlp0RefIdeal [hMlp0Ideal : Cert.Mlp0Ideal.Facts] [hMlp0RefIdeal : Cert.Mlp0RefIdeal.Facts] : Prop :=
  ∀ (m : (ℓ : Loc Cert.Mlp0Ideal.nD Cert.Mlp0Ideal.τ Cert.Mlp0Ideal.sig) → Buf (Elt Ideal) ℓ) (g : Dev Cert.Mlp0Ideal.nD → PrngReg)
    (m' : (ℓ : Loc Cert.Mlp0RefIdeal.nD Cert.Mlp0RefIdeal.τ Cert.Mlp0RefIdeal.sig) → Buf (Elt Ideal) ℓ) (g' : Dev Cert.Mlp0RefIdeal.nD → PrngReg), Pre_Mlp0Ideal m →
    (∀ c : Dev Cert.Mlp0Ideal.nD,
      m' ((c.tc : Thread Cert.Mlp0RefIdeal.nD Cert.Mlp0RefIdeal.τ).loc Cert.Mlp0RefIdeal.main_arg0) = m ((c.tc : Thread Cert.Mlp0Ideal.nD Cert.Mlp0Ideal.τ).loc Cert.Mlp0Ideal.main_arg0)
      ∧ m' ((c.tc : Thread Cert.Mlp0RefIdeal.nD Cert.Mlp0RefIdeal.τ).loc Cert.Mlp0RefIdeal.main_arg1) = m ((c.tc : Thread Cert.Mlp0Ideal.nD Cert.Mlp0Ideal.τ).loc Cert.Mlp0Ideal.main_arg1)
      ∧ m' ((c.tc : Thread Cert.Mlp0RefIdeal.nD Cert.Mlp0RefIdeal.τ).loc Cert.Mlp0RefIdeal.main_arg2) = m ((c.tc : Thread Cert.Mlp0Ideal.nD Cert.Mlp0Ideal.τ).loc Cert.Mlp0Ideal.main_arg2)
      ∧ m' ((c.tc : Thread Cert.Mlp0RefIdeal.nD Cert.Mlp0RefIdeal.τ).loc Cert.Mlp0RefIdeal.main_arg3) = m ((c.tc : Thread Cert.Mlp0Ideal.nD Cert.Mlp0Ideal.τ).loc Cert.Mlp0Ideal.main_arg3)) →
    ∃ (v0 : (c : Dev Cert.Mlp0Ideal.nD) → Buf (Elt Ideal) ((c.tc : Thread Cert.Mlp0Ideal.nD Cert.Mlp0Ideal.τ).loc Cert.Mlp0Ideal.main_v2)),
      θ_run (Cert.Mlp0Ideal.defs (F := Ideal)) (onTc (τ := Cert.Mlp0Ideal.τ) (Cert.Mlp0Ideal.main (F := Ideal))) ⟨m, fun _ => 0, g⟩ (fun r => ∀ c : Dev Cert.Mlp0Ideal.nD,
          r.2.mem ((c.tc : Thread Cert.Mlp0Ideal.nD Cert.Mlp0Ideal.τ).loc Cert.Mlp0Ideal.main_v2) = v0 c
          ∧ r.2.mem ((c.tc : Thread Cert.Mlp0Ideal.nD Cert.Mlp0Ideal.τ).loc Cert.Mlp0Ideal.main_arg0) = m ((c.tc : Thread Cert.Mlp0Ideal.nD Cert.Mlp0Ideal.τ).loc Cert.Mlp0Ideal.main_arg0)
          ∧ r.2.mem ((c.tc : Thread Cert.Mlp0Ideal.nD Cert.Mlp0Ideal.τ).loc Cert.Mlp0Ideal.main_arg1) = m ((c.tc : Thread Cert.Mlp0Ideal.nD Cert.Mlp0Ideal.τ).loc Cert.Mlp0Ideal.main_arg1)
          ∧ r.2.mem ((c.tc : Thread Cert.Mlp0Ideal.nD Cert.Mlp0Ideal.τ).loc Cert.Mlp0Ideal.main_arg2) = m ((c.tc : Thread Cert.Mlp0Ideal.nD Cert.Mlp0Ideal.τ).loc Cert.Mlp0Ideal.main_arg2)
          ∧ r.2.mem ((c.tc : Thread Cert.Mlp0Ideal.nD Cert.Mlp0Ideal.τ).loc Cert.Mlp0Ideal.main_arg3) = m ((c.tc : Thread Cert.Mlp0Ideal.nD Cert.Mlp0Ideal.τ).loc Cert.Mlp0Ideal.main_arg3))
      ∧ θ_run (Cert.Mlp0RefIdeal.defs (F := Ideal)) (onTc (τ := Cert.Mlp0RefIdeal.τ) (Cert.Mlp0RefIdeal.main (F := Ideal))) ⟨m', fun _ => 0, g'⟩ (fun r => ∀ c : Dev Cert.Mlp0RefIdeal.nD,
          r.2.mem ((c.tc : Thread Cert.Mlp0RefIdeal.nD Cert.Mlp0RefIdeal.τ).loc Cert.Mlp0RefIdeal.main_v20) = v0 c
          ∧ r.2.mem ((c.tc : Thread Cert.Mlp0RefIdeal.nD Cert.Mlp0RefIdeal.τ).loc Cert.Mlp0RefIdeal.main_arg0) = m' ((c.tc : Thread Cert.Mlp0RefIdeal.nD Cert.Mlp0RefIdeal.τ).loc Cert.Mlp0RefIdeal.main_arg0)
          ∧ r.2.mem ((c.tc : Thread Cert.Mlp0RefIdeal.nD Cert.Mlp0RefIdeal.τ).loc Cert.Mlp0RefIdeal.main_arg1) = m' ((c.tc : Thread Cert.Mlp0RefIdeal.nD Cert.Mlp0RefIdeal.τ).loc Cert.Mlp0RefIdeal.main_arg1)
          ∧ r.2.mem ((c.tc : Thread Cert.Mlp0RefIdeal.nD Cert.Mlp0RefIdeal.τ).loc Cert.Mlp0RefIdeal.main_arg2) = m' ((c.tc : Thread Cert.Mlp0RefIdeal.nD Cert.Mlp0RefIdeal.τ).loc Cert.Mlp0RefIdeal.main_arg2)
          ∧ r.2.mem ((c.tc : Thread Cert.Mlp0RefIdeal.nD Cert.Mlp0RefIdeal.τ).loc Cert.Mlp0RefIdeal.main_arg3) = m' ((c.tc : Thread Cert.Mlp0RefIdeal.nD Cert.Mlp0RefIdeal.τ).loc Cert.Mlp0RefIdeal.main_arg3))

def preserves_Pe0_Pe0Ideal : Prop :=
  True

def algebraic_Pe0Ideal_Pe0RefIdeal [hPe0Ideal : Cert.Pe0Ideal.Facts] [hPe0RefIdeal : Cert.Pe0RefIdeal.Facts] : Prop :=
  ∀ (m : (ℓ : Loc Cert.Pe0Ideal.nD Cert.Pe0Ideal.τ Cert.Pe0Ideal.sig) → Buf (Elt Ideal) ℓ) (g : Dev Cert.Pe0Ideal.nD → PrngReg)
    (m' : (ℓ : Loc Cert.Pe0RefIdeal.nD Cert.Pe0RefIdeal.τ Cert.Pe0RefIdeal.sig) → Buf (Elt Ideal) ℓ) (g' : Dev Cert.Pe0RefIdeal.nD → PrngReg), Pre_Pe0Ideal m →
    (∀ c : Dev Cert.Pe0Ideal.nD,
      m' ((c.tc : Thread Cert.Pe0RefIdeal.nD Cert.Pe0RefIdeal.τ).loc Cert.Pe0RefIdeal.main_arg0) = m ((c.tc : Thread Cert.Pe0Ideal.nD Cert.Pe0Ideal.τ).loc Cert.Pe0Ideal.main_arg0)
      ∧ m' ((c.tc : Thread Cert.Pe0RefIdeal.nD Cert.Pe0RefIdeal.τ).loc Cert.Pe0RefIdeal.main_arg1) = m ((c.tc : Thread Cert.Pe0Ideal.nD Cert.Pe0Ideal.τ).loc Cert.Pe0Ideal.main_arg1)
      ∧ m' ((c.tc : Thread Cert.Pe0RefIdeal.nD Cert.Pe0RefIdeal.τ).loc Cert.Pe0RefIdeal.main_arg2) = m ((c.tc : Thread Cert.Pe0Ideal.nD Cert.Pe0Ideal.τ).loc Cert.Pe0Ideal.main_arg2)
      ∧ m' ((c.tc : Thread Cert.Pe0RefIdeal.nD Cert.Pe0RefIdeal.τ).loc Cert.Pe0RefIdeal.main_arg3) = m ((c.tc : Thread Cert.Pe0Ideal.nD Cert.Pe0Ideal.τ).loc Cert.Pe0Ideal.main_arg3)
      ∧ m' ((c.tc : Thread Cert.Pe0RefIdeal.nD Cert.Pe0RefIdeal.τ).loc Cert.Pe0RefIdeal.main_arg4) = m ((c.tc : Thread Cert.Pe0Ideal.nD Cert.Pe0Ideal.τ).loc Cert.Pe0Ideal.main_arg4)) →
    ∃ (v0 : (c : Dev Cert.Pe0Ideal.nD) → Buf (Elt Ideal) ((c.tc : Thread Cert.Pe0Ideal.nD Cert.Pe0Ideal.τ).loc Cert.Pe0Ideal.main_v2)),
      θ_run (Cert.Pe0Ideal.defs (F := Ideal)) (onTc (τ := Cert.Pe0Ideal.τ) (Cert.Pe0Ideal.main (F := Ideal))) ⟨m, fun _ => 0, g⟩ (fun r => ∀ c : Dev Cert.Pe0Ideal.nD,
          r.2.mem ((c.tc : Thread Cert.Pe0Ideal.nD Cert.Pe0Ideal.τ).loc Cert.Pe0Ideal.main_v2) = v0 c
          ∧ r.2.mem ((c.tc : Thread Cert.Pe0Ideal.nD Cert.Pe0Ideal.τ).loc Cert.Pe0Ideal.main_arg0) = m ((c.tc : Thread Cert.Pe0Ideal.nD Cert.Pe0Ideal.τ).loc Cert.Pe0Ideal.main_arg0)
          ∧ r.2.mem ((c.tc : Thread Cert.Pe0Ideal.nD Cert.Pe0Ideal.τ).loc Cert.Pe0Ideal.main_arg1) = m ((c.tc : Thread Cert.Pe0Ideal.nD Cert.Pe0Ideal.τ).loc Cert.Pe0Ideal.main_arg1)
          ∧ r.2.mem ((c.tc : Thread Cert.Pe0Ideal.nD Cert.Pe0Ideal.τ).loc Cert.Pe0Ideal.main_arg2) = m ((c.tc : Thread Cert.Pe0Ideal.nD Cert.Pe0Ideal.τ).loc Cert.Pe0Ideal.main_arg2)
          ∧ r.2.mem ((c.tc : Thread Cert.Pe0Ideal.nD Cert.Pe0Ideal.τ).loc Cert.Pe0Ideal.main_arg3) = m ((c.tc : Thread Cert.Pe0Ideal.nD Cert.Pe0Ideal.τ).loc Cert.Pe0Ideal.main_arg3)
          ∧ r.2.mem ((c.tc : Thread Cert.Pe0Ideal.nD Cert.Pe0Ideal.τ).loc Cert.Pe0Ideal.main_arg4) = m ((c.tc : Thread Cert.Pe0Ideal.nD Cert.Pe0Ideal.τ).loc Cert.Pe0Ideal.main_arg4))
      ∧ θ_run (Cert.Pe0RefIdeal.defs (F := Ideal)) (onTc (τ := Cert.Pe0RefIdeal.τ) (Cert.Pe0RefIdeal.main (F := Ideal))) ⟨m', fun _ => 0, g'⟩ (fun r => ∀ c : Dev Cert.Pe0RefIdeal.nD,
          r.2.mem ((c.tc : Thread Cert.Pe0RefIdeal.nD Cert.Pe0RefIdeal.τ).loc Cert.Pe0RefIdeal.main_v23) = v0 c
          ∧ r.2.mem ((c.tc : Thread Cert.Pe0RefIdeal.nD Cert.Pe0RefIdeal.τ).loc Cert.Pe0RefIdeal.main_arg0) = m' ((c.tc : Thread Cert.Pe0RefIdeal.nD Cert.Pe0RefIdeal.τ).loc Cert.Pe0RefIdeal.main_arg0)
          ∧ r.2.mem ((c.tc : Thread Cert.Pe0RefIdeal.nD Cert.Pe0RefIdeal.τ).loc Cert.Pe0RefIdeal.main_arg1) = m' ((c.tc : Thread Cert.Pe0RefIdeal.nD Cert.Pe0RefIdeal.τ).loc Cert.Pe0RefIdeal.main_arg1)
          ∧ r.2.mem ((c.tc : Thread Cert.Pe0RefIdeal.nD Cert.Pe0RefIdeal.τ).loc Cert.Pe0RefIdeal.main_arg2) = m' ((c.tc : Thread Cert.Pe0RefIdeal.nD Cert.Pe0RefIdeal.τ).loc Cert.Pe0RefIdeal.main_arg2)
          ∧ r.2.mem ((c.tc : Thread Cert.Pe0RefIdeal.nD Cert.Pe0RefIdeal.τ).loc Cert.Pe0RefIdeal.main_arg3) = m' ((c.tc : Thread Cert.Pe0RefIdeal.nD Cert.Pe0RefIdeal.τ).loc Cert.Pe0RefIdeal.main_arg3)
          ∧ r.2.mem ((c.tc : Thread Cert.Pe0RefIdeal.nD Cert.Pe0RefIdeal.τ).loc Cert.Pe0RefIdeal.main_arg4) = m' ((c.tc : Thread Cert.Pe0RefIdeal.nD Cert.Pe0RefIdeal.τ).loc Cert.Pe0RefIdeal.main_arg4))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)
      ∧ m' ((c.tc : Thread Cert.ConvInRefIdeal.nD Cert.ConvInRefIdeal.τ).loc Cert.ConvInRefIdeal.main_arg2) = m ((c.tc : Thread Cert.ConvInIdeal.nD Cert.ConvInIdeal.τ).loc Cert.ConvInIdeal.main_arg2)
      ∧ m' ((c.tc : Thread Cert.ConvInRefIdeal.nD Cert.ConvInRefIdeal.τ).loc Cert.ConvInRefIdeal.main_arg3) = m ((c.tc : Thread Cert.ConvInIdeal.nD Cert.ConvInIdeal.τ).loc Cert.ConvInIdeal.main_arg3)) →
    ∃ (v0 : (c : Dev Cert.ConvInIdeal.nD) → Buf (Elt Ideal) ((c.tc : Thread Cert.ConvInIdeal.nD Cert.ConvInIdeal.τ).loc Cert.ConvInIdeal.main_v1)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v1) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
          ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v23) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1)
          ∧ r.2.mem ((c.tc : Thread Cert.ConvInRefIdeal.nD Cert.ConvInRefIdeal.τ).loc Cert.ConvInRefIdeal.main_arg2) = m' ((c.tc : Thread Cert.ConvInRefIdeal.nD Cert.ConvInRefIdeal.τ).loc Cert.ConvInRefIdeal.main_arg2)
          ∧ r.2.mem ((c.tc : Thread Cert.ConvInRefIdeal.nD Cert.ConvInRefIdeal.τ).loc Cert.ConvInRefIdeal.main_arg3) = m' ((c.tc : Thread Cert.ConvInRefIdeal.nD Cert.ConvInRefIdeal.τ).loc Cert.ConvInRefIdeal.main_arg3))

def preserves_DsaOut_DsaOutIdeal : Prop :=
  True

def algebraic_DsaOutIdeal_DsaOutRefIdeal [hDsaOutIdeal : Cert.DsaOutIdeal.Facts] [hDsaOutRefIdeal : Cert.DsaOutRefIdeal.Facts] : Prop :=
  ∀ (m : (ℓ : Loc Cert.DsaOutIdeal.nD Cert.DsaOutIdeal.τ Cert.DsaOutIdeal.sig) → Buf (Elt Ideal) ℓ) (g : Dev Cert.DsaOutIdeal.nD → PrngReg)
    (m' : (ℓ : Loc Cert.DsaOutRefIdeal.nD Cert.DsaOutRefIdeal.τ Cert.DsaOutRefIdeal.sig) → Buf (Elt Ideal) ℓ) (g' : Dev Cert.DsaOutRefIdeal.nD → PrngReg), Pre_DsaOutIdeal m →
    (∀ c : Dev Cert.DsaOutIdeal.nD,
      m' ((c.tc : Thread Cert.DsaOutRefIdeal.nD Cert.DsaOutRefIdeal.τ).loc Cert.DsaOutRefIdeal.main_arg0) = m ((c.tc : Thread Cert.DsaOutIdeal.nD Cert.DsaOutIdeal.τ).loc Cert.DsaOutIdeal.main_arg0)
      ∧ m' ((c.tc : Thread Cert.DsaOutRefIdeal.nD Cert.DsaOutRefIdeal.τ).loc Cert.DsaOutRefIdeal.main_arg1) = m ((c.tc : Thread Cert.DsaOutIdeal.nD Cert.DsaOutIdeal.τ).loc Cert.DsaOutIdeal.main_arg1)
      ∧ m' ((c.tc : Thread Cert.DsaOutRefIdeal.nD Cert.DsaOutRefIdeal.τ).loc Cert.DsaOutRefIdeal.main_arg2) = m ((c.tc : Thread Cert.DsaOutIdeal.nD Cert.DsaOutIdeal.τ).loc Cert.DsaOutIdeal.main_arg2)) →
    ∃ (v0 : (c : Dev Cert.DsaOutIdeal.nD) → Buf (Elt Ideal) ((c.tc : Thread Cert.DsaOutIdeal.nD Cert.DsaOutIdeal.τ).loc Cert.DsaOutIdeal.main_v1)),
      θ_run (Cert.DsaOutIdeal.defs (F := Ideal)) (onTc (τ := Cert.DsaOutIdeal.τ) (Cert.DsaOutIdeal.main (F := Ideal))) ⟨m, fun _ => 0, g⟩ (fun r => ∀ c : Dev Cert.DsaOutIdeal.nD,
          r.2.mem ((c.tc : Thread Cert.DsaOutIdeal.nD Cert.DsaOutIdeal.τ).loc Cert.DsaOutIdeal.main_v1) = v0 c
          ∧ r.2.mem ((c.tc : Thread Cert.DsaOutIdeal.nD Cert.DsaOutIdeal.τ).loc Cert.DsaOutIdeal.main_arg0) = m ((c.tc : Thread Cert.DsaOutIdeal.nD Cert.DsaOutIdeal.τ).loc Cert.DsaOutIdeal.main_arg0)
          ∧ r.2.mem ((c.tc : Thread Cert.DsaOutIdeal.nD Cert.DsaOutIdeal.τ).loc Cert.DsaOutIdeal.main_arg1) = m ((c.tc : Thread Cert.DsaOutIdeal.nD Cert.DsaOutIdeal.τ).loc Cert.DsaOutIdeal.main_arg1)
          ∧ r.2.mem ((c.tc : Thread Cert.DsaOutIdeal.nD Cert.DsaOutIdeal.τ).loc Cert.DsaOutIdeal.main_arg2) = m ((c.tc : Thread Cert.DsaOutIdeal.nD Cert.DsaOutIdeal.τ).loc Cert.DsaOutIdeal.main_arg2))
      ∧ θ_run (Cert.DsaOutRefIdeal.defs (F := Ideal)) (onTc (τ := Cert.DsaOutRefIdeal.τ) (Cert.DsaOutRefIdeal.main (F := Ideal))) ⟨m', fun _ => 0, g'⟩ (fun r => ∀ c : Dev Cert.DsaOutRefIdeal.nD,
          r.2.mem ((c.tc : Thread Cert.DsaOutRefIdeal.nD Cert.DsaOutRefIdeal.τ).loc Cert.DsaOutRefIdeal.main_v2) = v0 c
          ∧ r.2.mem ((c.tc : Thread Cert.DsaOutRefIdeal.nD Cert.DsaOutRefIdeal.τ).loc Cert.DsaOutRefIdeal.main_arg0) = m' ((c.tc : Thread Cert.DsaOutRefIdeal.nD Cert.DsaOutRefIdeal.τ).loc Cert.DsaOutRefIdeal.main_arg0)
          ∧ r.2.mem ((c.tc : Thread Cert.DsaOutRefIdeal.nD Cert.DsaOutRefIdeal.τ).loc Cert.DsaOutRefIdeal.main_arg1) = m' ((c.tc : Thread Cert.DsaOutRefIdeal.nD Cert.DsaOutRefIdeal.τ).loc Cert.DsaOutRefIdeal.main_arg1)
          ∧ r.2.mem ((c.tc : Thread Cert.DsaOutRefIdeal.nD Cert.DsaOutRefIdeal.τ).loc Cert.DsaOutRefIdeal.main_arg2) = m' ((c.tc : Thread Cert.DsaOutRefIdeal.nD Cert.DsaOutRefIdeal.τ).loc Cert.DsaOutRefIdeal.main_arg2))

def preserves_Mlp1_Mlp1Ideal : Prop :=
  True

def algebraic_Mlp1Ideal_Mlp1RefIdeal [hMlp1Ideal : Cert.Mlp1Ideal.Facts] [hMlp1RefIdeal : Cert.Mlp1RefIdeal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg)
    (m' : (ℓ : Loc Cert.Mlp1RefIdeal.nD Cert.Mlp1RefIdeal.τ Cert.Mlp1RefIdeal.sig) → Buf (Elt Ideal) ℓ) (g' : Dev Cert.Mlp1RefIdeal.nD → PrngReg), Pre_Mlp1Ideal m →
    (∀ c : Dev Cert.Mlp1Ideal.nD,
      m' ((c.tc : Thread Cert.Mlp1RefIdeal.nD Cert.Mlp1RefIdeal.τ).loc Cert.Mlp1RefIdeal.main_arg0) = m ((c.tc : Thread Cert.Mlp1Ideal.nD Cert.Mlp1Ideal.τ).loc Cert.Mlp1Ideal.main_arg0)
      ∧ m' ((c.tc : Thread Cert.Mlp1RefIdeal.nD Cert.Mlp1RefIdeal.τ).loc Cert.Mlp1RefIdeal.main_arg1) = m ((c.tc : Thread Cert.Mlp1Ideal.nD Cert.Mlp1Ideal.τ).loc Cert.Mlp1Ideal.main_arg1)
      ∧ m' ((c.tc : Thread Cert.Mlp1RefIdeal.nD Cert.Mlp1RefIdeal.τ).loc Cert.Mlp1RefIdeal.main_arg2) = m ((c.tc : Thread Cert.Mlp1Ideal.nD Cert.Mlp1Ideal.τ).loc Cert.Mlp1Ideal.main_arg2)
      ∧ m' ((c.tc : Thread Cert.Mlp1RefIdeal.nD Cert.Mlp1RefIdeal.τ).loc Cert.Mlp1RefIdeal.main_arg3) = m ((c.tc : Thread Cert.Mlp1Ideal.nD Cert.Mlp1Ideal.τ).loc Cert.Mlp1Ideal.main_arg3)) →
    ∃ (v0 : (c : Dev Cert.Mlp1Ideal.nD) → Buf (Elt Ideal) ((c.tc : Thread Cert.Mlp1Ideal.nD Cert.Mlp1Ideal.τ).loc Cert.Mlp1Ideal.main_v2)),
      θ_run (Cert.Mlp1Ideal.defs (F := Ideal)) (onTc (τ := Cert.Mlp1Ideal.τ) (Cert.Mlp1Ideal.main (F := Ideal))) ⟨m, fun _ => 0, g⟩ (fun r => ∀ c : Dev Cert.Mlp1Ideal.nD,
          r.2.mem ((c.tc : Thread Cert.Mlp1Ideal.nD Cert.Mlp1Ideal.τ).loc Cert.Mlp1Ideal.main_v2) = v0 c
          ∧ r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
          ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1)
          ∧ r.2.mem ((c.tc : Thread Cert.Mlp1Ideal.nD Cert.Mlp1Ideal.τ).loc Cert.Mlp1Ideal.main_arg2) = m ((c.tc : Thread Cert.Mlp1Ideal.nD Cert.Mlp1Ideal.τ).loc Cert.Mlp1Ideal.main_arg2)
          ∧ r.2.mem ((c.tc : Thread Cert.Mlp1Ideal.nD Cert.Mlp1Ideal.τ).loc Cert.Mlp1Ideal.main_arg3) = m ((c.tc : Thread Cert.Mlp1Ideal.nD Cert.Mlp1Ideal.τ).loc Cert.Mlp1Ideal.main_arg3))
      ∧ θ_run (Cert.Mlp1RefIdeal.defs (F := Ideal)) (onTc (τ := Cert.Mlp1RefIdeal.τ) (Cert.Mlp1RefIdeal.main (F := Ideal))) ⟨m', fun _ => 0, g'⟩ (fun r => ∀ c : Dev Cert.Mlp1RefIdeal.nD,
          r.2.mem ((c.tc : Thread Cert.Mlp1RefIdeal.nD Cert.Mlp1RefIdeal.τ).loc Cert.Mlp1RefIdeal.main_v20) = v0 c
          ∧ r.2.mem ((c.tc : Thread Cert.Mlp1RefIdeal.nD Cert.Mlp1RefIdeal.τ).loc Cert.Mlp1RefIdeal.main_arg0) = m' ((c.tc : Thread Cert.Mlp1RefIdeal.nD Cert.Mlp1RefIdeal.τ).loc Cert.Mlp1RefIdeal.main_arg0)
          ∧ r.2.mem ((c.tc : Thread Cert.Mlp1RefIdeal.nD Cert.Mlp1RefIdeal.τ).loc Cert.Mlp1RefIdeal.main_arg1) = m' ((c.tc : Thread Cert.Mlp1RefIdeal.nD Cert.Mlp1RefIdeal.τ).loc Cert.Mlp1RefIdeal.main_arg1)
          ∧ r.2.mem ((c.tc : Thread Cert.Mlp1RefIdeal.nD Cert.Mlp1RefIdeal.τ).loc Cert.Mlp1RefIdeal.main_arg2) = m' ((c.tc : Thread Cert.Mlp1RefIdeal.nD Cert.Mlp1RefIdeal.τ).loc Cert.Mlp1RefIdeal.main_arg2)
          ∧ r.2.mem ((c.tc : Thread Cert.Mlp1RefIdeal.nD Cert.Mlp1RefIdeal.τ).loc Cert.Mlp1RefIdeal.main_arg3) = m' ((c.tc : Thread Cert.Mlp1RefIdeal.nD Cert.Mlp1RefIdeal.τ).loc Cert.Mlp1RefIdeal.main_arg3))

def preserves_Pe1_Pe1Ideal : Prop :=
  True

def algebraic_Pe1Ideal_Pe1RefIdeal [hPe1Ideal : Cert.Pe1Ideal.Facts] [hPe1RefIdeal : Cert.Pe1RefIdeal.Facts] : Prop :=
  ∀ (m : (ℓ : Loc Cert.Pe1Ideal.nD Cert.Pe1Ideal.τ Cert.Pe1Ideal.sig) → Buf (Elt Ideal) ℓ) (g : Dev Cert.Pe1Ideal.nD → PrngReg)
    (m' : (ℓ : Loc Cert.Pe1RefIdeal.nD Cert.Pe1RefIdeal.τ Cert.Pe1RefIdeal.sig) → Buf (Elt Ideal) ℓ) (g' : Dev Cert.Pe1RefIdeal.nD → PrngReg), Pre_Pe1Ideal m →
    (∀ c : Dev Cert.Pe1Ideal.nD,
      m' ((c.tc : Thread Cert.Pe1RefIdeal.nD Cert.Pe1RefIdeal.τ).loc Cert.Pe1RefIdeal.main_arg0) = m ((c.tc : Thread Cert.Pe1Ideal.nD Cert.Pe1Ideal.τ).loc Cert.Pe1Ideal.main_arg0)
      ∧ m' ((c.tc : Thread Cert.Pe1RefIdeal.nD Cert.Pe1RefIdeal.τ).loc Cert.Pe1RefIdeal.main_arg1) = m ((c.tc : Thread Cert.Pe1Ideal.nD Cert.Pe1Ideal.τ).loc Cert.Pe1Ideal.main_arg1)
      ∧ m' ((c.tc : Thread Cert.Pe1RefIdeal.nD Cert.Pe1RefIdeal.τ).loc Cert.Pe1RefIdeal.main_arg2) = m ((c.tc : Thread Cert.Pe1Ideal.nD Cert.Pe1Ideal.τ).loc Cert.Pe1Ideal.main_arg2)
      ∧ m' ((c.tc : Thread Cert.Pe1RefIdeal.nD Cert.Pe1RefIdeal.τ).loc Cert.Pe1RefIdeal.main_arg3) = m ((c.tc : Thread Cert.Pe1Ideal.nD Cert.Pe1Ideal.τ).loc Cert.Pe1Ideal.main_arg3)
      ∧ m' ((c.tc : Thread Cert.Pe1RefIdeal.nD Cert.Pe1RefIdeal.τ).loc Cert.Pe1RefIdeal.main_arg4) = m ((c.tc : Thread Cert.Pe1Ideal.nD Cert.Pe1Ideal.τ).loc Cert.Pe1Ideal.main_arg4)
      ∧ m' ((c.tc : Thread Cert.Pe1RefIdeal.nD Cert.Pe1RefIdeal.τ).loc Cert.Pe1RefIdeal.main_arg5) = m ((c.tc : Thread Cert.Pe1Ideal.nD Cert.Pe1Ideal.τ).loc Cert.Pe1Ideal.main_arg5)) →
    ∃ (v0 : (c : Dev Cert.Pe1Ideal.nD) → Buf (Elt Ideal) ((c.tc : Thread Cert.Pe1Ideal.nD Cert.Pe1Ideal.τ).loc Cert.Pe1Ideal.main_v2)),
      θ_run (Cert.Pe1Ideal.defs (F := Ideal)) (onTc (τ := Cert.Pe1Ideal.τ) (Cert.Pe1Ideal.main (F := Ideal))) ⟨m, fun _ => 0, g⟩ (fun r => ∀ c : Dev Cert.Pe1Ideal.nD,
          r.2.mem ((c.tc : Thread Cert.Pe1Ideal.nD Cert.Pe1Ideal.τ).loc Cert.Pe1Ideal.main_v2) = v0 c
          ∧ r.2.mem ((c.tc : Thread Cert.Pe1Ideal.nD Cert.Pe1Ideal.τ).loc Cert.Pe1Ideal.main_arg0) = m ((c.tc : Thread Cert.Pe1Ideal.nD Cert.Pe1Ideal.τ).loc Cert.Pe1Ideal.main_arg0)
          ∧ r.2.mem ((c.tc : Thread Cert.Pe1Ideal.nD Cert.Pe1Ideal.τ).loc Cert.Pe1Ideal.main_arg1) = m ((c.tc : Thread Cert.Pe1Ideal.nD Cert.Pe1Ideal.τ).loc Cert.Pe1Ideal.main_arg1)
          ∧ r.2.mem ((c.tc : Thread Cert.Pe1Ideal.nD Cert.Pe1Ideal.τ).loc Cert.Pe1Ideal.main_arg2) = m ((c.tc : Thread Cert.Pe1Ideal.nD Cert.Pe1Ideal.τ).loc Cert.Pe1Ideal.main_arg2)
          ∧ r.2.mem ((c.tc : Thread Cert.Pe1Ideal.nD Cert.Pe1Ideal.τ).loc Cert.Pe1Ideal.main_arg3) = m ((c.tc : Thread Cert.Pe1Ideal.nD Cert.Pe1Ideal.τ).loc Cert.Pe1Ideal.main_arg3)
          ∧ r.2.mem ((c.tc : Thread Cert.Pe1Ideal.nD Cert.Pe1Ideal.τ).loc Cert.Pe1Ideal.main_arg4) = m ((c.tc : Thread Cert.Pe1Ideal.nD Cert.Pe1Ideal.τ).loc Cert.Pe1Ideal.main_arg4)
          ∧ r.2.mem ((c.tc : Thread Cert.Pe1Ideal.nD Cert.Pe1Ideal.τ).loc Cert.Pe1Ideal.main_arg5) = m ((c.tc : Thread Cert.Pe1Ideal.nD Cert.Pe1Ideal.τ).loc Cert.Pe1Ideal.main_arg5))
      ∧ θ_run (Cert.Pe1RefIdeal.defs (F := Ideal)) (onTc (τ := Cert.Pe1RefIdeal.τ) (Cert.Pe1RefIdeal.main (F := Ideal))) ⟨m', fun _ => 0, g'⟩ (fun r => ∀ c : Dev Cert.Pe1RefIdeal.nD,
          r.2.mem ((c.tc : Thread Cert.Pe1RefIdeal.nD Cert.Pe1RefIdeal.τ).loc Cert.Pe1RefIdeal.main_v35) = v0 c
          ∧ r.2.mem ((c.tc : Thread Cert.Pe1RefIdeal.nD Cert.Pe1RefIdeal.τ).loc Cert.Pe1RefIdeal.main_arg0) = m' ((c.tc : Thread Cert.Pe1RefIdeal.nD Cert.Pe1RefIdeal.τ).loc Cert.Pe1RefIdeal.main_arg0)
          ∧ r.2.mem ((c.tc : Thread Cert.Pe1RefIdeal.nD Cert.Pe1RefIdeal.τ).loc Cert.Pe1RefIdeal.main_arg1) = m' ((c.tc : Thread Cert.Pe1RefIdeal.nD Cert.Pe1RefIdeal.τ).loc Cert.Pe1RefIdeal.main_arg1)
          ∧ r.2.mem ((c.tc : Thread Cert.Pe1RefIdeal.nD Cert.Pe1RefIdeal.τ).loc Cert.Pe1RefIdeal.main_arg2) = m' ((c.tc : Thread Cert.Pe1RefIdeal.nD Cert.Pe1RefIdeal.τ).loc Cert.Pe1RefIdeal.main_arg2)
          ∧ r.2.mem ((c.tc : Thread Cert.Pe1RefIdeal.nD Cert.Pe1RefIdeal.τ).loc Cert.Pe1RefIdeal.main_arg3) = m' ((c.tc : Thread Cert.Pe1RefIdeal.nD Cert.Pe1RefIdeal.τ).loc Cert.Pe1RefIdeal.main_arg3)
          ∧ r.2.mem ((c.tc : Thread Cert.Pe1RefIdeal.nD Cert.Pe1RefIdeal.τ).loc Cert.Pe1RefIdeal.main_arg4) = m' ((c.tc : Thread Cert.Pe1RefIdeal.nD Cert.Pe1RefIdeal.τ).loc Cert.Pe1RefIdeal.main_arg4)
          ∧ r.2.mem ((c.tc : Thread Cert.Pe1RefIdeal.nD Cert.Pe1RefIdeal.τ).loc Cert.Pe1RefIdeal.main_arg5) = m' ((c.tc : Thread Cert.Pe1RefIdeal.nD Cert.Pe1RefIdeal.τ).loc Cert.Pe1RefIdeal.main_arg5))

def preserves_ConvOut_ConvOutIdeal : Prop :=
  True

def algebraic_ConvOutIdeal_ConvOutRefIdeal [hConvOutIdeal : Cert.ConvOutIdeal.Facts] [hConvOutRefIdeal : Cert.ConvOutRefIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutRefIdeal.nD Cert.ConvOutRefIdeal.τ Cert.ConvOutRefIdeal.sig) → Buf (Elt Ideal) ℓ) (g' : Dev Cert.ConvOutRefIdeal.nD → PrngReg), Pre_ConvOutIdeal m →
    (∀ c : Dev Cert.ConvOutIdeal.nD,
      m' ((c.tc : Thread Cert.ConvOutRefIdeal.nD Cert.ConvOutRefIdeal.τ).loc Cert.ConvOutRefIdeal.main_arg0) = m ((c.tc : Thread Cert.ConvOutIdeal.nD Cert.ConvOutIdeal.τ).loc Cert.ConvOutIdeal.main_arg0)
      ∧ m' ((c.tc : Thread Cert.ConvOutRefIdeal.nD Cert.ConvOutRefIdeal.τ).loc Cert.ConvOutRefIdeal.main_arg1) = m ((c.tc : Thread Cert.ConvOutIdeal.nD Cert.ConvOutIdeal.τ).loc Cert.ConvOutIdeal.main_arg1)
      ∧ m' ((c.tc : Thread Cert.ConvOutRefIdeal.nD Cert.ConvOutRefIdeal.τ).loc Cert.ConvOutRefIdeal.main_arg2) = m ((c.tc : Thread Cert.ConvOutIdeal.nD Cert.ConvOutIdeal.τ).loc Cert.ConvOutIdeal.main_arg2)
      ∧ m' ((c.tc : Thread Cert.ConvOutRefIdeal.nD Cert.ConvOutRefIdeal.τ).loc Cert.ConvOutRefIdeal.main_arg3) = m ((c.tc : Thread Cert.ConvOutIdeal.nD Cert.ConvOutIdeal.τ).loc Cert.ConvOutIdeal.main_arg3)) →
    ∃ (v0 : (c : Dev Cert.ConvOutIdeal.nD) → Buf (Elt Ideal) ((c.tc : Thread Cert.ConvOutIdeal.nD Cert.ConvOutIdeal.τ).loc Cert.ConvOutIdeal.main_v1)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v1) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
          ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3))
      ∧ θ_run (Cert.ConvOutRefIdeal.defs (F := Ideal)) (onTc (τ := Cert.ConvOutRefIdeal.τ) (Cert.ConvOutRefIdeal.main (F := Ideal))) ⟨m', fun _ => 0, g'⟩ (fun r => ∀ c : Dev Cert.ConvOutRefIdeal.nD,
          r.2.mem ((c.tc : Thread Cert.ConvOutRefIdeal.nD Cert.ConvOutRefIdeal.τ).loc Cert.ConvOutRefIdeal.main_v4) = v0 c
          ∧ r.2.mem ((c.tc : Thread Cert.ConvOutRefIdeal.nD Cert.ConvOutRefIdeal.τ).loc Cert.ConvOutRefIdeal.main_arg0) = m' ((c.tc : Thread Cert.ConvOutRefIdeal.nD Cert.ConvOutRefIdeal.τ).loc Cert.ConvOutRefIdeal.main_arg0)
          ∧ r.2.mem ((c.tc : Thread Cert.ConvOutRefIdeal.nD Cert.ConvOutRefIdeal.τ).loc Cert.ConvOutRefIdeal.main_arg1) = m' ((c.tc : Thread Cert.ConvOutRefIdeal.nD Cert.ConvOutRefIdeal.τ).loc Cert.ConvOutRefIdeal.main_arg1)
          ∧ r.2.mem ((c.tc : Thread Cert.ConvOutRefIdeal.nD Cert.ConvOutRefIdeal.τ).loc Cert.ConvOutRefIdeal.main_arg2) = m' ((c.tc : Thread Cert.ConvOutRefIdeal.nD Cert.ConvOutRefIdeal.τ).loc Cert.ConvOutRefIdeal.main_arg2)
          ∧ r.2.mem ((c.tc : Thread Cert.ConvOutRefIdeal.nD Cert.ConvOutRefIdeal.τ).loc Cert.ConvOutRefIdeal.main_arg3) = m' ((c.tc : Thread Cert.ConvOutRefIdeal.nD Cert.ConvOutRefIdeal.τ).loc Cert.ConvOutRefIdeal.main_arg3))

def preserves_Attn_AttnIdeal : Prop :=
  True

def algebraic_AttnIdeal_AttnRefIdeal [hAttnIdeal : Cert.AttnIdeal.Facts] [hAttnRefIdeal : Cert.AttnRefIdeal.Facts] [hPre_attn_args : Cert.Pre_attn_args.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v35) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def Claim : Prop :=
  ∃ (hMlp0 : Cert.Mlp0.Facts) (hMlp0Ideal : Cert.Mlp0Ideal.Facts) (hMlp0RefIdeal : Cert.Mlp0RefIdeal.Facts) (hPe0 : Cert.Pe0.Facts) (hPe0Ideal : Cert.Pe0Ideal.Facts) (hPe0RefIdeal : Cert.Pe0RefIdeal.Facts) (hConvIn : Cert.ConvIn.Facts) (hConvInIdeal : Cert.ConvInIdeal.Facts) (hConvInRefIdeal : Cert.ConvInRefIdeal.Facts) (hDsaOut : Cert.DsaOut.Facts) (hDsaOutIdeal : Cert.DsaOutIdeal.Facts) (hDsaOutRefIdeal : Cert.DsaOutRefIdeal.Facts) (hMlp1 : Cert.Mlp1.Facts) (hMlp1Ideal : Cert.Mlp1Ideal.Facts) (hMlp1RefIdeal : Cert.Mlp1RefIdeal.Facts) (hPe1 : Cert.Pe1.Facts) (hPe1Ideal : Cert.Pe1Ideal.Facts) (hPe1RefIdeal : Cert.Pe1RefIdeal.Facts) (hConvOut : Cert.ConvOut.Facts) (hConvOutIdeal : Cert.ConvOutIdeal.Facts) (hConvOutRefIdeal : Cert.ConvOutRefIdeal.Facts) (hAttn : Cert.Attn.Facts) (hAttnIdeal : Cert.AttnIdeal.Facts) (hAttnRefIdeal : Cert.AttnRefIdeal.Facts) (hPre_attn_args : Cert.Pre_attn_args.Facts),
    quiescent_Mlp0 (hMlp0 := hMlp0)
    ∧ quiescent_Mlp0Ideal (hMlp0Ideal := hMlp0Ideal)
    ∧ quiescent_Mlp0RefIdeal (hMlp0RefIdeal := hMlp0RefIdeal)
    ∧ quiescent_Pe0 (hPe0 := hPe0)
    ∧ quiescent_Pe0Ideal (hPe0Ideal := hPe0Ideal)
    ∧ quiescent_Pe0RefIdeal (hPe0RefIdeal := hPe0RefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_DsaOut (hDsaOut := hDsaOut)
    ∧ quiescent_DsaOutIdeal (hDsaOutIdeal := hDsaOutIdeal)
    ∧ quiescent_DsaOutRefIdeal (hDsaOutRefIdeal := hDsaOutRefIdeal)
    ∧ quiescent_Mlp1 (hMlp1 := hMlp1)
    ∧ quiescent_Mlp1Ideal (hMlp1Ideal := hMlp1Ideal)
    ∧ quiescent_Mlp1RefIdeal (hMlp1RefIdeal := hMlp1RefIdeal)
    ∧ quiescent_Pe1 (hPe1 := hPe1)
    ∧ quiescent_Pe1Ideal (hPe1Ideal := hPe1Ideal)
    ∧ quiescent_Pe1RefIdeal (hPe1RefIdeal := hPe1RefIdeal)
    ∧ quiescent_ConvOut (hConvOut := hConvOut)
    ∧ quiescent_ConvOutIdeal (hConvOutIdeal := hConvOutIdeal)
    ∧ quiescent_ConvOutRefIdeal (hConvOutRefIdeal := hConvOutRefIdeal)
    ∧ quiescent_Attn (hAttn := hAttn) (hPre_attn_args := hPre_attn_args)
    ∧ quiescent_AttnIdeal (hAttnIdeal := hAttnIdeal) (hPre_attn_args := hPre_attn_args)
    ∧ quiescent_AttnRefIdeal (hAttnRefIdeal := hAttnRefIdeal) (hPre_attn_args := hPre_attn_args)
    ∧ preserves_Mlp0_Mlp0Ideal
    ∧ algebraic_Mlp0Ideal_Mlp0RefIdeal (hMlp0Ideal := hMlp0Ideal) (hMlp0RefIdeal := hMlp0RefIdeal)
    ∧ preserves_Pe0_Pe0Ideal
    ∧ algebraic_Pe0Ideal_Pe0RefIdeal (hPe0Ideal := hPe0Ideal) (hPe0RefIdeal := hPe0RefIdeal)
    ∧ preserves_ConvIn_ConvInIdeal
    ∧ algebraic_ConvInIdeal_ConvInRefIdeal (hConvInIdeal := hConvInIdeal) (hConvInRefIdeal := hConvInRefIdeal)
    ∧ preserves_DsaOut_DsaOutIdeal
    ∧ algebraic_DsaOutIdeal_DsaOutRefIdeal (hDsaOutIdeal := hDsaOutIdeal) (hDsaOutRefIdeal := hDsaOutRefIdeal)
    ∧ preserves_Mlp1_Mlp1Ideal
    ∧ algebraic_Mlp1Ideal_Mlp1RefIdeal (hMlp1Ideal := hMlp1Ideal) (hMlp1RefIdeal := hMlp1RefIdeal)
    ∧ preserves_Pe1_Pe1Ideal
    ∧ algebraic_Pe1Ideal_Pe1RefIdeal (hPe1Ideal := hPe1Ideal) (hPe1RefIdeal := hPe1RefIdeal)
    ∧ preserves_ConvOut_ConvOutIdeal
    ∧ algebraic_ConvOutIdeal_ConvOutRefIdeal (hConvOutIdeal := hConvOutIdeal) (hConvOutRefIdeal := hConvOutRefIdeal)
    ∧ preserves_Attn_AttnIdeal
    ∧ algebraic_AttnIdeal_AttnRefIdeal (hAttnIdeal := hAttnIdeal) (hAttnRefIdeal := hAttnRefIdeal) (hPre_attn_args := hPre_attn_args)
-- ==== Pre_attn_args.lean ====
abbrev S36 : Shape := ⟨1, ![36]⟩
abbrev S16x128x32768 : Shape := ⟨3, ![16, 128, 32768]⟩
abbrev S4x32768x128 : Shape := ⟨3, ![4, 32768, 128]⟩
abbrev S4x144x32768 : Shape := ⟨3, ![4, 144, 32768]⟩
abbrev S4x8x8192x1024 : Shape := ⟨4, ![4, 8, 8192, 1024]⟩
abbrev S_ : Shape := ⟨0, ![]⟩
abbrev S4x1x32768 : Shape := ⟨3, ![4, 1, 32768]⟩

class Facts : Prop where
  bitsLt_bf16_f32 : FTy.bits .bf16 < FTy.bits .f32
  bcast_S_S16x128x32768 : S_.BroadcastsInDim S16x128x32768 (![] : Fin 0 → Fin S16x128x32768.rank)
  bcast_S_S4x32768x128 : S_.BroadcastsInDim S4x32768x128 (![] : Fin 0 → Fin S4x32768x128.rank)
  bcast_S_S4x144x32768 : S_.BroadcastsInDim S4x144x32768 (![] : Fin 0 → Fin S4x144x32768.rank)
  bcast_S_S4x8x8192x1024 : S_.BroadcastsInDim S4x8x8192x1024 (![] : Fin 0 → Fin S4x8x8192x1024.rank)
  slices_S4x144x32768_S4x1x32768_0_128_0 : S4x144x32768.Slices ![0, 128, 0] S4x1x32768
  bcast_S_S4x1x32768 : S_.BroadcastsInDim S4x1x32768 (![] : Fin 0 → Fin S4x1x32768.rank)

variable [Facts]

noncomputable abbrev lit0 : Fin 36 → BitVec 32 := fun
  | 0 => 0#32 | 1 => 1#32 | 2 => 1#32 | 3 => 2#32 | 4 => 2#32 | 5 => 2#32 | 6 => 3#32 | 7 => 3#32
  | 8 => 3#32 | 9 => 3#32 | 10 => 4#32 | 11 => 4#32 | 12 => 4#32 | 13 => 4#32 | 14 => 4#32 | 15 => 5#32
  | 16 => 5#32 | 17 => 5#32 | 18 => 5#32 | 19 => 5#32 | 20 => 5#32 | 21 => 6#32 | 22 => 6#32 | 23 => 6#32
  | 24 => 6#32 | 25 => 6#32 | 26 => 6#32 | 27 => 6#32 | 28 => 7#32 | 29 => 7#32 | 30 => 7#32 | 31 => 7#32
  | 32 => 7#32 | 33 => 7#32 | 34 => 7#32 | 35 => 7#32
  | _ => 0#32

noncomputable abbrev lit1 : Fin 36 → BitVec 32 := fun
  | 0 => 0#32 | 1 => 0#32 | 2 => 1#32 | 3 => 0#32 | 4 => 1#32 | 5 => 2#32 | 6 => 0#32 | 7 => 1#32
  | 8 => 2#32 | 9 => 3#32 | 10 => 0#32 | 11 => 1#32 | 12 => 2#32 | 13 => 3#32 | 14 => 4#32 | 15 => 0#32
  | 16 => 1#32 | 17 => 2#32 | 18 => 3#32 | 19 => 4#32 | 20 => 5#32 | 21 => 0#32 | 22 => 1#32 | 23 => 2#32
  | 24 => 3#32 | 25 => 4#32 | 26 => 5#32 | 27 => 6#32 | 28 => 0#32 | 29 => 1#32 | 30 => 2#32 | 31 => 3#32
  | 32 => 4#32 | 33 => 5#32 | 34 => 6#32 | 35 => 7#32
  | _ => 0#32

def fn_part1 {F : FTy → Type} [FloatOps F] (main_arg4 : FVec F S4x144x32768 .bf16) (main_v0 : IVec S36 1) (main_v1 : IVec S36 1) (main_v5 : IVec S16x128x32768 1) (main_v9 : IVec S4x32768x128 1) (main_v13 : IVec S4x144x32768 1) (main_v17 : IVec S4x8x8192x1024 1) : IVec S36 1 × IVec S36 1 × IVec S16x128x32768 1 × IVec S4x32768x128 1 × IVec S4x144x32768 1 × IVec S4x8x8192x1024 1 × IVec S4x1x32768 1 :=
  let main_v18 : FVec F S4x1x32768 .bf16 := (extractStridedSlice S4x1x32768 ![0, 128, 0] · slices_S4x144x32768_S4x1x32768_0_128_0) main_arg4
  let main_cst_4 : FVec F S_ .bf16 := constant S_ .bf16 0x3F80#16
  let main_v19 : FVec F S4x1x32768 .bf16 := broadcastInDim S4x1x32768 ![] bcast_S_S4x1x32768 main_cst_4
  let main_v20 : IVec S4x1x32768 1 := cmpf .oeq main_v18 main_v19
  (main_v0, main_v1, main_v5, main_v9, main_v13, main_v17, main_v20)

def fn {F : FTy → Type} [FloatOps F] (main_arg0 : IVec S36 32) (main_arg1 : IVec S36 32) (main_arg2 : FVec F S16x128x32768 .bf16) (main_arg3 : FVec F S4x32768x128 .bf16) (main_arg4 : FVec F S4x144x32768 .bf16) (main_arg5 : FVec F S4x8x8192x1024 .bf16) : IVec S36 1 × IVec S36 1 × IVec S16x128x32768 1 × IVec S4x32768x128 1 × IVec S4x144x32768 1 × IVec S4x8x8192x1024 1 × IVec S4x1x32768 1 :=
  let main_c : IVec S36 32 := fun i => lit0 (S36.rowMajor i)
  let main_c_0 : IVec S36 32 := fun i => lit1 (S36.rowMajor i)
  let main_v0 : IVec S36 1 := cmpi .eq main_arg0 main_c
  let main_v1 : IVec S36 1 := cmpi .eq main_arg1 main_c_0
  let main_v2 : FVec F S16x128x32768 .f32 := (extf .f32 · bitsLt_bf16_f32) main_arg2
  let main_v3 : FVec F S16x128x32768 .f32 := Host.absf main_v2
  let main_cst : FVec F S_ .f32 := constant S_ .f32 0x7F800000#32
  let main_v4 : FVec F S16x128x32768 .f32 := broadcastInDim S16x128x32768 ![] bcast_S_S16x128x32768 main_cst
  let main_v5 : IVec S16x128x32768 1 := cmpf .olt main_v3 main_v4
  let main_v6 : FVec F S4x32768x128 .f32 := (extf .f32 · bitsLt_bf16_f32) main_arg3
  let main_v7 : FVec F S4x32768x128 .f32 := Host.absf main_v6
  let main_cst_1 : FVec F S_ .f32 := constant S_ .f32 0x7F800000#32
  let main_v8 : FVec F S4x32768x128 .f32 := broadcastInDim S4x32768x128 ![] bcast_S_S4x32768x128 main_cst_1
  let main_v9 : IVec S4x32768x128 1 := cmpf .olt main_v7 main_v8
  let main_v10 : FVec F S4x144x32768 .f32 := (extf .f32 · bitsLt_bf16_f32) main_arg4
  let main_v11 : FVec F S4x144x32768 .f32 := Host.absf main_v10
  let main_cst_2 : FVec F S_ .f32 := constant S_ .f32 0x7F800000#32
  let main_v12 : FVec F S4x144x32768 .f32 := broadcastInDim S4x144x32768 ![] bcast_S_S4x144x32768 main_cst_2
  let main_v13 : IVec S4x144x32768 1 := cmpf .olt main_v11 main_v12
  let main_v14 : FVec F S4x8x8192x1024 .f32 := (extf .f32 · bitsLt_bf16_f32) main_arg5
  let main_v15 : FVec F S4x8x8192x1024 .f32 := Host.absf main_v14
  let main_cst_3 : FVec F S_ .f32 := constant S_ .f32 0x7F800000#32
  let main_v16 : FVec F S4x8x8192x1024 .f32 := broadcastInDim S4x8x8192x1024 ![] bcast_S_S4x8x8192x1024 main_cst_3
  let main_v17 : IVec S4x8x8192x1024 1 := cmpf .olt main_v15 main_v16
  fn_part1 (F := F) main_arg4 main_v0 main_v1 main_v5 main_v9 main_v13 main_v17
-- ==== Mlp0.lean ====
abbrev S32768x2048 : Shape := ⟨2, ![32768, 2048]⟩
abbrev S1x2048 : Shape := ⟨2, ![1, 2048]⟩
abbrev S2x2048x8192 : Shape := ⟨3, ![2, 2048, 8192]⟩
abbrev S2x8192x2048 : Shape := ⟨3, ![2, 8192, 2048]⟩
abbrev S512x2048 : Shape := ⟨2, ![512, 2048]⟩
abbrev S1x2048x2048 : Shape := ⟨3, ![1, 2048, 2048]⟩
abbrev S512 : Shape := ⟨1, ![512]⟩
abbrev S512x1 : Shape := ⟨2, ![512, 1]⟩
abbrev S2048x2048 : Shape := ⟨2, ![2048, 2048]⟩

abbrev nBuf : Space → Nat
  | .hbm => 7
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2x2048x8192, .f32⟩
  | .hbm, ⟨3, _⟩ => ⟨S2x8192x2048, .f32⟩
  | .hbm, ⟨4, _⟩ => ⟨S2x2048x8192, .bf16⟩
  | .hbm, ⟨5, _⟩ => ⟨S2x8192x2048, .bf16⟩
  | .hbm, ⟨6, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S1x2048x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Mlp0RefIdeal.lean ====
abbrev S32768x2048 : Shape := ⟨2, ![32768, 2048]⟩
abbrev S1x2048 : Shape := ⟨2, ![1, 2048]⟩
abbrev S2x2048x8192 : Shape := ⟨3, ![2, 2048, 8192]⟩
abbrev S2x8192x2048 : Shape := ⟨3, ![2, 8192, 2048]⟩
abbrev S_ : Shape := ⟨0, ![]⟩
abbrev S32768 : Shape := ⟨1, ![32768]⟩
abbrev S32768x1 : Shape := ⟨2, ![32768, 1]⟩
abbrev S1x2048x8192 : Shape := ⟨3, ![1, 2048, 8192]⟩
abbrev S2048x8192 : Shape := ⟨2, ![2048, 8192]⟩
abbrev S32768x8192 : Shape := ⟨2, ![32768, 8192]⟩
abbrev S1x8192x2048 : Shape := ⟨3, ![1, 8192, 2048]⟩
abbrev S8192x2048 : Shape := ⟨2, ![8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2x2048x8192, .f32⟩
  | .hbm, ⟨3, _⟩ => ⟨S2x8192x2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S1x2048x8192, .f32⟩
  | .hbm, ⟨20, _⟩ => ⟨S2048x8192, .f32⟩
  | .hbm, ⟨21, _⟩ => ⟨S32768x8192, .f32⟩
  | .hbm, ⟨22, _⟩ => ⟨S_, .f32⟩
  | .hbm, ⟨23, _⟩ => ⟨S32768x8192, .f32⟩
  | .hbm, ⟨24, _⟩ => ⟨S32768x8192, .f32⟩
  | .hbm, ⟨25, _⟩ => ⟨S32768x8192, .f32⟩
  | .hbm, ⟨26, _⟩ => ⟨S1x8192x2048, .f32⟩
  | .hbm, ⟨27, _⟩ => ⟨S8192x2048, .f32⟩
  | .hbm, ⟨28, _⟩ => ⟨S32768x2048, .f32⟩
  | .hbm, ⟨29, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Pe0.lean ====
abbrev S32768x2048 : Shape := ⟨2, ![32768, 2048]⟩
abbrev S1x2048 : Shape := ⟨2, ![1, 2048]⟩
abbrev S2048x2048 : Shape := ⟨2, ![2048, 2048]⟩
abbrev S2x32768x256 : Shape := ⟨3, ![2, 32768, 256]⟩
abbrev S256x2048 : Shape := ⟨2, ![256, 2048]⟩
abbrev S512x2048 : Shape := ⟨2, ![512, 2048]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩
abbrev S2048x512 : Shape := ⟨2, ![2048, 512]⟩
abbrev S512x512 : Shape := ⟨2, ![512, 512]⟩
abbrev S256x512 : Shape := ⟨2, ![256, 512]⟩

abbrev nBuf : Space → Nat
  | .hbm => 8
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x2048, .f32⟩
  | .hbm, ⟨3, _⟩ => ⟨S2x32768x256, .f32⟩
  | .hbm, ⟨4, _⟩ => ⟨S256x2048, .f32⟩
  | .hbm, ⟨5, _⟩ => ⟨S2048x2048, .bf16⟩
  | .hbm, ⟨6, _⟩ => ⟨S256x2048, .bf16⟩
  | .hbm, ⟨7, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S1x512x256, .f32⟩
  | .local _ .vmem, ⟨5, _⟩ => ⟨S1x512x256, .f32⟩
  | .local _ .vmem, ⟨6, _⟩ => ⟨S256x2048, .bf16⟩
  | .local _ .vmem, ⟨7, _⟩ => ⟨S512x2048, .f32⟩
  | .local _ .vmem, ⟨8, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Pe0RefIdeal.lean ====
abbrev S32768x2048 : Shape := ⟨2, ![32768, 2048]⟩
abbrev S1x2048 : Shape := ⟨2, ![1, 2048]⟩
abbrev S2048x2048 : Shape := ⟨2, ![2048, 2048]⟩
abbrev S2x32768x256 : Shape := ⟨3, ![2, 32768, 256]⟩
abbrev S256x2048 : Shape := ⟨2, ![256, 2048]⟩
abbrev S_ : Shape := ⟨0, ![]⟩
abbrev S32768 : Shape := ⟨1, ![32768]⟩
abbrev S32768x1 : Shape := ⟨2, ![32768, 1]⟩
abbrev S1x32768x256 : Shape := ⟨3, ![1, 32768, 256]⟩
abbrev S32768x256 : Shape := ⟨2, ![32768, 256]⟩

abbrev nBuf : Space → Nat
  | .hbm => 34
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x2048, .f32⟩
  | .hbm, ⟨3, _⟩ => ⟨S2x32768x256, .f32⟩
  | .hbm, ⟨4, _⟩ => ⟨S256x2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S_, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768x2048, .f32⟩
  | .hbm, ⟨28, _⟩ => ⟨S32768x2048, .f32⟩
  | .hbm, ⟨29, _⟩ => ⟨S1x32768x256, .f32⟩
  | .hbm, ⟨30, _⟩ => ⟨S32768x256, .f32⟩
  | .hbm, ⟨31, _⟩ => ⟨S32768x2048, .f32⟩
  | .hbm, ⟨32, _⟩ => ⟨S32768x2048, .f32⟩
  | .hbm, ⟨33, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== ConvIn.lean ====
abbrev S32768x2048 : Shape := ⟨2, ![32768, 2048]⟩
abbrev S1x2048 : Shape := ⟨2, ![1, 2048]⟩
abbrev S2048x4096 : Shape := ⟨2, ![2048, 4096]⟩
abbrev S1x4096 : Shape := ⟨2, ![1, 4096]⟩
abbrev S1024x2048 : Shape := ⟨2, ![1024, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S1x512 : Shape := ⟨2, ![1, 512]⟩

abbrev nBuf : Space → Nat
  | .hbm => 6
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x4096, .f32⟩
  | .hbm, ⟨3, _⟩ => ⟨S1x4096, .f32⟩
  | .hbm, ⟨4, _⟩ => ⟨S2048x4096, .bf16⟩
  | .hbm, ⟨5, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x4096, .bf16⟩
  | .local _ .vmem, ⟨4, _⟩ => ⟨S1x4096, .f32⟩
  | .local _ .vmem, ⟨5, _⟩ => ⟨S1024x2048, .f32⟩
  | .local _ .vmem, ⟨6, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvInRefIdeal.lean ====
abbrev S32768x2048 : Shape := ⟨2, ![32768, 2048]⟩
abbrev S1x2048 : Shape := ⟨2, ![1, 2048]⟩
abbrev S2048x4096 : Shape := ⟨2, ![2048, 4096]⟩
abbrev S1x4096 : Shape := ⟨2, ![1, 4096]⟩
abbrev S_ : Shape := ⟨0, ![]⟩
abbrev S32768 : Shape := ⟨1, ![32768]⟩
abbrev S32768x1 : Shape := ⟨2, ![32768, 1]⟩
abbrev S32768x4096 : Shape := ⟨2, ![32768, 4096]⟩

abbrev nBuf : Space → Nat
  | .hbm => 33
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x4096, .f32⟩
  | .hbm, ⟨3, _⟩ => ⟨S1x4096, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x4096, .f32⟩
  | .hbm, ⟨20, _⟩ => ⟨S32768x4096, .f32⟩
  | .hbm, ⟨21, _⟩ => ⟨S32768x4096, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768x2048, .f32⟩
  | .hbm, ⟨31, _⟩ => ⟨S32768x2048, .f32⟩
  | .hbm, ⟨32, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== DsaOut.lean ====
abbrev S32768x2048 : Shape := ⟨2, ![32768, 2048]⟩
abbrev S2048x2048 : Shape := ⟨2, ![2048, 2048]⟩
abbrev S1024x2048 : Shape := ⟨2, ![1024, 2048]⟩
abbrev S1024x512 : Shape := ⟨2, ![1024, 512]⟩
abbrev S2048x512 : Shape := ⟨2, ![2048, 512]⟩

abbrev nBuf : Space → Nat
  | .hbm => 5
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x2048, .f32⟩
  | .hbm, ⟨3, _⟩ => ⟨S2048x2048, .bf16⟩
  | .hbm, ⟨4, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S2048x2048, .bf16⟩
  | .local _ .vmem, ⟨5, _⟩ => ⟨S1024x2048, .f32⟩
  | .local _ .vmem, ⟨6, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DsaOutRefIdeal.lean ====
abbrev S32768x2048 : Shape := ⟨2, ![32768, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x2048, .f32⟩
  | .hbm, ⟨3, _⟩ => ⟨S32768x2048, .f32⟩
  | .hbm, ⟨4, _⟩ => ⟨S32768x2048, .f32⟩
  | .hbm, ⟨5, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Mlp1.lean ====
abbrev S32768x2048 : Shape := ⟨2, ![32768, 2048]⟩
abbrev S1x2048 : Shape := ⟨2, ![1, 2048]⟩
abbrev S2x2048x8192 : Shape := ⟨3, ![2, 2048, 8192]⟩
abbrev S2x8192x2048 : Shape := ⟨3, ![2, 8192, 2048]⟩
abbrev S512x2048 : Shape := ⟨2, ![512, 2048]⟩
abbrev S1x2048x2048 : Shape := ⟨3, ![1, 2048, 2048]⟩
abbrev S512 : Shape := ⟨1, ![512]⟩
abbrev S512x1 : Shape := ⟨2, ![512, 1]⟩
abbrev S2048x2048 : Shape := ⟨2, ![2048, 2048]⟩

abbrev nBuf : Space → Nat
  | .hbm => 7
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2x2048x8192, .f32⟩
  | .hbm, ⟨3, _⟩ => ⟨S2x8192x2048, .f32⟩
  | .hbm, ⟨4, _⟩ => ⟨S2x2048x8192, .bf16⟩
  | .hbm, ⟨5, _⟩ => ⟨S2x8192x2048, .bf16⟩
  | .hbm, ⟨6, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .bf16⟩
  | .local _ .vmem, ⟨4, _⟩ => ⟨S1x2048x2048, .bf16⟩
  | .local _ .vmem, ⟨5, _⟩ => ⟨S1x2048x2048, .bf16⟩
  | .local _ .vmem, ⟨6, _⟩ => ⟨S1x2048x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Mlp1RefIdeal.lean ====
abbrev S32768x2048 : Shape := ⟨2, ![32768, 2048]⟩
abbrev S1x2048 : Shape := ⟨2, ![1, 2048]⟩
abbrev S2x2048x8192 : Shape := ⟨3, ![2, 2048, 8192]⟩
abbrev S2x8192x2048 : Shape := ⟨3, ![2, 8192, 2048]⟩
abbrev S_ : Shape := ⟨0, ![]⟩
abbrev S32768 : Shape := ⟨1, ![32768]⟩
abbrev S32768x1 : Shape := ⟨2, ![32768, 1]⟩
abbrev S1x2048x8192 : Shape := ⟨3, ![1, 2048, 8192]⟩
abbrev S2048x8192 : Shape := ⟨2, ![2048, 8192]⟩
abbrev S32768x8192 : Shape := ⟨2, ![32768, 8192]⟩
abbrev S1x8192x2048 : Shape := ⟨3, ![1, 8192, 2048]⟩
abbrev S8192x2048 : Shape := ⟨2, ![8192, 2048]⟩

abbrev nBuf : Space → Nat
  | .hbm => 30
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2x2048x8192, .f32⟩
  | .hbm, ⟨3, _⟩ => ⟨S2x8192x2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S1x2048x8192, .f32⟩
  | .hbm, ⟨20, _⟩ => ⟨S2048x8192, .f32⟩
  | .hbm, ⟨21, _⟩ => ⟨S32768x8192, .f32⟩
  | .hbm, ⟨22, _⟩ => ⟨S_, .f32⟩
  | .hbm, ⟨23, _⟩ => ⟨S32768x8192, .f32⟩
  | .hbm, ⟨24, _⟩ => ⟨S32768x8192, .f32⟩
  | .hbm, ⟨25, _⟩ => ⟨S32768x8192, .f32⟩
  | .hbm, ⟨26, _⟩ => ⟨S1x8192x2048, .f32⟩
  | .hbm, ⟨27, _⟩ => ⟨S8192x2048, .f32⟩
  | .hbm, ⟨28, _⟩ => ⟨S32768x2048, .f32⟩
  | .hbm, ⟨29, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Pe1.lean ====
abbrev S32768x2048 : Shape := ⟨2, ![32768, 2048]⟩
abbrev S1x2048 : Shape := ⟨2, ![1, 2048]⟩
abbrev S2048x2048 : Shape := ⟨2, ![2048, 2048]⟩
abbrev S2x32768x256 : Shape := ⟨3, ![2, 32768, 256]⟩
abbrev S256x2048 : Shape := ⟨2, ![256, 2048]⟩
abbrev S512x2048 : Shape := ⟨2, ![512, 2048]⟩
abbrev S1x512x256 : Shape := ⟨3, ![1, 512, 256]⟩
abbrev S512 : Shape := ⟨1, ![512]⟩
abbrev S512x1 : Shape := ⟨2, ![512, 1]⟩
abbrev S512x256 : Shape := ⟨2, ![512, 256]⟩
abbrev S2048x512 : Shape := ⟨2, ![2048, 512]⟩
abbrev S512x512 : Shape := ⟨2, ![512, 512]⟩
abbrev S256x512 : Shape := ⟨2, ![256, 512]⟩

abbrev nBuf : Space → Nat
  | .hbm => 9
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x2048, .f32⟩
  | .hbm, ⟨3, _⟩ => ⟨S2x32768x256, .f32⟩
  | .hbm, ⟨4, _⟩ => ⟨S256x2048, .f32⟩
  | .hbm, ⟨5, _⟩ => ⟨S1x2048, .f32⟩
  | .hbm, ⟨6, _⟩ => ⟨S2048x2048, .bf16⟩
  | .hbm, ⟨7, _⟩ => ⟨S256x2048, .bf16⟩
  | .hbm, ⟨8, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S1x512x256, .f32⟩
  | .local _ .vmem, ⟨5, _⟩ => ⟨S1x512x256, .f32⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Pe1RefIdeal.lean ====
abbrev S32768x2048 : Shape := ⟨2, ![32768, 2048]⟩
abbrev S1x2048 : Shape := ⟨2, ![1, 2048]⟩
abbrev S2048x2048 : Shape := ⟨2, ![2048, 2048]⟩
abbrev S2x32768x256 : Shape := ⟨3, ![2, 32768, 256]⟩
abbrev S256x2048 : Shape := ⟨2, ![256, 2048]⟩
abbrev S_ : Shape := ⟨0, ![]⟩
abbrev S32768 : Shape := ⟨1, ![32768]⟩
abbrev S32768x1 : Shape := ⟨2, ![32768, 1]⟩
abbrev S1x32768x256 : Shape := ⟨3, ![1, 32768, 256]⟩
abbrev S32768x256 : Shape := ⟨2, ![32768, 256]⟩

abbrev nBuf : Space → Nat
  | .hbm => 50
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x2048, .f32⟩
  | .hbm, ⟨3, _⟩ => ⟨S2x32768x256, .f32⟩
  | .hbm, ⟨4, _⟩ => ⟨S256x2048, .f32⟩
  | .hbm, ⟨5, _⟩ => ⟨S1x2048, .f32⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S_, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x2048, .f32⟩
  | .hbm, ⟨29, _⟩ => ⟨S32768x2048, .f32⟩
  | .hbm, ⟨30, _⟩ => ⟨S1x32768x256, .f32⟩
  | .hbm, ⟨31, _⟩ => ⟨S32768x256, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x2048, .f32⟩
  | .hbm, ⟨47, _⟩ => ⟨S32768x2048, .f32⟩
  | .hbm, ⟨48, _⟩ => ⟨S32768x2048, .f32⟩
  | .hbm, ⟨49, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== ConvOut.lean ====
abbrev S32768x2048 : Shape := ⟨2, ![32768, 2048]⟩
abbrev S2048x2048 : Shape := ⟨2, ![2048, 2048]⟩
abbrev S1x2048 : Shape := ⟨2, ![1, 2048]⟩
abbrev S1024x2048 : Shape := ⟨2, ![1024, 2048]⟩
abbrev S1024x512 : Shape := ⟨2, ![1024, 512]⟩
abbrev S2048x512 : Shape := ⟨2, ![2048, 512]⟩
abbrev S1x512 : Shape := ⟨2, ![1, 512]⟩

abbrev nBuf : Space → Nat
  | .hbm => 6
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x2048, .f32⟩
  | .hbm, ⟨3, _⟩ => ⟨S1x2048, .f32⟩
  | .hbm, ⟨4, _⟩ => ⟨S2048x2048, .bf16⟩
  | .hbm, ⟨5, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S2048x2048, .bf16⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvOutRefIdeal.lean ====
abbrev S32768x2048 : Shape := ⟨2, ![32768, 2048]⟩
abbrev S2048x2048 : Shape := ⟨2, ![2048, 2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .bf16⟩
  | .hbm, ⟨2, _⟩ => ⟨S2048x2048, .f32⟩
  | .hbm, ⟨3, _⟩ => ⟨S1x2048, .f32⟩
  | .hbm, ⟨4, _⟩ => ⟨S32768x2048, .f32⟩
  | .hbm, ⟨5, _⟩ => ⟨S32768x2048, .f32⟩
  | .hbm, ⟨6, _⟩ => ⟨S32768x2048, .f32⟩
  | .hbm, ⟨7, _⟩ => ⟨S32768x2048, .f32⟩
  | .hbm, ⟨8, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Attn.lean ====
abbrev S36 : Shape := ⟨1, ![36]⟩
abbrev S16x128x32768 : Shape := ⟨3, ![16, 128, 32768]⟩
abbrev S4x32768x128 : Shape := ⟨3, ![4, 32768, 128]⟩
abbrev S4x144x32768 : Shape := ⟨3, ![4, 144, 32768]⟩
abbrev S4x8x8192x1024 : Shape := ⟨4, ![4, 8, 8192, 1024]⟩
abbrev S32768x2048 : Shape := ⟨2, ![32768, 2048]⟩
abbrev S16x128x1024 : Shape := ⟨3, ![16, 128, 1024]⟩
abbrev S1 : Shape := ⟨1, ![1]⟩
abbrev S4x1024x128 : Shape := ⟨3, ![4, 1024, 128]⟩
abbrev S4x144x1024 : Shape := ⟨3, ![4, 144, 1024]⟩
abbrev S1x1x1024x1024 : Shape := ⟨4, ![1, 1, 1024, 1024]⟩
abbrev S1024x2048 : Shape := ⟨2, ![1024, 2048]⟩
abbrev S16x1x1024 : Shape := ⟨3, ![16, 1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024x128 : Shape := ⟨3, ![1, 1024, 128]⟩
abbrev S1024x128 : Shape := ⟨2, ![1024, 128]⟩
abbrev S1x128x1024 : Shape := ⟨3, ![1, 128, 1024]⟩
abbrev S128x1024 : Shape := ⟨2, ![128, 1024]⟩
abbrev S1024 : Shape := ⟨1, ![1024]⟩
abbrev S1x1024 : Shape := ⟨2, ![1, 1024]⟩
abbrev S1x144x1024 : Shape := ⟨3, ![1, 144, 1024]⟩
abbrev S144x1024 : Shape := ⟨2, ![144, 1024]⟩

abbrev nBuf : Space → Nat
  | .hbm => 5
  | .vmem => 18
  | .smem => 2
  | _ => 0

abbrev bufTy : (tb : Table) → Fin (tcTables nBuf tb) → BufTy
  | .hbm, ⟨0, _⟩ => ⟨S16x128x32768, .bf16⟩
  | .hbm, ⟨1, _⟩ => ⟨S4x32768x128, .bf16⟩
  | .hbm, ⟨2, _⟩ => ⟨S4x144x32768, .bf16⟩
  | .hbm, ⟨3, _⟩ => ⟨S4x8x8192x1024, .bf16⟩
  | .hbm, ⟨4, _⟩ => ⟨S32768x2048, .bf16⟩
  | .local _ .vmem, ⟨0, _⟩ => ⟨S16x128x1024, .bf16⟩
  | .local _ .vmem, ⟨1, _⟩ => ⟨S16x128x1024, .bf16⟩
  | .local _ .vmem, ⟨2, _⟩ => ⟨S4x1024x128, .bf16⟩
  | .local _ .vmem, ⟨3, _⟩ => ⟨S4x1024x128, .bf16⟩
  | .local _ .vmem, ⟨4, _⟩ => ⟨S4x144x1024, .bf16⟩
  | .local _ .vmem, ⟨5, _⟩ => ⟨S4x144x1024, .bf16⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1024x2048, .bf16⟩
  | .local _ .vmem, ⟨9, _⟩ => ⟨S1024x2048, .bf16⟩
  | .local _ .vmem, ⟨10, _⟩ => ⟨S16x1x1024, .f32⟩
  | .local _ .vmem, ⟨11, _⟩ => ⟨S16x1x1024, .f32⟩
  | .local _ .vmem, ⟨12, _⟩ => ⟨S16x128x1024, .f32⟩
  | .local _ .vmem, ⟨13, _⟩ => ⟨S1x1024x1024, .f32⟩
  | .local _ .vmem, ⟨14, _⟩ => ⟨S1x1024x1024, .f32⟩
  | .local _ .vmem, ⟨15, _⟩ => ⟨S1x1x1024, .f32⟩
  | .local _ .vmem, ⟨16, _⟩ => ⟨S1x1x1024, .f32⟩
  | .local _ .vmem, ⟨17, _⟩ => ⟨S1024x1024, .f32⟩
  | .local _ .smem, ⟨0, _⟩ => ⟨S36, .i32⟩
  | .local _ .smem, ⟨1, _⟩ => ⟨S36, .i32⟩
  | _, _ => ⟨S16x128x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 36], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
@[reducible] def k0_t1_loop : Scf.Loop 32 :=
  let c0_i32_31 : BitVec 32 := 0#32
  let c7_i32 : BitVec 32 := 7#32
  let v50 : BitVec 32 := Scalar.addi c0_i32_31 c7_i32
  let c1_i32_32 : BitVec 32 := 1#32
  ⟨c0_i32_31, v50, c1_i32_32⟩
def k0_off2 (k0_t1 : Fin k0_t1_loop.trips) (c1_i32_104 : BitVec 32) : Fin 3 → Nat :=
  let c2_i32 : BitVec 32 := 2#32
  let c0_i32_31 : BitVec 32 := 0#32
  let c1_i32_32 : BitVec 32 := 1#32
  let arg17 : BitVec 32 := Scf.iv c0_i32_31 c1_i32_32 k0_t1
  let v141 : BitVec 32 := Scalar.muli c2_i32 arg17
  let v142 : BitVec 32 := Scalar.addi v141 c1_i32_104
  let c1_i32_105 : BitVec 32 := 1#32
  let v143 : BitVec 32 := Scalar.muli v142 c1_i32_105
  let c0_i32_106 : BitVec 32 := 0#32
  let v144 : BitVec 32 := Scalar.addi v143 c0_i32_106
  let c0_i32_107 : BitVec 32 := 0#32
  let v146 : BitVec 1 := Scalar.cmpi .sgt v144 c0_i32_107
  let v147 : BitVec 32 := Scalar.extui v146
  let c0_i32_108 : BitVec 32 := 0#32
  let v148 : BitVec 1 := Scalar.cmpi .slt v144 c0_i32_108
  let v149 : BitVec 32 := Scalar.extui v148
  let v150 : BitVec 32 := Scalar.subi v147 v149
  let c4_i32 : BitVec 32 := 4#32
  let c0_i32_109 : BitVec 32 := 0#32
  let v151 : BitVec 1 := Scalar.cmpi .sgt c4_i32 c0_i32_109
  let v152 : BitVec 32 := Scalar.extui v151
  let c0_i32_110 : BitVec 32 := 0#32
  let v153 : BitVec 1 := Scalar.cmpi .slt c4_i32 c0_i32_110
  let v154 : BitVec 32 := Scalar.extui v153
  let v155 : BitVec 32 := Scalar.subi v152 v154
  let v156 : BitVec 1 := Scalar.cmpi .ne v150 v155
  let v157 : BitVec 32 := Scalar.remsi v144 c4_i32
  let c0_i32_111 : BitVec 32 := 0#32
  let v158 : BitVec 1 := Scalar.cmpi .ne v157 c0_i32_111
  let v159 : BitVec 1 := Scalar.andi v156 v158
  let v145 : BitVec 32 := Scalar.divsi v144 c4_i32
  let c1_i32_112 : BitVec 32 := 1#32
  let v160 : BitVec 32 := Scalar.subi v145 c1_i32_112
  let v161 : BitVec 32 := Scalar.select v159 v160 v145
  let v162 : Index := Scalar.indexCast v161
  let c0_113 : Index := 0#32
  let c0_114 : Index := 0#32
  ![v162.toNat, 0, 0]
def k0_off3 (k0_t1 : Fin k0_t1_loop.trips) (c1_i32_104 : BitVec 32) : Fin 3 → Nat :=
  let c2_i32 : BitVec 32 := 2#32
  let c0_i32_31 : BitVec 32 := 0#32
  let c1_i32_32 : BitVec 32 := 1#32
  let arg17 : BitVec 32 := Scf.iv c0_i32_31 c1_i32_32 k0_t1
  let v141 : BitVec 32 := Scalar.muli c2_i32 arg17
  let v142 : BitVec 32 := Scalar.addi v141 c1_i32_104
  let c1_i32_105 : BitVec 32 := 1#32
  let v143 : BitVec 32 := Scalar.muli v142 c1_i32_105
  let c0_i32_106 : BitVec 32 := 0#32
  let v144 : BitVec 32 := Scalar.addi v143 c0_i32_106
  let v165 : Index := Scalar.indexCast v144
  let c0_115 : Index := 0#32
  let c0_116 : Index := 0#32
  ![v165.toNat, 0, 0]
def k0_off4 (k0_t1 : Fin k0_t1_loop.trips) : Fin 3 → Nat :=
  let c2_i32 : BitVec 32 := 2#32
  let c0_i32_31 : BitVec 32 := 0#32
  let c1_i32_32 : BitVec 32 := 1#32
  let arg17 : BitVec 32 := Scf.iv c0_i32_31 c1_i32_32 k0_t1
  let v141 : BitVec 32 := Scalar.muli c2_i32 arg17
  let c1_i32_127 : BitVec 32 := 1#32
  let v179 : BitVec 32 := Scalar.muli v141 c1_i32_127
  let c0_i32_128 : BitVec 32 := 0#32
  let v180 : BitVec 32 := Scalar.addi v179 c0_i32_128
  let v181 : Index := Scalar.indexCast v180
  let c0_129 : Index := 0#32
  let c0_130 : Index := 0#32
  ![v181.toNat, 0, 0]
def k0_off5 (k0_t1 : Fin k0_t1_loop.trips) : Fin 3 → Nat :=
  let c2_i32 : BitVec 32 := 2#32
  let c0_i32_31 : BitVec 32 := 0#32
  let c1_i32_32 : BitVec 32 := 1#32
  let arg17 : BitVec 32 := Scf.iv c0_i32_31 c1_i32_32 k0_t1
  let v141 : BitVec 32 := Scalar.muli c2_i32 arg17
  let c1_i32_127 : BitVec 32 := 1#32
  let v179 : BitVec 32 := Scalar.muli v141 c1_i32_127
  let c0_i32_128 : BitVec 32 := 0#32
  let v180 : BitVec 32 := Scalar.addi v179 c0_i32_128
  let c0_i32_138 : BitVec 32 := 0#32
  let v196 : BitVec 1 := Scalar.cmpi .sgt v180 c0_i32_138
  let v197 : BitVec 32 := Scalar.extui v196
  let c0_i32_139 : BitVec 32 := 0#32
  let v198 : BitVec 1 := Scalar.cmpi .slt v180 c0_i32_139
  let v199 : BitVec 32 := Scalar.extui v198
  let v200 : BitVec 32 := Scalar.subi v197 v199
  let c4_i32_137 : BitVec 32 := 4#32
  let c0_i32_140 : BitVec 32 := 0#32
  let v201 : BitVec 1 := Scalar.cmpi .sgt c4_i32_137 c0_i32_140
  let v202 : BitVec 32 := Scalar.extui v201
  let c0_i32_141 : BitVec 32 := 0#32
  let v203 : BitVec 1 := Scalar.cmpi .slt c4_i32_137 c0_i32_141
  let v204 : BitVec 32 := Scalar.extui v203
  let v205 : BitVec 32 := Scalar.subi v202 v204
  let v206 : BitVec 1 := Scalar.cmpi .ne v200 v205
  let v207 : BitVec 32 := Scalar.remsi v180 c4_i32_137
  let c0_i32_142 : BitVec 32 := 0#32
  let v208 : BitVec 1 := Scalar.cmpi .ne v207 c0_i32_142
  let v209 : BitVec 1 := Scalar.andi v206 v208
  let v195 : BitVec 32 := Scalar.divsi v180 c4_i32_137
  let c1_i32_143 : BitVec 32 := 1#32
  let v210 : BitVec 32 := Scalar.subi v195 c1_i32_143
  let v211 : BitVec 32 := Scalar.select v209 v210 v195
  let v212 : Index := Scalar.indexCast v211
  let c0_144 : Index := 0#32
  let c0_145 : Index := 0#32
  ![v212.toNat, 0, 0]
def k0_off6 (k0_t1 : Fin k0_t1_loop.trips) : Fin 3 → Nat :=
  let c2_i32 : BitVec 32 := 2#32
  let c0_i32_31 : BitVec 32 := 0#32
  let c1_i32_32 : BitVec 32 := 1#32
  let arg17 : BitVec 32 := Scf.iv c0_i32_31 c1_i32_32 k0_t1
  let v141 : BitVec 32 := Scalar.muli c2_i32 arg17
  let c1_i32_127 : BitVec 32 := 1#32
  let v179 : BitVec 32 := Scalar.muli v141 c1_i32_127
  let c0_i32_128 : BitVec 32 := 0#32
  let v180 : BitVec 32 := Scalar.addi v179 c0_i32_128
  let v226 : Index := Scalar.indexCast v180
  let c0_151 : Index := 0#32
  let c0_152 : Index := 0#32
  ![v226.toNat, 0, 0]
def k0_off7 (k0_t1 : Fin k0_t1_loop.trips) : Fin 3 → Nat :=
  let c2_i32 : BitVec 32 := 2#32
  let c0_i32_31 : BitVec 32 := 0#32
  let c1_i32_32 : BitVec 32 := 1#32
  let arg17 : BitVec 32 := Scf.iv c0_i32_31 c1_i32_32 k0_t1
  let v141 : BitVec 32 := Scalar.muli c2_i32 arg17
  let c1_i32_181 : BitVec 32 := 1#32
  let v278 : BitVec 32 := Scalar.addi v141 c1_i32_181
  let c1_i32_182 : BitVec 32 := 1#32
  let v279 : BitVec 32 := Scalar.muli v278 c1_i32_182
  let c0_i32_183 : BitVec 32 := 0#32
  let v280 : BitVec 32 := Scalar.addi v279 c0_i32_183
  let v281 : Index := Scalar.indexCast v280
  let c0_184 : Index := 0#32
  let c0_185 : Index := 0#32
  ![v281.toNat, 0, 0]
def k0_off8 (k0_t1 : Fin k0_t1_loop.trips) : Fin 3 → Nat :=
  let c2_i32 : BitVec 32 := 2#32
  let c0_i32_31 : BitVec 32 := 0#32
  let c1_i32_32 : BitVec 32 := 1#32
  let arg17 : BitVec 32 := Scf.iv c0_i32_31 c1_i32_32 k0_t1
  let v141 : BitVec 32 := Scalar.muli c2_i32 arg17
  let c1_i32_181 : BitVec 32 := 1#32
  let v278 : BitVec 32 := Scalar.addi v141 c1_i32_181
  let c1_i32_182 : BitVec 32 := 1#32
  let v279 : BitVec 32 := Scalar.muli v278 c1_i32_182
  let c0_i32_183 : BitVec 32 := 0#32
  let v280 : BitVec 32 := Scalar.addi v279 c0_i32_183
  let c0_i32_193 : BitVec 32 := 0#32
  let v296 : BitVec 1 := Scalar.cmpi .sgt v280 c0_i32_193
  let v297 : BitVec 32 := Scalar.extui v296
  let c0_i32_194 : BitVec 32 := 0#32
  let v298 : BitVec 1 := Scalar.cmpi .slt v280 c0_i32_194
  let v299 : BitVec 32 := Scalar.extui v298
  let v300 : BitVec 32 := Scalar.subi v297 v299
  let c4_i32_192 : BitVec 32 := 4#32
  let c0_i32_195 : BitVec 32 := 0#32
  let v301 : BitVec 1 := Scalar.cmpi .sgt c4_i32_192 c0_i32_195
  let v302 : BitVec 32 := Scalar.extui v301
  let c0_i32_196 : BitVec 32 := 0#32
  let v303 : BitVec 1 := Scalar.cmpi .slt c4_i32_192 c0_i32_196
  let v304 : BitVec 32 := Scalar.extui v303
  let v305 : BitVec 32 := Scalar.subi v302 v304
  let v306 : BitVec 1 := Scalar.cmpi .ne v300 v305
  let v307 : BitVec 32 := Scalar.remsi v280 c4_i32_192
  let c0_i32_197 : BitVec 32 := 0#32
  let v308 : BitVec 1 := Scalar.cmpi .ne v307 c0_i32_197
  let v309 : BitVec 1 := Scalar.andi v306 v308
  let v295 : BitVec 32 := Scalar.divsi v280 c4_i32_192
  let c1_i32_198 : BitVec 32 := 1#32
  let v310 : BitVec 32 := Scalar.subi v295 c1_i32_198
  let v311 : BitVec 32 := Scalar.select v309 v310 v295
  let v312 : Index := Scalar.indexCast v311
  let c0_199 : Index := 0#32
  let c0_200 : Index := 0#32
  ![v312.toNat, 0, 0]
def k0_cond2 (v1 : BitVec 32) (v3 : BitVec 32) : BitVec 1 :=
  let c1024_i32 : BitVec 32 := 1024#32
  let v4 : BitVec 32 := Scalar.muli v1 c1024_i32
  let c1024_i32_0 : BitVec 32 := 1024#32
  let v5 : BitVec 32 := Scalar.addi v4 c1024_i32_0
  let c1024_i32_1 : BitVec 32 := 1024#32
  let v6 : BitVec 32 := Scalar.addi v5 c1024_i32_1
  let c1_i32 : BitVec 32 := 1#32
  let v7 : BitVec 32 := Scalar.subi v6 c1_i32
  let c0_i32 : BitVec 32 := 0#32
  let v9 : BitVec 1 := Scalar.cmpi .sgt v7 c0_i32
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c1024_i32_2 : BitVec 32 := 1024#32
  let c0_i32_4 : BitVec 32 := 0#32
  let v14 : BitVec 1 := Scalar.cmpi .sgt c1024_i32_2 c0_i32_4
  let v15 : BitVec 32 := Scalar.extui v14
  let c0_i32_5 : BitVec 32 := 0#32
  let v16 : BitVec 1 := Scalar.cmpi .slt c1024_i32_2 c0_i32_5
  let v17 : BitVec 32 := Scalar.extui v16
  let v18 : BitVec 32 := Scalar.subi v15 v17
  let v19 : BitVec 1 := Scalar.cmpi .ne v13 v18
  let v20 : BitVec 32 := Scalar.remsi v7 c1024_i32_2
  let c0_i32_6 : BitVec 32 := 0#32
  let v21 : BitVec 1 := Scalar.cmpi .ne v20 c0_i32_6
  let v22 : BitVec 1 := Scalar.andi v19 v21
  let v8 : BitVec 32 := Scalar.divsi v7 c1024_i32_2
  let c1_i32_7 : BitVec 32 := 1#32
  let v23 : BitVec 32 := Scalar.subi v8 c1_i32_7
  let v24 : BitVec 32 := Scalar.select v22 v23 v8
  let c1_i32_8 : BitVec 32 := 1#32
  let v25 : BitVec 32 := Scalar.subi v24 c1_i32_8
  let v138 : BitVec 1 := Scalar.cmpi .eq v3 v25
  let v139 : BitVec 32 := Scalar.extui v138
  let c0_i32_103 : BitVec 32 := 0#32
  let v140 : BitVec 1 := Scalar.cmpi .ne v139 c0_i32_103
  v140

def cc0_transform_0 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 0 (Rect.unit (s := S36) ![v1.toNat] S1.size (k0_off1_inb i)) numel1_S1
  let v3 : BitVec 32 := Scalar.addi v0 v2
  let c0_i32 : BitVec 32 := 0#32
  let c0_i32_0 : BitVec 32 := 0#32
  let c0_i32_1 : BitVec 32 := 0#32
  ![c0_i32.toNat, c0_i32_0.toNat, v3.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 1 (Rect.unit (s := S36) ![v1.toNat] S1.size (k0_off1_inb i)) numel1_S1
  let v3 : BitVec 32 := Scalar.addi v0 v2
  let c0_i32 : BitVec 32 := 0#32
  let c0_i32_0 : BitVec 32 := 0#32
  let c0_i32_1 : BitVec 32 := 0#32
  ![c0_i32.toNat, v3.toNat, c0_i32_0.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 1 (Rect.unit (s := S36) ![v1.toNat] S1.size (k0_off1_inb i)) numel1_S1
  let v3 : BitVec 32 := Scalar.addi v0 v2
  let c0_i32 : BitVec 32 := 0#32
  let c0_i32_0 : BitVec 32 := 0#32
  let c0_i32_1 : BitVec 32 := 0#32
  ![c0_i32.toNat, c0_i32_0.toNat, v3.toNat]

def cc0_transform_3 (k0_off1_inb : ∀ i : grid0.Coords, ∀ a, (k0_off1 i) a + S1.size a ≤ S36.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let v2 : Index := Scalar.indexCast arg1
  let v3 : BitVec 32 := pf.at 1 (Rect.unit (s := S36) ![v2.toNat] S1.size (k0_off1_inb i)) numel1_S1
  let c0_i32 : BitVec 32 := 0#32
  let c0_i32_0 : BitVec 32 := 0#32
  ![arg0.toNat, v1.toNat, v3.toNat, c0_i32.toNat]

def cc0_transform_4 (k0_off1_inb : ∀ i : grid0.Coords, ∀ a, (k0_off1 i) a + S1.size a ≤ S36.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : Index := Scalar.indexCast arg1
  let v2 : BitVec 32 := pf.at 0 (Rect.unit (s := S36) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S16x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x144x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnRefIdeal.lean ====
abbrev S36 : Shape := ⟨1, ![36]⟩
abbrev S16x128x32768 : Shape := ⟨3, ![16, 128, 32768]⟩
abbrev S4x32768x128 : Shape := ⟨3, ![4, 32768, 128]⟩
abbrev S4x144x32768 : Shape := ⟨3, ![4, 144, 32768]⟩
abbrev S4x8x8192x1024 : Shape := ⟨4, ![4, 8, 8192, 1024]⟩
abbrev S4x4x128x4x8x1024 : Shape := ⟨6, ![4, 4, 128, 4, 8, 1024]⟩
abbrev S4x4x8192x128 : Shape := ⟨4, ![4, 4, 8192, 128]⟩
abbrev S4x128x32768 : Shape := ⟨3, ![4, 128, 32768]⟩
abbrev S4x128x4x8192 : Shape := ⟨4, ![4, 128, 4, 8192]⟩
abbrev S8192x8x1024 : Shape := ⟨3, ![8192, 8, 1024]⟩
abbrev S_ : Shape := ⟨0, ![]⟩
abbrev S1x8192x8x1024 : Shape := ⟨4, ![1, 8192, 8, 1024]⟩
abbrev S4x8192x8x1024 : Shape := ⟨4, ![4, 8192, 8, 1024]⟩
abbrev S4x4x8192x4x8x1024 : Shape := ⟨6, ![4, 4, 8192, 4, 8, 1024]⟩
abbrev S1x4x8192x1x8x1024 : Shape := ⟨6, ![1, 4, 8192, 1, 8, 1024]⟩
abbrev S4x4x4x8x1024 : Shape := ⟨5, ![4, 4, 4, 8, 1024]⟩
abbrev S4x4x1x4x8x1024 : Shape := ⟨6, ![4, 4, 1, 4, 8, 1024]⟩
abbrev S4x8x1024x4x4x128 : Shape := ⟨6, ![4, 8, 1024, 4, 4, 128]⟩
abbrev S32768x2048 : Shape := ⟨2, ![32768, 2048]⟩

abbrev nBuf : Space → Nat
  | .hbm => 51
  | .vmem => 0
  | .smem => 0
  | _ => 0

abbrev bufTy : (tb : Table) → Fin (tcTables nBuf tb) → BufTy
  | .hbm, ⟨0, _⟩ => ⟨S36, .i32⟩
  | .hbm, ⟨1, _⟩ => ⟨S36, .i32⟩
  | .hbm, ⟨2, _⟩ => ⟨S16x128x32768, .bf16⟩
  | .hbm, ⟨3, _⟩ => ⟨S4x32768x128, .bf16⟩
  | .hbm, ⟨4, _⟩ => ⟨S4x144x32768, .bf16⟩
  | .hbm, ⟨5, _⟩ => ⟨S4x8x8192x1024, .bf16⟩
  | .hbm, ⟨6, _⟩ => ⟨S16x128x32768, .f32⟩
  | .hbm, ⟨7, _⟩ => ⟨S4x4x128x4x8x1024, .f32⟩
  | .hbm, ⟨8, _⟩ => ⟨S4x32768x128, .f32⟩
  | .hbm, ⟨9, _⟩ => ⟨S4x4x8192x128, .f32⟩
  | .hbm, ⟨10, _⟩ => ⟨S4x128x32768, .bf16⟩
  | .hbm, ⟨11, _⟩ => ⟨S4x128x32768, .f32⟩
  | .hbm, ⟨12, _⟩ => ⟨S4x128x4x8192, .f32⟩
  | .hbm, ⟨13, _⟩ => ⟨S8192x8x1024, .i32⟩
  | .hbm, ⟨14, _⟩ => ⟨S8192x8x1024, .i32⟩
  | .hbm, ⟨15, _⟩ => ⟨S_, .i32⟩
  | .hbm, ⟨16, _⟩ => ⟨S8192x8x1024, .i32⟩
  | .hbm, ⟨17, _⟩ => ⟨S8192x8x1024, .i32⟩
  | .hbm, ⟨18, _⟩ => ⟨S_, .i32⟩
  | .hbm, ⟨19, _⟩ => ⟨S8192x8x1024, .i32⟩
  | .hbm, ⟨20, _⟩ => ⟨S8192x8x1024, .i32⟩
  | .hbm, ⟨21, _⟩ => ⟨S8192x8x1024, .i1⟩
  | .hbm, ⟨22, _⟩ => ⟨S1x8192x8x1024, .i1⟩
  | .hbm, ⟨23, _⟩ => ⟨S4x8x8192x1024, .f32⟩
  | .hbm, ⟨24, _⟩ => ⟨S4x8192x8x1024, .f32⟩
  | .hbm, ⟨25, _⟩ => ⟨S_, .f32⟩
  | .hbm, ⟨26, _⟩ => ⟨S_, .f32⟩
  | .hbm, ⟨27, _⟩ => ⟨S4x8192x8x1024, .i1⟩
  | .hbm, ⟨28, _⟩ => ⟨S4x8192x8x1024, .f32⟩
  | .hbm, ⟨29, _⟩ => ⟨S4x8192x8x1024, .f32⟩
  | .hbm, ⟨30, _⟩ => ⟨S4x4x8192x4x8x1024, .f32⟩
  | .hbm, ⟨31, _⟩ => ⟨S1x4x8192x1x8x1024, .f32⟩
  | .hbm, ⟨32, _⟩ => ⟨S4x4x8192x4x8x1024, .f32⟩
  | .hbm, ⟨33, _⟩ => ⟨S4x4x8192x4x8x1024, .f32⟩
  | .hbm, ⟨34, _⟩ => ⟨S_, .f32⟩
  | .hbm, ⟨35, _⟩ => ⟨S4x4x8192x4x8x1024, .f32⟩
  | .hbm, ⟨36, _⟩ => ⟨S_, .f32⟩
  | .hbm, ⟨37, _⟩ => ⟨S4x4x4x8x1024, .f32⟩
  | .hbm, ⟨38, _⟩ => ⟨S4x4x1x4x8x1024, .f32⟩
  | .hbm, ⟨39, _⟩ => ⟨S4x4x8192x4x8x1024, .f32⟩
  | .hbm, ⟨40, _⟩ => ⟨S4x4x8192x4x8x1024, .f32⟩
  | .hbm, ⟨41, _⟩ => ⟨S4x4x8192x4x8x1024, .f32⟩
  | .hbm, ⟨42, _⟩ => ⟨S4x4x128x4x8x1024, .f32⟩
  | .hbm, ⟨43, _⟩ => ⟨S_, .f32⟩
  | .hbm, ⟨44, _⟩ => ⟨S4x4x4x8x1024, .f32⟩
  | .hbm, ⟨45, _⟩ => ⟨S4x4x1x4x8x1024, .f32⟩
  | .hbm, ⟨46, _⟩ => ⟨S4x4x128x4x8x1024, .f32⟩
  | .hbm, ⟨47, _⟩ => ⟨S4x4x128x4x8x1024, .f32⟩
  | .hbm, ⟨48, _⟩ => ⟨S4x8x1024x4x4x128, .f32⟩
  | .hbm, ⟨49, _⟩ => ⟨S32768x2048, .f32⟩
  | .hbm, ⟨50, _⟩ => ⟨S32768x2048, .bf16⟩
  | _, _ => ⟨S36, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Proof.Mlp0Leg.lean ====
/- The feed-forward block's value: the array the kernel leaves is `h + relu(rms(h) · w1)² · w2`, summed in one go,
   although the kernel adds the hidden units four tiles at a time into the block it keeps. -/
module

public import proofs.«01_k».proof.Proof.Gen.Mlp0Ideal.Value
public import Idealize.ShloMosaic.Lib.Pointwise
public import Idealize.ShloMosaic.Lib.StableHlo.Run

@[expose] public section

set_option maxRecDepth 16384

noncomputable section

namespace Cert.Mlp0Ideal.Leg

open Cert.Mlp0Ideal Cert.Mlp0Ideal.Gen Cert.Mlp0Ideal.Value Idealize.ShloMosaic Idealize.ShloMosaic.TcCoe Idealize.SL.Sem

/-! ## The mathematics, from the arguments -/

/-- The normalised row: `h · rsqrt(mean h² + ε) · g`. -/
def rms (H : Vec Ideal S32768x2048 .f32) (G : Vec Ideal S1x2048 .f32) (R : Fin 32768) (l : Fin 2048) : EReal :=
  H (ix2 R l) * Ideal.rsqrt (Ideal.div (∑ k, H (ix2 R k) * H (ix2 R k)) (Ideal.ofBits .f32 1157627904#32)
    + Ideal.ofBits .f32 897988541#32) * G (ix2 0 l)

/-- A hidden unit: the squared positive part of the normalised row times a column of the first weight. -/
def hid (H : Vec Ideal S32768x2048 .f32) (G : Vec Ideal S1x2048 .f32) (W1 : Vec Ideal S2x2048x8192 .f32)
    (R : Fin 32768) (f : Fin 8192) : EReal :=
  max (∑ k, rms H G R k * W1 (ix3 0 k f)) 0 * max (∑ k, rms H G R k * W1 (ix3 0 k f)) 0

/-- One hidden unit's contribution to an output element, at a natural number (zero past the last unit). -/
def part (H : Vec Ideal S32768x2048 .f32) (G : Vec Ideal S1x2048 .f32) (W1 : Vec Ideal S2x2048x8192 .f32)
    (W2 : Vec Ideal S2x8192x2048 .f32) (R : Fin 32768) (l : Fin 2048) (f : ℕ) : EReal :=
  if h : f < 8192 then hid H G W1 R ⟨f, h⟩ * W2 (ix3 0 ⟨f, h⟩ l) else 0

/-- The output element. -/
def res (H : Vec Ideal S32768x2048 .f32) (G : Vec Ideal S1x2048 .f32) (W1 : Vec Ideal S2x2048x8192 .f32)
    (W2 : Vec Ideal S2x8192x2048 .f32) (R : Fin 32768) (l : Fin 2048) : EReal :=
  H (ix2 R l) + ∑ f, hid H G W1 R f * W2 (ix3 0 f l)

/-- Four tiles of hidden units are all of them. -/
theorem tiles (H : Vec Ideal S32768x2048 .f32) (G : Vec Ideal S1x2048 .f32) (W1 : Vec Ideal S2x2048x8192 .f32)
    (W2 : Vec Ideal S2x8192x2048 .f32) (R : Fin 32768) (l : Fin 2048) :
    H (ix2 R l) + ∑ j ∈ Finset.range 4, ∑ f : Fin 2048, part H G W1 W2 R l (j * 2048 + f.val) = res H G W1 W2 R l := by
  unfold res
  have e := Fin.sum_univ_tiles 4 2048 (N := 8192) rfl fun f => hid H G W1 R f * W2 (ix3 0 f l)
  rw [Finset.sum_range, e]
  refine congrArg (H (ix2 R l) + ·) (Finset.sum_congr rfl fun j _ => Finset.sum_congr rfl fun f _ => ?_)
  have hj := j.isLt
  have hf := f.isLt
  unfold part
  rw [dif_pos (by omega)]

/-! ## The two payloads at an index -/

theorem pay1_apply (x : Vec Ideal S512x2048 .f32) (g : Vec Ideal S1x2048 .f32) (r : Fin 512) (l : Fin 2048) :
    k0_pay1 x g (ix2 r l) = x (ix2 r l) * Ideal.rsqrt (Ideal.div (∑ k, x (ix2 r k) * x (ix2 r k)) (Ideal.ofBits .f32 1157627904#32)
      + Ideal.ofBits .f32 897988541#32) * g (ix2 0 l) := by
  pointwise [k0_pay1]

theorem pay2_apply (u : Vec Ideal S512x2048 .bf16) (w : Vec Ideal S1x2048x2048 .bf16) (o : Vec Ideal S512x2048 .f32)
    (v : Vec Ideal S1x2048x2048 .bf16) (r : Fin 512) (l : Fin 2048) :
    k0_pay2 u w o v (ix2 r l) = o (ix2 r l) + ∑ f : Fin 2048, max (∑ k : Fin 2048, u (ix2 r k) * w (ix3 0 k f)) 0
      * max (∑ k : Fin 2048, u (ix2 r k) * w (ix3 0 k f)) 0 * v (ix3 0 f l) := by
  pointwise [k0_pay2]

/-! ## What one point leaves -/

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable {F : FTy → Type} [FloatOps F]
variable (c : Dev nD) (i : grid0.Coords) (arg2 : Memref sig .tc .vmem S512x2048 .f32) (harg2 : arg2.IsWhole) (arg3 : Memref sig .tc .vmem S1x2048 .f32) (harg3 : arg3.IsWhole)
  (arg4 : Memref sig .tc .vmem S1x2048x2048 .bf16) (harg4 : arg4.IsWhole) (arg5 : Memref sig .tc .vmem S1x2048x2048 .bf16) (harg5 : arg5.IsWhole)
  (arg6 : Memref sig .tc .vmem S512x2048 .f32) (harg6 : arg6.IsWhole) (arg7 : Memref sig .tc .vmem S512x2048 .bf16) (harg7 : arg7.IsWhole)
  (x0 : Vec F S512x2048 .f32) (x1 : Vec F S1x2048 .f32) (x2 : Vec F S1x2048x2048 .bf16) (x3 : Vec F S1x2048x2048 .bf16)
  (xo : Vec F S512x2048 .f32) (xs : Vec F S512x2048 .bf16)

/-- The first tile leaves the normalised rows in the scratch. -/
theorem sout_A (hc : cond0_0 i) :
    sout0_A_0 c i arg2 harg2 arg3 harg3 arg4 harg4 arg5 harg5 arg6 harg6 arg7 harg7 hc x0 x1 x2 x3 = k0_pay1 x0 x1 := by
  unfold sout0_A_0
  rw [View.read_writes_eq_canon _ _ _ (scover0_A_0 c i arg2 harg2 arg3 harg3 arg4 harg4 arg5 harg5 arg6 harg6 arg7 harg7 hc x0 x1 x2 x3)]
  unfold kernelRun0_A
  dsimp only
  sl_unfold_words
  rw [View.canon_unit_zero (S := S512x2048) hz2]
  simp only [View.readAt_eq_ld, harg2.read_unread, harg3.read_unread, View.ld_unit_zero (S := S512x2048) hz2, View.ld_unit_zero (S := S1x2048) hz2]

/-- The first tile starts the block at the residual and adds its part. -/
theorem out_A (hc : cond0_0 i) :
    out0_A_4 c i arg2 harg2 arg3 harg3 arg4 harg4 arg5 harg5 arg6 harg6 arg7 harg7 hc x0 x1 x2 x3 = k0_pay2 (k0_pay1 x0 x1) x2 x0 x3 := by
  unfold out0_A_4
  rw [View.read_writes_eq_canon _ _ _ (cover0_A_4 c i arg2 harg2 arg3 harg3 arg4 harg4 arg5 harg5 arg6 harg6 arg7 harg7 hc x0 x1 x2 x3)]
  unfold kernelRun0_A
  dsimp only
  sl_unfold_words
  rw [View.canon_cons_unit_zero (S := S512x2048) hz2]
  simp only [View.readCov_unit_zero (S := S512x2048) _ hz2, View.readAt_eq_ld, harg2.read_unread, harg3.read_unread, harg4.read_unread, harg5.read_unread,
    View.ld_unit_zero (S := S512x2048) hz2, View.ld_unit_zero (S := S1x2048) hz2, View.ld_unit_zero (S := S1x2048x2048) hz3]

/-- A later tile keeps the scratch. -/
theorem sout_B (hc : ¬cond0_0 i) :
    sout0_B_0 c i arg2 harg2 arg3 harg3 arg4 harg4 arg5 harg5 arg6 harg6 arg7 harg7 hc x0 x1 x2 x3 xo xs = xs := by
  rfl

/-- A later tile adds its part to the block. -/
theorem out_B (hc : ¬cond0_0 i) :
    out0_B_4 c i arg2 harg2 arg3 harg3 arg4 harg4 arg5 harg5 arg6 harg6 arg7 harg7 hc x0 x1 x2 x3 xo xs = k0_pay2 xs x2 xo x3 := by
  unfold out0_B_4
  rw [View.read_writes_eq_canon _ _ _ (cover0_B_4 c i arg2 harg2 arg3 harg3 arg4 harg4 arg5 harg5 arg6 harg6 arg7 harg7 hc x0 x1 x2 x3 xo xs)]
  unfold kernelRun0_B
  dsimp only
  sl_unfold_words
  rw [View.canon_unit_zero (S := S512x2048) hz2]
  simp only [View.readAt_eq_ld, harg2.read_unread, harg3.read_unread, harg4.read_unread, harg5.read_unread, harg6.read_unread, harg7.read_unread,
    View.ld_unit_zero (S := S512x2048) hz2, View.ld_unit_zero (S := S1x2048x2048) hz3]

end Cases

/-! ## The blocks the windows read -/

variable (m : (ℓ : Loc nD τ sig) → Buf (Elt Ideal) ℓ)

abbrev aH (c : Dev nD) : Vec Ideal S32768x2048 .f32 := m ((c : Thread nD τ).loc main_arg0)
abbrev aG (c : Dev nD) : Vec Ideal S1x2048 .f32 := m ((c : Thread nD τ).loc main_arg1)
abbrev aW1 (c : Dev nD) : Vec Ideal S2x2048x8192 .f32 := m ((c : Thread nD τ).loc main_arg2)
abbrev aW2 (c : Dev nD) : Vec Ideal S2x8192x2048 .f32 := m ((c : Thread nD τ).loc main_arg3)

theorem V_v0 (c : Dev nD) : V m c main_v0 = (truncf (F := Ideal) .bf16 (aW1 m c : FVec Ideal S2x2048x8192 .f32) bitsLt_bf16_f32 : FVec Ideal S2x2048x8192 .bf16) := by
  unfold V
  simp only [hostOps0, List.flatten_cons, List.flatten_nil, List.append_nil, List.cons_append, List.nil_append]
  after_results <;> rfl

theorem V_v1 (c : Dev nD) : V m c main_v1 = (truncf (F := Ideal) .bf16 (aW2 m c : FVec Ideal S2x8192x2048 .f32) bitsLt_bf16_f32 : FVec Ideal S2x8192x2048 .bf16) := by
  unfold V
  simp only [hostOps0, List.flatten_cons, List.flatten_nil, List.append_nil, List.cons_append, List.nil_append]
  after_results <;> rfl

/-- Each window's block number at a point. -/
theorem idx : ∀ t : Fin cfg0.N, win0_0.index t (0 : Fin 2) = t.val / 4 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val % 4
    ∧ win0_3.index t (0 : Fin 3) = 0 ∧ win0_3.index t (1 : Fin 3) = t.val % 4 ∧ win0_3.index t (2 : Fin 3) = 0 :=
  (by decide +kernel : ∀ t : Fin grid0.N, _)

theorem lt_N (t : Fin cfg0.N) : t.val < 256 := lt_of_lt_of_eq t.isLt N_0

theorem blk0 (c : Dev nD) (t : Fin cfg0.N) (r : Fin 512) (l : Fin 2048) (h : 512 * (t.val / 4) + r.val < 32768) :
    (iblk m c 0 t : Vec Ideal S512x2048 .f32) (ix2 r l) = aH m c (ix2 ⟨512 * (t.val / 4) + r.val, h⟩ l) := by
  obtain ⟨e0, e1, -⟩ := idx t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = 512 * (t.val / 4) + r.val; rw [e0]; omega
  | ⟨1, _⟩ => show win0_0.index t 1 * 2048 + 1 * l.val = l.val; rw [e1]; omega

theorem blk1 (c : Dev nD) (t : Fin cfg0.N) (l : Fin 2048) :
    (iblk m c 1 t : Vec Ideal S1x2048 .f32) (ix2 0 l) = aG m c (ix2 0 l) := by
  obtain ⟨-, -, e0, e1, -⟩ := idx t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = 0; rw [e0]
  | ⟨1, _⟩ => show win0_1.index t 1 * 2048 + 1 * l.val = l.val; rw [e1]; omega

theorem blk2 (c : Dev nD) (t : Fin cfg0.N) (k : Fin 2048) (f : Fin 2048) (h : t.val % 4 * 2048 + f.val < 8192) :
    (iblk m c 2 t : Vec Ideal S1x2048x2048 .bf16) (ix3 0 k f) = aW1 m c (ix3 0 k ⟨t.val % 4 * 2048 + f.val, h⟩) := by
  obtain ⟨-, -, -, -, e0, e1, e2, -⟩ := idx t
  unfold iblk
  rw [View.read_apply]
  show V m c main_v0 _ = _
  rw [V_v0]
  show aW1 m c _ = _
  refine congrArg (aW1 m c) (funext fun a => Fin.ext ?_)
  match a with
  | ⟨0, _⟩ => show win0_2.index t 0 * 1 + 1 * 0 = 0; rw [e0]
  | ⟨1, _⟩ => show win0_2.index t 1 * 2048 + 1 * k.val = k.val; rw [e1]; omega
  | ⟨2, _⟩ => show win0_2.index t 2 * 2048 + 1 * f.val = t.val % 4 * 2048 + f.val; rw [e2]; omega

theorem blk3 (c : Dev nD) (t : Fin cfg0.N) (f : Fin 2048) (l : Fin 2048) (h : t.val % 4 * 2048 + f.val < 8192) :
    (iblk m c 3 t : Vec Ideal S1x2048x2048 .bf16) (ix3 0 f l) = aW2 m c (ix3 0 ⟨t.val % 4 * 2048 + f.val, h⟩ l) := by
  obtain ⟨-, -, -, -, -, -, -, e0, e1, e2⟩ := idx t
  unfold iblk
  rw [View.read_apply]
  show V m c main_v1 _ = _
  rw [V_v1]
  show aW2 m c _ = _
  refine congrArg (aW2 m c) (funext fun a => Fin.ext ?_)
  match a with
  | ⟨0, _⟩ => show win0_3.index t 0 * 1 + 1 * 0 = 0; rw [e0]
  | ⟨1, _⟩ => show win0_3.index t 1 * 2048 + 1 * f.val = t.val % 4 * 2048 + f.val; rw [e1]; omega
  | ⟨2, _⟩ => show win0_3.index t 2 * 2048 + 1 * l.val = l.val; rw [e2]; omega

/-- The normalised rows of a point's block. -/
theorem pay1_blk (c : Dev nD) (t : Fin cfg0.N) (r : Fin 512) (l : Fin 2048) (h : 512 * (t.val / 4) + r.val < 32768) :
    k0_pay1 (F := Ideal) (iblk m c 0 t) (iblk m c 1 t) (ix2 r l) = rms (aH m c) (aG m c) ⟨512 * (t.val / 4) + r.val, h⟩ l := by
  refine (pay1_apply _ _ r l).trans ?_
  unfold rms
  rw [blk1]
  simp only [blk0 m c t r _ h]

/-- A tile's part of an output element, over any normalised rows and running block. -/
theorem pay2_blk (c : Dev nD) (t : Fin cfg0.N) (u : Vec Ideal S512x2048 .bf16) (o : Vec Ideal S512x2048 .f32) (r : Fin 512) (l : Fin 2048)
    (h : 512 * (t.val / 4) + r.val < 32768) (hu : ∀ k, u (ix2 r k) = rms (aH m c) (aG m c) ⟨512 * (t.val / 4) + r.val, h⟩ k) :
    k0_pay2 (F := Ideal) u (iblk m c 2 t) o (iblk m c 3 t) (ix2 r l)
      = o (ix2 r l) + ∑ f : Fin 2048, part (aH m c) (aG m c) (aW1 m c) (aW2 m c) ⟨512 * (t.val / 4) + r.val, h⟩ l (t.val % 4 * 2048 + f.val) := by
  refine (pay2_apply _ _ _ _ r l).trans ?_
  refine congrArg (o (ix2 r l) + ·) (Finset.sum_congr rfl fun f _ => ?_)
  have hf : t.val % 4 * 2048 + f.val < 8192 := by have := f.isLt; omega
  unfold part
  rw [dif_pos hf, blk3 m c t f l hf]
  unfold hid
  simp only [hu, fun k => blk2 m c t k f hf]

/-- WHAT EACH POINT LEAVES: the residual plus the hidden units of the tiles so far, and the normalised rows. -/
theorem outs (c : Dev nD) : ∀ (n : ℕ) (hn : n < cfg0.N) (r : Fin 512) (l : Fin 2048) (h : 512 * (n / 4) + r.val < 32768),
    (outsAt0 m c n hn).1 (ix2 r l) = aH m c (ix2 ⟨512 * (n / 4) + r.val, h⟩ l)
        + ∑ j ∈ Finset.range (n % 4 + 1), ∑ f : Fin 2048, part (aH m c) (aG m c) (aW1 m c) (aW2 m c) ⟨512 * (n / 4) + r.val, h⟩ l (j * 2048 + f.val)
      ∧ (outsAt0 m c n hn).2 (ix2 r l) = rms (aH m c) (aG m c) ⟨512 * (n / 4) + r.val, h⟩ l := by
  intro n
  induction n with
  | zero =>
    intro hn r l h
    rw [outsAt0_A m c ⟨0, hn⟩ rfl]
    dsimp only
    rw [out_A, sout_A]
    refine ⟨?_, pay1_blk m c ⟨0, hn⟩ r l h⟩
    rw [pay2_blk m c ⟨0, hn⟩ _ _ r l h (fun k => pay1_blk m c ⟨0, hn⟩ r k h), blk0 m c ⟨0, hn⟩ r l h]
    simp
  | succ n ih =>
    intro hn r l h
    by_cases h0 : (n + 1) % 4 = 0
    · rw [outsAt0_A m c ⟨n + 1, hn⟩ h0]
      dsimp only
      rw [out_A, sout_A]
      refine ⟨?_, pay1_blk m c ⟨n + 1, hn⟩ r l h⟩
      rw [pay2_blk m c ⟨n + 1, hn⟩ _ _ r l h (fun k => pay1_blk m c ⟨n + 1, hn⟩ r k h), blk0 m c ⟨n + 1, hn⟩ r l h]
      simp [h0]
    · have hd : (n + 1) / 4 = n / 4 := by omega
      have hm : (n + 1) % 4 = n % 4 + 1 := by omega
      have h' : 512 * (n / 4) + r.val < 32768 := by rw [← hd]; exact h
      have hR : (⟨512 * ((n + 1) / 4) + r.val, h⟩ : Fin 32768) = ⟨512 * (n / 4) + r.val, h'⟩ := Fin.ext (by show 512 * ((n + 1) / 4) + r.val = 512 * (n / 4) + r.val; rw [hd])
      rw [outsAt0_B m c ⟨n + 1, hn⟩ h0]
      dsimp only
      rw [out_B, sout_B]
      refine ⟨?_, ?_⟩
      · rw [pay2_blk m c ⟨n + 1, hn⟩ _ _ r l h (fun k => by rw [hR]; exact (ih _ r k h').2)]
        refine (congrArg (· + _) (ih _ r l h').1).trans ?_
        rw [Finset.sum_range_succ _ ((n + 1) % 4), ← add_assoc, hR]
        dsimp only
        rw [hm]
      · rw [hR]; exact (ih _ r l h').2

/-- THE RESULT ARRAY. -/
theorem G4_apply (c : Dev nD) (R : Fin 32768) (l : Fin 2048) :
    G4 m c (ix2 R l) = res (aH m c) (aG m c) (aW1 m c) (aW2 m c) R l := by
  have hR := R.isLt
  have hl := l.isLt
  have hN : cfg0.N = 256 := N_0
  have hp : pt4Of (ix2 R l) = 4 * (R.val / 512) + 3 := by
    show 4 * (1 * (R.val / 512 - 0) + 1 * (l.val / 2048 - 0)) + 3 = _
    omega
  have hlt : 4 * (R.val / 512) + 3 < cfg0.N := by omega
  unfold G4
  rw [dif_pos (by rw [hp]; exact hlt), ← outsAt0_sweep m c (pt4Of (ix2 R l)) (by rw [hp]; exact hlt)]
  have hloc : loc4Of (ix2 R l) = ix2 (⟨R.val % 512, by omega⟩ : Fin 512) l := by
    funext a
    refine Fin.ext ?_
    match a with
    | ⟨0, _⟩ => rfl
    | ⟨1, _⟩ => show l.val % 2048 = l.val; omega
  rw [hloc]
  have hcoe : ∀ (n : ℕ) (hn : n < cfg0.N) (hn' : 4 * (R.val / 512) + 3 < cfg0.N), n = 4 * (R.val / 512) + 3 → outsAt0 m c n hn = outsAt0 m c (4 * (R.val / 512) + 3) hn' := by
    intro n hn hn' e; subst e; rfl
  rw [hcoe _ _ hlt hp]
  have hh : 512 * ((4 * (R.val / 512) + 3) / 4) + R.val % 512 = R.val := by omega
  have hm : (4 * (R.val / 512) + 3) % 4 = 3 := by omega
  rw [(outs m c _ hlt ⟨R.val % 512, by omega⟩ l (by dsimp only; omega)).1]
  rw [show (⟨512 * ((4 * (R.val / 512) + 3) / 4) + R.val % 512, by omega⟩ : Fin 32768) = R from Fin.ext hh, hm]
  exact tiles ..

end Cert.Mlp0Ideal.Leg

end
-- ==== Proof.Mlp0Ref.lean ====
/- The feed-forward block's reference, read at an element. -/
module

public import proofs.«01_k».proof.Proof.Gen.Mlp0RefIdeal.Read
public import Idealize.ShloMosaic.Lib.Pointwise

@[expose] public section

set_option maxRecDepth 16384

noncomputable section

namespace Cert.Mlp0RefIdeal.Leg

open Cert.Mlp0RefIdeal Cert.Mlp0RefIdeal.Gen Cert.Mlp0RefIdeal.Read Idealize.ShloMosaic Idealize.ShloMosaic.TcCoe Idealize.SL.Sem

/-- The reference's result at an element. -/
theorem read (x0 : Vec Ideal S32768x2048 .f32) (x1 : Vec Ideal S1x2048 .f32) (x2 : Vec Ideal S2x2048x8192 .f32) (x3 : Vec Ideal S2x8192x2048 .f32) (R : Fin 32768) (l : Fin 2048) :
    val_main_v20 (F := Ideal) x0 x1 x2 x3 (ix2 R l) = x0 (ix2 R l) + ∑ f, max (∑ k, x0 (ix2 R k) * Ideal.rsqrt (Ideal.div (∑ j, x0 (ix2 R j) * x0 (ix2 R j)) (Ideal.ofBits .f32 1157627904#32) + Ideal.ofBits .f32 897988541#32) * x1 (ix2 0 k) * x2 (ix3 0 k f)) 0 * max (∑ k, x0 (ix2 R k) * Ideal.rsqrt (Ideal.div (∑ j, x0 (ix2 R j) * x0 (ix2 R j)) (Ideal.ofBits .f32 1157627904#32) + Ideal.ofBits .f32 897988541#32) * x1 (ix2 0 k) * x2 (ix3 0 k f)) 0 * x3 (ix3 0 f l) := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_call0_cst, val_main_call0_v0, val_main_v15, val_main_v16, val_main_v17, val_main_v18, val_main_v19, val_main_v20]

end Cert.Mlp0RefIdeal.Leg

end
-- ==== Proof.Mlp0Claims.lean ====
/- `Mlp0`: the frames of its three programs, and the equality of the kernel's result with the reference's. -/
module

public import proofs.«01_k».proof.Defs
public import proofs.«01_k».proof.Proof.Mlp0Leg
public import proofs.«01_k».proof.Proof.Mlp0Ref
public import proofs.«01_k».proof.Proof.Gen.Mlp0
public import proofs.«01_k».proof.Proof.Gen.Mlp0.Frame
public import proofs.«01_k».proof.Proof.Gen.Mlp0RefIdeal
public import proofs.«01_k».proof.Proof.Gen.Mlp0RefIdeal.Run
public import Idealize.ShloMosaic.Lib.QuiescentFlight

@[expose] public section

set_option maxRecDepth 16384

noncomputable section

namespace Cert.Proof.Mlp0

open Idealize.ShloMosaic Idealize.SL.Sem

theorem frame : Cert.quiescent_Mlp0 := fun m ρ _ => Cert.Mlp0.Gen.frame m ρ
theorem frame_ideal : Cert.quiescent_Mlp0Ideal := fun m ρ _ => Cert.Mlp0Ideal.Gen.frame m ρ
theorem frame_ref : Cert.quiescent_Mlp0RefIdeal := fun m ρ _ =>
  (θ_run Cert.Mlp0RefIdeal.defs _ _).mono (fun r h => ⟨fun c => (h c).2, sem_eq_zero_of_no_sems (by decide) r.2⟩)
    (Cert.Mlp0RefIdeal.Value.run (F := Ideal) m ρ)

theorem preserves : Cert.preserves_Mlp0_Mlp0Ideal := trivial

theorem algebraic : Cert.algebraic_Mlp0Ideal_Mlp0RefIdeal := by
  intro m ρ m' ρ' _ hagree
  refine ⟨fun c => Cert.Mlp0Ideal.Value.G4 m c, Cert.Mlp0Ideal.Value.run m ρ, ?_⟩
  refine (θ_run Cert.Mlp0RefIdeal.defs _ _).mono (fun _ h c => ?_) (Cert.Mlp0RefIdeal.Value.run m' ρ')
  refine ⟨(h c).1.trans ?_, (h c).2⟩
  refine (Cert.Mlp0RefIdeal.Read.val_main_v20_eq _ _ _ _).trans ?_
  obtain ⟨e0, e1, e2, e3⟩ := hagree c
  rw [e0, e1, e2, e3]
  funext i
  obtain ⟨R, l, rfl⟩ : ∃ (R : Fin 32768) (l : Fin 2048), i = ix2 R l := ⟨i 0, i 1, eq_ix2 i⟩
  exact (Cert.Mlp0RefIdeal.Leg.read _ _ _ _ R l).trans (Cert.Mlp0Ideal.Leg.G4_apply m c R l).symm

end Cert.Proof.Mlp0

end
-- ==== Proof.Cols.lean ====
/- A load of some columns of a matrix, read at an element; and a result stored in column slices, read at an element. -/
module

public import Idealize.ShloMosaic.Lib.Pipeline.ReadBack
public import Idealize.ShloMosaic.Lib.Pipeline.ValueKit
public import Idealize.ShloMosaic.Lib.Pointwise

@[expose] public section

noncomputable section

namespace Cert.Cols

open Idealize.ShloMosaic

variable {Val : EltTy → Type} {e : EltTy}

theorem hz2 : (![0, 0] : Fin 2 → Nat) = fun _ => 0 := funext fun a => by fin_cases a <;> rfl
theorem hz3 : (![0, 0, 0] : Fin 3 → Nat) = fun _ => 0 := funext fun a => by fin_cases a <;> rfl

theorem lt_of_inb {N M M' o : ℕ} (inb : ∀ a, (![0, o] : Fin 2 → ℕ) a + (![N, M'] : Fin 2 → ℕ) a ≤ (![N, M] : Fin 2 → ℕ) a) (l : Fin M') : o + l.val < M := by
  have h := inb 1
  have hl := l.isLt
  change o + M' ≤ M at h
  omega

/-- Columns `o …` of a matrix, at row `k` and column `l` of the slice. -/
theorem ld_cols {N M M' o : ℕ} (X : (⟨2, ![N, M]⟩ : Shape).Idx → Val e) (inb) (k : Fin N) (l : Fin M') :
    View.ld (Val := Val) (e' := e) X (Rect.unit (s := ⟨2, ![N, M]⟩) ![0, o] ![N, M'] inb) (ix2 k l) = X (ix2 k ⟨o + l.val, lt_of_inb inb l⟩) := by
  refine congrArg X (funext fun a => Fin.ext ?_)
  match a with
  | ⟨0, _⟩ => show 0 + 1 * k.val = k.val; omega
  | ⟨1, _⟩ => show o + 1 * l.val = o + l.val; omega

/-- The place of the slice's element in the matrix. -/
theorem emb_cols {N M M' o : ℕ} (inb) (k : Fin N) (l : Fin M') :
    (Rect.unit (s := ⟨2, ![N, M]⟩) ![0, o] ![N, M'] inb).emb (ix2 k l) = ix2 k ⟨o + l.val, lt_of_inb inb l⟩ := by
  refine funext fun a => Fin.ext ?_
  match a with
  | ⟨0, _⟩ => show 0 + 1 * k.val = k.val; omega
  | ⟨1, _⟩ => show o + 1 * l.val = o + l.val; omega

/-- A store of some columns holds a function's values there, when it does row by row and column by column. -/
theorem piece_cols {N M M' o : ℕ} (G : (⟨2, ![N, M]⟩ : Shape).Idx → Val e) (w : (⟨2, ![N, M']⟩ : Shape).Idx → Val e) (inb)
    (h : ∀ r l, w (ix2 r l) = G (ix2 r ⟨o + l.val, lt_of_inb inb l⟩)) (x : (⟨2, ![N, M']⟩ : Shape).Idx) :
    w x = G ((Rect.unit (s := ⟨2, ![N, M]⟩) ![0, o] ![N, M'] inb).emb x) := by
  obtain ⟨r, l, rfl⟩ : ∃ (r : Fin N) (l : Fin M'), x = ix2 r l := ⟨x 0, x 1, eq_ix2 x⟩
  exact (h r l).trans (congrArg G (emb_cols inb r l)).symm

/-- Stores that are all slices of one function `G`, and cover the buffer, leave `G`. -/
theorem canon_of_pieces [∀ e, Nonempty (Val e)] {S : Shape} (G : S.Idx → Val e) (L : List (View.Piece Val S e)) (h : View.PiecesOf G L)
    (hc : ∀ y, ∃ p ∈ L, y ∈ p.1.set) : View.canon L = G := by
  funext y
  have e := View.canon_append_of_piecesOf G [] L h y (hc y)
  rwa [List.append_nil] at e

theorem forall_ix2 {N M : ℕ} {P : (⟨2, ![N, M]⟩ : Shape).Idx → Prop} (h : ∀ r l, P (ix2 r l)) (x) : P x := by
  rw [eq_ix2 x]; exact h _ _

end Cert.Cols

end
-- ==== Proof.Pe0Leg.lean ====
/- The gated embedding: the array the kernel leaves is `h + (p · wp) · logistic(rms(h) · wg)`. -/
module

public import proofs.«01_k».proof.Proof.Cols
public import proofs.«01_k».proof.Proof.Gen.Pe0Ideal.Value
public import Idealize.ShloMosaic.Lib.Pointwise
public import Idealize.ShloMosaic.Lib.StableHlo.Run

@[expose] public section

set_option maxRecDepth 16384

noncomputable section

namespace Cert.Pe0Ideal.Leg

open Cert.Pe0Ideal Cert.Pe0Ideal.Gen Cert.Pe0Ideal.Value Cert.Cols Idealize.ShloMosaic Idealize.ShloMosaic.TcCoe Idealize.SL.Sem

/-- The normalised row: `h · rsqrt(mean h² + ε) · g`, over any number of rows. -/
def rms {N : ℕ} (H : (⟨2, ![N, 2048]⟩ : Shape).Idx → EReal) (G : Vec Ideal S1x2048 .f32) (R : Fin N) (l : Fin 2048) : EReal :=
  H (ix2 R l) * Ideal.rsqrt (Ideal.div (∑ k, H (ix2 R k) * H (ix2 R k)) (Ideal.ofBits .f32 1157627904#32)
    + Ideal.ofBits .f32 897988541#32) * G (ix2 0 l)

/-- The output element, from the arguments. -/
def res (H : Vec Ideal S32768x2048 .f32) (G : Vec Ideal S1x2048 .f32) (WG : Vec Ideal S2048x2048 .f32) (E : Vec Ideal S2x32768x256 .f32)
    (WP : Vec Ideal S256x2048 .f32) (R : Fin 32768) (l : Fin 2048) : EReal :=
  H (ix2 R l) + (∑ k, E (ix3 0 R k) * WP (ix2 k l)) * Ideal.logistic (∑ k, rms (N := 32768) H G R k * WG (ix2 k l))

/-- The same over one block of rows. -/
def blkAt (H : Vec Ideal S512x2048 .f32) (G : Vec Ideal S1x2048 .f32) (WG : Vec Ideal S2048x2048 .bf16) (E : Vec Ideal S1x512x256 .f32)
    (WP : Vec Ideal S256x2048 .bf16) (r : Fin 512) (l : Fin 2048) : EReal :=
  H (ix2 r l) + (∑ k, E (ix3 0 r k) * WP (ix2 k l)) * Ideal.logistic (∑ k, rms (N := 512) H G r k * WG (ix2 k l))

def blkRes (H : Vec Ideal S512x2048 .f32) (G : Vec Ideal S1x2048 .f32) (WG : Vec Ideal S2048x2048 .bf16) (E : Vec Ideal S1x512x256 .f32)
    (WP : Vec Ideal S256x2048 .bf16) : Vec Ideal S512x2048 .f32 :=
  fun y => blkAt H G WG E WP (y 0) (y 1)

/-- One slice of columns, from the row's blocks and the slices of the weights. -/
theorem pay6_apply (h : Vec Ideal S512x2048 .f32) (g : Vec Ideal S1x2048 .f32) (e : Vec Ideal S1x512x256 .f32) (wg : Vec Ideal S2048x512 .bf16)
    (wp : Vec Ideal S256x512 .bf16) (o : Vec Ideal S512x512 .f32) (r : Fin 512) (l : Fin 512) :
    k0_pay6 h g e wg wp o (ix2 r l) = o (ix2 r l) + (∑ k : Fin 256, e (ix3 0 r k) * wp (ix2 k l))
      * Ideal.logistic (∑ k : Fin 2048, rms (N := 512) h g r k * wg (ix2 k l)) := by
  unfold rms
  pointwise [k0_pay6, k0_pay5, k0_pay4]

theorem pay1_eq (h : Vec Ideal S512x2048 .f32) (g : Vec Ideal S1x2048 .f32) (e : Vec Ideal S1x512x256 .f32) (wg : Vec Ideal S2048x512 .bf16)
    (wp : Vec Ideal S256x512 .bf16) (o : Vec Ideal S512x512 .f32) : k0_pay1 (k0_pay5 e) (k0_pay7 h g wg) wp o = k0_pay6 h g e wg wp o := rfl
theorem pay2_eq (h : Vec Ideal S512x2048 .f32) (g : Vec Ideal S1x2048 .f32) (e : Vec Ideal S1x512x256 .f32) (wg : Vec Ideal S2048x512 .bf16)
    (wp : Vec Ideal S256x512 .bf16) (o : Vec Ideal S512x512 .f32) : k0_pay2 (k0_pay4 h g) (k0_pay5 e) wg wp o = k0_pay6 h g e wg wp o := rfl
theorem pay3_eq (h : Vec Ideal S512x2048 .f32) (g : Vec Ideal S1x2048 .f32) (e : Vec Ideal S1x512x256 .f32) (wg : Vec Ideal S2048x512 .bf16)
    (wp : Vec Ideal S256x512 .bf16) (o : Vec Ideal S512x512 .f32) : k0_pay3 (k0_pay4 h g) (k0_pay5 e) wg wp o = k0_pay6 h g e wg wp o := rfl

theorem out_eq (x0 : Vec Ideal S512x2048 .f32) (x1 : Vec Ideal S1x2048 .f32) (x2 : Vec Ideal S2048x2048 .bf16) (x3 : Vec Ideal S1x512x256 .f32) (x4 : Vec Ideal S256x2048 .bf16) :
    out0_5 x0 x1 x2 x3 x4 = blkRes x0 x1 x2 x3 x4 := by
  unfold_out out0_5
  simp only [View.ld_unit_zero (S := S512x2048) hz2, View.ld_unit_zero (S := S1x2048) hz2, View.ld_unit_zero (S := S1x512x256) hz3, pay1_eq, pay2_eq, pay3_eq]
  refine canon_of_pieces (Val := Elt Ideal) (e := .f32) (blkRes x0 x1 x2 x3 x4) _ ⟨?_, ?_, ?_, ?_, trivial⟩ (cover0_5 _ _ _ _)
  all_goals
    refine piece_cols _ _ (by decide) fun r l => (pay6_apply _ _ _ _ _ _ r l).trans ?_
    exact congrArg₂ (· + ·) (ld_cols x0 (by decide) r l) (congrArg₂ (· * ·)
      (Finset.sum_congr rfl fun k _ => congrArg (x3 (ix3 0 r k) * ·) (ld_cols x4 (by decide) k l))
      (congrArg Ideal.logistic (Finset.sum_congr rfl fun k _ => congrArg (rms (N := 512) x0 x1 r k * ·) (ld_cols x2 (by decide) k l))))

variable (m : (ℓ : Loc nD τ sig) → Buf (Elt Ideal) ℓ)

abbrev a0 (c : Dev nD) : Vec Ideal S32768x2048 .f32 := m ((c : Thread nD τ).loc main_arg0)
abbrev a1 (c : Dev nD) : Vec Ideal S1x2048 .f32 := m ((c : Thread nD τ).loc main_arg1)
abbrev a2 (c : Dev nD) : Vec Ideal S2048x2048 .f32 := m ((c : Thread nD τ).loc main_arg2)
abbrev a3 (c : Dev nD) : Vec Ideal S2x32768x256 .f32 := m ((c : Thread nD τ).loc main_arg3)
abbrev a4 (c : Dev nD) : Vec Ideal S256x2048 .f32 := m ((c : Thread nD τ).loc main_arg4)

theorem V_v0 (c : Dev nD) : V m c main_v0 = (truncf (F := Ideal) .bf16 (a2 m c : FVec Ideal S2048x2048 .f32) bitsLt_bf16_f32 : FVec Ideal S2048x2048 .bf16) := by
  unfold V
  simp only [hostOps0, List.flatten_cons, List.flatten_nil, List.append_nil, List.cons_append, List.nil_append]
  after_results <;> rfl

theorem V_v1 (c : Dev nD) : V m c main_v1 = (truncf (F := Ideal) .bf16 (a4 m c : FVec Ideal S256x2048 .f32) bitsLt_bf16_f32 : FVec Ideal S256x2048 .bf16) := by
  unfold V
  simp only [hostOps0, List.flatten_cons, List.flatten_nil, List.append_nil, List.cons_append, List.nil_append]
  after_results <;> rfl

theorem idx : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 3) = 0
    ∧ win0_3.index t (1 : Fin 3) = t.val
    ∧ win0_3.index t (2 : Fin 3) = 0
    ∧ win0_4.index t (0 : Fin 2) = 0
    ∧ win0_4.index t (1 : Fin 2) = 0
    ∧ win0_5.index t (0 : Fin 2) = t.val
    ∧ win0_5.index t (1 : Fin 2) = 0 :=
  (by decide +kernel : ∀ t : Fin grid0.N, _)

theorem flush : ∀ t : Fin cfg0.N, (cfg0.win 5).flush t = true :=
  (by decide +kernel : ∀ t : Fin grid0.N, _)

theorem lt_N (t : Fin cfg0.N) : t.val < 64 := lt_of_lt_of_eq t.isLt N_0

theorem blk0 (c : Dev nD) (t : Fin cfg0.N) (r : Fin 512) (l : Fin 2048) (h : 512 * t.val + r.val < 32768) :
    (iblk m c 0 t : Vec Ideal S512x2048 .f32) (ix2 r l) = a0 m c (ix2 ⟨512 * t.val + r.val, h⟩ l) := by
  have e := idx t
  unfold iblk
  rw [View.read_apply]
  show V m c main_arg0 _ = _
  rw [V_main_arg0]
  refine congrArg (a0 m c) (funext fun a => Fin.ext ?_)
  match a with
  | ⟨0, _⟩ => show win0_0.index t 0 * 512 + 1 * r.val = 512 * t.val + r.val; omega
  | ⟨1, _⟩ => show win0_0.index t 1 * 2048 + 1 * l.val = l.val; omega

theorem blk1 (c : Dev nD) (t : Fin cfg0.N) (l : Fin 2048) :
    (iblk m c 1 t : Vec Ideal S1x2048 .f32) (ix2 0 l) = a1 m c (ix2 0 l) := by
  have e := idx t
  unfold iblk
  rw [View.read_apply]
  show V m c main_arg1 _ = _
  rw [V_main_arg1]
  refine congrArg (a1 m c) (funext fun a => Fin.ext ?_)
  match a with
  | ⟨0, _⟩ => show win0_1.index t 0 * 1 + 1 * 0 = 0; omega
  | ⟨1, _⟩ => show win0_1.index t 1 * 2048 + 1 * l.val = l.val; omega

theorem blk2 (c : Dev nD) (t : Fin cfg0.N) (k : Fin 2048) (l : Fin 2048) :
    (iblk m c 2 t : Vec Ideal S2048x2048 .bf16) (ix2 k l) = a2 m c (ix2 k l) := by
  have e := idx t
  unfold iblk
  rw [View.read_apply]
  show V m c main_v0 _ = _
  rw [V_v0]
  refine congrArg (a2 m c) (funext fun a => Fin.ext ?_)
  match a with
  | ⟨0, _⟩ => show win0_2.index t 0 * 2048 + 1 * k.val = k.val; omega
  | ⟨1, _⟩ => show win0_2.index t 1 * 2048 + 1 * l.val = l.val; omega

theorem blk3 (c : Dev nD) (t : Fin cfg0.N) (r : Fin 512) (k : Fin 256) (h : 512 * t.val + r.val < 32768) :
    (iblk m c 3 t : Vec Ideal S1x512x256 .f32) (ix3 0 r k) = a3 m c (ix3 0 ⟨512 * t.val + r.val, h⟩ k) := by
  have e := idx t
  unfold iblk
  rw [View.read_apply]
  show V m c main_arg3 _ = _
  rw [V_main_arg3]
  refine congrArg (a3 m c) (funext fun a => Fin.ext ?_)
  match a with
  | ⟨0, _⟩ => show win0_3.index t 0 * 1 + 1 * 0 = 0; omega
  | ⟨1, _⟩ => show win0_3.index t 1 * 512 + 1 * r.val = 512 * t.val + r.val; omega
  | ⟨2, _⟩ => show win0_3.index t 2 * 256 + 1 * k.val = k.val; omega

theorem blk4 (c : Dev nD) (t : Fin cfg0.N) (k : Fin 256) (l : Fin 2048) :
    (iblk m c 4 t : Vec Ideal S256x2048 .bf16) (ix2 k l) = a4 m c (ix2 k l) := by
  have e := idx t
  unfold iblk
  rw [View.read_apply]
  show V m c main_v1 _ = _
  rw [V_v1]
  refine congrArg (a4 m c) (funext fun a => Fin.ext ?_)
  match a with
  | ⟨0, _⟩ => show win0_4.index t 0 * 256 + 1 * k.val = k.val; omega
  | ⟨1, _⟩ => show win0_4.index t 1 * 2048 + 1 * l.val = l.val; omega

/-- The result array, as a function of the index. -/
def G (c : Dev nD) : Vec Ideal S32768x2048 .f32 := fun i => res (a0 m c) (a1 m c) (a2 m c) (a3 m c) (a4 m c) (i 0) (i 1)

theorem flushed_eq (c : Dev nD) (t : Fin cfg0.N) : (dats m 0 c).flushed 5 t = ((cfg0.win 5).blk t).view.read (Elt Ideal) (G m c) := by
  rw [flushed5, out_eq]
  refine funext (forall_ix2 (N := 512) (M := 2048) fun r l => ?_)
  have e := idx t
  have ht := lt_N t
  have hr := r.isLt
  have hR : 512 * t.val + r.val < 32768 := by omega
  rw [View.read_apply]
  have hemb : ((cfg0.win 5).blk t).view.emb (ix2 r l) = (ix2 ⟨512 * t.val + r.val, hR⟩ l : S32768x2048.Idx) := by
    funext a
    refine Fin.ext ?_
    match a with
    | ⟨0, _⟩ => show win0_5.index t 0 * 512 + 1 * r.val = 512 * t.val + r.val; omega
    | ⟨1, _⟩ => show win0_5.index t 1 * 2048 + 1 * l.val = l.val; omega
  refine Eq.trans ?_ (congrArg (G m c) hemb).symm
  show blkAt (iblk m c 0 t) (iblk m c 1 t) (iblk m c 2 t) (iblk m c 3 t) (iblk m c 4 t) r l = res (a0 m c) (a1 m c) (a2 m c) (a3 m c) (a4 m c) ⟨512 * t.val + r.val, hR⟩ l
  unfold blkAt res rms
  simp only [blk0 m c t r _ hR, blk1 m c t, blk2 m c t, blk3 m c t r _ hR, blk4 m c t]

theorem final (c : Dev nD) : (dats m 0 c).arrAt 5 cfg0.N = G m c := by
  refine (dats m 0 c).arrAt_eq_of_cover 5 (G m c) (fun t _ => flushed_eq m c t) fun i => ?_
  change S32768x2048.Idx at i
  have h0 : (i 0).val < 32768 := (i 0).isLt
  have h1 : (i 1).val < 2048 := (i 1).isLt
  have hN : cfg0.N = 64 := N_0
  refine ⟨⟨(i 0).val / 512, by omega⟩, flush _, ?_⟩
  have e := idx ⟨(i 0).val / 512, by omega⟩
  mem_blk
  dsimp only at e
  omega

theorem run (ρ : Dev nD → PrngReg) : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Pe0Ideal.Leg

end
-- ==== Proof.Pe0Ref.lean ====
/- The gated embedding's reference, read at an element. -/
module

public import proofs.«01_k».proof.Proof.Gen.Pe0RefIdeal.Read
public import Idealize.ShloMosaic.Lib.Pointwise

@[expose] public section

set_option maxRecDepth 16384

noncomputable section

namespace Cert.Pe0RefIdeal.Leg

open Cert.Pe0RefIdeal Cert.Pe0RefIdeal.Gen Cert.Pe0RefIdeal.Read Idealize.ShloMosaic Idealize.ShloMosaic.TcCoe Idealize.SL.Sem

/-- The reference's result at an element. -/
theorem read (x0 : Vec Ideal S32768x2048 .f32) (x1 : Vec Ideal S1x2048 .f32) (x2 : Vec Ideal S2048x2048 .f32) (x3 : Vec Ideal S2x32768x256 .f32) (x4 : Vec Ideal S256x2048 .f32) (R : Fin 32768) (l : Fin 2048) :
    val_main_v23 (F := Ideal) x0 x1 x2 x3 x4 (ix2 R l) = x0 (ix2 R l) + (∑ k, x3 (ix3 0 R k) * x4 (ix2 k l)) * Ideal.logistic (∑ k, x0 (ix2 R k) * Ideal.rsqrt (Ideal.div (∑ j, x0 (ix2 R j) * x0 (ix2 R j)) (Ideal.ofBits .f32 1157627904#32) + Ideal.ofBits .f32 897988541#32) * x1 (ix2 0 k) * x2 (ix2 k l)) := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_cst_2, val_main_v15, val_main_v16, val_main_cst_3, val_main_v17, val_main_v18, val_main_v19, val_main_v20, val_main_v21, val_main_v22, val_main_v23]
  rfl

end Cert.Pe0RefIdeal.Leg

end
-- ==== Proof.Pe0Claims.lean ====
/- `Pe0`: the frames of its three programs, and the equality of the kernel's result with the reference's. -/
module

public import proofs.«01_k».proof.Defs
public import proofs.«01_k».proof.Proof.Pe0Leg
public import proofs.«01_k».proof.Proof.Pe0Ref
public import proofs.«01_k».proof.Proof.Gen.Pe0
public import proofs.«01_k».proof.Proof.Gen.Pe0.Frame
public import proofs.«01_k».proof.Proof.Gen.Pe0RefIdeal
public import proofs.«01_k».proof.Proof.Gen.Pe0RefIdeal.Run
public import Idealize.ShloMosaic.Lib.QuiescentFlight

@[expose] public section

set_option maxRecDepth 16384

noncomputable section

namespace Cert.Proof.Pe0

open Idealize.ShloMosaic Idealize.SL.Sem

theorem frame : Cert.quiescent_Pe0 := fun m ρ _ => Cert.Pe0.Gen.frame m ρ
theorem frame_ideal : Cert.quiescent_Pe0Ideal := fun m ρ _ => Cert.Pe0Ideal.Gen.frame m ρ
theorem frame_ref : Cert.quiescent_Pe0RefIdeal := fun m ρ _ =>
  (θ_run Cert.Pe0RefIdeal.defs _ _).mono (fun r h => ⟨fun c => (h c).2, sem_eq_zero_of_no_sems (by decide) r.2⟩)
    (Cert.Pe0RefIdeal.Value.run (F := Ideal) m ρ)

theorem preserves : Cert.preserves_Pe0_Pe0Ideal := trivial

theorem algebraic : Cert.algebraic_Pe0Ideal_Pe0RefIdeal := by
  intro m ρ m' ρ' _ hagree
  refine ⟨fun c => Cert.Pe0Ideal.Leg.G m c, Cert.Pe0Ideal.Leg.run m ρ, ?_⟩
  refine (θ_run Cert.Pe0RefIdeal.defs _ _).mono (fun _ h c => ?_) (Cert.Pe0RefIdeal.Value.run m' ρ')
  refine ⟨(h c).1.trans ?_, (h c).2⟩
  refine (Cert.Pe0RefIdeal.Read.val_main_v23_eq _ _ _ _ _).trans ?_
  obtain ⟨e0, e1, e2, e3, e4⟩ := hagree c
  rw [e0, e1, e2, e3, e4]
  funext i
  obtain ⟨R, l, rfl⟩ : ∃ (R : Fin 32768) (l : Fin 2048), i = ix2 R l := ⟨i 0, i 1, eq_ix2 i⟩
  exact (Cert.Pe0RefIdeal.Leg.read _ _ _ _ _ R l).trans rfl

end Cert.Proof.Pe0

end
-- ==== Proof.ConvInLeg.lean ====
/- The convolution module's first projection: the array the kernel leaves is `(u · wₗ + bₗ) · logistic(u · wᵣ + bᵣ)`, `u` the
   normalised rows and `ₗ`, `ᵣ` the halves of the columns. -/
module

public import proofs.«01_k».proof.Proof.Cols
public import proofs.«01_k».proof.Proof.Gen.ConvInIdeal.Value
public import Idealize.ShloMosaic.Lib.Pointwise
public import Idealize.ShloMosaic.Lib.StableHlo.Run

@[expose] public section

set_option maxRecDepth 16384

noncomputable section

namespace Cert.ConvInIdeal.Leg

open Cert.ConvInIdeal Cert.ConvInIdeal.Gen Cert.ConvInIdeal.Value Cert.Cols Idealize.ShloMosaic Idealize.ShloMosaic.TcCoe Idealize.SL.Sem

/-- The normalised row: `h · rsqrt(mean h² + ε) · g`, over any number of rows. -/
def rms {N : ℕ} (H : (⟨2, ![N, 2048]⟩ : Shape).Idx → EReal) (G : Vec Ideal S1x2048 .f32) (R : Fin N) (l : Fin 2048) : EReal :=
  H (ix2 R l) * Ideal.rsqrt (Ideal.div (∑ k, H (ix2 R k) * H (ix2 R k)) (Ideal.ofBits .f32 1157627904#32)
    + Ideal.ofBits .f32 897988541#32) * G (ix2 0 l)

/-- The left half's columns, and the right half's. -/
def lft (l : Fin 2048) : Fin 4096 := ⟨l.val, by have := l.isLt; omega⟩
def rgt (l : Fin 2048) : Fin 4096 := ⟨2048 + l.val, by have := l.isLt; omega⟩

/-- The output element, from the arguments (over any number of rows). -/
def elt {N : ℕ} (H : (⟨2, ![N, 2048]⟩ : Shape).Idx → EReal) (G : Vec Ideal S1x2048 .f32) (W : S2048x4096.Idx → EReal) (B : Vec Ideal S1x4096 .f32)
    (R : Fin N) (l : Fin 2048) : EReal :=
  (∑ k, rms H G R k * W (ix2 k (lft l)) + B (ix2 0 (lft l))) * Ideal.logistic (∑ k, rms H G R k * W (ix2 k (rgt l)) + B (ix2 0 (rgt l)))

def res (H : Vec Ideal S32768x2048 .f32) (G : Vec Ideal S1x2048 .f32) (W : Vec Ideal S2048x4096 .f32) (B : Vec Ideal S1x4096 .f32)
    (R : Fin 32768) (l : Fin 2048) : EReal := elt (N := 32768) H G W B R l

def blkAt (H : Vec Ideal S1024x2048 .f32) (G : Vec Ideal S1x2048 .f32) (W : Vec Ideal S2048x4096 .bf16) (B : Vec Ideal S1x4096 .f32)
    (r : Fin 1024) (l : Fin 2048) : EReal := elt (N := 1024) H G W B r l

def blkRes (H : Vec Ideal S1024x2048 .f32) (G : Vec Ideal S1x2048 .f32) (W : Vec Ideal S2048x4096 .bf16) (B : Vec Ideal S1x4096 .f32) : Vec Ideal S1024x2048 .f32 :=
  fun y => blkAt H G W B (y 0) (y 1)

/-- One slice of columns, from the row's blocks and the slices of the weight and the bias. -/
theorem pay3_apply (h : Vec Ideal S1024x2048 .f32) (g : Vec Ideal S1x2048 .f32) (wl : Vec Ideal S2048x512 .bf16) (bl : Vec Ideal S1x512 .f32)
    (wr : Vec Ideal S2048x512 .bf16) (br : Vec Ideal S1x512 .f32) (r : Fin 1024) (l : Fin 512) :
    k0_pay3 h g wl bl wr br (ix2 r l) = (∑ k : Fin 2048, rms (N := 1024) h g r k * wl (ix2 k l) + bl (ix2 0 l))
      * Ideal.logistic (∑ k : Fin 2048, rms (N := 1024) h g r k * wr (ix2 k l) + br (ix2 0 l)) := by
  unfold rms
  pointwise [k0_pay3, k0_pay2]

section
variable (h : Vec Ideal S1024x2048 .f32) (g : Vec Ideal S1x2048 .f32) (wl : Vec Ideal S2048x512 .bf16) (bl : Vec Ideal S1x512 .f32)
    (wr : Vec Ideal S2048x512 .bf16) (br : Vec Ideal S1x512 .f32)
theorem pay1_eq : k0_pay1 (k0_pay2 h g) (k0_pay7 (k0_pay2 h g) wl bl) wr br = k0_pay3 h g wl bl wr br := rfl
theorem pay5_eq : k0_pay5 (k0_pay2 h g) (k0_pay4 h g wl) bl wr br = k0_pay3 h g wl bl wr br := rfl
theorem pay6_eq : k0_pay6 (k0_pay2 h g) wl bl wr br = k0_pay3 h g wl bl wr br := rfl
end

theorem out_eq (x0 : Vec Ideal S1024x2048 .f32) (x1 : Vec Ideal S1x2048 .f32) (x2 : Vec Ideal S2048x4096 .bf16) (x3 : Vec Ideal S1x4096 .f32) :
    out0_4 x0 x1 x2 x3 = blkRes x0 x1 x2 x3 := by
  unfold_out out0_4
  simp only [View.ld_unit_zero (S := S1024x2048) hz2, View.ld_unit_zero (S := S1x2048) hz2, pay1_eq, pay5_eq, pay6_eq]
  refine canon_of_pieces (Val := Elt Ideal) (e := .f32) (blkRes x0 x1 x2 x3) _ ⟨?_, ?_, ?_, ?_, trivial⟩ (cover0_4 _ _ _ _)
  all_goals
    refine piece_cols _ _ (by decide) fun r l => (pay3_apply _ _ _ _ _ _ r l).trans ?_
    refine congrArg₂ (· * ·) (congrArg₂ (· + ·) (Finset.sum_congr rfl fun k _ => congrArg (rms (N := 1024) x0 x1 r k * ·)
        ((ld_cols x2 (by decide) k l).trans (congrArg (fun j => x2 (ix2 k j)) (Fin.ext ?_)))) ((ld_cols x3 (by decide) 0 l).trans (congrArg (fun j => x3 (ix2 0 j)) (Fin.ext ?_))))
      (congrArg Ideal.logistic (congrArg₂ (· + ·) (Finset.sum_congr rfl fun k _ => congrArg (rms (N := 1024) x0 x1 r k * ·)
        ((ld_cols x2 (by decide) k l).trans (congrArg (fun j => x2 (ix2 k j)) (Fin.ext ?_)))) ((ld_cols x3 (by decide) 0 l).trans (congrArg (fun j => x3 (ix2 0 j)) (Fin.ext ?_)))))
    all_goals
      simp only [lft, rgt, ix2_1]
      try omega

variable (m : (ℓ : Loc nD τ sig) → Buf (Elt Ideal) ℓ)

abbrev a0 (c : Dev nD) : Vec Ideal S32768x2048 .f32 := m ((c : Thread nD τ).loc main_arg0)
abbrev a1 (c : Dev nD) : Vec Ideal S1x2048 .f32 := m ((c : Thread nD τ).loc main_arg1)
abbrev a2 (c : Dev nD) : Vec Ideal S2048x4096 .f32 := m ((c : Thread nD τ).loc main_arg2)
abbrev a3 (c : Dev nD) : Vec Ideal S1x4096 .f32 := m ((c : Thread nD τ).loc main_arg3)

theorem V_v0 (c : Dev nD) : V m c main_v0 = (truncf (F := Ideal) .bf16 (a2 m c : FVec Ideal S2048x4096 .f32) bitsLt_bf16_f32 : FVec Ideal S2048x4096 .bf16) := by
  unfold V
  simp only [hostOps0, List.flatten_cons, List.flatten_nil, List.append_nil, List.cons_append, List.nil_append]
  after_results <;> rfl

theorem idx : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0 :=
  (by decide +kernel : ∀ t : Fin grid0.N, _)

theorem flush : ∀ t : Fin cfg0.N, (cfg0.win 4).flush t = true :=
  (by decide +kernel : ∀ t : Fin grid0.N, _)

theorem lt_N (t : Fin cfg0.N) : t.val < 32 := lt_of_lt_of_eq t.isLt N_0

theorem blk0 (c : Dev nD) (t : Fin cfg0.N) (r : Fin 1024) (l : Fin 2048) (h : 1024 * t.val + r.val < 32768) :
    (iblk m c 0 t : Vec Ideal S1024x2048 .f32) (ix2 r l) = a0 m c (ix2 ⟨1024 * t.val + r.val, h⟩ l) := by
  have e := idx t
  unfold iblk
  rw [View.read_apply]
  show V m c main_arg0 _ = _
  rw [V_main_arg0]
  refine congrArg (a0 m c) (funext fun a => Fin.ext ?_)
  match a with
  | ⟨0, _⟩ => show win0_0.index t 0 * 1024 + 1 * r.val = 1024 * t.val + r.val; omega
  | ⟨1, _⟩ => show win0_0.index t 1 * 2048 + 1 * l.val = l.val; omega

theorem blk1 (c : Dev nD) (t : Fin cfg0.N) (l : Fin 2048) :
    (iblk m c 1 t : Vec Ideal S1x2048 .f32) (ix2 0 l) = a1 m c (ix2 0 l) := by
  have e := idx t
  unfold iblk
  rw [View.read_apply]
  show V m c main_arg1 _ = _
  rw [V_main_arg1]
  refine congrArg (a1 m c) (funext fun a => Fin.ext ?_)
  match a with
  | ⟨0, _⟩ => show win0_1.index t 0 * 1 + 1 * 0 = 0; omega
  | ⟨1, _⟩ => show win0_1.index t 1 * 2048 + 1 * l.val = l.val; omega

theorem blk2 (c : Dev nD) (t : Fin cfg0.N) (k : Fin 2048) (l : Fin 4096) :
    (iblk m c 2 t : Vec Ideal S2048x4096 .bf16) (ix2 k l) = a2 m c (ix2 k l) := by
  have e := idx t
  unfold iblk
  rw [View.read_apply]
  show V m c main_v0 _ = _
  rw [V_v0]
  refine congrArg (a2 m c) (funext fun a => Fin.ext ?_)
  match a with
  | ⟨0, _⟩ => show win0_2.index t 0 * 2048 + 1 * k.val = k.val; omega
  | ⟨1, _⟩ => show win0_2.index t 1 * 4096 + 1 * l.val = l.val; omega

theorem blk3 (c : Dev nD) (t : Fin cfg0.N) (l : Fin 4096) :
    (iblk m c 3 t : Vec Ideal S1x4096 .f32) (ix2 0 l) = a3 m c (ix2 0 l) := by
  have e := idx t
  unfold iblk
  rw [View.read_apply]
  show V m c main_arg3 _ = _
  rw [V_main_arg3]
  refine congrArg (a3 m c) (funext fun a => Fin.ext ?_)
  match a with
  | ⟨0, _⟩ => show win0_3.index t 0 * 1 + 1 * 0 = 0; omega
  | ⟨1, _⟩ => show win0_3.index t 1 * 4096 + 1 * l.val = l.val; omega

/-- The result array, as a function of the index. -/
def G (c : Dev nD) : Vec Ideal S32768x2048 .f32 := fun i => res (a0 m c) (a1 m c) (a2 m c) (a3 m c) (i 0) (i 1)

theorem flushed_eq (c : Dev nD) (t : Fin cfg0.N) : (dats m 0 c).flushed 4 t = ((cfg0.win 4).blk t).view.read (Elt Ideal) (G m c) := by
  rw [flushed4, out_eq]
  refine funext (forall_ix2 (N := 1024) (M := 2048) fun r l => ?_)
  have e := idx t
  have ht := lt_N t
  have hr := r.isLt
  have hR : 1024 * t.val + r.val < 32768 := by omega
  rw [View.read_apply]
  have hemb : ((cfg0.win 4).blk t).view.emb (ix2 r l) = (ix2 ⟨1024 * t.val + r.val, hR⟩ l : S32768x2048.Idx) := by
    funext a
    refine Fin.ext ?_
    match a with
    | ⟨0, _⟩ => show win0_4.index t 0 * 1024 + 1 * r.val = 1024 * t.val + r.val; omega
    | ⟨1, _⟩ => show win0_4.index t 1 * 2048 + 1 * l.val = l.val; omega
  refine Eq.trans ?_ (congrArg (G m c) hemb).symm
  show blkAt (iblk m c 0 t) (iblk m c 1 t) (iblk m c 2 t) (iblk m c 3 t) r l = res (a0 m c) (a1 m c) (a2 m c) (a3 m c) ⟨1024 * t.val + r.val, hR⟩ l
  unfold blkAt res elt rms
  simp only [blk0 m c t r _ hR, blk1 m c t, blk2 m c t, blk3 m c t]

theorem final (c : Dev nD) : (dats m 0 c).arrAt 4 cfg0.N = G m c := by
  refine (dats m 0 c).arrAt_eq_of_cover 4 (G m c) (fun t _ => flushed_eq m c t) fun i => ?_
  change S32768x2048.Idx at i
  have h0 : (i 0).val < 32768 := (i 0).isLt
  have h1 : (i 1).val < 2048 := (i 1).isLt
  have hN : cfg0.N = 32 := N_0
  refine ⟨⟨(i 0).val / 1024, by omega⟩, flush _, ?_⟩
  have e := idx ⟨(i 0).val / 1024, by omega⟩
  mem_blk
  dsimp only at e
  omega

theorem run (ρ : Dev nD → PrngReg) : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.ConvInIdeal.Leg

end
-- ==== Proof.ConvInRef.lean ====
/- The convolution module's first projection: the reference, read at an element. -/
module

public import proofs.«01_k».proof.Proof.Gen.ConvInRefIdeal.Read
public import Idealize.ShloMosaic.Lib.Pointwise

@[expose] public section

set_option maxRecDepth 16384

noncomputable section

namespace Cert.ConvInRefIdeal.Leg

open Cert.ConvInRefIdeal Cert.ConvInRefIdeal.Gen Cert.ConvInRefIdeal.Read Idealize.ShloMosaic Idealize.ShloMosaic.TcCoe Idealize.SL.Sem

/-- The left half's columns, and the right half's. -/
def lft (l : Fin 2048) : Fin 4096 := ⟨l.val, by have := l.isLt; omega⟩
def rgt (l : Fin 2048) : Fin 4096 := ⟨2048 + l.val, by have := l.isLt; omega⟩

/-- The reference's result at an element. -/
theorem read (x0 : Vec Ideal S32768x2048 .f32) (x1 : Vec Ideal S1x2048 .f32) (x2 : Vec Ideal S2048x4096 .f32) (x3 : Vec Ideal S1x4096 .f32) (R : Fin 32768) (l : Fin 2048) :
    val_main_v23 (F := Ideal) x0 x1 x2 x3 (ix2 R l) = (∑ k, x0 (ix2 R k) * Ideal.rsqrt (Ideal.div (∑ j, x0 (ix2 R j) * x0 (ix2 R j)) (Ideal.ofBits .f32 1157627904#32) + Ideal.ofBits .f32 897988541#32) * x1 (ix2 0 k) * x2 (ix2 k (lft l)) + x3 (ix2 0 (lft l))) * Ideal.logistic (∑ k, x0 (ix2 R k) * Ideal.rsqrt (Ideal.div (∑ j, x0 (ix2 R j) * x0 (ix2 R j)) (Ideal.ofBits .f32 1157627904#32) + Ideal.ofBits .f32 897988541#32) * x1 (ix2 0 k) * x2 (ix2 k (rgt l)) + x3 (ix2 0 (rgt l))) := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_v15, val_main_v16, val_main_v17, val_main_v18, val_main_cst_2, val_main_v19, val_main_v20, val_main_cst_3, val_main_v21, val_main_v22, val_main_v23]
  rfl

end Cert.ConvInRefIdeal.Leg

end
-- ==== Proof.ConvInClaims.lean ====
/- `ConvIn`: the frames of its three programs, and the equality of the kernel's result with the reference's. -/
module

public import proofs.«01_k».proof.Defs
public import proofs.«01_k».proof.Proof.ConvInLeg
public import proofs.«01_k».proof.Proof.ConvInRef
public import proofs.«01_k».proof.Proof.Gen.ConvIn
public import proofs.«01_k».proof.Proof.Gen.ConvIn.Frame
public import proofs.«01_k».proof.Proof.Gen.ConvInRefIdeal
public import proofs.«01_k».proof.Proof.Gen.ConvInRefIdeal.Run
public import Idealize.ShloMosaic.Lib.QuiescentFlight

@[expose] public section

set_option maxRecDepth 16384

noncomputable section

namespace Cert.Proof.ConvIn

open Idealize.ShloMosaic Idealize.SL.Sem

theorem frame : Cert.quiescent_ConvIn := fun m ρ _ => Cert.ConvIn.Gen.frame m ρ
theorem frame_ideal : Cert.quiescent_ConvInIdeal := fun m ρ _ => Cert.ConvInIdeal.Gen.frame m ρ
theorem frame_ref : Cert.quiescent_ConvInRefIdeal := fun m ρ _ =>
  (θ_run Cert.ConvInRefIdeal.defs _ _).mono (fun r h => ⟨fun c => (h c).2, sem_eq_zero_of_no_sems (by decide) r.2⟩)
    (Cert.ConvInRefIdeal.Value.run (F := Ideal) m ρ)

theorem preserves : Cert.preserves_ConvIn_ConvInIdeal := trivial

theorem algebraic : Cert.algebraic_ConvInIdeal_ConvInRefIdeal := by
  intro m ρ m' ρ' _ hagree
  refine ⟨fun c => Cert.ConvInIdeal.Leg.G m c, Cert.ConvInIdeal.Leg.run m ρ, ?_⟩
  refine (θ_run Cert.ConvInRefIdeal.defs _ _).mono (fun _ h c => ?_) (Cert.ConvInRefIdeal.Value.run m' ρ')
  refine ⟨(h c).1.trans ?_, (h c).2⟩
  refine (Cert.ConvInRefIdeal.Read.val_main_v23_eq _ _ _ _).trans ?_
  obtain ⟨e0, e1, e2, e3⟩ := hagree c
  rw [e0, e1, e2, e3]
  funext i
  obtain ⟨R, l, rfl⟩ : ∃ (R : Fin 32768) (l : Fin 2048), i = ix2 R l := ⟨i 0, i 1, eq_ix2 i⟩
  exact (Cert.ConvInRefIdeal.Leg.read _ _ _ _ R l).trans rfl

end Cert.Proof.ConvIn

end
-- ==== Proof.DsaOutLeg.lean ====
/- The projection that leaves the attention: the array the kernel leaves is `h + x · w`. -/
module

public import proofs.«01_k».proof.Proof.Cols
public import proofs.«01_k».proof.Proof.Gen.DsaOutIdeal.Value
public import Idealize.ShloMosaic.Lib.Pointwise
public import Idealize.ShloMosaic.Lib.StableHlo.Run

@[expose] public section

set_option maxRecDepth 16384

noncomputable section

namespace Cert.DsaOutIdeal.Leg

open Cert.DsaOutIdeal Cert.DsaOutIdeal.Gen Cert.DsaOutIdeal.Value Cert.Cols Idealize.ShloMosaic Idealize.ShloMosaic.TcCoe Idealize.SL.Sem

/-- The output element, from the arguments. -/
def res (H : Vec Ideal S32768x2048 .f32) (X : Vec Ideal S32768x2048 .bf16) (W : Vec Ideal S2048x2048 .f32) (R : Fin 32768) (l : Fin 2048) : EReal :=
  H (ix2 R l) + ∑ k, X (ix2 R k) * W (ix2 k l)

/-- The same over one block of rows. -/
def blkAt (H : Vec Ideal S1024x2048 .f32) (X : Vec Ideal S1024x2048 .bf16) (W : Vec Ideal S2048x2048 .bf16) (r : Fin 1024) (l : Fin 2048) : EReal :=
  H (ix2 r l) + ∑ k, X (ix2 r k) * W (ix2 k l)

def blkRes (H : Vec Ideal S1024x2048 .f32) (X : Vec Ideal S1024x2048 .bf16) (W : Vec Ideal S2048x2048 .bf16) : Vec Ideal S1024x2048 .f32 :=
  fun y => blkAt H X W (y 0) (y 1)

theorem pay1_apply (x : Vec Ideal S1024x2048 .bf16) (h : Vec Ideal S1024x512 .f32) (w : Vec Ideal S2048x512 .bf16) (r : Fin 1024) (l : Fin 512) :
    k0_pay1 x h w (ix2 r l) = h (ix2 r l) + ∑ k : Fin 2048, x (ix2 r k) * w (ix2 k l) := by
  pointwise [k0_pay1]
theorem pay2_eq : k0_pay2 (F := Ideal) = k0_pay1 := rfl
theorem pay3_eq : k0_pay3 (F := Ideal) = k0_pay1 := rfl
theorem pay4_eq : k0_pay4 (F := Ideal) = k0_pay1 := rfl

theorem out_eq (x0 : Vec Ideal S1024x2048 .f32) (x1 : Vec Ideal S1024x2048 .bf16) (x2 : Vec Ideal S2048x2048 .bf16) :
    out0_3 x0 x1 x2 = blkRes x0 x1 x2 := by
  unfold out0_3
  simp only [pay2_eq, pay3_eq, pay4_eq, View.ld_unit_zero (S := S1024x2048) hz2]
  refine canon_of_pieces (Val := Elt Ideal) (e := .f32) (blkRes x0 x1 x2) _ ⟨?_, ?_, ?_, ?_, trivial⟩ (cover0_3 _ _ _ _)
  all_goals
    refine piece_cols _ _ (by decide) fun r l => (pay1_apply _ _ _ r l).trans ?_
    exact congrArg₂ (· + ·) (ld_cols x0 (by decide) r l) (Finset.sum_congr rfl fun k _ => congrArg (x1 (ix2 r k) * ·) (ld_cols x2 (by decide) k l))

variable (m : (ℓ : Loc nD τ sig) → Buf (Elt Ideal) ℓ)

abbrev a0 (c : Dev nD) : Vec Ideal S32768x2048 .f32 := m ((c : Thread nD τ).loc main_arg0)
abbrev a1 (c : Dev nD) : Vec Ideal S32768x2048 .bf16 := m ((c : Thread nD τ).loc main_arg1)
abbrev a2 (c : Dev nD) : Vec Ideal S2048x2048 .f32 := m ((c : Thread nD τ).loc main_arg2)

theorem V_v0 (c : Dev nD) : V m c main_v0 = (truncf (F := Ideal) .bf16 (a2 m c : FVec Ideal S2048x2048 .f32) bitsLt_bf16_f32 : FVec Ideal S2048x2048 .bf16) := by
  unfold V
  simp only [hostOps0, List.flatten_cons, List.flatten_nil, List.append_nil, List.cons_append, List.nil_append]
  after_results <;> rfl

theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ (cfg0.win 3).flush t = true :=
  (by decide +kernel : ∀ t : Fin grid0.N, _)

theorem lt_N (t : Fin cfg0.N) : t.val < 32 := lt_of_lt_of_eq t.isLt N_0

theorem blk0 (c : Dev nD) (t : Fin cfg0.N) (r : Fin 1024) (l : Fin 2048) (h : 1024 * t.val + r.val < 32768) :
    (iblk m c 0 t : Vec Ideal S1024x2048 .f32) (ix2 r l) = a0 m c (ix2 ⟨1024 * t.val + r.val, h⟩ l) := by
  have e := idx t
  unfold iblk
  rw [View.read_apply]
  show V m c main_arg0 _ = _
  rw [V_main_arg0]
  refine congrArg (a0 m c) (funext fun a => Fin.ext ?_)
  match a with
  | ⟨0, _⟩ => show win0_0.index t 0 * 1024 + 1 * r.val = 1024 * t.val + r.val; omega
  | ⟨1, _⟩ => show win0_0.index t 1 * 2048 + 1 * l.val = l.val; omega

theorem blk1 (c : Dev nD) (t : Fin cfg0.N) (r : Fin 1024) (l : Fin 2048) (h : 1024 * t.val + r.val < 32768) :
    (iblk m c 1 t : Vec Ideal S1024x2048 .bf16) (ix2 r l) = a1 m c (ix2 ⟨1024 * t.val + r.val, h⟩ l) := by
  have e := idx t
  unfold iblk
  rw [View.read_apply]
  show V m c main_arg1 _ = _
  rw [V_main_arg1]
  refine congrArg (a1 m c) (funext fun a => Fin.ext ?_)
  match a with
  | ⟨0, _⟩ => show win0_1.index t 0 * 1024 + 1 * r.val = 1024 * t.val + r.val; omega
  | ⟨1, _⟩ => show win0_1.index t 1 * 2048 + 1 * l.val = l.val; omega

theorem blk2 (c : Dev nD) (t : Fin cfg0.N) (k : Fin 2048) (l : Fin 2048) :
    (iblk m c 2 t : Vec Ideal S2048x2048 .bf16) (ix2 k l) = a2 m c (ix2 k l) := by
  have e := idx t
  unfold iblk
  rw [View.read_apply]
  show V m c main_v0 _ = _
  rw [V_v0]
  refine congrArg (a2 m c) (funext fun a => Fin.ext ?_)
  match a with
  | ⟨0, _⟩ => show win0_2.index t 0 * 2048 + 1 * k.val = k.val; omega
  | ⟨1, _⟩ => show win0_2.index t 1 * 2048 + 1 * l.val = l.val; omega

/-- The result array, as a function of the index. -/
def G (c : Dev nD) : Vec Ideal S32768x2048 .f32 := fun i => res (a0 m c) (a1 m c) (a2 m c) (i 0) (i 1)

theorem flushed_eq (c : Dev nD) (t : Fin cfg0.N) : (dats m 0 c).flushed 3 t = ((cfg0.win 3).blk t).view.read (Elt Ideal) (G m c) := by
  rw [flushed3, out_eq]
  refine funext (forall_ix2 (N := 1024) (M := 2048) fun r l => ?_)
  have e := idx t
  have ht := lt_N t
  have hr := r.isLt
  have hR : 1024 * t.val + r.val < 32768 := by omega
  rw [View.read_apply]
  have hemb : ((cfg0.win 3).blk t).view.emb (ix2 r l) = (ix2 ⟨1024 * t.val + r.val, hR⟩ l : S32768x2048.Idx) := by
    funext a
    refine Fin.ext ?_
    match a with
    | ⟨0, _⟩ => show win0_3.index t 0 * 1024 + 1 * r.val = 1024 * t.val + r.val; omega
    | ⟨1, _⟩ => show win0_3.index t 1 * 2048 + 1 * l.val = l.val; omega
  refine Eq.trans ?_ (congrArg (G m c) hemb).symm
  show blkAt (iblk m c 0 t) (iblk m c 1 t) (iblk m c 2 t) r l = res (a0 m c) (a1 m c) (a2 m c) ⟨1024 * t.val + r.val, hR⟩ l
  unfold blkAt res
  rw [blk0 m c t r l hR]
  simp only [blk1 m c t r _ hR, blk2 m c t]

theorem final (c : Dev nD) : (dats m 0 c).arrAt 3 cfg0.N = G m c := by
  refine (dats m 0 c).arrAt_eq_of_cover 3 (G m c) (fun t _ => flushed_eq m c t) fun i => ?_
  change S32768x2048.Idx at i
  have h0 : (i 0).val < 32768 := (i 0).isLt
  have h1 : (i 1).val < 2048 := (i 1).isLt
  have hN : cfg0.N = 32 := N_0
  refine ⟨⟨(i 0).val / 1024, by omega⟩, (idx _).2.2.2.2.2.2.2.2, ?_⟩
  have e := idx ⟨(i 0).val / 1024, by omega⟩
  mem_blk
  dsimp only at e
  omega

theorem run (ρ : Dev nD → PrngReg) : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.DsaOutIdeal.Leg

end
-- ==== Proof.DsaOutRef.lean ====
/- The attention's output projection: the reference, read at an element. -/
module

public import proofs.«01_k».proof.Proof.Gen.DsaOutRefIdeal.Read
public import Idealize.ShloMosaic.Lib.Pointwise

@[expose] public section

set_option maxRecDepth 16384

noncomputable section

namespace Cert.DsaOutRefIdeal.Leg

open Cert.DsaOutRefIdeal Cert.DsaOutRefIdeal.Gen Cert.DsaOutRefIdeal.Read Idealize.ShloMosaic Idealize.ShloMosaic.TcCoe Idealize.SL.Sem

/-- The reference's result at an element. -/
theorem read (x0 : Vec Ideal S32768x2048 .f32) (x1 : Vec Ideal S32768x2048 .bf16) (x2 : Vec Ideal S2048x2048 .f32) (R : Fin 32768) (l : Fin 2048) :
    val_main_v2 (F := Ideal) x0 x1 x2 (ix2 R l) = x0 (ix2 R l) + ∑ k, x1 (ix2 R k) * x2 (ix2 k l) := by
  pointwise [val_main_v0, val_main_v1, val_main_v2]

end Cert.DsaOutRefIdeal.Leg

end
-- ==== Proof.DsaOutClaims.lean ====
/- `DsaOut`: the frames of its three programs, and the equality of the kernel's result with the reference's. -/
module

public import proofs.«01_k».proof.Defs
public import proofs.«01_k».proof.Proof.DsaOutLeg
public import proofs.«01_k».proof.Proof.DsaOutRef
public import proofs.«01_k».proof.Proof.Gen.DsaOut
public import proofs.«01_k».proof.Proof.Gen.DsaOut.Frame
public import proofs.«01_k».proof.Proof.Gen.DsaOutRefIdeal
public import proofs.«01_k».proof.Proof.Gen.DsaOutRefIdeal.Run
public import Idealize.ShloMosaic.Lib.QuiescentFlight

@[expose] public section

set_option maxRecDepth 16384

noncomputable section

namespace Cert.Proof.DsaOut

open Idealize.ShloMosaic Idealize.SL.Sem

theorem frame : Cert.quiescent_DsaOut := fun m ρ _ => Cert.DsaOut.Gen.frame m ρ
theorem frame_ideal : Cert.quiescent_DsaOutIdeal := fun m ρ _ => Cert.DsaOutIdeal.Gen.frame m ρ
theorem frame_ref : Cert.quiescent_DsaOutRefIdeal := fun m ρ _ =>
  (θ_run Cert.DsaOutRefIdeal.defs _ _).mono (fun r h => ⟨fun c => (h c).2, sem_eq_zero_of_no_sems (by decide) r.2⟩)
    (Cert.DsaOutRefIdeal.Value.run (F := Ideal) m ρ)

theorem preserves : Cert.preserves_DsaOut_DsaOutIdeal := trivial

theorem algebraic : Cert.algebraic_DsaOutIdeal_DsaOutRefIdeal := by
  intro m ρ m' ρ' _ hagree
  refine ⟨fun c => Cert.DsaOutIdeal.Leg.G m c, Cert.DsaOutIdeal.Leg.run m ρ, ?_⟩
  refine (θ_run Cert.DsaOutRefIdeal.defs _ _).mono (fun _ h c => ?_) (Cert.DsaOutRefIdeal.Value.run m' ρ')
  refine ⟨(h c).1.trans ?_, (h c).2⟩
  refine (Cert.DsaOutRefIdeal.Read.val_main_v2_eq _ _ _).trans ?_
  obtain ⟨e0, e1, e2⟩ := hagree c
  rw [e0, e1, e2]
  funext i
  obtain ⟨R, l, rfl⟩ : ∃ (R : Fin 32768) (l : Fin 2048), i = ix2 R l := ⟨i 0, i 1, eq_ix2 i⟩
  exact (Cert.DsaOutRefIdeal.Leg.read _ _ _ R l).trans rfl

end Cert.Proof.DsaOut

end
-- ==== Proof.Mlp1Leg.lean ====
/- Layer 1's feed-forward block: its value: the array the kernel leaves is `h + relu(rms(h) · w1)² · w2`, summed in one go,
   although the kernel adds the hidden units four tiles at a time into the block it keeps. -/
module

public import proofs.«01_k».proof.Proof.Gen.Mlp1Ideal.Value
public import Idealize.ShloMosaic.Lib.Pointwise
public import Idealize.ShloMosaic.Lib.StableHlo.Run

@[expose] public section

set_option maxRecDepth 16384

noncomputable section

namespace Cert.Mlp1Ideal.Leg

open Cert.Mlp1Ideal Cert.Mlp1Ideal.Gen Cert.Mlp1Ideal.Value Idealize.ShloMosaic Idealize.ShloMosaic.TcCoe Idealize.SL.Sem

/-! ## The mathematics, from the arguments -/

/-- The normalised row: `h · rsqrt(mean h² + ε) · g`. -/
def rms (H : Vec Ideal S32768x2048 .f32) (G : Vec Ideal S1x2048 .f32) (R : Fin 32768) (l : Fin 2048) : EReal :=
  H (ix2 R l) * Ideal.rsqrt (Ideal.div (∑ k, H (ix2 R k) * H (ix2 R k)) (Ideal.ofBits .f32 1157627904#32)
    + Ideal.ofBits .f32 897988541#32) * G (ix2 0 l)

/-- A hidden unit: the squared positive part of the normalised row times a column of the first weight. -/
def hid (H : Vec Ideal S32768x2048 .f32) (G : Vec Ideal S1x2048 .f32) (W1 : Vec Ideal S2x2048x8192 .f32)
    (R : Fin 32768) (f : Fin 8192) : EReal :=
  max (∑ k, rms H G R k * W1 (ix3 1 k f)) 0 * max (∑ k, rms H G R k * W1 (ix3 1 k f)) 0

/-- One hidden unit's contribution to an output element, at a natural number (zero past the last unit). -/
def part (H : Vec Ideal S32768x2048 .f32) (G : Vec Ideal S1x2048 .f32) (W1 : Vec Ideal S2x2048x8192 .f32)
    (W2 : Vec Ideal S2x8192x2048 .f32) (R : Fin 32768) (l : Fin 2048) (f : ℕ) : EReal :=
  if h : f < 8192 then hid H G W1 R ⟨f, h⟩ * W2 (ix3 1 ⟨f, h⟩ l) else 0

/-- The output element. -/
def res (H : Vec Ideal S32768x2048 .f32) (G : Vec Ideal S1x2048 .f32) (W1 : Vec Ideal S2x2048x8192 .f32)
    (W2 : Vec Ideal S2x8192x2048 .f32) (R : Fin 32768) (l : Fin 2048) : EReal :=
  H (ix2 R l) + ∑ f, hid H G W1 R f * W2 (ix3 1 f l)

/-- Four tiles of hidden units are all of them. -/
theorem tiles (H : Vec Ideal S32768x2048 .f32) (G : Vec Ideal S1x2048 .f32) (W1 : Vec Ideal S2x2048x8192 .f32)
    (W2 : Vec Ideal S2x8192x2048 .f32) (R : Fin 32768) (l : Fin 2048) :
    H (ix2 R l) + ∑ j ∈ Finset.range 4, ∑ f : Fin 2048, part H G W1 W2 R l (j * 2048 + f.val) = res H G W1 W2 R l := by
  unfold res
  have e := Fin.sum_univ_tiles 4 2048 (N := 8192) rfl fun f => hid H G W1 R f * W2 (ix3 1 f l)
  rw [Finset.sum_range, e]
  refine congrArg (H (ix2 R l) + ·) (Finset.sum_congr rfl fun j _ => Finset.sum_congr rfl fun f _ => ?_)
  have hj := j.isLt
  have hf := f.isLt
  unfold part
  rw [dif_pos (by omega)]

/-! ## The two payloads at an index -/

theorem pay1_apply (x : Vec Ideal S512x2048 .f32) (g : Vec Ideal S1x2048 .f32) (r : Fin 512) (l : Fin 2048) :
    k0_pay1 x g (ix2 r l) = x (ix2 r l) * Ideal.rsqrt (Ideal.div (∑ k, x (ix2 r k) * x (ix2 r k)) (Ideal.ofBits .f32 1157627904#32)
      + Ideal.ofBits .f32 897988541#32) * g (ix2 0 l) := by
  pointwise [k0_pay1]

theorem pay2_apply (u : Vec Ideal S512x2048 .bf16) (w : Vec Ideal S1x2048x2048 .bf16) (o : Vec Ideal S512x2048 .f32)
    (v : Vec Ideal S1x2048x2048 .bf16) (r : Fin 512) (l : Fin 2048) :
    k0_pay2 u w o v (ix2 r l) = o (ix2 r l) + ∑ f : Fin 2048, max (∑ k : Fin 2048, u (ix2 r k) * w (ix3 0 k f)) 0
      * max (∑ k : Fin 2048, u (ix2 r k) * w (ix3 0 k f)) 0 * v (ix3 0 f l) := by
  pointwise [k0_pay2]

/-! ## What one point leaves -/

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable {F : FTy → Type} [FloatOps F]
variable (c : Dev nD) (i : grid0.Coords) (arg2 : Memref sig .tc .vmem S512x2048 .f32) (harg2 : arg2.IsWhole) (arg3 : Memref sig .tc .vmem S1x2048 .f32) (harg3 : arg3.IsWhole)
  (arg4 : Memref sig .tc .vmem S1x2048x2048 .bf16) (harg4 : arg4.IsWhole) (arg5 : Memref sig .tc .vmem S1x2048x2048 .bf16) (harg5 : arg5.IsWhole)
  (arg6 : Memref sig .tc .vmem S512x2048 .f32) (harg6 : arg6.IsWhole) (arg7 : Memref sig .tc .vmem S512x2048 .bf16) (harg7 : arg7.IsWhole)
  (x0 : Vec F S512x2048 .f32) (x1 : Vec F S1x2048 .f32) (x2 : Vec F S1x2048x2048 .bf16) (x3 : Vec F S1x2048x2048 .bf16)
  (xo : Vec F S512x2048 .f32) (xs : Vec F S512x2048 .bf16)

/-- The first tile leaves the normalised rows in the scratch. -/
theorem sout_A (hc : cond0_0 i) :
    sout0_A_0 c i arg2 harg2 arg3 harg3 arg4 harg4 arg5 harg5 arg6 harg6 arg7 harg7 hc x0 x1 x2 x3 = k0_pay1 x0 x1 := by
  unfold sout0_A_0
  rw [View.read_writes_eq_canon _ _ _ (scover0_A_0 c i arg2 harg2 arg3 harg3 arg4 harg4 arg5 harg5 arg6 harg6 arg7 harg7 hc x0 x1 x2 x3)]
  unfold kernelRun0_A
  dsimp only
  sl_unfold_words
  rw [View.canon_unit_zero (S := S512x2048) hz2]
  simp only [View.readAt_eq_ld, harg2.read_unread, harg3.read_unread, View.ld_unit_zero (S := S512x2048) hz2, View.ld_unit_zero (S := S1x2048) hz2]

/-- The first tile starts the block at the residual and adds its part. -/
theorem out_A (hc : cond0_0 i) :
    out0_A_4 c i arg2 harg2 arg3 harg3 arg4 harg4 arg5 harg5 arg6 harg6 arg7 harg7 hc x0 x1 x2 x3 = k0_pay2 (k0_pay1 x0 x1) x2 x0 x3 := by
  unfold out0_A_4
  rw [View.read_writes_eq_canon _ _ _ (cover0_A_4 c i arg2 harg2 arg3 harg3 arg4 harg4 arg5 harg5 arg6 harg6 arg7 harg7 hc x0 x1 x2 x3)]
  unfold kernelRun0_A
  dsimp only
  sl_unfold_words
  rw [View.canon_cons_unit_zero (S := S512x2048) hz2]
  simp only [View.readCov_unit_zero (S := S512x2048) _ hz2, View.readAt_eq_ld, harg2.read_unread, harg3.read_unread, harg4.read_unread, harg5.read_unread,
    View.ld_unit_zero (S := S512x2048) hz2, View.ld_unit_zero (S := S1x2048) hz2, View.ld_unit_zero (S := S1x2048x2048) hz3]

/-- A later tile keeps the scratch. -/
theorem sout_B (hc : ¬cond0_0 i) :
    sout0_B_0 c i arg2 harg2 arg3 harg3 arg4 harg4 arg5 harg5 arg6 harg6 arg7 harg7 hc x0 x1 x2 x3 xo xs = xs := by
  rfl

/-- A later tile adds its part to the block. -/
theorem out_B (hc : ¬cond0_0 i) :
    out0_B_4 c i arg2 harg2 arg3 harg3 arg4 harg4 arg5 harg5 arg6 harg6 arg7 harg7 hc x0 x1 x2 x3 xo xs = k0_pay2 xs x2 xo x3 := by
  unfold out0_B_4
  rw [View.read_writes_eq_canon _ _ _ (cover0_B_4 c i arg2 harg2 arg3 harg3 arg4 harg4 arg5 harg5 arg6 harg6 arg7 harg7 hc x0 x1 x2 x3 xo xs)]
  unfold kernelRun0_B
  dsimp only
  sl_unfold_words
  rw [View.canon_unit_zero (S := S512x2048) hz2]
  simp only [View.readAt_eq_ld, harg2.read_unread, harg3.read_unread, harg4.read_unread, harg5.read_unread, harg6.read_unread, harg7.read_unread,
    View.ld_unit_zero (S := S512x2048) hz2, View.ld_unit_zero (S := S1x2048x2048) hz3]

end Cases

/-! ## The blocks the windows read -/

variable (m : (ℓ : Loc nD τ sig) → Buf (Elt Ideal) ℓ)

abbrev aH (c : Dev nD) : Vec Ideal S32768x2048 .f32 := m ((c : Thread nD τ).loc main_arg0)
abbrev aG (c : Dev nD) : Vec Ideal S1x2048 .f32 := m ((c : Thread nD τ).loc main_arg1)
abbrev aW1 (c : Dev nD) : Vec Ideal S2x2048x8192 .f32 := m ((c : Thread nD τ).loc main_arg2)
abbrev aW2 (c : Dev nD) : Vec Ideal S2x8192x2048 .f32 := m ((c : Thread nD τ).loc main_arg3)

theorem V_v0 (c : Dev nD) : V m c main_v0 = (truncf (F := Ideal) .bf16 (aW1 m c : FVec Ideal S2x2048x8192 .f32) bitsLt_bf16_f32 : FVec Ideal S2x2048x8192 .bf16) := by
  unfold V
  simp only [hostOps0, List.flatten_cons, List.flatten_nil, List.append_nil, List.cons_append, List.nil_append]
  after_results <;> rfl

theorem V_v1 (c : Dev nD) : V m c main_v1 = (truncf (F := Ideal) .bf16 (aW2 m c : FVec Ideal S2x8192x2048 .f32) bitsLt_bf16_f32 : FVec Ideal S2x8192x2048 .bf16) := by
  unfold V
  simp only [hostOps0, List.flatten_cons, List.flatten_nil, List.append_nil, List.cons_append, List.nil_append]
  after_results <;> rfl

/-- Each window's block number at a point. -/
theorem idx : ∀ t : Fin cfg0.N, win0_0.index t (0 : Fin 2) = t.val / 4 ∧ win0_0.index t (1 : Fin 2) = 0
    ∧ win0_1.index t (0 : Fin 2) = 0 ∧ win0_1.index t (1 : Fin 2) = 0
    ∧ win0_2.index t (0 : Fin 3) = 1 ∧ win0_2.index t (1 : Fin 3) = 0 ∧ win0_2.index t (2 : Fin 3) = t.val % 4
    ∧ win0_3.index t (0 : Fin 3) = 1 ∧ win0_3.index t (1 : Fin 3) = t.val % 4 ∧ win0_3.index t (2 : Fin 3) = 0 :=
  (by decide +kernel : ∀ t : Fin grid0.N, _)

theorem lt_N (t : Fin cfg0.N) : t.val < 256 := lt_of_lt_of_eq t.isLt N_0

theorem blk0 (c : Dev nD) (t : Fin cfg0.N) (r : Fin 512) (l : Fin 2048) (h : 512 * (t.val / 4) + r.val < 32768) :
    (iblk m c 0 t : Vec Ideal S512x2048 .f32) (ix2 r l) = aH m c (ix2 ⟨512 * (t.val / 4) + r.val, h⟩ l) := by
  obtain ⟨e0, e1, -⟩ := idx t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 512 + 1 * r.val = 512 * (t.val / 4) + r.val; rw [e0]; omega
  | ⟨1, _⟩ => show win0_0.index t 1 * 2048 + 1 * l.val = l.val; rw [e1]; omega

theorem blk1 (c : Dev nD) (t : Fin cfg0.N) (l : Fin 2048) :
    (iblk m c 1 t : Vec Ideal S1x2048 .f32) (ix2 0 l) = aG m c (ix2 0 l) := by
  obtain ⟨-, -, e0, e1, -⟩ := idx t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = 0; rw [e0]
  | ⟨1, _⟩ => show win0_1.index t 1 * 2048 + 1 * l.val = l.val; rw [e1]; omega

theorem blk2 (c : Dev nD) (t : Fin cfg0.N) (k : Fin 2048) (f : Fin 2048) (h : t.val % 4 * 2048 + f.val < 8192) :
    (iblk m c 2 t : Vec Ideal S1x2048x2048 .bf16) (ix3 0 k f) = aW1 m c (ix3 1 k ⟨t.val % 4 * 2048 + f.val, h⟩) := by
  obtain ⟨-, -, -, -, e0, e1, e2, -⟩ := idx t
  unfold iblk
  rw [View.read_apply]
  show V m c main_v0 _ = _
  rw [V_v0]
  show aW1 m c _ = _
  refine congrArg (aW1 m c) (funext fun a => Fin.ext ?_)
  match a with
  | ⟨0, _⟩ => show win0_2.index t 0 * 1 + 1 * 0 = 1; rw [e0]
  | ⟨1, _⟩ => show win0_2.index t 1 * 2048 + 1 * k.val = k.val; rw [e1]; omega
  | ⟨2, _⟩ => show win0_2.index t 2 * 2048 + 1 * f.val = t.val % 4 * 2048 + f.val; rw [e2]; omega

theorem blk3 (c : Dev nD) (t : Fin cfg0.N) (f : Fin 2048) (l : Fin 2048) (h : t.val % 4 * 2048 + f.val < 8192) :
    (iblk m c 3 t : Vec Ideal S1x2048x2048 .bf16) (ix3 0 f l) = aW2 m c (ix3 1 ⟨t.val % 4 * 2048 + f.val, h⟩ l) := by
  obtain ⟨-, -, -, -, -, -, -, e0, e1, e2⟩ := idx t
  unfold iblk
  rw [View.read_apply]
  show V m c main_v1 _ = _
  rw [V_v1]
  show aW2 m c _ = _
  refine congrArg (aW2 m c) (funext fun a => Fin.ext ?_)
  match a with
  | ⟨0, _⟩ => show win0_3.index t 0 * 1 + 1 * 0 = 1; rw [e0]
  | ⟨1, _⟩ => show win0_3.index t 1 * 2048 + 1 * f.val = t.val % 4 * 2048 + f.val; rw [e1]; omega
  | ⟨2, _⟩ => show win0_3.index t 2 * 2048 + 1 * l.val = l.val; rw [e2]; omega

/-- The normalised rows of a point's block. -/
theorem pay1_blk (c : Dev nD) (t : Fin cfg0.N) (r : Fin 512) (l : Fin 2048) (h : 512 * (t.val / 4) + r.val < 32768) :
    k0_pay1 (F := Ideal) (iblk m c 0 t) (iblk m c 1 t) (ix2 r l) = rms (aH m c) (aG m c) ⟨512 * (t.val / 4) + r.val, h⟩ l := by
  refine (pay1_apply _ _ r l).trans ?_
  unfold rms
  rw [blk1]
  simp only [blk0 m c t r _ h]

/-- A tile's part of an output element, over any normalised rows and running block. -/
theorem pay2_blk (c : Dev nD) (t : Fin cfg0.N) (u : Vec Ideal S512x2048 .bf16) (o : Vec Ideal S512x2048 .f32) (r : Fin 512) (l : Fin 2048)
    (h : 512 * (t.val / 4) + r.val < 32768) (hu : ∀ k, u (ix2 r k) = rms (aH m c) (aG m c) ⟨512 * (t.val / 4) + r.val, h⟩ k) :
    k0_pay2 (F := Ideal) u (iblk m c 2 t) o (iblk m c 3 t) (ix2 r l)
      = o (ix2 r l) + ∑ f : Fin 2048, part (aH m c) (aG m c) (aW1 m c) (aW2 m c) ⟨512 * (t.val / 4) + r.val, h⟩ l (t.val % 4 * 2048 + f.val) := by
  refine (pay2_apply _ _ _ _ r l).trans ?_
  refine congrArg (o (ix2 r l) + ·) (Finset.sum_congr rfl fun f _ => ?_)
  have hf : t.val % 4 * 2048 + f.val < 8192 := by have := f.isLt; omega
  unfold part
  rw [dif_pos hf, blk3 m c t f l hf]
  unfold hid
  simp only [hu, fun k => blk2 m c t k f hf]

/-- WHAT EACH POINT LEAVES: the residual plus the hidden units of the tiles so far, and the normalised rows. -/
theorem outs (c : Dev nD) : ∀ (n : ℕ) (hn : n < cfg0.N) (r : Fin 512) (l : Fin 2048) (h : 512 * (n / 4) + r.val < 32768),
    (outsAt0 m c n hn).1 (ix2 r l) = aH m c (ix2 ⟨512 * (n / 4) + r.val, h⟩ l)
        + ∑ j ∈ Finset.range (n % 4 + 1), ∑ f : Fin 2048, part (aH m c) (aG m c) (aW1 m c) (aW2 m c) ⟨512 * (n / 4) + r.val, h⟩ l (j * 2048 + f.val)
      ∧ (outsAt0 m c n hn).2 (ix2 r l) = rms (aH m c) (aG m c) ⟨512 * (n / 4) + r.val, h⟩ l := by
  intro n
  induction n with
  | zero =>
    intro hn r l h
    rw [outsAt0_A m c ⟨0, hn⟩ rfl]
    dsimp only
    rw [out_A, sout_A]
    refine ⟨?_, pay1_blk m c ⟨0, hn⟩ r l h⟩
    rw [pay2_blk m c ⟨0, hn⟩ _ _ r l h (fun k => pay1_blk m c ⟨0, hn⟩ r k h), blk0 m c ⟨0, hn⟩ r l h]
    simp
  | succ n ih =>
    intro hn r l h
    by_cases h0 : (n + 1) % 4 = 0
    · rw [outsAt0_A m c ⟨n + 1, hn⟩ h0]
      dsimp only
      rw [out_A, sout_A]
      refine ⟨?_, pay1_blk m c ⟨n + 1, hn⟩ r l h⟩
      rw [pay2_blk m c ⟨n + 1, hn⟩ _ _ r l h (fun k => pay1_blk m c ⟨n + 1, hn⟩ r k h), blk0 m c ⟨n + 1, hn⟩ r l h]
      simp [h0]
    · have hd : (n + 1) / 4 = n / 4 := by omega
      have hm : (n + 1) % 4 = n % 4 + 1 := by omega
      have h' : 512 * (n / 4) + r.val < 32768 := by rw [← hd]; exact h
      have hR : (⟨512 * ((n + 1) / 4) + r.val, h⟩ : Fin 32768) = ⟨512 * (n / 4) + r.val, h'⟩ := Fin.ext (by show 512 * ((n + 1) / 4) + r.val = 512 * (n / 4) + r.val; rw [hd])
      rw [outsAt0_B m c ⟨n + 1, hn⟩ h0]
      dsimp only
      rw [out_B, sout_B]
      refine ⟨?_, ?_⟩
      · rw [pay2_blk m c ⟨n + 1, hn⟩ _ _ r l h (fun k => by rw [hR]; exact (ih _ r k h').2)]
        refine (congrArg (· + _) (ih _ r l h').1).trans ?_
        rw [Finset.sum_range_succ _ ((n + 1) % 4), ← add_assoc, hR]
        dsimp only
        rw [hm]
      · rw [hR]; exact (ih _ r l h').2

/-- THE RESULT ARRAY. -/
theorem G4_apply (c : Dev nD) (R : Fin 32768) (l : Fin 2048) :
    G4 m c (ix2 R l) = res (aH m c) (aG m c) (aW1 m c) (aW2 m c) R l := by
  have hR := R.isLt
  have hl := l.isLt
  have hN : cfg0.N = 256 := N_0
  have hp : pt4Of (ix2 R l) = 4 * (R.val / 512) + 3 := by
    show 4 * (1 * (R.val / 512 - 0) + 1 * (l.val / 2048 - 0)) + 3 = _
    omega
  have hlt : 4 * (R.val / 512) + 3 < cfg0.N := by omega
  unfold G4
  rw [dif_pos (by rw [hp]; exact hlt), ← outsAt0_sweep m c (pt4Of (ix2 R l)) (by rw [hp]; exact hlt)]
  have hloc : loc4Of (ix2 R l) = ix2 (⟨R.val % 512, by omega⟩ : Fin 512) l := by
    funext a
    refine Fin.ext ?_
    match a with
    | ⟨0, _⟩ => rfl
    | ⟨1, _⟩ => show l.val % 2048 = l.val; omega
  rw [hloc]
  have hcoe : ∀ (n : ℕ) (hn : n < cfg0.N) (hn' : 4 * (R.val / 512) + 3 < cfg0.N), n = 4 * (R.val / 512) + 3 → outsAt0 m c n hn = outsAt0 m c (4 * (R.val / 512) + 3) hn' := by
    intro n hn hn' e; subst e; rfl
  rw [hcoe _ _ hlt hp]
  have hh : 512 * ((4 * (R.val / 512) + 3) / 4) + R.val % 512 = R.val := by omega
  have hm : (4 * (R.val / 512) + 3) % 4 = 3 := by omega
  rw [(outs m c _ hlt ⟨R.val % 512, by omega⟩ l (by dsimp only; omega)).1]
  rw [show (⟨512 * ((4 * (R.val / 512) + 3) / 4) + R.val % 512, by omega⟩ : Fin 32768) = R from Fin.ext hh, hm]
  exact tiles ..

end Cert.Mlp1Ideal.Leg

end
-- ==== Proof.Mlp1Ref.lean ====
/- The feed-forward block's reference for layer 1, read at an element. -/
module

public import proofs.«01_k».proof.Proof.Gen.Mlp1RefIdeal.Read
public import Idealize.ShloMosaic.Lib.Pointwise

@[expose] public section

set_option maxRecDepth 16384

noncomputable section

namespace Cert.Mlp1RefIdeal.Leg

open Cert.Mlp1RefIdeal Cert.Mlp1RefIdeal.Gen Cert.Mlp1RefIdeal.Read Idealize.ShloMosaic Idealize.ShloMosaic.TcCoe Idealize.SL.Sem

/-- The reference's result at an element. -/
theorem read (x0 : Vec Ideal S32768x2048 .f32) (x1 : Vec Ideal S1x2048 .f32) (x2 : Vec Ideal S2x2048x8192 .f32) (x3 : Vec Ideal S2x8192x2048 .f32) (R : Fin 32768) (l : Fin 2048) :
    val_main_v20 (F := Ideal) x0 x1 x2 x3 (ix2 R l) = x0 (ix2 R l) + ∑ f, max (∑ k, x0 (ix2 R k) * Ideal.rsqrt (Ideal.div (∑ j, x0 (ix2 R j) * x0 (ix2 R j)) (Ideal.ofBits .f32 1157627904#32) + Ideal.ofBits .f32 897988541#32) * x1 (ix2 0 k) * x2 (ix3 1 k f)) 0 * max (∑ k, x0 (ix2 R k) * Ideal.rsqrt (Ideal.div (∑ j, x0 (ix2 R j) * x0 (ix2 R j)) (Ideal.ofBits .f32 1157627904#32) + Ideal.ofBits .f32 897988541#32) * x1 (ix2 0 k) * x2 (ix3 1 k f)) 0 * x3 (ix3 1 f l) := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_call0_cst, val_main_call0_v0, val_main_v15, val_main_v16, val_main_v17, val_main_v18, val_main_v19, val_main_v20]

end Cert.Mlp1RefIdeal.Leg

end
-- ==== Proof.Mlp1Claims.lean ====
/- `Mlp1`: the frames of its three programs, and the equality of the kernel's result with the reference's. -/
module

public import proofs.«01_k».proof.Defs
public import proofs.«01_k».proof.Proof.Mlp1Leg
public import proofs.«01_k».proof.Proof.Mlp1Ref
public import proofs.«01_k».proof.Proof.Gen.Mlp1
public import proofs.«01_k».proof.Proof.Gen.Mlp1.Frame
public import proofs.«01_k».proof.Proof.Gen.Mlp1RefIdeal
public import proofs.«01_k».proof.Proof.Gen.Mlp1RefIdeal.Run
public import Idealize.ShloMosaic.Lib.QuiescentFlight

@[expose] public section

set_option maxRecDepth 16384

noncomputable section

namespace Cert.Proof.Mlp1

open Idealize.ShloMosaic Idealize.SL.Sem

theorem frame : Cert.quiescent_Mlp1 := fun m ρ _ => Cert.Mlp1.Gen.frame m ρ
theorem frame_ideal : Cert.quiescent_Mlp1Ideal := fun m ρ _ => Cert.Mlp1Ideal.Gen.frame m ρ
theorem frame_ref : Cert.quiescent_Mlp1RefIdeal := fun m ρ _ =>
  (θ_run Cert.Mlp1RefIdeal.defs _ _).mono (fun r h => ⟨fun c => (h c).2, sem_eq_zero_of_no_sems (by decide) r.2⟩)
    (Cert.Mlp1RefIdeal.Value.run (F := Ideal) m ρ)

theorem preserves : Cert.preserves_Mlp1_Mlp1Ideal := trivial

theorem algebraic : Cert.algebraic_Mlp1Ideal_Mlp1RefIdeal := by
  intro m ρ m' ρ' _ hagree
  refine ⟨fun c => Cert.Mlp1Ideal.Value.G4 m c, Cert.Mlp1Ideal.Value.run m ρ, ?_⟩
  refine (θ_run Cert.Mlp1RefIdeal.defs _ _).mono (fun _ h c => ?_) (Cert.Mlp1RefIdeal.Value.run m' ρ')
  refine ⟨(h c).1.trans ?_, (h c).2⟩
  refine (Cert.Mlp1RefIdeal.Read.val_main_v20_eq _ _ _ _).trans ?_
  obtain ⟨e0, e1, e2, e3⟩ := hagree c
  rw [e0, e1, e2, e3]
  funext i
  obtain ⟨R, l, rfl⟩ : ∃ (R : Fin 32768) (l : Fin 2048), i = ix2 R l := ⟨i 0, i 1, eq_ix2 i⟩
  exact (Cert.Mlp1RefIdeal.Leg.read _ _ _ _ R l).trans (Cert.Mlp1Ideal.Leg.G4_apply m c R l).symm

end Cert.Proof.Mlp1

end
-- ==== Proof.Pe1Leg.lean ====
/- The gated embedding of layer 1: the array the kernel leaves is the final normalisation of `h + (p · wp) · logistic(rms(h) · wg)`. -/
module

public import proofs.«01_k».proof.Proof.Cols
public import proofs.«01_k».proof.Proof.Gen.Pe1Ideal.Value
public import Idealize.ShloMosaic.Lib.Pointwise
public import Idealize.ShloMosaic.Lib.StableHlo.Run

@[expose] public section

set_option maxRecDepth 16384

noncomputable section

namespace Cert.Pe1Ideal.Leg

open Cert.Pe1Ideal Cert.Pe1Ideal.Gen Cert.Pe1Ideal.Value Cert.Cols Idealize.ShloMosaic Idealize.ShloMosaic.TcCoe Idealize.SL.Sem

/-- The normalised row: `h · rsqrt(mean h² + ε) · g`, over any number of rows. -/
def rms {N : ℕ} (H : (⟨2, ![N, 2048]⟩ : Shape).Idx → EReal) (G : Vec Ideal S1x2048 .f32) (R : Fin N) (l : Fin 2048) : EReal :=
  H (ix2 R l) * Ideal.rsqrt (Ideal.div (∑ k, H (ix2 R k) * H (ix2 R k)) (Ideal.ofBits .f32 1157627904#32)
    + Ideal.ofBits .f32 897988541#32) * G (ix2 0 l)

/-- The gated embedding before the final normalisation, from the arguments. -/
def pre (H : Vec Ideal S32768x2048 .f32) (G : Vec Ideal S1x2048 .f32) (WG : Vec Ideal S2048x2048 .f32) (E : Vec Ideal S2x32768x256 .f32)
    (WP : Vec Ideal S256x2048 .f32) (R : Fin 32768) (l : Fin 2048) : EReal :=
  H (ix2 R l) + (∑ k, E (ix3 1 R k) * WP (ix2 k l)) * Ideal.logistic (∑ k, rms (N := 32768) H G R k * WG (ix2 k l))

/-- The output element, from the arguments. -/
def res (H : Vec Ideal S32768x2048 .f32) (G : Vec Ideal S1x2048 .f32) (WG : Vec Ideal S2048x2048 .f32) (E : Vec Ideal S2x32768x256 .f32)
    (WP : Vec Ideal S256x2048 .f32) (GF : Vec Ideal S1x2048 .f32) (R : Fin 32768) (l : Fin 2048) : EReal :=
  rms (N := 32768) (fun y => pre H G WG E WP (y 0) (y 1)) GF R l

/-- The same over one block of rows. -/
def preAt (H : Vec Ideal S512x2048 .f32) (G : Vec Ideal S1x2048 .f32) (WG : Vec Ideal S2048x2048 .bf16) (E : Vec Ideal S1x512x256 .f32)
    (WP : Vec Ideal S256x2048 .bf16) (r : Fin 512) (l : Fin 2048) : EReal :=
  H (ix2 r l) + (∑ k, E (ix3 0 r k) * WP (ix2 k l)) * Ideal.logistic (∑ k, rms (N := 512) H G r k * WG (ix2 k l))

def preRes (H : Vec Ideal S512x2048 .f32) (G : Vec Ideal S1x2048 .f32) (WG : Vec Ideal S2048x2048 .bf16) (E : Vec Ideal S1x512x256 .f32)
    (WP : Vec Ideal S256x2048 .bf16) : Vec Ideal S512x2048 .f32 :=
  fun y => preAt H G WG E WP (y 0) (y 1)

def blkAt (H : Vec Ideal S512x2048 .f32) (G : Vec Ideal S1x2048 .f32) (WG : Vec Ideal S2048x2048 .bf16) (E : Vec Ideal S1x512x256 .f32)
    (WP : Vec Ideal S256x2048 .bf16) (GF : Vec Ideal S1x2048 .f32) (r : Fin 512) (l : Fin 2048) : EReal :=
  rms (N := 512) (preRes H G WG E WP) GF r l

/-- One slice of columns, from the row's blocks and the slices of the weights. -/
theorem pay4_apply (h : Vec Ideal S512x2048 .f32) (g : Vec Ideal S1x2048 .f32) (e : Vec Ideal S1x512x256 .f32) (wg : Vec Ideal S2048x512 .bf16)
    (wp : Vec Ideal S256x512 .bf16) (o : Vec Ideal S512x512 .f32) (r : Fin 512) (l : Fin 512) :
    k0_pay4 h g e wg wp o (ix2 r l) = o (ix2 r l) + (∑ k : Fin 256, e (ix3 0 r k) * wp (ix2 k l))
      * Ideal.logistic (∑ k : Fin 2048, rms (N := 512) h g r k * wg (ix2 k l)) := by
  unfold rms
  pointwise [k0_pay4, k0_pay3, k0_pay2]

theorem pay6_eq (h : Vec Ideal S512x2048 .f32) (g : Vec Ideal S1x2048 .f32) (e : Vec Ideal S1x512x256 .f32) (wg : Vec Ideal S2048x512 .bf16)
    (wp : Vec Ideal S256x512 .bf16) (o : Vec Ideal S512x512 .f32) : k0_pay6 (k0_pay3 e) (k0_pay5 h g wg) wp o = k0_pay4 h g e wg wp o := rfl
theorem pay7_eq (h : Vec Ideal S512x2048 .f32) (g : Vec Ideal S1x2048 .f32) (e : Vec Ideal S1x512x256 .f32) (wg : Vec Ideal S2048x512 .bf16)
    (wp : Vec Ideal S256x512 .bf16) (o : Vec Ideal S512x512 .f32) : k0_pay7 (k0_pay2 h g) (k0_pay3 e) wg wp o = k0_pay4 h g e wg wp o := rfl
theorem pay8_eq (h : Vec Ideal S512x2048 .f32) (g : Vec Ideal S1x2048 .f32) (e : Vec Ideal S1x512x256 .f32) (wg : Vec Ideal S2048x512 .bf16)
    (wp : Vec Ideal S256x512 .bf16) (o : Vec Ideal S512x512 .f32) : k0_pay8 (k0_pay2 h g) (k0_pay3 e) wg wp o = k0_pay4 h g e wg wp o := rfl

/-- The final normalisation's payload is `rms`. -/
theorem pay1_apply (h : Vec Ideal S512x2048 .f32) (g : Vec Ideal S1x2048 .f32) (r : Fin 512) (l : Fin 2048) :
    k0_pay1 h g (ix2 r l) = rms (N := 512) h g r l := by
  unfold rms
  pointwise [k0_pay1]

theorem out_apply (c : Dev nD) (i : grid0.Coords) (arg1 : Memref sig .tc .vmem S512x2048 .f32) (harg1 : arg1.IsWhole) (arg2 : Memref sig .tc .vmem S1x2048 .f32) (harg2 : arg2.IsWhole)
    (arg3 : Memref sig .tc .vmem S2048x2048 .bf16) (harg3 : arg3.IsWhole) (arg4 : Memref sig .tc .vmem S1x512x256 .f32) (harg4 : arg4.IsWhole)
    (arg5 : Memref sig .tc .vmem S256x2048 .bf16) (harg5 : arg5.IsWhole) (arg6 : Memref sig .tc .vmem S1x2048 .f32) (harg6 : arg6.IsWhole)
    (arg7 : Memref sig .tc .vmem S512x2048 .f32) (harg7 : arg7.IsWhole)
    (x0 : Vec Ideal S512x2048 .f32) (x1 : Vec Ideal S1x2048 .f32) (x2 : Vec Ideal S2048x2048 .bf16) (x3 : Vec Ideal S1x512x256 .f32) (x4 : Vec Ideal S256x2048 .bf16) (x5 : Vec Ideal S1x2048 .f32)
    (r : Fin 512) (l : Fin 2048) :
    out0_A_6 c i arg1 harg1 arg2 harg2 arg3 harg3 arg4 harg4 arg5 harg5 arg6 harg6 arg7 harg7 x0 x1 x2 x3 x4 x5 (ix2 r l) = blkAt x0 x1 x2 x3 x4 x5 r l := by
  unfold out0_A_6
  rw [View.read_writes_eq_canon _ _ _ (cover0_A_6 c i arg1 harg1 arg2 harg2 arg3 harg3 arg4 harg4 arg5 harg5 arg6 harg6 arg7 harg7 x0 x1 x2 x3 x4 x5)]
  unfold kernelRun0_A
  dsimp only
  sl_unfold_words
  rw [View.canon_cons_unit_zero (S := S512x2048) hz2]
  rw [View.readCov_eq_canon']
  simp only [View.readAt_eq_ld, harg1.read_unread, harg2.read_unread, harg3.read_unread, harg4.read_unread, harg5.read_unread, harg6.read_unread,
    View.ld_unit_zero (S := S512x2048) hz2, View.ld_unit_zero (S := S1x2048) hz2, View.ld_unit_zero (S := S1x512x256) hz3, pay6_eq, pay7_eq, pay8_eq]
  refine (pay1_apply _ _ r l).trans ?_
  unfold blkAt
  refine congrArg (fun q => rms (N := 512) q x5 r l) ((View.ld_unit_zero (S := S512x2048) hz2 _ _).trans ?_)
  refine canon_of_pieces (Val := Elt Ideal) (e := .f32) (preRes x0 x1 x2 x3 x4) _ ⟨?_, ?_, ?_, ?_, trivial⟩ (View.cover_of_tiled _ S512x512.size (by rfl))
  all_goals
    refine piece_cols _ _ (by decide) fun r l => (pay4_apply _ _ _ _ _ _ r l).trans ?_
    exact congrArg₂ (· + ·) (ld_cols x0 (by decide) r l) (congrArg₂ (· * ·)
      (Finset.sum_congr rfl fun k _ => congrArg (x3 (ix3 0 r k) * ·) (ld_cols x4 (by decide) k l))
      (congrArg Ideal.logistic (Finset.sum_congr rfl fun k _ => congrArg (rms (N := 512) x0 x1 r k * ·) (ld_cols x2 (by decide) k l))))

variable (m : (ℓ : Loc nD τ sig) → Buf (Elt Ideal) ℓ)

abbrev a0 (c : Dev nD) : Vec Ideal S32768x2048 .f32 := m ((c : Thread nD τ).loc main_arg0)
abbrev a1 (c : Dev nD) : Vec Ideal S1x2048 .f32 := m ((c : Thread nD τ).loc main_arg1)
abbrev a2 (c : Dev nD) : Vec Ideal S2048x2048 .f32 := m ((c : Thread nD τ).loc main_arg2)
abbrev a3 (c : Dev nD) : Vec Ideal S2x32768x256 .f32 := m ((c : Thread nD τ).loc main_arg3)
abbrev a4 (c : Dev nD) : Vec Ideal S256x2048 .f32 := m ((c : Thread nD τ).loc main_arg4)
abbrev a5 (c : Dev nD) : Vec Ideal S1x2048 .f32 := m ((c : Thread nD τ).loc main_arg5)

theorem V_v0 (c : Dev nD) : V m c main_v0 = (truncf (F := Ideal) .bf16 (a2 m c : FVec Ideal S2048x2048 .f32) bitsLt_bf16_f32 : FVec Ideal S2048x2048 .bf16) := by
  unfold V
  simp only [hostOps0, List.flatten_cons, List.flatten_nil, List.append_nil, List.cons_append, List.nil_append]
  after_results <;> rfl

theorem V_v1 (c : Dev nD) : V m c main_v1 = (truncf (F := Ideal) .bf16 (a4 m c : FVec Ideal S256x2048 .f32) bitsLt_bf16_f32 : FVec Ideal S256x2048 .bf16) := by
  unfold V
  simp only [hostOps0, List.flatten_cons, List.flatten_nil, List.append_nil, List.cons_append, List.nil_append]
  after_results <;> rfl

theorem idx : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 3) = 1
    ∧ win0_3.index t (1 : Fin 3) = t.val
    ∧ win0_3.index t (2 : Fin 3) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

theorem flush : ∀ t : Fin cfg0.N, (cfg0.win 6).flush t = true :=
  (by decide +kernel : ∀ t : Fin grid0.N, _)

theorem lt_N (t : Fin cfg0.N) : t.val < 64 := lt_of_lt_of_eq t.isLt N_0

theorem blk0 (c : Dev nD) (t : Fin cfg0.N) (r : Fin 512) (l : Fin 2048) (h : 512 * t.val + r.val < 32768) :
    (iblk m c 0 t : Vec Ideal S512x2048 .f32) (ix2 r l) = a0 m c (ix2 ⟨512 * t.val + r.val, h⟩ l) := by
  have e := idx t
  unfold iblk
  rw [View.read_apply]
  show V m c main_arg0 _ = _
  rw [V_main_arg0]
  refine congrArg (a0 m c) (funext fun a => Fin.ext ?_)
  match a with
  | ⟨0, _⟩ => show win0_0.index t 0 * 512 + 1 * r.val = 512 * t.val + r.val; omega
  | ⟨1, _⟩ => show win0_0.index t 1 * 2048 + 1 * l.val = l.val; omega

theorem blk1 (c : Dev nD) (t : Fin cfg0.N) (l : Fin 2048) :
    (iblk m c 1 t : Vec Ideal S1x2048 .f32) (ix2 0 l) = a1 m c (ix2 0 l) := by
  have e := idx t
  unfold iblk
  rw [View.read_apply]
  show V m c main_arg1 _ = _
  rw [V_main_arg1]
  refine congrArg (a1 m c) (funext fun a => Fin.ext ?_)
  match a with
  | ⟨0, _⟩ => show win0_1.index t 0 * 1 + 1 * 0 = 0; omega
  | ⟨1, _⟩ => show win0_1.index t 1 * 2048 + 1 * l.val = l.val; omega

theorem blk2 (c : Dev nD) (t : Fin cfg0.N) (k : Fin 2048) (l : Fin 2048) :
    (iblk m c 2 t : Vec Ideal S2048x2048 .bf16) (ix2 k l) = a2 m c (ix2 k l) := by
  have e := idx t
  unfold iblk
  rw [View.read_apply]
  show V m c main_v0 _ = _
  rw [V_v0]
  refine congrArg (a2 m c) (funext fun a => Fin.ext ?_)
  match a with
  | ⟨0, _⟩ => show win0_2.index t 0 * 2048 + 1 * k.val = k.val; omega
  | ⟨1, _⟩ => show win0_2.index t 1 * 2048 + 1 * l.val = l.val; omega

theorem blk3 (c : Dev nD) (t : Fin cfg0.N) (r : Fin 512) (k : Fin 256) (h : 512 * t.val + r.val < 32768) :
    (iblk m c 3 t : Vec Ideal S1x512x256 .f32) (ix3 0 r k) = a3 m c (ix3 1 ⟨512 * t.val + r.val, h⟩ k) := by
  have e := idx t
  unfold iblk
  rw [View.read_apply]
  show V m c main_arg3 _ = _
  rw [V_main_arg3]
  refine congrArg (a3 m c) (funext fun a => Fin.ext ?_)
  match a with
  | ⟨0, _⟩ => show win0_3.index t 0 * 1 + 1 * 0 = 1; omega
  | ⟨1, _⟩ => show win0_3.index t 1 * 512 + 1 * r.val = 512 * t.val + r.val; omega
  | ⟨2, _⟩ => show win0_3.index t 2 * 256 + 1 * k.val = k.val; omega

theorem blk4 (c : Dev nD) (t : Fin cfg0.N) (k : Fin 256) (l : Fin 2048) :
    (iblk m c 4 t : Vec Ideal S256x2048 .bf16) (ix2 k l) = a4 m c (ix2 k l) := by
  have e := idx t
  unfold iblk
  rw [View.read_apply]
  show V m c main_v1 _ = _
  rw [V_v1]
  refine congrArg (a4 m c) (funext fun a => Fin.ext ?_)
  match a with
  | ⟨0, _⟩ => show win0_4.index t 0 * 256 + 1 * k.val = k.val; omega
  | ⟨1, _⟩ => show win0_4.index t 1 * 2048 + 1 * l.val = l.val; omega

theorem blk5 (c : Dev nD) (t : Fin cfg0.N) (l : Fin 2048) :
    (iblk m c 5 t : Vec Ideal S1x2048 .f32) (ix2 0 l) = a5 m c (ix2 0 l) := by
  have e := idx t
  unfold iblk
  rw [View.read_apply]
  show V m c main_arg5 _ = _
  rw [V_main_arg5]
  refine congrArg (a5 m c) (funext fun a => Fin.ext ?_)
  match a with
  | ⟨0, _⟩ => show win0_5.index t 0 * 1 + 1 * 0 = 0; omega
  | ⟨1, _⟩ => show win0_5.index t 1 * 2048 + 1 * l.val = l.val; omega

/-- The result array, as a function of the index. -/
def G (c : Dev nD) : Vec Ideal S32768x2048 .f32 := fun i => res (a0 m c) (a1 m c) (a2 m c) (a3 m c) (a4 m c) (a5 m c) (i 0) (i 1)

theorem flushed_eq (c : Dev nD) (t : Fin cfg0.N) : (dats m 0 c).flushed 6 t = ((cfg0.win 6).blk t).view.read (Elt Ideal) (G m c) := by
  rw [flushed6_A]
  refine funext (forall_ix2 (N := 512) (M := 2048) fun r l => ?_)
  have e := idx t
  have ht := lt_N t
  have hr := r.isLt
  have hR : 512 * t.val + r.val < 32768 := by omega
  rw [View.read_apply]
  have hemb : ((cfg0.win 6).blk t).view.emb (ix2 r l) = (ix2 ⟨512 * t.val + r.val, hR⟩ l : S32768x2048.Idx) := by
    funext a
    refine Fin.ext ?_
    match a with
    | ⟨0, _⟩ => show win0_6.index t 0 * 512 + 1 * r.val = 512 * t.val + r.val; omega
    | ⟨1, _⟩ => show win0_6.index t 1 * 2048 + 1 * l.val = l.val; omega
  refine Eq.trans ?_ (congrArg (G m c) hemb).symm
  refine (out_apply c _ _ _ _ _ _ _ _ _ _ _ _ _ _ _ _ _ _ _ _ _ r l).trans ?_
  show blkAt (iblk m c 0 t) (iblk m c 1 t) (iblk m c 2 t) (iblk m c 3 t) (iblk m c 4 t) (iblk m c 5 t) r l = res (a0 m c) (a1 m c) (a2 m c) (a3 m c) (a4 m c) (a5 m c) ⟨512 * t.val + r.val, hR⟩ l
  unfold blkAt res rms preRes preAt pre rms
  simp only [show ∀ (r : Fin 512) (l : Fin 2048), (ix2 r l : S512x2048.Idx) 0 = r from fun _ _ => rfl, show ∀ (r : Fin 512) (l : Fin 2048), (ix2 r l : S512x2048.Idx) 1 = l from fun _ _ => rfl,
    show ∀ (r : Fin 32768) (l : Fin 2048), (ix2 r l : S32768x2048.Idx) 0 = r from fun _ _ => rfl, show ∀ (r : Fin 32768) (l : Fin 2048), (ix2 r l : S32768x2048.Idx) 1 = l from fun _ _ => rfl,
    blk0 m c t r _ hR, blk1 m c t, blk2 m c t, blk3 m c t r _ hR, blk4 m c t, blk5 m c t]

theorem final (c : Dev nD) : (dats m 0 c).arrAt 6 cfg0.N = G m c := by
  refine (dats m 0 c).arrAt_eq_of_cover 6 (G m c) (fun t _ => flushed_eq m c t) fun i => ?_
  change S32768x2048.Idx at i
  have h0 : (i 0).val < 32768 := (i 0).isLt
  have h1 : (i 1).val < 2048 := (i 1).isLt
  have hN : cfg0.N = 64 := N_0
  refine ⟨⟨(i 0).val / 512, by omega⟩, flush _, ?_⟩
  have e := idx ⟨(i 0).val / 512, by omega⟩
  mem_blk
  dsimp only at e
  omega

theorem run (ρ : Dev nD → PrngReg) : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.Pe1Ideal.Leg

end
-- ==== Proof.Pe1Ref.lean ====
/- The gated embedding's reference for layer 1, read at an element. -/
module

public import proofs.«01_k».proof.Proof.Gen.Pe1RefIdeal.Read
public import Idealize.ShloMosaic.Lib.Pointwise

@[expose] public section

set_option maxRecDepth 16384

noncomputable section

namespace Cert.Pe1RefIdeal.Leg

open Cert.Pe1RefIdeal Cert.Pe1RefIdeal.Gen Cert.Pe1RefIdeal.Read Idealize.ShloMosaic Idealize.ShloMosaic.TcCoe Idealize.SL.Sem

/-- The reference's result at an element. -/
theorem read (x0 : Vec Ideal S32768x2048 .f32) (x1 : Vec Ideal S1x2048 .f32) (x2 : Vec Ideal S2048x2048 .f32) (x3 : Vec Ideal S2x32768x256 .f32) (x4 : Vec Ideal S256x2048 .f32) (x5 : Vec Ideal S1x2048 .f32) (R : Fin 32768) (l : Fin 2048) :
    val_main_v35 (F := Ideal) x0 x1 x2 x3 x4 x5 (ix2 R l) = (x0 (ix2 R l) + (∑ k, x3 (ix3 1 R k) * x4 (ix2 k l)) * Ideal.logistic (∑ k, x0 (ix2 R k) * Ideal.rsqrt (Ideal.div (∑ j, x0 (ix2 R j) * x0 (ix2 R j)) (Ideal.ofBits .f32 1157627904#32) + Ideal.ofBits .f32 897988541#32) * x1 (ix2 0 k) * x2 (ix2 k l))) * Ideal.rsqrt (Ideal.div (∑ q, (x0 (ix2 R q) + (∑ k, x3 (ix3 1 R k) * x4 (ix2 k q)) * Ideal.logistic (∑ k, x0 (ix2 R k) * Ideal.rsqrt (Ideal.div (∑ j, x0 (ix2 R j) * x0 (ix2 R j)) (Ideal.ofBits .f32 1157627904#32) + Ideal.ofBits .f32 897988541#32) * x1 (ix2 0 k) * x2 (ix2 k q))) * (x0 (ix2 R q) + (∑ k, x3 (ix3 1 R k) * x4 (ix2 k q)) * Ideal.logistic (∑ k, x0 (ix2 R k) * Ideal.rsqrt (Ideal.div (∑ j, x0 (ix2 R j) * x0 (ix2 R j)) (Ideal.ofBits .f32 1157627904#32) + Ideal.ofBits .f32 897988541#32) * x1 (ix2 0 k) * x2 (ix2 k q)))) (Ideal.ofBits .f32 1157627904#32) + Ideal.ofBits .f32 897988541#32) * x5 (ix2 0 l) := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, val_main_v13, val_main_v14, val_main_cst_2, val_main_v15, val_main_v16, val_main_cst_3, val_main_v17, val_main_v18, val_main_v19, val_main_v20, val_main_v21, val_main_v22, val_main_v23, val_main_v24, val_main_cst_4, val_main_v25, val_main_v26, val_main_cst_5, val_main_v27, val_main_v28, val_main_cst_6, val_main_v29, val_main_v30, val_main_v31, val_main_v32, val_main_v33, val_main_v34, val_main_v35]
  rfl

end Cert.Pe1RefIdeal.Leg

end
-- ==== Proof.Pe1Claims.lean ====
/- `Pe1`: the frames of its three programs, and the equality of the kernel's result with the reference's. -/
module

public import proofs.«01_k».proof.Defs
public import proofs.«01_k».proof.Proof.Pe1Leg
public import proofs.«01_k».proof.Proof.Pe1Ref
public import proofs.«01_k».proof.Proof.Gen.Pe1
public import proofs.«01_k».proof.Proof.Gen.Pe1.Frame
public import proofs.«01_k».proof.Proof.Gen.Pe1RefIdeal
public import proofs.«01_k».proof.Proof.Gen.Pe1RefIdeal.Run
public import Idealize.ShloMosaic.Lib.QuiescentFlight

@[expose] public section

set_option maxRecDepth 16384

noncomputable section

namespace Cert.Proof.Pe1

open Idealize.ShloMosaic Idealize.SL.Sem

theorem frame : Cert.quiescent_Pe1 := fun m ρ _ => Cert.Pe1.Gen.frame m ρ
theorem frame_ideal : Cert.quiescent_Pe1Ideal := fun m ρ _ => Cert.Pe1Ideal.Gen.frame m ρ
theorem frame_ref : Cert.quiescent_Pe1RefIdeal := fun m ρ _ =>
  (θ_run Cert.Pe1RefIdeal.defs _ _).mono (fun r h => ⟨fun c => (h c).2, sem_eq_zero_of_no_sems (by decide) r.2⟩)
    (Cert.Pe1RefIdeal.Value.run (F := Ideal) m ρ)

theorem preserves : Cert.preserves_Pe1_Pe1Ideal := trivial

theorem algebraic : Cert.algebraic_Pe1Ideal_Pe1RefIdeal := by
  intro m ρ m' ρ' _ hagree
  refine ⟨fun c => Cert.Pe1Ideal.Leg.G m c, Cert.Pe1Ideal.Leg.run m ρ, ?_⟩
  refine (θ_run Cert.Pe1RefIdeal.defs _ _).mono (fun _ h c => ?_) (Cert.Pe1RefIdeal.Value.run m' ρ')
  refine ⟨(h c).1.trans ?_, (h c).2⟩
  refine (Cert.Pe1RefIdeal.Read.val_main_v35_eq _ _).trans ?_
  obtain ⟨e0, e1, e2, e3, e4, e5⟩ := hagree c
  rw [e0, e1, e2, e3, e4, e5]
  funext i
  obtain ⟨R, l, rfl⟩ : ∃ (R : Fin 32768) (l : Fin 2048), i = ix2 R l := ⟨i 0, i 1, eq_ix2 i⟩
  exact (Cert.Pe1RefIdeal.Leg.read _ _ _ _ _ _ R l).trans rfl

end Cert.Proof.Pe1

end
-- ==== Proof.ConvOutLeg.lean ====
/- The projection that leaves the convolution module: the array the kernel leaves is `h + (x · w + b)`. -/
module

public import proofs.«01_k».proof.Proof.Cols
public import proofs.«01_k».proof.Proof.Gen.ConvOutIdeal.Value
public import Idealize.ShloMosaic.Lib.Pointwise
public import Idealize.ShloMosaic.Lib.StableHlo.Run

@[expose] public section

set_option maxRecDepth 16384

noncomputable section

namespace Cert.ConvOutIdeal.Leg

open Cert.ConvOutIdeal Cert.ConvOutIdeal.Gen Cert.ConvOutIdeal.Value Cert.Cols Idealize.ShloMosaic Idealize.ShloMosaic.TcCoe Idealize.SL.Sem

/-- The output element, from the arguments. -/
def res (H : Vec Ideal S32768x2048 .f32) (X : Vec Ideal S32768x2048 .bf16) (W : Vec Ideal S2048x2048 .f32) (B : Vec Ideal S1x2048 .f32) (R : Fin 32768) (l : Fin 2048) : EReal :=
  H (ix2 R l) + (∑ k, X (ix2 R k) * W (ix2 k l) + B (ix2 0 l))

/-- The same over one block of rows. -/
def blkAt (H : Vec Ideal S1024x2048 .f32) (X : Vec Ideal S1024x2048 .bf16) (W : Vec Ideal S2048x2048 .bf16) (B : Vec Ideal S1x2048 .f32) (r : Fin 1024) (l : Fin 2048) : EReal :=
  H (ix2 r l) + (∑ k, X (ix2 r k) * W (ix2 k l) + B (ix2 0 l))

def blkRes (H : Vec Ideal S1024x2048 .f32) (X : Vec Ideal S1024x2048 .bf16) (W : Vec Ideal S2048x2048 .bf16) (B : Vec Ideal S1x2048 .f32) : Vec Ideal S1024x2048 .f32 :=
  fun y => blkAt H X W B (y 0) (y 1)

theorem pay1_apply (x : Vec Ideal S1024x2048 .bf16) (h : Vec Ideal S1024x512 .f32) (w : Vec Ideal S2048x512 .bf16) (b : Vec Ideal S1x512 .f32) (r : Fin 1024) (l : Fin 512) :
    k0_pay1 x h w b (ix2 r l) = h (ix2 r l) + (∑ k : Fin 2048, x (ix2 r k) * w (ix2 k l) + b (ix2 0 l)) := by
  rw [← add_assoc]
  pointwise [k0_pay1]
theorem pay2_eq : k0_pay2 (F := Ideal) = k0_pay1 := rfl
theorem pay3_eq : k0_pay3 (F := Ideal) = k0_pay1 := rfl
theorem pay4_eq : k0_pay4 (F := Ideal) = k0_pay1 := rfl

theorem out_eq (x0 : Vec Ideal S1024x2048 .f32) (x1 : Vec Ideal S1024x2048 .bf16) (x2 : Vec Ideal S2048x2048 .bf16) (x3 : Vec Ideal S1x2048 .f32) :
    out0_4 x0 x1 x2 x3 = blkRes x0 x1 x2 x3 := by
  unfold out0_4
  simp only [pay2_eq, pay3_eq, pay4_eq, View.ld_unit_zero (S := S1024x2048) hz2]
  refine canon_of_pieces (Val := Elt Ideal) (e := .f32) (blkRes x0 x1 x2 x3) _ ⟨?_, ?_, ?_, ?_, trivial⟩ (cover0_4 _ _ _ _)
  all_goals
    refine piece_cols _ _ (by decide) fun r l => (pay1_apply _ _ _ _ r l).trans ?_
    exact congrArg₂ (· + ·) (ld_cols x0 (by decide) r l) (congrArg₂ (· + ·)
      (Finset.sum_congr rfl fun k _ => congrArg (x1 (ix2 r k) * ·) (ld_cols x2 (by decide) k l)) (ld_cols x3 (by decide) 0 l))

variable (m : (ℓ : Loc nD τ sig) → Buf (Elt Ideal) ℓ)

abbrev a0 (c : Dev nD) : Vec Ideal S32768x2048 .f32 := m ((c : Thread nD τ).loc main_arg0)
abbrev a1 (c : Dev nD) : Vec Ideal S32768x2048 .bf16 := m ((c : Thread nD τ).loc main_arg1)
abbrev a2 (c : Dev nD) : Vec Ideal S2048x2048 .f32 := m ((c : Thread nD τ).loc main_arg2)

abbrev a3 (c : Dev nD) : Vec Ideal S1x2048 .f32 := m ((c : Thread nD τ).loc main_arg3)

theorem V_v0 (c : Dev nD) : V m c main_v0 = (truncf (F := Ideal) .bf16 (a2 m c : FVec Ideal S2048x2048 .f32) bitsLt_bf16_f32 : FVec Ideal S2048x2048 .bf16) := by
  unfold V
  simp only [hostOps0, List.flatten_cons, List.flatten_nil, List.append_nil, List.cons_append, List.nil_append]
  after_results <;> rfl

theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ (cfg0.win 4).flush t = true :=
  (by decide +kernel : ∀ t : Fin grid0.N, _)

theorem lt_N (t : Fin cfg0.N) : t.val < 32 := lt_of_lt_of_eq t.isLt N_0

theorem blk0 (c : Dev nD) (t : Fin cfg0.N) (r : Fin 1024) (l : Fin 2048) (h : 1024 * t.val + r.val < 32768) :
    (iblk m c 0 t : Vec Ideal S1024x2048 .f32) (ix2 r l) = a0 m c (ix2 ⟨1024 * t.val + r.val, h⟩ l) := by
  have e := idx t
  unfold iblk
  rw [View.read_apply]
  show V m c main_arg0 _ = _
  rw [V_main_arg0]
  refine congrArg (a0 m c) (funext fun a => Fin.ext ?_)
  match a with
  | ⟨0, _⟩ => show win0_0.index t 0 * 1024 + 1 * r.val = 1024 * t.val + r.val; omega
  | ⟨1, _⟩ => show win0_0.index t 1 * 2048 + 1 * l.val = l.val; omega

theorem blk1 (c : Dev nD) (t : Fin cfg0.N) (r : Fin 1024) (l : Fin 2048) (h : 1024 * t.val + r.val < 32768) :
    (iblk m c 1 t : Vec Ideal S1024x2048 .bf16) (ix2 r l) = a1 m c (ix2 ⟨1024 * t.val + r.val, h⟩ l) := by
  have e := idx t
  unfold iblk
  rw [View.read_apply]
  show V m c main_arg1 _ = _
  rw [V_main_arg1]
  refine congrArg (a1 m c) (funext fun a => Fin.ext ?_)
  match a with
  | ⟨0, _⟩ => show win0_1.index t 0 * 1024 + 1 * r.val = 1024 * t.val + r.val; omega
  | ⟨1, _⟩ => show win0_1.index t 1 * 2048 + 1 * l.val = l.val; omega

theorem blk2 (c : Dev nD) (t : Fin cfg0.N) (k : Fin 2048) (l : Fin 2048) :
    (iblk m c 2 t : Vec Ideal S2048x2048 .bf16) (ix2 k l) = a2 m c (ix2 k l) := by
  have e := idx t
  unfold iblk
  rw [View.read_apply]
  show V m c main_v0 _ = _
  rw [V_v0]
  refine congrArg (a2 m c) (funext fun a => Fin.ext ?_)
  match a with
  | ⟨0, _⟩ => show win0_2.index t 0 * 2048 + 1 * k.val = k.val; omega
  | ⟨1, _⟩ => show win0_2.index t 1 * 2048 + 1 * l.val = l.val; omega

theorem blk3 (c : Dev nD) (t : Fin cfg0.N) (l : Fin 2048) :
    (iblk m c 3 t : Vec Ideal S1x2048 .f32) (ix2 0 l) = a3 m c (ix2 0 l) := by
  have e := idx t
  unfold iblk
  rw [View.read_apply]
  show V m c main_arg3 _ = _
  rw [V_main_arg3]
  refine congrArg (a3 m c) (funext fun a => Fin.ext ?_)
  match a with
  | ⟨0, _⟩ => show win0_3.index t 0 * 1 + 1 * 0 = 0; omega
  | ⟨1, _⟩ => show win0_3.index t 1 * 2048 + 1 * l.val = l.val; omega

/-- The result array, as a function of the index. -/
def G (c : Dev nD) : Vec Ideal S32768x2048 .f32 := fun i => res (a0 m c) (a1 m c) (a2 m c) (a3 m c) (i 0) (i 1)

theorem flushed_eq (c : Dev nD) (t : Fin cfg0.N) : (dats m 0 c).flushed 4 t = ((cfg0.win 4).blk t).view.read (Elt Ideal) (G m c) := by
  rw [flushed4, out_eq]
  refine funext (forall_ix2 (N := 1024) (M := 2048) fun r l => ?_)
  have e := idx t
  have ht := lt_N t
  have hr := r.isLt
  have hR : 1024 * t.val + r.val < 32768 := by omega
  rw [View.read_apply]
  have hemb : ((cfg0.win 4).blk t).view.emb (ix2 r l) = (ix2 ⟨1024 * t.val + r.val, hR⟩ l : S32768x2048.Idx) := by
    funext a
    refine Fin.ext ?_
    match a with
    | ⟨0, _⟩ => show win0_4.index t 0 * 1024 + 1 * r.val = 1024 * t.val + r.val; omega
    | ⟨1, _⟩ => show win0_4.index t 1 * 2048 + 1 * l.val = l.val; omega
  refine Eq.trans ?_ (congrArg (G m c) hemb).symm
  show blkAt (iblk m c 0 t) (iblk m c 1 t) (iblk m c 2 t) (iblk m c 3 t) r l = res (a0 m c) (a1 m c) (a2 m c) (a3 m c) ⟨1024 * t.val + r.val, hR⟩ l
  unfold blkAt res
  rw [blk0 m c t r l hR]
  simp only [blk1 m c t r _ hR, blk2 m c t, blk3 m c t]

theorem final (c : Dev nD) : (dats m 0 c).arrAt 4 cfg0.N = G m c := by
  refine (dats m 0 c).arrAt_eq_of_cover 4 (G m c) (fun t _ => flushed_eq m c t) fun i => ?_
  change S32768x2048.Idx at i
  have h0 : (i 0).val < 32768 := (i 0).isLt
  have h1 : (i 1).val < 2048 := (i 1).isLt
  have hN : cfg0.N = 32 := N_0
  refine ⟨⟨(i 0).val / 1024, by omega⟩, (idx _).2.2.2.2.2.2.2.2.2.2, ?_⟩
  have e := idx ⟨(i 0).val / 1024, by omega⟩
  mem_blk
  dsimp only at e
  omega

theorem run (ρ : Dev nD → PrngReg) : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.ConvOutIdeal.Leg

end
-- ==== Proof.ConvOutRef.lean ====
/- The convolution module's output projection: the reference, read at an element. -/
module

public import proofs.«01_k».proof.Proof.Gen.ConvOutRefIdeal.Read
public import Idealize.ShloMosaic.Lib.Pointwise

@[expose] public section

set_option maxRecDepth 16384

noncomputable section

namespace Cert.ConvOutRefIdeal.Leg

open Cert.ConvOutRefIdeal Cert.ConvOutRefIdeal.Gen Cert.ConvOutRefIdeal.Read Idealize.ShloMosaic Idealize.ShloMosaic.TcCoe Idealize.SL.Sem

/-- The reference's result at an element. -/
theorem read (x0 : Vec Ideal S32768x2048 .f32) (x1 : Vec Ideal S32768x2048 .bf16) (x2 : Vec Ideal S2048x2048 .f32) (x3 : Vec Ideal S1x2048 .f32) (R : Fin 32768) (l : Fin 2048) :
    val_main_v4 (F := Ideal) x0 x1 x2 x3 (ix2 R l) = x0 (ix2 R l) + (∑ k, x1 (ix2 R k) * x2 (ix2 k l) + x3 (ix2 0 l)) := by
  pointwise [val_main_v0, val_main_v1, val_main_v2, val_main_v3, val_main_v4]

end Cert.ConvOutRefIdeal.Leg

end
-- ==== Proof.ConvOutClaims.lean ====
/- `ConvOut`: the frames of its three programs, and the equality of the kernel's result with the reference's. -/
module

public import proofs.«01_k».proof.Defs
public import proofs.«01_k».proof.Proof.ConvOutLeg
public import proofs.«01_k».proof.Proof.ConvOutRef
public import proofs.«01_k».proof.Proof.Gen.ConvOut
public import proofs.«01_k».proof.Proof.Gen.ConvOut.Frame
public import proofs.«01_k».proof.Proof.Gen.ConvOutRefIdeal
public import proofs.«01_k».proof.Proof.Gen.ConvOutRefIdeal.Run
public import Idealize.ShloMosaic.Lib.QuiescentFlight

@[expose] public section

set_option maxRecDepth 16384

noncomputable section

namespace Cert.Proof.ConvOut

open Idealize.ShloMosaic Idealize.SL.Sem

theorem frame : Cert.quiescent_ConvOut := fun m ρ _ => Cert.ConvOut.Gen.frame m ρ
theorem frame_ideal : Cert.quiescent_ConvOutIdeal := fun m ρ _ => Cert.ConvOutIdeal.Gen.frame m ρ
theorem frame_ref : Cert.quiescent_ConvOutRefIdeal := fun m ρ _ =>
  (θ_run Cert.ConvOutRefIdeal.defs _ _).mono (fun r h => ⟨fun c => (h c).2, sem_eq_zero_of_no_sems (by decide) r.2⟩)
    (Cert.ConvOutRefIdeal.Value.run (F := Ideal) m ρ)

theorem preserves : Cert.preserves_ConvOut_ConvOutIdeal := trivial

theorem algebraic : Cert.algebraic_ConvOutIdeal_ConvOutRefIdeal := by
  intro m ρ m' ρ' _ hagree
  refine ⟨fun c => Cert.ConvOutIdeal.Leg.G m c, Cert.ConvOutIdeal.Leg.run m ρ, ?_⟩
  refine (θ_run Cert.ConvOutRefIdeal.defs _ _).mono (fun _ h c => ?_) (Cert.ConvOutRefIdeal.Value.run m' ρ')
  refine ⟨(h c).1.trans ?_, (h c).2⟩
  refine (Cert.ConvOutRefIdeal.Read.val_main_v4_eq _ _ _ _).trans ?_
  obtain ⟨e0, e1, e2, e3⟩ := hagree c
  rw [e0, e1, e2, e3]
  funext i
  obtain ⟨R, l, rfl⟩ : ∃ (R : Fin 32768) (l : Fin 2048), i = ix2 R l := ⟨i 0, i 1, eq_ix2 i⟩
  exact (Cert.ConvOutRefIdeal.Leg.read _ _ _ _ R l).trans rfl

end Cert.Proof.ConvOut

end
-- ==== Proof.AttnTile.lean ====
module

public import proofs.«01_k».proof.Proof.Gen.AttnIdeal.Flash.Runs
public import Idealize.ShloMosaic.Lib.Pointwise
public import Idealize.ShloMosaic.Lib.VecWindow

@[expose] public section

set_option maxRecDepth 16384

noncomputable section

namespace Cert.AttnIdeal.Leg

open Cert.AttnIdeal Cert.AttnIdeal.Gen Idealize.ShloMosaic Idealize.ShloMosaic.TcCoe
open Idealize.SL Idealize.SL.RA Idealize.SL.BI Idealize.SL.Sem Idealize.ShloMosaic.Pipeline

/-! ## One row of a stack of rows, read and written -/

section Rows

variable {sig : RefSig} {κ : Kind} {sp : Space} {G p q : ℕ} {e : EltTy}

/-- Row `h` of a stack of `G` matrices lies inside the stack. -/
theorem row_in (h : ℕ) (hh : h < G) :
    ∀ a, (![h, 0, 0] : Fin 3 → ℕ) a + (⟨3, ![1, p, q]⟩ : Shape).size a ≤ (⟨3, ![G, p, q]⟩ : Shape).size a := by
  intro a
  match a with
  | ⟨0, _⟩ => show h + 1 ≤ G; omega
  | ⟨1, _⟩ => show 0 + p ≤ p; omega
  | ⟨2, _⟩ => show 0 + q ≤ q; omega

/-- Row `h` of the stack the view `v` sees in the contents `f`. -/
def row (v : View sig κ sp (⟨3, ![G, p, q]⟩ : Shape) e) (h : ℕ) (hh : h < G) (f : v.ty.Contents (Elt Ideal)) :
    (⟨3, ![1, p, q]⟩ : Shape).Idx → Elt Ideal e :=
  v.readAt (Elt Ideal) (Rect.unit (s := ⟨3, ![G, p, q]⟩) ![h, 0, 0] (⟨3, ![1, p, q]⟩ : Shape).size (row_in h hh)).toLoadRect f

/-- A row just written reads what was written. -/
theorem row_hit (v : View sig κ sp (⟨3, ![G, p, q]⟩ : Shape) e) (h : ℕ) (hh : h < G) (f : v.ty.Contents (Elt Ideal))
    (inb : ∀ a, (![h, 0, 0] : Fin 3 → ℕ) a + (⟨3, ![1, p, q]⟩ : Shape).size a ≤ (⟨3, ![G, p, q]⟩ : Shape).size a)
    (w : (⟨3, ![1, p, q]⟩ : Shape).Idx → Elt Ideal e) (L : List (View.Piece (Elt Ideal) (⟨3, ![G, p, q]⟩ : Shape) e)) :
    row v h hh (v.writes (Elt Ideal) f (⟨Rect.unit (s := ⟨3, ![G, p, q]⟩) ![h, 0, 0] (⟨3, ![1, p, q]⟩ : Shape).size inb, w⟩ :: L)) = w := by
  unfold row
  rw [View.readAt_unit v _ _ rfl (row_in h hh), View.read_writes_cons_put v f _ _ _ rfl, VecWindow.window_put_same]

/-- A row not written last reads what was there before. -/
theorem row_skip (v : View sig κ sp (⟨3, ![G, p, q]⟩ : Shape) e) (h h' : ℕ) (hh : h < G) (f : v.ty.Contents (Elt Ideal))
    (inb : ∀ a, (![h', 0, 0] : Fin 3 → ℕ) a + (⟨3, ![1, p, q]⟩ : Shape).size a ≤ (⟨3, ![G, p, q]⟩ : Shape).size a)
    (w : (⟨3, ![1, p, q]⟩ : Shape).Idx → Elt Ideal e) (L : List (View.Piece (Elt Ideal) (⟨3, ![G, p, q]⟩ : Shape) e)) (hne : h ≠ h') :
    row v h hh (v.writes (Elt Ideal) f (⟨Rect.unit (s := ⟨3, ![G, p, q]⟩) ![h', 0, 0] (⟨3, ![1, p, q]⟩ : Shape).size inb, w⟩ :: L))
      = row v h hh (v.writes (Elt Ideal) f L) := by
  unfold row
  rw [View.readAt_unit v _ _ rfl (row_in h hh), View.readAt_unit v _ _ rfl (row_in h hh), View.read_writes_cons_put v f _ _ _ rfl]
  exact VecWindow.window_put_of_disjoint _ _ _ _ _ _ _ 0 (by
    show h + 1 ≤ h' ∨ h' + 1 ≤ h
    omega)

/-- A row of a stack written as a whole, at an index. -/
theorem row_whole (v : View sig κ sp (⟨3, ![G, p, q]⟩ : Shape) e) (h : ℕ) (hh : h < G) (f : v.ty.Contents (Elt Ideal))
    (inb : ∀ a, (![0, 0, 0] : Fin 3 → ℕ) a + (⟨3, ![G, p, q]⟩ : Shape).size a ≤ (⟨3, ![G, p, q]⟩ : Shape).size a)
    (w : (⟨3, ![G, p, q]⟩ : Shape).Idx → Elt Ideal e) (L : List (View.Piece (Elt Ideal) (⟨3, ![G, p, q]⟩ : Shape) e)) :
    row v h hh (v.writes (Elt Ideal) f (⟨Rect.unit (s := ⟨3, ![G, p, q]⟩) ![0, 0, 0] (⟨3, ![G, p, q]⟩ : Shape).size inb, w⟩ :: L))
      = VecWindow.window w ![h, 0, 0] (⟨3, ![1, p, q]⟩ : Shape).size (row_in h hh) := by
  unfold row
  rw [View.readAt_unit v _ _ rfl (row_in h hh)]
  have e := View.read_writes_full v f inb w L
  rw [e]

/-- A row at an index. -/
theorem row_apply (v : View sig κ sp (⟨3, ![G, p, q]⟩ : Shape) e) (h : ℕ) (hh : h < G) (f : v.ty.Contents (Elt Ideal)) (a : Fin p) (b : Fin q) :
    row v h hh f (ix3 0 a b) = v.read (Elt Ideal) f (ix3 ⟨h, hh⟩ a b) := by
  refine congrArg (v.read (Elt Ideal) f) (funext fun x => Fin.ext ?_)
  match x with
  | ⟨0, _⟩ => rfl
  | ⟨1, _⟩ => show 0 + 1 * a.val = a.val; omega
  | ⟨2, _⟩ => show 0 + 1 * b.val = b.val; omega

end Rows

/-! ## One head's step over one key tile -/

/-- The scores of a head over a key tile. -/
def tS (k : Vec Ideal S1x1024x128 .bf16) (q : Vec Ideal S1x128x1024 .bf16) (b : Vec Ideal S1024x1024 .f32) : FVec Ideal S1x1024x1024 .f32 := k0_pay8 k q b
/-- Their maximum over the tile's keys. -/
def tX (k : Vec Ideal S1x1024x128 .bf16) (q : Vec Ideal S1x128x1024 .bf16) (b : Vec Ideal S1024x1024 .f32) : FVec Ideal S1x1x1024 .f32 := k0_pay10 (k0_pay9 k q b)
/-- The running maximum after the tile. -/
def tM (m x : Vec Ideal S1x1x1024 .f32) : FVec Ideal S1x1x1024 .f32 := k0_pay18 (k0_pay12 m x)
/-- The running denominator after the tile. -/
def tL (m x : Vec Ideal S1x1x1024 .f32) (s : Vec Ideal S1x1024x1024 .f32) (v : Vec Ideal S1x144x1024 .bf16) (l : Vec Ideal S1x1x1024 .f32) : FVec Ideal S1x1x1024 .f32 :=
  k0_pay16 (k0_pay13 m x) (k0_pay14 m x s) v l
/-- The running numerator after the tile. -/
def tA (m x : Vec Ideal S1x1x1024 .f32) (s : Vec Ideal S1x1024x1024 .f32) (v : Vec Ideal S1x144x1024 .bf16) (a : Vec Ideal S1x128x1024 .f32) : FVec Ideal S1x128x1024 .f32 :=
  k0_pay17 (k0_pay13 m x) (k0_pay14 m x s) v a

theorem tM_of {m x y : Vec Ideal S1x1x1024 .f32} (h : x = y) : tM m x = tM m y := congrArg _ h
theorem tL_of {m m' x x' : Vec Ideal S1x1x1024 .f32} {s s' : Vec Ideal S1x1024x1024 .f32} {v : Vec Ideal S1x144x1024 .bf16} {l l' : Vec Ideal S1x1x1024 .f32}
    (hm : m = m') (hx : x = x') (hs : s = s') (hl : l = l') : tL m x s v l = tL m' x' s' v l' := by rw [hm, hx, hs, hl]
theorem tA_of {m m' x x' : Vec Ideal S1x1x1024 .f32} {s s' : Vec Ideal S1x1024x1024 .f32} {v : Vec Ideal S1x144x1024 .bf16} {l l' : Vec Ideal S1x128x1024 .f32}
    (hm : m = m') (hx : x = x') (hs : s = s') (hl : l = l') : tA m x s v l = tA m' x' s' v l' := by rw [hm, hx, hs, hl]
theorem tM_of2 {m m' x y : Vec Ideal S1x1x1024 .f32} (hm : m = m') (h : x = y) : tM m x = tM m' y := by rw [hm, h]

/-- What the bias buffer holds: the bias block. -/
def bB (arg7 : Memref sig .tc .vmem S1x1x1024x1024 .bf16) (x3 : S1x1x1024x1024.Idx → Elt Ideal .bf16) : Vec Ideal S1024x1024 .f32 :=
  k0_pay47 (View.readAt (Elt Ideal) arg7.view (Rect.unit (s := S1x1x1024x1024) ![0, 0, 0, 0] S1x1x1024x1024.size inb_S1x1x1024x1024_S1x1x1024x1024_0_0_0_0).toLoadRect (arg7.view.rep x3))

/-- A head's part of the output block. -/
def tO (a : Vec Ideal S1x128x1024 .f32) (l : Vec Ideal S1x1x1024 .f32) : FVec Ideal S1024x128 .bf16 := k0_pay5 a l

theorem tO_of {l l' : Vec Ideal S1x1x1024 .f32} {a a' : Vec Ideal S1x128x1024 .f32} (ha : a = a') (hl : l = l') : tO a l = tO a' l' := by rw [ha, hl]

/-- The first maximum of a head. -/
def iM (h : ℕ) (hh : h < 16) : Vec Ideal S1x1x1024 .f32 := VecWindow.window (k0_pay44 (F := Ideal)) ![h, 0, 0] S1x1x1024.size (row_in h hh)
/-- The first denominator of a head. -/
def iL (h : ℕ) (hh : h < 16) : Vec Ideal S1x1x1024 .f32 := VecWindow.window (k0_pay45 (F := Ideal)) ![h, 0, 0] S1x1x1024.size (row_in h hh)
/-- The first numerator of a head. -/
def iA (h : ℕ) (hh : h < 16) : Vec Ideal S1x128x1024 .f32 := VecWindow.window (k0_pay46 (F := Ideal)) ![h, 0, 0] S1x128x1024.size (row_in h hh)

/-! ## The same at the scratch buffers' own shapes -/

section Scratch
variable (h h' : ℕ) (hh : h < 16)

theorem rs_skip (v : View sig .tc .vmem S16x1x1024 .f32) (f : v.ty.Contents (Elt Ideal))
    (inb : ∀ a, (![h', 0, 0] : Fin 3 → ℕ) a + S1x1x1024.size a ≤ S16x1x1024.size a)
    (w : S1x1x1024.Idx → Elt Ideal .f32) (L : List (View.Piece (Elt Ideal) S16x1x1024 .f32)) (hne : h ≠ h') :
    row v h hh (v.writes (Elt Ideal) f (⟨Rect.unit (s := S16x1x1024) ![h', 0, 0] S1x1x1024.size inb, w⟩ :: L))
      = row v h hh (v.writes (Elt Ideal) f L) := row_skip v h h' hh f inb w L hne

theorem rs_hit (v : View sig .tc .vmem S16x1x1024 .f32) (f : v.ty.Contents (Elt Ideal))
    (inb : ∀ a, (![h, 0, 0] : Fin 3 → ℕ) a + S1x1x1024.size a ≤ S16x1x1024.size a)
    (w : S1x1x1024.Idx → Elt Ideal .f32) (L : List (View.Piece (Elt Ideal) S16x1x1024 .f32)) :
    row v h hh (v.writes (Elt Ideal) f (⟨Rect.unit (s := S16x1x1024) ![h, 0, 0] S1x1x1024.size inb, w⟩ :: L)) = w :=
  row_hit v h hh f inb w L

theorem rs_whole (v : View sig .tc .vmem S16x1x1024 .f32) (f : v.ty.Contents (Elt Ideal))
    (inb : ∀ a, (![0, 0, 0] : Fin 3 → ℕ) a + S16x1x1024.size a ≤ S16x1x1024.size a)
    (w : S16x1x1024.Idx → Elt Ideal .f32) (L : List (View.Piece (Elt Ideal) S16x1x1024 .f32)) :
    row v h hh (v.writes (Elt Ideal) f (⟨Rect.unit (s := S16x1x1024) ![0, 0, 0] S16x1x1024.size inb, w⟩ :: L))
      = VecWindow.window w ![h, 0, 0] S1x1x1024.size (row_in h hh) := row_whole v h hh f inb w L

theorem ra_skip (v : View sig .tc .vmem S16x128x1024 .f32) (f : v.ty.Contents (Elt Ideal))
    (inb : ∀ a, (![h', 0, 0] : Fin 3 → ℕ) a + S1x128x1024.size a ≤ S16x128x1024.size a)
    (w : S1x128x1024.Idx → Elt Ideal .f32) (L : List (View.Piece (Elt Ideal) S16x128x1024 .f32)) (hne : h ≠ h') :
    row v h hh (v.writes (Elt Ideal) f (⟨Rect.unit (s := S16x128x1024) ![h', 0, 0] S1x128x1024.size inb, w⟩ :: L))
      = row v h hh (v.writes (Elt Ideal) f L) := row_skip v h h' hh f inb w L hne

theorem ra_hit (v : View sig .tc .vmem S16x128x1024 .f32) (f : v.ty.Contents (Elt Ideal))
    (inb : ∀ a, (![h, 0, 0] : Fin 3 → ℕ) a + S1x128x1024.size a ≤ S16x128x1024.size a)
    (w : S1x128x1024.Idx → Elt Ideal .f32) (L : List (View.Piece (Elt Ideal) S16x128x1024 .f32)) :
    row v h hh (v.writes (Elt Ideal) f (⟨Rect.unit (s := S16x128x1024) ![h, 0, 0] S1x128x1024.size inb, w⟩ :: L)) = w :=
  row_hit v h hh f inb w L

theorem ra_whole (v : View sig .tc .vmem S16x128x1024 .f32) (f : v.ty.Contents (Elt Ideal))
    (inb : ∀ a, (![0, 0, 0] : Fin 3 → ℕ) a + S16x128x1024.size a ≤ S16x128x1024.size a)
    (w : S16x128x1024.Idx → Elt Ideal .f32) (L : List (View.Piece (Elt Ideal) S16x128x1024 .f32)) :
    row v h hh (v.writes (Elt Ideal) f (⟨Rect.unit (s := S16x128x1024) ![0, 0, 0] S16x128x1024.size inb, w⟩ :: L))
      = VecWindow.window w ![h, 0, 0] S1x128x1024.size (row_in h hh) := row_whole v h hh f inb w L

end Scratch

theorem tX21 (k : Vec Ideal S1x1024x128 .bf16) (q : Vec Ideal S1x128x1024 .bf16) (b : Vec Ideal S1024x1024 .f32) : k0_pay21 k q b = tX k q b := rfl
theorem tX50 (k : Vec Ideal S1x1024x128 .bf16) (q : Vec Ideal S1x128x1024 .bf16) (b : Vec Ideal S1024x1024 .f32) : k0_pay50 k q b = tX k q b := rfl
theorem tX55 (k : Vec Ideal S1x1024x128 .bf16) (q : Vec Ideal S1x128x1024 .bf16) (b : Vec Ideal S1024x1024 .f32) : k0_pay55 (k0_pay53 k q b) = tX k q b := rfl
theorem tX10 (k : Vec Ideal S1x1024x128 .bf16) (q : Vec Ideal S1x128x1024 .bf16) (b : Vec Ideal S1024x1024 .f32) : k0_pay10 (k0_pay9 k q b) = tX k q b := rfl
theorem tS20 (k : Vec Ideal S1x1024x128 .bf16) (q : Vec Ideal S1x128x1024 .bf16) (b : Vec Ideal S1024x1024 .f32) : k0_pay20 k q b = tS k q b := rfl
theorem tS49 (k : Vec Ideal S1x1024x128 .bf16) (q : Vec Ideal S1x128x1024 .bf16) (b : Vec Ideal S1024x1024 .f32) : k0_pay49 k q b = tS k q b := rfl
theorem tS54 (k : Vec Ideal S1x1024x128 .bf16) (q : Vec Ideal S1x128x1024 .bf16) (b : Vec Ideal S1024x1024 .f32) : k0_pay54 k q b = tS k q b := rfl
theorem tS8 (k : Vec Ideal S1x1024x128 .bf16) (q : Vec Ideal S1x128x1024 .bf16) (b : Vec Ideal S1024x1024 .f32) : k0_pay8 k q b = tS k q b := rfl
theorem tX_of {k k' : Vec Ideal S1x1024x128 .bf16} {q q' : Vec Ideal S1x128x1024 .bf16} {b b' : Vec Ideal S1024x1024 .f32} (hk : k = k') (hq : q = q') (hb : b = b') :
    tX k q b = tX k' q' b' := by rw [hk, hq, hb]
theorem tS_of {k k' : Vec Ideal S1x1024x128 .bf16} {q q' : Vec Ideal S1x128x1024 .bf16} {b b' : Vec Ideal S1024x1024 .f32} (hk : k = k') (hq : q = q') (hb : b = b') :
    tS k q b = tS k' q' b' := by rw [hk, hq, hb]

section Blocks
variable (arg4 : Memref sig .tc .vmem S16x128x1024 .bf16) (arg5 : Memref sig .tc .vmem S4x1024x128 .bf16) (arg6 : Memref sig .tc .vmem S4x144x1024 .bf16) (arg7 : Memref sig .tc .vmem S1x1x1024x1024 .bf16)
variable (x0 : S16x128x1024.Idx → Elt Ideal .bf16) (x1 : S4x1024x128.Idx → Elt Ideal .bf16) (x2 : S4x144x1024.Idx → Elt Ideal .bf16) (x3 : S1x1x1024x1024.Idx → Elt Ideal .bf16)

/-- The key rows a head reads. -/
def hK (h : ℕ) (hh : h < 16) : Vec Ideal S1x1024x128 .bf16 := row arg5.view (h / 4) (by omega) (arg5.view.rep x1)
/-- The query columns a head reads. -/
def hQ (h : ℕ) (hh : h < 16) : Vec Ideal S1x128x1024 .bf16 := row arg4.view h hh (arg4.view.rep x0)
/-- The value rows a head reads. -/
def hV (h : ℕ) (hh : h < 16) : Vec Ideal S1x144x1024 .bf16 := row arg6.view (h / 4) (by omega) (arg6.view.rep x2)
/-- A head's tile maximum. -/
def hX (h : ℕ) (hh : h < 16) : FVec Ideal S1x1x1024 .f32 := tX (hK arg5 x1 h hh) (hQ arg4 x0 h hh) (bB arg7 x3)
/-- A head's tile scores. -/
def hS (h : ℕ) (hh : h < 16) : FVec Ideal S1x1024x1024 .f32 := tS (hK arg5 x1 h hh) (hQ arg4 x0 h hh) (bB arg7 x3)
end Blocks

/-- The maxima's buffer after a list of stores. -/
abbrev w0 (L : List (View.Piece (Elt Ideal) S16x1x1024 .f32)) : scM0_0.view.ty.Contents (Elt Ideal) := scM0_0.view.writes (Elt Ideal) scM0_0.view.junk L
/-- The denominators' buffer after a list of stores. -/
abbrev w1 (L : List (View.Piece (Elt Ideal) S16x1x1024 .f32)) : scM0_1.view.ty.Contents (Elt Ideal) := scM0_1.view.writes (Elt Ideal) scM0_1.view.junk L
/-- The numerators' buffer after a list of stores. -/
abbrev w2 (L : List (View.Piece (Elt Ideal) S16x128x1024 .f32)) : scM0_2.view.ty.Contents (Elt Ideal) := scM0_2.view.writes (Elt Ideal) scM0_2.view.junk L

/-! ## The output block, a head's columns at a time -/

theorem col_in (h : ℕ) (hh : h < 16) : ∀ a, (![0, 128 * h] : Fin 2 → ℕ) a + S1024x128.size a ≤ S1024x2048.size a := by
  intro a
  match a with
  | ⟨0, _⟩ => show 0 + 1024 ≤ 1024; omega
  | ⟨1, _⟩ => show 128 * h + 128 ≤ 2048; omega

/-- A head's columns. -/
def col (h : ℕ) (hh : h < 16) (X : S1024x2048.Idx → Elt Ideal .bf16) : S1024x128.Idx → Elt Ideal .bf16 :=
  VecWindow.window X ![0, 128 * h] S1024x128.size (col_in h hh)

theorem col_apply (h : ℕ) (hh : h < 16) (X : S1024x2048.Idx → Elt Ideal .bf16) (l : Fin 1024) (d : Fin 128) :
    col h hh X (ix2 l d) = X (ix2 l ⟨128 * h + d.val, by omega⟩) := by
  refine congrArg X (funext fun x => Fin.ext ?_)
  match x with
  | ⟨0, _⟩ => show 0 + 1 * l.val = l.val; omega
  | ⟨1, _⟩ => show 128 * h + 1 * d.val = 128 * h + d.val; omega

theorem col_hit (h : ℕ) (hh : h < 16) (o : ℕ) (v : View sig .tc .vmem S1024x2048 .bf16) (f : v.ty.Contents (Elt Ideal)) (ho : o = 128 * h)
    (inb : ∀ a, (![0, o] : Fin 2 → ℕ) a + S1024x128.size a ≤ S1024x2048.size a)
    (w : S1024x128.Idx → Elt Ideal .bf16) (L : List (View.Piece (Elt Ideal) S1024x2048 .bf16)) :
    col h hh (v.read (Elt Ideal) (v.writes (Elt Ideal) f (⟨Rect.unit (s := S1024x2048) ![0, o] S1024x128.size inb, w⟩ :: L))) = w := by
  subst ho
  unfold col
  rw [View.read_writes_cons_put v f _ _ _ rfl, VecWindow.window_put_same]

theorem col_skip (h : ℕ) (hh : h < 16) (o : ℕ) (v : View sig .tc .vmem S1024x2048 .bf16) (f : v.ty.Contents (Elt Ideal)) (ho : 128 * h + 128 ≤ o)
    (inb : ∀ a, (![0, o] : Fin 2 → ℕ) a + S1024x128.size a ≤ S1024x2048.size a)
    (w : S1024x128.Idx → Elt Ideal .bf16) (L : List (View.Piece (Elt Ideal) S1024x2048 .bf16)) :
    col h hh (v.read (Elt Ideal) (v.writes (Elt Ideal) f (⟨Rect.unit (s := S1024x2048) ![0, o] S1024x128.size inb, w⟩ :: L)))
      = col h hh (v.read (Elt Ideal) (v.writes (Elt Ideal) f L)) := by
  unfold col
  rw [View.read_writes_cons_put v f _ _ _ rfl]
  exact VecWindow.window_put_of_disjoint _ _ _ _ _ _ _ 1 (Or.inl ho)

end Cert.AttnIdeal.Leg

end
-- ==== Proof.AttnHead.lean ====
module

public import proofs.«01_k».proof.Proof.AttnTile

@[expose] public section

set_option maxRecDepth 16384

noncomputable section

namespace Cert.AttnIdeal.Leg

open Cert.AttnIdeal Cert.AttnIdeal.Gen Idealize.ShloMosaic Idealize.ShloMosaic.TcCoe Idealize.SL.Sem

/-- The word of minus infinity. -/
theorem ninf : Ideal.ofBits .f32 4286578688#32 = ⊥ := by simp [Ideal.ofBits, Ideal.ieee]

theorem tM_at (m x : Vec Ideal S1x1x1024 .f32) (l : Fin 1024) : tM m x (ix3 0 0 l) = max (m (ix3 0 0 l)) (x (ix3 0 0 l)) := by
  pointwise [tM, k0_pay18, k0_pay12, k0_pay11]

theorem tS_at (k : Vec Ideal S1x1024x128 .bf16) (q : Vec Ideal S1x128x1024 .bf16) (b : Vec Ideal S1024x1024 .f32) (r l : Fin 1024) :
    tS k q b (ix3 0 r l) = (∑ d : Fin 128, k (ix3 0 r d) * q (ix3 0 d l)) + b (ix2 r l) := by
  pointwise [tS, k0_pay8, k0_pay7]

theorem tX_at (k : Vec Ideal S1x1024x128 .bf16) (q : Vec Ideal S1x128x1024 .bf16) (b : Vec Ideal S1024x1024 .f32) (l : Fin 1024) :
    tX k q b (ix3 0 0 l) = (Finset.univ : Finset (Fin 1024)).fold max ⊥ fun r => (∑ d : Fin 128, k (ix3 0 r d) * q (ix3 0 d l)) + b (ix2 r l) := by
  pointwise [tX, k0_pay10, k0_pay9, k0_pay7]
  rw [ninf]

theorem tL_at (m x : Vec Ideal S1x1x1024 .f32) (s : Vec Ideal S1x1024x1024 .f32) (v : Vec Ideal S1x144x1024 .bf16) (y : Vec Ideal S1x1x1024 .f32) (l : Fin 1024) :
    tL m x s v y (ix3 0 0 l) = Ideal.exp2 (m (ix3 0 0 l) - max (m (ix3 0 0 l)) (x (ix3 0 0 l))) * y (ix3 0 0 l)
      + ∑ r : Fin 1024, v (ix3 0 128 r) * Ideal.exp2 (s (ix3 0 r l) - max (m (ix3 0 0 l)) (x (ix3 0 0 l))) := by
  pointwise [tL, k0_pay16, k0_pay13, k0_pay14, k0_pay15, k0_pay12, k0_pay11]
  rfl

theorem tA_at (m x : Vec Ideal S1x1x1024 .f32) (s : Vec Ideal S1x1024x1024 .f32) (v : Vec Ideal S1x144x1024 .bf16) (y : Vec Ideal S1x128x1024 .f32) (l : Fin 1024) (d : Fin 128) :
    tA m x s v y (ix3 0 d l) = Ideal.exp2 (m (ix3 0 0 l) - max (m (ix3 0 0 l)) (x (ix3 0 0 l))) * y (ix3 0 d l)
      + ∑ r : Fin 1024, v (ix3 0 ⟨d.val, by omega⟩ r) * Ideal.exp2 (s (ix3 0 r l) - max (m (ix3 0 0 l)) (x (ix3 0 0 l))) := by
  pointwise [tA, k0_pay17, k0_pay13, k0_pay14, k0_pay15, k0_pay12, k0_pay11]
  rfl

theorem tO_at (a : Vec Ideal S1x128x1024 .f32) (y : Vec Ideal S1x1x1024 .f32) (l : Fin 1024) (d : Fin 128) :
    tO a y (ix2 l d) = Ideal.div (a (ix3 0 d l)) (y (ix3 0 0 l)) := by
  pointwise [tO, k0_pay5]

theorem bB_at (arg7 : Memref sig .tc .vmem S1x1x1024x1024 .bf16) (x3 : S1x1x1024x1024.Idx → Elt Ideal .bf16) (r l : Fin 1024) : bB arg7 x3 (ix2 r l) = x3 (ix4 0 0 r l) := by
  unfold bB
  rw [View.readAt_rep_full]
  pointwise [k0_pay47]

end Cert.AttnIdeal.Leg

end
-- ==== Proof.AttnSum.lean ====
module

public import proofs.«01_k».proof.Proof.AttnHead

@[expose] public section

set_option maxRecDepth 16384

noncomputable section

namespace Cert.AttnIdeal.Leg

open Cert.AttnIdeal Cert.AttnIdeal.Gen Idealize.ShloMosaic Idealize.ShloMosaic.TcCoe Idealize.SL.Sem

/-! ## Sums and maxima of real numbers among the extended reals -/

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A maximum of real numbers and minus infinities, one of them real, is real. -/
theorem fold_real {n : ℕ} (f : Fin n → EReal) (ht : ∀ i, f i ≠ ⊤) (hb : ∃ i, f i ≠ ⊥) :
    ∃ T : ℝ, (Finset.univ : Finset (Fin n)).fold max ⊥ f = (T : EReal) := by
  have h1 : (Finset.univ : Finset (Fin n)).fold max ⊥ f < ⊤ :=
    (Finset.fold_max_lt _).2 ⟨bot_lt_top, fun i _ => lt_top_iff_ne_top.2 (ht i)⟩
  have h2 : ⊥ < (Finset.univ : Finset (Fin n)).fold max ⊥ f := by
    obtain ⟨i, hi⟩ := hb
    exact (Finset.lt_fold_max _).2 (.inr ⟨i, Finset.mem_univ i, bot_lt_iff_ne_bot.2 hi⟩)
  exact ⟨_, (EReal.coe_toReal h1.ne h2.ne').symm⟩

/-! ## One tile's step of the running softmax -/

/-- A head's running maximum, denominator and numerator at a column, up to the maximum's factor. -/
def Good (m l : Vec Ideal S1x1x1024 .f32) (a : Vec Ideal S1x128x1024 .f32) (c : Fin 1024) (L : ℝ) (A : Fin 128 → ℝ) : Prop :=
  ∃ M : ℝ, m (ix3 0 0 c) = (M : EReal) ∧ l (ix3 0 0 c) = (((2 : ℝ) ^ (-M) * L : ℝ) : EReal) ∧ ∀ d, a (ix3 0 d c) = (((2 : ℝ) ^ (-M) * A d : ℝ) : EReal)

theorem step_real (M M' L : ℝ) (σ w : Fin 1024 → ℝ) (f : Fin 1024 → EReal) (v : Fin 1024 → EReal) (hf : ∀ r, f r = (σ r : EReal)) (hv : ∀ r, v r = (w r : EReal)) :
    Ideal.exp2 ((M : EReal) - (M' : EReal)) * (((2 : ℝ) ^ (-M) * L : ℝ) : EReal) + ∑ r : Fin 1024, v r * Ideal.exp2 (f r - (M' : EReal))
      = (((2 : ℝ) ^ (-M') * (L + ∑ r : Fin 1024, w r * (2 : ℝ) ^ σ r) : ℝ) : EReal) := by
  have hp : ∀ x y : ℝ, (2 : ℝ) ^ (x - y) = (2 : ℝ) ^ (-y) * (2 : ℝ) ^ x := fun x y => by
    rw [← Real.rpow_add two_pos]; congr 1; ring
  have h1 : ∀ x y : ℝ, Ideal.exp2 ((x : EReal) - (y : EReal)) = (((2 : ℝ) ^ (-y) * (2 : ℝ) ^ x : ℝ) : EReal) := fun x y => by
    rw [← EReal.coe_sub, Ideal.exp2_coe]
    exact congrArg _ (hp x y)
  have h2 : ∀ r, v r * Ideal.exp2 (f r - (M' : EReal)) = ((w r * ((2 : ℝ) ^ (-M') * (2 : ℝ) ^ σ r) : ℝ) : EReal) := fun r => by
    rw [hf, hv, h1, ← EReal.coe_mul]
  simp only [h2]
  rw [coe_sum, h1, ← EReal.coe_mul, ← EReal.coe_add]
  have h3 : (2 : ℝ) ^ M * (2 : ℝ) ^ (-M) = 1 := by rw [← Real.rpow_add two_pos]; simp
  refine congrArg _ ?_
  rw [mul_add, Finset.mul_sum]
  refine congrArg₂ _ ?_ (Finset.sum_congr rfl fun r _ => by ring)
  calc (2 : ℝ) ^ (-M') * (2 : ℝ) ^ M * ((2 : ℝ) ^ (-M) * L) = (2 : ℝ) ^ (-M') * ((2 : ℝ) ^ M * (2 : ℝ) ^ (-M)) * L := by ring
    _ = (2 : ℝ) ^ (-M') * L := by rw [h3, mul_one]

theorem good_step {m l : Vec Ideal S1x1x1024 .f32} {a : Vec Ideal S1x128x1024 .f32} {c : Fin 1024} {L : ℝ} {A : Fin 128 → ℝ} (hg : Good m l a c L A)
    {x : Vec Ideal S1x1x1024 .f32} {s : Vec Ideal S1x1024x1024 .f32} {v : Vec Ideal S1x144x1024 .bf16} {σ : Fin 1024 → ℝ} {w : Fin 128 → Fin 1024 → ℝ}
    (hx : x (ix3 0 0 c) = (Finset.univ : Finset (Fin 1024)).fold max ⊥ fun r => s (ix3 0 r c))
    (hs : ∀ r, s (ix3 0 r c) = (σ r : EReal)) (h1 : ∀ r, v (ix3 0 128 r) = 1) (hv : ∀ (d : Fin 128) r, v (ix3 0 ⟨d.val, by omega⟩ r) = (w d r : EReal)) :
    Good (tM m x) (tL m x s v l) (tA m x s v a) c (L + ∑ r : Fin 1024, (2 : ℝ) ^ σ r) (fun d => A d + ∑ r : Fin 1024, w d r * (2 : ℝ) ^ σ r) := by
  obtain ⟨M, hM, hL, hA⟩ := hg
  obtain ⟨T, hT⟩ := fold_real (fun r => s (ix3 0 r c)) (fun r => by rw [hs]; exact EReal.coe_ne_top _) ⟨0, by rw [hs]; exact EReal.coe_ne_bot _⟩
  have hmax : max (m (ix3 0 0 c)) (x (ix3 0 0 c)) = ((max M T : ℝ) : EReal) := by
    rw [hM, hx, hT]; exact (EReal.coe_strictMono.monotone.map_max (a := M) (b := T)).symm
  refine ⟨max M T, ?_, ?_, fun d => ?_⟩
  · rw [tM_at, hmax]
  · rw [tL_at, hmax, hM, hL, step_real M (max M T) L σ (fun _ => 1) _ _ hs (fun r => by rw [h1]; rfl)]
    simp only [one_mul]
  · rw [tA_at, hmax, hM, hA d, step_real M (max M T) (A d) σ (w d) _ _ hs (hv d)]

/-- The output of a head at a column. -/
theorem good_out {m l : Vec Ideal S1x1x1024 .f32} {a : Vec Ideal S1x128x1024 .f32} {c : Fin 1024} {L : ℝ} {A : Fin 128 → ℝ} (hg : Good m l a c L A) (hL : L ≠ 0) (d : Fin 128) :
    tO a l (ix2 c d) = ((A d / L : ℝ) : EReal) := by
  obtain ⟨M, -, h1, h2⟩ := hg
  have hp : (2 : ℝ) ^ (-M) ≠ 0 := (Real.rpow_pos_of_pos two_pos _).ne'
  rw [tO_at, h1, h2 d, Ideal.div_coe (mul_ne_zero hp hL), ← EReal.coe_mul]
  refine congrArg _ ?_
  field_simp

/-- Before the first tile. -/
theorem good_init (h : Fin 16) (c : Fin 1024) : Good (iM h.val h.isLt) (iL h.val h.isLt) (iA h.val h.isLt) c 0 (fun _ => 0) := by
  have e : iM h.val h.isLt (ix3 0 0 c) = Ideal.ofBits .f32 0xF149F2CA#32 := rfl
  have e1 : iL h.val h.isLt (ix3 0 0 c) = Ideal.ofBits .f32 0#32 := rfl
  have e2 : ∀ d, iA h.val h.isLt (ix3 0 d c) = Ideal.ofBits .f32 0#32 := fun _ => rfl
  have z : Ideal.ofBits .f32 0#32 = 0 := by simp [Ideal.ofBits, Ideal.ieee]
  refine ⟨(Ideal.ofBits .f32 0xF149F2CA#32).toReal, ?_, ?_, fun d => ?_⟩
  · rw [e]
    refine (EReal.coe_toReal ?_ ?_).symm <;> simp [Ideal.ofBits, Ideal.ieee] <;> first | exact EReal.coe_ne_top _ | exact EReal.coe_ne_bot _
  · rw [e1, z]; simp
  · rw [e2, z]; simp

/-! ## The whole row at once -/

/-- A sum over the first `1024 (n + 1)` keys, the last tile's part apart. -/
theorem sum_tile (f : ℕ → ℝ) (n : ℕ) : ∑ s ∈ Finset.range (1024 * (n + 1)), f s = ∑ s ∈ Finset.range (1024 * n), f s + ∑ r : Fin 1024, f (1024 * n + r.val) := by
  rw [mul_add, mul_one, Finset.sum_range_add, Finset.sum_range (fun x => f (1024 * n + x))]

/-- The reference's softmax over all keys, those past the limit excluded. -/
theorem whole_row (n : ℕ) (hn : 0 < n) (hn' : n ≤ 8192) (f v : Fin 8192 → EReal) (σ w : ℕ → ℝ)
    (hf : ∀ s : Fin 8192, f s = if s.val < n then (σ s.val : EReal) else ⊥) (hv : ∀ s : Fin 8192, v s = (w s.val : EReal)) :
    Ideal.div (∑ s, v s * Ideal.pow (Ideal.ofBits .f32 1073741824#32) (f s - (Finset.univ : Finset (Fin 8192)).fold max ⊥ f))
      (∑ s, Ideal.pow (Ideal.ofBits .f32 1073741824#32) (f s - (Finset.univ : Finset (Fin 8192)).fold max ⊥ f))
      = (((∑ s ∈ Finset.range n, w s * (2 : ℝ) ^ σ s) / (∑ s ∈ Finset.range n, (2 : ℝ) ^ σ s) : ℝ) : EReal) := by
  obtain ⟨T, hT⟩ := fold_real f (fun s => by rw [hf]; split <;> simp) ⟨⟨0, by omega⟩, by rw [hf, if_pos hn]; exact EReal.coe_ne_bot _⟩
  have two : Ideal.ofBits .f32 1073741824#32 = ((2 : ℝ) : EReal) := by
    simp [Ideal.ofBits, Ideal.ieee]
    rw [← EReal.coe_mul]
    norm_num
  have hp : ∀ s : Fin 8192, Ideal.pow (Ideal.ofBits .f32 1073741824#32) (f s - (Finset.univ : Finset (Fin 8192)).fold max ⊥ f)
      = (((2 : ℝ) ^ (-T) * (if s.val < n then (2 : ℝ) ^ σ s.val else 0) : ℝ) : EReal) := fun s => by
    rw [hT, hf, two]
    split
    · rw [← EReal.coe_sub, Ideal.pow_coe_coe, ← Real.rpow_add two_pos]
      refine congrArg _ (congrArg _ ?_)
      ring
    · rw [EReal.bot_sub, Ideal.pow_coe_bot]
      simp
  have hs : ∀ g : ℕ → ℝ, ∑ s : Fin 8192, (2 : ℝ) ^ (-T) * (if s.val < n then g s.val else 0) = (2 : ℝ) ^ (-T) * ∑ s ∈ Finset.range n, g s := fun g => by
    rw [← Finset.mul_sum, ← Finset.sum_range (fun s => if s < n then g s else 0), ← Finset.sum_filter]
    refine congrArg _ (Finset.sum_congr ?_ fun _ _ => rfl)
    ext s
    simp only [Finset.mem_filter, Finset.mem_range]
    omega
  have hvp : ∀ s : Fin 8192, v s * Ideal.pow (Ideal.ofBits .f32 1073741824#32) (f s - (Finset.univ : Finset (Fin 8192)).fold max ⊥ f)
      = (((2 : ℝ) ^ (-T) * (if s.val < n then w s.val * (2 : ℝ) ^ σ s.val else 0) : ℝ) : EReal) := fun s => by
    rw [hp, hv, ← EReal.coe_mul]
    refine congrArg _ ?_
    split <;> ring
  have hz : (2 : ℝ) ^ (-T) ≠ 0 := (Real.rpow_pos_of_pos two_pos _).ne'
  have hq : ∑ s ∈ Finset.range n, (2 : ℝ) ^ σ s ≠ 0 := (Finset.sum_pos (fun s _ => Real.rpow_pos_of_pos two_pos _) ⟨0, Finset.mem_range.2 hn⟩).ne'
  simp only [hvp]
  simp only [hp]
  rw [coe_sum, coe_sum, hs fun s => w s * (2 : ℝ) ^ σ s, hs fun s => (2 : ℝ) ^ σ s, Ideal.div_coe (mul_ne_zero hz hq), ← EReal.coe_mul]
  refine congrArg _ ?_
  field_simp

end Cert.AttnIdeal.Leg

end
-- ==== Proof.AttnBlk.lean ====
module

public import proofs.«01_k».proof.Proof.AttnSum
public import proofs.«01_k».proof.Proof.Gen.AttnIdeal.Flash

@[expose] public section

set_option maxRecDepth 16384

noncomputable section

namespace Cert.AttnIdeal.Leg

open Cert.AttnIdeal Cert.AttnIdeal.Gen Idealize.ShloMosaic Idealize.ShloMosaic.TcCoe Idealize.SL.Sem

variable (m : (ℓ : Loc nD τ sig) → Buf (Elt Ideal) ℓ) (ρ : Dev nD → PrngReg)

/-! ## A point's batch, query tile and key tile -/

/-- The query tile at position `n` of the causal order. -/
abbrev qiN (n : ℕ) : ℕ := [0, 1, 1, 2, 2, 2, 3, 3, 3, 3, 4, 4, 4, 4, 4, 5, 5, 5, 5, 5, 5, 6, 6, 6, 6, 6, 6, 6, 7, 7, 7, 7, 7, 7, 7, 7].getD n 0
/-- The key tile at position `n` of the causal order. -/
abbrev kjN (n : ℕ) : ℕ := [0, 0, 1, 0, 1, 2, 0, 1, 2, 3, 0, 1, 2, 3, 4, 0, 1, 2, 3, 4, 5, 0, 1, 2, 3, 4, 5, 6, 0, 1, 2, 3, 4, 5, 6, 7].getD n 0

abbrev tb (t : ℕ) : ℕ := t / 36
abbrev ti (t : ℕ) : ℕ := qiN (t % 36)
abbrev tj (t : ℕ) : ℕ := kjN (t % 36)

theorem idxAll : ∀ t : Fin (cfgA 0).N,
    ((cfgA 0).win 0).index t (0 : Fin 3) = 0 ∧ ((cfgA 0).win 0).index t (1 : Fin 3) = 0 ∧ ((cfgA 0).win 0).index t (2 : Fin 3) = tb t.val * 8 + ti t.val
    ∧ ((cfgA 0).win 1).index t (0 : Fin 3) = 0 ∧ ((cfgA 0).win 1).index t (1 : Fin 3) = tb t.val * 8 + tj t.val ∧ ((cfgA 0).win 1).index t (2 : Fin 3) = 0
    ∧ ((cfgA 0).win 2).index t (0 : Fin 3) = 0 ∧ ((cfgA 0).win 2).index t (1 : Fin 3) = 0 ∧ ((cfgA 0).win 2).index t (2 : Fin 3) = tb t.val * 8 + tj t.val
    ∧ ((cfgA 0).win 3).index t (0 : Fin 4) = tb t.val ∧ ((cfgA 0).win 3).index t (1 : Fin 4) = ti t.val ∧ ((cfgA 0).win 3).index t (2 : Fin 4) = tj t.val ∧ ((cfgA 0).win 3).index t (3 : Fin 4) = 0
    ∧ ((cfgA 0).win 4).index t (0 : Fin 2) = tb t.val * 8 + ti t.val ∧ ((cfgA 0).win 4).index t (1 : Fin 2) = 0 :=
  (by decide +kernel : ∀ t : Fin grid0.N, _)

/-- The positions in order, in numbers. -/
theorem order : ∀ t : Fin 144, tb t.val < 4 ∧ ti t.val < 8 ∧ tj t.val ≤ ti t.val
    ∧ (tj t.val ≠ 0 → 0 < t.val ∧ tb (t.val - 1) = tb t.val ∧ ti (t.val - 1) = ti t.val ∧ tj (t.val - 1) + 1 = tj t.val) := by decide +kernel

/-- The paths by key tile: the first, the last. -/
theorem paths : ∀ t : Fin (cfgA 0).N, (P0_0 0 t ↔ tj t.val = 0) ∧ (P0_1 0 t ↔ tj t.val = ti t.val) :=
  (by decide +kernel : ∀ t : Fin grid0.N, _)

theorem flushes : ∀ t : Fin (cfgA 0).N, (((cfgA 0).win 4).flush t = true ↔ tj t.val = ti t.val) :=
  (by decide +kernel : ∀ t : Fin grid0.N, _)

theorem lt_N (t : Fin (cfgA 0).N) : t.val < 144 := lt_of_lt_of_eq t.isLt N_0

/-! ## The blocks -/

abbrev a2 (c : Dev nD) : Vec Ideal S16x128x32768 .bf16 := m ((c : Thread nD τ).loc main_arg2)
abbrev a3 (c : Dev nD) : Vec Ideal S4x32768x128 .bf16 := m ((c : Thread nD τ).loc main_arg3)
abbrev a4 (c : Dev nD) : Vec Ideal S4x144x32768 .bf16 := m ((c : Thread nD τ).loc main_arg4)
abbrev a5 (c : Dev nD) : Vec Ideal S4x8x8192x1024 .bf16 := m ((c : Thread nD τ).loc main_arg5)

theorem blk0 (c : Dev nD) (t : Fin (cfgA 0).N) (h : Fin 16) (d : Fin 128) (l : Fin 1024) (hl : (tb t.val * 8 + ti t.val) * 1024 + l.val < 32768) :
    (iblk 0 m ρ c 0 t : Vec Ideal S16x128x1024 .bf16) (ix3 h d l) = a2 m c (ix3 h d ⟨(tb t.val * 8 + ti t.val) * 1024 + l.val, hl⟩) := by
  obtain ⟨e0, e1, e2, -⟩ := idxAll t
  unfold iblk
  rw [View.read_apply]
  refine congrArg (a2 m c) (funext fun a => Fin.ext ?_)
  match a with
  | ⟨0, _⟩ => show ((cfgA 0).win 0).index t (0 : Fin 3) * 16 + 1 * h.val = h.val; omega
  | ⟨1, _⟩ => show ((cfgA 0).win 0).index t (1 : Fin 3) * 128 + 1 * d.val = d.val; omega
  | ⟨2, _⟩ => show ((cfgA 0).win 0).index t (2 : Fin 3) * 1024 + 1 * l.val = (tb t.val * 8 + ti t.val) * 1024 + l.val; rw [e2]; omega

theorem blk1 (c : Dev nD) (t : Fin (cfgA 0).N) (a : Fin 4) (r : Fin 1024) (d : Fin 128) (hl : (tb t.val * 8 + tj t.val) * 1024 + r.val < 32768) :
    (iblk 0 m ρ c 1 t : Vec Ideal S4x1024x128 .bf16) (ix3 a r d) = a3 m c (ix3 a ⟨(tb t.val * 8 + tj t.val) * 1024 + r.val, hl⟩ d) := by
  obtain ⟨-, -, -, e0, e1, e2, -⟩ := idxAll t
  unfold iblk
  rw [View.read_apply]
  refine congrArg (a3 m c) (funext fun x => Fin.ext ?_)
  match x with
  | ⟨0, _⟩ => show ((cfgA 0).win 1).index t (0 : Fin 3) * 4 + 1 * a.val = a.val; omega
  | ⟨1, _⟩ => show ((cfgA 0).win 1).index t (1 : Fin 3) * 1024 + 1 * r.val = (tb t.val * 8 + tj t.val) * 1024 + r.val; rw [e1]; omega
  | ⟨2, _⟩ => show ((cfgA 0).win 1).index t (2 : Fin 3) * 128 + 1 * d.val = d.val; omega

theorem blk2 (c : Dev nD) (t : Fin (cfgA 0).N) (a : Fin 4) (e : Fin 144) (r : Fin 1024) (hl : (tb t.val * 8 + tj t.val) * 1024 + r.val < 32768) :
    (iblk 0 m ρ c 2 t : Vec Ideal S4x144x1024 .bf16) (ix3 a e r) = a4 m c (ix3 a e ⟨(tb t.val * 8 + tj t.val) * 1024 + r.val, hl⟩) := by
  obtain ⟨-, -, -, -, -, -, e0, e1, e2, -⟩ := idxAll t
  unfold iblk
  rw [View.read_apply]
  refine congrArg (a4 m c) (funext fun x => Fin.ext ?_)
  match x with
  | ⟨0, _⟩ => show ((cfgA 0).win 2).index t (0 : Fin 3) * 4 + 1 * a.val = a.val; omega
  | ⟨1, _⟩ => show ((cfgA 0).win 2).index t (1 : Fin 3) * 144 + 1 * e.val = e.val; omega
  | ⟨2, _⟩ => show ((cfgA 0).win 2).index t (2 : Fin 3) * 1024 + 1 * r.val = (tb t.val * 8 + tj t.val) * 1024 + r.val; rw [e2]; omega

theorem blk3 (c : Dev nD) (t : Fin (cfgA 0).N) (r l : Fin 1024) (hb : tb t.val < 4) (hi : ti t.val < 8) (hj : tj t.val * 1024 + r.val < 8192) :
    (iblk 0 m ρ c 3 t : Vec Ideal S1x1x1024x1024 .bf16) (ix4 0 0 r l) = a5 m c (ix4 ⟨tb t.val, hb⟩ ⟨ti t.val, hi⟩ ⟨tj t.val * 1024 + r.val, hj⟩ l) := by
  obtain ⟨-, -, -, -, -, -, -, -, -, e0, e1, e2, e3, -⟩ := idxAll t
  unfold iblk
  rw [View.read_apply]
  refine congrArg (a5 m c) (funext fun x => Fin.ext ?_)
  match x with
  | ⟨0, _⟩ => show ((cfgA 0).win 3).index t (0 : Fin 4) * 1 + 1 * 0 = tb t.val; omega
  | ⟨1, _⟩ => show ((cfgA 0).win 3).index t (1 : Fin 4) * 1 + 1 * 0 = ti t.val; rw [e1]; omega
  | ⟨2, _⟩ => show ((cfgA 0).win 3).index t (2 : Fin 4) * 1024 + 1 * r.val = tj t.val * 1024 + r.val; rw [e2]; omega
  | ⟨3, _⟩ => show ((cfgA 0).win 3).index t (3 : Fin 4) * 1024 + 1 * l.val = l.val; omega

/-! ## A head's rows of the blocks -/

theorem hK_at (arg5 : Memref sig .tc .vmem S4x1024x128 .bf16) (x1 : S4x1024x128.Idx → Elt Ideal .bf16) (h : Fin 16) (r : Fin 1024) (d : Fin 128) :
    hK arg5 x1 h.val h.isLt (ix3 0 r d) = x1 (ix3 ⟨h.val / 4, by omega⟩ r d) := by
  unfold hK
  rw [row_apply, View.read_rep]

theorem hQ_at (arg4 : Memref sig .tc .vmem S16x128x1024 .bf16) (x0 : S16x128x1024.Idx → Elt Ideal .bf16) (h : Fin 16) (d : Fin 128) (l : Fin 1024) :
    hQ arg4 x0 h.val h.isLt (ix3 0 d l) = x0 (ix3 h d l) := by
  unfold hQ
  rw [row_apply, View.read_rep]

theorem hV_at (arg6 : Memref sig .tc .vmem S4x144x1024 .bf16) (x2 : S4x144x1024.Idx → Elt Ideal .bf16) (h : Fin 16) (e : Fin 144) (r : Fin 1024) :
    hV arg6 x2 h.val h.isLt (ix3 0 e r) = x2 (ix3 ⟨h.val / 4, by omega⟩ e r) := by
  unfold hV
  rw [row_apply, View.read_rep]

/-- A tile's scores at a head: products over the features plus the bias. -/
theorem hS_at (arg4 : Memref sig .tc .vmem S16x128x1024 .bf16) (arg5 : Memref sig .tc .vmem S4x1024x128 .bf16) (arg7 : Memref sig .tc .vmem S1x1x1024x1024 .bf16)
    (x0 : S16x128x1024.Idx → Elt Ideal .bf16) (x1 : S4x1024x128.Idx → Elt Ideal .bf16) (x3 : S1x1x1024x1024.Idx → Elt Ideal .bf16) (h : Fin 16) (r l : Fin 1024) :
    hS arg4 arg5 arg7 x0 x1 x3 h.val h.isLt (ix3 0 r l) = (∑ d : Fin 128, (x1 (ix3 ⟨h.val / 4, by omega⟩ r d) : EReal) * x0 (ix3 h d l)) + x3 (ix4 0 0 r l) := by
  unfold hS
  rw [tS_at, bB_at]
  simp only [hK_at, hQ_at]

theorem hX_at (arg4 : Memref sig .tc .vmem S16x128x1024 .bf16) (arg5 : Memref sig .tc .vmem S4x1024x128 .bf16) (arg7 : Memref sig .tc .vmem S1x1x1024x1024 .bf16)
    (x0 : S16x128x1024.Idx → Elt Ideal .bf16) (x1 : S4x1024x128.Idx → Elt Ideal .bf16) (x3 : S1x1x1024x1024.Idx → Elt Ideal .bf16) (h : Fin 16) (l : Fin 1024) :
    hX arg4 arg5 arg7 x0 x1 x3 h.val h.isLt (ix3 0 0 l) = (Finset.univ : Finset (Fin 1024)).fold max ⊥ fun r => hS arg4 arg5 arg7 x0 x1 x3 h.val h.isLt (ix3 0 r l) := by
  unfold hX hS
  rw [tX_at]
  simp only [tS_at]

end Cert.AttnIdeal.Leg

end
-- ==== Proof.AttnPA.lean ====
module

public import proofs.«01_k».proof.Proof.AttnTile

@[expose] public section

set_option maxRecDepth 16384

noncomputable section

namespace Cert.AttnIdeal.Leg.PA

open Cert.AttnIdeal Cert.AttnIdeal.Gen Idealize.ShloMosaic Idealize.ShloMosaic.TcCoe
open Idealize.SL Idealize.SL.RA Idealize.SL.BI Idealize.SL.Sem Idealize.ShloMosaic.Pipeline

open Cert.AttnIdeal.Gen.kernelRun0_A.sl

variable (arg4 : Memref sig .tc .vmem S16x128x1024 .bf16) (arg5 : Memref sig .tc .vmem S4x1024x128 .bf16) (arg6 : Memref sig .tc .vmem S4x144x1024 .bf16) (arg7 : Memref sig .tc .vmem S1x1x1024x1024 .bf16) (x0 : S16x128x1024.Idx → Elt Ideal .bf16) (x1 : S4x1024x128.Idx → Elt Ideal .bf16) (x2 : S4x144x1024.Idx → Elt Ideal .bf16) (x3 : S1x1x1024x1024.Idx → Elt Ideal .bf16)

theorem bias : (v40 arg7 x3) = bB arg7 x3 := by
  unfold v40 HS7_1
  exact View.readCov_full _ _ _ _ _

theorem old0_1 (h : ℕ) (hh : h < 16) : row scM0_0.view h hh (w0 HS0_1) = iM h hh := by
  unfold HS0_1
  exact rs_whole _ _ _ _ _ _ _

theorem skip0_2 (h : ℕ) (hh : h < 16) (hne : h ≠ 0) : row scM0_0.view h hh (w0 (HS0_2 arg4 arg5 arg7 x0 x1 x3))
    = row scM0_0.view h hh (w0 HS0_1) := by
  unfold HS0_2
  exact rs_skip _ _ _ _ _ _ _ _ hne

theorem old0_2 (h : ℕ) (hh : h < 16) (hne : 0 < h) : row scM0_0.view h hh (w0 (HS0_2 arg4 arg5 arg7 x0 x1 x3)) = iM h hh :=
  (skip0_2 arg4 arg5 arg7 x0 x1 x3 h hh (by omega)).trans (old0_1  h hh)

theorem skip0_3 (h : ℕ) (hh : h < 16) (hne : h ≠ 1) : row scM0_0.view h hh (w0 (HS0_3 arg4 arg5 arg7 x0 x1 x3))
    = row scM0_0.view h hh (w0 (HS0_2 arg4 arg5 arg7 x0 x1 x3)) := by
  unfold HS0_3
  exact rs_skip _ _ _ _ _ _ _ _ hne

theorem old0_3 (h : ℕ) (hh : h < 16) (hne : 1 < h) : row scM0_0.view h hh (w0 (HS0_3 arg4 arg5 arg7 x0 x1 x3)) = iM h hh :=
  (skip0_3 arg4 arg5 arg7 x0 x1 x3 h hh (by omega)).trans (old0_2 arg4 arg5 arg7 x0 x1 x3 h hh (by omega))

theorem skip0_4 (h : ℕ) (hh : h < 16) (hne : h ≠ 2) : row scM0_0.view h hh (w0 (HS0_4 arg4 arg5 arg7 x0 x1 x3))
    = row scM0_0.view h hh (w0 (HS0_3 arg4 arg5 arg7 x0 x1 x3)) := by
  unfold HS0_4
  exact rs_skip _ _ _ _ _ _ _ _ hne

theorem old0_4 (h : ℕ) (hh : h < 16) (hne : 2 < h) : row scM0_0.view h hh (w0 (HS0_4 arg4 arg5 arg7 x0 x1 x3)) = iM h hh :=
  (skip0_4 arg4 arg5 arg7 x0 x1 x3 h hh (by omega)).trans (old0_3 arg4 arg5 arg7 x0 x1 x3 h hh (by omega))

theorem skip0_5 (h : ℕ) (hh : h < 16) (hne : h ≠ 3) : row scM0_0.view h hh (w0 (HS0_5 arg4 arg5 arg7 x0 x1 x3))
    = row scM0_0.view h hh (w0 (HS0_4 arg4 arg5 arg7 x0 x1 x3)) := by
  unfold HS0_5
  exact rs_skip _ _ _ _ _ _ _ _ hne

theorem old0_5 (h : ℕ) (hh : h < 16) (hne : 3 < h) : row scM0_0.view h hh (w0 (HS0_5 arg4 arg5 arg7 x0 x1 x3)) = iM h hh :=
  (skip0_5 arg4 arg5 arg7 x0 x1 x3 h hh (by omega)).trans (old0_4 arg4 arg5 arg7 x0 x1 x3 h hh (by omega))

theorem skip0_6 (h : ℕ) (hh : h < 16) (hne : h ≠ 4) : row scM0_0.view h hh (w0 (HS0_6 arg4 arg5 arg7 x0 x1 x3))
    = row scM0_0.view h hh (w0 (HS0_5 arg4 arg5 arg7 x0 x1 x3)) := by
  unfold HS0_6
  exact rs_skip _ _ _ _ _ _ _ _ hne

theorem old0_6 (h : ℕ) (hh : h < 16) (hne : 4 < h) : row scM0_0.view h hh (w0 (HS0_6 arg4 arg5 arg7 x0 x1 x3)) = iM h hh :=
  (skip0_6 arg4 arg5 arg7 x0 x1 x3 h hh (by omega)).trans (old0_5 arg4 arg5 arg7 x0 x1 x3 h hh (by omega))

theorem skip0_7 (h : ℕ) (hh : h < 16) (hne : h ≠ 5) : row scM0_0.view h hh (w0 (HS0_7 arg4 arg5 arg7 x0 x1 x3))
    = row scM0_0.view h hh (w0 (HS0_6 arg4 arg5 arg7 x0 x1 x3)) := by
  unfold HS0_7
  exact rs_skip _ _ _ _ _ _ _ _ hne

theorem old0_7 (h : ℕ) (hh : h < 16) (hne : 5 < h) : row scM0_0.view h hh (w0 (HS0_7 arg4 arg5 arg7 x0 x1 x3)) = iM h hh :=
  (skip0_7 arg4 arg5 arg7 x0 x1 x3 h hh (by omega)).trans (old0_6 arg4 arg5 arg7 x0 x1 x3 h hh (by omega))

theorem skip0_8 (h : ℕ) (hh : h < 16) (hne : h ≠ 6) : row scM0_0.view h hh (w0 (HS0_8 arg4 arg5 arg7 x0 x1 x3))
    = row scM0_0.view h hh (w0 (HS0_7 arg4 arg5 arg7 x0 x1 x3)) := by
  unfold HS0_8
  exact rs_skip _ _ _ _ _ _ _ _ hne

theorem old0_8 (h : ℕ) (hh : h < 16) (hne : 6 < h) : row scM0_0.view h hh (w0 (HS0_8 arg4 arg5 arg7 x0 x1 x3)) = iM h hh :=
  (skip0_8 arg4 arg5 arg7 x0 x1 x3 h hh (by omega)).trans (old0_7 arg4 arg5 arg7 x0 x1 x3 h hh (by omega))

theorem skip0_9 (h : ℕ) (hh : h < 16) (hne : h ≠ 7) : row scM0_0.view h hh (w0 (HS0_9 arg4 arg5 arg7 x0 x1 x3))
    = row scM0_0.view h hh (w0 (HS0_8 arg4 arg5 arg7 x0 x1 x3)) := by
  unfold HS0_9
  exact rs_skip _ _ _ _ _ _ _ _ hne

theorem old0_9 (h : ℕ) (hh : h < 16) (hne : 7 < h) : row scM0_0.view h hh (w0 (HS0_9 arg4 arg5 arg7 x0 x1 x3)) = iM h hh :=
  (skip0_9 arg4 arg5 arg7 x0 x1 x3 h hh (by omega)).trans (old0_8 arg4 arg5 arg7 x0 x1 x3 h hh (by omega))

theorem skip0_10 (h : ℕ) (hh : h < 16) (hne : h ≠ 8) : row scM0_0.view h hh (w0 (HS0_10 arg4 arg5 arg7 x0 x1 x3))
    = row scM0_0.view h hh (w0 (HS0_9 arg4 arg5 arg7 x0 x1 x3)) := by
  unfold HS0_10
  exact rs_skip _ _ _ _ _ _ _ _ hne

theorem old0_10 (h : ℕ) (hh : h < 16) (hne : 8 < h) : row scM0_0.view h hh (w0 (HS0_10 arg4 arg5 arg7 x0 x1 x3)) = iM h hh :=
  (skip0_10 arg4 arg5 arg7 x0 x1 x3 h hh (by omega)).trans (old0_9 arg4 arg5 arg7 x0 x1 x3 h hh (by omega))

theorem skip0_11 (h : ℕ) (hh : h < 16) (hne : h ≠ 9) : row scM0_0.view h hh (w0 (HS0_11 arg4 arg5 arg7 x0 x1 x3))
    = row scM0_0.view h hh (w0 (HS0_10 arg4 arg5 arg7 x0 x1 x3)) := by
  unfold HS0_11
  exact rs_skip _ _ _ _ _ _ _ _ hne

theorem old0_11 (h : ℕ) (hh : h < 16) (hne : 9 < h) : row scM0_0.view h hh (w0 (HS0_11 arg4 arg5 arg7 x0 x1 x3)) = iM h hh :=
  (skip0_11 arg4 arg5 arg7 x0 x1 x3 h hh (by omega)).trans (old0_10 arg4 arg5 arg7 x0 x1 x3 h hh (by omega))

theorem skip0_12 (h : ℕ) (hh : h < 16) (hne : h ≠ 10) : row scM0_0.view h hh (w0 (HS0_12 arg4 arg5 arg7 x0 x1 x3))
    = row scM0_0.view h hh (w0 (HS0_11 arg4 arg5 arg7 x0 x1 x3)) := by
  unfold HS0_12
  exact rs_skip _ _ _ _ _ _ _ _ hne

theorem old0_12 (h : ℕ) (hh : h < 16) (hne : 10 < h) : row scM0_0.view h hh (w0 (HS0_12 arg4 arg5 arg7 x0 x1 x3)) = iM h hh :=
  (skip0_12 arg4 arg5 arg7 x0 x1 x3 h hh (by omega)).trans (old0_11 arg4 arg5 arg7 x0 x1 x3 h hh (by omega))

theorem skip0_13 (h : ℕ) (hh : h < 16) (hne : h ≠ 11) : row scM0_0.view h hh (w0 (HS0_13 arg4 arg5 arg7 x0 x1 x3))
    = row scM0_0.view h hh (w0 (HS0_12 arg4 arg5 arg7 x0 x1 x3)) := by
  unfold HS0_13
  exact rs_skip _ _ _ _ _ _ _ _ hne

theorem old0_13 (h : ℕ) (hh : h < 16) (hne : 11 < h) : row scM0_0.view h hh (w0 (HS0_13 arg4 arg5 arg7 x0 x1 x3)) = iM h hh :=
  (skip0_13 arg4 arg5 arg7 x0 x1 x3 h hh (by omega)).trans (old0_12 arg4 arg5 arg7 x0 x1 x3 h hh (by omega))

theorem skip0_14 (h : ℕ) (hh : h < 16) (hne : h ≠ 12) : row scM0_0.view h hh (w0 (HS0_14 arg4 arg5 arg7 x0 x1 x3))
    = row scM0_0.view h hh (w0 (HS0_13 arg4 arg5 arg7 x0 x1 x3)) := by
  unfold HS0_14
  exact rs_skip _ _ _ _ _ _ _ _ hne

theorem old0_14 (h : ℕ) (hh : h < 16) (hne : 12 < h) : row scM0_0.view h hh (w0 (HS0_14 arg4 arg5 arg7 x0 x1 x3)) = iM h hh :=
  (skip0_14 arg4 arg5 arg7 x0 x1 x3 h hh (by omega)).trans (old0_13 arg4 arg5 arg7 x0 x1 x3 h hh (by omega))

theorem skip0_15 (h : ℕ) (hh : h < 16) (hne : h ≠ 13) : row scM0_0.view h hh (w0 (HS0_15 arg4 arg5 arg7 x0 x1 x3))
    = row scM0_0.view h hh (w0 (HS0_14 arg4 arg5 arg7 x0 x1 x3)) := by
  unfold HS0_15
  exact rs_skip _ _ _ _ _ _ _ _ hne

theorem old0_15 (h : ℕ) (hh : h < 16) (hne : 13 < h) : row scM0_0.view h hh (w0 (HS0_15 arg4 arg5 arg7 x0 x1 x3)) = iM h hh :=
  (skip0_15 arg4 arg5 arg7 x0 x1 x3 h hh (by omega)).trans (old0_14 arg4 arg5 arg7 x0 x1 x3 h hh (by omega))

theorem skip0_16 (h : ℕ) (hh : h < 16) (hne : h ≠ 14) : row scM0_0.view h hh (w0 (HS0_16 arg4 arg5 arg7 x0 x1 x3))
    = row scM0_0.view h hh (w0 (HS0_15 arg4 arg5 arg7 x0 x1 x3)) := by
  unfold HS0_16
  exact rs_skip _ _ _ _ _ _ _ _ hne

theorem old0_16 (h : ℕ) (hh : h < 16) (hne : 14 < h) : row scM0_0.view h hh (w0 (HS0_16 arg4 arg5 arg7 x0 x1 x3)) = iM h hh :=
  (skip0_16 arg4 arg5 arg7 x0 x1 x3 h hh (by omega)).trans (old0_15 arg4 arg5 arg7 x0 x1 x3 h hh (by omega))

theorem skip0_17 (h : ℕ) (hh : h < 16) (hne : h ≠ 15) : row scM0_0.view h hh (w0 (HS0_17 arg4 arg5 arg7 x0 x1 x3))
    = row scM0_0.view h hh (w0 (HS0_16 arg4 arg5 arg7 x0 x1 x3)) := by
  unfold HS0_17
  exact rs_skip _ _ _ _ _ _ _ _ hne

theorem old1_1 (h : ℕ) (hh : h < 16) : row scM0_1.view h hh (w1 HS1_1) = iL h hh := by
  unfold HS1_1
  exact rs_whole _ _ _ _ _ _ _

theorem skip1_2 (h : ℕ) (hh : h < 16) (hne : h ≠ 0) : row scM0_1.view h hh (w1 (HS1_2 arg4 arg5 arg6 arg7 x0 x1 x2 x3))
    = row scM0_1.view h hh (w1 HS1_1) := by
  unfold HS1_2
  exact rs_skip _ _ _ _ _ _ _ _ hne

theorem old1_2 (h : ℕ) (hh : h < 16) (hne : 0 < h) : row scM0_1.view h hh (w1 (HS1_2 arg4 arg5 arg6 arg7 x0 x1 x2 x3)) = iL h hh :=
  (skip1_2 arg4 arg5 arg6 arg7 x0 x1 x2 x3 h hh (by omega)).trans (old1_1  h hh)

theorem skip1_3 (h : ℕ) (hh : h < 16) (hne : h ≠ 1) : row scM0_1.view h hh (w1 (HS1_3 arg4 arg5 arg6 arg7 x0 x1 x2 x3))
    = row scM0_1.view h hh (w1 (HS1_2 arg4 arg5 arg6 arg7 x0 x1 x2 x3)) := by
  unfold HS1_3
  exact rs_skip _ _ _ _ _ _ _ _ hne

theorem old1_3 (h : ℕ) (hh : h < 16) (hne : 1 < h) : row scM0_1.view h hh (w1 (HS1_3 arg4 arg5 arg6 arg7 x0 x1 x2 x3)) = iL h hh :=
  (skip1_3 arg4 arg5 arg6 arg7 x0 x1 x2 x3 h hh (by omega)).trans (old1_2 arg4 arg5 arg6 arg7 x0 x1 x2 x3 h hh (by omega))

theorem skip1_4 (h : ℕ) (hh : h < 16) (hne : h ≠ 2) : row scM0_1.view h hh (w1 (HS1_4 arg4 arg5 arg6 arg7 x0 x1 x2 x3))
    = row scM0_1.view h hh (w1 (HS1_3 arg4 arg5 arg6 arg7 x0 x1 x2 x3)) := by
  unfold HS1_4
  exact rs_skip _ _ _ _ _ _ _ _ hne

theorem old1_4 (h : ℕ) (hh : h < 16) (hne : 2 < h) : row scM0_1.view h hh (w1 (HS1_4 arg4 arg5 arg6 arg7 x0 x1 x2 x3)) = iL h hh :=
  (skip1_4 arg4 arg5 arg6 arg7 x0 x1 x2 x3 h hh (by omega)).trans (old1_3 arg4 arg5 arg6 arg7 x0 x1 x2 x3 h hh (by omega))

theorem skip1_5 (h : ℕ) (hh : h < 16) (hne : h ≠ 3) : row scM0_1.view h hh (w1 (HS1_5 arg4 arg5 arg6 arg7 x0 x1 x2 x3))
    = row scM0_1.view h hh (w1 (HS1_4 arg4 arg5 arg6 arg7 x0 x1 x2 x3)) := by
  unfold HS1_5
  exact rs_skip _ _ _ _ _ _ _ _ hne

theorem old1_5 (h : ℕ) (hh : h < 16) (hne : 3 < h) : row scM0_1.view h hh (w1 (HS1_5 arg4 arg5 arg6 arg7 x0 x1 x2 x3)) = iL h hh :=
  (skip1_5 arg4 arg5 arg6 arg7 x0 x1 x2 x3 h hh (by omega)).trans (old1_4 arg4 arg5 arg6 arg7 x0 x1 x2 x3 h hh (by omega))

theorem skip1_6 (h : ℕ) (hh : h < 16) (hne : h ≠ 4) : row scM0_1.view h hh (w1 (HS1_6 arg4 arg5 arg6 arg7 x0 x1 x2 x3))
    = row scM0_1.view h hh (w1 (HS1_5 arg4 arg5 arg6 arg7 x0 x1 x2 x3)) := by
  unfold HS1_6
  exact rs_skip _ _ _ _ _ _ _ _ hne

theorem old1_6 (h : ℕ) (hh : h < 16) (hne : 4 < h) : row scM0_1.view h hh (w1 (HS1_6 arg4 arg5 arg6 arg7 x0 x1 x2 x3)) = iL h hh :=
  (skip1_6 arg4 arg5 arg6 arg7 x0 x1 x2 x3 h hh (by omega)).trans (old1_5 arg4 arg5 arg6 arg7 x0 x1 x2 x3 h hh (by omega))

theorem skip1_7 (h : ℕ) (hh : h < 16) (hne : h ≠ 5) : row scM0_1.view h hh (w1 (HS1_7 arg4 arg5 arg6 arg7 x0 x1 x2 x3))
    = row scM0_1.view h hh (w1 (HS1_6 arg4 arg5 arg6 arg7 x0 x1 x2 x3)) := by
  unfold HS1_7
  exact rs_skip _ _ _ _ _ _ _ _ hne

theorem old1_7 (h : ℕ) (hh : h < 16) (hne : 5 < h) : row scM0_1.view h hh (w1 (HS1_7 arg4 arg5 arg6 arg7 x0 x1 x2 x3)) = iL h hh :=
  (skip1_7 arg4 arg5 arg6 arg7 x0 x1 x2 x3 h hh (by omega)).trans (old1_6 arg4 arg5 arg6 arg7 x0 x1 x2 x3 h hh (by omega))

theorem skip1_8 (h : ℕ) (hh : h < 16) (hne : h ≠ 6) : row scM0_1.view h hh (w1 (HS1_8 arg4 arg5 arg6 arg7 x0 x1 x2 x3))
    = row scM0_1.view h hh (w1 (HS1_7 arg4 arg5 arg6 arg7 x0 x1 x2 x3)) := by
  unfold HS1_8
  exact rs_skip _ _ _ _ _ _ _ _ hne

theorem old1_8 (h : ℕ) (hh : h < 16) (hne : 6 < h) : row scM0_1.view h hh (w1 (HS1_8 arg4 arg5 arg6 arg7 x0 x1 x2 x3)) = iL h hh :=
  (skip1_8 arg4 arg5 arg6 arg7 x0 x1 x2 x3 h hh (by omega)).trans (old1_7 arg4 arg5 arg6 arg7 x0 x1 x2 x3 h hh (by omega))

theorem skip1_9 (h : ℕ) (hh : h < 16) (hne : h ≠ 7) : row scM0_1.view h hh (w1 (HS1_9 arg4 arg5 arg6 arg7 x0 x1 x2 x3))
    = row scM0_1.view h hh (w1 (HS1_8 arg4 arg5 arg6 arg7 x0 x1 x2 x3)) := by
  unfold HS1_9
  exact rs_skip _ _ _ _ _ _ _ _ hne

theorem old1_9 (h : ℕ) (hh : h < 16) (hne : 7 < h) : row scM0_1.view h hh (w1 (HS1_9 arg4 arg5 arg6 arg7 x0 x1 x2 x3)) = iL h hh :=
  (skip1_9 arg4 arg5 arg6 arg7 x0 x1 x2 x3 h hh (by omega)).trans (old1_8 arg4 arg5 arg6 arg7 x0 x1 x2 x3 h hh (by omega))

theorem skip1_10 (h : ℕ) (hh : h < 16) (hne : h ≠ 8) : row scM0_1.view h hh (w1 (HS1_10 arg4 arg5 arg6 arg7 x0 x1 x2 x3))
    = row scM0_1.view h hh (w1 (HS1_9 arg4 arg5 arg6 arg7 x0 x1 x2 x3)) := by
  unfold HS1_10
  exact rs_skip _ _ _ _ _ _ _ _ hne

theorem old1_10 (h : ℕ) (hh : h < 16) (hne : 8 < h) : row scM0_1.view h hh (w1 (HS1_10 arg4 arg5 arg6 arg7 x0 x1 x2 x3)) = iL h hh :=
  (skip1_10 arg4 arg5 arg6 arg7 x0 x1 x2 x3 h hh (by omega)).trans (old1_9 arg4 arg5 arg6 arg7 x0 x1 x2 x3 h hh (by omega))

theorem skip1_11 (h : ℕ) (hh : h < 16) (hne : h ≠ 9) : row scM0_1.view h hh (w1 (HS1_11 arg4 arg5 arg6 arg7 x0 x1 x2 x3))
    = row scM0_1.view h hh (w1 (HS1_10 arg4 arg5 arg6 arg7 x0 x1 x2 x3)) := by
  unfold HS1_11
  exact rs_skip _ _ _ _ _ _ _ _ hne

theorem old1_11 (h : ℕ) (hh : h < 16) (hne : 9 < h) : row scM0_1.view h hh (w1 (HS1_11 arg4 arg5 arg6 arg7 x0 x1 x2 x3)) = iL h hh :=
  (skip1_11 arg4 arg5 arg6 arg7 x0 x1 x2 x3 h hh (by omega)).trans (old1_10 arg4 arg5 arg6 arg7 x0 x1 x2 x3 h hh (by omega))

theorem skip1_12 (h : ℕ) (hh : h < 16) (hne : h ≠ 10) : row scM0_1.view h hh (w1 (HS1_12 arg4 arg5 arg6 arg7 x0 x1 x2 x3))
    = row scM0_1.view h hh (w1 (HS1_11 arg4 arg5 arg6 arg7 x0 x1 x2 x3)) := by
  unfold HS1_12
  exact rs_skip _ _ _ _ _ _ _ _ hne

theorem old1_12 (h : ℕ) (hh : h < 16) (hne : 10 < h) : row scM0_1.view h hh (w1 (HS1_12 arg4 arg5 arg6 arg7 x0 x1 x2 x3)) = iL h hh :=
  (skip1_12 arg4 arg5 arg6 arg7 x0 x1 x2 x3 h hh (by omega)).trans (old1_11 arg4 arg5 arg6 arg7 x0 x1 x2 x3 h hh (by omega))

theorem skip1_13 (h : ℕ) (hh : h < 16) (hne : h ≠ 11) : row scM0_1.view h hh (w1 (HS1_13 arg4 arg5 arg6 arg7 x0 x1 x2 x3))
    = row scM0_1.view h hh (w1 (HS1_12 arg4 arg5 arg6 arg7 x0 x1 x2 x3)) := by
  unfold HS1_13
  exact rs_skip _ _ _ _ _ _ _ _ hne

theorem old1_13 (h : ℕ) (hh : h < 16) (hne : 11 < h) : row scM0_1.view h hh (w1 (HS1_13 arg4 arg5 arg6 arg7 x0 x1 x2 x3)) = iL h hh :=
  (skip1_13 arg4 arg5 arg6 arg7 x0 x1 x2 x3 h hh (by omega)).trans (old1_12 arg4 arg5 arg6 arg7 x0 x1 x2 x3 h hh (by omega))

theorem skip1_14 (h : ℕ) (hh : h < 16) (hne : h ≠ 12) : row scM0_1.view h hh (w1 (HS1_14 arg4 arg5 arg6 arg7 x0 x1 x2 x3))
    = row scM0_1.view h hh (w1 (HS1_13 arg4 arg5 arg6 arg7 x0 x1 x2 x3)) := by
  unfold HS1_14
  exact rs_skip _ _ _ _ _ _ _ _ hne

theorem old1_14 (h : ℕ) (hh : h < 16) (hne : 12 < h) : row scM0_1.view h hh (w1 (HS1_14 arg4 arg5 arg6 arg7 x0 x1 x2 x3)) = iL h hh :=
  (skip1_14 arg4 arg5 arg6 arg7 x0 x1 x2 x3 h hh (by omega)).trans (old1_13 arg4 arg5 arg6 arg7 x0 x1 x2 x3 h hh (by omega))

theorem skip1_15 (h : ℕ) (hh : h < 16) (hne : h ≠ 13) : row scM0_1.view h hh (w1 (HS1_15 arg4 arg5 arg6 arg7 x0 x1 x2 x3))
    = row scM0_1.view h hh (w1 (HS1_14 arg4 arg5 arg6 arg7 x0 x1 x2 x3)) := by
  unfold HS1_15
  exact rs_skip _ _ _ _ _ _ _ _ hne

theorem old1_15 (h : ℕ) (hh : h < 16) (hne : 13 < h) : row scM0_1.view h hh (w1 (HS1_15 arg4 arg5 arg6 arg7 x0 x1 x2 x3)) = iL h hh :=
  (skip1_15 arg4 arg5 arg6 arg7 x0 x1 x2 x3 h hh (by omega)).trans (old1_14 arg4 arg5 arg6 arg7 x0 x1 x2 x3 h hh (by omega))

theorem skip1_16 (h : ℕ) (hh : h < 16) (hne : h ≠ 14) : row scM0_1.view h hh (w1 (HS1_16 arg4 arg5 arg6 arg7 x0 x1 x2 x3))
    = row scM0_1.view h hh (w1 (HS1_15 arg4 arg5 arg6 arg7 x0 x1 x2 x3)) := by
  unfold HS1_16
  exact rs_skip _ _ _ _ _ _ _ _ hne

theorem old1_16 (h : ℕ) (hh : h < 16) (hne : 14 < h) : row scM0_1.view h hh (w1 (HS1_16 arg4 arg5 arg6 arg7 x0 x1 x2 x3)) = iL h hh :=
  (skip1_16 arg4 arg5 arg6 arg7 x0 x1 x2 x3 h hh (by omega)).trans (old1_15 arg4 arg5 arg6 arg7 x0 x1 x2 x3 h hh (by omega))

theorem skip1_17 (h : ℕ) (hh : h < 16) (hne : h ≠ 15) : row scM0_1.view h hh (w1 (HS1_17 arg4 arg5 arg6 arg7 x0 x1 x2 x3))
    = row scM0_1.view h hh (w1 (HS1_16 arg4 arg5 arg6 arg7 x0 x1 x2 x3)) := by
  unfold HS1_17
  exact rs_skip _ _ _ _ _ _ _ _ hne

theorem old2_1 (h : ℕ) (hh : h < 16) : row scM0_2.view h hh (w2 HS2_1) = iA h hh := by
  unfold HS2_1
  exact ra_whole _ _ _ _ _ _ _

theorem skip2_2 (h : ℕ) (hh : h < 16) (hne : h ≠ 0) : row scM0_2.view h hh (w2 (HS2_2 arg4 arg5 arg6 arg7 x0 x1 x2 x3))
    = row scM0_2.view h hh (w2 HS2_1) := by
  unfold HS2_2
  exact ra_skip _ _ _ _ _ _ _ _ hne

theorem old2_2 (h : ℕ) (hh : h < 16) (hne : 0 < h) : row scM0_2.view h hh (w2 (HS2_2 arg4 arg5 arg6 arg7 x0 x1 x2 x3)) = iA h hh :=
  (skip2_2 arg4 arg5 arg6 arg7 x0 x1 x2 x3 h hh (by omega)).trans (old2_1  h hh)

theorem skip2_3 (h : ℕ) (hh : h < 16) (hne : h ≠ 1) : row scM0_2.view h hh (w2 (HS2_3 arg4 arg5 arg6 arg7 x0 x1 x2 x3))
    = row scM0_2.view h hh (w2 (HS2_2 arg4 arg5 arg6 arg7 x0 x1 x2 x3)) := by
  unfold HS2_3
  exact ra_skip _ _ _ _ _ _ _ _ hne

theorem old2_3 (h : ℕ) (hh : h < 16) (hne : 1 < h) : row scM0_2.view h hh (w2 (HS2_3 arg4 arg5 arg6 arg7 x0 x1 x2 x3)) = iA h hh :=
  (skip2_3 arg4 arg5 arg6 arg7 x0 x1 x2 x3 h hh (by omega)).trans (old2_2 arg4 arg5 arg6 arg7 x0 x1 x2 x3 h hh (by omega))

theorem skip2_4 (h : ℕ) (hh : h < 16) (hne : h ≠ 2) : row scM0_2.view h hh (w2 (HS2_4 arg4 arg5 arg6 arg7 x0 x1 x2 x3))
    = row scM0_2.view h hh (w2 (HS2_3 arg4 arg5 arg6 arg7 x0 x1 x2 x3)) := by
  unfold HS2_4
  exact ra_skip _ _ _ _ _ _ _ _ hne

theorem old2_4 (h : ℕ) (hh : h < 16) (hne : 2 < h) : row scM0_2.view h hh (w2 (HS2_4 arg4 arg5 arg6 arg7 x0 x1 x2 x3)) = iA h hh :=
  (skip2_4 arg4 arg5 arg6 arg7 x0 x1 x2 x3 h hh (by omega)).trans (old2_3 arg4 arg5 arg6 arg7 x0 x1 x2 x3 h hh (by omega))

theorem skip2_5 (h : ℕ) (hh : h < 16) (hne : h ≠ 3) : row scM0_2.view h hh (w2 (HS2_5 arg4 arg5 arg6 arg7 x0 x1 x2 x3))
    = row scM0_2.view h hh (w2 (HS2_4 arg4 arg5 arg6 arg7 x0 x1 x2 x3)) := by
  unfold HS2_5
  exact ra_skip _ _ _ _ _ _ _ _ hne

theorem old2_5 (h : ℕ) (hh : h < 16) (hne : 3 < h) : row scM0_2.view h hh (w2 (HS2_5 arg4 arg5 arg6 arg7 x0 x1 x2 x3)) = iA h hh :=
  (skip2_5 arg4 arg5 arg6 arg7 x0 x1 x2 x3 h hh (by omega)).trans (old2_4 arg4 arg5 arg6 arg7 x0 x1 x2 x3 h hh (by omega))

theorem skip2_6 (h : ℕ) (hh : h < 16) (hne : h ≠ 4) : row scM0_2.view h hh (w2 (HS2_6 arg4 arg5 arg6 arg7 x0 x1 x2 x3))
    = row scM0_2.view h hh (w2 (HS2_5 arg4 arg5 arg6 arg7 x0 x1 x2 x3)) := by
  unfold HS2_6
  exact ra_skip _ _ _ _ _ _ _ _ hne

theorem old2_6 (h : ℕ) (hh : h < 16) (hne : 4 < h) : row scM0_2.view h hh (w2 (HS2_6 arg4 arg5 arg6 arg7 x0 x1 x2 x3)) = iA h hh :=
  (skip2_6 arg4 arg5 arg6 arg7 x0 x1 x2 x3 h hh (by omega)).trans (old2_5 arg4 arg5 arg6 arg7 x0 x1 x2 x3 h hh (by omega))

theorem skip2_7 (h : ℕ) (hh : h < 16) (hne : h ≠ 5) : row scM0_2.view h hh (w2 (HS2_7 arg4 arg5 arg6 arg7 x0 x1 x2 x3))
    = row scM0_2.view h hh (w2 (HS2_6 arg4 arg5 arg6 arg7 x0 x1 x2 x3)) := by
  unfold HS2_7
  exact ra_skip _ _ _ _ _ _ _ _ hne

theorem old2_7 (h : ℕ) (hh : h < 16) (hne : 5 < h) : row scM0_2.view h hh (w2 (HS2_7 arg4 arg5 arg6 arg7 x0 x1 x2 x3)) = iA h hh :=
  (skip2_7 arg4 arg5 arg6 arg7 x0 x1 x2 x3 h hh (by omega)).trans (old2_6 arg4 arg5 arg6 arg7 x0 x1 x2 x3 h hh (by omega))

theorem skip2_8 (h : ℕ) (hh : h < 16) (hne : h ≠ 6) : row scM0_2.view h hh (w2 (HS2_8 arg4 arg5 arg6 arg7 x0 x1 x2 x3))
    = row scM0_2.view h hh (w2 (HS2_7 arg4 arg5 arg6 arg7 x0 x1 x2 x3)) := by
  unfold HS2_8
  exact ra_skip _ _ _ _ _ _ _ _ hne

theorem old2_8 (h : ℕ) (hh : h < 16) (hne : 6 < h) : row scM0_2.view h hh (w2 (HS2_8 arg4 arg5 arg6 arg7 x0 x1 x2 x3)) = iA h hh :=
  (skip2_8 arg4 arg5 arg6 arg7 x0 x1 x2 x3 h hh (by omega)).trans (old2_7 arg4 arg5 arg6 arg7 x0 x1 x2 x3 h hh (by omega))

theorem skip2_9 (h : ℕ) (hh : h < 16) (hne : h ≠ 7) : row scM0_2.view h hh (w2 (HS2_9 arg4 arg5 arg6 arg7 x0 x1 x2 x3))
    = row scM0_2.view h hh (w2 (HS2_8 arg4 arg5 arg6 arg7 x0 x1 x2 x3)) := by
  unfold HS2_9
  exact ra_skip _ _ _ _ _ _ _ _ hne

theorem old2_9 (h : ℕ) (hh : h < 16) (hne : 7 < h) : row scM0_2.view h hh (w2 (HS2_9 arg4 arg5 arg6 arg7 x0 x1 x2 x3)) = iA h hh :=
  (skip2_9 arg4 arg5 arg6 arg7 x0 x1 x2 x3 h hh (by omega)).trans (old2_8 arg4 arg5 arg6 arg7 x0 x1 x2 x3 h hh (by omega))

theorem skip2_10 (h : ℕ) (hh : h < 16) (hne : h ≠ 8) : row scM0_2.view h hh (w2 (HS2_10 arg4 arg5 arg6 arg7 x0 x1 x2 x3))
    = row scM0_2.view h hh (w2 (HS2_9 arg4 arg5 arg6 arg7 x0 x1 x2 x3)) := by
  unfold HS2_10
  exact ra_skip _ _ _ _ _ _ _ _ hne

theorem old2_10 (h : ℕ) (hh : h < 16) (hne : 8 < h) : row scM0_2.view h hh (w2 (HS2_10 arg4 arg5 arg6 arg7 x0 x1 x2 x3)) = iA h hh :=
  (skip2_10 arg4 arg5 arg6 arg7 x0 x1 x2 x3 h hh (by omega)).trans (old2_9 arg4 arg5 arg6 arg7 x0 x1 x2 x3 h hh (by omega))

theorem skip2_11 (h : ℕ) (hh : h < 16) (hne : h ≠ 9) : row scM0_2.view h hh (w2 (HS2_11 arg4 arg5 arg6 arg7 x0 x1 x2 x3))
    = row scM0_2.view h hh (w2 (HS2_10 arg4 arg5 arg6 arg7 x0 x1 x2 x3)) := by
  unfold HS2_11
  exact ra_skip _ _ _ _ _ _ _ _ hne

theorem old2_11 (h : ℕ) (hh : h < 16) (hne : 9 < h) : row scM0_2.view h hh (w2 (HS2_11 arg4 arg5 arg6 arg7 x0 x1 x2 x3)) = iA h hh :=
  (skip2_11 arg4 arg5 arg6 arg7 x0 x1 x2 x3 h hh (by omega)).trans (old2_10 arg4 arg5 arg6 arg7 x0 x1 x2 x3 h hh (by omega))

theorem skip2_12 (h : ℕ) (hh : h < 16) (hne : h ≠ 10) : row scM0_2.view h hh (w2 (HS2_12 arg4 arg5 arg6 arg7 x0 x1 x2 x3))
    = row scM0_2.view h hh (w2 (HS2_11 arg4 arg5 arg6 arg7 x0 x1 x2 x3)) := by
  unfold HS2_12
  exact ra_skip _ _ _ _ _ _ _ _ hne

theorem old2_12 (h : ℕ) (hh : h < 16) (hne : 10 < h) : row scM0_2.view h hh (w2 (HS2_12 arg4 arg5 arg6 arg7 x0 x1 x2 x3)) = iA h hh :=
  (skip2_12 arg4 arg5 arg6 arg7 x0 x1 x2 x3 h hh (by omega)).trans (old2_11 arg4 arg5 arg6 arg7 x0 x1 x2 x3 h hh (by omega))

theorem skip2_13 (h : ℕ) (hh : h < 16) (hne : h ≠ 11) : row scM0_2.view h hh (w2 (HS2_13 arg4 arg5 arg6 arg7 x0 x1 x2 x3))
    = row scM0_2.view h hh (w2 (HS2_12 arg4 arg5 arg6 arg7 x0 x1 x2 x3)) := by
  unfold HS2_13
  exact ra_skip _ _ _ _ _ _ _ _ hne

theorem old2_13 (h : ℕ) (hh : h < 16) (hne : 11 < h) : row scM0_2.view h hh (w2 (HS2_13 arg4 arg5 arg6 arg7 x0 x1 x2 x3)) = iA h hh :=
  (skip2_13 arg4 arg5 arg6 arg7 x0 x1 x2 x3 h hh (by omega)).trans (old2_12 arg4 arg5 arg6 arg7 x0 x1 x2 x3 h hh (by omega))

theorem skip2_14 (h : ℕ) (hh : h < 16) (hne : h ≠ 12) : row scM0_2.view h hh (w2 (HS2_14 arg4 arg5 arg6 arg7 x0 x1 x2 x3))
    = row scM0_2.view h hh (w2 (HS2_13 arg4 arg5 arg6 arg7 x0 x1 x2 x3)) := by
  unfold HS2_14
  exact ra_skip _ _ _ _ _ _ _ _ hne

theorem old2_14 (h : ℕ) (hh : h < 16) (hne : 12 < h) : row scM0_2.view h hh (w2 (HS2_14 arg4 arg5 arg6 arg7 x0 x1 x2 x3)) = iA h hh :=
  (skip2_14 arg4 arg5 arg6 arg7 x0 x1 x2 x3 h hh (by omega)).trans (old2_13 arg4 arg5 arg6 arg7 x0 x1 x2 x3 h hh (by omega))

theorem skip2_15 (h : ℕ) (hh : h < 16) (hne : h ≠ 13) : row scM0_2.view h hh (w2 (HS2_15 arg4 arg5 arg6 arg7 x0 x1 x2 x3))
    = row scM0_2.view h hh (w2 (HS2_14 arg4 arg5 arg6 arg7 x0 x1 x2 x3)) := by
  unfold HS2_15
  exact ra_skip _ _ _ _ _ _ _ _ hne

theorem old2_15 (h : ℕ) (hh : h < 16) (hne : 13 < h) : row scM0_2.view h hh (w2 (HS2_15 arg4 arg5 arg6 arg7 x0 x1 x2 x3)) = iA h hh :=
  (skip2_15 arg4 arg5 arg6 arg7 x0 x1 x2 x3 h hh (by omega)).trans (old2_14 arg4 arg5 arg6 arg7 x0 x1 x2 x3 h hh (by omega))

theorem skip2_16 (h : ℕ) (hh : h < 16) (hne : h ≠ 14) : row scM0_2.view h hh (w2 (HS2_16 arg4 arg5 arg6 arg7 x0 x1 x2 x3))
    = row scM0_2.view h hh (w2 (HS2_15 arg4 arg5 arg6 arg7 x0 x1 x2 x3)) := by
  unfold HS2_16
  exact ra_skip _ _ _ _ _ _ _ _ hne

theorem old2_16 (h : ℕ) (hh : h < 16) (hne : 14 < h) : row scM0_2.view h hh (w2 (HS2_16 arg4 arg5 arg6 arg7 x0 x1 x2 x3)) = iA h hh :=
  (skip2_16 arg4 arg5 arg6 arg7 x0 x1 x2 x3 h hh (by omega)).trans (old2_15 arg4 arg5 arg6 arg7 x0 x1 x2 x3 h hh (by omega))

theorem skip2_17 (h : ℕ) (hh : h < 16) (hne : h ≠ 15) : row scM0_2.view h hh (w2 (HS2_17 arg4 arg5 arg6 arg7 x0 x1 x2 x3))
    = row scM0_2.view h hh (w2 (HS2_16 arg4 arg5 arg6 arg7 x0 x1 x2 x3)) := by
  unfold HS2_17
  exact ra_skip _ _ _ _ _ _ _ _ hne

theorem mx0 : (v184 arg4 arg5 arg7 x0 x1 x3) = hX arg4 arg5 arg7 x0 x1 x3 0 (by decide) := by
  unfold v184 HS5_1
  refine (View.readCov_full _ _ _ _ _).trans ((tX50 _ _ _).trans (tX_of rfl rfl (bias arg7 x3)))

theorem sc0 : (v189 arg4 arg5 arg7 x0 x1 x3) = hS arg4 arg5 arg7 x0 x1 x3 0 (by decide) := by
  unfold v189 HS3_1
  refine (View.readCov_full _ _ _ _ _).trans ((tS49 _ _ _).trans (tS_of rfl rfl (bias arg7 x3)))

theorem list0_0 : row scM0_0.view 0 (by decide) (w0 (HS0_17 arg4 arg5 arg7 x0 x1 x3)) = tM (iM 0 (by decide)) (hX arg4 arg5 arg7 x0 x1 x3 0 (by decide)) := by
  refine (skip0_17 arg4 arg5 arg7 x0 x1 x3 0 (by omega) (by decide)).trans ?_
  refine (skip0_16 arg4 arg5 arg7 x0 x1 x3 0 (by omega) (by decide)).trans ?_
  refine (skip0_15 arg4 arg5 arg7 x0 x1 x3 0 (by omega) (by decide)).trans ?_
  refine (skip0_14 arg4 arg5 arg7 x0 x1 x3 0 (by omega) (by decide)).trans ?_
  refine (skip0_13 arg4 arg5 arg7 x0 x1 x3 0 (by omega) (by decide)).trans ?_
  refine (skip0_12 arg4 arg5 arg7 x0 x1 x3 0 (by omega) (by decide)).trans ?_
  refine (skip0_11 arg4 arg5 arg7 x0 x1 x3 0 (by omega) (by decide)).trans ?_
  refine (skip0_10 arg4 arg5 arg7 x0 x1 x3 0 (by omega) (by decide)).trans ?_
  refine (skip0_9 arg4 arg5 arg7 x0 x1 x3 0 (by omega) (by decide)).trans ?_
  refine (skip0_8 arg4 arg5 arg7 x0 x1 x3 0 (by omega) (by decide)).trans ?_
  refine (skip0_7 arg4 arg5 arg7 x0 x1 x3 0 (by omega) (by decide)).trans ?_
  refine (skip0_6 arg4 arg5 arg7 x0 x1 x3 0 (by omega) (by decide)).trans ?_
  refine (skip0_5 arg4 arg5 arg7 x0 x1 x3 0 (by omega) (by decide)).trans ?_
  refine (skip0_4 arg4 arg5 arg7 x0 x1 x3 0 (by omega) (by decide)).trans ?_
  refine (skip0_3 arg4 arg5 arg7 x0 x1 x3 0 (by omega) (by decide)).trans ?_
  unfold HS0_2
  refine (rs_hit 0 _ _ _ _ _ _).trans ?_
  exact Eq.trans (b := tM v182 (v184 arg4 arg5 arg7 x0 x1 x3)) rfl (tM_of2 (old0_1  0 (by omega)) (mx0 arg4 arg5 arg7 x0 x1 x3))

theorem list1_0 : row scM0_1.view 0 (by decide) (w1 (HS1_17 arg4 arg5 arg6 arg7 x0 x1 x2 x3)) = tL (iM 0 (by decide)) (hX arg4 arg5 arg7 x0 x1 x3 0 (by decide)) (hS arg4 arg5 arg7 x0 x1 x3 0 (by decide)) (hV arg6 x2 0 (by decide)) (iL 0 (by decide)) := by
  refine (skip1_17 arg4 arg5 arg6 arg7 x0 x1 x2 x3 0 (by omega) (by decide)).trans ?_
  refine (skip1_16 arg4 arg5 arg6 arg7 x0 x1 x2 x3 0 (by omega) (by decide)).trans ?_
  refine (skip1_15 arg4 arg5 arg6 arg7 x0 x1 x2 x3 0 (by omega) (by decide)).trans ?_
  refine (skip1_14 arg4 arg5 arg6 arg7 x0 x1 x2 x3 0 (by omega) (by decide)).trans ?_
  refine (skip1_13 arg4 arg5 arg6 arg7 x0 x1 x2 x3 0 (by omega) (by decide)).trans ?_
  refine (skip1_12 arg4 arg5 arg6 arg7 x0 x1 x2 x3 0 (by omega) (by decide)).trans ?_
  refine (skip1_11 arg4 arg5 arg6 arg7 x0 x1 x2 x3 0 (by omega) (by decide)).trans ?_
  refine (skip1_10 arg4 arg5 arg6 arg7 x0 x1 x2 x3 0 (by omega) (by decide)).trans ?_
  refine (skip1_9 arg4 arg5 arg6 arg7 x0 x1 x2 x3 0 (by omega) (by decide)).trans ?_
  refine (skip1_8 arg4 arg5 arg6 arg7 x0 x1 x2 x3 0 (by omega) (by decide)).trans ?_
  refine (skip1_7 arg4 arg5 arg6 arg7 x0 x1 x2 x3 0 (by omega) (by decide)).trans ?_
  refine (skip1_6 arg4 arg5 arg6 arg7 x0 x1 x2 x3 0 (by omega) (by decide)).trans ?_
  refine (skip1_5 arg4 arg5 arg6 arg7 x0 x1 x2 x3 0 (by omega) (by decide)).trans ?_
  refine (skip1_4 arg4 arg5 arg6 arg7 x0 x1 x2 x3 0 (by omega) (by decide)).trans ?_
  refine (skip1_3 arg4 arg5 arg6 arg7 x0 x1 x2 x3 0 (by omega) (by decide)).trans ?_
  unfold HS1_2
  refine (rs_hit 0 _ _ _ _ _ _).trans ?_
  exact Eq.trans (b := tL v182 (v184 arg4 arg5 arg7 x0 x1 x3) (v189 arg4 arg5 arg7 x0 x1 x3) (hV arg6 x2 0 (by decide)) v217) rfl (tL_of (old0_1  0 (by omega)) (mx0 arg4 arg5 arg7 x0 x1 x3) (sc0 arg4 arg5 arg7 x0 x1 x3) (old1_1  0 (by omega)))

theorem list2_0 : row scM0_2.view 0 (by decide) (w2 (HS2_17 arg4 arg5 arg6 arg7 x0 x1 x2 x3)) = tA (iM 0 (by decide)) (hX arg4 arg5 arg7 x0 x1 x3 0 (by decide)) (hS arg4 arg5 arg7 x0 x1 x3 0 (by decide)) (hV arg6 x2 0 (by decide)) (iA 0 (by decide)) := by
  refine (skip2_17 arg4 arg5 arg6 arg7 x0 x1 x2 x3 0 (by omega) (by decide)).trans ?_
  refine (skip2_16 arg4 arg5 arg6 arg7 x0 x1 x2 x3 0 (by omega) (by decide)).trans ?_
  refine (skip2_15 arg4 arg5 arg6 arg7 x0 x1 x2 x3 0 (by omega) (by decide)).trans ?_
  refine (skip2_14 arg4 arg5 arg6 arg7 x0 x1 x2 x3 0 (by omega) (by decide)).trans ?_
  refine (skip2_13 arg4 arg5 arg6 arg7 x0 x1 x2 x3 0 (by omega) (by decide)).trans ?_
  refine (skip2_12 arg4 arg5 arg6 arg7 x0 x1 x2 x3 0 (by omega) (by decide)).trans ?_
  refine (skip2_11 arg4 arg5 arg6 arg7 x0 x1 x2 x3 0 (by omega) (by decide)).trans ?_
  refine (skip2_10 arg4 arg5 arg6 arg7 x0 x1 x2 x3 0 (by omega) (by decide)).trans ?_
  refine (skip2_9 arg4 arg5 arg6 arg7 x0 x1 x2 x3 0 (by omega) (by decide)).trans ?_
  refine (skip2_8 arg4 arg5 arg6 arg7 x0 x1 x2 x3 0 (by omega) (by decide)).trans ?_
  refine (skip2_7 arg4 arg5 arg6 arg7 x0 x1 x2 x3 0 (by omega) (by decide)).trans ?_
  refine (skip2_6 arg4 arg5 arg6 arg7 x0 x1 x2 x3 0 (by omega) (by decide)).trans ?_
  refine (skip2_5 arg4 arg5 arg6 arg7 x0 x1 x2 x3 0 (by omega) (by decide)).trans ?_
  refine (skip2_4 arg4 arg5 arg6 arg7 x0 x1 x2 x3 0 (by omega) (by decide)).trans ?_
  refine (skip2_3 arg4 arg5 arg6 arg7 x0 x1 x2 x3 0 (by omega) (by decide)).trans ?_
  unfold HS2_2
  refine (ra_hit 0 _ _ _ _ _ _).trans ?_
  exact Eq.trans (b := tA v182 (v184 arg4 arg5 arg7 x0 x1 x3) (v189 arg4 arg5 arg7 x0 x1 x3) (hV arg6 x2 0 (by decide)) v227) rfl (tA_of (old0_1  0 (by omega)) (mx0 arg4 arg5 arg7 x0 x1 x3) (sc0 arg4 arg5 arg7 x0 x1 x3) (old2_1  0 (by omega)))

theorem mx1 : (v284 arg4 arg5 arg7 x0 x1 x3) = hX arg4 arg5 arg7 x0 x1 x3 1 (by decide) := by
  unfold v284 HS6_1
  refine (View.readCov_full _ _ _ _ _).trans ((tX10 _ _ _).trans (tX_of rfl rfl (bias arg7 x3)))

theorem sc1 : (v289 arg4 arg5 arg7 x0 x1 x3) = hS arg4 arg5 arg7 x0 x1 x3 1 (by decide) := by
  unfold v289 HS4_1
  refine (View.readCov_full _ _ _ _ _).trans ((tS8 _ _ _).trans (tS_of rfl rfl (bias arg7 x3)))

theorem list0_1 : row scM0_0.view 1 (by decide) (w0 (HS0_17 arg4 arg5 arg7 x0 x1 x3)) = tM (iM 1 (by decide)) (hX arg4 arg5 arg7 x0 x1 x3 1 (by decide)) := by
  refine (skip0_17 arg4 arg5 arg7 x0 x1 x3 1 (by omega) (by decide)).trans ?_
  refine (skip0_16 arg4 arg5 arg7 x0 x1 x3 1 (by omega) (by decide)).trans ?_
  refine (skip0_15 arg4 arg5 arg7 x0 x1 x3 1 (by omega) (by decide)).trans ?_
  refine (skip0_14 arg4 arg5 arg7 x0 x1 x3 1 (by omega) (by decide)).trans ?_
  refine (skip0_13 arg4 arg5 arg7 x0 x1 x3 1 (by omega) (by decide)).trans ?_
  refine (skip0_12 arg4 arg5 arg7 x0 x1 x3 1 (by omega) (by decide)).trans ?_
  refine (skip0_11 arg4 arg5 arg7 x0 x1 x3 1 (by omega) (by decide)).trans ?_
  refine (skip0_10 arg4 arg5 arg7 x0 x1 x3 1 (by omega) (by decide)).trans ?_
  refine (skip0_9 arg4 arg5 arg7 x0 x1 x3 1 (by omega) (by decide)).trans ?_
  refine (skip0_8 arg4 arg5 arg7 x0 x1 x3 1 (by omega) (by decide)).trans ?_
  refine (skip0_7 arg4 arg5 arg7 x0 x1 x3 1 (by omega) (by decide)).trans ?_
  refine (skip0_6 arg4 arg5 arg7 x0 x1 x3 1 (by omega) (by decide)).trans ?_
  refine (skip0_5 arg4 arg5 arg7 x0 x1 x3 1 (by omega) (by decide)).trans ?_
  refine (skip0_4 arg4 arg5 arg7 x0 x1 x3 1 (by omega) (by decide)).trans ?_
  unfold HS0_3
  refine (rs_hit 1 _ _ _ _ _ _).trans ?_
  exact Eq.trans (b := tM (v282 arg4 arg5 arg7 x0 x1 x3) (v284 arg4 arg5 arg7 x0 x1 x3)) rfl (tM_of2 (old0_2 arg4 arg5 arg7 x0 x1 x3 1 (by omega) (by omega)) (mx1 arg4 arg5 arg7 x0 x1 x3))

theorem list1_1 : row scM0_1.view 1 (by decide) (w1 (HS1_17 arg4 arg5 arg6 arg7 x0 x1 x2 x3)) = tL (iM 1 (by decide)) (hX arg4 arg5 arg7 x0 x1 x3 1 (by decide)) (hS arg4 arg5 arg7 x0 x1 x3 1 (by decide)) (hV arg6 x2 1 (by decide)) (iL 1 (by decide)) := by
  refine (skip1_17 arg4 arg5 arg6 arg7 x0 x1 x2 x3 1 (by omega) (by decide)).trans ?_
  refine (skip1_16 arg4 arg5 arg6 arg7 x0 x1 x2 x3 1 (by omega) (by decide)).trans ?_
  refine (skip1_15 arg4 arg5 arg6 arg7 x0 x1 x2 x3 1 (by omega) (by decide)).trans ?_
  refine (skip1_14 arg4 arg5 arg6 arg7 x0 x1 x2 x3 1 (by omega) (by decide)).trans ?_
  refine (skip1_13 arg4 arg5 arg6 arg7 x0 x1 x2 x3 1 (by omega) (by decide)).trans ?_
  refine (skip1_12 arg4 arg5 arg6 arg7 x0 x1 x2 x3 1 (by omega) (by decide)).trans ?_
  refine (skip1_11 arg4 arg5 arg6 arg7 x0 x1 x2 x3 1 (by omega) (by decide)).trans ?_
  refine (skip1_10 arg4 arg5 arg6 arg7 x0 x1 x2 x3 1 (by omega) (by decide)).trans ?_
  refine (skip1_9 arg4 arg5 arg6 arg7 x0 x1 x2 x3 1 (by omega) (by decide)).trans ?_
  refine (skip1_8 arg4 arg5 arg6 arg7 x0 x1 x2 x3 1 (by omega) (by decide)).trans ?_
  refine (skip1_7 arg4 arg5 arg6 arg7 x0 x1 x2 x3 1 (by omega) (by decide)).trans ?_
  refine (skip1_6 arg4 arg5 arg6 arg7 x0 x1 x2 x3 1 (by omega) (by decide)).trans ?_
  refine (skip1_5 arg4 arg5 arg6 arg7 x0 x1 x2 x3 1 (by omega) (by decide)).trans ?_
  refine (skip1_4 arg4 arg5 arg6 arg7 x0 x1 x2 x3 1 (by omega) (by decide)).trans ?_
  unfold HS1_3
  refine (rs_hit 1 _ _ _ _ _ _).trans ?_
  exact Eq.trans (b := tL (v282 arg4 arg5 arg7 x0 x1 x3) (v284 arg4 arg5 arg7 x0 x1 x3) (v289 arg4 arg5 arg7 x0 x1 x3) (hV arg6 x2 1 (by decide)) (v317 arg4 arg5 arg6 arg7 x0 x1 x2 x3)) rfl (tL_of (old0_2 arg4 arg5 arg7 x0 x1 x3 1 (by omega) (by omega)) (mx1 arg4 arg5 arg7 x0 x1 x3) (sc1 arg4 arg5 arg7 x0 x1 x3) (old1_2 arg4 arg5 arg6 arg7 x0 x1 x2 x3 1 (by omega) (by omega)))

theorem list2_1 : row scM0_2.view 1 (by decide) (w2 (HS2_17 arg4 arg5 arg6 arg7 x0 x1 x2 x3)) = tA (iM 1 (by decide)) (hX arg4 arg5 arg7 x0 x1 x3 1 (by decide)) (hS arg4 arg5 arg7 x0 x1 x3 1 (by decide)) (hV arg6 x2 1 (by decide)) (iA 1 (by decide)) := by
  refine (skip2_17 arg4 arg5 arg6 arg7 x0 x1 x2 x3 1 (by omega) (by decide)).trans ?_
  refine (skip2_16 arg4 arg5 arg6 arg7 x0 x1 x2 x3 1 (by omega) (by decide)).trans ?_
  refine (skip2_15 arg4 arg5 arg6 arg7 x0 x1 x2 x3 1 (by omega) (by decide)).trans ?_
  refine (skip2_14 arg4 arg5 arg6 arg7 x0 x1 x2 x3 1 (by omega) (by decide)).trans ?_
  refine (skip2_13 arg4 arg5 arg6 arg7 x0 x1 x2 x3 1 (by omega) (by decide)).trans ?_
  refine (skip2_12 arg4 arg5 arg6 arg7 x0 x1 x2 x3 1 (by omega) (by decide)).trans ?_
  refine (skip2_11 arg4 arg5 arg6 arg7 x0 x1 x2 x3 1 (by omega) (by decide)).trans ?_
  refine (skip2_10 arg4 arg5 arg6 arg7 x0 x1 x2 x3 1 (by omega) (by decide)).trans ?_
  refine (skip2_9 arg4 arg5 arg6 arg7 x0 x1 x2 x3 1 (by omega) (by decide)).trans ?_
  refine (skip2_8 arg4 arg5 arg6 arg7 x0 x1 x2 x3 1 (by omega) (by decide)).trans ?_
  refine (skip2_7 arg4 arg5 arg6 arg7 x0 x1 x2 x3 1 (by omega) (by decide)).trans ?_
  refine (skip2_6 arg4 arg5 arg6 arg7 x0 x1 x2 x3 1 (by omega) (by decide)).trans ?_
  refine (skip2_5 arg4 arg5 arg6 arg7 x0 x1 x2 x3 1 (by omega) (by decide)).trans ?_
  refine (skip2_4 arg4 arg5 arg6 arg7 x0 x1 x2 x3 1 (by omega) (by decide)).trans ?_
  unfold HS2_3
  refine (ra_hit 1 _ _ _ _ _ _).trans ?_
  exact Eq.trans (b := tA (v282 arg4 arg5 arg7 x0 x1 x3) (v284 arg4 arg5 arg7 x0 x1 x3) (v289 arg4 arg5 arg7 x0 x1 x3) (hV arg6 x2 1 (by decide)) (v327 arg4 arg5 arg6 arg7 x0 x1 x2 x3)) rfl (tA_of (old0_2 arg4 arg5 arg7 x0 x1 x3 1 (by omega) (by omega)) (mx1 arg4 arg5 arg7 x0 x1 x3) (sc1 arg4 arg5 arg7 x0 x1 x3) (old2_2 arg4 arg5 arg6 arg7 x0 x1 x2 x3 1 (by omega) (by omega)))

theorem mx2 : (v184_1 arg4 arg5 arg7 x0 x1 x3) = hX arg4 arg5 arg7 x0 x1 x3 2 (by decide) := by
  unfold v184_1 HS5_2
  refine (View.readCov_full _ _ _ _ _).trans ((tX21 _ _ _).trans (tX_of rfl rfl (bias arg7 x3)))

theorem sc2 : (v189_1 arg4 arg5 arg7 x0 x1 x3) = hS arg4 arg5 arg7 x0 x1 x3 2 (by decide) := by
  unfold v189_1 HS3_2
  refine (View.readCov_full _ _ _ _ _).trans ((tS20 _ _ _).trans (tS_of rfl rfl (bias arg7 x3)))

theorem list0_2 : row scM0_0.view 2 (by decide) (w0 (HS0_17 arg4 arg5 arg7 x0 x1 x3)) = tM (iM 2 (by decide)) (hX arg4 arg5 arg7 x0 x1 x3 2 (by decide)) := by
  refine (skip0_17 arg4 arg5 arg7 x0 x1 x3 2 (by omega) (by decide)).trans ?_
  refine (skip0_16 arg4 arg5 arg7 x0 x1 x3 2 (by omega) (by decide)).trans ?_
  refine (skip0_15 arg4 arg5 arg7 x0 x1 x3 2 (by omega) (by decide)).trans ?_
  refine (skip0_14 arg4 arg5 arg7 x0 x1 x3 2 (by omega) (by decide)).trans ?_
  refine (skip0_13 arg4 arg5 arg7 x0 x1 x3 2 (by omega) (by decide)).trans ?_
  refine (skip0_12 arg4 arg5 arg7 x0 x1 x3 2 (by omega) (by decide)).trans ?_
  refine (skip0_11 arg4 arg5 arg7 x0 x1 x3 2 (by omega) (by decide)).trans ?_
  refine (skip0_10 arg4 arg5 arg7 x0 x1 x3 2 (by omega) (by decide)).trans ?_
  refine (skip0_9 arg4 arg5 arg7 x0 x1 x3 2 (by omega) (by decide)).trans ?_
  refine (skip0_8 arg4 arg5 arg7 x0 x1 x3 2 (by omega) (by decide)).trans ?_
  refine (skip0_7 arg4 arg5 arg7 x0 x1 x3 2 (by omega) (by decide)).trans ?_
  refine (skip0_6 arg4 arg5 arg7 x0 x1 x3 2 (by omega) (by decide)).trans ?_
  refine (skip0_5 arg4 arg5 arg7 x0 x1 x3 2 (by omega) (by decide)).trans ?_
  unfold HS0_4
  refine (rs_hit 2 _ _ _ _ _ _).trans ?_
  exact Eq.trans (b := tM (v182_1 arg4 arg5 arg7 x0 x1 x3) (v184_1 arg4 arg5 arg7 x0 x1 x3)) rfl (tM_of2 (old0_3 arg4 arg5 arg7 x0 x1 x3 2 (by omega) (by omega)) (mx2 arg4 arg5 arg7 x0 x1 x3))

theorem list1_2 : row scM0_1.view 2 (by decide) (w1 (HS1_17 arg4 arg5 arg6 arg7 x0 x1 x2 x3)) = tL (iM 2 (by decide)) (hX arg4 arg5 arg7 x0 x1 x3 2 (by decide)) (hS arg4 arg5 arg7 x0 x1 x3 2 (by decide)) (hV arg6 x2 2 (by decide)) (iL 2 (by decide)) := by
  refine (skip1_17 arg4 arg5 arg6 arg7 x0 x1 x2 x3 2 (by omega) (by decide)).trans ?_
  refine (skip1_16 arg4 arg5 arg6 arg7 x0 x1 x2 x3 2 (by omega) (by decide)).trans ?_
  refine (skip1_15 arg4 arg5 arg6 arg7 x0 x1 x2 x3 2 (by omega) (by decide)).trans ?_
  refine (skip1_14 arg4 arg5 arg6 arg7 x0 x1 x2 x3 2 (by omega) (by decide)).trans ?_
  refine (skip1_13 arg4 arg5 arg6 arg7 x0 x1 x2 x3 2 (by omega) (by decide)).trans ?_
  refine (skip1_12 arg4 arg5 arg6 arg7 x0 x1 x2 x3 2 (by omega) (by decide)).trans ?_
  refine (skip1_11 arg4 arg5 arg6 arg7 x0 x1 x2 x3 2 (by omega) (by decide)).trans ?_
  refine (skip1_10 arg4 arg5 arg6 arg7 x0 x1 x2 x3 2 (by omega) (by decide)).trans ?_
  refine (skip1_9 arg4 arg5 arg6 arg7 x0 x1 x2 x3 2 (by omega) (by decide)).trans ?_
  refine (skip1_8 arg4 arg5 arg6 arg7 x0 x1 x2 x3 2 (by omega) (by decide)).trans ?_
  refine (skip1_7 arg4 arg5 arg6 arg7 x0 x1 x2 x3 2 (by omega) (by decide)).trans ?_
  refine (skip1_6 arg4 arg5 arg6 arg7 x0 x1 x2 x3 2 (by omega) (by decide)).trans ?_
  refine (skip1_5 arg4 arg5 arg6 arg7 x0 x1 x2 x3 2 (by omega) (by decide)).trans ?_
  unfold HS1_4
  refine (rs_hit 2 _ _ _ _ _ _).trans ?_
  exact Eq.trans (b := tL (v182_1 arg4 arg5 arg7 x0 x1 x3) (v184_1 arg4 arg5 arg7 x0 x1 x3) (v189_1 arg4 arg5 arg7 x0 x1 x3) (hV arg6 x2 2 (by decide)) (v217_1 arg4 arg5 arg6 arg7 x0 x1 x2 x3)) rfl (tL_of (old0_3 arg4 arg5 arg7 x0 x1 x3 2 (by omega) (by omega)) (mx2 arg4 arg5 arg7 x0 x1 x3) (sc2 arg4 arg5 arg7 x0 x1 x3) (old1_3 arg4 arg5 arg6 arg7 x0 x1 x2 x3 2 (by omega) (by omega)))

theorem list2_2 : row scM0_2.view 2 (by decide) (w2 (HS2_17 arg4 arg5 arg6 arg7 x0 x1 x2 x3)) = tA (iM 2 (by decide)) (hX arg4 arg5 arg7 x0 x1 x3 2 (by decide)) (hS arg4 arg5 arg7 x0 x1 x3 2 (by decide)) (hV arg6 x2 2 (by decide)) (iA 2 (by decide)) := by
  refine (skip2_17 arg4 arg5 arg6 arg7 x0 x1 x2 x3 2 (by omega) (by decide)).trans ?_
  refine (skip2_16 arg4 arg5 arg6 arg7 x0 x1 x2 x3 2 (by omega) (by decide)).trans ?_
  refine (skip2_15 arg4 arg5 arg6 arg7 x0 x1 x2 x3 2 (by omega) (by decide)).trans ?_
  refine (skip2_14 arg4 arg5 arg6 arg7 x0 x1 x2 x3 2 (by omega) (by decide)).trans ?_
  refine (skip2_13 arg4 arg5 arg6 arg7 x0 x1 x2 x3 2 (by omega) (by decide)).trans ?_
  refine (skip2_12 arg4 arg5 arg6 arg7 x0 x1 x2 x3 2 (by omega) (by decide)).trans ?_
  refine (skip2_11 arg4 arg5 arg6 arg7 x0 x1 x2 x3 2 (by omega) (by decide)).trans ?_
  refine (skip2_10 arg4 arg5 arg6 arg7 x0 x1 x2 x3 2 (by omega) (by decide)).trans ?_
  refine (skip2_9 arg4 arg5 arg6 arg7 x0 x1 x2 x3 2 (by omega) (by decide)).trans ?_
  refine (skip2_8 arg4 arg5 arg6 arg7 x0 x1 x2 x3 2 (by omega) (by decide)).trans ?_
  refine (skip2_7 arg4 arg5 arg6 arg7 x0 x1 x2 x3 2 (by omega) (by decide)).trans ?_
  refine (skip2_6 arg4 arg5 arg6 arg7 x0 x1 x2 x3 2 (by omega) (by decide)).trans ?_
  refine (skip2_5 arg4 arg5 arg6 arg7 x0 x1 x2 x3 2 (by omega) (by decide)).trans ?_
  unfold HS2_4
  refine (ra_hit 2 _ _ _ _ _ _).trans ?_
  exact Eq.trans (b := tA (v182_1 arg4 arg5 arg7 x0 x1 x3) (v184_1 arg4 arg5 arg7 x0 x1 x3) (v189_1 arg4 arg5 arg7 x0 x1 x3) (hV arg6 x2 2 (by decide)) (v227_1 arg4 arg5 arg6 arg7 x0 x1 x2 x3)) rfl (tA_of (old0_3 arg4 arg5 arg7 x0 x1 x3 2 (by omega) (by omega)) (mx2 arg4 arg5 arg7 x0 x1 x3) (sc2 arg4 arg5 arg7 x0 x1 x3) (old2_3 arg4 arg5 arg6 arg7 x0 x1 x2 x3 2 (by omega) (by omega)))

theorem mx3 : (v284_1 arg4 arg5 arg7 x0 x1 x3) = hX arg4 arg5 arg7 x0 x1 x3 3 (by decide) := by
  unfold v284_1 HS6_2
  refine (View.readCov_full _ _ _ _ _).trans ((tX10 _ _ _).trans (tX_of rfl rfl (bias arg7 x3)))

theorem sc3 : (v289_1 arg4 arg5 arg7 x0 x1 x3) = hS arg4 arg5 arg7 x0 x1 x3 3 (by decide) := by
  unfold v289_1 HS4_2
  refine (View.readCov_full _ _ _ _ _).trans ((tS8 _ _ _).trans (tS_of rfl rfl (bias arg7 x3)))

theorem list0_3 : row scM0_0.view 3 (by decide) (w0 (HS0_17 arg4 arg5 arg7 x0 x1 x3)) = tM (iM 3 (by decide)) (hX arg4 arg5 arg7 x0 x1 x3 3 (by decide)) := by
  refine (skip0_17 arg4 arg5 arg7 x0 x1 x3 3 (by omega) (by decide)).trans ?_
  refine (skip0_16 arg4 arg5 arg7 x0 x1 x3 3 (by omega) (by decide)).trans ?_
  refine (skip0_15 arg4 arg5 arg7 x0 x1 x3 3 (by omega) (by decide)).trans ?_
  refine (skip0_14 arg4 arg5 arg7 x0 x1 x3 3 (by omega) (by decide)).trans ?_
  refine (skip0_13 arg4 arg5 arg7 x0 x1 x3 3 (by omega) (by decide)).trans ?_
  refine (skip0_12 arg4 arg5 arg7 x0 x1 x3 3 (by omega) (by decide)).trans ?_
  refine (skip0_11 arg4 arg5 arg7 x0 x1 x3 3 (by omega) (by decide)).trans ?_
  refine (skip0_10 arg4 arg5 arg7 x0 x1 x3 3 (by omega) (by decide)).trans ?_
  refine (skip0_9 arg4 arg5 arg7 x0 x1 x3 3 (by omega) (by decide)).trans ?_
  refine (skip0_8 arg4 arg5 arg7 x0 x1 x3 3 (by omega) (by decide)).trans ?_
  refine (skip0_7 arg4 arg5 arg7 x0 x1 x3 3 (by omega) (by decide)).trans ?_
  refine (skip0_6 arg4 arg5 arg7 x0 x1 x3 3 (by omega) (by decide)).trans ?_
  unfold HS0_5
  refine (rs_hit 3 _ _ _ _ _ _).trans ?_
  exact Eq.trans (b := tM (v282_1 arg4 arg5 arg7 x0 x1 x3) (v284_1 arg4 arg5 arg7 x0 x1 x3)) rfl (tM_of2 (old0_4 arg4 arg5 arg7 x0 x1 x3 3 (by omega) (by omega)) (mx3 arg4 arg5 arg7 x0 x1 x3))

theorem list1_3 : row scM0_1.view 3 (by decide) (w1 (HS1_17 arg4 arg5 arg6 arg7 x0 x1 x2 x3)) = tL (iM 3 (by decide)) (hX arg4 arg5 arg7 x0 x1 x3 3 (by decide)) (hS arg4 arg5 arg7 x0 x1 x3 3 (by decide)) (hV arg6 x2 3 (by decide)) (iL 3 (by decide)) := by
  refine (skip1_17 arg4 arg5 arg6 arg7 x0 x1 x2 x3 3 (by omega) (by decide)).trans ?_
  refine (skip1_16 arg4 arg5 arg6 arg7 x0 x1 x2 x3 3 (by omega) (by decide)).trans ?_
  refine (skip1_15 arg4 arg5 arg6 arg7 x0 x1 x2 x3 3 (by omega) (by decide)).trans ?_
  refine (skip1_14 arg4 arg5 arg6 arg7 x0 x1 x2 x3 3 (by omega) (by decide)).trans ?_
  refine (skip1_13 arg4 arg5 arg6 arg7 x0 x1 x2 x3 3 (by omega) (by decide)).trans ?_
  refine (skip1_12 arg4 arg5 arg6 arg7 x0 x1 x2 x3 3 (by omega) (by decide)).trans ?_
  refine (skip1_11 arg4 arg5 arg6 arg7 x0 x1 x2 x3 3 (by omega) (by decide)).trans ?_
  refine (skip1_10 arg4 arg5 arg6 arg7 x0 x1 x2 x3 3 (by omega) (by decide)).trans ?_
  refine (skip1_9 arg4 arg5 arg6 arg7 x0 x1 x2 x3 3 (by omega) (by decide)).trans ?_
  refine (skip1_8 arg4 arg5 arg6 arg7 x0 x1 x2 x3 3 (by omega) (by decide)).trans ?_
  refine (skip1_7 arg4 arg5 arg6 arg7 x0 x1 x2 x3 3 (by omega) (by decide)).trans ?_
  refine (skip1_6 arg4 arg5 arg6 arg7 x0 x1 x2 x3 3 (by omega) (by decide)).trans ?_
  unfold HS1_5
  refine (rs_hit 3 _ _ _ _ _ _).trans ?_
  exact Eq.trans (b := tL (v282_1 arg4 arg5 arg7 x0 x1 x3) (v284_1 arg4 arg5 arg7 x0 x1 x3) (v289_1 arg4 arg5 arg7 x0 x1 x3) (hV arg6 x2 3 (by decide)) (v317_1 arg4 arg5 arg6 arg7 x0 x1 x2 x3)) rfl (tL_of (old0_4 arg4 arg5 arg7 x0 x1 x3 3 (by omega) (by omega)) (mx3 arg4 arg5 arg7 x0 x1 x3) (sc3 arg4 arg5 arg7 x0 x1 x3) (old1_4 arg4 arg5 arg6 arg7 x0 x1 x2 x3 3 (by omega) (by omega)))

theorem list2_3 : row scM0_2.view 3 (by decide) (w2 (HS2_17 arg4 arg5 arg6 arg7 x0 x1 x2 x3)) = tA (iM 3 (by decide)) (hX arg4 arg5 arg7 x0 x1 x3 3 (by decide)) (hS arg4 arg5 arg7 x0 x1 x3 3 (by decide)) (hV arg6 x2 3 (by decide)) (iA 3 (by decide)) := by
  refine (skip2_17 arg4 arg5 arg6 arg7 x0 x1 x2 x3 3 (by omega) (by decide)).trans ?_
  refine (skip2_16 arg4 arg5 arg6 arg7 x0 x1 x2 x3 3 (by omega) (by decide)).trans ?_
  refine (skip2_15 arg4 arg5 arg6 arg7 x0 x1 x2 x3 3 (by omega) (by decide)).trans ?_
  refine (skip2_14 arg4 arg5 arg6 arg7 x0 x1 x2 x3 3 (by omega) (by decide)).trans ?_
  refine (skip2_13 arg4 arg5 arg6 arg7 x0 x1 x2 x3 3 (by omega) (by decide)).trans ?_
  refine (skip2_12 arg4 arg5 arg6 arg7 x0 x1 x2 x3 3 (by omega) (by decide)).trans ?_
  refine (skip2_11 arg4 arg5 arg6 arg7 x0 x1 x2 x3 3 (by omega) (by decide)).trans ?_
  refine (skip2_10 arg4 arg5 arg6 arg7 x0 x1 x2 x3 3 (by omega) (by decide)).trans ?_
  refine (skip2_9 arg4 arg5 arg6 arg7 x0 x1 x2 x3 3 (by omega) (by decide)).trans ?_
  refine (skip2_8 arg4 arg5 arg6 arg7 x0 x1 x2 x3 3 (by omega) (by decide)).trans ?_
  refine (skip2_7 arg4 arg5 arg6 arg7 x0 x1 x2 x3 3 (by omega) (by decide)).trans ?_
  refine (skip2_6 arg4 arg5 arg6 arg7 x0 x1 x2 x3 3 (by omega) (by decide)).trans ?_
  unfold HS2_5
  refine (ra_hit 3 _ _ _ _ _ _).trans ?_
  exact Eq.trans (b := tA (v282_1 arg4 arg5 arg7 x0 x1 x3) (v284_1 arg4 arg5 arg7 x0 x1 x3) (v289_1 arg4 arg5 arg7 x0 x1 x3) (hV arg6 x2 3 (by decide)) (v327_1 arg4 arg5 arg6 arg7 x0 x1 x2 x3)) rfl (tA_of (old0_4 arg4 arg5 arg7 x0 x1 x3 3 (by omega) (by omega)) (mx3 arg4 arg5 arg7 x0 x1 x3) (sc3 arg4 arg5 arg7 x0 x1 x3) (old2_4 arg4 arg5 arg6 arg7 x0 x1 x2 x3 3 (by omega) (by omega)))

theorem mx4 : (v184_2 arg4 arg5 arg7 x0 x1 x3) = hX arg4 arg5 arg7 x0 x1 x3 4 (by decide) := by
  unfold v184_2 HS5_3
  refine (View.readCov_full _ _ _ _ _).trans ((tX21 _ _ _).trans (tX_of rfl rfl (bias arg7 x3)))

theorem sc4 : (v189_2 arg4 arg5 arg7 x0 x1 x3) = hS arg4 arg5 arg7 x0 x1 x3 4 (by decide) := by
  unfold v189_2 HS3_3
  refine (View.readCov_full _ _ _ _ _).trans ((tS20 _ _ _).trans (tS_of rfl rfl (bias arg7 x3)))

theorem list0_4 : row scM0_0.view 4 (by decide) (w0 (HS0_17 arg4 arg5 arg7 x0 x1 x3)) = tM (iM 4 (by decide)) (hX arg4 arg5 arg7 x0 x1 x3 4 (by decide)) := by
  refine (skip0_17 arg4 arg5 arg7 x0 x1 x3 4 (by omega) (by decide)).trans ?_
  refine (skip0_16 arg4 arg5 arg7 x0 x1 x3 4 (by omega) (by decide)).trans ?_
  refine (skip0_15 arg4 arg5 arg7 x0 x1 x3 4 (by omega) (by decide)).trans ?_
  refine (skip0_14 arg4 arg5 arg7 x0 x1 x3 4 (by omega) (by decide)).trans ?_
  refine (skip0_13 arg4 arg5 arg7 x0 x1 x3 4 (by omega) (by decide)).trans ?_
  refine (skip0_12 arg4 arg5 arg7 x0 x1 x3 4 (by omega) (by decide)).trans ?_
  refine (skip0_11 arg4 arg5 arg7 x0 x1 x3 4 (by omega) (by decide)).trans ?_
  refine (skip0_10 arg4 arg5 arg7 x0 x1 x3 4 (by omega) (by decide)).trans ?_
  refine (skip0_9 arg4 arg5 arg7 x0 x1 x3 4 (by omega) (by decide)).trans ?_
  refine (skip0_8 arg4 arg5 arg7 x0 x1 x3 4 (by omega) (by decide)).trans ?_
  refine (skip0_7 arg4 arg5 arg7 x0 x1 x3 4 (by omega) (by decide)).trans ?_
  unfold HS0_6
  refine (rs_hit 4 _ _ _ _ _ _).trans ?_
  exact Eq.trans (b := tM (v182_2 arg4 arg5 arg7 x0 x1 x3) (v184_2 arg4 arg5 arg7 x0 x1 x3)) rfl (tM_of2 (old0_5 arg4 arg5 arg7 x0 x1 x3 4 (by omega) (by omega)) (mx4 arg4 arg5 arg7 x0 x1 x3))

theorem list1_4 : row scM0_1.view 4 (by decide) (w1 (HS1_17 arg4 arg5 arg6 arg7 x0 x1 x2 x3)) = tL (iM 4 (by decide)) (hX arg4 arg5 arg7 x0 x1 x3 4 (by decide)) (hS arg4 arg5 arg7 x0 x1 x3 4 (by decide)) (hV arg6 x2 4 (by decide)) (iL 4 (by decide)) := by
  refine (skip1_17 arg4 arg5 arg6 arg7 x0 x1 x2 x3 4 (by omega) (by decide)).trans ?_
  refine (skip1_16 arg4 arg5 arg6 arg7 x0 x1 x2 x3 4 (by omega) (by decide)).trans ?_
  refine (skip1_15 arg4 arg5 arg6 arg7 x0 x1 x2 x3 4 (by omega) (by decide)).trans ?_
  refine (skip1_14 arg4 arg5 arg6 arg7 x0 x1 x2 x3 4 (by omega) (by decide)).trans ?_
  refine (skip1_13 arg4 arg5 arg6 arg7 x0 x1 x2 x3 4 (by omega) (by decide)).trans ?_
  refine (skip1_12 arg4 arg5 arg6 arg7 x0 x1 x2 x3 4 (by omega) (by decide)).trans ?_
  refine (skip1_11 arg4 arg5 arg6 arg7 x0 x1 x2 x3 4 (by omega) (by decide)).trans ?_
  refine (skip1_10 arg4 arg5 arg6 arg7 x0 x1 x2 x3 4 (by omega) (by decide)).trans ?_
  refine (skip1_9 arg4 arg5 arg6 arg7 x0 x1 x2 x3 4 (by omega) (by decide)).trans ?_
  refine (skip1_8 arg4 arg5 arg6 arg7 x0 x1 x2 x3 4 (by omega) (by decide)).trans ?_
  refine (skip1_7 arg4 arg5 arg6 arg7 x0 x1 x2 x3 4 (by omega) (by decide)).trans ?_
  unfold HS1_6
  refine (rs_hit 4 _ _ _ _ _ _).trans ?_
  exact Eq.trans (b := tL (v182_2 arg4 arg5 arg7 x0 x1 x3) (v184_2 arg4 arg5 arg7 x0 x1 x3) (v189_2 arg4 arg5 arg7 x0 x1 x3) (hV arg6 x2 4 (by decide)) (v217_2 arg4 arg5 arg6 arg7 x0 x1 x2 x3)) rfl (tL_of (old0_5 arg4 arg5 arg7 x0 x1 x3 4 (by omega) (by omega)) (mx4 arg4 arg5 arg7 x0 x1 x3) (sc4 arg4 arg5 arg7 x0 x1 x3) (old1_5 arg4 arg5 arg6 arg7 x0 x1 x2 x3 4 (by omega) (by omega)))

theorem list2_4 : row scM0_2.view 4 (by decide) (w2 (HS2_17 arg4 arg5 arg6 arg7 x0 x1 x2 x3)) = tA (iM 4 (by decide)) (hX arg4 arg5 arg7 x0 x1 x3 4 (by decide)) (hS arg4 arg5 arg7 x0 x1 x3 4 (by decide)) (hV arg6 x2 4 (by decide)) (iA 4 (by decide)) := by
  refine (skip2_17 arg4 arg5 arg6 arg7 x0 x1 x2 x3 4 (by omega) (by decide)).trans ?_
  refine (skip2_16 arg4 arg5 arg6 arg7 x0 x1 x2 x3 4 (by omega) (by decide)).trans ?_
  refine (skip2_15 arg4 arg5 arg6 arg7 x0 x1 x2 x3 4 (by omega) (by decide)).trans ?_
  refine (skip2_14 arg4 arg5 arg6 arg7 x0 x1 x2 x3 4 (by omega) (by decide)).trans ?_
  refine (skip2_13 arg4 arg5 arg6 arg7 x0 x1 x2 x3 4 (by omega) (by decide)).trans ?_
  refine (skip2_12 arg4 arg5 arg6 arg7 x0 x1 x2 x3 4 (by omega) (by decide)).trans ?_
  refine (skip2_11 arg4 arg5 arg6 arg7 x0 x1 x2 x3 4 (by omega) (by decide)).trans ?_
  refine (skip2_10 arg4 arg5 arg6 arg7 x0 x1 x2 x3 4 (by omega) (by decide)).trans ?_
  refine (skip2_9 arg4 arg5 arg6 arg7 x0 x1 x2 x3 4 (by omega) (by decide)).trans ?_
  refine (skip2_8 arg4 arg5 arg6 arg7 x0 x1 x2 x3 4 (by omega) (by decide)).trans ?_
  refine (skip2_7 arg4 arg5 arg6 arg7 x0 x1 x2 x3 4 (by omega) (by decide)).trans ?_
  unfold HS2_6
  refine (ra_hit 4 _ _ _ _ _ _).trans ?_
  exact Eq.trans (b := tA (v182_2 arg4 arg5 arg7 x0 x1 x3) (v184_2 arg4 arg5 arg7 x0 x1 x3) (v189_2 arg4 arg5 arg7 x0 x1 x3) (hV arg6 x2 4 (by decide)) (v227_2 arg4 arg5 arg6 arg7 x0 x1 x2 x3)) rfl (tA_of (old0_5 arg4 arg5 arg7 x0 x1 x3 4 (by omega) (by omega)) (mx4 arg4 arg5 arg7 x0 x1 x3) (sc4 arg4 arg5 arg7 x0 x1 x3) (old2_5 arg4 arg5 arg6 arg7 x0 x1 x2 x3 4 (by omega) (by omega)))

theorem mx5 : (v284_2 arg4 arg5 arg7 x0 x1 x3) = hX arg4 arg5 arg7 x0 x1 x3 5 (by decide) := by
  unfold v284_2 HS6_3
  refine (View.readCov_full _ _ _ _ _).trans ((tX10 _ _ _).trans (tX_of rfl rfl (bias arg7 x3)))

theorem sc5 : (v289_2 arg4 arg5 arg7 x0 x1 x3) = hS arg4 arg5 arg7 x0 x1 x3 5 (by decide) := by
  unfold v289_2 HS4_3
  refine (View.readCov_full _ _ _ _ _).trans ((tS8 _ _ _).trans (tS_of rfl rfl (bias arg7 x3)))

theorem list0_5 : row scM0_0.view 5 (by decide) (w0 (HS0_17 arg4 arg5 arg7 x0 x1 x3)) = tM (iM 5 (by decide)) (hX arg4 arg5 arg7 x0 x1 x3 5 (by decide)) := by
  refine (skip0_17 arg4 arg5 arg7 x0 x1 x3 5 (by omega) (by decide)).trans ?_
  refine (skip0_16 arg4 arg5 arg7 x0 x1 x3 5 (by omega) (by decide)).trans ?_
  refine (skip0_15 arg4 arg5 arg7 x0 x1 x3 5 (by omega) (by decide)).trans ?_
  refine (skip0_14 arg4 arg5 arg7 x0 x1 x3 5 (by omega) (by decide)).trans ?_
  refine (skip0_13 arg4 arg5 arg7 x0 x1 x3 5 (by omega) (by decide)).trans ?_
  refine (skip0_12 arg4 arg5 arg7 x0 x1 x3 5 (by omega) (by decide)).trans ?_
  refine (skip0_11 arg4 arg5 arg7 x0 x1 x3 5 (by omega) (by decide)).trans ?_
  refine (skip0_10 arg4 arg5 arg7 x0 x1 x3 5 (by omega) (by decide)).trans ?_
  refine (skip0_9 arg4 arg5 arg7 x0 x1 x3 5 (by omega) (by decide)).trans ?_
  refine (skip0_8 arg4 arg5 arg7 x0 x1 x3 5 (by omega) (by decide)).trans ?_
  unfold HS0_7
  refine (rs_hit 5 _ _ _ _ _ _).trans ?_
  exact Eq.trans (b := tM (v282_2 arg4 arg5 arg7 x0 x1 x3) (v284_2 arg4 arg5 arg7 x0 x1 x3)) rfl (tM_of2 (old0_6 arg4 arg5 arg7 x0 x1 x3 5 (by omega) (by omega)) (mx5 arg4 arg5 arg7 x0 x1 x3))

theorem list1_5 : row scM0_1.view 5 (by decide) (w1 (HS1_17 arg4 arg5 arg6 arg7 x0 x1 x2 x3)) = tL (iM 5 (by decide)) (hX arg4 arg5 arg7 x0 x1 x3 5 (by decide)) (hS arg4 arg5 arg7 x0 x1 x3 5 (by decide)) (hV arg6 x2 5 (by decide)) (iL 5 (by decide)) := by
  refine (skip1_17 arg4 arg5 arg6 arg7 x0 x1 x2 x3 5 (by omega) (by decide)).trans ?_
  refine (skip1_16 arg4 arg5 arg6 arg7 x0 x1 x2 x3 5 (by omega) (by decide)).trans ?_
  refine (skip1_15 arg4 arg5 arg6 arg7 x0 x1 x2 x3 5 (by omega) (by decide)).trans ?_
  refine (skip1_14 arg4 arg5 arg6 arg7 x0 x1 x2 x3 5 (by omega) (by decide)).trans ?_
  refine (skip1_13 arg4 arg5 arg6 arg7 x0 x1 x2 x3 5 (by omega) (by decide)).trans ?_
  refine (skip1_12 arg4 arg5 arg6 arg7 x0 x1 x2 x3 5 (by omega) (by decide)).trans ?_
  refine (skip1_11 arg4 arg5 arg6 arg7 x0 x1 x2 x3 5 (by omega) (by decide)).trans ?_
  refine (skip1_10 arg4 arg5 arg6 arg7 x0 x1 x2 x3 5 (by omega) (by decide)).trans ?_
  refine (skip1_9 arg4 arg5 arg6 arg7 x0 x1 x2 x3 5 (by omega) (by decide)).trans ?_
  refine (skip1_8 arg4 arg5 arg6 arg7 x0 x1 x2 x3 5 (by omega) (by decide)).trans ?_
  unfold HS1_7
  refine (rs_hit 5 _ _ _ _ _ _).trans ?_
  exact Eq.trans (b := tL (v282_2 arg4 arg5 arg7 x0 x1 x3) (v284_2 arg4 arg5 arg7 x0 x1 x3) (v289_2 arg4 arg5 arg7 x0 x1 x3) (hV arg6 x2 5 (by decide)) (v317_2 arg4 arg5 arg6 arg7 x0 x1 x2 x3)) rfl (tL_of (old0_6 arg4 arg5 arg7 x0 x1 x3 5 (by omega) (by omega)) (mx5 arg4 arg5 arg7 x0 x1 x3) (sc5 arg4 arg5 arg7 x0 x1 x3) (old1_6 arg4 arg5 arg6 arg7 x0 x1 x2 x3 5 (by omega) (by omega)))

theorem list2_5 : row scM0_2.view 5 (by decide) (w2 (HS2_17 arg4 arg5 arg6 arg7 x0 x1 x2 x3)) = tA (iM 5 (by decide)) (hX arg4 arg5 arg7 x0 x1 x3 5 (by decide)) (hS arg4 arg5 arg7 x0 x1 x3 5 (by decide)) (hV arg6 x2 5 (by decide)) (iA 5 (by decide)) := by
  refine (skip2_17 arg4 arg5 arg6 arg7 x0 x1 x2 x3 5 (by omega) (by decide)).trans ?_
  refine (skip2_16 arg4 arg5 arg6 arg7 x0 x1 x2 x3 5 (by omega) (by decide)).trans ?_
  refine (skip2_15 arg4 arg5 arg6 arg7 x0 x1 x2 x3 5 (by omega) (by decide)).trans ?_
  refine (skip2_14 arg4 arg5 arg6 arg7 x0 x1 x2 x3 5 (by omega) (by decide)).trans ?_
  refine (skip2_13 arg4 arg5 arg6 arg7 x0 x1 x2 x3 5 (by omega) (by decide)).trans ?_
  refine (skip2_12 arg4 arg5 arg6 arg7 x0 x1 x2 x3 5 (by omega) (by decide)).trans ?_
  refine (skip2_11 arg4 arg5 arg6 arg7 x0 x1 x2 x3 5 (by omega) (by decide)).trans ?_
  refine (skip2_10 arg4 arg5 arg6 arg7 x0 x1 x2 x3 5 (by omega) (by decide)).trans ?_
  refine (skip2_9 arg4 arg5 arg6 arg7 x0 x1 x2 x3 5 (by omega) (by decide)).trans ?_
  refine (skip2_8 arg4 arg5 arg6 arg7 x0 x1 x2 x3 5 (by omega) (by decide)).trans ?_
  unfold HS2_7
  refine (ra_hit 5 _ _ _ _ _ _).trans ?_
  exact Eq.trans (b := tA (v282_2 arg4 arg5 arg7 x0 x1 x3) (v284_2 arg4 arg5 arg7 x0 x1 x3) (v289_2 arg4 arg5 arg7 x0 x1 x3) (hV arg6 x2 5 (by decide)) (v327_2 arg4 arg5 arg6 arg7 x0 x1 x2 x3)) rfl (tA_of (old0_6 arg4 arg5 arg7 x0 x1 x3 5 (by omega) (by omega)) (mx5 arg4 arg5 arg7 x0 x1 x3) (sc5 arg4 arg5 arg7 x0 x1 x3) (old2_6 arg4 arg5 arg6 arg7 x0 x1 x2 x3 5 (by omega) (by omega)))

theorem mx6 : (v184_3 arg4 arg5 arg7 x0 x1 x3) = hX arg4 arg5 arg7 x0 x1 x3 6 (by decide) := by
  unfold v184_3 HS5_4
  refine (View.readCov_full _ _ _ _ _).trans ((tX21 _ _ _).trans (tX_of rfl rfl (bias arg7 x3)))

theorem sc6 : (v189_3 arg4 arg5 arg7 x0 x1 x3) = hS arg4 arg5 arg7 x0 x1 x3 6 (by decide) := by
  unfold v189_3 HS3_4
  refine (View.readCov_full _ _ _ _ _).trans ((tS20 _ _ _).trans (tS_of rfl rfl (bias arg7 x3)))

theorem list0_6 : row scM0_0.view 6 (by decide) (w0 (HS0_17 arg4 arg5 arg7 x0 x1 x3)) = tM (iM 6 (by decide)) (hX arg4 arg5 arg7 x0 x1 x3 6 (by decide)) := by
  refine (skip0_17 arg4 arg5 arg7 x0 x1 x3 6 (by omega) (by decide)).trans ?_
  refine (skip0_16 arg4 arg5 arg7 x0 x1 x3 6 (by omega) (by decide)).trans ?_
  refine (skip0_15 arg4 arg5 arg7 x0 x1 x3 6 (by omega) (by decide)).trans ?_
  refine (skip0_14 arg4 arg5 arg7 x0 x1 x3 6 (by omega) (by decide)).trans ?_
  refine (skip0_13 arg4 arg5 arg7 x0 x1 x3 6 (by omega) (by decide)).trans ?_
  refine (skip0_12 arg4 arg5 arg7 x0 x1 x3 6 (by omega) (by decide)).trans ?_
  refine (skip0_11 arg4 arg5 arg7 x0 x1 x3 6 (by omega) (by decide)).trans ?_
  refine (skip0_10 arg4 arg5 arg7 x0 x1 x3 6 (by omega) (by decide)).trans ?_
  refine (skip0_9 arg4 arg5 arg7 x0 x1 x3 6 (by omega) (by decide)).trans ?_
  unfold HS0_8
  refine (rs_hit 6 _ _ _ _ _ _).trans ?_
  exact Eq.trans (b := tM (v182_3 arg4 arg5 arg7 x0 x1 x3) (v184_3 arg4 arg5 arg7 x0 x1 x3)) rfl (tM_of2 (old0_7 arg4 arg5 arg7 x0 x1 x3 6 (by omega) (by omega)) (mx6 arg4 arg5 arg7 x0 x1 x3))

theorem list1_6 : row scM0_1.view 6 (by decide) (w1 (HS1_17 arg4 arg5 arg6 arg7 x0 x1 x2 x3)) = tL (iM 6 (by decide)) (hX arg4 arg5 arg7 x0 x1 x3 6 (by decide)) (hS arg4 arg5 arg7 x0 x1 x3 6 (by decide)) (hV arg6 x2 6 (by decide)) (iL 6 (by decide)) := by
  refine (skip1_17 arg4 arg5 arg6 arg7 x0 x1 x2 x3 6 (by omega) (by decide)).trans ?_
  refine (skip1_16 arg4 arg5 arg6 arg7 x0 x1 x2 x3 6 (by omega) (by decide)).trans ?_
  refine (skip1_15 arg4 arg5 arg6 arg7 x0 x1 x2 x3 6 (by omega) (by decide)).trans ?_
  refine (skip1_14 arg4 arg5 arg6 arg7 x0 x1 x2 x3 6 (by omega) (by decide)).trans ?_
  refine (skip1_13 arg4 arg5 arg6 arg7 x0 x1 x2 x3 6 (by omega) (by decide)).trans ?_
  refine (skip1_12 arg4 arg5 arg6 arg7 x0 x1 x2 x3 6 (by omega) (by decide)).trans ?_
  refine (skip1_11 arg4 arg5 arg6 arg7 x0 x1 x2 x3 6 (by omega) (by decide)).trans ?_
  refine (skip1_10 arg4 arg5 arg6 arg7 x0 x1 x2 x3 6 (by omega) (by decide)).trans ?_
  refine (skip1_9 arg4 arg5 arg6 arg7 x0 x1 x2 x3 6 (by omega) (by decide)).trans ?_
  unfold HS1_8
  refine (rs_hit 6 _ _ _ _ _ _).trans ?_
  exact Eq.trans (b := tL (v182_3 arg4 arg5 arg7 x0 x1 x3) (v184_3 arg4 arg5 arg7 x0 x1 x3) (v189_3 arg4 arg5 arg7 x0 x1 x3) (hV arg6 x2 6 (by decide)) (v217_3 arg4 arg5 arg6 arg7 x0 x1 x2 x3)) rfl (tL_of (old0_7 arg4 arg5 arg7 x0 x1 x3 6 (by omega) (by omega)) (mx6 arg4 arg5 arg7 x0 x1 x3) (sc6 arg4 arg5 arg7 x0 x1 x3) (old1_7 arg4 arg5 arg6 arg7 x0 x1 x2 x3 6 (by omega) (by omega)))

theorem list2_6 : row scM0_2.view 6 (by decide) (w2 (HS2_17 arg4 arg5 arg6 arg7 x0 x1 x2 x3)) = tA (iM 6 (by decide)) (hX arg4 arg5 arg7 x0 x1 x3 6 (by decide)) (hS arg4 arg5 arg7 x0 x1 x3 6 (by decide)) (hV arg6 x2 6 (by decide)) (iA 6 (by decide)) := by
  refine (skip2_17 arg4 arg5 arg6 arg7 x0 x1 x2 x3 6 (by omega) (by decide)).trans ?_
  refine (skip2_16 arg4 arg5 arg6 arg7 x0 x1 x2 x3 6 (by omega) (by decide)).trans ?_
  refine (skip2_15 arg4 arg5 arg6 arg7 x0 x1 x2 x3 6 (by omega) (by decide)).trans ?_
  refine (skip2_14 arg4 arg5 arg6 arg7 x0 x1 x2 x3 6 (by omega) (by decide)).trans ?_
  refine (skip2_13 arg4 arg5 arg6 arg7 x0 x1 x2 x3 6 (by omega) (by decide)).trans ?_
  refine (skip2_12 arg4 arg5 arg6 arg7 x0 x1 x2 x3 6 (by omega) (by decide)).trans ?_
  refine (skip2_11 arg4 arg5 arg6 arg7 x0 x1 x2 x3 6 (by omega) (by decide)).trans ?_
  refine (skip2_10 arg4 arg5 arg6 arg7 x0 x1 x2 x3 6 (by omega) (by decide)).trans ?_
  refine (skip2_9 arg4 arg5 arg6 arg7 x0 x1 x2 x3 6 (by omega) (by decide)).trans ?_
  unfold HS2_8
  refine (ra_hit 6 _ _ _ _ _ _).trans ?_
  exact Eq.trans (b := tA (v182_3 arg4 arg5 arg7 x0 x1 x3) (v184_3 arg4 arg5 arg7 x0 x1 x3) (v189_3 arg4 arg5 arg7 x0 x1 x3) (hV arg6 x2 6 (by decide)) (v227_3 arg4 arg5 arg6 arg7 x0 x1 x2 x3)) rfl (tA_of (old0_7 arg4 arg5 arg7 x0 x1 x3 6 (by omega) (by omega)) (mx6 arg4 arg5 arg7 x0 x1 x3) (sc6 arg4 arg5 arg7 x0 x1 x3) (old2_7 arg4 arg5 arg6 arg7 x0 x1 x2 x3 6 (by omega) (by omega)))

theorem mx7 : (v284_3 arg4 arg5 arg7 x0 x1 x3) = hX arg4 arg5 arg7 x0 x1 x3 7 (by decide) := by
  unfold v284_3 HS6_4
  refine (View.readCov_full _ _ _ _ _).trans ((tX10 _ _ _).trans (tX_of rfl rfl (bias arg7 x3)))

theorem sc7 : (v289_3 arg4 arg5 arg7 x0 x1 x3) = hS arg4 arg5 arg7 x0 x1 x3 7 (by decide) := by
  unfold v289_3 HS4_4
  refine (View.readCov_full _ _ _ _ _).trans ((tS8 _ _ _).trans (tS_of rfl rfl (bias arg7 x3)))

theorem list0_7 : row scM0_0.view 7 (by decide) (w0 (HS0_17 arg4 arg5 arg7 x0 x1 x3)) = tM (iM 7 (by decide)) (hX arg4 arg5 arg7 x0 x1 x3 7 (by decide)) := by
  refine (skip0_17 arg4 arg5 arg7 x0 x1 x3 7 (by omega) (by decide)).trans ?_
  refine (skip0_16 arg4 arg5 arg7 x0 x1 x3 7 (by omega) (by decide)).trans ?_
  refine (skip0_15 arg4 arg5 arg7 x0 x1 x3 7 (by omega) (by decide)).trans ?_
  refine (skip0_14 arg4 arg5 arg7 x0 x1 x3 7 (by omega) (by decide)).trans ?_
  refine (skip0_13 arg4 arg5 arg7 x0 x1 x3 7 (by omega) (by decide)).trans ?_
  refine (skip0_12 arg4 arg5 arg7 x0 x1 x3 7 (by omega) (by decide)).trans ?_
  refine (skip0_11 arg4 arg5 arg7 x0 x1 x3 7 (by omega) (by decide)).trans ?_
  refine (skip0_10 arg4 arg5 arg7 x0 x1 x3 7 (by omega) (by decide)).trans ?_
  unfold HS0_9
  refine (rs_hit 7 _ _ _ _ _ _).trans ?_
  exact Eq.trans (b := tM (v282_3 arg4 arg5 arg7 x0 x1 x3) (v284_3 arg4 arg5 arg7 x0 x1 x3)) rfl (tM_of2 (old0_8 arg4 arg5 arg7 x0 x1 x3 7 (by omega) (by omega)) (mx7 arg4 arg5 arg7 x0 x1 x3))

theorem list1_7 : row scM0_1.view 7 (by decide) (w1 (HS1_17 arg4 arg5 arg6 arg7 x0 x1 x2 x3)) = tL (iM 7 (by decide)) (hX arg4 arg5 arg7 x0 x1 x3 7 (by decide)) (hS arg4 arg5 arg7 x0 x1 x3 7 (by decide)) (hV arg6 x2 7 (by decide)) (iL 7 (by decide)) := by
  refine (skip1_17 arg4 arg5 arg6 arg7 x0 x1 x2 x3 7 (by omega) (by decide)).trans ?_
  refine (skip1_16 arg4 arg5 arg6 arg7 x0 x1 x2 x3 7 (by omega) (by decide)).trans ?_
  refine (skip1_15 arg4 arg5 arg6 arg7 x0 x1 x2 x3 7 (by omega) (by decide)).trans ?_
  refine (skip1_14 arg4 arg5 arg6 arg7 x0 x1 x2 x3 7 (by omega) (by decide)).trans ?_
  refine (skip1_13 arg4 arg5 arg6 arg7 x0 x1 x2 x3 7 (by omega) (by decide)).trans ?_
  refine (skip1_12 arg4 arg5 arg6 arg7 x0 x1 x2 x3 7 (by omega) (by decide)).trans ?_
  refine (skip1_11 arg4 arg5 arg6 arg7 x0 x1 x2 x3 7 (by omega) (by decide)).trans ?_
  refine (skip1_10 arg4 arg5 arg6 arg7 x0 x1 x2 x3 7 (by omega) (by decide)).trans ?_
  unfold HS1_9
  refine (rs_hit 7 _ _ _ _ _ _).trans ?_
  exact Eq.trans (b := tL (v282_3 arg4 arg5 arg7 x0 x1 x3) (v284_3 arg4 arg5 arg7 x0 x1 x3) (v289_3 arg4 arg5 arg7 x0 x1 x3) (hV arg6 x2 7 (by decide)) (v317_3 arg4 arg5 arg6 arg7 x0 x1 x2 x3)) rfl (tL_of (old0_8 arg4 arg5 arg7 x0 x1 x3 7 (by omega) (by omega)) (mx7 arg4 arg5 arg7 x0 x1 x3) (sc7 arg4 arg5 arg7 x0 x1 x3) (old1_8 arg4 arg5 arg6 arg7 x0 x1 x2 x3 7 (by omega) (by omega)))

theorem list2_7 : row scM0_2.view 7 (by decide) (w2 (HS2_17 arg4 arg5 arg6 arg7 x0 x1 x2 x3)) = tA (iM 7 (by decide)) (hX arg4 arg5 arg7 x0 x1 x3 7 (by decide)) (hS arg4 arg5 arg7 x0 x1 x3 7 (by decide)) (hV arg6 x2 7 (by decide)) (iA 7 (by decide)) := by
  refine (skip2_17 arg4 arg5 arg6 arg7 x0 x1 x2 x3 7 (by omega) (by decide)).trans ?_
  refine (skip2_16 arg4 arg5 arg6 arg7 x0 x1 x2 x3 7 (by omega) (by decide)).trans ?_
  refine (skip2_15 arg4 arg5 arg6 arg7 x0 x1 x2 x3 7 (by omega) (by decide)).trans ?_
  refine (skip2_14 arg4 arg5 arg6 arg7 x0 x1 x2 x3 7 (by omega) (by decide)).trans ?_
  refine (skip2_13 arg4 arg5 arg6 arg7 x0 x1 x2 x3 7 (by omega) (by decide)).trans ?_
  refine (skip2_12 arg4 arg5 arg6 arg7 x0 x1 x2 x3 7 (by omega) (by decide)).trans ?_
  refine (skip2_11 arg4 arg5 arg6 arg7 x0 x1 x2 x3 7 (by omega) (by decide)).trans ?_
  refine (skip2_10 arg4 arg5 arg6 arg7 x0 x1 x2 x3 7 (by omega) (by decide)).trans ?_
  unfold HS2_9
  refine (ra_hit 7 _ _ _ _ _ _).trans ?_
  exact Eq.trans (b := tA (v282_3 arg4 arg5 arg7 x0 x1 x3) (v284_3 arg4 arg5 arg7 x0 x1 x3) (v289_3 arg4 arg5 arg7 x0 x1 x3) (hV arg6 x2 7 (by decide)) (v327_3 arg4 arg5 arg6 arg7 x0 x1 x2 x3)) rfl (tA_of (old0_8 arg4 arg5 arg7 x0 x1 x3 7 (by omega) (by omega)) (mx7 arg4 arg5 arg7 x0 x1 x3) (sc7 arg4 arg5 arg7 x0 x1 x3) (old2_8 arg4 arg5 arg6 arg7 x0 x1 x2 x3 7 (by omega) (by omega)))

theorem mx8 : (v184_4 arg4 arg5 arg7 x0 x1 x3) = hX arg4 arg5 arg7 x0 x1 x3 8 (by decide) := by
  unfold v184_4 HS5_5
  refine (View.readCov_full _ _ _ _ _).trans ((tX21 _ _ _).trans (tX_of rfl rfl (bias arg7 x3)))

theorem sc8 : (v189_4 arg4 arg5 arg7 x0 x1 x3) = hS arg4 arg5 arg7 x0 x1 x3 8 (by decide) := by
  unfold v189_4 HS3_5
  refine (View.readCov_full _ _ _ _ _).trans ((tS20 _ _ _).trans (tS_of rfl rfl (bias arg7 x3)))

theorem list0_8 : row scM0_0.view 8 (by decide) (w0 (HS0_17 arg4 arg5 arg7 x0 x1 x3)) = tM (iM 8 (by decide)) (hX arg4 arg5 arg7 x0 x1 x3 8 (by decide)) := by
  refine (skip0_17 arg4 arg5 arg7 x0 x1 x3 8 (by omega) (by decide)).trans ?_
  refine (skip0_16 arg4 arg5 arg7 x0 x1 x3 8 (by omega) (by decide)).trans ?_
  refine (skip0_15 arg4 arg5 arg7 x0 x1 x3 8 (by omega) (by decide)).trans ?_
  refine (skip0_14 arg4 arg5 arg7 x0 x1 x3 8 (by omega) (by decide)).trans ?_
  refine (skip0_13 arg4 arg5 arg7 x0 x1 x3 8 (by omega) (by decide)).trans ?_
  refine (skip0_12 arg4 arg5 arg7 x0 x1 x3 8 (by omega) (by decide)).trans ?_
  refine (skip0_11 arg4 arg5 arg7 x0 x1 x3 8 (by omega) (by decide)).trans ?_
  unfold HS0_10
  refine (rs_hit 8 _ _ _ _ _ _).trans ?_
  exact Eq.trans (b := tM (v182_4 arg4 arg5 arg7 x0 x1 x3) (v184_4 arg4 arg5 arg7 x0 x1 x3)) rfl (tM_of2 (old0_9 arg4 arg5 arg7 x0 x1 x3 8 (by omega) (by omega)) (mx8 arg4 arg5 arg7 x0 x1 x3))

theorem list1_8 : row scM0_1.view 8 (by decide) (w1 (HS1_17 arg4 arg5 arg6 arg7 x0 x1 x2 x3)) = tL (iM 8 (by decide)) (hX arg4 arg5 arg7 x0 x1 x3 8 (by decide)) (hS arg4 arg5 arg7 x0 x1 x3 8 (by decide)) (hV arg6 x2 8 (by decide)) (iL 8 (by decide)) := by
  refine (skip1_17 arg4 arg5 arg6 arg7 x0 x1 x2 x3 8 (by omega) (by decide)).trans ?_
  refine (skip1_16 arg4 arg5 arg6 arg7 x0 x1 x2 x3 8 (by omega) (by decide)).trans ?_
  refine (skip1_15 arg4 arg5 arg6 arg7 x0 x1 x2 x3 8 (by omega) (by decide)).trans ?_
  refine (skip1_14 arg4 arg5 arg6 arg7 x0 x1 x2 x3 8 (by omega) (by decide)).trans ?_
  refine (skip1_13 arg4 arg5 arg6 arg7 x0 x1 x2 x3 8 (by omega) (by decide)).trans ?_
  refine (skip1_12 arg4 arg5 arg6 arg7 x0 x1 x2 x3 8 (by omega) (by decide)).trans ?_
  refine (skip1_11 arg4 arg5 arg6 arg7 x0 x1 x2 x3 8 (by omega) (by decide)).trans ?_
  unfold HS1_10
  refine (rs_hit 8 _ _ _ _ _ _).trans ?_
  exact Eq.trans (b := tL (v182_4 arg4 arg5 arg7 x0 x1 x3) (v184_4 arg4 arg5 arg7 x0 x1 x3) (v189_4 arg4 arg5 arg7 x0 x1 x3) (hV arg6 x2 8 (by decide)) (v217_4 arg4 arg5 arg6 arg7 x0 x1 x2 x3)) rfl (tL_of (old0_9 arg4 arg5 arg7 x0 x1 x3 8 (by omega) (by omega)) (mx8 arg4 arg5 arg7 x0 x1 x3) (sc8 arg4 arg5 arg7 x0 x1 x3) (old1_9 arg4 arg5 arg6 arg7 x0 x1 x2 x3 8 (by omega) (by omega)))

theorem list2_8 : row scM0_2.view 8 (by decide) (w2 (HS2_17 arg4 arg5 arg6 arg7 x0 x1 x2 x3)) = tA (iM 8 (by decide)) (hX arg4 arg5 arg7 x0 x1 x3 8 (by decide)) (hS arg4 arg5 arg7 x0 x1 x3 8 (by decide)) (hV arg6 x2 8 (by decide)) (iA 8 (by decide)) := by
  refine (skip2_17 arg4 arg5 arg6 arg7 x0 x1 x2 x3 8 (by omega) (by decide)).trans ?_
  refine (skip2_16 arg4 arg5 arg6 arg7 x0 x1 x2 x3 8 (by omega) (by decide)).trans ?_
  refine (skip2_15 arg4 arg5 arg6 arg7 x0 x1 x2 x3 8 (by omega) (by decide)).trans ?_
  refine (skip2_14 arg4 arg5 arg6 arg7 x0 x1 x2 x3 8 (by omega) (by decide)).trans ?_
  refine (skip2_13 arg4 arg5 arg6 arg7 x0 x1 x2 x3 8 (by omega) (by decide)).trans ?_
  refine (skip2_12 arg4 arg5 arg6 arg7 x0 x1 x2 x3 8 (by omega) (by decide)).trans ?_
  refine (skip2_11 arg4 arg5 arg6 arg7 x0 x1 x2 x3 8 (by omega) (by decide)).trans ?_
  unfold HS2_10
  refine (ra_hit 8 _ _ _ _ _ _).trans ?_
  exact Eq.trans (b := tA (v182_4 arg4 arg5 arg7 x0 x1 x3) (v184_4 arg4 arg5 arg7 x0 x1 x3) (v189_4 arg4 arg5 arg7 x0 x1 x3) (hV arg6 x2 8 (by decide)) (v227_4 arg4 arg5 arg6 arg7 x0 x1 x2 x3)) rfl (tA_of (old0_9 arg4 arg5 arg7 x0 x1 x3 8 (by omega) (by omega)) (mx8 arg4 arg5 arg7 x0 x1 x3) (sc8 arg4 arg5 arg7 x0 x1 x3) (old2_9 arg4 arg5 arg6 arg7 x0 x1 x2 x3 8 (by omega) (by omega)))

theorem mx9 : (v284_4 arg4 arg5 arg7 x0 x1 x3) = hX arg4 arg5 arg7 x0 x1 x3 9 (by decide) := by
  unfold v284_4 HS6_5
  refine (View.readCov_full _ _ _ _ _).trans ((tX10 _ _ _).trans (tX_of rfl rfl (bias arg7 x3)))

theorem sc9 : (v289_4 arg4 arg5 arg7 x0 x1 x3) = hS arg4 arg5 arg7 x0 x1 x3 9 (by decide) := by
  unfold v289_4 HS4_5
  refine (View.readCov_full _ _ _ _ _).trans ((tS8 _ _ _).trans (tS_of rfl rfl (bias arg7 x3)))

theorem list0_9 : row scM0_0.view 9 (by decide) (w0 (HS0_17 arg4 arg5 arg7 x0 x1 x3)) = tM (iM 9 (by decide)) (hX arg4 arg5 arg7 x0 x1 x3 9 (by decide)) := by
  refine (skip0_17 arg4 arg5 arg7 x0 x1 x3 9 (by omega) (by decide)).trans ?_
  refine (skip0_16 arg4 arg5 arg7 x0 x1 x3 9 (by omega) (by decide)).trans ?_
  refine (skip0_15 arg4 arg5 arg7 x0 x1 x3 9 (by omega) (by decide)).trans ?_
  refine (skip0_14 arg4 arg5 arg7 x0 x1 x3 9 (by omega) (by decide)).trans ?_
  refine (skip0_13 arg4 arg5 arg7 x0 x1 x3 9 (by omega) (by decide)).trans ?_
  refine (skip0_12 arg4 arg5 arg7 x0 x1 x3 9 (by omega) (by decide)).trans ?_
  unfold HS0_11
  refine (rs_hit 9 _ _ _ _ _ _).trans ?_
  exact Eq.trans (b := tM (v282_4 arg4 arg5 arg7 x0 x1 x3) (v284_4 arg4 arg5 arg7 x0 x1 x3)) rfl (tM_of2 (old0_10 arg4 arg5 arg7 x0 x1 x3 9 (by omega) (by omega)) (mx9 arg4 arg5 arg7 x0 x1 x3))

theorem list1_9 : row scM0_1.view 9 (by decide) (w1 (HS1_17 arg4 arg5 arg6 arg7 x0 x1 x2 x3)) = tL (iM 9 (by decide)) (hX arg4 arg5 arg7 x0 x1 x3 9 (by decide)) (hS arg4 arg5 arg7 x0 x1 x3 9 (by decide)) (hV arg6 x2 9 (by decide)) (iL 9 (by decide)) := by
  refine (skip1_17 arg4 arg5 arg6 arg7 x0 x1 x2 x3 9 (by omega) (by decide)).trans ?_
  refine (skip1_16 arg4 arg5 arg6 arg7 x0 x1 x2 x3 9 (by omega) (by decide)).trans ?_
  refine (skip1_15 arg4 arg5 arg6 arg7 x0 x1 x2 x3 9 (by omega) (by decide)).trans ?_
  refine (skip1_14 arg4 arg5 arg6 arg7 x0 x1 x2 x3 9 (by omega) (by decide)).trans ?_
  refine (skip1_13 arg4 arg5 arg6 arg7 x0 x1 x2 x3 9 (by omega) (by decide)).trans ?_
  refine (skip1_12 arg4 arg5 arg6 arg7 x0 x1 x2 x3 9 (by omega) (by decide)).trans ?_
  unfold HS1_11
  refine (rs_hit 9 _ _ _ _ _ _).trans ?_
  exact Eq.trans (b := tL (v282_4 arg4 arg5 arg7 x0 x1 x3) (v284_4 arg4 arg5 arg7 x0 x1 x3) (v289_4 arg4 arg5 arg7 x0 x1 x3) (hV arg6 x2 9 (by decide)) (v317_4 arg4 arg5 arg6 arg7 x0 x1 x2 x3)) rfl (tL_of (old0_10 arg4 arg5 arg7 x0 x1 x3 9 (by omega) (by omega)) (mx9 arg4 arg5 arg7 x0 x1 x3) (sc9 arg4 arg5 arg7 x0 x1 x3) (old1_10 arg4 arg5 arg6 arg7 x0 x1 x2 x3 9 (by omega) (by omega)))

theorem list2_9 : row scM0_2.view 9 (by decide) (w2 (HS2_17 arg4 arg5 arg6 arg7 x0 x1 x2 x3)) = tA (iM 9 (by decide)) (hX arg4 arg5 arg7 x0 x1 x3 9 (by decide)) (hS arg4 arg5 arg7 x0 x1 x3 9 (by decide)) (hV arg6 x2 9 (by decide)) (iA 9 (by decide)) := by
  refine (skip2_17 arg4 arg5 arg6 arg7 x0 x1 x2 x3 9 (by omega) (by decide)).trans ?_
  refine (skip2_16 arg4 arg5 arg6 arg7 x0 x1 x2 x3 9 (by omega) (by decide)).trans ?_
  refine (skip2_15 arg4 arg5 arg6 arg7 x0 x1 x2 x3 9 (by omega) (by decide)).trans ?_
  refine (skip2_14 arg4 arg5 arg6 arg7 x0 x1 x2 x3 9 (by omega) (by decide)).trans ?_
  refine (skip2_13 arg4 arg5 arg6 arg7 x0 x1 x2 x3 9 (by omega) (by decide)).trans ?_
  refine (skip2_12 arg4 arg5 arg6 arg7 x0 x1 x2 x3 9 (by omega) (by decide)).trans ?_
  unfold HS2_11
  refine (ra_hit 9 _ _ _ _ _ _).trans ?_
  exact Eq.trans (b := tA (v282_4 arg4 arg5 arg7 x0 x1 x3) (v284_4 arg4 arg5 arg7 x0 x1 x3) (v289_4 arg4 arg5 arg7 x0 x1 x3) (hV arg6 x2 9 (by decide)) (v327_4 arg4 arg5 arg6 arg7 x0 x1 x2 x3)) rfl (tA_of (old0_10 arg4 arg5 arg7 x0 x1 x3 9 (by omega) (by omega)) (mx9 arg4 arg5 arg7 x0 x1 x3) (sc9 arg4 arg5 arg7 x0 x1 x3) (old2_10 arg4 arg5 arg6 arg7 x0 x1 x2 x3 9 (by omega) (by omega)))

theorem mx10 : (v184_5 arg4 arg5 arg7 x0 x1 x3) = hX arg4 arg5 arg7 x0 x1 x3 10 (by decide) := by
  unfold v184_5 HS5_6
  refine (View.readCov_full _ _ _ _ _).trans ((tX21 _ _ _).trans (tX_of rfl rfl (bias arg7 x3)))

theorem sc10 : (v189_5 arg4 arg5 arg7 x0 x1 x3) = hS arg4 arg5 arg7 x0 x1 x3 10 (by decide) := by
  unfold v189_5 HS3_6
  refine (View.readCov_full _ _ _ _ _).trans ((tS20 _ _ _).trans (tS_of rfl rfl (bias arg7 x3)))

theorem list0_10 : row scM0_0.view 10 (by decide) (w0 (HS0_17 arg4 arg5 arg7 x0 x1 x3)) = tM (iM 10 (by decide)) (hX arg4 arg5 arg7 x0 x1 x3 10 (by decide)) := by
  refine (skip0_17 arg4 arg5 arg7 x0 x1 x3 10 (by omega) (by decide)).trans ?_
  refine (skip0_16 arg4 arg5 arg7 x0 x1 x3 10 (by omega) (by decide)).trans ?_
  refine (skip0_15 arg4 arg5 arg7 x0 x1 x3 10 (by omega) (by decide)).trans ?_
  refine (skip0_14 arg4 arg5 arg7 x0 x1 x3 10 (by omega) (by decide)).trans ?_
  refine (skip0_13 arg4 arg5 arg7 x0 x1 x3 10 (by omega) (by decide)).trans ?_
  unfold HS0_12
  refine (rs_hit 10 _ _ _ _ _ _).trans ?_
  exact Eq.trans (b := tM (v182_5 arg4 arg5 arg7 x0 x1 x3) (v184_5 arg4 arg5 arg7 x0 x1 x3)) rfl (tM_of2 (old0_11 arg4 arg5 arg7 x0 x1 x3 10 (by omega) (by omega)) (mx10 arg4 arg5 arg7 x0 x1 x3))

theorem list1_10 : row scM0_1.view 10 (by decide) (w1 (HS1_17 arg4 arg5 arg6 arg7 x0 x1 x2 x3)) = tL (iM 10 (by decide)) (hX arg4 arg5 arg7 x0 x1 x3 10 (by decide)) (hS arg4 arg5 arg7 x0 x1 x3 10 (by decide)) (hV arg6 x2 10 (by decide)) (iL 10 (by decide)) := by
  refine (skip1_17 arg4 arg5 arg6 arg7 x0 x1 x2 x3 10 (by omega) (by decide)).trans ?_
  refine (skip1_16 arg4 arg5 arg6 arg7 x0 x1 x2 x3 10 (by omega) (by decide)).trans ?_
  refine (skip1_15 arg4 arg5 arg6 arg7 x0 x1 x2 x3 10 (by omega) (by decide)).trans ?_
  refine (skip1_14 arg4 arg5 arg6 arg7 x0 x1 x2 x3 10 (by omega) (by decide)).trans ?_
  refine (skip1_13 arg4 arg5 arg6 arg7 x0 x1 x2 x3 10 (by omega) (by decide)).trans ?_
  unfold HS1_12
  refine (rs_hit 10 _ _ _ _ _ _).trans ?_
  exact Eq.trans (b := tL (v182_5 arg4 arg5 arg7 x0 x1 x3) (v184_5 arg4 arg5 arg7 x0 x1 x3) (v189_5 arg4 arg5 arg7 x0 x1 x3) (hV arg6 x2 10 (by decide)) (v217_5 arg4 arg5 arg6 arg7 x0 x1 x2 x3)) rfl (tL_of (old0_11 arg4 arg5 arg7 x0 x1 x3 10 (by omega) (by omega)) (mx10 arg4 arg5 arg7 x0 x1 x3) (sc10 arg4 arg5 arg7 x0 x1 x3) (old1_11 arg4 arg5 arg6 arg7 x0 x1 x2 x3 10 (by omega) (by omega)))

theorem list2_10 : row scM0_2.view 10 (by decide) (w2 (HS2_17 arg4 arg5 arg6 arg7 x0 x1 x2 x3)) = tA (iM 10 (by decide)) (hX arg4 arg5 arg7 x0 x1 x3 10 (by decide)) (hS arg4 arg5 arg7 x0 x1 x3 10 (by decide)) (hV arg6 x2 10 (by decide)) (iA 10 (by decide)) := by
  refine (skip2_17 arg4 arg5 arg6 arg7 x0 x1 x2 x3 10 (by omega) (by decide)).trans ?_
  refine (skip2_16 arg4 arg5 arg6 arg7 x0 x1 x2 x3 10 (by omega) (by decide)).trans ?_
  refine (skip2_15 arg4 arg5 arg6 arg7 x0 x1 x2 x3 10 (by omega) (by decide)).trans ?_
  refine (skip2_14 arg4 arg5 arg6 arg7 x0 x1 x2 x3 10 (by omega) (by decide)).trans ?_
  refine (skip2_13 arg4 arg5 arg6 arg7 x0 x1 x2 x3 10 (by omega) (by decide)).trans ?_
  unfold HS2_12
  refine (ra_hit 10 _ _ _ _ _ _).trans ?_
  exact Eq.trans (b := tA (v182_5 arg4 arg5 arg7 x0 x1 x3) (v184_5 arg4 arg5 arg7 x0 x1 x3) (v189_5 arg4 arg5 arg7 x0 x1 x3) (hV arg6 x2 10 (by decide)) (v227_5 arg4 arg5 arg6 arg7 x0 x1 x2 x3)) rfl (tA_of (old0_11 arg4 arg5 arg7 x0 x1 x3 10 (by omega) (by omega)) (mx10 arg4 arg5 arg7 x0 x1 x3) (sc10 arg4 arg5 arg7 x0 x1 x3) (old2_11 arg4 arg5 arg6 arg7 x0 x1 x2 x3 10 (by omega) (by omega)))

theorem mx11 : (v284_5 arg4 arg5 arg7 x0 x1 x3) = hX arg4 arg5 arg7 x0 x1 x3 11 (by decide) := by
  unfold v284_5 HS6_6
  refine (View.readCov_full _ _ _ _ _).trans ((tX10 _ _ _).trans (tX_of rfl rfl (bias arg7 x3)))

theorem sc11 : (v289_5 arg4 arg5 arg7 x0 x1 x3) = hS arg4 arg5 arg7 x0 x1 x3 11 (by decide) := by
  unfold v289_5 HS4_6
  refine (View.readCov_full _ _ _ _ _).trans ((tS8 _ _ _).trans (tS_of rfl rfl (bias arg7 x3)))

theorem list0_11 : row scM0_0.view 11 (by decide) (w0 (HS0_17 arg4 arg5 arg7 x0 x1 x3)) = tM (iM 11 (by decide)) (hX arg4 arg5 arg7 x0 x1 x3 11 (by decide)) := by
  refine (skip0_17 arg4 arg5 arg7 x0 x1 x3 11 (by omega) (by decide)).trans ?_
  refine (skip0_16 arg4 arg5 arg7 x0 x1 x3 11 (by omega) (by decide)).trans ?_
  refine (skip0_15 arg4 arg5 arg7 x0 x1 x3 11 (by omega) (by decide)).trans ?_
  refine (skip0_14 arg4 arg5 arg7 x0 x1 x3 11 (by omega) (by decide)).trans ?_
  unfold HS0_13
  refine (rs_hit 11 _ _ _ _ _ _).trans ?_
  exact Eq.trans (b := tM (v282_5 arg4 arg5 arg7 x0 x1 x3) (v284_5 arg4 arg5 arg7 x0 x1 x3)) rfl (tM_of2 (old0_12 arg4 arg5 arg7 x0 x1 x3 11 (by omega) (by omega)) (mx11 arg4 arg5 arg7 x0 x1 x3))

theorem list1_11 : row scM0_1.view 11 (by decide) (w1 (HS1_17 arg4 arg5 arg6 arg7 x0 x1 x2 x3)) = tL (iM 11 (by decide)) (hX arg4 arg5 arg7 x0 x1 x3 11 (by decide)) (hS arg4 arg5 arg7 x0 x1 x3 11 (by decide)) (hV arg6 x2 11 (by decide)) (iL 11 (by decide)) := by
  refine (skip1_17 arg4 arg5 arg6 arg7 x0 x1 x2 x3 11 (by omega) (by decide)).trans ?_
  refine (skip1_16 arg4 arg5 arg6 arg7 x0 x1 x2 x3 11 (by omega) (by decide)).trans ?_
  refine (skip1_15 arg4 arg5 arg6 arg7 x0 x1 x2 x3 11 (by omega) (by decide)).trans ?_
  refine (skip1_14 arg4 arg5 arg6 arg7 x0 x1 x2 x3 11 (by omega) (by decide)).trans ?_
  unfold HS1_13
  refine (rs_hit 11 _ _ _ _ _ _).trans ?_
  exact Eq.trans (b := tL (v282_5 arg4 arg5 arg7 x0 x1 x3) (v284_5 arg4 arg5 arg7 x0 x1 x3) (v289_5 arg4 arg5 arg7 x0 x1 x3) (hV arg6 x2 11 (by decide)) (v317_5 arg4 arg5 arg6 arg7 x0 x1 x2 x3)) rfl (tL_of (old0_12 arg4 arg5 arg7 x0 x1 x3 11 (by omega) (by omega)) (mx11 arg4 arg5 arg7 x0 x1 x3) (sc11 arg4 arg5 arg7 x0 x1 x3) (old1_12 arg4 arg5 arg6 arg7 x0 x1 x2 x3 11 (by omega) (by omega)))

theorem list2_11 : row scM0_2.view 11 (by decide) (w2 (HS2_17 arg4 arg5 arg6 arg7 x0 x1 x2 x3)) = tA (iM 11 (by decide)) (hX arg4 arg5 arg7 x0 x1 x3 11 (by decide)) (hS arg4 arg5 arg7 x0 x1 x3 11 (by decide)) (hV arg6 x2 11 (by decide)) (iA 11 (by decide)) := by
  refine (skip2_17 arg4 arg5 arg6 arg7 x0 x1 x2 x3 11 (by omega) (by decide)).trans ?_
  refine (skip2_16 arg4 arg5 arg6 arg7 x0 x1 x2 x3 11 (by omega) (by decide)).trans ?_
  refine (skip2_15 arg4 arg5 arg6 arg7 x0 x1 x2 x3 11 (by omega) (by decide)).trans ?_
  refine (skip2_14 arg4 arg5 arg6 arg7 x0 x1 x2 x3 11 (by omega) (by decide)).trans ?_
  unfold HS2_13
  refine (ra_hit 11 _ _ _ _ _ _).trans ?_
  exact Eq.trans (b := tA (v282_5 arg4 arg5 arg7 x0 x1 x3) (v284_5 arg4 arg5 arg7 x0 x1 x3) (v289_5 arg4 arg5 arg7 x0 x1 x3) (hV arg6 x2 11 (by decide)) (v327_5 arg4 arg5 arg6 arg7 x0 x1 x2 x3)) rfl (tA_of (old0_12 arg4 arg5 arg7 x0 x1 x3 11 (by omega) (by omega)) (mx11 arg4 arg5 arg7 x0 x1 x3) (sc11 arg4 arg5 arg7 x0 x1 x3) (old2_12 arg4 arg5 arg6 arg7 x0 x1 x2 x3 11 (by omega) (by omega)))

theorem mx12 : (v184_6 arg4 arg5 arg7 x0 x1 x3) = hX arg4 arg5 arg7 x0 x1 x3 12 (by decide) := by
  unfold v184_6 HS5_7
  refine (View.readCov_full _ _ _ _ _).trans ((tX21 _ _ _).trans (tX_of rfl rfl (bias arg7 x3)))

theorem sc12 : (v189_6 arg4 arg5 arg7 x0 x1 x3) = hS arg4 arg5 arg7 x0 x1 x3 12 (by decide) := by
  unfold v189_6 HS3_7
  refine (View.readCov_full _ _ _ _ _).trans ((tS20 _ _ _).trans (tS_of rfl rfl (bias arg7 x3)))

theorem list0_12 : row scM0_0.view 12 (by decide) (w0 (HS0_17 arg4 arg5 arg7 x0 x1 x3)) = tM (iM 12 (by decide)) (hX arg4 arg5 arg7 x0 x1 x3 12 (by decide)) := by
  refine (skip0_17 arg4 arg5 arg7 x0 x1 x3 12 (by omega) (by decide)).trans ?_
  refine (skip0_16 arg4 arg5 arg7 x0 x1 x3 12 (by omega) (by decide)).trans ?_
  refine (skip0_15 arg4 arg5 arg7 x0 x1 x3 12 (by omega) (by decide)).trans ?_
  unfold HS0_14
  refine (rs_hit 12 _ _ _ _ _ _).trans ?_
  exact Eq.trans (b := tM (v182_6 arg4 arg5 arg7 x0 x1 x3) (v184_6 arg4 arg5 arg7 x0 x1 x3)) rfl (tM_of2 (old0_13 arg4 arg5 arg7 x0 x1 x3 12 (by omega) (by omega)) (mx12 arg4 arg5 arg7 x0 x1 x3))

theorem list1_12 : row scM0_1.view 12 (by decide) (w1 (HS1_17 arg4 arg5 arg6 arg7 x0 x1 x2 x3)) = tL (iM 12 (by decide)) (hX arg4 arg5 arg7 x0 x1 x3 12 (by decide)) (hS arg4 arg5 arg7 x0 x1 x3 12 (by decide)) (hV arg6 x2 12 (by decide)) (iL 12 (by decide)) := by
  refine (skip1_17 arg4 arg5 arg6 arg7 x0 x1 x2 x3 12 (by omega) (by decide)).trans ?_
  refine (skip1_16 arg4 arg5 arg6 arg7 x0 x1 x2 x3 12 (by omega) (by decide)).trans ?_
  refine (skip1_15 arg4 arg5 arg6 arg7 x0 x1 x2 x3 12 (by omega) (by decide)).trans ?_
  unfold HS1_14
  refine (rs_hit 12 _ _ _ _ _ _).trans ?_
  exact Eq.trans (b := tL (v182_6 arg4 arg5 arg7 x0 x1 x3) (v184_6 arg4 arg5 arg7 x0 x1 x3) (v189_6 arg4 arg5 arg7 x0 x1 x3) (hV arg6 x2 12 (by decide)) (v217_6 arg4 arg5 arg6 arg7 x0 x1 x2 x3)) rfl (tL_of (old0_13 arg4 arg5 arg7 x0 x1 x3 12 (by omega) (by omega)) (mx12 arg4 arg5 arg7 x0 x1 x3) (sc12 arg4 arg5 arg7 x0 x1 x3) (old1_13 arg4 arg5 arg6 arg7 x0 x1 x2 x3 12 (by omega) (by omega)))

theorem list2_12 : row scM0_2.view 12 (by decide) (w2 (HS2_17 arg4 arg5 arg6 arg7 x0 x1 x2 x3)) = tA (iM 12 (by decide)) (hX arg4 arg5 arg7 x0 x1 x3 12 (by decide)) (hS arg4 arg5 arg7 x0 x1 x3 12 (by decide)) (hV arg6 x2 12 (by decide)) (iA 12 (by decide)) := by
  refine (skip2_17 arg4 arg5 arg6 arg7 x0 x1 x2 x3 12 (by omega) (by decide)).trans ?_
  refine (skip2_16 arg4 arg5 arg6 arg7 x0 x1 x2 x3 12 (by omega) (by decide)).trans ?_
  refine (skip2_15 arg4 arg5 arg6 arg7 x0 x1 x2 x3 12 (by omega) (by decide)).trans ?_
  unfold HS2_14
  refine (ra_hit 12 _ _ _ _ _ _).trans ?_
  exact Eq.trans (b := tA (v182_6 arg4 arg5 arg7 x0 x1 x3) (v184_6 arg4 arg5 arg7 x0 x1 x3) (v189_6 arg4 arg5 arg7 x0 x1 x3) (hV arg6 x2 12 (by decide)) (v227_6 arg4 arg5 arg6 arg7 x0 x1 x2 x3)) rfl (tA_of (old0_13 arg4 arg5 arg7 x0 x1 x3 12 (by omega) (by omega)) (mx12 arg4 arg5 arg7 x0 x1 x3) (sc12 arg4 arg5 arg7 x0 x1 x3) (old2_13 arg4 arg5 arg6 arg7 x0 x1 x2 x3 12 (by omega) (by omega)))

theorem mx13 : (v284_6 arg4 arg5 arg7 x0 x1 x3) = hX arg4 arg5 arg7 x0 x1 x3 13 (by decide) := by
  unfold v284_6 HS6_7
  refine (View.readCov_full _ _ _ _ _).trans ((tX10 _ _ _).trans (tX_of rfl rfl (bias arg7 x3)))

theorem sc13 : (v289_6 arg4 arg5 arg7 x0 x1 x3) = hS arg4 arg5 arg7 x0 x1 x3 13 (by decide) := by
  unfold v289_6 HS4_7
  refine (View.readCov_full _ _ _ _ _).trans ((tS8 _ _ _).trans (tS_of rfl rfl (bias arg7 x3)))

theorem list0_13 : row scM0_0.view 13 (by decide) (w0 (HS0_17 arg4 arg5 arg7 x0 x1 x3)) = tM (iM 13 (by decide)) (hX arg4 arg5 arg7 x0 x1 x3 13 (by decide)) := by
  refine (skip0_17 arg4 arg5 arg7 x0 x1 x3 13 (by omega) (by decide)).trans ?_
  refine (skip0_16 arg4 arg5 arg7 x0 x1 x3 13 (by omega) (by decide)).trans ?_
  unfold HS0_15
  refine (rs_hit 13 _ _ _ _ _ _).trans ?_
  exact Eq.trans (b := tM (v282_6 arg4 arg5 arg7 x0 x1 x3) (v284_6 arg4 arg5 arg7 x0 x1 x3)) rfl (tM_of2 (old0_14 arg4 arg5 arg7 x0 x1 x3 13 (by omega) (by omega)) (mx13 arg4 arg5 arg7 x0 x1 x3))

theorem list1_13 : row scM0_1.view 13 (by decide) (w1 (HS1_17 arg4 arg5 arg6 arg7 x0 x1 x2 x3)) = tL (iM 13 (by decide)) (hX arg4 arg5 arg7 x0 x1 x3 13 (by decide)) (hS arg4 arg5 arg7 x0 x1 x3 13 (by decide)) (hV arg6 x2 13 (by decide)) (iL 13 (by decide)) := by
  refine (skip1_17 arg4 arg5 arg6 arg7 x0 x1 x2 x3 13 (by omega) (by decide)).trans ?_
  refine (skip1_16 arg4 arg5 arg6 arg7 x0 x1 x2 x3 13 (by omega) (by decide)).trans ?_
  unfold HS1_15
  refine (rs_hit 13 _ _ _ _ _ _).trans ?_
  exact Eq.trans (b := tL (v282_6 arg4 arg5 arg7 x0 x1 x3) (v284_6 arg4 arg5 arg7 x0 x1 x3) (v289_6 arg4 arg5 arg7 x0 x1 x3) (hV arg6 x2 13 (by decide)) (v317_6 arg4 arg5 arg6 arg7 x0 x1 x2 x3)) rfl (tL_of (old0_14 arg4 arg5 arg7 x0 x1 x3 13 (by omega) (by omega)) (mx13 arg4 arg5 arg7 x0 x1 x3) (sc13 arg4 arg5 arg7 x0 x1 x3) (old1_14 arg4 arg5 arg6 arg7 x0 x1 x2 x3 13 (by omega) (by omega)))

theorem list2_13 : row scM0_2.view 13 (by decide) (w2 (HS2_17 arg4 arg5 arg6 arg7 x0 x1 x2 x3)) = tA (iM 13 (by decide)) (hX arg4 arg5 arg7 x0 x1 x3 13 (by decide)) (hS arg4 arg5 arg7 x0 x1 x3 13 (by decide)) (hV arg6 x2 13 (by decide)) (iA 13 (by decide)) := by
  refine (skip2_17 arg4 arg5 arg6 arg7 x0 x1 x2 x3 13 (by omega) (by decide)).trans ?_
  refine (skip2_16 arg4 arg5 arg6 arg7 x0 x1 x2 x3 13 (by omega) (by decide)).trans ?_
  unfold HS2_15
  refine (ra_hit 13 _ _ _ _ _ _).trans ?_
  exact Eq.trans (b := tA (v282_6 arg4 arg5 arg7 x0 x1 x3) (v284_6 arg4 arg5 arg7 x0 x1 x3) (v289_6 arg4 arg5 arg7 x0 x1 x3) (hV arg6 x2 13 (by decide)) (v327_6 arg4 arg5 arg6 arg7 x0 x1 x2 x3)) rfl (tA_of (old0_14 arg4 arg5 arg7 x0 x1 x3 13 (by omega) (by omega)) (mx13 arg4 arg5 arg7 x0 x1 x3) (sc13 arg4 arg5 arg7 x0 x1 x3) (old2_14 arg4 arg5 arg6 arg7 x0 x1 x2 x3 13 (by omega) (by omega)))

theorem mx14 : (v68 arg4 arg5 arg7 x0 x1 x3) = hX arg4 arg5 arg7 x0 x1 x3 14 (by decide) := by
  unfold v68 HS5_8
  refine (View.readCov_full _ _ _ _ _).trans ((tX21 _ _ _).trans (tX_of rfl rfl (bias arg7 x3)))

theorem sc14 : (v73 arg4 arg5 arg7 x0 x1 x3) = hS arg4 arg5 arg7 x0 x1 x3 14 (by decide) := by
  unfold v73 HS3_8
  refine (View.readCov_full _ _ _ _ _).trans ((tS20 _ _ _).trans (tS_of rfl rfl (bias arg7 x3)))

theorem list0_14 : row scM0_0.view 14 (by decide) (w0 (HS0_17 arg4 arg5 arg7 x0 x1 x3)) = tM (iM 14 (by decide)) (hX arg4 arg5 arg7 x0 x1 x3 14 (by decide)) := by
  refine (skip0_17 arg4 arg5 arg7 x0 x1 x3 14 (by omega) (by decide)).trans ?_
  unfold HS0_16
  refine (rs_hit 14 _ _ _ _ _ _).trans ?_
  exact Eq.trans (b := tM (v66 arg4 arg5 arg7 x0 x1 x3) (v68 arg4 arg5 arg7 x0 x1 x3)) rfl (tM_of2 (old0_15 arg4 arg5 arg7 x0 x1 x3 14 (by omega) (by omega)) (mx14 arg4 arg5 arg7 x0 x1 x3))

theorem list1_14 : row scM0_1.view 14 (by decide) (w1 (HS1_17 arg4 arg5 arg6 arg7 x0 x1 x2 x3)) = tL (iM 14 (by decide)) (hX arg4 arg5 arg7 x0 x1 x3 14 (by decide)) (hS arg4 arg5 arg7 x0 x1 x3 14 (by decide)) (hV arg6 x2 14 (by decide)) (iL 14 (by decide)) := by
  refine (skip1_17 arg4 arg5 arg6 arg7 x0 x1 x2 x3 14 (by omega) (by decide)).trans ?_
  unfold HS1_16
  refine (rs_hit 14 _ _ _ _ _ _).trans ?_
  exact Eq.trans (b := tL (v66 arg4 arg5 arg7 x0 x1 x3) (v68 arg4 arg5 arg7 x0 x1 x3) (v73 arg4 arg5 arg7 x0 x1 x3) (hV arg6 x2 14 (by decide)) (v82 arg4 arg5 arg6 arg7 x0 x1 x2 x3)) rfl (tL_of (old0_15 arg4 arg5 arg7 x0 x1 x3 14 (by omega) (by omega)) (mx14 arg4 arg5 arg7 x0 x1 x3) (sc14 arg4 arg5 arg7 x0 x1 x3) (old1_15 arg4 arg5 arg6 arg7 x0 x1 x2 x3 14 (by omega) (by omega)))

theorem list2_14 : row scM0_2.view 14 (by decide) (w2 (HS2_17 arg4 arg5 arg6 arg7 x0 x1 x2 x3)) = tA (iM 14 (by decide)) (hX arg4 arg5 arg7 x0 x1 x3 14 (by decide)) (hS arg4 arg5 arg7 x0 x1 x3 14 (by decide)) (hV arg6 x2 14 (by decide)) (iA 14 (by decide)) := by
  refine (skip2_17 arg4 arg5 arg6 arg7 x0 x1 x2 x3 14 (by omega) (by decide)).trans ?_
  unfold HS2_16
  refine (ra_hit 14 _ _ _ _ _ _).trans ?_
  exact Eq.trans (b := tA (v66 arg4 arg5 arg7 x0 x1 x3) (v68 arg4 arg5 arg7 x0 x1 x3) (v73 arg4 arg5 arg7 x0 x1 x3) (hV arg6 x2 14 (by decide)) (v90 arg4 arg5 arg6 arg7 x0 x1 x2 x3)) rfl (tA_of (old0_15 arg4 arg5 arg7 x0 x1 x3 14 (by omega) (by omega)) (mx14 arg4 arg5 arg7 x0 x1 x3) (sc14 arg4 arg5 arg7 x0 x1 x3) (old2_15 arg4 arg5 arg6 arg7 x0 x1 x2 x3 14 (by omega) (by omega)))

theorem mx15 : (v104 arg4 arg5 arg7 x0 x1 x3) = hX arg4 arg5 arg7 x0 x1 x3 15 (by decide) := by
  unfold v104 HS6_8
  refine (View.readCov_full _ _ _ _ _).trans ((tX55 _ _ _).trans (tX_of rfl rfl (bias arg7 x3)))

theorem sc15 : (v109 arg4 arg5 arg7 x0 x1 x3) = hS arg4 arg5 arg7 x0 x1 x3 15 (by decide) := by
  unfold v109 HS4_8
  refine (View.readCov_full _ _ _ _ _).trans ((tS54 _ _ _).trans (tS_of rfl rfl (bias arg7 x3)))

theorem list0_15 : row scM0_0.view 15 (by decide) (w0 (HS0_17 arg4 arg5 arg7 x0 x1 x3)) = tM (iM 15 (by decide)) (hX arg4 arg5 arg7 x0 x1 x3 15 (by decide)) := by
  unfold HS0_17
  refine (rs_hit 15 _ _ _ _ _ _).trans ?_
  exact Eq.trans (b := tM (v102 arg4 arg5 arg7 x0 x1 x3) (v104 arg4 arg5 arg7 x0 x1 x3)) rfl (tM_of2 (old0_16 arg4 arg5 arg7 x0 x1 x3 15 (by omega) (by omega)) (mx15 arg4 arg5 arg7 x0 x1 x3))

theorem list1_15 : row scM0_1.view 15 (by decide) (w1 (HS1_17 arg4 arg5 arg6 arg7 x0 x1 x2 x3)) = tL (iM 15 (by decide)) (hX arg4 arg5 arg7 x0 x1 x3 15 (by decide)) (hS arg4 arg5 arg7 x0 x1 x3 15 (by decide)) (hV arg6 x2 15 (by decide)) (iL 15 (by decide)) := by
  unfold HS1_17
  refine (rs_hit 15 _ _ _ _ _ _).trans ?_
  exact Eq.trans (b := tL (v102 arg4 arg5 arg7 x0 x1 x3) (v104 arg4 arg5 arg7 x0 x1 x3) (v109 arg4 arg5 arg7 x0 x1 x3) (hV arg6 x2 15 (by decide)) (v118 arg4 arg5 arg6 arg7 x0 x1 x2 x3)) rfl (tL_of (old0_16 arg4 arg5 arg7 x0 x1 x3 15 (by omega) (by omega)) (mx15 arg4 arg5 arg7 x0 x1 x3) (sc15 arg4 arg5 arg7 x0 x1 x3) (old1_16 arg4 arg5 arg6 arg7 x0 x1 x2 x3 15 (by omega) (by omega)))

theorem list2_15 : row scM0_2.view 15 (by decide) (w2 (HS2_17 arg4 arg5 arg6 arg7 x0 x1 x2 x3)) = tA (iM 15 (by decide)) (hX arg4 arg5 arg7 x0 x1 x3 15 (by decide)) (hS arg4 arg5 arg7 x0 x1 x3 15 (by decide)) (hV arg6 x2 15 (by decide)) (iA 15 (by decide)) := by
  unfold HS2_17
  refine (ra_hit 15 _ _ _ _ _ _).trans ?_
  exact Eq.trans (b := tA (v102 arg4 arg5 arg7 x0 x1 x3) (v104 arg4 arg5 arg7 x0 x1 x3) (v109 arg4 arg5 arg7 x0 x1 x3) (hV arg6 x2 15 (by decide)) (v126 arg4 arg5 arg6 arg7 x0 x1 x2 x3)) rfl (tA_of (old0_16 arg4 arg5 arg7 x0 x1 x3 15 (by omega) (by omega)) (mx15 arg4 arg5 arg7 x0 x1 x3) (sc15 arg4 arg5 arg7 x0 x1 x3) (old2_16 arg4 arg5 arg6 arg7 x0 x1 x2 x3 15 (by omega) (by omega)))

theorem list0 (h : Fin 16) : row scM0_0.view h.val h.isLt (w0 (HS0_17 arg4 arg5 arg7 x0 x1 x3)) = tM (iM h.val h.isLt) (hX arg4 arg5 arg7 x0 x1 x3 h.val h.isLt) := by
  obtain ⟨h, hh⟩ := h
  interval_cases h
  · exact list0_0 arg4 arg5 arg7 x0 x1 x3
  · exact list0_1 arg4 arg5 arg7 x0 x1 x3
  · exact list0_2 arg4 arg5 arg7 x0 x1 x3
  · exact list0_3 arg4 arg5 arg7 x0 x1 x3
  · exact list0_4 arg4 arg5 arg7 x0 x1 x3
  · exact list0_5 arg4 arg5 arg7 x0 x1 x3
  · exact list0_6 arg4 arg5 arg7 x0 x1 x3
  · exact list0_7 arg4 arg5 arg7 x0 x1 x3
  · exact list0_8 arg4 arg5 arg7 x0 x1 x3
  · exact list0_9 arg4 arg5 arg7 x0 x1 x3
  · exact list0_10 arg4 arg5 arg7 x0 x1 x3
  · exact list0_11 arg4 arg5 arg7 x0 x1 x3
  · exact list0_12 arg4 arg5 arg7 x0 x1 x3
  · exact list0_13 arg4 arg5 arg7 x0 x1 x3
  · exact list0_14 arg4 arg5 arg7 x0 x1 x3
  · exact list0_15 arg4 arg5 arg7 x0 x1 x3

theorem max (h : Fin 16) (c : Dev nD) (i : grid0.Coords) (arg4 : Memref sig .tc .vmem S16x128x1024 .bf16) (harg4 : arg4.IsWhole) (arg5 : Memref sig .tc .vmem S4x1024x128 .bf16) (harg5 : arg5.IsWhole) (arg6 : Memref sig .tc .vmem S4x144x1024 .bf16) (harg6 : arg6.IsWhole) (arg7 : Memref sig .tc .vmem S1x1x1024x1024 .bf16) (harg7 : arg7.IsWhole) (arg8 : Memref sig .tc .vmem S1024x2048 .bf16) (harg8 : arg8.IsWhole) (T0 : (S36.Idx → Elt Ideal .i32)) (T1 : (S36.Idx → Elt Ideal .i32))
     (x0 : (S16x128x1024.Idx → Elt Ideal .bf16)) (x1 : (S4x1024x128.Idx → Elt Ideal .bf16)) (x2 : (S4x144x1024.Idx → Elt Ideal .bf16)) (x3 : (S1x1x1024x1024.Idx → Elt Ideal .bf16)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) :
    row scM0_0.view h.val h.isLt (kernelRun0_A c i arg4 harg4 arg5 harg5 arg6 harg6 arg7 harg7 arg8 harg8 T0 T1 x0 x1 x2 x3 hc0 k0_h2).2.1 = tM (iM h.val h.isLt) (hX arg4 arg5 arg7 x0 x1 x3 h.val h.isLt) := by
  unfold kernelRun0_A
  dsimp only
  exact list0 arg4 arg5 arg7 x0 x1 x3 h

theorem list1 (h : Fin 16) : row scM0_1.view h.val h.isLt (w1 (HS1_17 arg4 arg5 arg6 arg7 x0 x1 x2 x3)) = tL (iM h.val h.isLt) (hX arg4 arg5 arg7 x0 x1 x3 h.val h.isLt) (hS arg4 arg5 arg7 x0 x1 x3 h.val h.isLt) (hV arg6 x2 h.val h.isLt) (iL h.val h.isLt) := by
  obtain ⟨h, hh⟩ := h
  interval_cases h
  · exact list1_0 arg4 arg5 arg6 arg7 x0 x1 x2 x3
  · exact list1_1 arg4 arg5 arg6 arg7 x0 x1 x2 x3
  · exact list1_2 arg4 arg5 arg6 arg7 x0 x1 x2 x3
  · exact list1_3 arg4 arg5 arg6 arg7 x0 x1 x2 x3
  · exact list1_4 arg4 arg5 arg6 arg7 x0 x1 x2 x3
  · exact list1_5 arg4 arg5 arg6 arg7 x0 x1 x2 x3
  · exact list1_6 arg4 arg5 arg6 arg7 x0 x1 x2 x3
  · exact list1_7 arg4 arg5 arg6 arg7 x0 x1 x2 x3
  · exact list1_8 arg4 arg5 arg6 arg7 x0 x1 x2 x3
  · exact list1_9 arg4 arg5 arg6 arg7 x0 x1 x2 x3
  · exact list1_10 arg4 arg5 arg6 arg7 x0 x1 x2 x3
  · exact list1_11 arg4 arg5 arg6 arg7 x0 x1 x2 x3
  · exact list1_12 arg4 arg5 arg6 arg7 x0 x1 x2 x3
  · exact list1_13 arg4 arg5 arg6 arg7 x0 x1 x2 x3
  · exact list1_14 arg4 arg5 arg6 arg7 x0 x1 x2 x3
  · exact list1_15 arg4 arg5 arg6 arg7 x0 x1 x2 x3

theorem den (h : Fin 16) (c : Dev nD) (i : grid0.Coords) (arg4 : Memref sig .tc .vmem S16x128x1024 .bf16) (harg4 : arg4.IsWhole) (arg5 : Memref sig .tc .vmem S4x1024x128 .bf16) (harg5 : arg5.IsWhole) (arg6 : Memref sig .tc .vmem S4x144x1024 .bf16) (harg6 : arg6.IsWhole) (arg7 : Memref sig .tc .vmem S1x1x1024x1024 .bf16) (harg7 : arg7.IsWhole) (arg8 : Memref sig .tc .vmem S1024x2048 .bf16) (harg8 : arg8.IsWhole) (T0 : (S36.Idx → Elt Ideal .i32)) (T1 : (S36.Idx → Elt Ideal .i32))
     (x0 : (S16x128x1024.Idx → Elt Ideal .bf16)) (x1 : (S4x1024x128.Idx → Elt Ideal .bf16)) (x2 : (S4x144x1024.Idx → Elt Ideal .bf16)) (x3 : (S1x1x1024x1024.Idx → Elt Ideal .bf16)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) :
    row scM0_1.view h.val h.isLt (kernelRun0_A c i arg4 harg4 arg5 harg5 arg6 harg6 arg7 harg7 arg8 harg8 T0 T1 x0 x1 x2 x3 hc0 k0_h2).2.2.1 = tL (iM h.val h.isLt) (hX arg4 arg5 arg7 x0 x1 x3 h.val h.isLt) (hS arg4 arg5 arg7 x0 x1 x3 h.val h.isLt) (hV arg6 x2 h.val h.isLt) (iL h.val h.isLt) := by
  unfold kernelRun0_A
  dsimp only
  exact list1 arg4 arg5 arg6 arg7 x0 x1 x2 x3 h

theorem list2 (h : Fin 16) : row scM0_2.view h.val h.isLt (w2 (HS2_17 arg4 arg5 arg6 arg7 x0 x1 x2 x3)) = tA (iM h.val h.isLt) (hX arg4 arg5 arg7 x0 x1 x3 h.val h.isLt) (hS arg4 arg5 arg7 x0 x1 x3 h.val h.isLt) (hV arg6 x2 h.val h.isLt) (iA h.val h.isLt) := by
  obtain ⟨h, hh⟩ := h
  interval_cases h
  · exact list2_0 arg4 arg5 arg6 arg7 x0 x1 x2 x3
  · exact list2_1 arg4 arg5 arg6 arg7 x0 x1 x2 x3
  · exact list2_2 arg4 arg5 arg6 arg7 x0 x1 x2 x3
  · exact list2_3 arg4 arg5 arg6 arg7 x0 x1 x2 x3
  · exact list2_4 arg4 arg5 arg6 arg7 x0 x1 x2 x3
  · exact list2_5 arg4 arg5 arg6 arg7 x0 x1 x2 x3
  · exact list2_6 arg4 arg5 arg6 arg7 x0 x1 x2 x3
  · exact list2_7 arg4 arg5 arg6 arg7 x0 x1 x2 x3
  · exact list2_8 arg4 arg5 arg6 arg7 x0 x1 x2 x3
  · exact list2_9 arg4 arg5 arg6 arg7 x0 x1 x2 x3
  · exact list2_10 arg4 arg5 arg6 arg7 x0 x1 x2 x3
  · exact list2_11 arg4 arg5 arg6 arg7 x0 x1 x2 x3
  · exact list2_12 arg4 arg5 arg6 arg7 x0 x1 x2 x3
  · exact list2_13 arg4 arg5 arg6 arg7 x0 x1 x2 x3
  · exact list2_14 arg4 arg5 arg6 arg7 x0 x1 x2 x3
  · exact list2_15 arg4 arg5 arg6 arg7 x0 x1 x2 x3

theorem num (h : Fin 16) (c : Dev nD) (i : grid0.Coords) (arg4 : Memref sig .tc .vmem S16x128x1024 .bf16) (harg4 : arg4.IsWhole) (arg5 : Memref sig .tc .vmem S4x1024x128 .bf16) (harg5 : arg5.IsWhole) (arg6 : Memref sig .tc .vmem S4x144x1024 .bf16) (harg6 : arg6.IsWhole) (arg7 : Memref sig .tc .vmem S1x1x1024x1024 .bf16) (harg7 : arg7.IsWhole) (arg8 : Memref sig .tc .vmem S1024x2048 .bf16) (harg8 : arg8.IsWhole) (T0 : (S36.Idx → Elt Ideal .i32)) (T1 : (S36.Idx → Elt Ideal .i32))
     (x0 : (S16x128x1024.Idx → Elt Ideal .bf16)) (x1 : (S4x1024x128.Idx → Elt Ideal .bf16)) (x2 : (S4x144x1024.Idx → Elt Ideal .bf16)) (x3 : (S1x1x1024x1024.Idx → Elt Ideal .bf16)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) :
    row scM0_2.view h.val h.isLt (kernelRun0_A c i arg4 harg4 arg5 harg5 arg6 harg6 arg7 harg7 arg8 harg8 T0 T1 x0 x1 x2 x3 hc0 k0_h2).2.2.2.1 = tA (iM h.val h.isLt) (hX arg4 arg5 arg7 x0 x1 x3 h.val h.isLt) (hS arg4 arg5 arg7 x0 x1 x3 h.val h.isLt) (hV arg6 x2 h.val h.isLt) (iA h.val h.isLt) := by
  unfold kernelRun0_A
  dsimp only
  exact list2 arg4 arg5 arg6 arg7 x0 x1 x2 x3 h

theorem out0 : col 0 (by decide) (VO0_4.read (Elt Ideal) (VO0_4.writes (Elt Ideal) VO0_4.junk (HO4_16 arg4 arg5 arg6 arg7 x0 x1 x2 x3)))
    = tO (row scM0_2.view 0 (by decide) (w2 (HS2_17 arg4 arg5 arg6 arg7 x0 x1 x2 x3))) (row scM0_1.view 0 (by decide) (w1 (HS1_17 arg4 arg5 arg6 arg7 x0 x1 x2 x3))) := by
  unfold HO4_16
  refine (col_skip 0 _ 1920 _ _ (by decide) _ _ _).trans ?_
  refine (col_skip 0 _ 1792 _ _ (by decide) _ _ _).trans ?_
  refine (col_skip 0 _ 1664 _ _ (by decide) _ _ _).trans ?_
  refine (col_skip 0 _ 1536 _ _ (by decide) _ _ _).trans ?_
  refine (col_skip 0 _ 1408 _ _ (by decide) _ _ _).trans ?_
  refine (col_skip 0 _ 1280 _ _ (by decide) _ _ _).trans ?_
  refine (col_skip 0 _ 1152 _ _ (by decide) _ _ _).trans ?_
  refine (col_skip 0 _ 1024 _ _ (by decide) _ _ _).trans ?_
  refine (col_skip 0 _ 896 _ _ (by decide) _ _ _).trans ?_
  refine (col_skip 0 _ 768 _ _ (by decide) _ _ _).trans ?_
  refine (col_skip 0 _ 640 _ _ (by decide) _ _ _).trans ?_
  refine (col_skip 0 _ 512 _ _ (by decide) _ _ _).trans ?_
  refine (col_skip 0 _ 384 _ _ (by decide) _ _ _).trans ?_
  refine (col_skip 0 _ 256 _ _ (by decide) _ _ _).trans ?_
  refine (col_skip 0 _ 128 _ _ (by decide) _ _ _).trans ?_
  refine (col_hit 0 _ 0 _ _ (by decide) _ _ _).trans ?_
  exact Eq.trans (b := tO (v141 arg4 arg5 arg6 arg7 x0 x1 x2 x3) (v143 arg4 arg5 arg6 arg7 x0 x1 x2 x3)) rfl rfl

theorem out1 : col 1 (by decide) (VO0_4.read (Elt Ideal) (VO0_4.writes (Elt Ideal) VO0_4.junk (HO4_16 arg4 arg5 arg6 arg7 x0 x1 x2 x3)))
    = tO (row scM0_2.view 1 (by decide) (w2 (HS2_17 arg4 arg5 arg6 arg7 x0 x1 x2 x3))) (row scM0_1.view 1 (by decide) (w1 (HS1_17 arg4 arg5 arg6 arg7 x0 x1 x2 x3))) := by
  unfold HO4_16
  refine (col_skip 1 _ 1920 _ _ (by decide) _ _ _).trans ?_
  refine (col_skip 1 _ 1792 _ _ (by decide) _ _ _).trans ?_
  refine (col_skip 1 _ 1664 _ _ (by decide) _ _ _).trans ?_
  refine (col_skip 1 _ 1536 _ _ (by decide) _ _ _).trans ?_
  refine (col_skip 1 _ 1408 _ _ (by decide) _ _ _).trans ?_
  refine (col_skip 1 _ 1280 _ _ (by decide) _ _ _).trans ?_
  refine (col_skip 1 _ 1152 _ _ (by decide) _ _ _).trans ?_
  refine (col_skip 1 _ 1024 _ _ (by decide) _ _ _).trans ?_
  refine (col_skip 1 _ 896 _ _ (by decide) _ _ _).trans ?_
  refine (col_skip 1 _ 768 _ _ (by decide) _ _ _).trans ?_
  refine (col_skip 1 _ 640 _ _ (by decide) _ _ _).trans ?_
  refine (col_skip 1 _ 512 _ _ (by decide) _ _ _).trans ?_
  refine (col_skip 1 _ 384 _ _ (by decide) _ _ _).trans ?_
  refine (col_skip 1 _ 256 _ _ (by decide) _ _ _).trans ?_
  refine (col_hit 1 _ 128 _ _ (by decide) _ _ _).trans ?_
  exact Eq.trans (b := tO (v150 arg4 arg5 arg6 arg7 x0 x1 x2 x3) (v152 arg4 arg5 arg6 arg7 x0 x1 x2 x3)) rfl rfl

theorem out2 : col 2 (by decide) (VO0_4.read (Elt Ideal) (VO0_4.writes (Elt Ideal) VO0_4.junk (HO4_16 arg4 arg5 arg6 arg7 x0 x1 x2 x3)))
    = tO (row scM0_2.view 2 (by decide) (w2 (HS2_17 arg4 arg5 arg6 arg7 x0 x1 x2 x3))) (row scM0_1.view 2 (by decide) (w1 (HS1_17 arg4 arg5 arg6 arg7 x0 x1 x2 x3))) := by
  unfold HO4_16
  refine (col_skip 2 _ 1920 _ _ (by decide) _ _ _).trans ?_
  refine (col_skip 2 _ 1792 _ _ (by decide) _ _ _).trans ?_
  refine (col_skip 2 _ 1664 _ _ (by decide) _ _ _).trans ?_
  refine (col_skip 2 _ 1536 _ _ (by decide) _ _ _).trans ?_
  refine (col_skip 2 _ 1408 _ _ (by decide) _ _ _).trans ?_
  refine (col_skip 2 _ 1280 _ _ (by decide) _ _ _).trans ?_
  refine (col_skip 2 _ 1152 _ _ (by decide) _ _ _).trans ?_
  refine (col_skip 2 _ 1024 _ _ (by decide) _ _ _).trans ?_
  refine (col_skip 2 _ 896 _ _ (by decide) _ _ _).trans ?_
  refine (col_skip 2 _ 768 _ _ (by decide) _ _ _).trans ?_
  refine (col_skip 2 _ 640 _ _ (by decide) _ _ _).trans ?_
  refine (col_skip 2 _ 512 _ _ (by decide) _ _ _).trans ?_
  refine (col_skip 2 _ 384 _ _ (by decide) _ _ _).trans ?_
  refine (col_hit 2 _ 256 _ _ (by decide) _ _ _).trans ?_
  exact Eq.trans (b := tO (v159 arg4 arg5 arg6 arg7 x0 x1 x2 x3) (v161 arg4 arg5 arg6 arg7 x0 x1 x2 x3)) rfl rfl

theorem out3 : col 3 (by decide) (VO0_4.read (Elt Ideal) (VO0_4.writes (Elt Ideal) VO0_4.junk (HO4_16 arg4 arg5 arg6 arg7 x0 x1 x2 x3)))
    = tO (row scM0_2.view 3 (by decide) (w2 (HS2_17 arg4 arg5 arg6 arg7 x0 x1 x2 x3))) (row scM0_1.view 3 (by decide) (w1 (HS1_17 arg4 arg5 arg6 arg7 x0 x1 x2 x3))) := by
  unfold HO4_16
  refine (col_skip 3 _ 1920 _ _ (by decide) _ _ _).trans ?_
  refine (col_skip 3 _ 1792 _ _ (by decide) _ _ _).trans ?_
  refine (col_skip 3 _ 1664 _ _ (by decide) _ _ _).trans ?_
  refine (col_skip 3 _ 1536 _ _ (by decide) _ _ _).trans ?_
  refine (col_skip 3 _ 1408 _ _ (by decide) _ _ _).trans ?_
  refine (col_skip 3 _ 1280 _ _ (by decide) _ _ _).trans ?_
  refine (col_skip 3 _ 1152 _ _ (by decide) _ _ _).trans ?_
  refine (col_skip 3 _ 1024 _ _ (by decide) _ _ _).trans ?_
  refine (col_skip 3 _ 896 _ _ (by decide) _ _ _).trans ?_
  refine (col_skip 3 _ 768 _ _ (by decide) _ _ _).trans ?_
  refine (col_skip 3 _ 640 _ _ (by decide) _ _ _).trans ?_
  refine (col_skip 3 _ 512 _ _ (by decide) _ _ _).trans ?_
  refine (col_hit 3 _ 384 _ _ (by decide) _ _ _).trans ?_
  exact Eq.trans (b := tO (v168 arg4 arg5 arg6 arg7 x0 x1 x2 x3) (v170 arg4 arg5 arg6 arg7 x0 x1 x2 x3)) rfl rfl

theorem out4 : col 4 (by decide) (VO0_4.read (Elt Ideal) (VO0_4.writes (Elt Ideal) VO0_4.junk (HO4_16 arg4 arg5 arg6 arg7 x0 x1 x2 x3)))
    = tO (row scM0_2.view 4 (by decide) (w2 (HS2_17 arg4 arg5 arg6 arg7 x0 x1 x2 x3))) (row scM0_1.view 4 (by decide) (w1 (HS1_17 arg4 arg5 arg6 arg7 x0 x1 x2 x3))) := by
  unfold HO4_16
  refine (col_skip 4 _ 1920 _ _ (by decide) _ _ _).trans ?_
  refine (col_skip 4 _ 1792 _ _ (by decide) _ _ _).trans ?_
  refine (col_skip 4 _ 1664 _ _ (by decide) _ _ _).trans ?_
  refine (col_skip 4 _ 1536 _ _ (by decide) _ _ _).trans ?_
  refine (col_skip 4 _ 1408 _ _ (by decide) _ _ _).trans ?_
  refine (col_skip 4 _ 1280 _ _ (by decide) _ _ _).trans ?_
  refine (col_skip 4 _ 1152 _ _ (by decide) _ _ _).trans ?_
  refine (col_skip 4 _ 1024 _ _ (by decide) _ _ _).trans ?_
  refine (col_skip 4 _ 896 _ _ (by decide) _ _ _).trans ?_
  refine (col_skip 4 _ 768 _ _ (by decide) _ _ _).trans ?_
  refine (col_skip 4 _ 640 _ _ (by decide) _ _ _).trans ?_
  refine (col_hit 4 _ 512 _ _ (by decide) _ _ _).trans ?_
  exact Eq.trans (b := tO (v177 arg4 arg5 arg6 arg7 x0 x1 x2 x3) (v179 arg4 arg5 arg6 arg7 x0 x1 x2 x3)) rfl rfl

theorem out5 : col 5 (by decide) (VO0_4.read (Elt Ideal) (VO0_4.writes (Elt Ideal) VO0_4.junk (HO4_16 arg4 arg5 arg6 arg7 x0 x1 x2 x3)))
    = tO (row scM0_2.view 5 (by decide) (w2 (HS2_17 arg4 arg5 arg6 arg7 x0 x1 x2 x3))) (row scM0_1.view 5 (by decide) (w1 (HS1_17 arg4 arg5 arg6 arg7 x0 x1 x2 x3))) := by
  unfold HO4_16
  refine (col_skip 5 _ 1920 _ _ (by decide) _ _ _).trans ?_
  refine (col_skip 5 _ 1792 _ _ (by decide) _ _ _).trans ?_
  refine (col_skip 5 _ 1664 _ _ (by decide) _ _ _).trans ?_
  refine (col_skip 5 _ 1536 _ _ (by decide) _ _ _).trans ?_
  refine (col_skip 5 _ 1408 _ _ (by decide) _ _ _).trans ?_
  refine (col_skip 5 _ 1280 _ _ (by decide) _ _ _).trans ?_
  refine (col_skip 5 _ 1152 _ _ (by decide) _ _ _).trans ?_
  refine (col_skip 5 _ 1024 _ _ (by decide) _ _ _).trans ?_
  refine (col_skip 5 _ 896 _ _ (by decide) _ _ _).trans ?_
  refine (col_skip 5 _ 768 _ _ (by decide) _ _ _).trans ?_
  refine (col_hit 5 _ 640 _ _ (by decide) _ _ _).trans ?_
  exact Eq.trans (b := tO (v186 arg4 arg5 arg6 arg7 x0 x1 x2 x3) (v188 arg4 arg5 arg6 arg7 x0 x1 x2 x3)) rfl rfl

theorem out6 : col 6 (by decide) (VO0_4.read (Elt Ideal) (VO0_4.writes (Elt Ideal) VO0_4.junk (HO4_16 arg4 arg5 arg6 arg7 x0 x1 x2 x3)))
    = tO (row scM0_2.view 6 (by decide) (w2 (HS2_17 arg4 arg5 arg6 arg7 x0 x1 x2 x3))) (row scM0_1.view 6 (by decide) (w1 (HS1_17 arg4 arg5 arg6 arg7 x0 x1 x2 x3))) := by
  unfold HO4_16
  refine (col_skip 6 _ 1920 _ _ (by decide) _ _ _).trans ?_
  refine (col_skip 6 _ 1792 _ _ (by decide) _ _ _).trans ?_
  refine (col_skip 6 _ 1664 _ _ (by decide) _ _ _).trans ?_
  refine (col_skip 6 _ 1536 _ _ (by decide) _ _ _).trans ?_
  refine (col_skip 6 _ 1408 _ _ (by decide) _ _ _).trans ?_
  refine (col_skip 6 _ 1280 _ _ (by decide) _ _ _).trans ?_
  refine (col_skip 6 _ 1152 _ _ (by decide) _ _ _).trans ?_
  refine (col_skip 6 _ 1024 _ _ (by decide) _ _ _).trans ?_
  refine (col_skip 6 _ 896 _ _ (by decide) _ _ _).trans ?_
  refine (col_hit 6 _ 768 _ _ (by decide) _ _ _).trans ?_
  exact Eq.trans (b := tO (v195 arg4 arg5 arg6 arg7 x0 x1 x2 x3) (v197 arg4 arg5 arg6 arg7 x0 x1 x2 x3)) rfl rfl

theorem out7 : col 7 (by decide) (VO0_4.read (Elt Ideal) (VO0_4.writes (Elt Ideal) VO0_4.junk (HO4_16 arg4 arg5 arg6 arg7 x0 x1 x2 x3)))
    = tO (row scM0_2.view 7 (by decide) (w2 (HS2_17 arg4 arg5 arg6 arg7 x0 x1 x2 x3))) (row scM0_1.view 7 (by decide) (w1 (HS1_17 arg4 arg5 arg6 arg7 x0 x1 x2 x3))) := by
  unfold HO4_16
  refine (col_skip 7 _ 1920 _ _ (by decide) _ _ _).trans ?_
  refine (col_skip 7 _ 1792 _ _ (by decide) _ _ _).trans ?_
  refine (col_skip 7 _ 1664 _ _ (by decide) _ _ _).trans ?_
  refine (col_skip 7 _ 1536 _ _ (by decide) _ _ _).trans ?_
  refine (col_skip 7 _ 1408 _ _ (by decide) _ _ _).trans ?_
  refine (col_skip 7 _ 1280 _ _ (by decide) _ _ _).trans ?_
  refine (col_skip 7 _ 1152 _ _ (by decide) _ _ _).trans ?_
  refine (col_skip 7 _ 1024 _ _ (by decide) _ _ _).trans ?_
  refine (col_hit 7 _ 896 _ _ (by decide) _ _ _).trans ?_
  exact Eq.trans (b := tO (v204 arg4 arg5 arg6 arg7 x0 x1 x2 x3) (v206 arg4 arg5 arg6 arg7 x0 x1 x2 x3)) rfl rfl

theorem out8 : col 8 (by decide) (VO0_4.read (Elt Ideal) (VO0_4.writes (Elt Ideal) VO0_4.junk (HO4_16 arg4 arg5 arg6 arg7 x0 x1 x2 x3)))
    = tO (row scM0_2.view 8 (by decide) (w2 (HS2_17 arg4 arg5 arg6 arg7 x0 x1 x2 x3))) (row scM0_1.view 8 (by decide) (w1 (HS1_17 arg4 arg5 arg6 arg7 x0 x1 x2 x3))) := by
  unfold HO4_16
  refine (col_skip 8 _ 1920 _ _ (by decide) _ _ _).trans ?_
  refine (col_skip 8 _ 1792 _ _ (by decide) _ _ _).trans ?_
  refine (col_skip 8 _ 1664 _ _ (by decide) _ _ _).trans ?_
  refine (col_skip 8 _ 1536 _ _ (by decide) _ _ _).trans ?_
  refine (col_skip 8 _ 1408 _ _ (by decide) _ _ _).trans ?_
  refine (col_skip 8 _ 1280 _ _ (by decide) _ _ _).trans ?_
  refine (col_skip 8 _ 1152 _ _ (by decide) _ _ _).trans ?_
  refine (col_hit 8 _ 1024 _ _ (by decide) _ _ _).trans ?_
  exact Eq.trans (b := tO (v213_7 arg4 arg5 arg6 arg7 x0 x1 x2 x3) (v215 arg4 arg5 arg6 arg7 x0 x1 x2 x3)) rfl rfl

theorem out9 : col 9 (by decide) (VO0_4.read (Elt Ideal) (VO0_4.writes (Elt Ideal) VO0_4.junk (HO4_16 arg4 arg5 arg6 arg7 x0 x1 x2 x3)))
    = tO (row scM0_2.view 9 (by decide) (w2 (HS2_17 arg4 arg5 arg6 arg7 x0 x1 x2 x3))) (row scM0_1.view 9 (by decide) (w1 (HS1_17 arg4 arg5 arg6 arg7 x0 x1 x2 x3))) := by
  unfold HO4_16
  refine (col_skip 9 _ 1920 _ _ (by decide) _ _ _).trans ?_
  refine (col_skip 9 _ 1792 _ _ (by decide) _ _ _).trans ?_
  refine (col_skip 9 _ 1664 _ _ (by decide) _ _ _).trans ?_
  refine (col_skip 9 _ 1536 _ _ (by decide) _ _ _).trans ?_
  refine (col_skip 9 _ 1408 _ _ (by decide) _ _ _).trans ?_
  refine (col_skip 9 _ 1280 _ _ (by decide) _ _ _).trans ?_
  refine (col_hit 9 _ 1152 _ _ (by decide) _ _ _).trans ?_
  exact Eq.trans (b := tO (v222 arg4 arg5 arg6 arg7 x0 x1 x2 x3) (v224 arg4 arg5 arg6 arg7 x0 x1 x2 x3)) rfl rfl

theorem out10 : col 10 (by decide) (VO0_4.read (Elt Ideal) (VO0_4.writes (Elt Ideal) VO0_4.junk (HO4_16 arg4 arg5 arg6 arg7 x0 x1 x2 x3)))
    = tO (row scM0_2.view 10 (by decide) (w2 (HS2_17 arg4 arg5 arg6 arg7 x0 x1 x2 x3))) (row scM0_1.view 10 (by decide) (w1 (HS1_17 arg4 arg5 arg6 arg7 x0 x1 x2 x3))) := by
  unfold HO4_16
  refine (col_skip 10 _ 1920 _ _ (by decide) _ _ _).trans ?_
  refine (col_skip 10 _ 1792 _ _ (by decide) _ _ _).trans ?_
  refine (col_skip 10 _ 1664 _ _ (by decide) _ _ _).trans ?_
  refine (col_skip 10 _ 1536 _ _ (by decide) _ _ _).trans ?_
  refine (col_skip 10 _ 1408 _ _ (by decide) _ _ _).trans ?_
  refine (col_hit 10 _ 1280 _ _ (by decide) _ _ _).trans ?_
  exact Eq.trans (b := tO (v231 arg4 arg5 arg6 arg7 x0 x1 x2 x3) (v233 arg4 arg5 arg6 arg7 x0 x1 x2 x3)) rfl rfl

theorem out11 : col 11 (by decide) (VO0_4.read (Elt Ideal) (VO0_4.writes (Elt Ideal) VO0_4.junk (HO4_16 arg4 arg5 arg6 arg7 x0 x1 x2 x3)))
    = tO (row scM0_2.view 11 (by decide) (w2 (HS2_17 arg4 arg5 arg6 arg7 x0 x1 x2 x3))) (row scM0_1.view 11 (by decide) (w1 (HS1_17 arg4 arg5 arg6 arg7 x0 x1 x2 x3))) := by
  unfold HO4_16
  refine (col_skip 11 _ 1920 _ _ (by decide) _ _ _).trans ?_
  refine (col_skip 11 _ 1792 _ _ (by decide) _ _ _).trans ?_
  refine (col_skip 11 _ 1664 _ _ (by decide) _ _ _).trans ?_
  refine (col_skip 11 _ 1536 _ _ (by decide) _ _ _).trans ?_
  refine (col_hit 11 _ 1408 _ _ (by decide) _ _ _).trans ?_
  exact Eq.trans (b := tO (v240 arg4 arg5 arg6 arg7 x0 x1 x2 x3) (v242 arg4 arg5 arg6 arg7 x0 x1 x2 x3)) rfl rfl

theorem out12 : col 12 (by decide) (VO0_4.read (Elt Ideal) (VO0_4.writes (Elt Ideal) VO0_4.junk (HO4_16 arg4 arg5 arg6 arg7 x0 x1 x2 x3)))
    = tO (row scM0_2.view 12 (by decide) (w2 (HS2_17 arg4 arg5 arg6 arg7 x0 x1 x2 x3))) (row scM0_1.view 12 (by decide) (w1 (HS1_17 arg4 arg5 arg6 arg7 x0 x1 x2 x3))) := by
  unfold HO4_16
  refine (col_skip 12 _ 1920 _ _ (by decide) _ _ _).trans ?_
  refine (col_skip 12 _ 1792 _ _ (by decide) _ _ _).trans ?_
  refine (col_skip 12 _ 1664 _ _ (by decide) _ _ _).trans ?_
  refine (col_hit 12 _ 1536 _ _ (by decide) _ _ _).trans ?_
  exact Eq.trans (b := tO (v249 arg4 arg5 arg6 arg7 x0 x1 x2 x3) (v251 arg4 arg5 arg6 arg7 x0 x1 x2 x3)) rfl rfl

theorem out13 : col 13 (by decide) (VO0_4.read (Elt Ideal) (VO0_4.writes (Elt Ideal) VO0_4.junk (HO4_16 arg4 arg5 arg6 arg7 x0 x1 x2 x3)))
    = tO (row scM0_2.view 13 (by decide) (w2 (HS2_17 arg4 arg5 arg6 arg7 x0 x1 x2 x3))) (row scM0_1.view 13 (by decide) (w1 (HS1_17 arg4 arg5 arg6 arg7 x0 x1 x2 x3))) := by
  unfold HO4_16
  refine (col_skip 13 _ 1920 _ _ (by decide) _ _ _).trans ?_
  refine (col_skip 13 _ 1792 _ _ (by decide) _ _ _).trans ?_
  refine (col_hit 13 _ 1664 _ _ (by decide) _ _ _).trans ?_
  exact Eq.trans (b := tO (v258 arg4 arg5 arg6 arg7 x0 x1 x2 x3) (v260 arg4 arg5 arg6 arg7 x0 x1 x2 x3)) rfl rfl

theorem out14 : col 14 (by decide) (VO0_4.read (Elt Ideal) (VO0_4.writes (Elt Ideal) VO0_4.junk (HO4_16 arg4 arg5 arg6 arg7 x0 x1 x2 x3)))
    = tO (row scM0_2.view 14 (by decide) (w2 (HS2_17 arg4 arg5 arg6 arg7 x0 x1 x2 x3))) (row scM0_1.view 14 (by decide) (w1 (HS1_17 arg4 arg5 arg6 arg7 x0 x1 x2 x3))) := by
  unfold HO4_16
  refine (col_skip 14 _ 1920 _ _ (by decide) _ _ _).trans ?_
  refine (col_hit 14 _ 1792 _ _ (by decide) _ _ _).trans ?_
  exact Eq.trans (b := tO (v267 arg4 arg5 arg6 arg7 x0 x1 x2 x3) (v269 arg4 arg5 arg6 arg7 x0 x1 x2 x3)) rfl rfl

theorem out15 : col 15 (by decide) (VO0_4.read (Elt Ideal) (VO0_4.writes (Elt Ideal) VO0_4.junk (HO4_16 arg4 arg5 arg6 arg7 x0 x1 x2 x3)))
    = tO (row scM0_2.view 15 (by decide) (w2 (HS2_17 arg4 arg5 arg6 arg7 x0 x1 x2 x3))) (row scM0_1.view 15 (by decide) (w1 (HS1_17 arg4 arg5 arg6 arg7 x0 x1 x2 x3))) := by
  unfold HO4_16
  refine (col_hit 15 _ 1920 _ _ (by decide) _ _ _).trans ?_
  exact Eq.trans (b := tO (v276 arg4 arg5 arg6 arg7 x0 x1 x2 x3) (v278 arg4 arg5 arg6 arg7 x0 x1 x2 x3)) rfl rfl

theorem outs (h : Fin 16) : col h.val h.isLt (VO0_4.read (Elt Ideal) (VO0_4.writes (Elt Ideal) VO0_4.junk (HO4_16 arg4 arg5 arg6 arg7 x0 x1 x2 x3)))
    = tO (row scM0_2.view h.val h.isLt (w2 (HS2_17 arg4 arg5 arg6 arg7 x0 x1 x2 x3))) (row scM0_1.view h.val h.isLt (w1 (HS1_17 arg4 arg5 arg6 arg7 x0 x1 x2 x3))) := by
  obtain ⟨h, hh⟩ := h
  interval_cases h
  · exact out0 arg4 arg5 arg6 arg7 x0 x1 x2 x3
  · exact out1 arg4 arg5 arg6 arg7 x0 x1 x2 x3
  · exact out2 arg4 arg5 arg6 arg7 x0 x1 x2 x3
  · exact out3 arg4 arg5 arg6 arg7 x0 x1 x2 x3
  · exact out4 arg4 arg5 arg6 arg7 x0 x1 x2 x3
  · exact out5 arg4 arg5 arg6 arg7 x0 x1 x2 x3
  · exact out6 arg4 arg5 arg6 arg7 x0 x1 x2 x3
  · exact out7 arg4 arg5 arg6 arg7 x0 x1 x2 x3
  · exact out8 arg4 arg5 arg6 arg7 x0 x1 x2 x3
  · exact out9 arg4 arg5 arg6 arg7 x0 x1 x2 x3
  · exact out10 arg4 arg5 arg6 arg7 x0 x1 x2 x3
  · exact out11 arg4 arg5 arg6 arg7 x0 x1 x2 x3
  · exact out12 arg4 arg5 arg6 arg7 x0 x1 x2 x3
  · exact out13 arg4 arg5 arg6 arg7 x0 x1 x2 x3
  · exact out14 arg4 arg5 arg6 arg7 x0 x1 x2 x3
  · exact out15 arg4 arg5 arg6 arg7 x0 x1 x2 x3

theorem out (h : Fin 16) (c : Dev nD) (i : grid0.Coords) (arg4 : Memref sig .tc .vmem S16x128x1024 .bf16) (harg4 : arg4.IsWhole) (arg5 : Memref sig .tc .vmem S4x1024x128 .bf16) (harg5 : arg5.IsWhole) (arg6 : Memref sig .tc .vmem S4x144x1024 .bf16) (harg6 : arg6.IsWhole) (arg7 : Memref sig .tc .vmem S1x1x1024x1024 .bf16) (harg7 : arg7.IsWhole) (arg8 : Memref sig .tc .vmem S1024x2048 .bf16) (harg8 : arg8.IsWhole) (T0 : (S36.Idx → Elt Ideal .i32)) (T1 : (S36.Idx → Elt Ideal .i32))
     (x0 : (S16x128x1024.Idx → Elt Ideal .bf16)) (x1 : (S4x1024x128.Idx → Elt Ideal .bf16)) (x2 : (S4x144x1024.Idx → Elt Ideal .bf16)) (x3 : (S1x1x1024x1024.Idx → Elt Ideal .bf16)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (k0_h2 : k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) :
    col h.val h.isLt (out0_A_4 c i arg4 harg4 arg5 harg5 arg6 harg6 arg7 harg7 arg8 harg8 T0 T1 x0 x1 x2 x3 hc0 k0_h2) = tO (tA (iM h.val h.isLt) (hX arg4 arg5 arg7 x0 x1 x3 h.val h.isLt) (hS arg4 arg5 arg7 x0 x1 x3 h.val h.isLt) (hV arg6 x2 h.val h.isLt) (iA h.val h.isLt)) (tL (iM h.val h.isLt) (hX arg4 arg5 arg7 x0 x1 x3 h.val h.isLt) (hS arg4 arg5 arg7 x0 x1 x3 h.val h.isLt) (hV arg6 x2 h.val h.isLt) (iL h.val h.isLt)) := by
  unfold out0_A_4 kernelRun0_A
  exact (outs arg4 arg5 arg6 arg7 x0 x1 x2 x3 h).trans (tO_of (list2 arg4 arg5 arg6 arg7 x0 x1 x2 x3 h) (list1 arg4 arg5 arg6 arg7 x0 x1 x2 x3 h))

end Cert.AttnIdeal.Leg.PA

end
-- ==== Proof.AttnPB.lean ====
module

public import proofs.«01_k».proof.Proof.AttnTile

@[expose] public section

set_option maxRecDepth 16384

noncomputable section

namespace Cert.AttnIdeal.Leg.PB

open Cert.AttnIdeal Cert.AttnIdeal.Gen Idealize.ShloMosaic Idealize.ShloMosaic.TcCoe
open Idealize.SL Idealize.SL.RA Idealize.SL.BI Idealize.SL.Sem Idealize.ShloMosaic.Pipeline

open Cert.AttnIdeal.Gen.kernelRun0_B.sl

variable (arg4 : Memref sig .tc .vmem S16x128x1024 .bf16) (arg5 : Memref sig .tc .vmem S4x1024x128 .bf16) (arg6 : Memref sig .tc .vmem S4x144x1024 .bf16) (arg7 : Memref sig .tc .vmem S1x1x1024x1024 .bf16) (x0 : S16x128x1024.Idx → Elt Ideal .bf16) (x1 : S4x1024x128.Idx → Elt Ideal .bf16) (x2 : S4x144x1024.Idx → Elt Ideal .bf16) (x3 : S1x1x1024x1024.Idx → Elt Ideal .bf16)

theorem bias : (v40 arg7 x3) = bB arg7 x3 := by
  unfold v40 HS7_1
  exact View.readCov_full _ _ _ _ _

theorem old0_1 (h : ℕ) (hh : h < 16) : row scM0_0.view h hh (w0 HS0_1) = iM h hh := by
  unfold HS0_1
  exact rs_whole _ _ _ _ _ _ _

theorem skip0_2 (h : ℕ) (hh : h < 16) (hne : h ≠ 0) : row scM0_0.view h hh (w0 (HS0_2 arg4 arg5 arg7 x0 x1 x3))
    = row scM0_0.view h hh (w0 HS0_1) := by
  unfold HS0_2
  exact rs_skip _ _ _ _ _ _ _ _ hne

theorem old0_2 (h : ℕ) (hh : h < 16) (hne : 0 < h) : row scM0_0.view h hh (w0 (HS0_2 arg4 arg5 arg7 x0 x1 x3)) = iM h hh :=
  (skip0_2 arg4 arg5 arg7 x0 x1 x3 h hh (by omega)).trans (old0_1  h hh)

theorem skip0_3 (h : ℕ) (hh : h < 16) (hne : h ≠ 1) : row scM0_0.view h hh (w0 (HS0_3 arg4 arg5 arg7 x0 x1 x3))
    = row scM0_0.view h hh (w0 (HS0_2 arg4 arg5 arg7 x0 x1 x3)) := by
  unfold HS0_3
  exact rs_skip _ _ _ _ _ _ _ _ hne

theorem old0_3 (h : ℕ) (hh : h < 16) (hne : 1 < h) : row scM0_0.view h hh (w0 (HS0_3 arg4 arg5 arg7 x0 x1 x3)) = iM h hh :=
  (skip0_3 arg4 arg5 arg7 x0 x1 x3 h hh (by omega)).trans (old0_2 arg4 arg5 arg7 x0 x1 x3 h hh (by omega))

theorem skip0_4 (h : ℕ) (hh : h < 16) (hne : h ≠ 2) : row scM0_0.view h hh (w0 (HS0_4 arg4 arg5 arg7 x0 x1 x3))
    = row scM0_0.view h hh (w0 (HS0_3 arg4 arg5 arg7 x0 x1 x3)) := by
  unfold HS0_4
  exact rs_skip _ _ _ _ _ _ _ _ hne

theorem old0_4 (h : ℕ) (hh : h < 16) (hne : 2 < h) : row scM0_0.view h hh (w0 (HS0_4 arg4 arg5 arg7 x0 x1 x3)) = iM h hh :=
  (skip0_4 arg4 arg5 arg7 x0 x1 x3 h hh (by omega)).trans (old0_3 arg4 arg5 arg7 x0 x1 x3 h hh (by omega))

theorem skip0_5 (h : ℕ) (hh : h < 16) (hne : h ≠ 3) : row scM0_0.view h hh (w0 (HS0_5 arg4 arg5 arg7 x0 x1 x3))
    = row scM0_0.view h hh (w0 (HS0_4 arg4 arg5 arg7 x0 x1 x3)) := by
  unfold HS0_5
  exact rs_skip _ _ _ _ _ _ _ _ hne

theorem old0_5 (h : ℕ) (hh : h < 16) (hne : 3 < h) : row scM0_0.view h hh (w0 (HS0_5 arg4 arg5 arg7 x0 x1 x3)) = iM h hh :=
  (skip0_5 arg4 arg5 arg7 x0 x1 x3 h hh (by omega)).trans (old0_4 arg4 arg5 arg7 x0 x1 x3 h hh (by omega))

theorem skip0_6 (h : ℕ) (hh : h < 16) (hne : h ≠ 4) : row scM0_0.view h hh (w0 (HS0_6 arg4 arg5 arg7 x0 x1 x3))
    = row scM0_0.view h hh (w0 (HS0_5 arg4 arg5 arg7 x0 x1 x3)) := by
  unfold HS0_6
  exact rs_skip _ _ _ _ _ _ _ _ hne

theorem old0_6 (h : ℕ) (hh : h < 16) (hne : 4 < h) : row scM0_0.view h hh (w0 (HS0_6 arg4 arg5 arg7 x0 x1 x3)) = iM h hh :=
  (skip0_6 arg4 arg5 arg7 x0 x1 x3 h hh (by omega)).trans (old0_5 arg4 arg5 arg7 x0 x1 x3 h hh (by omega))

theorem skip0_7 (h : ℕ) (hh : h < 16) (hne : h ≠ 5) : row scM0_0.view h hh (w0 (HS0_7 arg4 arg5 arg7 x0 x1 x3))
    = row scM0_0.view h hh (w0 (HS0_6 arg4 arg5 arg7 x0 x1 x3)) := by
  unfold HS0_7
  exact rs_skip _ _ _ _ _ _ _ _ hne

theorem old0_7 (h : ℕ) (hh : h < 16) (hne : 5 < h) : row scM0_0.view h hh (w0 (HS0_7 arg4 arg5 arg7 x0 x1 x3)) = iM h hh :=
  (skip0_7 arg4 arg5 arg7 x0 x1 x3 h hh (by omega)).trans (old0_6 arg4 arg5 arg7 x0 x1 x3 h hh (by omega))

theorem skip0_8 (h : ℕ) (hh : h < 16) (hne : h ≠ 6) : row scM0_0.view h hh (w0 (HS0_8 arg4 arg5 arg7 x0 x1 x3))
    = row scM0_0.view h hh (w0 (HS0_7 arg4 arg5 arg7 x0 x1 x3)) := by
  unfold HS0_8
  exact rs_skip _ _ _ _ _ _ _ _ hne

theorem old0_8 (h : ℕ) (hh : h < 16) (hne : 6 < h) : row scM0_0.view h hh (w0 (HS0_8 arg4 arg5 arg7 x0 x1 x3)) = iM h hh :=
  (skip0_8 arg4 arg5 arg7 x0 x1 x3 h hh (by omega)).trans (old0_7 arg4 arg5 arg7 x0 x1 x3 h hh (by omega))

theorem skip0_9 (h : ℕ) (hh : h < 16) (hne : h ≠ 7) : row scM0_0.view h hh (w0 (HS0_9 arg4 arg5 arg7 x0 x1 x3))
    = row scM0_0.view h hh (w0 (HS0_8 arg4 arg5 arg7 x0 x1 x3)) := by
  unfold HS0_9
  exact rs_skip _ _ _ _ _ _ _ _ hne

theorem old0_9 (h : ℕ) (hh : h < 16) (hne : 7 < h) : row scM0_0.view h hh (w0 (HS0_9 arg4 arg5 arg7 x0 x1 x3)) = iM h hh :=
  (skip0_9 arg4 arg5 arg7 x0 x1 x3 h hh (by omega)).trans (old0_8 arg4 arg5 arg7 x0 x1 x3 h hh (by omega))

theorem skip0_10 (h : ℕ) (hh : h < 16) (hne : h ≠ 8) : row scM0_0.view h hh (w0 (HS0_10 arg4 arg5 arg7 x0 x1 x3))
    = row scM0_0.view h hh (w0 (HS0_9 arg4 arg5 arg7 x0 x1 x3)) := by
  unfold HS0_10
  exact rs_skip _ _ _ _ _ _ _ _ hne

theorem old0_10 (h : ℕ) (hh : h < 16) (hne : 8 < h) : row scM0_0.view h hh (w0 (HS0_10 arg4 arg5 arg7 x0 x1 x3)) = iM h hh :=
  (skip0_10 arg4 arg5 arg7 x0 x1 x3 h hh (by omega)).trans (old0_9 arg4 arg5 arg7 x0 x1 x3 h hh (by omega))

theorem skip0_11 (h : ℕ) (hh : h < 16) (hne : h ≠ 9) : row scM0_0.view h hh (w0 (HS0_11 arg4 arg5 arg7 x0 x1 x3))
    = row scM0_0.view h hh (w0 (HS0_10 arg4 arg5 arg7 x0 x1 x3)) := by
  unfold HS0_11
  exact rs_skip _ _ _ _ _ _ _ _ hne

theorem old0_11 (h : ℕ) (hh : h < 16) (hne : 9 < h) : row scM0_0.view h hh (w0 (HS0_11 arg4 arg5 arg7 x0 x1 x3)) = iM h hh :=
  (skip0_11 arg4 arg5 arg7 x0 x1 x3 h hh (by omega)).trans (old0_10 arg4 arg5 arg7 x0 x1 x3 h hh (by omega))

theorem skip0_12 (h : ℕ) (hh : h < 16) (hne : h ≠ 10) : row scM0_0.view h hh (w0 (HS0_12 arg4 arg5 arg7 x0 x1 x3))
    = row scM0_0.view h hh (w0 (HS0_11 arg4 arg5 arg7 x0 x1 x3)) := by
  unfold HS0_12
  exact rs_skip _ _ _ _ _ _ _ _ hne

theorem old0_12 (h : ℕ) (hh : h < 16) (hne : 10 < h) : row scM0_0.view h hh (w0 (HS0_12 arg4 arg5 arg7 x0 x1 x3)) = iM h hh :=
  (skip0_12 arg4 arg5 arg7 x0 x1 x3 h hh (by omega)).trans (old0_11 arg4 arg5 arg7 x0 x1 x3 h hh (by omega))

theorem skip0_13 (h : ℕ) (hh : h < 16) (hne : h ≠ 11) : row scM0_0.view h hh (w0 (HS0_13 arg4 arg5 arg7 x0 x1 x3))
    = row scM0_0.view h hh (w0 (HS0_12 arg4 arg5 arg7 x0 x1 x3)) := by
  unfold HS0_13
  exact rs_skip _ _ _ _ _ _ _ _ hne

theorem old0_13 (h : ℕ) (hh : h < 16) (hne : 11 < h) : row scM0_0.view h hh (w0 (HS0_13 arg4 arg5 arg7 x0 x1 x3)) = iM h hh :=
  (skip0_13 arg4 arg5 arg7 x0 x1 x3 h hh (by omega)).trans (old0_12 arg4 arg5 arg7 x0 x1 x3 h hh (by omega))

theorem skip0_14 (h : ℕ) (hh : h < 16) (hne : h ≠ 12) : row scM0_0.view h hh (w0 (HS0_14 arg4 arg5 arg7 x0 x1 x3))
    = row scM0_0.view h hh (w0 (HS0_13 arg4 arg5 arg7 x0 x1 x3)) := by
  unfold HS0_14
  exact rs_skip _ _ _ _ _ _ _ _ hne

theorem old0_14 (h : ℕ) (hh : h < 16) (hne : 12 < h) : row scM0_0.view h hh (w0 (HS0_14 arg4 arg5 arg7 x0 x1 x3)) = iM h hh :=
  (skip0_14 arg4 arg5 arg7 x0 x1 x3 h hh (by omega)).trans (old0_13 arg4 arg5 arg7 x0 x1 x3 h hh (by omega))

theorem skip0_15 (h : ℕ) (hh : h < 16) (hne : h ≠ 13) : row scM0_0.view h hh (w0 (HS0_15 arg4 arg5 arg7 x0 x1 x3))
    = row scM0_0.view h hh (w0 (HS0_14 arg4 arg5 arg7 x0 x1 x3)) := by
  unfold HS0_15
  exact rs_skip _ _ _ _ _ _ _ _ hne

theorem old0_15 (h : ℕ) (hh : h < 16) (hne : 13 < h) : row scM0_0.view h hh (w0 (HS0_15 arg4 arg5 arg7 x0 x1 x3)) = iM h hh :=
  (skip0_15 arg4 arg5 arg7 x0 x1 x3 h hh (by omega)).trans (old0_14 arg4 arg5 arg7 x0 x1 x3 h hh (by omega))

theorem skip0_16 (h : ℕ) (hh : h < 16) (hne : h ≠ 14) : row scM0_0.view h hh (w0 (HS0_16 arg4 arg5 arg7 x0 x1 x3))
    = row scM0_0.view h hh (w0 (HS0_15 arg4 arg5 arg7 x0 x1 x3)) := by
  unfold HS0_16
  exact rs_skip _ _ _ _ _ _ _ _ hne

theorem old0_16 (h : ℕ) (hh : h < 16) (hne : 14 < h) : row scM0_0.view h hh (w0 (HS0_16 arg4 arg5 arg7 x0 x1 x3)) = iM h hh :=
  (skip0_16 arg4 arg5 arg7 x0 x1 x3 h hh (by omega)).trans (old0_15 arg4 arg5 arg7 x0 x1 x3 h hh (by omega))

theorem skip0_17 (h : ℕ) (hh : h < 16) (hne : h ≠ 15) : row scM0_0.view h hh (w0 (HS0_17 arg4 arg5 arg7 x0 x1 x3))
    = row scM0_0.view h hh (w0 (HS0_16 arg4 arg5 arg7 x0 x1 x3)) := by
  unfold HS0_17
  exact rs_skip _ _ _ _ _ _ _ _ hne

theorem old1_1 (h : ℕ) (hh : h < 16) : row scM0_1.view h hh (w1 HS1_1) = iL h hh := by
  unfold HS1_1
  exact rs_whole _ _ _ _ _ _ _

theorem skip1_2 (h : ℕ) (hh : h < 16) (hne : h ≠ 0) : row scM0_1.view h hh (w1 (HS1_2 arg4 arg5 arg6 arg7 x0 x1 x2 x3))
    = row scM0_1.view h hh (w1 HS1_1) := by
  unfold HS1_2
  exact rs_skip _ _ _ _ _ _ _ _ hne

theorem old1_2 (h : ℕ) (hh : h < 16) (hne : 0 < h) : row scM0_1.view h hh (w1 (HS1_2 arg4 arg5 arg6 arg7 x0 x1 x2 x3)) = iL h hh :=
  (skip1_2 arg4 arg5 arg6 arg7 x0 x1 x2 x3 h hh (by omega)).trans (old1_1  h hh)

theorem skip1_3 (h : ℕ) (hh : h < 16) (hne : h ≠ 1) : row scM0_1.view h hh (w1 (HS1_3 arg4 arg5 arg6 arg7 x0 x1 x2 x3))
    = row scM0_1.view h hh (w1 (HS1_2 arg4 arg5 arg6 arg7 x0 x1 x2 x3)) := by
  unfold HS1_3
  exact rs_skip _ _ _ _ _ _ _ _ hne

theorem old1_3 (h : ℕ) (hh : h < 16) (hne : 1 < h) : row scM0_1.view h hh (w1 (HS1_3 arg4 arg5 arg6 arg7 x0 x1 x2 x3)) = iL h hh :=
  (skip1_3 arg4 arg5 arg6 arg7 x0 x1 x2 x3 h hh (by omega)).trans (old1_2 arg4 arg5 arg6 arg7 x0 x1 x2 x3 h hh (by omega))

theorem skip1_4 (h : ℕ) (hh : h < 16) (hne : h ≠ 2) : row scM0_1.view h hh (w1 (HS1_4 arg4 arg5 arg6 arg7 x0 x1 x2 x3))
    = row scM0_1.view h hh (w1 (HS1_3 arg4 arg5 arg6 arg7 x0 x1 x2 x3)) := by
  unfold HS1_4
  exact rs_skip _ _ _ _ _ _ _ _ hne

theorem old1_4 (h : ℕ) (hh : h < 16) (hne : 2 < h) : row scM0_1.view h hh (w1 (HS1_4 arg4 arg5 arg6 arg7 x0 x1 x2 x3)) = iL h hh :=
  (skip1_4 arg4 arg5 arg6 arg7 x0 x1 x2 x3 h hh (by omega)).trans (old1_3 arg4 arg5 arg6 arg7 x0 x1 x2 x3 h hh (by omega))

theorem skip1_5 (h : ℕ) (hh : h < 16) (hne : h ≠ 3) : row scM0_1.view h hh (w1 (HS1_5 arg4 arg5 arg6 arg7 x0 x1 x2 x3))
    = row scM0_1.view h hh (w1 (HS1_4 arg4 arg5 arg6 arg7 x0 x1 x2 x3)) := by
  unfold HS1_5
  exact rs_skip _ _ _ _ _ _ _ _ hne

theorem old1_5 (h : ℕ) (hh : h < 16) (hne : 3 < h) : row scM0_1.view h hh (w1 (HS1_5 arg4 arg5 arg6 arg7 x0 x1 x2 x3)) = iL h hh :=
  (skip1_5 arg4 arg5 arg6 arg7 x0 x1 x2 x3 h hh (by omega)).trans (old1_4 arg4 arg5 arg6 arg7 x0 x1 x2 x3 h hh (by omega))

theorem skip1_6 (h : ℕ) (hh : h < 16) (hne : h ≠ 4) : row scM0_1.view h hh (w1 (HS1_6 arg4 arg5 arg6 arg7 x0 x1 x2 x3))
    = row scM0_1.view h hh (w1 (HS1_5 arg4 arg5 arg6 arg7 x0 x1 x2 x3)) := by
  unfold HS1_6
  exact rs_skip _ _ _ _ _ _ _ _ hne

theorem old1_6 (h : ℕ) (hh : h < 16) (hne : 4 < h) : row scM0_1.view h hh (w1 (HS1_6 arg4 arg5 arg6 arg7 x0 x1 x2 x3)) = iL h hh :=
  (skip1_6 arg4 arg5 arg6 arg7 x0 x1 x2 x3 h hh (by omega)).trans (old1_5 arg4 arg5 arg6 arg7 x0 x1 x2 x3 h hh (by omega))

theorem skip1_7 (h : ℕ) (hh : h < 16) (hne : h ≠ 5) : row scM0_1.view h hh (w1 (HS1_7 arg4 arg5 arg6 arg7 x0 x1 x2 x3))
    = row scM0_1.view h hh (w1 (HS1_6 arg4 arg5 arg6 arg7 x0 x1 x2 x3)) := by
  unfold HS1_7
  exact rs_skip _ _ _ _ _ _ _ _ hne

theorem old1_7 (h : ℕ) (hh : h < 16) (hne : 5 < h) : row scM0_1.view h hh (w1 (HS1_7 arg4 arg5 arg6 arg7 x0 x1 x2 x3)) = iL h hh :=
  (skip1_7 arg4 arg5 arg6 arg7 x0 x1 x2 x3 h hh (by omega)).trans (old1_6 arg4 arg5 arg6 arg7 x0 x1 x2 x3 h hh (by omega))

theorem skip1_8 (h : ℕ) (hh : h < 16) (hne : h ≠ 6) : row scM0_1.view h hh (w1 (HS1_8 arg4 arg5 arg6 arg7 x0 x1 x2 x3))
    = row scM0_1.view h hh (w1 (HS1_7 arg4 arg5 arg6 arg7 x0 x1 x2 x3)) := by
  unfold HS1_8
  exact rs_skip _ _ _ _ _ _ _ _ hne

theorem old1_8 (h : ℕ) (hh : h < 16) (hne : 6 < h) : row scM0_1.view h hh (w1 (HS1_8 arg4 arg5 arg6 arg7 x0 x1 x2 x3)) = iL h hh :=
  (skip1_8 arg4 arg5 arg6 arg7 x0 x1 x2 x3 h hh (by omega)).trans (old1_7 arg4 arg5 arg6 arg7 x0 x1 x2 x3 h hh (by omega))

theorem skip1_9 (h : ℕ) (hh : h < 16) (hne : h ≠ 7) : row scM0_1.view h hh (w1 (HS1_9 arg4 arg5 arg6 arg7 x0 x1 x2 x3))
    = row scM0_1.view h hh (w1 (HS1_8 arg4 arg5 arg6 arg7 x0 x1 x2 x3)) := by
  unfold HS1_9
  exact rs_skip _ _ _ _ _ _ _ _ hne

theorem old1_9 (h : ℕ) (hh : h < 16) (hne : 7 < h) : row scM0_1.view h hh (w1 (HS1_9 arg4 arg5 arg6 arg7 x0 x1 x2 x3)) = iL h hh :=
  (skip1_9 arg4 arg5 arg6 arg7 x0 x1 x2 x3 h hh (by omega)).trans (old1_8 arg4 arg5 arg6 arg7 x0 x1 x2 x3 h hh (by omega))

theorem skip1_10 (h : ℕ) (hh : h < 16) (hne : h ≠ 8) : row scM0_1.view h hh (w1 (HS1_10 arg4 arg5 arg6 arg7 x0 x1 x2 x3))
    = row scM0_1.view h hh (w1 (HS1_9 arg4 arg5 arg6 arg7 x0 x1 x2 x3)) := by
  unfold HS1_10
  exact rs_skip _ _ _ _ _ _ _ _ hne

theorem old1_10 (h : ℕ) (hh : h < 16) (hne : 8 < h) : row scM0_1.view h hh (w1 (HS1_10 arg4 arg5 arg6 arg7 x0 x1 x2 x3)) = iL h hh :=
  (skip1_10 arg4 arg5 arg6 arg7 x0 x1 x2 x3 h hh (by omega)).trans (old1_9 arg4 arg5 arg6 arg7 x0 x1 x2 x3 h hh (by omega))

theorem skip1_11 (h : ℕ) (hh : h < 16) (hne : h ≠ 9) : row scM0_1.view h hh (w1 (HS1_11 arg4 arg5 arg6 arg7 x0 x1 x2 x3))
    = row scM0_1.view h hh (w1 (HS1_10 arg4 arg5 arg6 arg7 x0 x1 x2 x3)) := by
  unfold HS1_11
  exact rs_skip _ _ _ _ _ _ _ _ hne

theorem old1_11 (h : ℕ) (hh : h < 16) (hne : 9 < h) : row scM0_1.view h hh (w1 (HS1_11 arg4 arg5 arg6 arg7 x0 x1 x2 x3)) = iL h hh :=
  (skip1_11 arg4 arg5 arg6 arg7 x0 x1 x2 x3 h hh (by omega)).trans (old1_10 arg4 arg5 arg6 arg7 x0 x1 x2 x3 h hh (by omega))

theorem skip1_12 (h : ℕ) (hh : h < 16) (hne : h ≠ 10) : row scM0_1.view h hh (w1 (HS1_12 arg4 arg5 arg6 arg7 x0 x1 x2 x3))
    = row scM0_1.view h hh (w1 (HS1_11 arg4 arg5 arg6 arg7 x0 x1 x2 x3)) := by
  unfold HS1_12
  exact rs_skip _ _ _ _ _ _ _ _ hne

theorem old1_12 (h : ℕ) (hh : h < 16) (hne : 10 < h) : row scM0_1.view h hh (w1 (HS1_12 arg4 arg5 arg6 arg7 x0 x1 x2 x3)) = iL h hh :=
  (skip1_12 arg4 arg5 arg6 arg7 x0 x1 x2 x3 h hh (by omega)).trans (old1_11 arg4 arg5 arg6 arg7 x0 x1 x2 x3 h hh (by omega))

theorem skip1_13 (h : ℕ) (hh : h < 16) (hne : h ≠ 11) : row scM0_1.view h hh (w1 (HS1_13 arg4 arg5 arg6 arg7 x0 x1 x2 x3))
    = row scM0_1.view h hh (w1 (HS1_12 arg4 arg5 arg6 arg7 x0 x1 x2 x3)) := by
  unfold HS1_13
  exact rs_skip _ _ _ _ _ _ _ _ hne

theorem old1_13 (h : ℕ) (hh : h < 16) (hne : 11 < h) : row scM0_1.view h hh (w1 (HS1_13 arg4 arg5 arg6 arg7 x0 x1 x2 x3)) = iL h hh :=
  (skip1_13 arg4 arg5 arg6 arg7 x0 x1 x2 x3 h hh (by omega)).trans (old1_12 arg4 arg5 arg6 arg7 x0 x1 x2 x3 h hh (by omega))

theorem skip1_14 (h : ℕ) (hh : h < 16) (hne : h ≠ 12) : row scM0_1.view h hh (w1 (HS1_14 arg4 arg5 arg6 arg7 x0 x1 x2 x3))
    = row scM0_1.view h hh (w1 (HS1_13 arg4 arg5 arg6 arg7 x0 x1 x2 x3)) := by
  unfold HS1_14
  exact rs_skip _ _ _ _ _ _ _ _ hne

theorem old1_14 (h : ℕ) (hh : h < 16) (hne : 12 < h) : row scM0_1.view h hh (w1 (HS1_14 arg4 arg5 arg6 arg7 x0 x1 x2 x3)) = iL h hh :=
  (skip1_14 arg4 arg5 arg6 arg7 x0 x1 x2 x3 h hh (by omega)).trans (old1_13 arg4 arg5 arg6 arg7 x0 x1 x2 x3 h hh (by omega))

theorem skip1_15 (h : ℕ) (hh : h < 16) (hne : h ≠ 13) : row scM0_1.view h hh (w1 (HS1_15 arg4 arg5 arg6 arg7 x0 x1 x2 x3))
    = row scM0_1.view h hh (w1 (HS1_14 arg4 arg5 arg6 arg7 x0 x1 x2 x3)) := by
  unfold HS1_15
  exact rs_skip _ _ _ _ _ _ _ _ hne

theorem old1_15 (h : ℕ) (hh : h < 16) (hne : 13 < h) : row scM0_1.view h hh (w1 (HS1_15 arg4 arg5 arg6 arg7 x0 x1 x2 x3)) = iL h hh :=
  (skip1_15 arg4 arg5 arg6 arg7 x0 x1 x2 x3 h hh (by omega)).trans (old1_14 arg4 arg5 arg6 arg7 x0 x1 x2 x3 h hh (by omega))

theorem skip1_16 (h : ℕ) (hh : h < 16) (hne : h ≠ 14) : row scM0_1.view h hh (w1 (HS1_16 arg4 arg5 arg6 arg7 x0 x1 x2 x3))
    = row scM0_1.view h hh (w1 (HS1_15 arg4 arg5 arg6 arg7 x0 x1 x2 x3)) := by
  unfold HS1_16
  exact rs_skip _ _ _ _ _ _ _ _ hne

theorem old1_16 (h : ℕ) (hh : h < 16) (hne : 14 < h) : row scM0_1.view h hh (w1 (HS1_16 arg4 arg5 arg6 arg7 x0 x1 x2 x3)) = iL h hh :=
  (skip1_16 arg4 arg5 arg6 arg7 x0 x1 x2 x3 h hh (by omega)).trans (old1_15 arg4 arg5 arg6 arg7 x0 x1 x2 x3 h hh (by omega))

theorem skip1_17 (h : ℕ) (hh : h < 16) (hne : h ≠ 15) : row scM0_1.view h hh (w1 (HS1_17 arg4 arg5 arg6 arg7 x0 x1 x2 x3))
    = row scM0_1.view h hh (w1 (HS1_16 arg4 arg5 arg6 arg7 x0 x1 x2 x3)) := by
  unfold HS1_17
  exact rs_skip _ _ _ _ _ _ _ _ hne

theorem old2_1 (h : ℕ) (hh : h < 16) : row scM0_2.view h hh (w2 HS2_1) = iA h hh := by
  unfold HS2_1
  exact ra_whole _ _ _ _ _ _ _

theorem skip2_2 (h : ℕ) (hh : h < 16) (hne : h ≠ 0) : row scM0_2.view h hh (w2 (HS2_2 arg4 arg5 arg6 arg7 x0 x1 x2 x3))
    = row scM0_2.view h hh (w2 HS2_1) := by
  unfold HS2_2
  exact ra_skip _ _ _ _ _ _ _ _ hne

theorem old2_2 (h : ℕ) (hh : h < 16) (hne : 0 < h) : row scM0_2.view h hh (w2 (HS2_2 arg4 arg5 arg6 arg7 x0 x1 x2 x3)) = iA h hh :=
  (skip2_2 arg4 arg5 arg6 arg7 x0 x1 x2 x3 h hh (by omega)).trans (old2_1  h hh)

theorem skip2_3 (h : ℕ) (hh : h < 16) (hne : h ≠ 1) : row scM0_2.view h hh (w2 (HS2_3 arg4 arg5 arg6 arg7 x0 x1 x2 x3))
    = row scM0_2.view h hh (w2 (HS2_2 arg4 arg5 arg6 arg7 x0 x1 x2 x3)) := by
  unfold HS2_3
  exact ra_skip _ _ _ _ _ _ _ _ hne

theorem old2_3 (h : ℕ) (hh : h < 16) (hne : 1 < h) : row scM0_2.view h hh (w2 (HS2_3 arg4 arg5 arg6 arg7 x0 x1 x2 x3)) = iA h hh :=
  (skip2_3 arg4 arg5 arg6 arg7 x0 x1 x2 x3 h hh (by omega)).trans (old2_2 arg4 arg5 arg6 arg7 x0 x1 x2 x3 h hh (by omega))

theorem skip2_4 (h : ℕ) (hh : h < 16) (hne : h ≠ 2) : row scM0_2.view h hh (w2 (HS2_4 arg4 arg5 arg6 arg7 x0 x1 x2 x3))
    = row scM0_2.view h hh (w2 (HS2_3 arg4 arg5 arg6 arg7 x0 x1 x2 x3)) := by
  unfold HS2_4
  exact ra_skip _ _ _ _ _ _ _ _ hne

theorem old2_4 (h : ℕ) (hh : h < 16) (hne : 2 < h) : row scM0_2.view h hh (w2 (HS2_4 arg4 arg5 arg6 arg7 x0 x1 x2 x3)) = iA h hh :=
  (skip2_4 arg4 arg5 arg6 arg7 x0 x1 x2 x3 h hh (by omega)).trans (old2_3 arg4 arg5 arg6 arg7 x0 x1 x2 x3 h hh (by omega))

theorem skip2_5 (h : ℕ) (hh : h < 16) (hne : h ≠ 3) : row scM0_2.view h hh (w2 (HS2_5 arg4 arg5 arg6 arg7 x0 x1 x2 x3))
    = row scM0_2.view h hh (w2 (HS2_4 arg4 arg5 arg6 arg7 x0 x1 x2 x3)) := by
  unfold HS2_5
  exact ra_skip _ _ _ _ _ _ _ _ hne

theorem old2_5 (h : ℕ) (hh : h < 16) (hne : 3 < h) : row scM0_2.view h hh (w2 (HS2_5 arg4 arg5 arg6 arg7 x0 x1 x2 x3)) = iA h hh :=
  (skip2_5 arg4 arg5 arg6 arg7 x0 x1 x2 x3 h hh (by omega)).trans (old2_4 arg4 arg5 arg6 arg7 x0 x1 x2 x3 h hh (by omega))

theorem skip2_6 (h : ℕ) (hh : h < 16) (hne : h ≠ 4) : row scM0_2.view h hh (w2 (HS2_6 arg4 arg5 arg6 arg7 x0 x1 x2 x3))
    = row scM0_2.view h hh (w2 (HS2_5 arg4 arg5 arg6 arg7 x0 x1 x2 x3)) := by
  unfold HS2_6
  exact ra_skip _ _ _ _ _ _ _ _ hne

theorem old2_6 (h : ℕ) (hh : h < 16) (hne : 4 < h) : row scM0_2.view h hh (w2 (HS2_6 arg4 arg5 arg6 arg7 x0 x1 x2 x3)) = iA h hh :=
  (skip2_6 arg4 arg5 arg6 arg7 x0 x1 x2 x3 h hh (by omega)).trans (old2_5 arg4 arg5 arg6 arg7 x0 x1 x2 x3 h hh (by omega))

theorem skip2_7 (h : ℕ) (hh : h < 16) (hne : h ≠ 5) : row scM0_2.view h hh (w2 (HS2_7 arg4 arg5 arg6 arg7 x0 x1 x2 x3))
    = row scM0_2.view h hh (w2 (HS2_6 arg4 arg5 arg6 arg7 x0 x1 x2 x3)) := by
  unfold HS2_7
  exact ra_skip _ _ _ _ _ _ _ _ hne

theorem old2_7 (h : ℕ) (hh : h < 16) (hne : 5 < h) : row scM0_2.view h hh (w2 (HS2_7 arg4 arg5 arg6 arg7 x0 x1 x2 x3)) = iA h hh :=
  (skip2_7 arg4 arg5 arg6 arg7 x0 x1 x2 x3 h hh (by omega)).trans (old2_6 arg4 arg5 arg6 arg7 x0 x1 x2 x3 h hh (by omega))

theorem skip2_8 (h : ℕ) (hh : h < 16) (hne : h ≠ 6) : row scM0_2.view h hh (w2 (HS2_8 arg4 arg5 arg6 arg7 x0 x1 x2 x3))
    = row scM0_2.view h hh (w2 (HS2_7 arg4 arg5 arg6 arg7 x0 x1 x2 x3)) := by
  unfold HS2_8
  exact ra_skip _ _ _ _ _ _ _ _ hne

theorem old2_8 (h : ℕ) (hh : h < 16) (hne : 6 < h) : row scM0_2.view h hh (w2 (HS2_8 arg4 arg5 arg6 arg7 x0 x1 x2 x3)) = iA h hh :=
  (skip2_8 arg4 arg5 arg6 arg7 x0 x1 x2 x3 h hh (by omega)).trans (old2_7 arg4 arg5 arg6 arg7 x0 x1 x2 x3 h hh (by omega))

theorem skip2_9 (h : ℕ) (hh : h < 16) (hne : h ≠ 7) : row scM0_2.view h hh (w2 (HS2_9 arg4 arg5 arg6 arg7 x0 x1 x2 x3))
    = row scM0_2.view h hh (w2 (HS2_8 arg4 arg5 arg6 arg7 x0 x1 x2 x3)) := by
  unfold HS2_9
  exact ra_skip _ _ _ _ _ _ _ _ hne

theorem old2_9 (h : ℕ) (hh : h < 16) (hne : 7 < h) : row scM0_2.view h hh (w2 (HS2_9 arg4 arg5 arg6 arg7 x0 x1 x2 x3)) = iA h hh :=
  (skip2_9 arg4 arg5 arg6 arg7 x0 x1 x2 x3 h hh (by omega)).trans (old2_8 arg4 arg5 arg6 arg7 x0 x1 x2 x3 h hh (by omega))

theorem skip2_10 (h : ℕ) (hh : h < 16) (hne : h ≠ 8) : row scM0_2.view h hh (w2 (HS2_10 arg4 arg5 arg6 arg7 x0 x1 x2 x3))
    = row scM0_2.view h hh (w2 (HS2_9 arg4 arg5 arg6 arg7 x0 x1 x2 x3)) := by
  unfold HS2_10
  exact ra_skip _ _ _ _ _ _ _ _ hne

theorem old2_10 (h : ℕ) (hh : h < 16) (hne : 8 < h) : row scM0_2.view h hh (w2 (HS2_10 arg4 arg5 arg6 arg7 x0 x1 x2 x3)) = iA h hh :=
  (skip2_10 arg4 arg5 arg6 arg7 x0 x1 x2 x3 h hh (by omega)).trans (old2_9 arg4 arg5 arg6 arg7 x0 x1 x2 x3 h hh (by omega))

theorem skip2_11 (h : ℕ) (hh : h < 16) (hne : h ≠ 9) : row scM0_2.view h hh (w2 (HS2_11 arg4 arg5 arg6 arg7 x0 x1 x2 x3))
    = row scM0_2.view h hh (w2 (HS2_10 arg4 arg5 arg6 arg7 x0 x1 x2 x3)) := by
  unfold HS2_11
  exact ra_skip _ _ _ _ _ _ _ _ hne

theorem old2_11 (h : ℕ) (hh : h < 16) (hne : 9 < h) : row scM0_2.view h hh (w2 (HS2_11 arg4 arg5 arg6 arg7 x0 x1 x2 x3)) = iA h hh :=
  (skip2_11 arg4 arg5 arg6 arg7 x0 x1 x2 x3 h hh (by omega)).trans (old2_10 arg4 arg5 arg6 arg7 x0 x1 x2 x3 h hh (by omega))

theorem skip2_12 (h : ℕ) (hh : h < 16) (hne : h ≠ 10) : row scM0_2.view h hh (w2 (HS2_12 arg4 arg5 arg6 arg7 x0 x1 x2 x3))
    = row scM0_2.view h hh (w2 (HS2_11 arg4 arg5 arg6 arg7 x0 x1 x2 x3)) := by
  unfold HS2_12
  exact ra_skip _ _ _ _ _ _ _ _ hne

theorem old2_12 (h : ℕ) (hh : h < 16) (hne : 10 < h) : row scM0_2.view h hh (w2 (HS2_12 arg4 arg5 arg6 arg7 x0 x1 x2 x3)) = iA h hh :=
  (skip2_12 arg4 arg5 arg6 arg7 x0 x1 x2 x3 h hh (by omega)).trans (old2_11 arg4 arg5 arg6 arg7 x0 x1 x2 x3 h hh (by omega))

theorem skip2_13 (h : ℕ) (hh : h < 16) (hne : h ≠ 11) : row scM0_2.view h hh (w2 (HS2_13 arg4 arg5 arg6 arg7 x0 x1 x2 x3))
    = row scM0_2.view h hh (w2 (HS2_12 arg4 arg5 arg6 arg7 x0 x1 x2 x3)) := by
  unfold HS2_13
  exact ra_skip _ _ _ _ _ _ _ _ hne

theorem old2_13 (h : ℕ) (hh : h < 16) (hne : 11 < h) : row scM0_2.view h hh (w2 (HS2_13 arg4 arg5 arg6 arg7 x0 x1 x2 x3)) = iA h hh :=
  (skip2_13 arg4 arg5 arg6 arg7 x0 x1 x2 x3 h hh (by omega)).trans (old2_12 arg4 arg5 arg6 arg7 x0 x1 x2 x3 h hh (by omega))

theorem skip2_14 (h : ℕ) (hh : h < 16) (hne : h ≠ 12) : row scM0_2.view h hh (w2 (HS2_14 arg4 arg5 arg6 arg7 x0 x1 x2 x3))
    = row scM0_2.view h hh (w2 (HS2_13 arg4 arg5 arg6 arg7 x0 x1 x2 x3)) := by
  unfold HS2_14
  exact ra_skip _ _ _ _ _ _ _ _ hne

theorem old2_14 (h : ℕ) (hh : h < 16) (hne : 12 < h) : row scM0_2.view h hh (w2 (HS2_14 arg4 arg5 arg6 arg7 x0 x1 x2 x3)) = iA h hh :=
  (skip2_14 arg4 arg5 arg6 arg7 x0 x1 x2 x3 h hh (by omega)).trans (old2_13 arg4 arg5 arg6 arg7 x0 x1 x2 x3 h hh (by omega))

theorem skip2_15 (h : ℕ) (hh : h < 16) (hne : h ≠ 13) : row scM0_2.view h hh (w2 (HS2_15 arg4 arg5 arg6 arg7 x0 x1 x2 x3))
    = row scM0_2.view h hh (w2 (HS2_14 arg4 arg5 arg6 arg7 x0 x1 x2 x3)) := by
  unfold HS2_15
  exact ra_skip _ _ _ _ _ _ _ _ hne

theorem old2_15 (h : ℕ) (hh : h < 16) (hne : 13 < h) : row scM0_2.view h hh (w2 (HS2_15 arg4 arg5 arg6 arg7 x0 x1 x2 x3)) = iA h hh :=
  (skip2_15 arg4 arg5 arg6 arg7 x0 x1 x2 x3 h hh (by omega)).trans (old2_14 arg4 arg5 arg6 arg7 x0 x1 x2 x3 h hh (by omega))

theorem skip2_16 (h : ℕ) (hh : h < 16) (hne : h ≠ 14) : row scM0_2.view h hh (w2 (HS2_16 arg4 arg5 arg6 arg7 x0 x1 x2 x3))
    = row scM0_2.view h hh (w2 (HS2_15 arg4 arg5 arg6 arg7 x0 x1 x2 x3)) := by
  unfold HS2_16
  exact ra_skip _ _ _ _ _ _ _ _ hne

theorem old2_16 (h : ℕ) (hh : h < 16) (hne : 14 < h) : row scM0_2.view h hh (w2 (HS2_16 arg4 arg5 arg6 arg7 x0 x1 x2 x3)) = iA h hh :=
  (skip2_16 arg4 arg5 arg6 arg7 x0 x1 x2 x3 h hh (by omega)).trans (old2_15 arg4 arg5 arg6 arg7 x0 x1 x2 x3 h hh (by omega))

theorem skip2_17 (h : ℕ) (hh : h < 16) (hne : h ≠ 15) : row scM0_2.view h hh (w2 (HS2_17 arg4 arg5 arg6 arg7 x0 x1 x2 x3))
    = row scM0_2.view h hh (w2 (HS2_16 arg4 arg5 arg6 arg7 x0 x1 x2 x3)) := by
  unfold HS2_17
  exact ra_skip _ _ _ _ _ _ _ _ hne

theorem mx0 : (v184 arg4 arg5 arg7 x0 x1 x3) = hX arg4 arg5 arg7 x0 x1 x3 0 (by decide) := by
  unfold v184 HS5_1
  refine (View.readCov_full _ _ _ _ _).trans ((tX50 _ _ _).trans (tX_of rfl rfl (bias arg7 x3)))

theorem sc0 : (v189 arg4 arg5 arg7 x0 x1 x3) = hS arg4 arg5 arg7 x0 x1 x3 0 (by decide) := by
  unfold v189 HS3_1
  refine (View.readCov_full _ _ _ _ _).trans ((tS49 _ _ _).trans (tS_of rfl rfl (bias arg7 x3)))

theorem list0_0 : row scM0_0.view 0 (by decide) (w0 (HS0_17 arg4 arg5 arg7 x0 x1 x3)) = tM (iM 0 (by decide)) (hX arg4 arg5 arg7 x0 x1 x3 0 (by decide)) := by
  refine (skip0_17 arg4 arg5 arg7 x0 x1 x3 0 (by omega) (by decide)).trans ?_
  refine (skip0_16 arg4 arg5 arg7 x0 x1 x3 0 (by omega) (by decide)).trans ?_
  refine (skip0_15 arg4 arg5 arg7 x0 x1 x3 0 (by omega) (by decide)).trans ?_
  refine (skip0_14 arg4 arg5 arg7 x0 x1 x3 0 (by omega) (by decide)).trans ?_
  refine (skip0_13 arg4 arg5 arg7 x0 x1 x3 0 (by omega) (by decide)).trans ?_
  refine (skip0_12 arg4 arg5 arg7 x0 x1 x3 0 (by omega) (by decide)).trans ?_
  refine (skip0_11 arg4 arg5 arg7 x0 x1 x3 0 (by omega) (by decide)).trans ?_
  refine (skip0_10 arg4 arg5 arg7 x0 x1 x3 0 (by omega) (by decide)).trans ?_
  refine (skip0_9 arg4 arg5 arg7 x0 x1 x3 0 (by omega) (by decide)).trans ?_
  refine (skip0_8 arg4 arg5 arg7 x0 x1 x3 0 (by omega) (by decide)).trans ?_
  refine (skip0_7 arg4 arg5 arg7 x0 x1 x3 0 (by omega) (by decide)).trans ?_
  refine (skip0_6 arg4 arg5 arg7 x0 x1 x3 0 (by omega) (by decide)).trans ?_
  refine (skip0_5 arg4 arg5 arg7 x0 x1 x3 0 (by omega) (by decide)).trans ?_
  refine (skip0_4 arg4 arg5 arg7 x0 x1 x3 0 (by omega) (by decide)).trans ?_
  refine (skip0_3 arg4 arg5 arg7 x0 x1 x3 0 (by omega) (by decide)).trans ?_
  unfold HS0_2
  refine (rs_hit 0 _ _ _ _ _ _).trans ?_
  exact Eq.trans (b := tM v182 (v184 arg4 arg5 arg7 x0 x1 x3)) rfl (tM_of2 (old0_1  0 (by omega)) (mx0 arg4 arg5 arg7 x0 x1 x3))

theorem list1_0 : row scM0_1.view 0 (by decide) (w1 (HS1_17 arg4 arg5 arg6 arg7 x0 x1 x2 x3)) = tL (iM 0 (by decide)) (hX arg4 arg5 arg7 x0 x1 x3 0 (by decide)) (hS arg4 arg5 arg7 x0 x1 x3 0 (by decide)) (hV arg6 x2 0 (by decide)) (iL 0 (by decide)) := by
  refine (skip1_17 arg4 arg5 arg6 arg7 x0 x1 x2 x3 0 (by omega) (by decide)).trans ?_
  refine (skip1_16 arg4 arg5 arg6 arg7 x0 x1 x2 x3 0 (by omega) (by decide)).trans ?_
  refine (skip1_15 arg4 arg5 arg6 arg7 x0 x1 x2 x3 0 (by omega) (by decide)).trans ?_
  refine (skip1_14 arg4 arg5 arg6 arg7 x0 x1 x2 x3 0 (by omega) (by decide)).trans ?_
  refine (skip1_13 arg4 arg5 arg6 arg7 x0 x1 x2 x3 0 (by omega) (by decide)).trans ?_
  refine (skip1_12 arg4 arg5 arg6 arg7 x0 x1 x2 x3 0 (by omega) (by decide)).trans ?_
  refine (skip1_11 arg4 arg5 arg6 arg7 x0 x1 x2 x3 0 (by omega) (by decide)).trans ?_
  refine (skip1_10 arg4 arg5 arg6 arg7 x0 x1 x2 x3 0 (by omega) (by decide)).trans ?_
  refine (skip1_9 arg4 arg5 arg6 arg7 x0 x1 x2 x3 0 (by omega) (by decide)).trans ?_
  refine (skip1_8 arg4 arg5 arg6 arg7 x0 x1 x2 x3 0 (by omega) (by decide)).trans ?_
  refine (skip1_7 arg4 arg5 arg6 arg7 x0 x1 x2 x3 0 (by omega) (by decide)).trans ?_
  refine (skip1_6 arg4 arg5 arg6 arg7 x0 x1 x2 x3 0 (by omega) (by decide)).trans ?_
  refine (skip1_5 arg4 arg5 arg6 arg7 x0 x1 x2 x3 0 (by omega) (by decide)).trans ?_
  refine (skip1_4 arg4 arg5 arg6 arg7 x0 x1 x2 x3 0 (by omega) (by decide)).trans ?_
  refine (skip1_3 arg4 arg5 arg6 arg7 x0 x1 x2 x3 0 (by omega) (by decide)).trans ?_
  unfold HS1_2
  refine (rs_hit 0 _ _ _ _ _ _).trans ?_
  exact Eq.trans (b := tL v182 (v184 arg4 arg5 arg7 x0 x1 x3) (v189 arg4 arg5 arg7 x0 x1 x3) (hV arg6 x2 0 (by decide)) v217) rfl (tL_of (old0_1  0 (by omega)) (mx0 arg4 arg5 arg7 x0 x1 x3) (sc0 arg4 arg5 arg7 x0 x1 x3) (old1_1  0 (by omega)))

theorem list2_0 : row scM0_2.view 0 (by decide) (w2 (HS2_17 arg4 arg5 arg6 arg7 x0 x1 x2 x3)) = tA (iM 0 (by decide)) (hX arg4 arg5 arg7 x0 x1 x3 0 (by decide)) (hS arg4 arg5 arg7 x0 x1 x3 0 (by decide)) (hV arg6 x2 0 (by decide)) (iA 0 (by decide)) := by
  refine (skip2_17 arg4 arg5 arg6 arg7 x0 x1 x2 x3 0 (by omega) (by decide)).trans ?_
  refine (skip2_16 arg4 arg5 arg6 arg7 x0 x1 x2 x3 0 (by omega) (by decide)).trans ?_
  refine (skip2_15 arg4 arg5 arg6 arg7 x0 x1 x2 x3 0 (by omega) (by decide)).trans ?_
  refine (skip2_14 arg4 arg5 arg6 arg7 x0 x1 x2 x3 0 (by omega) (by decide)).trans ?_
  refine (skip2_13 arg4 arg5 arg6 arg7 x0 x1 x2 x3 0 (by omega) (by decide)).trans ?_
  refine (skip2_12 arg4 arg5 arg6 arg7 x0 x1 x2 x3 0 (by omega) (by decide)).trans ?_
  refine (skip2_11 arg4 arg5 arg6 arg7 x0 x1 x2 x3 0 (by omega) (by decide)).trans ?_
  refine (skip2_10 arg4 arg5 arg6 arg7 x0 x1 x2 x3 0 (by omega) (by decide)).trans ?_
  refine (skip2_9 arg4 arg5 arg6 arg7 x0 x1 x2 x3 0 (by omega) (by decide)).trans ?_
  refine (skip2_8 arg4 arg5 arg6 arg7 x0 x1 x2 x3 0 (by omega) (by decide)).trans ?_
  refine (skip2_7 arg4 arg5 arg6 arg7 x0 x1 x2 x3 0 (by omega) (by decide)).trans ?_
  refine (skip2_6 arg4 arg5 arg6 arg7 x0 x1 x2 x3 0 (by omega) (by decide)).trans ?_
  refine (skip2_5 arg4 arg5 arg6 arg7 x0 x1 x2 x3 0 (by omega) (by decide)).trans ?_
  refine (skip2_4 arg4 arg5 arg6 arg7 x0 x1 x2 x3 0 (by omega) (by decide)).trans ?_
  refine (skip2_3 arg4 arg5 arg6 arg7 x0 x1 x2 x3 0 (by omega) (by decide)).trans ?_
  unfold HS2_2
  refine (ra_hit 0 _ _ _ _ _ _).trans ?_
  exact Eq.trans (b := tA v182 (v184 arg4 arg5 arg7 x0 x1 x3) (v189 arg4 arg5 arg7 x0 x1 x3) (hV arg6 x2 0 (by decide)) v227) rfl (tA_of (old0_1  0 (by omega)) (mx0 arg4 arg5 arg7 x0 x1 x3) (sc0 arg4 arg5 arg7 x0 x1 x3) (old2_1  0 (by omega)))

theorem mx1 : (v284 arg4 arg5 arg7 x0 x1 x3) = hX arg4 arg5 arg7 x0 x1 x3 1 (by decide) := by
  unfold v284 HS6_1
  refine (View.readCov_full _ _ _ _ _).trans ((tX10 _ _ _).trans (tX_of rfl rfl (bias arg7 x3)))

theorem sc1 : (v289 arg4 arg5 arg7 x0 x1 x3) = hS arg4 arg5 arg7 x0 x1 x3 1 (by decide) := by
  unfold v289 HS4_1
  refine (View.readCov_full _ _ _ _ _).trans ((tS8 _ _ _).trans (tS_of rfl rfl (bias arg7 x3)))

theorem list0_1 : row scM0_0.view 1 (by decide) (w0 (HS0_17 arg4 arg5 arg7 x0 x1 x3)) = tM (iM 1 (by decide)) (hX arg4 arg5 arg7 x0 x1 x3 1 (by decide)) := by
  refine (skip0_17 arg4 arg5 arg7 x0 x1 x3 1 (by omega) (by decide)).trans ?_
  refine (skip0_16 arg4 arg5 arg7 x0 x1 x3 1 (by omega) (by decide)).trans ?_
  refine (skip0_15 arg4 arg5 arg7 x0 x1 x3 1 (by omega) (by decide)).trans ?_
  refine (skip0_14 arg4 arg5 arg7 x0 x1 x3 1 (by omega) (by decide)).trans ?_
  refine (skip0_13 arg4 arg5 arg7 x0 x1 x3 1 (by omega) (by decide)).trans ?_
  refine (skip0_12 arg4 arg5 arg7 x0 x1 x3 1 (by omega) (by decide)).trans ?_
  refine (skip0_11 arg4 arg5 arg7 x0 x1 x3 1 (by omega) (by decide)).trans ?_
  refine (skip0_10 arg4 arg5 arg7 x0 x1 x3 1 (by omega) (by decide)).trans ?_
  refine (skip0_9 arg4 arg5 arg7 x0 x1 x3 1 (by omega) (by decide)).trans ?_
  refine (skip0_8 arg4 arg5 arg7 x0 x1 x3 1 (by omega) (by decide)).trans ?_
  refine (skip0_7 arg4 arg5 arg7 x0 x1 x3 1 (by omega) (by decide)).trans ?_
  refine (skip0_6 arg4 arg5 arg7 x0 x1 x3 1 (by omega) (by decide)).trans ?_
  refine (skip0_5 arg4 arg5 arg7 x0 x1 x3 1 (by omega) (by decide)).trans ?_
  refine (skip0_4 arg4 arg5 arg7 x0 x1 x3 1 (by omega) (by decide)).trans ?_
  unfold HS0_3
  refine (rs_hit 1 _ _ _ _ _ _).trans ?_
  exact Eq.trans (b := tM (v282 arg4 arg5 arg7 x0 x1 x3) (v284 arg4 arg5 arg7 x0 x1 x3)) rfl (tM_of2 (old0_2 arg4 arg5 arg7 x0 x1 x3 1 (by omega) (by omega)) (mx1 arg4 arg5 arg7 x0 x1 x3))

theorem list1_1 : row scM0_1.view 1 (by decide) (w1 (HS1_17 arg4 arg5 arg6 arg7 x0 x1 x2 x3)) = tL (iM 1 (by decide)) (hX arg4 arg5 arg7 x0 x1 x3 1 (by decide)) (hS arg4 arg5 arg7 x0 x1 x3 1 (by decide)) (hV arg6 x2 1 (by decide)) (iL 1 (by decide)) := by
  refine (skip1_17 arg4 arg5 arg6 arg7 x0 x1 x2 x3 1 (by omega) (by decide)).trans ?_
  refine (skip1_16 arg4 arg5 arg6 arg7 x0 x1 x2 x3 1 (by omega) (by decide)).trans ?_
  refine (skip1_15 arg4 arg5 arg6 arg7 x0 x1 x2 x3 1 (by omega) (by decide)).trans ?_
  refine (skip1_14 arg4 arg5 arg6 arg7 x0 x1 x2 x3 1 (by omega) (by decide)).trans ?_
  refine (skip1_13 arg4 arg5 arg6 arg7 x0 x1 x2 x3 1 (by omega) (by decide)).trans ?_
  refine (skip1_12 arg4 arg5 arg6 arg7 x0 x1 x2 x3 1 (by omega) (by decide)).trans ?_
  refine (skip1_11 arg4 arg5 arg6 arg7 x0 x1 x2 x3 1 (by omega) (by decide)).trans ?_
  refine (skip1_10 arg4 arg5 arg6 arg7 x0 x1 x2 x3 1 (by omega) (by decide)).trans ?_
  refine (skip1_9 arg4 arg5 arg6 arg7 x0 x1 x2 x3 1 (by omega) (by decide)).trans ?_
  refine (skip1_8 arg4 arg5 arg6 arg7 x0 x1 x2 x3 1 (by omega) (by decide)).trans ?_
  refine (skip1_7 arg4 arg5 arg6 arg7 x0 x1 x2 x3 1 (by omega) (by decide)).trans ?_
  refine (skip1_6 arg4 arg5 arg6 arg7 x0 x1 x2 x3 1 (by omega) (by decide)).trans ?_
  refine (skip1_5 arg4 arg5 arg6 arg7 x0 x1 x2 x3 1 (by omega) (by decide)).trans ?_
  refine (skip1_4 arg4 arg5 arg6 arg7 x0 x1 x2 x3 1 (by omega) (by decide)).trans ?_
  unfold HS1_3
  refine (rs_hit 1 _ _ _ _ _ _).trans ?_
  exact Eq.trans (b := tL (v282 arg4 arg5 arg7 x0 x1 x3) (v284 arg4 arg5 arg7 x0 x1 x3) (v289 arg4 arg5 arg7 x0 x1 x3) (hV arg6 x2 1 (by decide)) (v317 arg4 arg5 arg6 arg7 x0 x1 x2 x3)) rfl (tL_of (old0_2 arg4 arg5 arg7 x0 x1 x3 1 (by omega) (by omega)) (mx1 arg4 arg5 arg7 x0 x1 x3) (sc1 arg4 arg5 arg7 x0 x1 x3) (old1_2 arg4 arg5 arg6 arg7 x0 x1 x2 x3 1 (by omega) (by omega)))

theorem list2_1 : row scM0_2.view 1 (by decide) (w2 (HS2_17 arg4 arg5 arg6 arg7 x0 x1 x2 x3)) = tA (iM 1 (by decide)) (hX arg4 arg5 arg7 x0 x1 x3 1 (by decide)) (hS arg4 arg5 arg7 x0 x1 x3 1 (by decide)) (hV arg6 x2 1 (by decide)) (iA 1 (by decide)) := by
  refine (skip2_17 arg4 arg5 arg6 arg7 x0 x1 x2 x3 1 (by omega) (by decide)).trans ?_
  refine (skip2_16 arg4 arg5 arg6 arg7 x0 x1 x2 x3 1 (by omega) (by decide)).trans ?_
  refine (skip2_15 arg4 arg5 arg6 arg7 x0 x1 x2 x3 1 (by omega) (by decide)).trans ?_
  refine (skip2_14 arg4 arg5 arg6 arg7 x0 x1 x2 x3 1 (by omega) (by decide)).trans ?_
  refine (skip2_13 arg4 arg5 arg6 arg7 x0 x1 x2 x3 1 (by omega) (by decide)).trans ?_
  refine (skip2_12 arg4 arg5 arg6 arg7 x0 x1 x2 x3 1 (by omega) (by decide)).trans ?_
  refine (skip2_11 arg4 arg5 arg6 arg7 x0 x1 x2 x3 1 (by omega) (by decide)).trans ?_
  refine (skip2_10 arg4 arg5 arg6 arg7 x0 x1 x2 x3 1 (by omega) (by decide)).trans ?_
  refine (skip2_9 arg4 arg5 arg6 arg7 x0 x1 x2 x3 1 (by omega) (by decide)).trans ?_
  refine (skip2_8 arg4 arg5 arg6 arg7 x0 x1 x2 x3 1 (by omega) (by decide)).trans ?_
  refine (skip2_7 arg4 arg5 arg6 arg7 x0 x1 x2 x3 1 (by omega) (by decide)).trans ?_
  refine (skip2_6 arg4 arg5 arg6 arg7 x0 x1 x2 x3 1 (by omega) (by decide)).trans ?_
  refine (skip2_5 arg4 arg5 arg6 arg7 x0 x1 x2 x3 1 (by omega) (by decide)).trans ?_
  refine (skip2_4 arg4 arg5 arg6 arg7 x0 x1 x2 x3 1 (by omega) (by decide)).trans ?_
  unfold HS2_3
  refine (ra_hit 1 _ _ _ _ _ _).trans ?_
  exact Eq.trans (b := tA (v282 arg4 arg5 arg7 x0 x1 x3) (v284 arg4 arg5 arg7 x0 x1 x3) (v289 arg4 arg5 arg7 x0 x1 x3) (hV arg6 x2 1 (by decide)) (v327 arg4 arg5 arg6 arg7 x0 x1 x2 x3)) rfl (tA_of (old0_2 arg4 arg5 arg7 x0 x1 x3 1 (by omega) (by omega)) (mx1 arg4 arg5 arg7 x0 x1 x3) (sc1 arg4 arg5 arg7 x0 x1 x3) (old2_2 arg4 arg5 arg6 arg7 x0 x1 x2 x3 1 (by omega) (by omega)))

theorem mx2 : (v184_1 arg4 arg5 arg7 x0 x1 x3) = hX arg4 arg5 arg7 x0 x1 x3 2 (by decide) := by
  unfold v184_1 HS5_2
  refine (View.readCov_full _ _ _ _ _).trans ((tX21 _ _ _).trans (tX_of rfl rfl (bias arg7 x3)))

theorem sc2 : (v189_1 arg4 arg5 arg7 x0 x1 x3) = hS arg4 arg5 arg7 x0 x1 x3 2 (by decide) := by
  unfold v189_1 HS3_2
  refine (View.readCov_full _ _ _ _ _).trans ((tS20 _ _ _).trans (tS_of rfl rfl (bias arg7 x3)))

theorem list0_2 : row scM0_0.view 2 (by decide) (w0 (HS0_17 arg4 arg5 arg7 x0 x1 x3)) = tM (iM 2 (by decide)) (hX arg4 arg5 arg7 x0 x1 x3 2 (by decide)) := by
  refine (skip0_17 arg4 arg5 arg7 x0 x1 x3 2 (by omega) (by decide)).trans ?_
  refine (skip0_16 arg4 arg5 arg7 x0 x1 x3 2 (by omega) (by decide)).trans ?_
  refine (skip0_15 arg4 arg5 arg7 x0 x1 x3 2 (by omega) (by decide)).trans ?_
  refine (skip0_14 arg4 arg5 arg7 x0 x1 x3 2 (by omega) (by decide)).trans ?_
  refine (skip0_13 arg4 arg5 arg7 x0 x1 x3 2 (by omega) (by decide)).trans ?_
  refine (skip0_12 arg4 arg5 arg7 x0 x1 x3 2 (by omega) (by decide)).trans ?_
  refine (skip0_11 arg4 arg5 arg7 x0 x1 x3 2 (by omega) (by decide)).trans ?_
  refine (skip0_10 arg4 arg5 arg7 x0 x1 x3 2 (by omega) (by decide)).trans ?_
  refine (skip0_9 arg4 arg5 arg7 x0 x1 x3 2 (by omega) (by decide)).trans ?_
  refine (skip0_8 arg4 arg5 arg7 x0 x1 x3 2 (by omega) (by decide)).trans ?_
  refine (skip0_7 arg4 arg5 arg7 x0 x1 x3 2 (by omega) (by decide)).trans ?_
  refine (skip0_6 arg4 arg5 arg7 x0 x1 x3 2 (by omega) (by decide)).trans ?_
  refine (skip0_5 arg4 arg5 arg7 x0 x1 x3 2 (by omega) (by decide)).trans ?_
  unfold HS0_4
  refine (rs_hit 2 _ _ _ _ _ _).trans ?_
  exact Eq.trans (b := tM (v182_1 arg4 arg5 arg7 x0 x1 x3) (v184_1 arg4 arg5 arg7 x0 x1 x3)) rfl (tM_of2 (old0_3 arg4 arg5 arg7 x0 x1 x3 2 (by omega) (by omega)) (mx2 arg4 arg5 arg7 x0 x1 x3))

theorem list1_2 : row scM0_1.view 2 (by decide) (w1 (HS1_17 arg4 arg5 arg6 arg7 x0 x1 x2 x3)) = tL (iM 2 (by decide)) (hX arg4 arg5 arg7 x0 x1 x3 2 (by decide)) (hS arg4 arg5 arg7 x0 x1 x3 2 (by decide)) (hV arg6 x2 2 (by decide)) (iL 2 (by decide)) := by
  refine (skip1_17 arg4 arg5 arg6 arg7 x0 x1 x2 x3 2 (by omega) (by decide)).trans ?_
  refine (skip1_16 arg4 arg5 arg6 arg7 x0 x1 x2 x3 2 (by omega) (by decide)).trans ?_
  refine (skip1_15 arg4 arg5 arg6 arg7 x0 x1 x2 x3 2 (by omega) (by decide)).trans ?_
  refine (skip1_14 arg4 arg5 arg6 arg7 x0 x1 x2 x3 2 (by omega) (by decide)).trans ?_
  refine (skip1_13 arg4 arg5 arg6 arg7 x0 x1 x2 x3 2 (by omega) (by decide)).trans ?_
  refine (skip1_12 arg4 arg5 arg6 arg7 x0 x1 x2 x3 2 (by omega) (by decide)).trans ?_
  refine (skip1_11 arg4 arg5 arg6 arg7 x0 x1 x2 x3 2 (by omega) (by decide)).trans ?_
  refine (skip1_10 arg4 arg5 arg6 arg7 x0 x1 x2 x3 2 (by omega) (by decide)).trans ?_
  refine (skip1_9 arg4 arg5 arg6 arg7 x0 x1 x2 x3 2 (by omega) (by decide)).trans ?_
  refine (skip1_8 arg4 arg5 arg6 arg7 x0 x1 x2 x3 2 (by omega) (by decide)).trans ?_
  refine (skip1_7 arg4 arg5 arg6 arg7 x0 x1 x2 x3 2 (by omega) (by decide)).trans ?_
  refine (skip1_6 arg4 arg5 arg6 arg7 x0 x1 x2 x3 2 (by omega) (by decide)).trans ?_
  refine (skip1_5 arg4 arg5 arg6 arg7 x0 x1 x2 x3 2 (by omega) (by decide)).trans ?_
  unfold HS1_4
  refine (rs_hit 2 _ _ _ _ _ _).trans ?_
  exact Eq.trans (b := tL (v182_1 arg4 arg5 arg7 x0 x1 x3) (v184_1 arg4 arg5 arg7 x0 x1 x3) (v189_1 arg4 arg5 arg7 x0 x1 x3) (hV arg6 x2 2 (by decide)) (v217_1 arg4 arg5 arg6 arg7 x0 x1 x2 x3)) rfl (tL_of (old0_3 arg4 arg5 arg7 x0 x1 x3 2 (by omega) (by omega)) (mx2 arg4 arg5 arg7 x0 x1 x3) (sc2 arg4 arg5 arg7 x0 x1 x3) (old1_3 arg4 arg5 arg6 arg7 x0 x1 x2 x3 2 (by omega) (by omega)))

theorem list2_2 : row scM0_2.view 2 (by decide) (w2 (HS2_17 arg4 arg5 arg6 arg7 x0 x1 x2 x3)) = tA (iM 2 (by decide)) (hX arg4 arg5 arg7 x0 x1 x3 2 (by decide)) (hS arg4 arg5 arg7 x0 x1 x3 2 (by decide)) (hV arg6 x2 2 (by decide)) (iA 2 (by decide)) := by
  refine (skip2_17 arg4 arg5 arg6 arg7 x0 x1 x2 x3 2 (by omega) (by decide)).trans ?_
  refine (skip2_16 arg4 arg5 arg6 arg7 x0 x1 x2 x3 2 (by omega) (by decide)).trans ?_
  refine (skip2_15 arg4 arg5 arg6 arg7 x0 x1 x2 x3 2 (by omega) (by decide)).trans ?_
  refine (skip2_14 arg4 arg5 arg6 arg7 x0 x1 x2 x3 2 (by omega) (by decide)).trans ?_
  refine (skip2_13 arg4 arg5 arg6 arg7 x0 x1 x2 x3 2 (by omega) (by decide)).trans ?_
  refine (skip2_12 arg4 arg5 arg6 arg7 x0 x1 x2 x3 2 (by omega) (by decide)).trans ?_
  refine (skip2_11 arg4 arg5 arg6 arg7 x0 x1 x2 x3 2 (by omega) (by decide)).trans ?_
  refine (skip2_10 arg4 arg5 arg6 arg7 x0 x1 x2 x3 2 (by omega) (by decide)).trans ?_
  refine (skip2_9 arg4 arg5 arg6 arg7 x0 x1 x2 x3 2 (by omega) (by decide)).trans ?_
  refine (skip2_8 arg4 arg5 arg6 arg7 x0 x1 x2 x3 2 (by omega) (by decide)).trans ?_
  refine (skip2_7 arg4 arg5 arg6 arg7 x0 x1 x2 x3 2 (by omega) (by decide)).trans ?_
  refine (skip2_6 arg4 arg5 arg6 arg7 x0 x1 x2 x3 2 (by omega) (by decide)).trans ?_
  refine (skip2_5 arg4 arg5 arg6 arg7 x0 x1 x2 x3 2 (by omega) (by decide)).trans ?_
  unfold HS2_4
  refine (ra_hit 2 _ _ _ _ _ _).trans ?_
  exact Eq.trans (b := tA (v182_1 arg4 arg5 arg7 x0 x1 x3) (v184_1 arg4 arg5 arg7 x0 x1 x3) (v189_1 arg4 arg5 arg7 x0 x1 x3) (hV arg6 x2 2 (by decide)) (v227_1 arg4 arg5 arg6 arg7 x0 x1 x2 x3)) rfl (tA_of (old0_3 arg4 arg5 arg7 x0 x1 x3 2 (by omega) (by omega)) (mx2 arg4 arg5 arg7 x0 x1 x3) (sc2 arg4 arg5 arg7 x0 x1 x3) (old2_3 arg4 arg5 arg6 arg7 x0 x1 x2 x3 2 (by omega) (by omega)))

theorem mx3 : (v284_1 arg4 arg5 arg7 x0 x1 x3) = hX arg4 arg5 arg7 x0 x1 x3 3 (by decide) := by
  unfold v284_1 HS6_2
  refine (View.readCov_full _ _ _ _ _).trans ((tX10 _ _ _).trans (tX_of rfl rfl (bias arg7 x3)))

theorem sc3 : (v289_1 arg4 arg5 arg7 x0 x1 x3) = hS arg4 arg5 arg7 x0 x1 x3 3 (by decide) := by
  unfold v289_1 HS4_2
  refine (View.readCov_full _ _ _ _ _).trans ((tS8 _ _ _).trans (tS_of rfl rfl (bias arg7 x3)))

theorem list0_3 : row scM0_0.view 3 (by decide) (w0 (HS0_17 arg4 arg5 arg7 x0 x1 x3)) = tM (iM 3 (by decide)) (hX arg4 arg5 arg7 x0 x1 x3 3 (by decide)) := by
  refine (skip0_17 arg4 arg5 arg7 x0 x1 x3 3 (by omega) (by decide)).trans ?_
  refine (skip0_16 arg4 arg5 arg7 x0 x1 x3 3 (by omega) (by decide)).trans ?_
  refine (skip0_15 arg4 arg5 arg7 x0 x1 x3 3 (by omega) (by decide)).trans ?_
  refine (skip0_14 arg4 arg5 arg7 x0 x1 x3 3 (by omega) (by decide)).trans ?_
  refine (skip0_13 arg4 arg5 arg7 x0 x1 x3 3 (by omega) (by decide)).trans ?_
  refine (skip0_12 arg4 arg5 arg7 x0 x1 x3 3 (by omega) (by decide)).trans ?_
  refine (skip0_11 arg4 arg5 arg7 x0 x1 x3 3 (by omega) (by decide)).trans ?_
  refine (skip0_10 arg4 arg5 arg7 x0 x1 x3 3 (by omega) (by decide)).trans ?_
  refine (skip0_9 arg4 arg5 arg7 x0 x1 x3 3 (by omega) (by decide)).trans ?_
  refine (skip0_8 arg4 arg5 arg7 x0 x1 x3 3 (by omega) (by decide)).trans ?_
  refine (skip0_7 arg4 arg5 arg7 x0 x1 x3 3 (by omega) (by decide)).trans ?_
  refine (skip0_6 arg4 arg5 arg7 x0 x1 x3 3 (by omega) (by decide)).trans ?_
  unfold HS0_5
  refine (rs_hit 3 _ _ _ _ _ _).trans ?_
  exact Eq.trans (b := tM (v282_1 arg4 arg5 arg7 x0 x1 x3) (v284_1 arg4 arg5 arg7 x0 x1 x3)) rfl (tM_of2 (old0_4 arg4 arg5 arg7 x0 x1 x3 3 (by omega) (by omega)) (mx3 arg4 arg5 arg7 x0 x1 x3))

theorem list1_3 : row scM0_1.view 3 (by decide) (w1 (HS1_17 arg4 arg5 arg6 arg7 x0 x1 x2 x3)) = tL (iM 3 (by decide)) (hX arg4 arg5 arg7 x0 x1 x3 3 (by decide)) (hS arg4 arg5 arg7 x0 x1 x3 3 (by decide)) (hV arg6 x2 3 (by decide)) (iL 3 (by decide)) := by
  refine (skip1_17 arg4 arg5 arg6 arg7 x0 x1 x2 x3 3 (by omega) (by decide)).trans ?_
  refine (skip1_16 arg4 arg5 arg6 arg7 x0 x1 x2 x3 3 (by omega) (by decide)).trans ?_
  refine (skip1_15 arg4 arg5 arg6 arg7 x0 x1 x2 x3 3 (by omega) (by decide)).trans ?_
  refine (skip1_14 arg4 arg5 arg6 arg7 x0 x1 x2 x3 3 (by omega) (by decide)).trans ?_
  refine (skip1_13 arg4 arg5 arg6 arg7 x0 x1 x2 x3 3 (by omega) (by decide)).trans ?_
  refine (skip1_12 arg4 arg5 arg6 arg7 x0 x1 x2 x3 3 (by omega) (by decide)).trans ?_
  refine (skip1_11 arg4 arg5 arg6 arg7 x0 x1 x2 x3 3 (by omega) (by decide)).trans ?_
  refine (skip1_10 arg4 arg5 arg6 arg7 x0 x1 x2 x3 3 (by omega) (by decide)).trans ?_
  refine (skip1_9 arg4 arg5 arg6 arg7 x0 x1 x2 x3 3 (by omega) (by decide)).trans ?_
  refine (skip1_8 arg4 arg5 arg6 arg7 x0 x1 x2 x3 3 (by omega) (by decide)).trans ?_
  refine (skip1_7 arg4 arg5 arg6 arg7 x0 x1 x2 x3 3 (by omega) (by decide)).trans ?_
  refine (skip1_6 arg4 arg5 arg6 arg7 x0 x1 x2 x3 3 (by omega) (by decide)).trans ?_
  unfold HS1_5
  refine (rs_hit 3 _ _ _ _ _ _).trans ?_
  exact Eq.trans (b := tL (v282_1 arg4 arg5 arg7 x0 x1 x3) (v284_1 arg4 arg5 arg7 x0 x1 x3) (v289_1 arg4 arg5 arg7 x0 x1 x3) (hV arg6 x2 3 (by decide)) (v317_1 arg4 arg5 arg6 arg7 x0 x1 x2 x3)) rfl (tL_of (old0_4 arg4 arg5 arg7 x0 x1 x3 3 (by omega) (by omega)) (mx3 arg4 arg5 arg7 x0 x1 x3) (sc3 arg4 arg5 arg7 x0 x1 x3) (old1_4 arg4 arg5 arg6 arg7 x0 x1 x2 x3 3 (by omega) (by omega)))

theorem list2_3 : row scM0_2.view 3 (by decide) (w2 (HS2_17 arg4 arg5 arg6 arg7 x0 x1 x2 x3)) = tA (iM 3 (by decide)) (hX arg4 arg5 arg7 x0 x1 x3 3 (by decide)) (hS arg4 arg5 arg7 x0 x1 x3 3 (by decide)) (hV arg6 x2 3 (by decide)) (iA 3 (by decide)) := by
  refine (skip2_17 arg4 arg5 arg6 arg7 x0 x1 x2 x3 3 (by omega) (by decide)).trans ?_
  refine (skip2_16 arg4 arg5 arg6 arg7 x0 x1 x2 x3 3 (by omega) (by decide)).trans ?_
  refine (skip2_15 arg4 arg5 arg6 arg7 x0 x1 x2 x3 3 (by omega) (by decide)).trans ?_
  refine (skip2_14 arg4 arg5 arg6 arg7 x0 x1 x2 x3 3 (by omega) (by decide)).trans ?_
  refine (skip2_13 arg4 arg5 arg6 arg7 x0 x1 x2 x3 3 (by omega) (by decide)).trans ?_
  refine (skip2_12 arg4 arg5 arg6 arg7 x0 x1 x2 x3 3 (by omega) (by decide)).trans ?_
  refine (skip2_11 arg4 arg5 arg6 arg7 x0 x1 x2 x3 3 (by omega) (by decide)).trans ?_
  refine (skip2_10 arg4 arg5 arg6 arg7 x0 x1 x2 x3 3 (by omega) (by decide)).trans ?_
  refine (skip2_9 arg4 arg5 arg6 arg7 x0 x1 x2 x3 3 (by omega) (by decide)).trans ?_
  refine (skip2_8 arg4 arg5 arg6 arg7 x0 x1 x2 x3 3 (by omega) (by decide)).trans ?_
  refine (skip2_7 arg4 arg5 arg6 arg7 x0 x1 x2 x3 3 (by omega) (by decide)).trans ?_
  refine (skip2_6 arg4 arg5 arg6 arg7 x0 x1 x2 x3 3 (by omega) (by decide)).trans ?_
  unfold HS2_5
  refine (ra_hit 3 _ _ _ _ _ _).trans ?_
  exact Eq.trans (b := tA (v282_1 arg4 arg5 arg7 x0 x1 x3) (v284_1 arg4 arg5 arg7 x0 x1 x3) (v289_1 arg4 arg5 arg7 x0 x1 x3) (hV arg6 x2 3 (by decide)) (v327_1 arg4 arg5 arg6 arg7 x0 x1 x2 x3)) rfl (tA_of (old0_4 arg4 arg5 arg7 x0 x1 x3 3 (by omega) (by omega)) (mx3 arg4 arg5 arg7 x0 x1 x3) (sc3 arg4 arg5 arg7 x0 x1 x3) (old2_4 arg4 arg5 arg6 arg7 x0 x1 x2 x3 3 (by omega) (by omega)))

theorem mx4 : (v184_2 arg4 arg5 arg7 x0 x1 x3) = hX arg4 arg5 arg7 x0 x1 x3 4 (by decide) := by
  unfold v184_2 HS5_3
  refine (View.readCov_full _ _ _ _ _).trans ((tX21 _ _ _).trans (tX_of rfl rfl (bias arg7 x3)))

theorem sc4 : (v189_2 arg4 arg5 arg7 x0 x1 x3) = hS arg4 arg5 arg7 x0 x1 x3 4 (by decide) := by
  unfold v189_2 HS3_3
  refine (View.readCov_full _ _ _ _ _).trans ((tS20 _ _ _).trans (tS_of rfl rfl (bias arg7 x3)))

theorem list0_4 : row scM0_0.view 4 (by decide) (w0 (HS0_17 arg4 arg5 arg7 x0 x1 x3)) = tM (iM 4 (by decide)) (hX arg4 arg5 arg7 x0 x1 x3 4 (by decide)) := by
  refine (skip0_17 arg4 arg5 arg7 x0 x1 x3 4 (by omega) (by decide)).trans ?_
  refine (skip0_16 arg4 arg5 arg7 x0 x1 x3 4 (by omega) (by decide)).trans ?_
  refine (skip0_15 arg4 arg5 arg7 x0 x1 x3 4 (by omega) (by decide)).trans ?_
  refine (skip0_14 arg4 arg5 arg7 x0 x1 x3 4 (by omega) (by decide)).trans ?_
  refine (skip0_13 arg4 arg5 arg7 x0 x1 x3 4 (by omega) (by decide)).trans ?_
  refine (skip0_12 arg4 arg5 arg7 x0 x1 x3 4 (by omega) (by decide)).trans ?_
  refine (skip0_11 arg4 arg5 arg7 x0 x1 x3 4 (by omega) (by decide)).trans ?_
  refine (skip0_10 arg4 arg5 arg7 x0 x1 x3 4 (by omega) (by decide)).trans ?_
  refine (skip0_9 arg4 arg5 arg7 x0 x1 x3 4 (by omega) (by decide)).trans ?_
  refine (skip0_8 arg4 arg5 arg7 x0 x1 x3 4 (by omega) (by decide)).trans ?_
  refine (skip0_7 arg4 arg5 arg7 x0 x1 x3 4 (by omega) (by decide)).trans ?_
  unfold HS0_6
  refine (rs_hit 4 _ _ _ _ _ _).trans ?_
  exact Eq.trans (b := tM (v182_2 arg4 arg5 arg7 x0 x1 x3) (v184_2 arg4 arg5 arg7 x0 x1 x3)) rfl (tM_of2 (old0_5 arg4 arg5 arg7 x0 x1 x3 4 (by omega) (by omega)) (mx4 arg4 arg5 arg7 x0 x1 x3))

theorem list1_4 : row scM0_1.view 4 (by decide) (w1 (HS1_17 arg4 arg5 arg6 arg7 x0 x1 x2 x3)) = tL (iM 4 (by decide)) (hX arg4 arg5 arg7 x0 x1 x3 4 (by decide)) (hS arg4 arg5 arg7 x0 x1 x3 4 (by decide)) (hV arg6 x2 4 (by decide)) (iL 4 (by decide)) := by
  refine (skip1_17 arg4 arg5 arg6 arg7 x0 x1 x2 x3 4 (by omega) (by decide)).trans ?_
  refine (skip1_16 arg4 arg5 arg6 arg7 x0 x1 x2 x3 4 (by omega) (by decide)).trans ?_
  refine (skip1_15 arg4 arg5 arg6 arg7 x0 x1 x2 x3 4 (by omega) (by decide)).trans ?_
  refine (skip1_14 arg4 arg5 arg6 arg7 x0 x1 x2 x3 4 (by omega) (by decide)).trans ?_
  refine (skip1_13 arg4 arg5 arg6 arg7 x0 x1 x2 x3 4 (by omega) (by decide)).trans ?_
  refine (skip1_12 arg4 arg5 arg6 arg7 x0 x1 x2 x3 4 (by omega) (by decide)).trans ?_
  refine (skip1_11 arg4 arg5 arg6 arg7 x0 x1 x2 x3 4 (by omega) (by decide)).trans ?_
  refine (skip1_10 arg4 arg5 arg6 arg7 x0 x1 x2 x3 4 (by omega) (by decide)).trans ?_
  refine (skip1_9 arg4 arg5 arg6 arg7 x0 x1 x2 x3 4 (by omega) (by decide)).trans ?_
  refine (skip1_8 arg4 arg5 arg6 arg7 x0 x1 x2 x3 4 (by omega) (by decide)).trans ?_
  refine (skip1_7 arg4 arg5 arg6 arg7 x0 x1 x2 x3 4 (by omega) (by decide)).trans ?_
  unfold HS1_6
  refine (rs_hit 4 _ _ _ _ _ _).trans ?_
  exact Eq.trans (b := tL (v182_2 arg4 arg5 arg7 x0 x1 x3) (v184_2 arg4 arg5 arg7 x0 x1 x3) (v189_2 arg4 arg5 arg7 x0 x1 x3) (hV arg6 x2 4 (by decide)) (v217_2 arg4 arg5 arg6 arg7 x0 x1 x2 x3)) rfl (tL_of (old0_5 arg4 arg5 arg7 x0 x1 x3 4 (by omega) (by omega)) (mx4 arg4 arg5 arg7 x0 x1 x3) (sc4 arg4 arg5 arg7 x0 x1 x3) (old1_5 arg4 arg5 arg6 arg7 x0 x1 x2 x3 4 (by omega) (by omega)))

theorem list2_4 : row scM0_2.view 4 (by decide) (w2 (HS2_17 arg4 arg5 arg6 arg7 x0 x1 x2 x3)) = tA (iM 4 (by decide)) (hX arg4 arg5 arg7 x0 x1 x3 4 (by decide)) (hS arg4 arg5 arg7 x0 x1 x3 4 (by decide)) (hV arg6 x2 4 (by decide)) (iA 4 (by decide)) := by
  refine (skip2_17 arg4 arg5 arg6 arg7 x0 x1 x2 x3 4 (by omega) (by decide)).trans ?_
  refine (skip2_16 arg4 arg5 arg6 arg7 x0 x1 x2 x3 4 (by omega) (by decide)).trans ?_
  refine (skip2_15 arg4 arg5 arg6 arg7 x0 x1 x2 x3 4 (by omega) (by decide)).trans ?_
  refine (skip2_14 arg4 arg5 arg6 arg7 x0 x1 x2 x3 4 (by omega) (by decide)).trans ?_
  refine (skip2_13 arg4 arg5 arg6 arg7 x0 x1 x2 x3 4 (by omega) (by decide)).trans ?_
  refine (skip2_12 arg4 arg5 arg6 arg7 x0 x1 x2 x3 4 (by omega) (by decide)).trans ?_
  refine (skip2_11 arg4 arg5 arg6 arg7 x0 x1 x2 x3 4 (by omega) (by decide)).trans ?_
  refine (skip2_10 arg4 arg5 arg6 arg7 x0 x1 x2 x3 4 (by omega) (by decide)).trans ?_
  refine (skip2_9 arg4 arg5 arg6 arg7 x0 x1 x2 x3 4 (by omega) (by decide)).trans ?_
  refine (skip2_8 arg4 arg5 arg6 arg7 x0 x1 x2 x3 4 (by omega) (by decide)).trans ?_
  refine (skip2_7 arg4 arg5 arg6 arg7 x0 x1 x2 x3 4 (by omega) (by decide)).trans ?_
  unfold HS2_6
  refine (ra_hit 4 _ _ _ _ _ _).trans ?_
  exact Eq.trans (b := tA (v182_2 arg4 arg5 arg7 x0 x1 x3) (v184_2 arg4 arg5 arg7 x0 x1 x3) (v189_2 arg4 arg5 arg7 x0 x1 x3) (hV arg6 x2 4 (by decide)) (v227_2 arg4 arg5 arg6 arg7 x0 x1 x2 x3)) rfl (tA_of (old0_5 arg4 arg5 arg7 x0 x1 x3 4 (by omega) (by omega)) (mx4 arg4 arg5 arg7 x0 x1 x3) (sc4 arg4 arg5 arg7 x0 x1 x3) (old2_5 arg4 arg5 arg6 arg7 x0 x1 x2 x3 4 (by omega) (by omega)))

theorem mx5 : (v284_2 arg4 arg5 arg7 x0 x1 x3) = hX arg4 arg5 arg7 x0 x1 x3 5 (by decide) := by
  unfold v284_2 HS6_3
  refine (View.readCov_full _ _ _ _ _).trans ((tX10 _ _ _).trans (tX_of rfl rfl (bias arg7 x3)))

theorem sc5 : (v289_2 arg4 arg5 arg7 x0 x1 x3) = hS arg4 arg5 arg7 x0 x1 x3 5 (by decide) := by
  unfold v289_2 HS4_3
  refine (View.readCov_full _ _ _ _ _).trans ((tS8 _ _ _).trans (tS_of rfl rfl (bias arg7 x3)))

theorem list0_5 : row scM0_0.view 5 (by decide) (w0 (HS0_17 arg4 arg5 arg7 x0 x1 x3)) = tM (iM 5 (by decide)) (hX arg4 arg5 arg7 x0 x1 x3 5 (by decide)) := by
  refine (skip0_17 arg4 arg5 arg7 x0 x1 x3 5 (by omega) (by decide)).trans ?_
  refine (skip0_16 arg4 arg5 arg7 x0 x1 x3 5 (by omega) (by decide)).trans ?_
  refine (skip0_15 arg4 arg5 arg7 x0 x1 x3 5 (by omega) (by decide)).trans ?_
  refine (skip0_14 arg4 arg5 arg7 x0 x1 x3 5 (by omega) (by decide)).trans ?_
  refine (skip0_13 arg4 arg5 arg7 x0 x1 x3 5 (by omega) (by decide)).trans ?_
  refine (skip0_12 arg4 arg5 arg7 x0 x1 x3 5 (by omega) (by decide)).trans ?_
  refine (skip0_11 arg4 arg5 arg7 x0 x1 x3 5 (by omega) (by decide)).trans ?_
  refine (skip0_10 arg4 arg5 arg7 x0 x1 x3 5 (by omega) (by decide)).trans ?_
  refine (skip0_9 arg4 arg5 arg7 x0 x1 x3 5 (by omega) (by decide)).trans ?_
  refine (skip0_8 arg4 arg5 arg7 x0 x1 x3 5 (by omega) (by decide)).trans ?_
  unfold HS0_7
  refine (rs_hit 5 _ _ _ _ _ _).trans ?_
  exact Eq.trans (b := tM (v282_2 arg4 arg5 arg7 x0 x1 x3) (v284_2 arg4 arg5 arg7 x0 x1 x3)) rfl (tM_of2 (old0_6 arg4 arg5 arg7 x0 x1 x3 5 (by omega) (by omega)) (mx5 arg4 arg5 arg7 x0 x1 x3))

theorem list1_5 : row scM0_1.view 5 (by decide) (w1 (HS1_17 arg4 arg5 arg6 arg7 x0 x1 x2 x3)) = tL (iM 5 (by decide)) (hX arg4 arg5 arg7 x0 x1 x3 5 (by decide)) (hS arg4 arg5 arg7 x0 x1 x3 5 (by decide)) (hV arg6 x2 5 (by decide)) (iL 5 (by decide)) := by
  refine (skip1_17 arg4 arg5 arg6 arg7 x0 x1 x2 x3 5 (by omega) (by decide)).trans ?_
  refine (skip1_16 arg4 arg5 arg6 arg7 x0 x1 x2 x3 5 (by omega) (by decide)).trans ?_
  refine (skip1_15 arg4 arg5 arg6 arg7 x0 x1 x2 x3 5 (by omega) (by decide)).trans ?_
  refine (skip1_14 arg4 arg5 arg6 arg7 x0 x1 x2 x3 5 (by omega) (by decide)).trans ?_
  refine (skip1_13 arg4 arg5 arg6 arg7 x0 x1 x2 x3 5 (by omega) (by decide)).trans ?_
  refine (skip1_12 arg4 arg5 arg6 arg7 x0 x1 x2 x3 5 (by omega) (by decide)).trans ?_
  refine (skip1_11 arg4 arg5 arg6 arg7 x0 x1 x2 x3 5 (by omega) (by decide)).trans ?_
  refine (skip1_10 arg4 arg5 arg6 arg7 x0 x1 x2 x3 5 (by omega) (by decide)).trans ?_
  refine (skip1_9 arg4 arg5 arg6 arg7 x0 x1 x2 x3 5 (by omega) (by decide)).trans ?_
  refine (skip1_8 arg4 arg5 arg6 arg7 x0 x1 x2 x3 5 (by omega) (by decide)).trans ?_
  unfold HS1_7
  refine (rs_hit 5 _ _ _ _ _ _).trans ?_
  exact Eq.trans (b := tL (v282_2 arg4 arg5 arg7 x0 x1 x3) (v284_2 arg4 arg5 arg7 x0 x1 x3) (v289_2 arg4 arg5 arg7 x0 x1 x3) (hV arg6 x2 5 (by decide)) (v317_2 arg4 arg5 arg6 arg7 x0 x1 x2 x3)) rfl (tL_of (old0_6 arg4 arg5 arg7 x0 x1 x3 5 (by omega) (by omega)) (mx5 arg4 arg5 arg7 x0 x1 x3) (sc5 arg4 arg5 arg7 x0 x1 x3) (old1_6 arg4 arg5 arg6 arg7 x0 x1 x2 x3 5 (by omega) (by omega)))

theorem list2_5 : row scM0_2.view 5 (by decide) (w2 (HS2_17 arg4 arg5 arg6 arg7 x0 x1 x2 x3)) = tA (iM 5 (by decide)) (hX arg4 arg5 arg7 x0 x1 x3 5 (by decide)) (hS arg4 arg5 arg7 x0 x1 x3 5 (by decide)) (hV arg6 x2 5 (by decide)) (iA 5 (by decide)) := by
  refine (skip2_17 arg4 arg5 arg6 arg7 x0 x1 x2 x3 5 (by omega) (by decide)).trans ?_
  refine (skip2_16 arg4 arg5 arg6 arg7 x0 x1 x2 x3 5 (by omega) (by decide)).trans ?_
  refine (skip2_15 arg4 arg5 arg6 arg7 x0 x1 x2 x3 5 (by omega) (by decide)).trans ?_
  refine (skip2_14 arg4 arg5 arg6 arg7 x0 x1 x2 x3 5 (by omega) (by decide)).trans ?_
  refine (skip2_13 arg4 arg5 arg6 arg7 x0 x1 x2 x3 5 (by omega) (by decide)).trans ?_
  refine (skip2_12 arg4 arg5 arg6 arg7 x0 x1 x2 x3 5 (by omega) (by decide)).trans ?_
  refine (skip2_11 arg4 arg5 arg6 arg7 x0 x1 x2 x3 5 (by omega) (by decide)).trans ?_
  refine (skip2_10 arg4 arg5 arg6 arg7 x0 x1 x2 x3 5 (by omega) (by decide)).trans ?_
  refine (skip2_9 arg4 arg5 arg6 arg7 x0 x1 x2 x3 5 (by omega) (by decide)).trans ?_
  refine (skip2_8 arg4 arg5 arg6 arg7 x0 x1 x2 x3 5 (by omega) (by decide)).trans ?_
  unfold HS2_7
  refine (ra_hit 5 _ _ _ _ _ _).trans ?_
  exact Eq.trans (b := tA (v282_2 arg4 arg5 arg7 x0 x1 x3) (v284_2 arg4 arg5 arg7 x0 x1 x3) (v289_2 arg4 arg5 arg7 x0 x1 x3) (hV arg6 x2 5 (by decide)) (v327_2 arg4 arg5 arg6 arg7 x0 x1 x2 x3)) rfl (tA_of (old0_6 arg4 arg5 arg7 x0 x1 x3 5 (by omega) (by omega)) (mx5 arg4 arg5 arg7 x0 x1 x3) (sc5 arg4 arg5 arg7 x0 x1 x3) (old2_6 arg4 arg5 arg6 arg7 x0 x1 x2 x3 5 (by omega) (by omega)))

theorem mx6 : (v184_3 arg4 arg5 arg7 x0 x1 x3) = hX arg4 arg5 arg7 x0 x1 x3 6 (by decide) := by
  unfold v184_3 HS5_4
  refine (View.readCov_full _ _ _ _ _).trans ((tX21 _ _ _).trans (tX_of rfl rfl (bias arg7 x3)))

theorem sc6 : (v189_3 arg4 arg5 arg7 x0 x1 x3) = hS arg4 arg5 arg7 x0 x1 x3 6 (by decide) := by
  unfold v189_3 HS3_4
  refine (View.readCov_full _ _ _ _ _).trans ((tS20 _ _ _).trans (tS_of rfl rfl (bias arg7 x3)))

theorem list0_6 : row scM0_0.view 6 (by decide) (w0 (HS0_17 arg4 arg5 arg7 x0 x1 x3)) = tM (iM 6 (by decide)) (hX arg4 arg5 arg7 x0 x1 x3 6 (by decide)) := by
  refine (skip0_17 arg4 arg5 arg7 x0 x1 x3 6 (by omega) (by decide)).trans ?_
  refine (skip0_16 arg4 arg5 arg7 x0 x1 x3 6 (by omega) (by decide)).trans ?_
  refine (skip0_15 arg4 arg5 arg7 x0 x1 x3 6 (by omega) (by decide)).trans ?_
  refine (skip0_14 arg4 arg5 arg7 x0 x1 x3 6 (by omega) (by decide)).trans ?_
  refine (skip0_13 arg4 arg5 arg7 x0 x1 x3 6 (by omega) (by decide)).trans ?_
  refine (skip0_12 arg4 arg5 arg7 x0 x1 x3 6 (by omega) (by decide)).trans ?_
  refine (skip0_11 arg4 arg5 arg7 x0 x1 x3 6 (by omega) (by decide)).trans ?_
  refine (skip0_10 arg4 arg5 arg7 x0 x1 x3 6 (by omega) (by decide)).trans ?_
  refine (skip0_9 arg4 arg5 arg7 x0 x1 x3 6 (by omega) (by decide)).trans ?_
  unfold HS0_8
  refine (rs_hit 6 _ _ _ _ _ _).trans ?_
  exact Eq.trans (b := tM (v182_3 arg4 arg5 arg7 x0 x1 x3) (v184_3 arg4 arg5 arg7 x0 x1 x3)) rfl (tM_of2 (old0_7 arg4 arg5 arg7 x0 x1 x3 6 (by omega) (by omega)) (mx6 arg4 arg5 arg7 x0 x1 x3))

theorem list1_6 : row scM0_1.view 6 (by decide) (w1 (HS1_17 arg4 arg5 arg6 arg7 x0 x1 x2 x3)) = tL (iM 6 (by decide)) (hX arg4 arg5 arg7 x0 x1 x3 6 (by decide)) (hS arg4 arg5 arg7 x0 x1 x3 6 (by decide)) (hV arg6 x2 6 (by decide)) (iL 6 (by decide)) := by
  refine (skip1_17 arg4 arg5 arg6 arg7 x0 x1 x2 x3 6 (by omega) (by decide)).trans ?_
  refine (skip1_16 arg4 arg5 arg6 arg7 x0 x1 x2 x3 6 (by omega) (by decide)).trans ?_
  refine (skip1_15 arg4 arg5 arg6 arg7 x0 x1 x2 x3 6 (by omega) (by decide)).trans ?_
  refine (skip1_14 arg4 arg5 arg6 arg7 x0 x1 x2 x3 6 (by omega) (by decide)).trans ?_
  refine (skip1_13 arg4 arg5 arg6 arg7 x0 x1 x2 x3 6 (by omega) (by decide)).trans ?_
  refine (skip1_12 arg4 arg5 arg6 arg7 x0 x1 x2 x3 6 (by omega) (by decide)).trans ?_
  refine (skip1_11 arg4 arg5 arg6 arg7 x0 x1 x2 x3 6 (by omega) (by decide)).trans ?_
  refine (skip1_10 arg4 arg5 arg6 arg7 x0 x1 x2 x3 6 (by omega) (by decide)).trans ?_
  refine (skip1_9 arg4 arg5 arg6 arg7 x0 x1 x2 x3 6 (by omega) (by decide)).trans ?_
  unfold HS1_8
  refine (rs_hit 6 _ _ _ _ _ _).trans ?_
  exact Eq.trans (b := tL (v182_3 arg4 arg5 arg7 x0 x1 x3) (v184_3 arg4 arg5 arg7 x0 x1 x3) (v189_3 arg4 arg5 arg7 x0 x1 x3) (hV arg6 x2 6 (by decide)) (v217_3 arg4 arg5 arg6 arg7 x0 x1 x2 x3)) rfl (tL_of (old0_7 arg4 arg5 arg7 x0 x1 x3 6 (by omega) (by omega)) (mx6 arg4 arg5 arg7 x0 x1 x3) (sc6 arg4 arg5 arg7 x0 x1 x3) (old1_7 arg4 arg5 arg6 arg7 x0 x1 x2 x3 6 (by omega) (by omega)))

theorem list2_6 : row scM0_2.view 6 (by decide) (w2 (HS2_17 arg4 arg5 arg6 arg7 x0 x1 x2 x3)) = tA (iM 6 (by decide)) (hX arg4 arg5 arg7 x0 x1 x3 6 (by decide)) (hS arg4 arg5 arg7 x0 x1 x3 6 (by decide)) (hV arg6 x2 6 (by decide)) (iA 6 (by decide)) := by
  refine (skip2_17 arg4 arg5 arg6 arg7 x0 x1 x2 x3 6 (by omega) (by decide)).trans ?_
  refine (skip2_16 arg4 arg5 arg6 arg7 x0 x1 x2 x3 6 (by omega) (by decide)).trans ?_
  refine (skip2_15 arg4 arg5 arg6 arg7 x0 x1 x2 x3 6 (by omega) (by decide)).trans ?_
  refine (skip2_14 arg4 arg5 arg6 arg7 x0 x1 x2 x3 6 (by omega) (by decide)).trans ?_
  refine (skip2_13 arg4 arg5 arg6 arg7 x0 x1 x2 x3 6 (by omega) (by decide)).trans ?_
  refine (skip2_12 arg4 arg5 arg6 arg7 x0 x1 x2 x3 6 (by omega) (by decide)).trans ?_
  refine (skip2_11 arg4 arg5 arg6 arg7 x0 x1 x2 x3 6 (by omega) (by decide)).trans ?_
  refine (skip2_10 arg4 arg5 arg6 arg7 x0 x1 x2 x3 6 (by omega) (by decide)).trans ?_
  refine (skip2_9 arg4 arg5 arg6 arg7 x0 x1 x2 x3 6 (by omega) (by decide)).trans ?_
  unfold HS2_8
  refine (ra_hit 6 _ _ _ _ _ _).trans ?_
  exact Eq.trans (b := tA (v182_3 arg4 arg5 arg7 x0 x1 x3) (v184_3 arg4 arg5 arg7 x0 x1 x3) (v189_3 arg4 arg5 arg7 x0 x1 x3) (hV arg6 x2 6 (by decide)) (v227_3 arg4 arg5 arg6 arg7 x0 x1 x2 x3)) rfl (tA_of (old0_7 arg4 arg5 arg7 x0 x1 x3 6 (by omega) (by omega)) (mx6 arg4 arg5 arg7 x0 x1 x3) (sc6 arg4 arg5 arg7 x0 x1 x3) (old2_7 arg4 arg5 arg6 arg7 x0 x1 x2 x3 6 (by omega) (by omega)))

theorem mx7 : (v284_3 arg4 arg5 arg7 x0 x1 x3) = hX arg4 arg5 arg7 x0 x1 x3 7 (by decide) := by
  unfold v284_3 HS6_4
  refine (View.readCov_full _ _ _ _ _).trans ((tX10 _ _ _).trans (tX_of rfl rfl (bias arg7 x3)))

theorem sc7 : (v289_3 arg4 arg5 arg7 x0 x1 x3) = hS arg4 arg5 arg7 x0 x1 x3 7 (by decide) := by
  unfold v289_3 HS4_4
  refine (View.readCov_full _ _ _ _ _).trans ((tS8 _ _ _).trans (tS_of rfl rfl (bias arg7 x3)))

theorem list0_7 : row scM0_0.view 7 (by decide) (w0 (HS0_17 arg4 arg5 arg7 x0 x1 x3)) = tM (iM 7 (by decide)) (hX arg4 arg5 arg7 x0 x1 x3 7 (by decide)) := by
  refine (skip0_17 arg4 arg5 arg7 x0 x1 x3 7 (by omega) (by decide)).trans ?_
  refine (skip0_16 arg4 arg5 arg7 x0 x1 x3 7 (by omega) (by decide)).trans ?_
  refine (skip0_15 arg4 arg5 arg7 x0 x1 x3 7 (by omega) (by decide)).trans ?_
  refine (skip0_14 arg4 arg5 arg7 x0 x1 x3 7 (by omega) (by decide)).trans ?_
  refine (skip0_13 arg4 arg5 arg7 x0 x1 x3 7 (by omega) (by decide)).trans ?_
  refine (skip0_12 arg4 arg5 arg7 x0 x1 x3 7 (by omega) (by decide)).trans ?_
  refine (skip0_11 arg4 arg5 arg7 x0 x1 x3 7 (by omega) (by decide)).trans ?_
  refine (skip0_10 arg4 arg5 arg7 x0 x1 x3 7 (by omega) (by decide)).trans ?_
  unfold HS0_9
  refine (rs_hit 7 _ _ _ _ _ _).trans ?_
  exact Eq.trans (b := tM (v282_3 arg4 arg5 arg7 x0 x1 x3) (v284_3 arg4 arg5 arg7 x0 x1 x3)) rfl (tM_of2 (old0_8 arg4 arg5 arg7 x0 x1 x3 7 (by omega) (by omega)) (mx7 arg4 arg5 arg7 x0 x1 x3))

theorem list1_7 : row scM0_1.view 7 (by decide) (w1 (HS1_17 arg4 arg5 arg6 arg7 x0 x1 x2 x3)) = tL (iM 7 (by decide)) (hX arg4 arg5 arg7 x0 x1 x3 7 (by decide)) (hS arg4 arg5 arg7 x0 x1 x3 7 (by decide)) (hV arg6 x2 7 (by decide)) (iL 7 (by decide)) := by
  refine (skip1_17 arg4 arg5 arg6 arg7 x0 x1 x2 x3 7 (by omega) (by decide)).trans ?_
  refine (skip1_16 arg4 arg5 arg6 arg7 x0 x1 x2 x3 7 (by omega) (by decide)).trans ?_
  refine (skip1_15 arg4 arg5 arg6 arg7 x0 x1 x2 x3 7 (by omega) (by decide)).trans ?_
  refine (skip1_14 arg4 arg5 arg6 arg7 x0 x1 x2 x3 7 (by omega) (by decide)).trans ?_
  refine (skip1_13 arg4 arg5 arg6 arg7 x0 x1 x2 x3 7 (by omega) (by decide)).trans ?_
  refine (skip1_12 arg4 arg5 arg6 arg7 x0 x1 x2 x3 7 (by omega) (by decide)).trans ?_
  refine (skip1_11 arg4 arg5 arg6 arg7 x0 x1 x2 x3 7 (by omega) (by decide)).trans ?_
  refine (skip1_10 arg4 arg5 arg6 arg7 x0 x1 x2 x3 7 (by omega) (by decide)).trans ?_
  unfold HS1_9
  refine (rs_hit 7 _ _ _ _ _ _).trans ?_
  exact Eq.trans (b := tL (v282_3 arg4 arg5 arg7 x0 x1 x3) (v284_3 arg4 arg5 arg7 x0 x1 x3) (v289_3 arg4 arg5 arg7 x0 x1 x3) (hV arg6 x2 7 (by decide)) (v317_3 arg4 arg5 arg6 arg7 x0 x1 x2 x3)) rfl (tL_of (old0_8 arg4 arg5 arg7 x0 x1 x3 7 (by omega) (by omega)) (mx7 arg4 arg5 arg7 x0 x1 x3) (sc7 arg4 arg5 arg7 x0 x1 x3) (old1_8 arg4 arg5 arg6 arg7 x0 x1 x2 x3 7 (by omega) (by omega)))

theorem list2_7 : row scM0_2.view 7 (by decide) (w2 (HS2_17 arg4 arg5 arg6 arg7 x0 x1 x2 x3)) = tA (iM 7 (by decide)) (hX arg4 arg5 arg7 x0 x1 x3 7 (by decide)) (hS arg4 arg5 arg7 x0 x1 x3 7 (by decide)) (hV arg6 x2 7 (by decide)) (iA 7 (by decide)) := by
  refine (skip2_17 arg4 arg5 arg6 arg7 x0 x1 x2 x3 7 (by omega) (by decide)).trans ?_
  refine (skip2_16 arg4 arg5 arg6 arg7 x0 x1 x2 x3 7 (by omega) (by decide)).trans ?_
  refine (skip2_15 arg4 arg5 arg6 arg7 x0 x1 x2 x3 7 (by omega) (by decide)).trans ?_
  refine (skip2_14 arg4 arg5 arg6 arg7 x0 x1 x2 x3 7 (by omega) (by decide)).trans ?_
  refine (skip2_13 arg4 arg5 arg6 arg7 x0 x1 x2 x3 7 (by omega) (by decide)).trans ?_
  refine (skip2_12 arg4 arg5 arg6 arg7 x0 x1 x2 x3 7 (by omega) (by decide)).trans ?_
  refine (skip2_11 arg4 arg5 arg6 arg7 x0 x1 x2 x3 7 (by omega) (by decide)).trans ?_
  refine (skip2_10 arg4 arg5 arg6 arg7 x0 x1 x2 x3 7 (by omega) (by decide)).trans ?_
  unfold HS2_9
  refine (ra_hit 7 _ _ _ _ _ _).trans ?_
  exact Eq.trans (b := tA (v282_3 arg4 arg5 arg7 x0 x1 x3) (v284_3 arg4 arg5 arg7 x0 x1 x3) (v289_3 arg4 arg5 arg7 x0 x1 x3) (hV arg6 x2 7 (by decide)) (v327_3 arg4 arg5 arg6 arg7 x0 x1 x2 x3)) rfl (tA_of (old0_8 arg4 arg5 arg7 x0 x1 x3 7 (by omega) (by omega)) (mx7 arg4 arg5 arg7 x0 x1 x3) (sc7 arg4 arg5 arg7 x0 x1 x3) (old2_8 arg4 arg5 arg6 arg7 x0 x1 x2 x3 7 (by omega) (by omega)))

theorem mx8 : (v184_4 arg4 arg5 arg7 x0 x1 x3) = hX arg4 arg5 arg7 x0 x1 x3 8 (by decide) := by
  unfold v184_4 HS5_5
  refine (View.readCov_full _ _ _ _ _).trans ((tX21 _ _ _).trans (tX_of rfl rfl (bias arg7 x3)))

theorem sc8 : (v189_4 arg4 arg5 arg7 x0 x1 x3) = hS arg4 arg5 arg7 x0 x1 x3 8 (by decide) := by
  unfold v189_4 HS3_5
  refine (View.readCov_full _ _ _ _ _).trans ((tS20 _ _ _).trans (tS_of rfl rfl (bias arg7 x3)))

theorem list0_8 : row scM0_0.view 8 (by decide) (w0 (HS0_17 arg4 arg5 arg7 x0 x1 x3)) = tM (iM 8 (by decide)) (hX arg4 arg5 arg7 x0 x1 x3 8 (by decide)) := by
  refine (skip0_17 arg4 arg5 arg7 x0 x1 x3 8 (by omega) (by decide)).trans ?_
  refine (skip0_16 arg4 arg5 arg7 x0 x1 x3 8 (by omega) (by decide)).trans ?_
  refine (skip0_15 arg4 arg5 arg7 x0 x1 x3 8 (by omega) (by decide)).trans ?_
  refine (skip0_14 arg4 arg5 arg7 x0 x1 x3 8 (by omega) (by decide)).trans ?_
  refine (skip0_13 arg4 arg5 arg7 x0 x1 x3 8 (by omega) (by decide)).trans ?_
  refine (skip0_12 arg4 arg5 arg7 x0 x1 x3 8 (by omega) (by decide)).trans ?_
  refine (skip0_11 arg4 arg5 arg7 x0 x1 x3 8 (by omega) (by decide)).trans ?_
  unfold HS0_10
  refine (rs_hit 8 _ _ _ _ _ _).trans ?_
  exact Eq.trans (b := tM (v182_4 arg4 arg5 arg7 x0 x1 x3) (v184_4 arg4 arg5 arg7 x0 x1 x3)) rfl (tM_of2 (old0_9 arg4 arg5 arg7 x0 x1 x3 8 (by omega) (by omega)) (mx8 arg4 arg5 arg7 x0 x1 x3))

theorem list1_8 : row scM0_1.view 8 (by decide) (w1 (HS1_17 arg4 arg5 arg6 arg7 x0 x1 x2 x3)) = tL (iM 8 (by decide)) (hX arg4 arg5 arg7 x0 x1 x3 8 (by decide)) (hS arg4 arg5 arg7 x0 x1 x3 8 (by decide)) (hV arg6 x2 8 (by decide)) (iL 8 (by decide)) := by
  refine (skip1_17 arg4 arg5 arg6 arg7 x0 x1 x2 x3 8 (by omega) (by decide)).trans ?_
  refine (skip1_16 arg4 arg5 arg6 arg7 x0 x1 x2 x3 8 (by omega) (by decide)).trans ?_
  refine (skip1_15 arg4 arg5 arg6 arg7 x0 x1 x2 x3 8 (by omega) (by decide)).trans ?_
  refine (skip1_14 arg4 arg5 arg6 arg7 x0 x1 x2 x3 8 (by omega) (by decide)).trans ?_
  refine (skip1_13 arg4 arg5 arg6 arg7 x0 x1 x2 x3 8 (by omega) (by decide)).trans ?_
  refine (skip1_12 arg4 arg5 arg6 arg7 x0 x1 x2 x3 8 (by omega) (by decide)).trans ?_
  refine (skip1_11 arg4 arg5 arg6 arg7 x0 x1 x2 x3 8 (by omega) (by decide)).trans ?_
  unfold HS1_10
  refine (rs_hit 8 _ _ _ _ _ _).trans ?_
  exact Eq.trans (b := tL (v182_4 arg4 arg5 arg7 x0 x1 x3) (v184_4 arg4 arg5 arg7 x0 x1 x3) (v189_4 arg4 arg5 arg7 x0 x1 x3) (hV arg6 x2 8 (by decide)) (v217_4 arg4 arg5 arg6 arg7 x0 x1 x2 x3)) rfl (tL_of (old0_9 arg4 arg5 arg7 x0 x1 x3 8 (by omega) (by omega)) (mx8 arg4 arg5 arg7 x0 x1 x3) (sc8 arg4 arg5 arg7 x0 x1 x3) (old1_9 arg4 arg5 arg6 arg7 x0 x1 x2 x3 8 (by omega) (by omega)))

theorem list2_8 : row scM0_2.view 8 (by decide) (w2 (HS2_17 arg4 arg5 arg6 arg7 x0 x1 x2 x3)) = tA (iM 8 (by decide)) (hX arg4 arg5 arg7 x0 x1 x3 8 (by decide)) (hS arg4 arg5 arg7 x0 x1 x3 8 (by decide)) (hV arg6 x2 8 (by decide)) (iA 8 (by decide)) := by
  refine (skip2_17 arg4 arg5 arg6 arg7 x0 x1 x2 x3 8 (by omega) (by decide)).trans ?_
  refine (skip2_16 arg4 arg5 arg6 arg7 x0 x1 x2 x3 8 (by omega) (by decide)).trans ?_
  refine (skip2_15 arg4 arg5 arg6 arg7 x0 x1 x2 x3 8 (by omega) (by decide)).trans ?_
  refine (skip2_14 arg4 arg5 arg6 arg7 x0 x1 x2 x3 8 (by omega) (by decide)).trans ?_
  refine (skip2_13 arg4 arg5 arg6 arg7 x0 x1 x2 x3 8 (by omega) (by decide)).trans ?_
  refine (skip2_12 arg4 arg5 arg6 arg7 x0 x1 x2 x3 8 (by omega) (by decide)).trans ?_
  refine (skip2_11 arg4 arg5 arg6 arg7 x0 x1 x2 x3 8 (by omega) (by decide)).trans ?_
  unfold HS2_10
  refine (ra_hit 8 _ _ _ _ _ _).trans ?_
  exact Eq.trans (b := tA (v182_4 arg4 arg5 arg7 x0 x1 x3) (v184_4 arg4 arg5 arg7 x0 x1 x3) (v189_4 arg4 arg5 arg7 x0 x1 x3) (hV arg6 x2 8 (by decide)) (v227_4 arg4 arg5 arg6 arg7 x0 x1 x2 x3)) rfl (tA_of (old0_9 arg4 arg5 arg7 x0 x1 x3 8 (by omega) (by omega)) (mx8 arg4 arg5 arg7 x0 x1 x3) (sc8 arg4 arg5 arg7 x0 x1 x3) (old2_9 arg4 arg5 arg6 arg7 x0 x1 x2 x3 8 (by omega) (by omega)))

theorem mx9 : (v284_4 arg4 arg5 arg7 x0 x1 x3) = hX arg4 arg5 arg7 x0 x1 x3 9 (by decide) := by
  unfold v284_4 HS6_5
  refine (View.readCov_full _ _ _ _ _).trans ((tX10 _ _ _).trans (tX_of rfl rfl (bias arg7 x3)))

theorem sc9 : (v289_4 arg4 arg5 arg7 x0 x1 x3) = hS arg4 arg5 arg7 x0 x1 x3 9 (by decide) := by
  unfold v289_4 HS4_5
  refine (View.readCov_full _ _ _ _ _).trans ((tS8 _ _ _).trans (tS_of rfl rfl (bias arg7 x3)))

theorem list0_9 : row scM0_0.view 9 (by decide) (w0 (HS0_17 arg4 arg5 arg7 x0 x1 x3)) = tM (iM 9 (by decide)) (hX arg4 arg5 arg7 x0 x1 x3 9 (by decide)) := by
  refine (skip0_17 arg4 arg5 arg7 x0 x1 x3 9 (by omega) (by decide)).trans ?_
  refine (skip0_16 arg4 arg5 arg7 x0 x1 x3 9 (by omega) (by decide)).trans ?_
  refine (skip0_15 arg4 arg5 arg7 x0 x1 x3 9 (by omega) (by decide)).trans ?_
  refine (skip0_14 arg4 arg5 arg7 x0 x1 x3 9 (by omega) (by decide)).trans ?_
  refine (skip0_13 arg4 arg5 arg7 x0 x1 x3 9 (by omega) (by decide)).trans ?_
  refine (skip0_12 arg4 arg5 arg7 x0 x1 x3 9 (by omega) (by decide)).trans ?_
  unfold HS0_11
  refine (rs_hit 9 _ _ _ _ _ _).trans ?_
  exact Eq.trans (b := tM (v282_4 arg4 arg5 arg7 x0 x1 x3) (v284_4 arg4 arg5 arg7 x0 x1 x3)) rfl (tM_of2 (old0_10 arg4 arg5 arg7 x0 x1 x3 9 (by omega) (by omega)) (mx9 arg4 arg5 arg7 x0 x1 x3))

theorem list1_9 : row scM0_1.view 9 (by decide) (w1 (HS1_17 arg4 arg5 arg6 arg7 x0 x1 x2 x3)) = tL (iM 9 (by decide)) (hX arg4 arg5 arg7 x0 x1 x3 9 (by decide)) (hS arg4 arg5 arg7 x0 x1 x3 9 (by decide)) (hV arg6 x2 9 (by decide)) (iL 9 (by decide)) := by
  refine (skip1_17 arg4 arg5 arg6 arg7 x0 x1 x2 x3 9 (by omega) (by decide)).trans ?_
  refine (skip1_16 arg4 arg5 arg6 arg7 x0 x1 x2 x3 9 (by omega) (by decide)).trans ?_
  refine (skip1_15 arg4 arg5 arg6 arg7 x0 x1 x2 x3 9 (by omega) (by decide)).trans ?_
  refine (skip1_14 arg4 arg5 arg6 arg7 x0 x1 x2 x3 9 (by omega) (by decide)).trans ?_
  refine (skip1_13 arg4 arg5 arg6 arg7 x0 x1 x2 x3 9 (by omega) (by decide)).trans ?_
  refine (skip1_12 arg4 arg5 arg6 arg7 x0 x1 x2 x3 9 (by omega) (by decide)).trans ?_
  unfold HS1_11
  refine (rs_hit 9 _ _ _ _ _ _).trans ?_
  exact Eq.trans (b := tL (v282_4 arg4 arg5 arg7 x0 x1 x3) (v284_4 arg4 arg5 arg7 x0 x1 x3) (v289_4 arg4 arg5 arg7 x0 x1 x3) (hV arg6 x2 9 (by decide)) (v317_4 arg4 arg5 arg6 arg7 x0 x1 x2 x3)) rfl (tL_of (old0_10 arg4 arg5 arg7 x0 x1 x3 9 (by omega) (by omega)) (mx9 arg4 arg5 arg7 x0 x1 x3) (sc9 arg4 arg5 arg7 x0 x1 x3) (old1_10 arg4 arg5 arg6 arg7 x0 x1 x2 x3 9 (by omega) (by omega)))

theorem list2_9 : row scM0_2.view 9 (by decide) (w2 (HS2_17 arg4 arg5 arg6 arg7 x0 x1 x2 x3)) = tA (iM 9 (by decide)) (hX arg4 arg5 arg7 x0 x1 x3 9 (by decide)) (hS arg4 arg5 arg7 x0 x1 x3 9 (by decide)) (hV arg6 x2 9 (by decide)) (iA 9 (by decide)) := by
  refine (skip2_17 arg4 arg5 arg6 arg7 x0 x1 x2 x3 9 (by omega) (by decide)).trans ?_
  refine (skip2_16 arg4 arg5 arg6 arg7 x0 x1 x2 x3 9 (by omega) (by decide)).trans ?_
  refine (skip2_15 arg4 arg5 arg6 arg7 x0 x1 x2 x3 9 (by omega) (by decide)).trans ?_
  refine (skip2_14 arg4 arg5 arg6 arg7 x0 x1 x2 x3 9 (by omega) (by decide)).trans ?_
  refine (skip2_13 arg4 arg5 arg6 arg7 x0 x1 x2 x3 9 (by omega) (by decide)).trans ?_
  refine (skip2_12 arg4 arg5 arg6 arg7 x0 x1 x2 x3 9 (by omega) (by decide)).trans ?_
  unfold HS2_11
  refine (ra_hit 9 _ _ _ _ _ _).trans ?_
  exact Eq.trans (b := tA (v282_4 arg4 arg5 arg7 x0 x1 x3) (v284_4 arg4 arg5 arg7 x0 x1 x3) (v289_4 arg4 arg5 arg7 x0 x1 x3) (hV arg6 x2 9 (by decide)) (v327_4 arg4 arg5 arg6 arg7 x0 x1 x2 x3)) rfl (tA_of (old0_10 arg4 arg5 arg7 x0 x1 x3 9 (by omega) (by omega)) (mx9 arg4 arg5 arg7 x0 x1 x3) (sc9 arg4 arg5 arg7 x0 x1 x3) (old2_10 arg4 arg5 arg6 arg7 x0 x1 x2 x3 9 (by omega) (by omega)))

theorem mx10 : (v184_5 arg4 arg5 arg7 x0 x1 x3) = hX arg4 arg5 arg7 x0 x1 x3 10 (by decide) := by
  unfold v184_5 HS5_6
  refine (View.readCov_full _ _ _ _ _).trans ((tX21 _ _ _).trans (tX_of rfl rfl (bias arg7 x3)))

theorem sc10 : (v189_5 arg4 arg5 arg7 x0 x1 x3) = hS arg4 arg5 arg7 x0 x1 x3 10 (by decide) := by
  unfold v189_5 HS3_6
  refine (View.readCov_full _ _ _ _ _).trans ((tS20 _ _ _).trans (tS_of rfl rfl (bias arg7 x3)))

theorem list0_10 : row scM0_0.view 10 (by decide) (w0 (HS0_17 arg4 arg5 arg7 x0 x1 x3)) = tM (iM 10 (by decide)) (hX arg4 arg5 arg7 x0 x1 x3 10 (by decide)) := by
  refine (skip0_17 arg4 arg5 arg7 x0 x1 x3 10 (by omega) (by decide)).trans ?_
  refine (skip0_16 arg4 arg5 arg7 x0 x1 x3 10 (by omega) (by decide)).trans ?_
  refine (skip0_15 arg4 arg5 arg7 x0 x1 x3 10 (by omega) (by decide)).trans ?_
  refine (skip0_14 arg4 arg5 arg7 x0 x1 x3 10 (by omega) (by decide)).trans ?_
  refine (skip0_13 arg4 arg5 arg7 x0 x1 x3 10 (by omega) (by decide)).trans ?_
  unfold HS0_12
  refine (rs_hit 10 _ _ _ _ _ _).trans ?_
  exact Eq.trans (b := tM (v182_5 arg4 arg5 arg7 x0 x1 x3) (v184_5 arg4 arg5 arg7 x0 x1 x3)) rfl (tM_of2 (old0_11 arg4 arg5 arg7 x0 x1 x3 10 (by omega) (by omega)) (mx10 arg4 arg5 arg7 x0 x1 x3))

theorem list1_10 : row scM0_1.view 10 (by decide) (w1 (HS1_17 arg4 arg5 arg6 arg7 x0 x1 x2 x3)) = tL (iM 10 (by decide)) (hX arg4 arg5 arg7 x0 x1 x3 10 (by decide)) (hS arg4 arg5 arg7 x0 x1 x3 10 (by decide)) (hV arg6 x2 10 (by decide)) (iL 10 (by decide)) := by
  refine (skip1_17 arg4 arg5 arg6 arg7 x0 x1 x2 x3 10 (by omega) (by decide)).trans ?_
  refine (skip1_16 arg4 arg5 arg6 arg7 x0 x1 x2 x3 10 (by omega) (by decide)).trans ?_
  refine (skip1_15 arg4 arg5 arg6 arg7 x0 x1 x2 x3 10 (by omega) (by decide)).trans ?_
  refine (skip1_14 arg4 arg5 arg6 arg7 x0 x1 x2 x3 10 (by omega) (by decide)).trans ?_
  refine (skip1_13 arg4 arg5 arg6 arg7 x0 x1 x2 x3 10 (by omega) (by decide)).trans ?_
  unfold HS1_12
  refine (rs_hit 10 _ _ _ _ _ _).trans ?_
  exact Eq.trans (b := tL (v182_5 arg4 arg5 arg7 x0 x1 x3) (v184_5 arg4 arg5 arg7 x0 x1 x3) (v189_5 arg4 arg5 arg7 x0 x1 x3) (hV arg6 x2 10 (by decide)) (v217_5 arg4 arg5 arg6 arg7 x0 x1 x2 x3)) rfl (tL_of (old0_11 arg4 arg5 arg7 x0 x1 x3 10 (by omega) (by omega)) (mx10 arg4 arg5 arg7 x0 x1 x3) (sc10 arg4 arg5 arg7 x0 x1 x3) (old1_11 arg4 arg5 arg6 arg7 x0 x1 x2 x3 10 (by omega) (by omega)))

theorem list2_10 : row scM0_2.view 10 (by decide) (w2 (HS2_17 arg4 arg5 arg6 arg7 x0 x1 x2 x3)) = tA (iM 10 (by decide)) (hX arg4 arg5 arg7 x0 x1 x3 10 (by decide)) (hS arg4 arg5 arg7 x0 x1 x3 10 (by decide)) (hV arg6 x2 10 (by decide)) (iA 10 (by decide)) := by
  refine (skip2_17 arg4 arg5 arg6 arg7 x0 x1 x2 x3 10 (by omega) (by decide)).trans ?_
  refine (skip2_16 arg4 arg5 arg6 arg7 x0 x1 x2 x3 10 (by omega) (by decide)).trans ?_
  refine (skip2_15 arg4 arg5 arg6 arg7 x0 x1 x2 x3 10 (by omega) (by decide)).trans ?_
  refine (skip2_14 arg4 arg5 arg6 arg7 x0 x1 x2 x3 10 (by omega) (by decide)).trans ?_
  refine (skip2_13 arg4 arg5 arg6 arg7 x0 x1 x2 x3 10 (by omega) (by decide)).trans ?_
  unfold HS2_12
  refine (ra_hit 10 _ _ _ _ _ _).trans ?_
  exact Eq.trans (b := tA (v182_5 arg4 arg5 arg7 x0 x1 x3) (v184_5 arg4 arg5 arg7 x0 x1 x3) (v189_5 arg4 arg5 arg7 x0 x1 x3) (hV arg6 x2 10 (by decide)) (v227_5 arg4 arg5 arg6 arg7 x0 x1 x2 x3)) rfl (tA_of (old0_11 arg4 arg5 arg7 x0 x1 x3 10 (by omega) (by omega)) (mx10 arg4 arg5 arg7 x0 x1 x3) (sc10 arg4 arg5 arg7 x0 x1 x3) (old2_11 arg4 arg5 arg6 arg7 x0 x1 x2 x3 10 (by omega) (by omega)))

theorem mx11 : (v284_5 arg4 arg5 arg7 x0 x1 x3) = hX arg4 arg5 arg7 x0 x1 x3 11 (by decide) := by
  unfold v284_5 HS6_6
  refine (View.readCov_full _ _ _ _ _).trans ((tX10 _ _ _).trans (tX_of rfl rfl (bias arg7 x3)))

theorem sc11 : (v289_5 arg4 arg5 arg7 x0 x1 x3) = hS arg4 arg5 arg7 x0 x1 x3 11 (by decide) := by
  unfold v289_5 HS4_6
  refine (View.readCov_full _ _ _ _ _).trans ((tS8 _ _ _).trans (tS_of rfl rfl (bias arg7 x3)))

theorem list0_11 : row scM0_0.view 11 (by decide) (w0 (HS0_17 arg4 arg5 arg7 x0 x1 x3)) = tM (iM 11 (by decide)) (hX arg4 arg5 arg7 x0 x1 x3 11 (by decide)) := by
  refine (skip0_17 arg4 arg5 arg7 x0 x1 x3 11 (by omega) (by decide)).trans ?_
  refine (skip0_16 arg4 arg5 arg7 x0 x1 x3 11 (by omega) (by decide)).trans ?_
  refine (skip0_15 arg4 arg5 arg7 x0 x1 x3 11 (by omega) (by decide)).trans ?_
  refine (skip0_14 arg4 arg5 arg7 x0 x1 x3 11 (by omega) (by decide)).trans ?_
  unfold HS0_13
  refine (rs_hit 11 _ _ _ _ _ _).trans ?_
  exact Eq.trans (b := tM (v282_5 arg4 arg5 arg7 x0 x1 x3) (v284_5 arg4 arg5 arg7 x0 x1 x3)) rfl (tM_of2 (old0_12 arg4 arg5 arg7 x0 x1 x3 11 (by omega) (by omega)) (mx11 arg4 arg5 arg7 x0 x1 x3))

theorem list1_11 : row scM0_1.view 11 (by decide) (w1 (HS1_17 arg4 arg5 arg6 arg7 x0 x1 x2 x3)) = tL (iM 11 (by decide)) (hX arg4 arg5 arg7 x0 x1 x3 11 (by decide)) (hS arg4 arg5 arg7 x0 x1 x3 11 (by decide)) (hV arg6 x2 11 (by decide)) (iL 11 (by decide)) := by
  refine (skip1_17 arg4 arg5 arg6 arg7 x0 x1 x2 x3 11 (by omega) (by decide)).trans ?_
  refine (skip1_16 arg4 arg5 arg6 arg7 x0 x1 x2 x3 11 (by omega) (by decide)).trans ?_
  refine (skip1_15 arg4 arg5 arg6 arg7 x0 x1 x2 x3 11 (by omega) (by decide)).trans ?_
  refine (skip1_14 arg4 arg5 arg6 arg7 x0 x1 x2 x3 11 (by omega) (by decide)).trans ?_
  unfold HS1_13
  refine (rs_hit 11 _ _ _ _ _ _).trans ?_
  exact Eq.trans (b := tL (v282_5 arg4 arg5 arg7 x0 x1 x3) (v284_5 arg4 arg5 arg7 x0 x1 x3) (v289_5 arg4 arg5 arg7 x0 x1 x3) (hV arg6 x2 11 (by decide)) (v317_5 arg4 arg5 arg6 arg7 x0 x1 x2 x3)) rfl (tL_of (old0_12 arg4 arg5 arg7 x0 x1 x3 11 (by omega) (by omega)) (mx11 arg4 arg5 arg7 x0 x1 x3) (sc11 arg4 arg5 arg7 x0 x1 x3) (old1_12 arg4 arg5 arg6 arg7 x0 x1 x2 x3 11 (by omega) (by omega)))

theorem list2_11 : row scM0_2.view 11 (by decide) (w2 (HS2_17 arg4 arg5 arg6 arg7 x0 x1 x2 x3)) = tA (iM 11 (by decide)) (hX arg4 arg5 arg7 x0 x1 x3 11 (by decide)) (hS arg4 arg5 arg7 x0 x1 x3 11 (by decide)) (hV arg6 x2 11 (by decide)) (iA 11 (by decide)) := by
  refine (skip2_17 arg4 arg5 arg6 arg7 x0 x1 x2 x3 11 (by omega) (by decide)).trans ?_
  refine (skip2_16 arg4 arg5 arg6 arg7 x0 x1 x2 x3 11 (by omega) (by decide)).trans ?_
  refine (skip2_15 arg4 arg5 arg6 arg7 x0 x1 x2 x3 11 (by omega) (by decide)).trans ?_
  refine (skip2_14 arg4 arg5 arg6 arg7 x0 x1 x2 x3 11 (by omega) (by decide)).trans ?_
  unfold HS2_13
  refine (ra_hit 11 _ _ _ _ _ _).trans ?_
  exact Eq.trans (b := tA (v282_5 arg4 arg5 arg7 x0 x1 x3) (v284_5 arg4 arg5 arg7 x0 x1 x3) (v289_5 arg4 arg5 arg7 x0 x1 x3) (hV arg6 x2 11 (by decide)) (v327_5 arg4 arg5 arg6 arg7 x0 x1 x2 x3)) rfl (tA_of (old0_12 arg4 arg5 arg7 x0 x1 x3 11 (by omega) (by omega)) (mx11 arg4 arg5 arg7 x0 x1 x3) (sc11 arg4 arg5 arg7 x0 x1 x3) (old2_12 arg4 arg5 arg6 arg7 x0 x1 x2 x3 11 (by omega) (by omega)))

theorem mx12 : (v184_6 arg4 arg5 arg7 x0 x1 x3) = hX arg4 arg5 arg7 x0 x1 x3 12 (by decide) := by
  unfold v184_6 HS5_7
  refine (View.readCov_full _ _ _ _ _).trans ((tX21 _ _ _).trans (tX_of rfl rfl (bias arg7 x3)))

theorem sc12 : (v189_6 arg4 arg5 arg7 x0 x1 x3) = hS arg4 arg5 arg7 x0 x1 x3 12 (by decide) := by
  unfold v189_6 HS3_7
  refine (View.readCov_full _ _ _ _ _).trans ((tS20 _ _ _).trans (tS_of rfl rfl (bias arg7 x3)))

theorem list0_12 : row scM0_0.view 12 (by decide) (w0 (HS0_17 arg4 arg5 arg7 x0 x1 x3)) = tM (iM 12 (by decide)) (hX arg4 arg5 arg7 x0 x1 x3 12 (by decide)) := by
  refine (skip0_17 arg4 arg5 arg7 x0 x1 x3 12 (by omega) (by decide)).trans ?_
  refine (skip0_16 arg4 arg5 arg7 x0 x1 x3 12 (by omega) (by decide)).trans ?_
  refine (skip0_15 arg4 arg5 arg7 x0 x1 x3 12 (by omega) (by decide)).trans ?_
  unfold HS0_14
  refine (rs_hit 12 _ _ _ _ _ _).trans ?_
  exact Eq.trans (b := tM (v182_6 arg4 arg5 arg7 x0 x1 x3) (v184_6 arg4 arg5 arg7 x0 x1 x3)) rfl (tM_of2 (old0_13 arg4 arg5 arg7 x0 x1 x3 12 (by omega) (by omega)) (mx12 arg4 arg5 arg7 x0 x1 x3))

theorem list1_12 : row scM0_1.view 12 (by decide) (w1 (HS1_17 arg4 arg5 arg6 arg7 x0 x1 x2 x3)) = tL (iM 12 (by decide)) (hX arg4 arg5 arg7 x0 x1 x3 12 (by decide)) (hS arg4 arg5 arg7 x0 x1 x3 12 (by decide)) (hV arg6 x2 12 (by decide)) (iL 12 (by decide)) := by
  refine (skip1_17 arg4 arg5 arg6 arg7 x0 x1 x2 x3 12 (by omega) (by decide)).trans ?_
  refine (skip1_16 arg4 arg5 arg6 arg7 x0 x1 x2 x3 12 (by omega) (by decide)).trans ?_
  refine (skip1_15 arg4 arg5 arg6 arg7 x0 x1 x2 x3 12 (by omega) (by decide)).trans ?_
  unfold HS1_14
  refine (rs_hit 12 _ _ _ _ _ _).trans ?_
  exact Eq.trans (b := tL (v182_6 arg4 arg5 arg7 x0 x1 x3) (v184_6 arg4 arg5 arg7 x0 x1 x3) (v189_6 arg4 arg5 arg7 x0 x1 x3) (hV arg6 x2 12 (by decide)) (v217_6 arg4 arg5 arg6 arg7 x0 x1 x2 x3)) rfl (tL_of (old0_13 arg4 arg5 arg7 x0 x1 x3 12 (by omega) (by omega)) (mx12 arg4 arg5 arg7 x0 x1 x3) (sc12 arg4 arg5 arg7 x0 x1 x3) (old1_13 arg4 arg5 arg6 arg7 x0 x1 x2 x3 12 (by omega) (by omega)))

theorem list2_12 : row scM0_2.view 12 (by decide) (w2 (HS2_17 arg4 arg5 arg6 arg7 x0 x1 x2 x3)) = tA (iM 12 (by decide)) (hX arg4 arg5 arg7 x0 x1 x3 12 (by decide)) (hS arg4 arg5 arg7 x0 x1 x3 12 (by decide)) (hV arg6 x2 12 (by decide)) (iA 12 (by decide)) := by
  refine (skip2_17 arg4 arg5 arg6 arg7 x0 x1 x2 x3 12 (by omega) (by decide)).trans ?_
  refine (skip2_16 arg4 arg5 arg6 arg7 x0 x1 x2 x3 12 (by omega) (by decide)).trans ?_
  refine (skip2_15 arg4 arg5 arg6 arg7 x0 x1 x2 x3 12 (by omega) (by decide)).trans ?_
  unfold HS2_14
  refine (ra_hit 12 _ _ _ _ _ _).trans ?_
  exact Eq.trans (b := tA (v182_6 arg4 arg5 arg7 x0 x1 x3) (v184_6 arg4 arg5 arg7 x0 x1 x3) (v189_6 arg4 arg5 arg7 x0 x1 x3) (hV arg6 x2 12 (by decide)) (v227_6 arg4 arg5 arg6 arg7 x0 x1 x2 x3)) rfl (tA_of (old0_13 arg4 arg5 arg7 x0 x1 x3 12 (by omega) (by omega)) (mx12 arg4 arg5 arg7 x0 x1 x3) (sc12 arg4 arg5 arg7 x0 x1 x3) (old2_13 arg4 arg5 arg6 arg7 x0 x1 x2 x3 12 (by omega) (by omega)))

theorem mx13 : (v284_6 arg4 arg5 arg7 x0 x1 x3) = hX arg4 arg5 arg7 x0 x1 x3 13 (by decide) := by
  unfold v284_6 HS6_7
  refine (View.readCov_full _ _ _ _ _).trans ((tX10 _ _ _).trans (tX_of rfl rfl (bias arg7 x3)))

theorem sc13 : (v289_6 arg4 arg5 arg7 x0 x1 x3) = hS arg4 arg5 arg7 x0 x1 x3 13 (by decide) := by
  unfold v289_6 HS4_7
  refine (View.readCov_full _ _ _ _ _).trans ((tS8 _ _ _).trans (tS_of rfl rfl (bias arg7 x3)))

theorem list0_13 : row scM0_0.view 13 (by decide) (w0 (HS0_17 arg4 arg5 arg7 x0 x1 x3)) = tM (iM 13 (by decide)) (hX arg4 arg5 arg7 x0 x1 x3 13 (by decide)) := by
  refine (skip0_17 arg4 arg5 arg7 x0 x1 x3 13 (by omega) (by decide)).trans ?_
  refine (skip0_16 arg4 arg5 arg7 x0 x1 x3 13 (by omega) (by decide)).trans ?_
  unfold HS0_15
  refine (rs_hit 13 _ _ _ _ _ _).trans ?_
  exact Eq.trans (b := tM (v282_6 arg4 arg5 arg7 x0 x1 x3) (v284_6 arg4 arg5 arg7 x0 x1 x3)) rfl (tM_of2 (old0_14 arg4 arg5 arg7 x0 x1 x3 13 (by omega) (by omega)) (mx13 arg4 arg5 arg7 x0 x1 x3))

theorem list1_13 : row scM0_1.view 13 (by decide) (w1 (HS1_17 arg4 arg5 arg6 arg7 x0 x1 x2 x3)) = tL (iM 13 (by decide)) (hX arg4 arg5 arg7 x0 x1 x3 13 (by decide)) (hS arg4 arg5 arg7 x0 x1 x3 13 (by decide)) (hV arg6 x2 13 (by decide)) (iL 13 (by decide)) := by
  refine (skip1_17 arg4 arg5 arg6 arg7 x0 x1 x2 x3 13 (by omega) (by decide)).trans ?_
  refine (skip1_16 arg4 arg5 arg6 arg7 x0 x1 x2 x3 13 (by omega) (by decide)).trans ?_
  unfold HS1_15
  refine (rs_hit 13 _ _ _ _ _ _).trans ?_
  exact Eq.trans (b := tL (v282_6 arg4 arg5 arg7 x0 x1 x3) (v284_6 arg4 arg5 arg7 x0 x1 x3) (v289_6 arg4 arg5 arg7 x0 x1 x3) (hV arg6 x2 13 (by decide)) (v317_6 arg4 arg5 arg6 arg7 x0 x1 x2 x3)) rfl (tL_of (old0_14 arg4 arg5 arg7 x0 x1 x3 13 (by omega) (by omega)) (mx13 arg4 arg5 arg7 x0 x1 x3) (sc13 arg4 arg5 arg7 x0 x1 x3) (old1_14 arg4 arg5 arg6 arg7 x0 x1 x2 x3 13 (by omega) (by omega)))

theorem list2_13 : row scM0_2.view 13 (by decide) (w2 (HS2_17 arg4 arg5 arg6 arg7 x0 x1 x2 x3)) = tA (iM 13 (by decide)) (hX arg4 arg5 arg7 x0 x1 x3 13 (by decide)) (hS arg4 arg5 arg7 x0 x1 x3 13 (by decide)) (hV arg6 x2 13 (by decide)) (iA 13 (by decide)) := by
  refine (skip2_17 arg4 arg5 arg6 arg7 x0 x1 x2 x3 13 (by omega) (by decide)).trans ?_
  refine (skip2_16 arg4 arg5 arg6 arg7 x0 x1 x2 x3 13 (by omega) (by decide)).trans ?_
  unfold HS2_15
  refine (ra_hit 13 _ _ _ _ _ _).trans ?_
  exact Eq.trans (b := tA (v282_6 arg4 arg5 arg7 x0 x1 x3) (v284_6 arg4 arg5 arg7 x0 x1 x3) (v289_6 arg4 arg5 arg7 x0 x1 x3) (hV arg6 x2 13 (by decide)) (v327_6 arg4 arg5 arg6 arg7 x0 x1 x2 x3)) rfl (tA_of (old0_14 arg4 arg5 arg7 x0 x1 x3 13 (by omega) (by omega)) (mx13 arg4 arg5 arg7 x0 x1 x3) (sc13 arg4 arg5 arg7 x0 x1 x3) (old2_14 arg4 arg5 arg6 arg7 x0 x1 x2 x3 13 (by omega) (by omega)))

theorem mx14 : (v68 arg4 arg5 arg7 x0 x1 x3) = hX arg4 arg5 arg7 x0 x1 x3 14 (by decide) := by
  unfold v68 HS5_8
  refine (View.readCov_full _ _ _ _ _).trans ((tX21 _ _ _).trans (tX_of rfl rfl (bias arg7 x3)))

theorem sc14 : (v73 arg4 arg5 arg7 x0 x1 x3) = hS arg4 arg5 arg7 x0 x1 x3 14 (by decide) := by
  unfold v73 HS3_8
  refine (View.readCov_full _ _ _ _ _).trans ((tS20 _ _ _).trans (tS_of rfl rfl (bias arg7 x3)))

theorem list0_14 : row scM0_0.view 14 (by decide) (w0 (HS0_17 arg4 arg5 arg7 x0 x1 x3)) = tM (iM 14 (by decide)) (hX arg4 arg5 arg7 x0 x1 x3 14 (by decide)) := by
  refine (skip0_17 arg4 arg5 arg7 x0 x1 x3 14 (by omega) (by decide)).trans ?_
  unfold HS0_16
  refine (rs_hit 14 _ _ _ _ _ _).trans ?_
  exact Eq.trans (b := tM (v66 arg4 arg5 arg7 x0 x1 x3) (v68 arg4 arg5 arg7 x0 x1 x3)) rfl (tM_of2 (old0_15 arg4 arg5 arg7 x0 x1 x3 14 (by omega) (by omega)) (mx14 arg4 arg5 arg7 x0 x1 x3))

theorem list1_14 : row scM0_1.view 14 (by decide) (w1 (HS1_17 arg4 arg5 arg6 arg7 x0 x1 x2 x3)) = tL (iM 14 (by decide)) (hX arg4 arg5 arg7 x0 x1 x3 14 (by decide)) (hS arg4 arg5 arg7 x0 x1 x3 14 (by decide)) (hV arg6 x2 14 (by decide)) (iL 14 (by decide)) := by
  refine (skip1_17 arg4 arg5 arg6 arg7 x0 x1 x2 x3 14 (by omega) (by decide)).trans ?_
  unfold HS1_16
  refine (rs_hit 14 _ _ _ _ _ _).trans ?_
  exact Eq.trans (b := tL (v66 arg4 arg5 arg7 x0 x1 x3) (v68 arg4 arg5 arg7 x0 x1 x3) (v73 arg4 arg5 arg7 x0 x1 x3) (hV arg6 x2 14 (by decide)) (v82 arg4 arg5 arg6 arg7 x0 x1 x2 x3)) rfl (tL_of (old0_15 arg4 arg5 arg7 x0 x1 x3 14 (by omega) (by omega)) (mx14 arg4 arg5 arg7 x0 x1 x3) (sc14 arg4 arg5 arg7 x0 x1 x3) (old1_15 arg4 arg5 arg6 arg7 x0 x1 x2 x3 14 (by omega) (by omega)))

theorem list2_14 : row scM0_2.view 14 (by decide) (w2 (HS2_17 arg4 arg5 arg6 arg7 x0 x1 x2 x3)) = tA (iM 14 (by decide)) (hX arg4 arg5 arg7 x0 x1 x3 14 (by decide)) (hS arg4 arg5 arg7 x0 x1 x3 14 (by decide)) (hV arg6 x2 14 (by decide)) (iA 14 (by decide)) := by
  refine (skip2_17 arg4 arg5 arg6 arg7 x0 x1 x2 x3 14 (by omega) (by decide)).trans ?_
  unfold HS2_16
  refine (ra_hit 14 _ _ _ _ _ _).trans ?_
  exact Eq.trans (b := tA (v66 arg4 arg5 arg7 x0 x1 x3) (v68 arg4 arg5 arg7 x0 x1 x3) (v73 arg4 arg5 arg7 x0 x1 x3) (hV arg6 x2 14 (by decide)) (v90 arg4 arg5 arg6 arg7 x0 x1 x2 x3)) rfl (tA_of (old0_15 arg4 arg5 arg7 x0 x1 x3 14 (by omega) (by omega)) (mx14 arg4 arg5 arg7 x0 x1 x3) (sc14 arg4 arg5 arg7 x0 x1 x3) (old2_15 arg4 arg5 arg6 arg7 x0 x1 x2 x3 14 (by omega) (by omega)))

theorem mx15 : (v104 arg4 arg5 arg7 x0 x1 x3) = hX arg4 arg5 arg7 x0 x1 x3 15 (by decide) := by
  unfold v104 HS6_8
  refine (View.readCov_full _ _ _ _ _).trans ((tX55 _ _ _).trans (tX_of rfl rfl (bias arg7 x3)))

theorem sc15 : (v109 arg4 arg5 arg7 x0 x1 x3) = hS arg4 arg5 arg7 x0 x1 x3 15 (by decide) := by
  unfold v109 HS4_8
  refine (View.readCov_full _ _ _ _ _).trans ((tS54 _ _ _).trans (tS_of rfl rfl (bias arg7 x3)))

theorem list0_15 : row scM0_0.view 15 (by decide) (w0 (HS0_17 arg4 arg5 arg7 x0 x1 x3)) = tM (iM 15 (by decide)) (hX arg4 arg5 arg7 x0 x1 x3 15 (by decide)) := by
  unfold HS0_17
  refine (rs_hit 15 _ _ _ _ _ _).trans ?_
  exact Eq.trans (b := tM (v102 arg4 arg5 arg7 x0 x1 x3) (v104 arg4 arg5 arg7 x0 x1 x3)) rfl (tM_of2 (old0_16 arg4 arg5 arg7 x0 x1 x3 15 (by omega) (by omega)) (mx15 arg4 arg5 arg7 x0 x1 x3))

theorem list1_15 : row scM0_1.view 15 (by decide) (w1 (HS1_17 arg4 arg5 arg6 arg7 x0 x1 x2 x3)) = tL (iM 15 (by decide)) (hX arg4 arg5 arg7 x0 x1 x3 15 (by decide)) (hS arg4 arg5 arg7 x0 x1 x3 15 (by decide)) (hV arg6 x2 15 (by decide)) (iL 15 (by decide)) := by
  unfold HS1_17
  refine (rs_hit 15 _ _ _ _ _ _).trans ?_
  exact Eq.trans (b := tL (v102 arg4 arg5 arg7 x0 x1 x3) (v104 arg4 arg5 arg7 x0 x1 x3) (v109 arg4 arg5 arg7 x0 x1 x3) (hV arg6 x2 15 (by decide)) (v118 arg4 arg5 arg6 arg7 x0 x1 x2 x3)) rfl (tL_of (old0_16 arg4 arg5 arg7 x0 x1 x3 15 (by omega) (by omega)) (mx15 arg4 arg5 arg7 x0 x1 x3) (sc15 arg4 arg5 arg7 x0 x1 x3) (old1_16 arg4 arg5 arg6 arg7 x0 x1 x2 x3 15 (by omega) (by omega)))

theorem list2_15 : row scM0_2.view 15 (by decide) (w2 (HS2_17 arg4 arg5 arg6 arg7 x0 x1 x2 x3)) = tA (iM 15 (by decide)) (hX arg4 arg5 arg7 x0 x1 x3 15 (by decide)) (hS arg4 arg5 arg7 x0 x1 x3 15 (by decide)) (hV arg6 x2 15 (by decide)) (iA 15 (by decide)) := by
  unfold HS2_17
  refine (ra_hit 15 _ _ _ _ _ _).trans ?_
  exact Eq.trans (b := tA (v102 arg4 arg5 arg7 x0 x1 x3) (v104 arg4 arg5 arg7 x0 x1 x3) (v109 arg4 arg5 arg7 x0 x1 x3) (hV arg6 x2 15 (by decide)) (v126 arg4 arg5 arg6 arg7 x0 x1 x2 x3)) rfl (tA_of (old0_16 arg4 arg5 arg7 x0 x1 x3 15 (by omega) (by omega)) (mx15 arg4 arg5 arg7 x0 x1 x3) (sc15 arg4 arg5 arg7 x0 x1 x3) (old2_16 arg4 arg5 arg6 arg7 x0 x1 x2 x3 15 (by omega) (by omega)))

theorem list0 (h : Fin 16) : row scM0_0.view h.val h.isLt (w0 (HS0_17 arg4 arg5 arg7 x0 x1 x3)) = tM (iM h.val h.isLt) (hX arg4 arg5 arg7 x0 x1 x3 h.val h.isLt) := by
  obtain ⟨h, hh⟩ := h
  interval_cases h
  · exact list0_0 arg4 arg5 arg7 x0 x1 x3
  · exact list0_1 arg4 arg5 arg7 x0 x1 x3
  · exact list0_2 arg4 arg5 arg7 x0 x1 x3
  · exact list0_3 arg4 arg5 arg7 x0 x1 x3
  · exact list0_4 arg4 arg5 arg7 x0 x1 x3
  · exact list0_5 arg4 arg5 arg7 x0 x1 x3
  · exact list0_6 arg4 arg5 arg7 x0 x1 x3
  · exact list0_7 arg4 arg5 arg7 x0 x1 x3
  · exact list0_8 arg4 arg5 arg7 x0 x1 x3
  · exact list0_9 arg4 arg5 arg7 x0 x1 x3
  · exact list0_10 arg4 arg5 arg7 x0 x1 x3
  · exact list0_11 arg4 arg5 arg7 x0 x1 x3
  · exact list0_12 arg4 arg5 arg7 x0 x1 x3
  · exact list0_13 arg4 arg5 arg7 x0 x1 x3
  · exact list0_14 arg4 arg5 arg7 x0 x1 x3
  · exact list0_15 arg4 arg5 arg7 x0 x1 x3

theorem max (h : Fin 16) (c : Dev nD) (i : grid0.Coords) (arg4 : Memref sig .tc .vmem S16x128x1024 .bf16) (harg4 : arg4.IsWhole) (arg5 : Memref sig .tc .vmem S4x1024x128 .bf16) (harg5 : arg5.IsWhole) (arg6 : Memref sig .tc .vmem S4x144x1024 .bf16) (harg6 : arg6.IsWhole) (arg7 : Memref sig .tc .vmem S1x1x1024x1024 .bf16) (harg7 : arg7.IsWhole) (arg8 : Memref sig .tc .vmem S1024x2048 .bf16) (harg8 : arg8.IsWhole) (T0 : (S36.Idx → Elt Ideal .i32)) (T1 : (S36.Idx → Elt Ideal .i32))
     (x0 : (S16x128x1024.Idx → Elt Ideal .bf16)) (x1 : (S4x1024x128.Idx → Elt Ideal .bf16)) (x2 : (S4x144x1024.Idx → Elt Ideal .bf16)) (x3 : (S1x1x1024x1024.Idx → Elt Ideal .bf16)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (k0_h2 : ¬(k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) :
    row scM0_0.view h.val h.isLt (kernelRun0_B c i arg4 harg4 arg5 harg5 arg6 harg6 arg7 harg7 arg8 harg8 T0 T1 x0 x1 x2 x3 hc0 k0_h2).1 = tM (iM h.val h.isLt) (hX arg4 arg5 arg7 x0 x1 x3 h.val h.isLt) := by
  unfold kernelRun0_B
  dsimp only
  exact list0 arg4 arg5 arg7 x0 x1 x3 h

theorem list1 (h : Fin 16) : row scM0_1.view h.val h.isLt (w1 (HS1_17 arg4 arg5 arg6 arg7 x0 x1 x2 x3)) = tL (iM h.val h.isLt) (hX arg4 arg5 arg7 x0 x1 x3 h.val h.isLt) (hS arg4 arg5 arg7 x0 x1 x3 h.val h.isLt) (hV arg6 x2 h.val h.isLt) (iL h.val h.isLt) := by
  obtain ⟨h, hh⟩ := h
  interval_cases h
  · exact list1_0 arg4 arg5 arg6 arg7 x0 x1 x2 x3
  · exact list1_1 arg4 arg5 arg6 arg7 x0 x1 x2 x3
  · exact list1_2 arg4 arg5 arg6 arg7 x0 x1 x2 x3
  · exact list1_3 arg4 arg5 arg6 arg7 x0 x1 x2 x3
  · exact list1_4 arg4 arg5 arg6 arg7 x0 x1 x2 x3
  · exact list1_5 arg4 arg5 arg6 arg7 x0 x1 x2 x3
  · exact list1_6 arg4 arg5 arg6 arg7 x0 x1 x2 x3
  · exact list1_7 arg4 arg5 arg6 arg7 x0 x1 x2 x3
  · exact list1_8 arg4 arg5 arg6 arg7 x0 x1 x2 x3
  · exact list1_9 arg4 arg5 arg6 arg7 x0 x1 x2 x3
  · exact list1_10 arg4 arg5 arg6 arg7 x0 x1 x2 x3
  · exact list1_11 arg4 arg5 arg6 arg7 x0 x1 x2 x3
  · exact list1_12 arg4 arg5 arg6 arg7 x0 x1 x2 x3
  · exact list1_13 arg4 arg5 arg6 arg7 x0 x1 x2 x3
  · exact list1_14 arg4 arg5 arg6 arg7 x0 x1 x2 x3
  · exact list1_15 arg4 arg5 arg6 arg7 x0 x1 x2 x3

theorem den (h : Fin 16) (c : Dev nD) (i : grid0.Coords) (arg4 : Memref sig .tc .vmem S16x128x1024 .bf16) (harg4 : arg4.IsWhole) (arg5 : Memref sig .tc .vmem S4x1024x128 .bf16) (harg5 : arg5.IsWhole) (arg6 : Memref sig .tc .vmem S4x144x1024 .bf16) (harg6 : arg6.IsWhole) (arg7 : Memref sig .tc .vmem S1x1x1024x1024 .bf16) (harg7 : arg7.IsWhole) (arg8 : Memref sig .tc .vmem S1024x2048 .bf16) (harg8 : arg8.IsWhole) (T0 : (S36.Idx → Elt Ideal .i32)) (T1 : (S36.Idx → Elt Ideal .i32))
     (x0 : (S16x128x1024.Idx → Elt Ideal .bf16)) (x1 : (S4x1024x128.Idx → Elt Ideal .bf16)) (x2 : (S4x144x1024.Idx → Elt Ideal .bf16)) (x3 : (S1x1x1024x1024.Idx → Elt Ideal .bf16)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (k0_h2 : ¬(k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) :
    row scM0_1.view h.val h.isLt (kernelRun0_B c i arg4 harg4 arg5 harg5 arg6 harg6 arg7 harg7 arg8 harg8 T0 T1 x0 x1 x2 x3 hc0 k0_h2).2.1 = tL (iM h.val h.isLt) (hX arg4 arg5 arg7 x0 x1 x3 h.val h.isLt) (hS arg4 arg5 arg7 x0 x1 x3 h.val h.isLt) (hV arg6 x2 h.val h.isLt) (iL h.val h.isLt) := by
  unfold kernelRun0_B
  dsimp only
  exact list1 arg4 arg5 arg6 arg7 x0 x1 x2 x3 h

theorem list2 (h : Fin 16) : row scM0_2.view h.val h.isLt (w2 (HS2_17 arg4 arg5 arg6 arg7 x0 x1 x2 x3)) = tA (iM h.val h.isLt) (hX arg4 arg5 arg7 x0 x1 x3 h.val h.isLt) (hS arg4 arg5 arg7 x0 x1 x3 h.val h.isLt) (hV arg6 x2 h.val h.isLt) (iA h.val h.isLt) := by
  obtain ⟨h, hh⟩ := h
  interval_cases h
  · exact list2_0 arg4 arg5 arg6 arg7 x0 x1 x2 x3
  · exact list2_1 arg4 arg5 arg6 arg7 x0 x1 x2 x3
  · exact list2_2 arg4 arg5 arg6 arg7 x0 x1 x2 x3
  · exact list2_3 arg4 arg5 arg6 arg7 x0 x1 x2 x3
  · exact list2_4 arg4 arg5 arg6 arg7 x0 x1 x2 x3
  · exact list2_5 arg4 arg5 arg6 arg7 x0 x1 x2 x3
  · exact list2_6 arg4 arg5 arg6 arg7 x0 x1 x2 x3
  · exact list2_7 arg4 arg5 arg6 arg7 x0 x1 x2 x3
  · exact list2_8 arg4 arg5 arg6 arg7 x0 x1 x2 x3
  · exact list2_9 arg4 arg5 arg6 arg7 x0 x1 x2 x3
  · exact list2_10 arg4 arg5 arg6 arg7 x0 x1 x2 x3
  · exact list2_11 arg4 arg5 arg6 arg7 x0 x1 x2 x3
  · exact list2_12 arg4 arg5 arg6 arg7 x0 x1 x2 x3
  · exact list2_13 arg4 arg5 arg6 arg7 x0 x1 x2 x3
  · exact list2_14 arg4 arg5 arg6 arg7 x0 x1 x2 x3
  · exact list2_15 arg4 arg5 arg6 arg7 x0 x1 x2 x3

theorem num (h : Fin 16) (c : Dev nD) (i : grid0.Coords) (arg4 : Memref sig .tc .vmem S16x128x1024 .bf16) (harg4 : arg4.IsWhole) (arg5 : Memref sig .tc .vmem S4x1024x128 .bf16) (harg5 : arg5.IsWhole) (arg6 : Memref sig .tc .vmem S4x144x1024 .bf16) (harg6 : arg6.IsWhole) (arg7 : Memref sig .tc .vmem S1x1x1024x1024 .bf16) (harg7 : arg7.IsWhole) (arg8 : Memref sig .tc .vmem S1024x2048 .bf16) (harg8 : arg8.IsWhole) (T0 : (S36.Idx → Elt Ideal .i32)) (T1 : (S36.Idx → Elt Ideal .i32))
     (x0 : (S16x128x1024.Idx → Elt Ideal .bf16)) (x1 : (S4x1024x128.Idx → Elt Ideal .bf16)) (x2 : (S4x144x1024.Idx → Elt Ideal .bf16)) (x3 : (S1x1x1024x1024.Idx → Elt Ideal .bf16)) (hc0 : (Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1) (k0_h2 : ¬(k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) :
    row scM0_2.view h.val h.isLt (kernelRun0_B c i arg4 harg4 arg5 harg5 arg6 harg6 arg7 harg7 arg8 harg8 T0 T1 x0 x1 x2 x3 hc0 k0_h2).2.2.1 = tA (iM h.val h.isLt) (hX arg4 arg5 arg7 x0 x1 x3 h.val h.isLt) (hS arg4 arg5 arg7 x0 x1 x3 h.val h.isLt) (hV arg6 x2 h.val h.isLt) (iA h.val h.isLt) := by
  unfold kernelRun0_B
  dsimp only
  exact list2 arg4 arg5 arg6 arg7 x0 x1 x2 x3 h

end Cert.AttnIdeal.Leg.PB

end
-- ==== Proof.AttnPC.lean ====
module

public import proofs.«01_k».proof.Proof.AttnTile

@[expose] public section

set_option maxRecDepth 16384

noncomputable section

namespace Cert.AttnIdeal.Leg.PC

open Cert.AttnIdeal Cert.AttnIdeal.Gen Idealize.ShloMosaic Idealize.ShloMosaic.TcCoe
open Idealize.SL Idealize.SL.RA Idealize.SL.BI Idealize.SL.Sem Idealize.ShloMosaic.Pipeline

open Cert.AttnIdeal.Gen.kernelRun0_C.sl

variable (c : Dev nD) (arg4 : Memref sig .tc .vmem S16x128x1024 .bf16) (arg5 : Memref sig .tc .vmem S4x1024x128 .bf16) (arg6 : Memref sig .tc .vmem S4x144x1024 .bf16) (arg7 : Memref sig .tc .vmem S1x1x1024x1024 .bf16) (x0 : S16x128x1024.Idx → Elt Ideal .bf16) (x1 : S4x1024x128.Idx → Elt Ideal .bf16) (x2 : S4x144x1024.Idx → Elt Ideal .bf16) (x3 : S1x1x1024x1024.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))

theorem bias : (v40 arg7 x3) = bB arg7 x3 := by
  unfold v40 HS7_1
  exact View.readCov_full _ _ _ _ _

theorem mx0 : (v184 arg4 arg5 arg7 x0 x1 x3) = hX arg4 arg5 arg7 x0 x1 x3 0 (by decide) := by
  unfold v184 HS5_1
  refine (View.readCov_full _ _ _ _ _).trans ((tX50 _ _ _).trans (tX_of rfl rfl (bias arg7 x3)))

theorem sc0 : (v189 arg4 arg5 arg7 x0 x1 x3) = hS arg4 arg5 arg7 x0 x1 x3 0 (by decide) := by
  unfold v189 HS3_1
  refine (View.readCov_full _ _ _ _ _).trans ((tS49 _ _ _).trans (tS_of rfl rfl (bias arg7 x3)))

theorem list0_0 : row scM0_0.view 0 (by decide) (w0 (HS0_16 c arg4 arg5 arg7 x0 x1 x3 xa0)) = tM (row scM0_0.view 0 (by decide) xa0) (hX arg4 arg5 arg7 x0 x1 x3 0 (by decide)) := by
  unfold HS0_16
  refine (rs_skip 0 15 _ _ _ _ _ _ (by decide)).trans ?_
  refine (rs_skip 0 14 _ _ _ _ _ _ (by decide)).trans ?_
  refine (rs_skip 0 13 _ _ _ _ _ _ (by decide)).trans ?_
  refine (rs_skip 0 12 _ _ _ _ _ _ (by decide)).trans ?_
  refine (rs_skip 0 11 _ _ _ _ _ _ (by decide)).trans ?_
  refine (rs_skip 0 10 _ _ _ _ _ _ (by decide)).trans ?_
  refine (rs_skip 0 9 _ _ _ _ _ _ (by decide)).trans ?_
  refine (rs_skip 0 8 _ _ _ _ _ _ (by decide)).trans ?_
  refine (rs_skip 0 7 _ _ _ _ _ _ (by decide)).trans ?_
  refine (rs_skip 0 6 _ _ _ _ _ _ (by decide)).trans ?_
  refine (rs_skip 0 5 _ _ _ _ _ _ (by decide)).trans ?_
  refine (rs_skip 0 4 _ _ _ _ _ _ (by decide)).trans ?_
  refine (rs_skip 0 3 _ _ _ _ _ _ (by decide)).trans ?_
  refine (rs_skip 0 2 _ _ _ _ _ _ (by decide)).trans ?_
  refine (rs_skip 0 1 _ _ _ _ _ _ (by decide)).trans ?_
  refine (rs_hit 0 _ _ _ _ _ _).trans ?_
  exact Eq.trans (b := tM (v182 c xa0) (v184 arg4 arg5 arg7 x0 x1 x3)) rfl (tM_of2 rfl (mx0 arg4 arg5 arg7 x0 x1 x3))

theorem list1_0 : row scM0_1.view 0 (by decide) (w1 (HS1_16 c arg4 arg5 arg6 arg7 x0 x1 x2 x3 xa0 xa1)) = tL (row scM0_0.view 0 (by decide) xa0) (hX arg4 arg5 arg7 x0 x1 x3 0 (by decide)) (hS arg4 arg5 arg7 x0 x1 x3 0 (by decide)) (hV arg6 x2 0 (by decide)) (row scM0_1.view 0 (by decide) xa1) := by
  unfold HS1_16
  refine (rs_skip 0 15 _ _ _ _ _ _ (by decide)).trans ?_
  refine (rs_skip 0 14 _ _ _ _ _ _ (by decide)).trans ?_
  refine (rs_skip 0 13 _ _ _ _ _ _ (by decide)).trans ?_
  refine (rs_skip 0 12 _ _ _ _ _ _ (by decide)).trans ?_
  refine (rs_skip 0 11 _ _ _ _ _ _ (by decide)).trans ?_
  refine (rs_skip 0 10 _ _ _ _ _ _ (by decide)).trans ?_
  refine (rs_skip 0 9 _ _ _ _ _ _ (by decide)).trans ?_
  refine (rs_skip 0 8 _ _ _ _ _ _ (by decide)).trans ?_
  refine (rs_skip 0 7 _ _ _ _ _ _ (by decide)).trans ?_
  refine (rs_skip 0 6 _ _ _ _ _ _ (by decide)).trans ?_
  refine (rs_skip 0 5 _ _ _ _ _ _ (by decide)).trans ?_
  refine (rs_skip 0 4 _ _ _ _ _ _ (by decide)).trans ?_
  refine (rs_skip 0 3 _ _ _ _ _ _ (by decide)).trans ?_
  refine (rs_skip 0 2 _ _ _ _ _ _ (by decide)).trans ?_
  refine (rs_skip 0 1 _ _ _ _ _ _ (by decide)).trans ?_
  refine (rs_hit 0 _ _ _ _ _ _).trans ?_
  exact Eq.trans (b := tL (v182 c xa0) (v184 arg4 arg5 arg7 x0 x1 x3) (v189 arg4 arg5 arg7 x0 x1 x3) (hV arg6 x2 0 (by decide)) (v217 c xa1)) rfl (tL_of rfl (mx0 arg4 arg5 arg7 x0 x1 x3) (sc0 arg4 arg5 arg7 x0 x1 x3) rfl)

theorem list2_0 : row scM0_2.view 0 (by decide) (w2 (HS2_16 c arg4 arg5 arg6 arg7 x0 x1 x2 x3 xa0 xa2)) = tA (row scM0_0.view 0 (by decide) xa0) (hX arg4 arg5 arg7 x0 x1 x3 0 (by decide)) (hS arg4 arg5 arg7 x0 x1 x3 0 (by decide)) (hV arg6 x2 0 (by decide)) (row scM0_2.view 0 (by decide) xa2) := by
  unfold HS2_16
  refine (ra_skip 0 15 _ _ _ _ _ _ (by decide)).trans ?_
  refine (ra_skip 0 14 _ _ _ _ _ _ (by decide)).trans ?_
  refine (ra_skip 0 13 _ _ _ _ _ _ (by decide)).trans ?_
  refine (ra_skip 0 12 _ _ _ _ _ _ (by decide)).trans ?_
  refine (ra_skip 0 11 _ _ _ _ _ _ (by decide)).trans ?_
  refine (ra_skip 0 10 _ _ _ _ _ _ (by decide)).trans ?_
  refine (ra_skip 0 9 _ _ _ _ _ _ (by decide)).trans ?_
  refine (ra_skip 0 8 _ _ _ _ _ _ (by decide)).trans ?_
  refine (ra_skip 0 7 _ _ _ _ _ _ (by decide)).trans ?_
  refine (ra_skip 0 6 _ _ _ _ _ _ (by decide)).trans ?_
  refine (ra_skip 0 5 _ _ _ _ _ _ (by decide)).trans ?_
  refine (ra_skip 0 4 _ _ _ _ _ _ (by decide)).trans ?_
  refine (ra_skip 0 3 _ _ _ _ _ _ (by decide)).trans ?_
  refine (ra_skip 0 2 _ _ _ _ _ _ (by decide)).trans ?_
  refine (ra_skip 0 1 _ _ _ _ _ _ (by decide)).trans ?_
  refine (ra_hit 0 _ _ _ _ _ _).trans ?_
  exact Eq.trans (b := tA (v182 c xa0) (v184 arg4 arg5 arg7 x0 x1 x3) (v189 arg4 arg5 arg7 x0 x1 x3) (hV arg6 x2 0 (by decide)) (v227 c xa2)) rfl (tA_of rfl (mx0 arg4 arg5 arg7 x0 x1 x3) (sc0 arg4 arg5 arg7 x0 x1 x3) rfl)

theorem mx1 : (v284 arg4 arg5 arg7 x0 x1 x3) = hX arg4 arg5 arg7 x0 x1 x3 1 (by decide) := by
  unfold v284 HS6_1
  refine (View.readCov_full _ _ _ _ _).trans ((tX10 _ _ _).trans (tX_of rfl rfl (bias arg7 x3)))

theorem sc1 : (v289 arg4 arg5 arg7 x0 x1 x3) = hS arg4 arg5 arg7 x0 x1 x3 1 (by decide) := by
  unfold v289 HS4_1
  refine (View.readCov_full _ _ _ _ _).trans ((tS8 _ _ _).trans (tS_of rfl rfl (bias arg7 x3)))

theorem list0_1 : row scM0_0.view 1 (by decide) (w0 (HS0_16 c arg4 arg5 arg7 x0 x1 x3 xa0)) = tM (row scM0_0.view 1 (by decide) xa0) (hX arg4 arg5 arg7 x0 x1 x3 1 (by decide)) := by
  unfold HS0_16
  refine (rs_skip 1 15 _ _ _ _ _ _ (by decide)).trans ?_
  refine (rs_skip 1 14 _ _ _ _ _ _ (by decide)).trans ?_
  refine (rs_skip 1 13 _ _ _ _ _ _ (by decide)).trans ?_
  refine (rs_skip 1 12 _ _ _ _ _ _ (by decide)).trans ?_
  refine (rs_skip 1 11 _ _ _ _ _ _ (by decide)).trans ?_
  refine (rs_skip 1 10 _ _ _ _ _ _ (by decide)).trans ?_
  refine (rs_skip 1 9 _ _ _ _ _ _ (by decide)).trans ?_
  refine (rs_skip 1 8 _ _ _ _ _ _ (by decide)).trans ?_
  refine (rs_skip 1 7 _ _ _ _ _ _ (by decide)).trans ?_
  refine (rs_skip 1 6 _ _ _ _ _ _ (by decide)).trans ?_
  refine (rs_skip 1 5 _ _ _ _ _ _ (by decide)).trans ?_
  refine (rs_skip 1 4 _ _ _ _ _ _ (by decide)).trans ?_
  refine (rs_skip 1 3 _ _ _ _ _ _ (by decide)).trans ?_
  refine (rs_skip 1 2 _ _ _ _ _ _ (by decide)).trans ?_
  refine (rs_hit 1 _ _ _ _ _ _).trans ?_
  exact Eq.trans (b := tM (v282 c xa0) (v284 arg4 arg5 arg7 x0 x1 x3)) rfl (tM_of2 rfl (mx1 arg4 arg5 arg7 x0 x1 x3))

theorem list1_1 : row scM0_1.view 1 (by decide) (w1 (HS1_16 c arg4 arg5 arg6 arg7 x0 x1 x2 x3 xa0 xa1)) = tL (row scM0_0.view 1 (by decide) xa0) (hX arg4 arg5 arg7 x0 x1 x3 1 (by decide)) (hS arg4 arg5 arg7 x0 x1 x3 1 (by decide)) (hV arg6 x2 1 (by decide)) (row scM0_1.view 1 (by decide) xa1) := by
  unfold HS1_16
  refine (rs_skip 1 15 _ _ _ _ _ _ (by decide)).trans ?_
  refine (rs_skip 1 14 _ _ _ _ _ _ (by decide)).trans ?_
  refine (rs_skip 1 13 _ _ _ _ _ _ (by decide)).trans ?_
  refine (rs_skip 1 12 _ _ _ _ _ _ (by decide)).trans ?_
  refine (rs_skip 1 11 _ _ _ _ _ _ (by decide)).trans ?_
  refine (rs_skip 1 10 _ _ _ _ _ _ (by decide)).trans ?_
  refine (rs_skip 1 9 _ _ _ _ _ _ (by decide)).trans ?_
  refine (rs_skip 1 8 _ _ _ _ _ _ (by decide)).trans ?_
  refine (rs_skip 1 7 _ _ _ _ _ _ (by decide)).trans ?_
  refine (rs_skip 1 6 _ _ _ _ _ _ (by decide)).trans ?_
  refine (rs_skip 1 5 _ _ _ _ _ _ (by decide)).trans ?_
  refine (rs_skip 1 4 _ _ _ _ _ _ (by decide)).trans ?_
  refine (rs_skip 1 3 _ _ _ _ _ _ (by decide)).trans ?_
  refine (rs_skip 1 2 _ _ _ _ _ _ (by decide)).trans ?_
  refine (rs_hit 1 _ _ _ _ _ _).trans ?_
  exact Eq.trans (b := tL (v282 c xa0) (v284 arg4 arg5 arg7 x0 x1 x3) (v289 arg4 arg5 arg7 x0 x1 x3) (hV arg6 x2 1 (by decide)) (v317 c xa1)) rfl (tL_of rfl (mx1 arg4 arg5 arg7 x0 x1 x3) (sc1 arg4 arg5 arg7 x0 x1 x3) rfl)

theorem list2_1 : row scM0_2.view 1 (by decide) (w2 (HS2_16 c arg4 arg5 arg6 arg7 x0 x1 x2 x3 xa0 xa2)) = tA (row scM0_0.view 1 (by decide) xa0) (hX arg4 arg5 arg7 x0 x1 x3 1 (by decide)) (hS arg4 arg5 arg7 x0 x1 x3 1 (by decide)) (hV arg6 x2 1 (by decide)) (row scM0_2.view 1 (by decide) xa2) := by
  unfold HS2_16
  refine (ra_skip 1 15 _ _ _ _ _ _ (by decide)).trans ?_
  refine (ra_skip 1 14 _ _ _ _ _ _ (by decide)).trans ?_
  refine (ra_skip 1 13 _ _ _ _ _ _ (by decide)).trans ?_
  refine (ra_skip 1 12 _ _ _ _ _ _ (by decide)).trans ?_
  refine (ra_skip 1 11 _ _ _ _ _ _ (by decide)).trans ?_
  refine (ra_skip 1 10 _ _ _ _ _ _ (by decide)).trans ?_
  refine (ra_skip 1 9 _ _ _ _ _ _ (by decide)).trans ?_
  refine (ra_skip 1 8 _ _ _ _ _ _ (by decide)).trans ?_
  refine (ra_skip 1 7 _ _ _ _ _ _ (by decide)).trans ?_
  refine (ra_skip 1 6 _ _ _ _ _ _ (by decide)).trans ?_
  refine (ra_skip 1 5 _ _ _ _ _ _ (by decide)).trans ?_
  refine (ra_skip 1 4 _ _ _ _ _ _ (by decide)).trans ?_
  refine (ra_skip 1 3 _ _ _ _ _ _ (by decide)).trans ?_
  refine (ra_skip 1 2 _ _ _ _ _ _ (by decide)).trans ?_
  refine (ra_hit 1 _ _ _ _ _ _).trans ?_
  exact Eq.trans (b := tA (v282 c xa0) (v284 arg4 arg5 arg7 x0 x1 x3) (v289 arg4 arg5 arg7 x0 x1 x3) (hV arg6 x2 1 (by decide)) (v327 c xa2)) rfl (tA_of rfl (mx1 arg4 arg5 arg7 x0 x1 x3) (sc1 arg4 arg5 arg7 x0 x1 x3) rfl)

theorem mx2 : (v184_1 arg4 arg5 arg7 x0 x1 x3) = hX arg4 arg5 arg7 x0 x1 x3 2 (by decide) := by
  unfold v184_1 HS5_2
  refine (View.readCov_full _ _ _ _ _).trans ((tX21 _ _ _).trans (tX_of rfl rfl (bias arg7 x3)))

theorem sc2 : (v189_1 arg4 arg5 arg7 x0 x1 x3) = hS arg4 arg5 arg7 x0 x1 x3 2 (by decide) := by
  unfold v189_1 HS3_2
  refine (View.readCov_full _ _ _ _ _).trans ((tS20 _ _ _).trans (tS_of rfl rfl (bias arg7 x3)))

theorem list0_2 : row scM0_0.view 2 (by decide) (w0 (HS0_16 c arg4 arg5 arg7 x0 x1 x3 xa0)) = tM (row scM0_0.view 2 (by decide) xa0) (hX arg4 arg5 arg7 x0 x1 x3 2 (by decide)) := by
  unfold HS0_16
  refine (rs_skip 2 15 _ _ _ _ _ _ (by decide)).trans ?_
  refine (rs_skip 2 14 _ _ _ _ _ _ (by decide)).trans ?_
  refine (rs_skip 2 13 _ _ _ _ _ _ (by decide)).trans ?_
  refine (rs_skip 2 12 _ _ _ _ _ _ (by decide)).trans ?_
  refine (rs_skip 2 11 _ _ _ _ _ _ (by decide)).trans ?_
  refine (rs_skip 2 10 _ _ _ _ _ _ (by decide)).trans ?_
  refine (rs_skip 2 9 _ _ _ _ _ _ (by decide)).trans ?_
  refine (rs_skip 2 8 _ _ _ _ _ _ (by decide)).trans ?_
  refine (rs_skip 2 7 _ _ _ _ _ _ (by decide)).trans ?_
  refine (rs_skip 2 6 _ _ _ _ _ _ (by decide)).trans ?_
  refine (rs_skip 2 5 _ _ _ _ _ _ (by decide)).trans ?_
  refine (rs_skip 2 4 _ _ _ _ _ _ (by decide)).trans ?_
  refine (rs_skip 2 3 _ _ _ _ _ _ (by decide)).trans ?_
  refine (rs_hit 2 _ _ _ _ _ _).trans ?_
  exact Eq.trans (b := tM (v182_1 c xa0) (v184_1 arg4 arg5 arg7 x0 x1 x3)) rfl (tM_of2 rfl (mx2 arg4 arg5 arg7 x0 x1 x3))

theorem list1_2 : row scM0_1.view 2 (by decide) (w1 (HS1_16 c arg4 arg5 arg6 arg7 x0 x1 x2 x3 xa0 xa1)) = tL (row scM0_0.view 2 (by decide) xa0) (hX arg4 arg5 arg7 x0 x1 x3 2 (by decide)) (hS arg4 arg5 arg7 x0 x1 x3 2 (by decide)) (hV arg6 x2 2 (by decide)) (row scM0_1.view 2 (by decide) xa1) := by
  unfold HS1_16
  refine (rs_skip 2 15 _ _ _ _ _ _ (by decide)).trans ?_
  refine (rs_skip 2 14 _ _ _ _ _ _ (by decide)).trans ?_
  refine (rs_skip 2 13 _ _ _ _ _ _ (by decide)).trans ?_
  refine (rs_skip 2 12 _ _ _ _ _ _ (by decide)).trans ?_
  refine (rs_skip 2 11 _ _ _ _ _ _ (by decide)).trans ?_
  refine (rs_skip 2 10 _ _ _ _ _ _ (by decide)).trans ?_
  refine (rs_skip 2 9 _ _ _ _ _ _ (by decide)).trans ?_
  refine (rs_skip 2 8 _ _ _ _ _ _ (by decide)).trans ?_
  refine (rs_skip 2 7 _ _ _ _ _ _ (by decide)).trans ?_
  refine (rs_skip 2 6 _ _ _ _ _ _ (by decide)).trans ?_
  refine (rs_skip 2 5 _ _ _ _ _ _ (by decide)).trans ?_
  refine (rs_skip 2 4 _ _ _ _ _ _ (by decide)).trans ?_
  refine (rs_skip 2 3 _ _ _ _ _ _ (by decide)).trans ?_
  refine (rs_hit 2 _ _ _ _ _ _).trans ?_
  exact Eq.trans (b := tL (v182_1 c xa0) (v184_1 arg4 arg5 arg7 x0 x1 x3) (v189_1 arg4 arg5 arg7 x0 x1 x3) (hV arg6 x2 2 (by decide)) (v217_1 c xa1)) rfl (tL_of rfl (mx2 arg4 arg5 arg7 x0 x1 x3) (sc2 arg4 arg5 arg7 x0 x1 x3) rfl)

theorem list2_2 : row scM0_2.view 2 (by decide) (w2 (HS2_16 c arg4 arg5 arg6 arg7 x0 x1 x2 x3 xa0 xa2)) = tA (row scM0_0.view 2 (by decide) xa0) (hX arg4 arg5 arg7 x0 x1 x3 2 (by decide)) (hS arg4 arg5 arg7 x0 x1 x3 2 (by decide)) (hV arg6 x2 2 (by decide)) (row scM0_2.view 2 (by decide) xa2) := by
  unfold HS2_16
  refine (ra_skip 2 15 _ _ _ _ _ _ (by decide)).trans ?_
  refine (ra_skip 2 14 _ _ _ _ _ _ (by decide)).trans ?_
  refine (ra_skip 2 13 _ _ _ _ _ _ (by decide)).trans ?_
  refine (ra_skip 2 12 _ _ _ _ _ _ (by decide)).trans ?_
  refine (ra_skip 2 11 _ _ _ _ _ _ (by decide)).trans ?_
  refine (ra_skip 2 10 _ _ _ _ _ _ (by decide)).trans ?_
  refine (ra_skip 2 9 _ _ _ _ _ _ (by decide)).trans ?_
  refine (ra_skip 2 8 _ _ _ _ _ _ (by decide)).trans ?_
  refine (ra_skip 2 7 _ _ _ _ _ _ (by decide)).trans ?_
  refine (ra_skip 2 6 _ _ _ _ _ _ (by decide)).trans ?_
  refine (ra_skip 2 5 _ _ _ _ _ _ (by decide)).trans ?_
  refine (ra_skip 2 4 _ _ _ _ _ _ (by decide)).trans ?_
  refine (ra_skip 2 3 _ _ _ _ _ _ (by decide)).trans ?_
  refine (ra_hit 2 _ _ _ _ _ _).trans ?_
  exact Eq.trans (b := tA (v182_1 c xa0) (v184_1 arg4 arg5 arg7 x0 x1 x3) (v189_1 arg4 arg5 arg7 x0 x1 x3) (hV arg6 x2 2 (by decide)) (v227_1 c xa2)) rfl (tA_of rfl (mx2 arg4 arg5 arg7 x0 x1 x3) (sc2 arg4 arg5 arg7 x0 x1 x3) rfl)

theorem mx3 : (v284_1 arg4 arg5 arg7 x0 x1 x3) = hX arg4 arg5 arg7 x0 x1 x3 3 (by decide) := by
  unfold v284_1 HS6_2
  refine (View.readCov_full _ _ _ _ _).trans ((tX10 _ _ _).trans (tX_of rfl rfl (bias arg7 x3)))

theorem sc3 : (v289_1 arg4 arg5 arg7 x0 x1 x3) = hS arg4 arg5 arg7 x0 x1 x3 3 (by decide) := by
  unfold v289_1 HS4_2
  refine (View.readCov_full _ _ _ _ _).trans ((tS8 _ _ _).trans (tS_of rfl rfl (bias arg7 x3)))

theorem list0_3 : row scM0_0.view 3 (by decide) (w0 (HS0_16 c arg4 arg5 arg7 x0 x1 x3 xa0)) = tM (row scM0_0.view 3 (by decide) xa0) (hX arg4 arg5 arg7 x0 x1 x3 3 (by decide)) := by
  unfold HS0_16
  refine (rs_skip 3 15 _ _ _ _ _ _ (by decide)).trans ?_
  refine (rs_skip 3 14 _ _ _ _ _ _ (by decide)).trans ?_
  refine (rs_skip 3 13 _ _ _ _ _ _ (by decide)).trans ?_
  refine (rs_skip 3 12 _ _ _ _ _ _ (by decide)).trans ?_
  refine (rs_skip 3 11 _ _ _ _ _ _ (by decide)).trans ?_
  refine (rs_skip 3 10 _ _ _ _ _ _ (by decide)).trans ?_
  refine (rs_skip 3 9 _ _ _ _ _ _ (by decide)).trans ?_
  refine (rs_skip 3 8 _ _ _ _ _ _ (by decide)).trans ?_
  refine (rs_skip 3 7 _ _ _ _ _ _ (by decide)).trans ?_
  refine (rs_skip 3 6 _ _ _ _ _ _ (by decide)).trans ?_
  refine (rs_skip 3 5 _ _ _ _ _ _ (by decide)).trans ?_
  refine (rs_skip 3 4 _ _ _ _ _ _ (by decide)).trans ?_
  refine (rs_hit 3 _ _ _ _ _ _).trans ?_
  exact Eq.trans (b := tM (v282_1 c xa0) (v284_1 arg4 arg5 arg7 x0 x1 x3)) rfl (tM_of2 rfl (mx3 arg4 arg5 arg7 x0 x1 x3))

theorem list1_3 : row scM0_1.view 3 (by decide) (w1 (HS1_16 c arg4 arg5 arg6 arg7 x0 x1 x2 x3 xa0 xa1)) = tL (row scM0_0.view 3 (by decide) xa0) (hX arg4 arg5 arg7 x0 x1 x3 3 (by decide)) (hS arg4 arg5 arg7 x0 x1 x3 3 (by decide)) (hV arg6 x2 3 (by decide)) (row scM0_1.view 3 (by decide) xa1) := by
  unfold HS1_16
  refine (rs_skip 3 15 _ _ _ _ _ _ (by decide)).trans ?_
  refine (rs_skip 3 14 _ _ _ _ _ _ (by decide)).trans ?_
  refine (rs_skip 3 13 _ _ _ _ _ _ (by decide)).trans ?_
  refine (rs_skip 3 12 _ _ _ _ _ _ (by decide)).trans ?_
  refine (rs_skip 3 11 _ _ _ _ _ _ (by decide)).trans ?_
  refine (rs_skip 3 10 _ _ _ _ _ _ (by decide)).trans ?_
  refine (rs_skip 3 9 _ _ _ _ _ _ (by decide)).trans ?_
  refine (rs_skip 3 8 _ _ _ _ _ _ (by decide)).trans ?_
  refine (rs_skip 3 7 _ _ _ _ _ _ (by decide)).trans ?_
  refine (rs_skip 3 6 _ _ _ _ _ _ (by decide)).trans ?_
  refine (rs_skip 3 5 _ _ _ _ _ _ (by decide)).trans ?_
  refine (rs_skip 3 4 _ _ _ _ _ _ (by decide)).trans ?_
  refine (rs_hit 3 _ _ _ _ _ _).trans ?_
  exact Eq.trans (b := tL (v282_1 c xa0) (v284_1 arg4 arg5 arg7 x0 x1 x3) (v289_1 arg4 arg5 arg7 x0 x1 x3) (hV arg6 x2 3 (by decide)) (v317_1 c xa1)) rfl (tL_of rfl (mx3 arg4 arg5 arg7 x0 x1 x3) (sc3 arg4 arg5 arg7 x0 x1 x3) rfl)

theorem list2_3 : row scM0_2.view 3 (by decide) (w2 (HS2_16 c arg4 arg5 arg6 arg7 x0 x1 x2 x3 xa0 xa2)) = tA (row scM0_0.view 3 (by decide) xa0) (hX arg4 arg5 arg7 x0 x1 x3 3 (by decide)) (hS arg4 arg5 arg7 x0 x1 x3 3 (by decide)) (hV arg6 x2 3 (by decide)) (row scM0_2.view 3 (by decide) xa2) := by
  unfold HS2_16
  refine (ra_skip 3 15 _ _ _ _ _ _ (by decide)).trans ?_
  refine (ra_skip 3 14 _ _ _ _ _ _ (by decide)).trans ?_
  refine (ra_skip 3 13 _ _ _ _ _ _ (by decide)).trans ?_
  refine (ra_skip 3 12 _ _ _ _ _ _ (by decide)).trans ?_
  refine (ra_skip 3 11 _ _ _ _ _ _ (by decide)).trans ?_
  refine (ra_skip 3 10 _ _ _ _ _ _ (by decide)).trans ?_
  refine (ra_skip 3 9 _ _ _ _ _ _ (by decide)).trans ?_
  refine (ra_skip 3 8 _ _ _ _ _ _ (by decide)).trans ?_
  refine (ra_skip 3 7 _ _ _ _ _ _ (by decide)).trans ?_
  refine (ra_skip 3 6 _ _ _ _ _ _ (by decide)).trans ?_
  refine (ra_skip 3 5 _ _ _ _ _ _ (by decide)).trans ?_
  refine (ra_skip 3 4 _ _ _ _ _ _ (by decide)).trans ?_
  refine (ra_hit 3 _ _ _ _ _ _).trans ?_
  exact Eq.trans (b := tA (v282_1 c xa0) (v284_1 arg4 arg5 arg7 x0 x1 x3) (v289_1 arg4 arg5 arg7 x0 x1 x3) (hV arg6 x2 3 (by decide)) (v327_1 c xa2)) rfl (tA_of rfl (mx3 arg4 arg5 arg7 x0 x1 x3) (sc3 arg4 arg5 arg7 x0 x1 x3) rfl)

theorem mx4 : (v184_2 arg4 arg5 arg7 x0 x1 x3) = hX arg4 arg5 arg7 x0 x1 x3 4 (by decide) := by
  unfold v184_2 HS5_3
  refine (View.readCov_full _ _ _ _ _).trans ((tX21 _ _ _).trans (tX_of rfl rfl (bias arg7 x3)))

theorem sc4 : (v189_2 arg4 arg5 arg7 x0 x1 x3) = hS arg4 arg5 arg7 x0 x1 x3 4 (by decide) := by
  unfold v189_2 HS3_3
  refine (View.readCov_full _ _ _ _ _).trans ((tS20 _ _ _).trans (tS_of rfl rfl (bias arg7 x3)))

theorem list0_4 : row scM0_0.view 4 (by decide) (w0 (HS0_16 c arg4 arg5 arg7 x0 x1 x3 xa0)) = tM (row scM0_0.view 4 (by decide) xa0) (hX arg4 arg5 arg7 x0 x1 x3 4 (by decide)) := by
  unfold HS0_16
  refine (rs_skip 4 15 _ _ _ _ _ _ (by decide)).trans ?_
  refine (rs_skip 4 14 _ _ _ _ _ _ (by decide)).trans ?_
  refine (rs_skip 4 13 _ _ _ _ _ _ (by decide)).trans ?_
  refine (rs_skip 4 12 _ _ _ _ _ _ (by decide)).trans ?_
  refine (rs_skip 4 11 _ _ _ _ _ _ (by decide)).trans ?_
  refine (rs_skip 4 10 _ _ _ _ _ _ (by decide)).trans ?_
  refine (rs_skip 4 9 _ _ _ _ _ _ (by decide)).trans ?_
  refine (rs_skip 4 8 _ _ _ _ _ _ (by decide)).trans ?_
  refine (rs_skip 4 7 _ _ _ _ _ _ (by decide)).trans ?_
  refine (rs_skip 4 6 _ _ _ _ _ _ (by decide)).trans ?_
  refine (rs_skip 4 5 _ _ _ _ _ _ (by decide)).trans ?_
  refine (rs_hit 4 _ _ _ _ _ _).trans ?_
  exact Eq.trans (b := tM (v182_2 c xa0) (v184_2 arg4 arg5 arg7 x0 x1 x3)) rfl (tM_of2 rfl (mx4 arg4 arg5 arg7 x0 x1 x3))

theorem list1_4 : row scM0_1.view 4 (by decide) (w1 (HS1_16 c arg4 arg5 arg6 arg7 x0 x1 x2 x3 xa0 xa1)) = tL (row scM0_0.view 4 (by decide) xa0) (hX arg4 arg5 arg7 x0 x1 x3 4 (by decide)) (hS arg4 arg5 arg7 x0 x1 x3 4 (by decide)) (hV arg6 x2 4 (by decide)) (row scM0_1.view 4 (by decide) xa1) := by
  unfold HS1_16
  refine (rs_skip 4 15 _ _ _ _ _ _ (by decide)).trans ?_
  refine (rs_skip 4 14 _ _ _ _ _ _ (by decide)).trans ?_
  refine (rs_skip 4 13 _ _ _ _ _ _ (by decide)).trans ?_
  refine (rs_skip 4 12 _ _ _ _ _ _ (by decide)).trans ?_
  refine (rs_skip 4 11 _ _ _ _ _ _ (by decide)).trans ?_
  refine (rs_skip 4 10 _ _ _ _ _ _ (by decide)).trans ?_
  refine (rs_skip 4 9 _ _ _ _ _ _ (by decide)).trans ?_
  refine (rs_skip 4 8 _ _ _ _ _ _ (by decide)).trans ?_
  refine (rs_skip 4 7 _ _ _ _ _ _ (by decide)).trans ?_
  refine (rs_skip 4 6 _ _ _ _ _ _ (by decide)).trans ?_
  refine (rs_skip 4 5 _ _ _ _ _ _ (by decide)).trans ?_
  refine (rs_hit 4 _ _ _ _ _ _).trans ?_
  exact Eq.trans (b := tL (v182_2 c xa0) (v184_2 arg4 arg5 arg7 x0 x1 x3) (v189_2 arg4 arg5 arg7 x0 x1 x3) (hV arg6 x2 4 (by decide)) (v217_2 c xa1)) rfl (tL_of rfl (mx4 arg4 arg5 arg7 x0 x1 x3) (sc4 arg4 arg5 arg7 x0 x1 x3) rfl)

theorem list2_4 : row scM0_2.view 4 (by decide) (w2 (HS2_16 c arg4 arg5 arg6 arg7 x0 x1 x2 x3 xa0 xa2)) = tA (row scM0_0.view 4 (by decide) xa0) (hX arg4 arg5 arg7 x0 x1 x3 4 (by decide)) (hS arg4 arg5 arg7 x0 x1 x3 4 (by decide)) (hV arg6 x2 4 (by decide)) (row scM0_2.view 4 (by decide) xa2) := by
  unfold HS2_16
  refine (ra_skip 4 15 _ _ _ _ _ _ (by decide)).trans ?_
  refine (ra_skip 4 14 _ _ _ _ _ _ (by decide)).trans ?_
  refine (ra_skip 4 13 _ _ _ _ _ _ (by decide)).trans ?_
  refine (ra_skip 4 12 _ _ _ _ _ _ (by decide)).trans ?_
  refine (ra_skip 4 11 _ _ _ _ _ _ (by decide)).trans ?_
  refine (ra_skip 4 10 _ _ _ _ _ _ (by decide)).trans ?_
  refine (ra_skip 4 9 _ _ _ _ _ _ (by decide)).trans ?_
  refine (ra_skip 4 8 _ _ _ _ _ _ (by decide)).trans ?_
  refine (ra_skip 4 7 _ _ _ _ _ _ (by decide)).trans ?_
  refine (ra_skip 4 6 _ _ _ _ _ _ (by decide)).trans ?_
  refine (ra_skip 4 5 _ _ _ _ _ _ (by decide)).trans ?_
  refine (ra_hit 4 _ _ _ _ _ _).trans ?_
  exact Eq.trans (b := tA (v182_2 c xa0) (v184_2 arg4 arg5 arg7 x0 x1 x3) (v189_2 arg4 arg5 arg7 x0 x1 x3) (hV arg6 x2 4 (by decide)) (v227_2 c xa2)) rfl (tA_of rfl (mx4 arg4 arg5 arg7 x0 x1 x3) (sc4 arg4 arg5 arg7 x0 x1 x3) rfl)

theorem mx5 : (v284_2 arg4 arg5 arg7 x0 x1 x3) = hX arg4 arg5 arg7 x0 x1 x3 5 (by decide) := by
  unfold v284_2 HS6_3
  refine (View.readCov_full _ _ _ _ _).trans ((tX10 _ _ _).trans (tX_of rfl rfl (bias arg7 x3)))

theorem sc5 : (v289_2 arg4 arg5 arg7 x0 x1 x3) = hS arg4 arg5 arg7 x0 x1 x3 5 (by decide) := by
  unfold v289_2 HS4_3
  refine (View.readCov_full _ _ _ _ _).trans ((tS8 _ _ _).trans (tS_of rfl rfl (bias arg7 x3)))

theorem list0_5 : row scM0_0.view 5 (by decide) (w0 (HS0_16 c arg4 arg5 arg7 x0 x1 x3 xa0)) = tM (row scM0_0.view 5 (by decide) xa0) (hX arg4 arg5 arg7 x0 x1 x3 5 (by decide)) := by
  unfold HS0_16
  refine (rs_skip 5 15 _ _ _ _ _ _ (by decide)).trans ?_
  refine (rs_skip 5 14 _ _ _ _ _ _ (by decide)).trans ?_
  refine (rs_skip 5 13 _ _ _ _ _ _ (by decide)).trans ?_
  refine (rs_skip 5 12 _ _ _ _ _ _ (by decide)).trans ?_
  refine (rs_skip 5 11 _ _ _ _ _ _ (by decide)).trans ?_
  refine (rs_skip 5 10 _ _ _ _ _ _ (by decide)).trans ?_
  refine (rs_skip 5 9 _ _ _ _ _ _ (by decide)).trans ?_
  refine (rs_skip 5 8 _ _ _ _ _ _ (by decide)).trans ?_
  refine (rs_skip 5 7 _ _ _ _ _ _ (by decide)).trans ?_
  refine (rs_skip 5 6 _ _ _ _ _ _ (by decide)).trans ?_
  refine (rs_hit 5 _ _ _ _ _ _).trans ?_
  exact Eq.trans (b := tM (v282_2 c xa0) (v284_2 arg4 arg5 arg7 x0 x1 x3)) rfl (tM_of2 rfl (mx5 arg4 arg5 arg7 x0 x1 x3))

theorem list1_5 : row scM0_1.view 5 (by decide) (w1 (HS1_16 c arg4 arg5 arg6 arg7 x0 x1 x2 x3 xa0 xa1)) = tL (row scM0_0.view 5 (by decide) xa0) (hX arg4 arg5 arg7 x0 x1 x3 5 (by decide)) (hS arg4 arg5 arg7 x0 x1 x3 5 (by decide)) (hV arg6 x2 5 (by decide)) (row scM0_1.view 5 (by decide) xa1) := by
  unfold HS1_16
  refine (rs_skip 5 15 _ _ _ _ _ _ (by decide)).trans ?_
  refine (rs_skip 5 14 _ _ _ _ _ _ (by decide)).trans ?_
  refine (rs_skip 5 13 _ _ _ _ _ _ (by decide)).trans ?_
  refine (rs_skip 5 12 _ _ _ _ _ _ (by decide)).trans ?_
  refine (rs_skip 5 11 _ _ _ _ _ _ (by decide)).trans ?_
  refine (rs_skip 5 10 _ _ _ _ _ _ (by decide)).trans ?_
  refine (rs_skip 5 9 _ _ _ _ _ _ (by decide)).trans ?_
  refine (rs_skip 5 8 _ _ _ _ _ _ (by decide)).trans ?_
  refine (rs_skip 5 7 _ _ _ _ _ _ (by decide)).trans ?_
  refine (rs_skip 5 6 _ _ _ _ _ _ (by decide)).trans ?_
  refine (rs_hit 5 _ _ _ _ _ _).trans ?_
  exact Eq.trans (b := tL (v282_2 c xa0) (v284_2 arg4 arg5 arg7 x0 x1 x3) (v289_2 arg4 arg5 arg7 x0 x1 x3) (hV arg6 x2 5 (by decide)) (v317_2 c xa1)) rfl (tL_of rfl (mx5 arg4 arg5 arg7 x0 x1 x3) (sc5 arg4 arg5 arg7 x0 x1 x3) rfl)

theorem list2_5 : row scM0_2.view 5 (by decide) (w2 (HS2_16 c arg4 arg5 arg6 arg7 x0 x1 x2 x3 xa0 xa2)) = tA (row scM0_0.view 5 (by decide) xa0) (hX arg4 arg5 arg7 x0 x1 x3 5 (by decide)) (hS arg4 arg5 arg7 x0 x1 x3 5 (by decide)) (hV arg6 x2 5 (by decide)) (row scM0_2.view 5 (by decide) xa2) := by
  unfold HS2_16
  refine (ra_skip 5 15 _ _ _ _ _ _ (by decide)).trans ?_
  refine (ra_skip 5 14 _ _ _ _ _ _ (by decide)).trans ?_
  refine (ra_skip 5 13 _ _ _ _ _ _ (by decide)).trans ?_
  refine (ra_skip 5 12 _ _ _ _ _ _ (by decide)).trans ?_
  refine (ra_skip 5 11 _ _ _ _ _ _ (by decide)).trans ?_
  refine (ra_skip 5 10 _ _ _ _ _ _ (by decide)).trans ?_
  refine (ra_skip 5 9 _ _ _ _ _ _ (by decide)).trans ?_
  refine (ra_skip 5 8 _ _ _ _ _ _ (by decide)).trans ?_
  refine (ra_skip 5 7 _ _ _ _ _ _ (by decide)).trans ?_
  refine (ra_skip 5 6 _ _ _ _ _ _ (by decide)).trans ?_
  refine (ra_hit 5 _ _ _ _ _ _).trans ?_
  exact Eq.trans (b := tA (v282_2 c xa0) (v284_2 arg4 arg5 arg7 x0 x1 x3) (v289_2 arg4 arg5 arg7 x0 x1 x3) (hV arg6 x2 5 (by decide)) (v327_2 c xa2)) rfl (tA_of rfl (mx5 arg4 arg5 arg7 x0 x1 x3) (sc5 arg4 arg5 arg7 x0 x1 x3) rfl)

theorem mx6 : (v184_3 arg4 arg5 arg7 x0 x1 x3) = hX arg4 arg5 arg7 x0 x1 x3 6 (by decide) := by
  unfold v184_3 HS5_4
  refine (View.readCov_full _ _ _ _ _).trans ((tX21 _ _ _).trans (tX_of rfl rfl (bias arg7 x3)))

theorem sc6 : (v189_3 arg4 arg5 arg7 x0 x1 x3) = hS arg4 arg5 arg7 x0 x1 x3 6 (by decide) := by
  unfold v189_3 HS3_4
  refine (View.readCov_full _ _ _ _ _).trans ((tS20 _ _ _).trans (tS_of rfl rfl (bias arg7 x3)))

theorem list0_6 : row scM0_0.view 6 (by decide) (w0 (HS0_16 c arg4 arg5 arg7 x0 x1 x3 xa0)) = tM (row scM0_0.view 6 (by decide) xa0) (hX arg4 arg5 arg7 x0 x1 x3 6 (by decide)) := by
  unfold HS0_16
  refine (rs_skip 6 15 _ _ _ _ _ _ (by decide)).trans ?_
  refine (rs_skip 6 14 _ _ _ _ _ _ (by decide)).trans ?_
  refine (rs_skip 6 13 _ _ _ _ _ _ (by decide)).trans ?_
  refine (rs_skip 6 12 _ _ _ _ _ _ (by decide)).trans ?_
  refine (rs_skip 6 11 _ _ _ _ _ _ (by decide)).trans ?_
  refine (rs_skip 6 10 _ _ _ _ _ _ (by decide)).trans ?_
  refine (rs_skip 6 9 _ _ _ _ _ _ (by decide)).trans ?_
  refine (rs_skip 6 8 _ _ _ _ _ _ (by decide)).trans ?_
  refine (rs_skip 6 7 _ _ _ _ _ _ (by decide)).trans ?_
  refine (rs_hit 6 _ _ _ _ _ _).trans ?_
  exact Eq.trans (b := tM (v182_3 c xa0) (v184_3 arg4 arg5 arg7 x0 x1 x3)) rfl (tM_of2 rfl (mx6 arg4 arg5 arg7 x0 x1 x3))

theorem list1_6 : row scM0_1.view 6 (by decide) (w1 (HS1_16 c arg4 arg5 arg6 arg7 x0 x1 x2 x3 xa0 xa1)) = tL (row scM0_0.view 6 (by decide) xa0) (hX arg4 arg5 arg7 x0 x1 x3 6 (by decide)) (hS arg4 arg5 arg7 x0 x1 x3 6 (by decide)) (hV arg6 x2 6 (by decide)) (row scM0_1.view 6 (by decide) xa1) := by
  unfold HS1_16
  refine (rs_skip 6 15 _ _ _ _ _ _ (by decide)).trans ?_
  refine (rs_skip 6 14 _ _ _ _ _ _ (by decide)).trans ?_
  refine (rs_skip 6 13 _ _ _ _ _ _ (by decide)).trans ?_
  refine (rs_skip 6 12 _ _ _ _ _ _ (by decide)).trans ?_
  refine (rs_skip 6 11 _ _ _ _ _ _ (by decide)).trans ?_
  refine (rs_skip 6 10 _ _ _ _ _ _ (by decide)).trans ?_
  refine (rs_skip 6 9 _ _ _ _ _ _ (by decide)).trans ?_
  refine (rs_skip 6 8 _ _ _ _ _ _ (by decide)).trans ?_
  refine (rs_skip 6 7 _ _ _ _ _ _ (by decide)).trans ?_
  refine (rs_hit 6 _ _ _ _ _ _).trans ?_
  exact Eq.trans (b := tL (v182_3 c xa0) (v184_3 arg4 arg5 arg7 x0 x1 x3) (v189_3 arg4 arg5 arg7 x0 x1 x3) (hV arg6 x2 6 (by decide)) (v217_3 c xa1)) rfl (tL_of rfl (mx6 arg4 arg5 arg7 x0 x1 x3) (sc6 arg4 arg5 arg7 x0 x1 x3) rfl)

theorem list2_6 : row scM0_2.view 6 (by decide) (w2 (HS2_16 c arg4 arg5 arg6 arg7 x0 x1 x2 x3 xa0 xa2)) = tA (row scM0_0.view 6 (by decide) xa0) (hX arg4 arg5 arg7 x0 x1 x3 6 (by decide)) (hS arg4 arg5 arg7 x0 x1 x3 6 (by decide)) (hV arg6 x2 6 (by decide)) (row scM0_2.view 6 (by decide) xa2) := by
  unfold HS2_16
  refine (ra_skip 6 15 _ _ _ _ _ _ (by decide)).trans ?_
  refine (ra_skip 6 14 _ _ _ _ _ _ (by decide)).trans ?_
  refine (ra_skip 6 13 _ _ _ _ _ _ (by decide)).trans ?_
  refine (ra_skip 6 12 _ _ _ _ _ _ (by decide)).trans ?_
  refine (ra_skip 6 11 _ _ _ _ _ _ (by decide)).trans ?_
  refine (ra_skip 6 10 _ _ _ _ _ _ (by decide)).trans ?_
  refine (ra_skip 6 9 _ _ _ _ _ _ (by decide)).trans ?_
  refine (ra_skip 6 8 _ _ _ _ _ _ (by decide)).trans ?_
  refine (ra_skip 6 7 _ _ _ _ _ _ (by decide)).trans ?_
  refine (ra_hit 6 _ _ _ _ _ _).trans ?_
  exact Eq.trans (b := tA (v182_3 c xa0) (v184_3 arg4 arg5 arg7 x0 x1 x3) (v189_3 arg4 arg5 arg7 x0 x1 x3) (hV arg6 x2 6 (by decide)) (v227_3 c xa2)) rfl (tA_of rfl (mx6 arg4 arg5 arg7 x0 x1 x3) (sc6 arg4 arg5 arg7 x0 x1 x3) rfl)

theorem mx7 : (v284_3 arg4 arg5 arg7 x0 x1 x3) = hX arg4 arg5 arg7 x0 x1 x3 7 (by decide) := by
  unfold v284_3 HS6_4
  refine (View.readCov_full _ _ _ _ _).trans ((tX10 _ _ _).trans (tX_of rfl rfl (bias arg7 x3)))

theorem sc7 : (v289_3 arg4 arg5 arg7 x0 x1 x3) = hS arg4 arg5 arg7 x0 x1 x3 7 (by decide) := by
  unfold v289_3 HS4_4
  refine (View.readCov_full _ _ _ _ _).trans ((tS8 _ _ _).trans (tS_of rfl rfl (bias arg7 x3)))

theorem list0_7 : row scM0_0.view 7 (by decide) (w0 (HS0_16 c arg4 arg5 arg7 x0 x1 x3 xa0)) = tM (row scM0_0.view 7 (by decide) xa0) (hX arg4 arg5 arg7 x0 x1 x3 7 (by decide)) := by
  unfold HS0_16
  refine (rs_skip 7 15 _ _ _ _ _ _ (by decide)).trans ?_
  refine (rs_skip 7 14 _ _ _ _ _ _ (by decide)).trans ?_
  refine (rs_skip 7 13 _ _ _ _ _ _ (by decide)).trans ?_
  refine (rs_skip 7 12 _ _ _ _ _ _ (by decide)).trans ?_
  refine (rs_skip 7 11 _ _ _ _ _ _ (by decide)).trans ?_
  refine (rs_skip 7 10 _ _ _ _ _ _ (by decide)).trans ?_
  refine (rs_skip 7 9 _ _ _ _ _ _ (by decide)).trans ?_
  refine (rs_skip 7 8 _ _ _ _ _ _ (by decide)).trans ?_
  refine (rs_hit 7 _ _ _ _ _ _).trans ?_
  exact Eq.trans (b := tM (v282_3 c xa0) (v284_3 arg4 arg5 arg7 x0 x1 x3)) rfl (tM_of2 rfl (mx7 arg4 arg5 arg7 x0 x1 x3))

theorem list1_7 : row scM0_1.view 7 (by decide) (w1 (HS1_16 c arg4 arg5 arg6 arg7 x0 x1 x2 x3 xa0 xa1)) = tL (row scM0_0.view 7 (by decide) xa0) (hX arg4 arg5 arg7 x0 x1 x3 7 (by decide)) (hS arg4 arg5 arg7 x0 x1 x3 7 (by decide)) (hV arg6 x2 7 (by decide)) (row scM0_1.view 7 (by decide) xa1) := by
  unfold HS1_16
  refine (rs_skip 7 15 _ _ _ _ _ _ (by decide)).trans ?_
  refine (rs_skip 7 14 _ _ _ _ _ _ (by decide)).trans ?_
  refine (rs_skip 7 13 _ _ _ _ _ _ (by decide)).trans ?_
  refine (rs_skip 7 12 _ _ _ _ _ _ (by decide)).trans ?_
  refine (rs_skip 7 11 _ _ _ _ _ _ (by decide)).trans ?_
  refine (rs_skip 7 10 _ _ _ _ _ _ (by decide)).trans ?_
  refine (rs_skip 7 9 _ _ _ _ _ _ (by decide)).trans ?_
  refine (rs_skip 7 8 _ _ _ _ _ _ (by decide)).trans ?_
  refine (rs_hit 7 _ _ _ _ _ _).trans ?_
  exact Eq.trans (b := tL (v282_3 c xa0) (v284_3 arg4 arg5 arg7 x0 x1 x3) (v289_3 arg4 arg5 arg7 x0 x1 x3) (hV arg6 x2 7 (by decide)) (v317_3 c xa1)) rfl (tL_of rfl (mx7 arg4 arg5 arg7 x0 x1 x3) (sc7 arg4 arg5 arg7 x0 x1 x3) rfl)

theorem list2_7 : row scM0_2.view 7 (by decide) (w2 (HS2_16 c arg4 arg5 arg6 arg7 x0 x1 x2 x3 xa0 xa2)) = tA (row scM0_0.view 7 (by decide) xa0) (hX arg4 arg5 arg7 x0 x1 x3 7 (by decide)) (hS arg4 arg5 arg7 x0 x1 x3 7 (by decide)) (hV arg6 x2 7 (by decide)) (row scM0_2.view 7 (by decide) xa2) := by
  unfold HS2_16
  refine (ra_skip 7 15 _ _ _ _ _ _ (by decide)).trans ?_
  refine (ra_skip 7 14 _ _ _ _ _ _ (by decide)).trans ?_
  refine (ra_skip 7 13 _ _ _ _ _ _ (by decide)).trans ?_
  refine (ra_skip 7 12 _ _ _ _ _ _ (by decide)).trans ?_
  refine (ra_skip 7 11 _ _ _ _ _ _ (by decide)).trans ?_
  refine (ra_skip 7 10 _ _ _ _ _ _ (by decide)).trans ?_
  refine (ra_skip 7 9 _ _ _ _ _ _ (by decide)).trans ?_
  refine (ra_skip 7 8 _ _ _ _ _ _ (by decide)).trans ?_
  refine (ra_hit 7 _ _ _ _ _ _).trans ?_
  exact Eq.trans (b := tA (v282_3 c xa0) (v284_3 arg4 arg5 arg7 x0 x1 x3) (v289_3 arg4 arg5 arg7 x0 x1 x3) (hV arg6 x2 7 (by decide)) (v327_3 c xa2)) rfl (tA_of rfl (mx7 arg4 arg5 arg7 x0 x1 x3) (sc7 arg4 arg5 arg7 x0 x1 x3) rfl)

theorem mx8 : (v184_4 arg4 arg5 arg7 x0 x1 x3) = hX arg4 arg5 arg7 x0 x1 x3 8 (by decide) := by
  unfold v184_4 HS5_5
  refine (View.readCov_full _ _ _ _ _).trans ((tX21 _ _ _).trans (tX_of rfl rfl (bias arg7 x3)))

theorem sc8 : (v189_4 arg4 arg5 arg7 x0 x1 x3) = hS arg4 arg5 arg7 x0 x1 x3 8 (by decide) := by
  unfold v189_4 HS3_5
  refine (View.readCov_full _ _ _ _ _).trans ((tS20 _ _ _).trans (tS_of rfl rfl (bias arg7 x3)))

theorem list0_8 : row scM0_0.view 8 (by decide) (w0 (HS0_16 c arg4 arg5 arg7 x0 x1 x3 xa0)) = tM (row scM0_0.view 8 (by decide) xa0) (hX arg4 arg5 arg7 x0 x1 x3 8 (by decide)) := by
  unfold HS0_16
  refine (rs_skip 8 15 _ _ _ _ _ _ (by decide)).trans ?_
  refine (rs_skip 8 14 _ _ _ _ _ _ (by decide)).trans ?_
  refine (rs_skip 8 13 _ _ _ _ _ _ (by decide)).trans ?_
  refine (rs_skip 8 12 _ _ _ _ _ _ (by decide)).trans ?_
  refine (rs_skip 8 11 _ _ _ _ _ _ (by decide)).trans ?_
  refine (rs_skip 8 10 _ _ _ _ _ _ (by decide)).trans ?_
  refine (rs_skip 8 9 _ _ _ _ _ _ (by decide)).trans ?_
  refine (rs_hit 8 _ _ _ _ _ _).trans ?_
  exact Eq.trans (b := tM (v182_4 c xa0) (v184_4 arg4 arg5 arg7 x0 x1 x3)) rfl (tM_of2 rfl (mx8 arg4 arg5 arg7 x0 x1 x3))

theorem list1_8 : row scM0_1.view 8 (by decide) (w1 (HS1_16 c arg4 arg5 arg6 arg7 x0 x1 x2 x3 xa0 xa1)) = tL (row scM0_0.view 8 (by decide) xa0) (hX arg4 arg5 arg7 x0 x1 x3 8 (by decide)) (hS arg4 arg5 arg7 x0 x1 x3 8 (by decide)) (hV arg6 x2 8 (by decide)) (row scM0_1.view 8 (by decide) xa1) := by
  unfold HS1_16
  refine (rs_skip 8 15 _ _ _ _ _ _ (by decide)).trans ?_
  refine (rs_skip 8 14 _ _ _ _ _ _ (by decide)).trans ?_
  refine (rs_skip 8 13 _ _ _ _ _ _ (by decide)).trans ?_
  refine (rs_skip 8 12 _ _ _ _ _ _ (by decide)).trans ?_
  refine (rs_skip 8 11 _ _ _ _ _ _ (by decide)).trans ?_
  refine (rs_skip 8 10 _ _ _ _ _ _ (by decide)).trans ?_
  refine (rs_skip 8 9 _ _ _ _ _ _ (by decide)).trans ?_
  refine (rs_hit 8 _ _ _ _ _ _).trans ?_
  exact Eq.trans (b := tL (v182_4 c xa0) (v184_4 arg4 arg5 arg7 x0 x1 x3) (v189_4 arg4 arg5 arg7 x0 x1 x3) (hV arg6 x2 8 (by decide)) (v217_4 c xa1)) rfl (tL_of rfl (mx8 arg4 arg5 arg7 x0 x1 x3) (sc8 arg4 arg5 arg7 x0 x1 x3) rfl)

theorem list2_8 : row scM0_2.view 8 (by decide) (w2 (HS2_16 c arg4 arg5 arg6 arg7 x0 x1 x2 x3 xa0 xa2)) = tA (row scM0_0.view 8 (by decide) xa0) (hX arg4 arg5 arg7 x0 x1 x3 8 (by decide)) (hS arg4 arg5 arg7 x0 x1 x3 8 (by decide)) (hV arg6 x2 8 (by decide)) (row scM0_2.view 8 (by decide) xa2) := by
  unfold HS2_16
  refine (ra_skip 8 15 _ _ _ _ _ _ (by decide)).trans ?_
  refine (ra_skip 8 14 _ _ _ _ _ _ (by decide)).trans ?_
  refine (ra_skip 8 13 _ _ _ _ _ _ (by decide)).trans ?_
  refine (ra_skip 8 12 _ _ _ _ _ _ (by decide)).trans ?_
  refine (ra_skip 8 11 _ _ _ _ _ _ (by decide)).trans ?_
  refine (ra_skip 8 10 _ _ _ _ _ _ (by decide)).trans ?_
  refine (ra_skip 8 9 _ _ _ _ _ _ (by decide)).trans ?_
  refine (ra_hit 8 _ _ _ _ _ _).trans ?_
  exact Eq.trans (b := tA (v182_4 c xa0) (v184_4 arg4 arg5 arg7 x0 x1 x3) (v189_4 arg4 arg5 arg7 x0 x1 x3) (hV arg6 x2 8 (by decide)) (v227_4 c xa2)) rfl (tA_of rfl (mx8 arg4 arg5 arg7 x0 x1 x3) (sc8 arg4 arg5 arg7 x0 x1 x3) rfl)

theorem mx9 : (v284_4 arg4 arg5 arg7 x0 x1 x3) = hX arg4 arg5 arg7 x0 x1 x3 9 (by decide) := by
  unfold v284_4 HS6_5
  refine (View.readCov_full _ _ _ _ _).trans ((tX10 _ _ _).trans (tX_of rfl rfl (bias arg7 x3)))

theorem sc9 : (v289_4 arg4 arg5 arg7 x0 x1 x3) = hS arg4 arg5 arg7 x0 x1 x3 9 (by decide) := by
  unfold v289_4 HS4_5
  refine (View.readCov_full _ _ _ _ _).trans ((tS8 _ _ _).trans (tS_of rfl rfl (bias arg7 x3)))

theorem list0_9 : row scM0_0.view 9 (by decide) (w0 (HS0_16 c arg4 arg5 arg7 x0 x1 x3 xa0)) = tM (row scM0_0.view 9 (by decide) xa0) (hX arg4 arg5 arg7 x0 x1 x3 9 (by decide)) := by
  unfold HS0_16
  refine (rs_skip 9 15 _ _ _ _ _ _ (by decide)).trans ?_
  refine (rs_skip 9 14 _ _ _ _ _ _ (by decide)).trans ?_
  refine (rs_skip 9 13 _ _ _ _ _ _ (by decide)).trans ?_
  refine (rs_skip 9 12 _ _ _ _ _ _ (by decide)).trans ?_
  refine (rs_skip 9 11 _ _ _ _ _ _ (by decide)).trans ?_
  refine (rs_skip 9 10 _ _ _ _ _ _ (by decide)).trans ?_
  refine (rs_hit 9 _ _ _ _ _ _).trans ?_
  exact Eq.trans (b := tM (v282_4 c xa0) (v284_4 arg4 arg5 arg7 x0 x1 x3)) rfl (tM_of2 rfl (mx9 arg4 arg5 arg7 x0 x1 x3))

theorem list1_9 : row scM0_1.view 9 (by decide) (w1 (HS1_16 c arg4 arg5 arg6 arg7 x0 x1 x2 x3 xa0 xa1)) = tL (row scM0_0.view 9 (by decide) xa0) (hX arg4 arg5 arg7 x0 x1 x3 9 (by decide)) (hS arg4 arg5 arg7 x0 x1 x3 9 (by decide)) (hV arg6 x2 9 (by decide)) (row scM0_1.view 9 (by decide) xa1) := by
  unfold HS1_16
  refine (rs_skip 9 15 _ _ _ _ _ _ (by decide)).trans ?_
  refine (rs_skip 9 14 _ _ _ _ _ _ (by decide)).trans ?_
  refine (rs_skip 9 13 _ _ _ _ _ _ (by decide)).trans ?_
  refine (rs_skip 9 12 _ _ _ _ _ _ (by decide)).trans ?_
  refine (rs_skip 9 11 _ _ _ _ _ _ (by decide)).trans ?_
  refine (rs_skip 9 10 _ _ _ _ _ _ (by decide)).trans ?_
  refine (rs_hit 9 _ _ _ _ _ _).trans ?_
  exact Eq.trans (b := tL (v282_4 c xa0) (v284_4 arg4 arg5 arg7 x0 x1 x3) (v289_4 arg4 arg5 arg7 x0 x1 x3) (hV arg6 x2 9 (by decide)) (v317_4 c xa1)) rfl (tL_of rfl (mx9 arg4 arg5 arg7 x0 x1 x3) (sc9 arg4 arg5 arg7 x0 x1 x3) rfl)

theorem list2_9 : row scM0_2.view 9 (by decide) (w2 (HS2_16 c arg4 arg5 arg6 arg7 x0 x1 x2 x3 xa0 xa2)) = tA (row scM0_0.view 9 (by decide) xa0) (hX arg4 arg5 arg7 x0 x1 x3 9 (by decide)) (hS arg4 arg5 arg7 x0 x1 x3 9 (by decide)) (hV arg6 x2 9 (by decide)) (row scM0_2.view 9 (by decide) xa2) := by
  unfold HS2_16
  refine (ra_skip 9 15 _ _ _ _ _ _ (by decide)).trans ?_
  refine (ra_skip 9 14 _ _ _ _ _ _ (by decide)).trans ?_
  refine (ra_skip 9 13 _ _ _ _ _ _ (by decide)).trans ?_
  refine (ra_skip 9 12 _ _ _ _ _ _ (by decide)).trans ?_
  refine (ra_skip 9 11 _ _ _ _ _ _ (by decide)).trans ?_
  refine (ra_skip 9 10 _ _ _ _ _ _ (by decide)).trans ?_
  refine (ra_hit 9 _ _ _ _ _ _).trans ?_
  exact Eq.trans (b := tA (v282_4 c xa0) (v284_4 arg4 arg5 arg7 x0 x1 x3) (v289_4 arg4 arg5 arg7 x0 x1 x3) (hV arg6 x2 9 (by decide)) (v327_4 c xa2)) rfl (tA_of rfl (mx9 arg4 arg5 arg7 x0 x1 x3) (sc9 arg4 arg5 arg7 x0 x1 x3) rfl)

theorem mx10 : (v184_5 arg4 arg5 arg7 x0 x1 x3) = hX arg4 arg5 arg7 x0 x1 x3 10 (by decide) := by
  unfold v184_5 HS5_6
  refine (View.readCov_full _ _ _ _ _).trans ((tX21 _ _ _).trans (tX_of rfl rfl (bias arg7 x3)))

theorem sc10 : (v189_5 arg4 arg5 arg7 x0 x1 x3) = hS arg4 arg5 arg7 x0 x1 x3 10 (by decide) := by
  unfold v189_5 HS3_6
  refine (View.readCov_full _ _ _ _ _).trans ((tS20 _ _ _).trans (tS_of rfl rfl (bias arg7 x3)))

theorem list0_10 : row scM0_0.view 10 (by decide) (w0 (HS0_16 c arg4 arg5 arg7 x0 x1 x3 xa0)) = tM (row scM0_0.view 10 (by decide) xa0) (hX arg4 arg5 arg7 x0 x1 x3 10 (by decide)) := by
  unfold HS0_16
  refine (rs_skip 10 15 _ _ _ _ _ _ (by decide)).trans ?_
  refine (rs_skip 10 14 _ _ _ _ _ _ (by decide)).trans ?_
  refine (rs_skip 10 13 _ _ _ _ _ _ (by decide)).trans ?_
  refine (rs_skip 10 12 _ _ _ _ _ _ (by decide)).trans ?_
  refine (rs_skip 10 11 _ _ _ _ _ _ (by decide)).trans ?_
  refine (rs_hit 10 _ _ _ _ _ _).trans ?_
  exact Eq.trans (b := tM (v182_5 c xa0) (v184_5 arg4 arg5 arg7 x0 x1 x3)) rfl (tM_of2 rfl (mx10 arg4 arg5 arg7 x0 x1 x3))

theorem list1_10 : row scM0_1.view 10 (by decide) (w1 (HS1_16 c arg4 arg5 arg6 arg7 x0 x1 x2 x3 xa0 xa1)) = tL (row scM0_0.view 10 (by decide) xa0) (hX arg4 arg5 arg7 x0 x1 x3 10 (by decide)) (hS arg4 arg5 arg7 x0 x1 x3 10 (by decide)) (hV arg6 x2 10 (by decide)) (row scM0_1.view 10 (by decide) xa1) := by
  unfold HS1_16
  refine (rs_skip 10 15 _ _ _ _ _ _ (by decide)).trans ?_
  refine (rs_skip 10 14 _ _ _ _ _ _ (by decide)).trans ?_
  refine (rs_skip 10 13 _ _ _ _ _ _ (by decide)).trans ?_
  refine (rs_skip 10 12 _ _ _ _ _ _ (by decide)).trans ?_
  refine (rs_skip 10 11 _ _ _ _ _ _ (by decide)).trans ?_
  refine (rs_hit 10 _ _ _ _ _ _).trans ?_
  exact Eq.trans (b := tL (v182_5 c xa0) (v184_5 arg4 arg5 arg7 x0 x1 x3) (v189_5 arg4 arg5 arg7 x0 x1 x3) (hV arg6 x2 10 (by decide)) (v217_5 c xa1)) rfl (tL_of rfl (mx10 arg4 arg5 arg7 x0 x1 x3) (sc10 arg4 arg5 arg7 x0 x1 x3) rfl)

theorem list2_10 : row scM0_2.view 10 (by decide) (w2 (HS2_16 c arg4 arg5 arg6 arg7 x0 x1 x2 x3 xa0 xa2)) = tA (row scM0_0.view 10 (by decide) xa0) (hX arg4 arg5 arg7 x0 x1 x3 10 (by decide)) (hS arg4 arg5 arg7 x0 x1 x3 10 (by decide)) (hV arg6 x2 10 (by decide)) (row scM0_2.view 10 (by decide) xa2) := by
  unfold HS2_16
  refine (ra_skip 10 15 _ _ _ _ _ _ (by decide)).trans ?_
  refine (ra_skip 10 14 _ _ _ _ _ _ (by decide)).trans ?_
  refine (ra_skip 10 13 _ _ _ _ _ _ (by decide)).trans ?_
  refine (ra_skip 10 12 _ _ _ _ _ _ (by decide)).trans ?_
  refine (ra_skip 10 11 _ _ _ _ _ _ (by decide)).trans ?_
  refine (ra_hit 10 _ _ _ _ _ _).trans ?_
  exact Eq.trans (b := tA (v182_5 c xa0) (v184_5 arg4 arg5 arg7 x0 x1 x3) (v189_5 arg4 arg5 arg7 x0 x1 x3) (hV arg6 x2 10 (by decide)) (v227_5 c xa2)) rfl (tA_of rfl (mx10 arg4 arg5 arg7 x0 x1 x3) (sc10 arg4 arg5 arg7 x0 x1 x3) rfl)

theorem mx11 : (v284_5 arg4 arg5 arg7 x0 x1 x3) = hX arg4 arg5 arg7 x0 x1 x3 11 (by decide) := by
  unfold v284_5 HS6_6
  refine (View.readCov_full _ _ _ _ _).trans ((tX10 _ _ _).trans (tX_of rfl rfl (bias arg7 x3)))

theorem sc11 : (v289_5 arg4 arg5 arg7 x0 x1 x3) = hS arg4 arg5 arg7 x0 x1 x3 11 (by decide) := by
  unfold v289_5 HS4_6
  refine (View.readCov_full _ _ _ _ _).trans ((tS8 _ _ _).trans (tS_of rfl rfl (bias arg7 x3)))

theorem list0_11 : row scM0_0.view 11 (by decide) (w0 (HS0_16 c arg4 arg5 arg7 x0 x1 x3 xa0)) = tM (row scM0_0.view 11 (by decide) xa0) (hX arg4 arg5 arg7 x0 x1 x3 11 (by decide)) := by
  unfold HS0_16
  refine (rs_skip 11 15 _ _ _ _ _ _ (by decide)).trans ?_
  refine (rs_skip 11 14 _ _ _ _ _ _ (by decide)).trans ?_
  refine (rs_skip 11 13 _ _ _ _ _ _ (by decide)).trans ?_
  refine (rs_skip 11 12 _ _ _ _ _ _ (by decide)).trans ?_
  refine (rs_hit 11 _ _ _ _ _ _).trans ?_
  exact Eq.trans (b := tM (v282_5 c xa0) (v284_5 arg4 arg5 arg7 x0 x1 x3)) rfl (tM_of2 rfl (mx11 arg4 arg5 arg7 x0 x1 x3))

theorem list1_11 : row scM0_1.view 11 (by decide) (w1 (HS1_16 c arg4 arg5 arg6 arg7 x0 x1 x2 x3 xa0 xa1)) = tL (row scM0_0.view 11 (by decide) xa0) (hX arg4 arg5 arg7 x0 x1 x3 11 (by decide)) (hS arg4 arg5 arg7 x0 x1 x3 11 (by decide)) (hV arg6 x2 11 (by decide)) (row scM0_1.view 11 (by decide) xa1) := by
  unfold HS1_16
  refine (rs_skip 11 15 _ _ _ _ _ _ (by decide)).trans ?_
  refine (rs_skip 11 14 _ _ _ _ _ _ (by decide)).trans ?_
  refine (rs_skip 11 13 _ _ _ _ _ _ (by decide)).trans ?_
  refine (rs_skip 11 12 _ _ _ _ _ _ (by decide)).trans ?_
  refine (rs_hit 11 _ _ _ _ _ _).trans ?_
  exact Eq.trans (b := tL (v282_5 c xa0) (v284_5 arg4 arg5 arg7 x0 x1 x3) (v289_5 arg4 arg5 arg7 x0 x1 x3) (hV arg6 x2 11 (by decide)) (v317_5 c xa1)) rfl (tL_of rfl (mx11 arg4 arg5 arg7 x0 x1 x3) (sc11 arg4 arg5 arg7 x0 x1 x3) rfl)

theorem list2_11 : row scM0_2.view 11 (by decide) (w2 (HS2_16 c arg4 arg5 arg6 arg7 x0 x1 x2 x3 xa0 xa2)) = tA (row scM0_0.view 11 (by decide) xa0) (hX arg4 arg5 arg7 x0 x1 x3 11 (by decide)) (hS arg4 arg5 arg7 x0 x1 x3 11 (by decide)) (hV arg6 x2 11 (by decide)) (row scM0_2.view 11 (by decide) xa2) := by
  unfold HS2_16
  refine (ra_skip 11 15 _ _ _ _ _ _ (by decide)).trans ?_
  refine (ra_skip 11 14 _ _ _ _ _ _ (by decide)).trans ?_
  refine (ra_skip 11 13 _ _ _ _ _ _ (by decide)).trans ?_
  refine (ra_skip 11 12 _ _ _ _ _ _ (by decide)).trans ?_
  refine (ra_hit 11 _ _ _ _ _ _).trans ?_
  exact Eq.trans (b := tA (v282_5 c xa0) (v284_5 arg4 arg5 arg7 x0 x1 x3) (v289_5 arg4 arg5 arg7 x0 x1 x3) (hV arg6 x2 11 (by decide)) (v327_5 c xa2)) rfl (tA_of rfl (mx11 arg4 arg5 arg7 x0 x1 x3) (sc11 arg4 arg5 arg7 x0 x1 x3) rfl)

theorem mx12 : (v184_6 arg4 arg5 arg7 x0 x1 x3) = hX arg4 arg5 arg7 x0 x1 x3 12 (by decide) := by
  unfold v184_6 HS5_7
  refine (View.readCov_full _ _ _ _ _).trans ((tX21 _ _ _).trans (tX_of rfl rfl (bias arg7 x3)))

theorem sc12 : (v189_6 arg4 arg5 arg7 x0 x1 x3) = hS arg4 arg5 arg7 x0 x1 x3 12 (by decide) := by
  unfold v189_6 HS3_7
  refine (View.readCov_full _ _ _ _ _).trans ((tS20 _ _ _).trans (tS_of rfl rfl (bias arg7 x3)))

theorem list0_12 : row scM0_0.view 12 (by decide) (w0 (HS0_16 c arg4 arg5 arg7 x0 x1 x3 xa0)) = tM (row scM0_0.view 12 (by decide) xa0) (hX arg4 arg5 arg7 x0 x1 x3 12 (by decide)) := by
  unfold HS0_16
  refine (rs_skip 12 15 _ _ _ _ _ _ (by decide)).trans ?_
  refine (rs_skip 12 14 _ _ _ _ _ _ (by decide)).trans ?_
  refine (rs_skip 12 13 _ _ _ _ _ _ (by decide)).trans ?_
  refine (rs_hit 12 _ _ _ _ _ _).trans ?_
  exact Eq.trans (b := tM (v182_6 c xa0) (v184_6 arg4 arg5 arg7 x0 x1 x3)) rfl (tM_of2 rfl (mx12 arg4 arg5 arg7 x0 x1 x3))

theorem list1_12 : row scM0_1.view 12 (by decide) (w1 (HS1_16 c arg4 arg5 arg6 arg7 x0 x1 x2 x3 xa0 xa1)) = tL (row scM0_0.view 12 (by decide) xa0) (hX arg4 arg5 arg7 x0 x1 x3 12 (by decide)) (hS arg4 arg5 arg7 x0 x1 x3 12 (by decide)) (hV arg6 x2 12 (by decide)) (row scM0_1.view 12 (by decide) xa1) := by
  unfold HS1_16
  refine (rs_skip 12 15 _ _ _ _ _ _ (by decide)).trans ?_
  refine (rs_skip 12 14 _ _ _ _ _ _ (by decide)).trans ?_
  refine (rs_skip 12 13 _ _ _ _ _ _ (by decide)).trans ?_
  refine (rs_hit 12 _ _ _ _ _ _).trans ?_
  exact Eq.trans (b := tL (v182_6 c xa0) (v184_6 arg4 arg5 arg7 x0 x1 x3) (v189_6 arg4 arg5 arg7 x0 x1 x3) (hV arg6 x2 12 (by decide)) (v217_6 c xa1)) rfl (tL_of rfl (mx12 arg4 arg5 arg7 x0 x1 x3) (sc12 arg4 arg5 arg7 x0 x1 x3) rfl)

theorem list2_12 : row scM0_2.view 12 (by decide) (w2 (HS2_16 c arg4 arg5 arg6 arg7 x0 x1 x2 x3 xa0 xa2)) = tA (row scM0_0.view 12 (by decide) xa0) (hX arg4 arg5 arg7 x0 x1 x3 12 (by decide)) (hS arg4 arg5 arg7 x0 x1 x3 12 (by decide)) (hV arg6 x2 12 (by decide)) (row scM0_2.view 12 (by decide) xa2) := by
  unfold HS2_16
  refine (ra_skip 12 15 _ _ _ _ _ _ (by decide)).trans ?_
  refine (ra_skip 12 14 _ _ _ _ _ _ (by decide)).trans ?_
  refine (ra_skip 12 13 _ _ _ _ _ _ (by decide)).trans ?_
  refine (ra_hit 12 _ _ _ _ _ _).trans ?_
  exact Eq.trans (b := tA (v182_6 c xa0) (v184_6 arg4 arg5 arg7 x0 x1 x3) (v189_6 arg4 arg5 arg7 x0 x1 x3) (hV arg6 x2 12 (by decide)) (v227_6 c xa2)) rfl (tA_of rfl (mx12 arg4 arg5 arg7 x0 x1 x3) (sc12 arg4 arg5 arg7 x0 x1 x3) rfl)

theorem mx13 : (v284_6 arg4 arg5 arg7 x0 x1 x3) = hX arg4 arg5 arg7 x0 x1 x3 13 (by decide) := by
  unfold v284_6 HS6_7
  refine (View.readCov_full _ _ _ _ _).trans ((tX10 _ _ _).trans (tX_of rfl rfl (bias arg7 x3)))

theorem sc13 : (v289_6 arg4 arg5 arg7 x0 x1 x3) = hS arg4 arg5 arg7 x0 x1 x3 13 (by decide) := by
  unfold v289_6 HS4_7
  refine (View.readCov_full _ _ _ _ _).trans ((tS8 _ _ _).trans (tS_of rfl rfl (bias arg7 x3)))

theorem list0_13 : row scM0_0.view 13 (by decide) (w0 (HS0_16 c arg4 arg5 arg7 x0 x1 x3 xa0)) = tM (row scM0_0.view 13 (by decide) xa0) (hX arg4 arg5 arg7 x0 x1 x3 13 (by decide)) := by
  unfold HS0_16
  refine (rs_skip 13 15 _ _ _ _ _ _ (by decide)).trans ?_
  refine (rs_skip 13 14 _ _ _ _ _ _ (by decide)).trans ?_
  refine (rs_hit 13 _ _ _ _ _ _).trans ?_
  exact Eq.trans (b := tM (v282_6 c xa0) (v284_6 arg4 arg5 arg7 x0 x1 x3)) rfl (tM_of2 rfl (mx13 arg4 arg5 arg7 x0 x1 x3))

theorem list1_13 : row scM0_1.view 13 (by decide) (w1 (HS1_16 c arg4 arg5 arg6 arg7 x0 x1 x2 x3 xa0 xa1)) = tL (row scM0_0.view 13 (by decide) xa0) (hX arg4 arg5 arg7 x0 x1 x3 13 (by decide)) (hS arg4 arg5 arg7 x0 x1 x3 13 (by decide)) (hV arg6 x2 13 (by decide)) (row scM0_1.view 13 (by decide) xa1) := by
  unfold HS1_16
  refine (rs_skip 13 15 _ _ _ _ _ _ (by decide)).trans ?_
  refine (rs_skip 13 14 _ _ _ _ _ _ (by decide)).trans ?_
  refine (rs_hit 13 _ _ _ _ _ _).trans ?_
  exact Eq.trans (b := tL (v282_6 c xa0) (v284_6 arg4 arg5 arg7 x0 x1 x3) (v289_6 arg4 arg5 arg7 x0 x1 x3) (hV arg6 x2 13 (by decide)) (v317_6 c xa1)) rfl (tL_of rfl (mx13 arg4 arg5 arg7 x0 x1 x3) (sc13 arg4 arg5 arg7 x0 x1 x3) rfl)

theorem list2_13 : row scM0_2.view 13 (by decide) (w2 (HS2_16 c arg4 arg5 arg6 arg7 x0 x1 x2 x3 xa0 xa2)) = tA (row scM0_0.view 13 (by decide) xa0) (hX arg4 arg5 arg7 x0 x1 x3 13 (by decide)) (hS arg4 arg5 arg7 x0 x1 x3 13 (by decide)) (hV arg6 x2 13 (by decide)) (row scM0_2.view 13 (by decide) xa2) := by
  unfold HS2_16
  refine (ra_skip 13 15 _ _ _ _ _ _ (by decide)).trans ?_
  refine (ra_skip 13 14 _ _ _ _ _ _ (by decide)).trans ?_
  refine (ra_hit 13 _ _ _ _ _ _).trans ?_
  exact Eq.trans (b := tA (v282_6 c xa0) (v284_6 arg4 arg5 arg7 x0 x1 x3) (v289_6 arg4 arg5 arg7 x0 x1 x3) (hV arg6 x2 13 (by decide)) (v327_6 c xa2)) rfl (tA_of rfl (mx13 arg4 arg5 arg7 x0 x1 x3) (sc13 arg4 arg5 arg7 x0 x1 x3) rfl)

theorem mx14 : (v68 arg4 arg5 arg7 x0 x1 x3) = hX arg4 arg5 arg7 x0 x1 x3 14 (by decide) := by
  unfold v68 HS5_8
  refine (View.readCov_full _ _ _ _ _).trans ((tX21 _ _ _).trans (tX_of rfl rfl (bias arg7 x3)))

theorem sc14 : (v73 arg4 arg5 arg7 x0 x1 x3) = hS arg4 arg5 arg7 x0 x1 x3 14 (by decide) := by
  unfold v73 HS3_8
  refine (View.readCov_full _ _ _ _ _).trans ((tS20 _ _ _).trans (tS_of rfl rfl (bias arg7 x3)))

theorem list0_14 : row scM0_0.view 14 (by decide) (w0 (HS0_16 c arg4 arg5 arg7 x0 x1 x3 xa0)) = tM (row scM0_0.view 14 (by decide) xa0) (hX arg4 arg5 arg7 x0 x1 x3 14 (by decide)) := by
  unfold HS0_16
  refine (rs_skip 14 15 _ _ _ _ _ _ (by decide)).trans ?_
  refine (rs_hit 14 _ _ _ _ _ _).trans ?_
  exact Eq.trans (b := tM (v66 c xa0) (v68 arg4 arg5 arg7 x0 x1 x3)) rfl (tM_of2 rfl (mx14 arg4 arg5 arg7 x0 x1 x3))

theorem list1_14 : row scM0_1.view 14 (by decide) (w1 (HS1_16 c arg4 arg5 arg6 arg7 x0 x1 x2 x3 xa0 xa1)) = tL (row scM0_0.view 14 (by decide) xa0) (hX arg4 arg5 arg7 x0 x1 x3 14 (by decide)) (hS arg4 arg5 arg7 x0 x1 x3 14 (by decide)) (hV arg6 x2 14 (by decide)) (row scM0_1.view 14 (by decide) xa1) := by
  unfold HS1_16
  refine (rs_skip 14 15 _ _ _ _ _ _ (by decide)).trans ?_
  refine (rs_hit 14 _ _ _ _ _ _).trans ?_
  exact Eq.trans (b := tL (v66 c xa0) (v68 arg4 arg5 arg7 x0 x1 x3) (v73 arg4 arg5 arg7 x0 x1 x3) (hV arg6 x2 14 (by decide)) (v82 c xa1)) rfl (tL_of rfl (mx14 arg4 arg5 arg7 x0 x1 x3) (sc14 arg4 arg5 arg7 x0 x1 x3) rfl)

theorem list2_14 : row scM0_2.view 14 (by decide) (w2 (HS2_16 c arg4 arg5 arg6 arg7 x0 x1 x2 x3 xa0 xa2)) = tA (row scM0_0.view 14 (by decide) xa0) (hX arg4 arg5 arg7 x0 x1 x3 14 (by decide)) (hS arg4 arg5 arg7 x0 x1 x3 14 (by decide)) (hV arg6 x2 14 (by decide)) (row scM0_2.view 14 (by decide) xa2) := by
  unfold HS2_16
  refine (ra_skip 14 15 _ _ _ _ _ _ (by decide)).trans ?_
  refine (ra_hit 14 _ _ _ _ _ _).trans ?_
  exact Eq.trans (b := tA (v66 c xa0) (v68 arg4 arg5 arg7 x0 x1 x3) (v73 arg4 arg5 arg7 x0 x1 x3) (hV arg6 x2 14 (by decide)) (v90 c xa2)) rfl (tA_of rfl (mx14 arg4 arg5 arg7 x0 x1 x3) (sc14 arg4 arg5 arg7 x0 x1 x3) rfl)

theorem mx15 : (v104 arg4 arg5 arg7 x0 x1 x3) = hX arg4 arg5 arg7 x0 x1 x3 15 (by decide) := by
  unfold v104 HS6_8
  refine (View.readCov_full _ _ _ _ _).trans ((tX55 _ _ _).trans (tX_of rfl rfl (bias arg7 x3)))

theorem sc15 : (v109 arg4 arg5 arg7 x0 x1 x3) = hS arg4 arg5 arg7 x0 x1 x3 15 (by decide) := by
  unfold v109 HS4_8
  refine (View.readCov_full _ _ _ _ _).trans ((tS54 _ _ _).trans (tS_of rfl rfl (bias arg7 x3)))

theorem list0_15 : row scM0_0.view 15 (by decide) (w0 (HS0_16 c arg4 arg5 arg7 x0 x1 x3 xa0)) = tM (row scM0_0.view 15 (by decide) xa0) (hX arg4 arg5 arg7 x0 x1 x3 15 (by decide)) := by
  unfold HS0_16
  refine (rs_hit 15 _ _ _ _ _ _).trans ?_
  exact Eq.trans (b := tM (v102 c xa0) (v104 arg4 arg5 arg7 x0 x1 x3)) rfl (tM_of2 rfl (mx15 arg4 arg5 arg7 x0 x1 x3))

theorem list1_15 : row scM0_1.view 15 (by decide) (w1 (HS1_16 c arg4 arg5 arg6 arg7 x0 x1 x2 x3 xa0 xa1)) = tL (row scM0_0.view 15 (by decide) xa0) (hX arg4 arg5 arg7 x0 x1 x3 15 (by decide)) (hS arg4 arg5 arg7 x0 x1 x3 15 (by decide)) (hV arg6 x2 15 (by decide)) (row scM0_1.view 15 (by decide) xa1) := by
  unfold HS1_16
  refine (rs_hit 15 _ _ _ _ _ _).trans ?_
  exact Eq.trans (b := tL (v102 c xa0) (v104 arg4 arg5 arg7 x0 x1 x3) (v109 arg4 arg5 arg7 x0 x1 x3) (hV arg6 x2 15 (by decide)) (v118 c xa1)) rfl (tL_of rfl (mx15 arg4 arg5 arg7 x0 x1 x3) (sc15 arg4 arg5 arg7 x0 x1 x3) rfl)

theorem list2_15 : row scM0_2.view 15 (by decide) (w2 (HS2_16 c arg4 arg5 arg6 arg7 x0 x1 x2 x3 xa0 xa2)) = tA (row scM0_0.view 15 (by decide) xa0) (hX arg4 arg5 arg7 x0 x1 x3 15 (by decide)) (hS arg4 arg5 arg7 x0 x1 x3 15 (by decide)) (hV arg6 x2 15 (by decide)) (row scM0_2.view 15 (by decide) xa2) := by
  unfold HS2_16
  refine (ra_hit 15 _ _ _ _ _ _).trans ?_
  exact Eq.trans (b := tA (v102 c xa0) (v104 arg4 arg5 arg7 x0 x1 x3) (v109 arg4 arg5 arg7 x0 x1 x3) (hV arg6 x2 15 (by decide)) (v126 c xa2)) rfl (tA_of rfl (mx15 arg4 arg5 arg7 x0 x1 x3) (sc15 arg4 arg5 arg7 x0 x1 x3) rfl)

theorem list0 (h : Fin 16) : row scM0_0.view h.val h.isLt (w0 (HS0_16 c arg4 arg5 arg7 x0 x1 x3 xa0)) = tM (row scM0_0.view h.val h.isLt xa0) (hX arg4 arg5 arg7 x0 x1 x3 h.val h.isLt) := by
  obtain ⟨h, hh⟩ := h
  interval_cases h
  · exact list0_0 c arg4 arg5 arg7 x0 x1 x3 xa0
  · exact list0_1 c arg4 arg5 arg7 x0 x1 x3 xa0
  · exact list0_2 c arg4 arg5 arg7 x0 x1 x3 xa0
  · exact list0_3 c arg4 arg5 arg7 x0 x1 x3 xa0
  · exact list0_4 c arg4 arg5 arg7 x0 x1 x3 xa0
  · exact list0_5 c arg4 arg5 arg7 x0 x1 x3 xa0
  · exact list0_6 c arg4 arg5 arg7 x0 x1 x3 xa0
  · exact list0_7 c arg4 arg5 arg7 x0 x1 x3 xa0
  · exact list0_8 c arg4 arg5 arg7 x0 x1 x3 xa0
  · exact list0_9 c arg4 arg5 arg7 x0 x1 x3 xa0
  · exact list0_10 c arg4 arg5 arg7 x0 x1 x3 xa0
  · exact list0_11 c arg4 arg5 arg7 x0 x1 x3 xa0
  · exact list0_12 c arg4 arg5 arg7 x0 x1 x3 xa0
  · exact list0_13 c arg4 arg5 arg7 x0 x1 x3 xa0
  · exact list0_14 c arg4 arg5 arg7 x0 x1 x3 xa0
  · exact list0_15 c arg4 arg5 arg7 x0 x1 x3 xa0

theorem max (h : Fin 16) (c : Dev nD) (i : grid0.Coords) (arg4 : Memref sig .tc .vmem S16x128x1024 .bf16) (harg4 : arg4.IsWhole) (arg5 : Memref sig .tc .vmem S4x1024x128 .bf16) (harg5 : arg5.IsWhole) (arg6 : Memref sig .tc .vmem S4x144x1024 .bf16) (harg6 : arg6.IsWhole) (arg7 : Memref sig .tc .vmem S1x1x1024x1024 .bf16) (harg7 : arg7.IsWhole) (arg8 : Memref sig .tc .vmem S1024x2048 .bf16) (harg8 : arg8.IsWhole) (T0 : (S36.Idx → Elt Ideal .i32)) (T1 : (S36.Idx → Elt Ideal .i32))
     (x0 : (S16x128x1024.Idx → Elt Ideal .bf16)) (x1 : (S4x1024x128.Idx → Elt Ideal .bf16)) (x2 : (S4x144x1024.Idx → Elt Ideal .bf16)) (x3 : (S1x1x1024x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) :
    row scM0_0.view h.val h.isLt (kernelRun0_C c i arg4 harg4 arg5 harg5 arg6 harg6 arg7 harg7 arg8 harg8 T0 T1 x0 x1 x2 x3 xa0 xa1 xa2 hc0 k0_h2).2.1 = tM (row scM0_0.view h.val h.isLt xa0) (hX arg4 arg5 arg7 x0 x1 x3 h.val h.isLt) := by
  unfold kernelRun0_C
  dsimp only
  exact list0 c arg4 arg5 arg7 x0 x1 x3 xa0 h

theorem list1 (h : Fin 16) : row scM0_1.view h.val h.isLt (w1 (HS1_16 c arg4 arg5 arg6 arg7 x0 x1 x2 x3 xa0 xa1)) = tL (row scM0_0.view h.val h.isLt xa0) (hX arg4 arg5 arg7 x0 x1 x3 h.val h.isLt) (hS arg4 arg5 arg7 x0 x1 x3 h.val h.isLt) (hV arg6 x2 h.val h.isLt) (row scM0_1.view h.val h.isLt xa1) := by
  obtain ⟨h, hh⟩ := h
  interval_cases h
  · exact list1_0 c arg4 arg5 arg6 arg7 x0 x1 x2 x3 xa0 xa1
  · exact list1_1 c arg4 arg5 arg6 arg7 x0 x1 x2 x3 xa0 xa1
  · exact list1_2 c arg4 arg5 arg6 arg7 x0 x1 x2 x3 xa0 xa1
  · exact list1_3 c arg4 arg5 arg6 arg7 x0 x1 x2 x3 xa0 xa1
  · exact list1_4 c arg4 arg5 arg6 arg7 x0 x1 x2 x3 xa0 xa1
  · exact list1_5 c arg4 arg5 arg6 arg7 x0 x1 x2 x3 xa0 xa1
  · exact list1_6 c arg4 arg5 arg6 arg7 x0 x1 x2 x3 xa0 xa1
  · exact list1_7 c arg4 arg5 arg6 arg7 x0 x1 x2 x3 xa0 xa1
  · exact list1_8 c arg4 arg5 arg6 arg7 x0 x1 x2 x3 xa0 xa1
  · exact list1_9 c arg4 arg5 arg6 arg7 x0 x1 x2 x3 xa0 xa1
  · exact list1_10 c arg4 arg5 arg6 arg7 x0 x1 x2 x3 xa0 xa1
  · exact list1_11 c arg4 arg5 arg6 arg7 x0 x1 x2 x3 xa0 xa1
  · exact list1_12 c arg4 arg5 arg6 arg7 x0 x1 x2 x3 xa0 xa1
  · exact list1_13 c arg4 arg5 arg6 arg7 x0 x1 x2 x3 xa0 xa1
  · exact list1_14 c arg4 arg5 arg6 arg7 x0 x1 x2 x3 xa0 xa1
  · exact list1_15 c arg4 arg5 arg6 arg7 x0 x1 x2 x3 xa0 xa1

theorem den (h : Fin 16) (c : Dev nD) (i : grid0.Coords) (arg4 : Memref sig .tc .vmem S16x128x1024 .bf16) (harg4 : arg4.IsWhole) (arg5 : Memref sig .tc .vmem S4x1024x128 .bf16) (harg5 : arg5.IsWhole) (arg6 : Memref sig .tc .vmem S4x144x1024 .bf16) (harg6 : arg6.IsWhole) (arg7 : Memref sig .tc .vmem S1x1x1024x1024 .bf16) (harg7 : arg7.IsWhole) (arg8 : Memref sig .tc .vmem S1024x2048 .bf16) (harg8 : arg8.IsWhole) (T0 : (S36.Idx → Elt Ideal .i32)) (T1 : (S36.Idx → Elt Ideal .i32))
     (x0 : (S16x128x1024.Idx → Elt Ideal .bf16)) (x1 : (S4x1024x128.Idx → Elt Ideal .bf16)) (x2 : (S4x144x1024.Idx → Elt Ideal .bf16)) (x3 : (S1x1x1024x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) :
    row scM0_1.view h.val h.isLt (kernelRun0_C c i arg4 harg4 arg5 harg5 arg6 harg6 arg7 harg7 arg8 harg8 T0 T1 x0 x1 x2 x3 xa0 xa1 xa2 hc0 k0_h2).2.2.1 = tL (row scM0_0.view h.val h.isLt xa0) (hX arg4 arg5 arg7 x0 x1 x3 h.val h.isLt) (hS arg4 arg5 arg7 x0 x1 x3 h.val h.isLt) (hV arg6 x2 h.val h.isLt) (row scM0_1.view h.val h.isLt xa1) := by
  unfold kernelRun0_C
  dsimp only
  exact list1 c arg4 arg5 arg6 arg7 x0 x1 x2 x3 xa0 xa1 h

theorem list2 (h : Fin 16) : row scM0_2.view h.val h.isLt (w2 (HS2_16 c arg4 arg5 arg6 arg7 x0 x1 x2 x3 xa0 xa2)) = tA (row scM0_0.view h.val h.isLt xa0) (hX arg4 arg5 arg7 x0 x1 x3 h.val h.isLt) (hS arg4 arg5 arg7 x0 x1 x3 h.val h.isLt) (hV arg6 x2 h.val h.isLt) (row scM0_2.view h.val h.isLt xa2) := by
  obtain ⟨h, hh⟩ := h
  interval_cases h
  · exact list2_0 c arg4 arg5 arg6 arg7 x0 x1 x2 x3 xa0 xa2
  · exact list2_1 c arg4 arg5 arg6 arg7 x0 x1 x2 x3 xa0 xa2
  · exact list2_2 c arg4 arg5 arg6 arg7 x0 x1 x2 x3 xa0 xa2
  · exact list2_3 c arg4 arg5 arg6 arg7 x0 x1 x2 x3 xa0 xa2
  · exact list2_4 c arg4 arg5 arg6 arg7 x0 x1 x2 x3 xa0 xa2
  · exact list2_5 c arg4 arg5 arg6 arg7 x0 x1 x2 x3 xa0 xa2
  · exact list2_6 c arg4 arg5 arg6 arg7 x0 x1 x2 x3 xa0 xa2
  · exact list2_7 c arg4 arg5 arg6 arg7 x0 x1 x2 x3 xa0 xa2
  · exact list2_8 c arg4 arg5 arg6 arg7 x0 x1 x2 x3 xa0 xa2
  · exact list2_9 c arg4 arg5 arg6 arg7 x0 x1 x2 x3 xa0 xa2
  · exact list2_10 c arg4 arg5 arg6 arg7 x0 x1 x2 x3 xa0 xa2
  · exact list2_11 c arg4 arg5 arg6 arg7 x0 x1 x2 x3 xa0 xa2
  · exact list2_12 c arg4 arg5 arg6 arg7 x0 x1 x2 x3 xa0 xa2
  · exact list2_13 c arg4 arg5 arg6 arg7 x0 x1 x2 x3 xa0 xa2
  · exact list2_14 c arg4 arg5 arg6 arg7 x0 x1 x2 x3 xa0 xa2
  · exact list2_15 c arg4 arg5 arg6 arg7 x0 x1 x2 x3 xa0 xa2

theorem num (h : Fin 16) (c : Dev nD) (i : grid0.Coords) (arg4 : Memref sig .tc .vmem S16x128x1024 .bf16) (harg4 : arg4.IsWhole) (arg5 : Memref sig .tc .vmem S4x1024x128 .bf16) (harg5 : arg5.IsWhole) (arg6 : Memref sig .tc .vmem S4x144x1024 .bf16) (harg6 : arg6.IsWhole) (arg7 : Memref sig .tc .vmem S1x1x1024x1024 .bf16) (harg7 : arg7.IsWhole) (arg8 : Memref sig .tc .vmem S1024x2048 .bf16) (harg8 : arg8.IsWhole) (T0 : (S36.Idx → Elt Ideal .i32)) (T1 : (S36.Idx → Elt Ideal .i32))
     (x0 : (S16x128x1024.Idx → Elt Ideal .bf16)) (x1 : (S4x1024x128.Idx → Elt Ideal .bf16)) (x2 : (S4x144x1024.Idx → Elt Ideal .bf16)) (x3 : (S1x1x1024x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) :
    row scM0_2.view h.val h.isLt (kernelRun0_C c i arg4 harg4 arg5 harg5 arg6 harg6 arg7 harg7 arg8 harg8 T0 T1 x0 x1 x2 x3 xa0 xa1 xa2 hc0 k0_h2).2.2.2.1 = tA (row scM0_0.view h.val h.isLt xa0) (hX arg4 arg5 arg7 x0 x1 x3 h.val h.isLt) (hS arg4 arg5 arg7 x0 x1 x3 h.val h.isLt) (hV arg6 x2 h.val h.isLt) (row scM0_2.view h.val h.isLt xa2) := by
  unfold kernelRun0_C
  dsimp only
  exact list2 c arg4 arg5 arg6 arg7 x0 x1 x2 x3 xa0 xa2 h

theorem out0 : col 0 (by decide) (VO0_4.read (Elt Ideal) (VO0_4.writes (Elt Ideal) VO0_4.junk (HO4_16 c arg4 arg5 arg6 arg7 x0 x1 x2 x3 xa0 xa1 xa2)))
    = tO (row scM0_2.view 0 (by decide) (w2 (HS2_16 c arg4 arg5 arg6 arg7 x0 x1 x2 x3 xa0 xa2))) (row scM0_1.view 0 (by decide) (w1 (HS1_16 c arg4 arg5 arg6 arg7 x0 x1 x2 x3 xa0 xa1))) := by
  unfold HO4_16
  refine (col_skip 0 _ 1920 _ _ (by decide) _ _ _).trans ?_
  refine (col_skip 0 _ 1792 _ _ (by decide) _ _ _).trans ?_
  refine (col_skip 0 _ 1664 _ _ (by decide) _ _ _).trans ?_
  refine (col_skip 0 _ 1536 _ _ (by decide) _ _ _).trans ?_
  refine (col_skip 0 _ 1408 _ _ (by decide) _ _ _).trans ?_
  refine (col_skip 0 _ 1280 _ _ (by decide) _ _ _).trans ?_
  refine (col_skip 0 _ 1152 _ _ (by decide) _ _ _).trans ?_
  refine (col_skip 0 _ 1024 _ _ (by decide) _ _ _).trans ?_
  refine (col_skip 0 _ 896 _ _ (by decide) _ _ _).trans ?_
  refine (col_skip 0 _ 768 _ _ (by decide) _ _ _).trans ?_
  refine (col_skip 0 _ 640 _ _ (by decide) _ _ _).trans ?_
  refine (col_skip 0 _ 512 _ _ (by decide) _ _ _).trans ?_
  refine (col_skip 0 _ 384 _ _ (by decide) _ _ _).trans ?_
  refine (col_skip 0 _ 256 _ _ (by decide) _ _ _).trans ?_
  refine (col_skip 0 _ 128 _ _ (by decide) _ _ _).trans ?_
  refine (col_hit 0 _ 0 _ _ (by decide) _ _ _).trans ?_
  exact Eq.trans (b := tO (v141 c arg4 arg5 arg6 arg7 x0 x1 x2 x3 xa0 xa2) (v143 c arg4 arg5 arg6 arg7 x0 x1 x2 x3 xa0 xa1)) rfl rfl

theorem out1 : col 1 (by decide) (VO0_4.read (Elt Ideal) (VO0_4.writes (Elt Ideal) VO0_4.junk (HO4_16 c arg4 arg5 arg6 arg7 x0 x1 x2 x3 xa0 xa1 xa2)))
    = tO (row scM0_2.view 1 (by decide) (w2 (HS2_16 c arg4 arg5 arg6 arg7 x0 x1 x2 x3 xa0 xa2))) (row scM0_1.view 1 (by decide) (w1 (HS1_16 c arg4 arg5 arg6 arg7 x0 x1 x2 x3 xa0 xa1))) := by
  unfold HO4_16
  refine (col_skip 1 _ 1920 _ _ (by decide) _ _ _).trans ?_
  refine (col_skip 1 _ 1792 _ _ (by decide) _ _ _).trans ?_
  refine (col_skip 1 _ 1664 _ _ (by decide) _ _ _).trans ?_
  refine (col_skip 1 _ 1536 _ _ (by decide) _ _ _).trans ?_
  refine (col_skip 1 _ 1408 _ _ (by decide) _ _ _).trans ?_
  refine (col_skip 1 _ 1280 _ _ (by decide) _ _ _).trans ?_
  refine (col_skip 1 _ 1152 _ _ (by decide) _ _ _).trans ?_
  refine (col_skip 1 _ 1024 _ _ (by decide) _ _ _).trans ?_
  refine (col_skip 1 _ 896 _ _ (by decide) _ _ _).trans ?_
  refine (col_skip 1 _ 768 _ _ (by decide) _ _ _).trans ?_
  refine (col_skip 1 _ 640 _ _ (by decide) _ _ _).trans ?_
  refine (col_skip 1 _ 512 _ _ (by decide) _ _ _).trans ?_
  refine (col_skip 1 _ 384 _ _ (by decide) _ _ _).trans ?_
  refine (col_skip 1 _ 256 _ _ (by decide) _ _ _).trans ?_
  refine (col_hit 1 _ 128 _ _ (by decide) _ _ _).trans ?_
  exact Eq.trans (b := tO (v150 c arg4 arg5 arg6 arg7 x0 x1 x2 x3 xa0 xa2) (v152 c arg4 arg5 arg6 arg7 x0 x1 x2 x3 xa0 xa1)) rfl rfl

theorem out2 : col 2 (by decide) (VO0_4.read (Elt Ideal) (VO0_4.writes (Elt Ideal) VO0_4.junk (HO4_16 c arg4 arg5 arg6 arg7 x0 x1 x2 x3 xa0 xa1 xa2)))
    = tO (row scM0_2.view 2 (by decide) (w2 (HS2_16 c arg4 arg5 arg6 arg7 x0 x1 x2 x3 xa0 xa2))) (row scM0_1.view 2 (by decide) (w1 (HS1_16 c arg4 arg5 arg6 arg7 x0 x1 x2 x3 xa0 xa1))) := by
  unfold HO4_16
  refine (col_skip 2 _ 1920 _ _ (by decide) _ _ _).trans ?_
  refine (col_skip 2 _ 1792 _ _ (by decide) _ _ _).trans ?_
  refine (col_skip 2 _ 1664 _ _ (by decide) _ _ _).trans ?_
  refine (col_skip 2 _ 1536 _ _ (by decide) _ _ _).trans ?_
  refine (col_skip 2 _ 1408 _ _ (by decide) _ _ _).trans ?_
  refine (col_skip 2 _ 1280 _ _ (by decide) _ _ _).trans ?_
  refine (col_skip 2 _ 1152 _ _ (by decide) _ _ _).trans ?_
  refine (col_skip 2 _ 1024 _ _ (by decide) _ _ _).trans ?_
  refine (col_skip 2 _ 896 _ _ (by decide) _ _ _).trans ?_
  refine (col_skip 2 _ 768 _ _ (by decide) _ _ _).trans ?_
  refine (col_skip 2 _ 640 _ _ (by decide) _ _ _).trans ?_
  refine (col_skip 2 _ 512 _ _ (by decide) _ _ _).trans ?_
  refine (col_skip 2 _ 384 _ _ (by decide) _ _ _).trans ?_
  refine (col_hit 2 _ 256 _ _ (by decide) _ _ _).trans ?_
  exact Eq.trans (b := tO (v159 c arg4 arg5 arg6 arg7 x0 x1 x2 x3 xa0 xa2) (v161 c arg4 arg5 arg6 arg7 x0 x1 x2 x3 xa0 xa1)) rfl rfl

theorem out3 : col 3 (by decide) (VO0_4.read (Elt Ideal) (VO0_4.writes (Elt Ideal) VO0_4.junk (HO4_16 c arg4 arg5 arg6 arg7 x0 x1 x2 x3 xa0 xa1 xa2)))
    = tO (row scM0_2.view 3 (by decide) (w2 (HS2_16 c arg4 arg5 arg6 arg7 x0 x1 x2 x3 xa0 xa2))) (row scM0_1.view 3 (by decide) (w1 (HS1_16 c arg4 arg5 arg6 arg7 x0 x1 x2 x3 xa0 xa1))) := by
  unfold HO4_16
  refine (col_skip 3 _ 1920 _ _ (by decide) _ _ _).trans ?_
  refine (col_skip 3 _ 1792 _ _ (by decide) _ _ _).trans ?_
  refine (col_skip 3 _ 1664 _ _ (by decide) _ _ _).trans ?_
  refine (col_skip 3 _ 1536 _ _ (by decide) _ _ _).trans ?_
  refine (col_skip 3 _ 1408 _ _ (by decide) _ _ _).trans ?_
  refine (col_skip 3 _ 1280 _ _ (by decide) _ _ _).trans ?_
  refine (col_skip 3 _ 1152 _ _ (by decide) _ _ _).trans ?_
  refine (col_skip 3 _ 1024 _ _ (by decide) _ _ _).trans ?_
  refine (col_skip 3 _ 896 _ _ (by decide) _ _ _).trans ?_
  refine (col_skip 3 _ 768 _ _ (by decide) _ _ _).trans ?_
  refine (col_skip 3 _ 640 _ _ (by decide) _ _ _).trans ?_
  refine (col_skip 3 _ 512 _ _ (by decide) _ _ _).trans ?_
  refine (col_hit 3 _ 384 _ _ (by decide) _ _ _).trans ?_
  exact Eq.trans (b := tO (v168 c arg4 arg5 arg6 arg7 x0 x1 x2 x3 xa0 xa2) (v170 c arg4 arg5 arg6 arg7 x0 x1 x2 x3 xa0 xa1)) rfl rfl

theorem out4 : col 4 (by decide) (VO0_4.read (Elt Ideal) (VO0_4.writes (Elt Ideal) VO0_4.junk (HO4_16 c arg4 arg5 arg6 arg7 x0 x1 x2 x3 xa0 xa1 xa2)))
    = tO (row scM0_2.view 4 (by decide) (w2 (HS2_16 c arg4 arg5 arg6 arg7 x0 x1 x2 x3 xa0 xa2))) (row scM0_1.view 4 (by decide) (w1 (HS1_16 c arg4 arg5 arg6 arg7 x0 x1 x2 x3 xa0 xa1))) := by
  unfold HO4_16
  refine (col_skip 4 _ 1920 _ _ (by decide) _ _ _).trans ?_
  refine (col_skip 4 _ 1792 _ _ (by decide) _ _ _).trans ?_
  refine (col_skip 4 _ 1664 _ _ (by decide) _ _ _).trans ?_
  refine (col_skip 4 _ 1536 _ _ (by decide) _ _ _).trans ?_
  refine (col_skip 4 _ 1408 _ _ (by decide) _ _ _).trans ?_
  refine (col_skip 4 _ 1280 _ _ (by decide) _ _ _).trans ?_
  refine (col_skip 4 _ 1152 _ _ (by decide) _ _ _).trans ?_
  refine (col_skip 4 _ 1024 _ _ (by decide) _ _ _).trans ?_
  refine (col_skip 4 _ 896 _ _ (by decide) _ _ _).trans ?_
  refine (col_skip 4 _ 768 _ _ (by decide) _ _ _).trans ?_
  refine (col_skip 4 _ 640 _ _ (by decide) _ _ _).trans ?_
  refine (col_hit 4 _ 512 _ _ (by decide) _ _ _).trans ?_
  exact Eq.trans (b := tO (v177 c arg4 arg5 arg6 arg7 x0 x1 x2 x3 xa0 xa2) (v179 c arg4 arg5 arg6 arg7 x0 x1 x2 x3 xa0 xa1)) rfl rfl

theorem out5 : col 5 (by decide) (VO0_4.read (Elt Ideal) (VO0_4.writes (Elt Ideal) VO0_4.junk (HO4_16 c arg4 arg5 arg6 arg7 x0 x1 x2 x3 xa0 xa1 xa2)))
    = tO (row scM0_2.view 5 (by decide) (w2 (HS2_16 c arg4 arg5 arg6 arg7 x0 x1 x2 x3 xa0 xa2))) (row scM0_1.view 5 (by decide) (w1 (HS1_16 c arg4 arg5 arg6 arg7 x0 x1 x2 x3 xa0 xa1))) := by
  unfold HO4_16
  refine (col_skip 5 _ 1920 _ _ (by decide) _ _ _).trans ?_
  refine (col_skip 5 _ 1792 _ _ (by decide) _ _ _).trans ?_
  refine (col_skip 5 _ 1664 _ _ (by decide) _ _ _).trans ?_
  refine (col_skip 5 _ 1536 _ _ (by decide) _ _ _).trans ?_
  refine (col_skip 5 _ 1408 _ _ (by decide) _ _ _).trans ?_
  refine (col_skip 5 _ 1280 _ _ (by decide) _ _ _).trans ?_
  refine (col_skip 5 _ 1152 _ _ (by decide) _ _ _).trans ?_
  refine (col_skip 5 _ 1024 _ _ (by decide) _ _ _).trans ?_
  refine (col_skip 5 _ 896 _ _ (by decide) _ _ _).trans ?_
  refine (col_skip 5 _ 768 _ _ (by decide) _ _ _).trans ?_
  refine (col_hit 5 _ 640 _ _ (by decide) _ _ _).trans ?_
  exact Eq.trans (b := tO (v186 c arg4 arg5 arg6 arg7 x0 x1 x2 x3 xa0 xa2) (v188 c arg4 arg5 arg6 arg7 x0 x1 x2 x3 xa0 xa1)) rfl rfl

theorem out6 : col 6 (by decide) (VO0_4.read (Elt Ideal) (VO0_4.writes (Elt Ideal) VO0_4.junk (HO4_16 c arg4 arg5 arg6 arg7 x0 x1 x2 x3 xa0 xa1 xa2)))
    = tO (row scM0_2.view 6 (by decide) (w2 (HS2_16 c arg4 arg5 arg6 arg7 x0 x1 x2 x3 xa0 xa2))) (row scM0_1.view 6 (by decide) (w1 (HS1_16 c arg4 arg5 arg6 arg7 x0 x1 x2 x3 xa0 xa1))) := by
  unfold HO4_16
  refine (col_skip 6 _ 1920 _ _ (by decide) _ _ _).trans ?_
  refine (col_skip 6 _ 1792 _ _ (by decide) _ _ _).trans ?_
  refine (col_skip 6 _ 1664 _ _ (by decide) _ _ _).trans ?_
  refine (col_skip 6 _ 1536 _ _ (by decide) _ _ _).trans ?_
  refine (col_skip 6 _ 1408 _ _ (by decide) _ _ _).trans ?_
  refine (col_skip 6 _ 1280 _ _ (by decide) _ _ _).trans ?_
  refine (col_skip 6 _ 1152 _ _ (by decide) _ _ _).trans ?_
  refine (col_skip 6 _ 1024 _ _ (by decide) _ _ _).trans ?_
  refine (col_skip 6 _ 896 _ _ (by decide) _ _ _).trans ?_
  refine (col_hit 6 _ 768 _ _ (by decide) _ _ _).trans ?_
  exact Eq.trans (b := tO (v195 c arg4 arg5 arg6 arg7 x0 x1 x2 x3 xa0 xa2) (v197 c arg4 arg5 arg6 arg7 x0 x1 x2 x3 xa0 xa1)) rfl rfl

theorem out7 : col 7 (by decide) (VO0_4.read (Elt Ideal) (VO0_4.writes (Elt Ideal) VO0_4.junk (HO4_16 c arg4 arg5 arg6 arg7 x0 x1 x2 x3 xa0 xa1 xa2)))
    = tO (row scM0_2.view 7 (by decide) (w2 (HS2_16 c arg4 arg5 arg6 arg7 x0 x1 x2 x3 xa0 xa2))) (row scM0_1.view 7 (by decide) (w1 (HS1_16 c arg4 arg5 arg6 arg7 x0 x1 x2 x3 xa0 xa1))) := by
  unfold HO4_16
  refine (col_skip 7 _ 1920 _ _ (by decide) _ _ _).trans ?_
  refine (col_skip 7 _ 1792 _ _ (by decide) _ _ _).trans ?_
  refine (col_skip 7 _ 1664 _ _ (by decide) _ _ _).trans ?_
  refine (col_skip 7 _ 1536 _ _ (by decide) _ _ _).trans ?_
  refine (col_skip 7 _ 1408 _ _ (by decide) _ _ _).trans ?_
  refine (col_skip 7 _ 1280 _ _ (by decide) _ _ _).trans ?_
  refine (col_skip 7 _ 1152 _ _ (by decide) _ _ _).trans ?_
  refine (col_skip 7 _ 1024 _ _ (by decide) _ _ _).trans ?_
  refine (col_hit 7 _ 896 _ _ (by decide) _ _ _).trans ?_
  exact Eq.trans (b := tO (v204 c arg4 arg5 arg6 arg7 x0 x1 x2 x3 xa0 xa2) (v206 c arg4 arg5 arg6 arg7 x0 x1 x2 x3 xa0 xa1)) rfl rfl

theorem out8 : col 8 (by decide) (VO0_4.read (Elt Ideal) (VO0_4.writes (Elt Ideal) VO0_4.junk (HO4_16 c arg4 arg5 arg6 arg7 x0 x1 x2 x3 xa0 xa1 xa2)))
    = tO (row scM0_2.view 8 (by decide) (w2 (HS2_16 c arg4 arg5 arg6 arg7 x0 x1 x2 x3 xa0 xa2))) (row scM0_1.view 8 (by decide) (w1 (HS1_16 c arg4 arg5 arg6 arg7 x0 x1 x2 x3 xa0 xa1))) := by
  unfold HO4_16
  refine (col_skip 8 _ 1920 _ _ (by decide) _ _ _).trans ?_
  refine (col_skip 8 _ 1792 _ _ (by decide) _ _ _).trans ?_
  refine (col_skip 8 _ 1664 _ _ (by decide) _ _ _).trans ?_
  refine (col_skip 8 _ 1536 _ _ (by decide) _ _ _).trans ?_
  refine (col_skip 8 _ 1408 _ _ (by decide) _ _ _).trans ?_
  refine (col_skip 8 _ 1280 _ _ (by decide) _ _ _).trans ?_
  refine (col_skip 8 _ 1152 _ _ (by decide) _ _ _).trans ?_
  refine (col_hit 8 _ 1024 _ _ (by decide) _ _ _).trans ?_
  exact Eq.trans (b := tO (v213_7 c arg4 arg5 arg6 arg7 x0 x1 x2 x3 xa0 xa2) (v215 c arg4 arg5 arg6 arg7 x0 x1 x2 x3 xa0 xa1)) rfl rfl

theorem out9 : col 9 (by decide) (VO0_4.read (Elt Ideal) (VO0_4.writes (Elt Ideal) VO0_4.junk (HO4_16 c arg4 arg5 arg6 arg7 x0 x1 x2 x3 xa0 xa1 xa2)))
    = tO (row scM0_2.view 9 (by decide) (w2 (HS2_16 c arg4 arg5 arg6 arg7 x0 x1 x2 x3 xa0 xa2))) (row scM0_1.view 9 (by decide) (w1 (HS1_16 c arg4 arg5 arg6 arg7 x0 x1 x2 x3 xa0 xa1))) := by
  unfold HO4_16
  refine (col_skip 9 _ 1920 _ _ (by decide) _ _ _).trans ?_
  refine (col_skip 9 _ 1792 _ _ (by decide) _ _ _).trans ?_
  refine (col_skip 9 _ 1664 _ _ (by decide) _ _ _).trans ?_
  refine (col_skip 9 _ 1536 _ _ (by decide) _ _ _).trans ?_
  refine (col_skip 9 _ 1408 _ _ (by decide) _ _ _).trans ?_
  refine (col_skip 9 _ 1280 _ _ (by decide) _ _ _).trans ?_
  refine (col_hit 9 _ 1152 _ _ (by decide) _ _ _).trans ?_
  exact Eq.trans (b := tO (v222 c arg4 arg5 arg6 arg7 x0 x1 x2 x3 xa0 xa2) (v224 c arg4 arg5 arg6 arg7 x0 x1 x2 x3 xa0 xa1)) rfl rfl

theorem out10 : col 10 (by decide) (VO0_4.read (Elt Ideal) (VO0_4.writes (Elt Ideal) VO0_4.junk (HO4_16 c arg4 arg5 arg6 arg7 x0 x1 x2 x3 xa0 xa1 xa2)))
    = tO (row scM0_2.view 10 (by decide) (w2 (HS2_16 c arg4 arg5 arg6 arg7 x0 x1 x2 x3 xa0 xa2))) (row scM0_1.view 10 (by decide) (w1 (HS1_16 c arg4 arg5 arg6 arg7 x0 x1 x2 x3 xa0 xa1))) := by
  unfold HO4_16
  refine (col_skip 10 _ 1920 _ _ (by decide) _ _ _).trans ?_
  refine (col_skip 10 _ 1792 _ _ (by decide) _ _ _).trans ?_
  refine (col_skip 10 _ 1664 _ _ (by decide) _ _ _).trans ?_
  refine (col_skip 10 _ 1536 _ _ (by decide) _ _ _).trans ?_
  refine (col_skip 10 _ 1408 _ _ (by decide) _ _ _).trans ?_
  refine (col_hit 10 _ 1280 _ _ (by decide) _ _ _).trans ?_
  exact Eq.trans (b := tO (v231 c arg4 arg5 arg6 arg7 x0 x1 x2 x3 xa0 xa2) (v233 c arg4 arg5 arg6 arg7 x0 x1 x2 x3 xa0 xa1)) rfl rfl

theorem out11 : col 11 (by decide) (VO0_4.read (Elt Ideal) (VO0_4.writes (Elt Ideal) VO0_4.junk (HO4_16 c arg4 arg5 arg6 arg7 x0 x1 x2 x3 xa0 xa1 xa2)))
    = tO (row scM0_2.view 11 (by decide) (w2 (HS2_16 c arg4 arg5 arg6 arg7 x0 x1 x2 x3 xa0 xa2))) (row scM0_1.view 11 (by decide) (w1 (HS1_16 c arg4 arg5 arg6 arg7 x0 x1 x2 x3 xa0 xa1))) := by
  unfold HO4_16
  refine (col_skip 11 _ 1920 _ _ (by decide) _ _ _).trans ?_
  refine (col_skip 11 _ 1792 _ _ (by decide) _ _ _).trans ?_
  refine (col_skip 11 _ 1664 _ _ (by decide) _ _ _).trans ?_
  refine (col_skip 11 _ 1536 _ _ (by decide) _ _ _).trans ?_
  refine (col_hit 11 _ 1408 _ _ (by decide) _ _ _).trans ?_
  exact Eq.trans (b := tO (v240 c arg4 arg5 arg6 arg7 x0 x1 x2 x3 xa0 xa2) (v242 c arg4 arg5 arg6 arg7 x0 x1 x2 x3 xa0 xa1)) rfl rfl

theorem out12 : col 12 (by decide) (VO0_4.read (Elt Ideal) (VO0_4.writes (Elt Ideal) VO0_4.junk (HO4_16 c arg4 arg5 arg6 arg7 x0 x1 x2 x3 xa0 xa1 xa2)))
    = tO (row scM0_2.view 12 (by decide) (w2 (HS2_16 c arg4 arg5 arg6 arg7 x0 x1 x2 x3 xa0 xa2))) (row scM0_1.view 12 (by decide) (w1 (HS1_16 c arg4 arg5 arg6 arg7 x0 x1 x2 x3 xa0 xa1))) := by
  unfold HO4_16
  refine (col_skip 12 _ 1920 _ _ (by decide) _ _ _).trans ?_
  refine (col_skip 12 _ 1792 _ _ (by decide) _ _ _).trans ?_
  refine (col_skip 12 _ 1664 _ _ (by decide) _ _ _).trans ?_
  refine (col_hit 12 _ 1536 _ _ (by decide) _ _ _).trans ?_
  exact Eq.trans (b := tO (v249 c arg4 arg5 arg6 arg7 x0 x1 x2 x3 xa0 xa2) (v251 c arg4 arg5 arg6 arg7 x0 x1 x2 x3 xa0 xa1)) rfl rfl

theorem out13 : col 13 (by decide) (VO0_4.read (Elt Ideal) (VO0_4.writes (Elt Ideal) VO0_4.junk (HO4_16 c arg4 arg5 arg6 arg7 x0 x1 x2 x3 xa0 xa1 xa2)))
    = tO (row scM0_2.view 13 (by decide) (w2 (HS2_16 c arg4 arg5 arg6 arg7 x0 x1 x2 x3 xa0 xa2))) (row scM0_1.view 13 (by decide) (w1 (HS1_16 c arg4 arg5 arg6 arg7 x0 x1 x2 x3 xa0 xa1))) := by
  unfold HO4_16
  refine (col_skip 13 _ 1920 _ _ (by decide) _ _ _).trans ?_
  refine (col_skip 13 _ 1792 _ _ (by decide) _ _ _).trans ?_
  refine (col_hit 13 _ 1664 _ _ (by decide) _ _ _).trans ?_
  exact Eq.trans (b := tO (v258 c arg4 arg5 arg6 arg7 x0 x1 x2 x3 xa0 xa2) (v260 c arg4 arg5 arg6 arg7 x0 x1 x2 x3 xa0 xa1)) rfl rfl

theorem out14 : col 14 (by decide) (VO0_4.read (Elt Ideal) (VO0_4.writes (Elt Ideal) VO0_4.junk (HO4_16 c arg4 arg5 arg6 arg7 x0 x1 x2 x3 xa0 xa1 xa2)))
    = tO (row scM0_2.view 14 (by decide) (w2 (HS2_16 c arg4 arg5 arg6 arg7 x0 x1 x2 x3 xa0 xa2))) (row scM0_1.view 14 (by decide) (w1 (HS1_16 c arg4 arg5 arg6 arg7 x0 x1 x2 x3 xa0 xa1))) := by
  unfold HO4_16
  refine (col_skip 14 _ 1920 _ _ (by decide) _ _ _).trans ?_
  refine (col_hit 14 _ 1792 _ _ (by decide) _ _ _).trans ?_
  exact Eq.trans (b := tO (v267 c arg4 arg5 arg6 arg7 x0 x1 x2 x3 xa0 xa2) (v269 c arg4 arg5 arg6 arg7 x0 x1 x2 x3 xa0 xa1)) rfl rfl

theorem out15 : col 15 (by decide) (VO0_4.read (Elt Ideal) (VO0_4.writes (Elt Ideal) VO0_4.junk (HO4_16 c arg4 arg5 arg6 arg7 x0 x1 x2 x3 xa0 xa1 xa2)))
    = tO (row scM0_2.view 15 (by decide) (w2 (HS2_16 c arg4 arg5 arg6 arg7 x0 x1 x2 x3 xa0 xa2))) (row scM0_1.view 15 (by decide) (w1 (HS1_16 c arg4 arg5 arg6 arg7 x0 x1 x2 x3 xa0 xa1))) := by
  unfold HO4_16
  refine (col_hit 15 _ 1920 _ _ (by decide) _ _ _).trans ?_
  exact Eq.trans (b := tO (v276 c arg4 arg5 arg6 arg7 x0 x1 x2 x3 xa0 xa2) (v278 c arg4 arg5 arg6 arg7 x0 x1 x2 x3 xa0 xa1)) rfl rfl

theorem outs (h : Fin 16) : col h.val h.isLt (VO0_4.read (Elt Ideal) (VO0_4.writes (Elt Ideal) VO0_4.junk (HO4_16 c arg4 arg5 arg6 arg7 x0 x1 x2 x3 xa0 xa1 xa2)))
    = tO (row scM0_2.view h.val h.isLt (w2 (HS2_16 c arg4 arg5 arg6 arg7 x0 x1 x2 x3 xa0 xa2))) (row scM0_1.view h.val h.isLt (w1 (HS1_16 c arg4 arg5 arg6 arg7 x0 x1 x2 x3 xa0 xa1))) := by
  obtain ⟨h, hh⟩ := h
  interval_cases h
  · exact out0 c arg4 arg5 arg6 arg7 x0 x1 x2 x3 xa0 xa1 xa2
  · exact out1 c arg4 arg5 arg6 arg7 x0 x1 x2 x3 xa0 xa1 xa2
  · exact out2 c arg4 arg5 arg6 arg7 x0 x1 x2 x3 xa0 xa1 xa2
  · exact out3 c arg4 arg5 arg6 arg7 x0 x1 x2 x3 xa0 xa1 xa2
  · exact out4 c arg4 arg5 arg6 arg7 x0 x1 x2 x3 xa0 xa1 xa2
  · exact out5 c arg4 arg5 arg6 arg7 x0 x1 x2 x3 xa0 xa1 xa2
  · exact out6 c arg4 arg5 arg6 arg7 x0 x1 x2 x3 xa0 xa1 xa2
  · exact out7 c arg4 arg5 arg6 arg7 x0 x1 x2 x3 xa0 xa1 xa2
  · exact out8 c arg4 arg5 arg6 arg7 x0 x1 x2 x3 xa0 xa1 xa2
  · exact out9 c arg4 arg5 arg6 arg7 x0 x1 x2 x3 xa0 xa1 xa2
  · exact out10 c arg4 arg5 arg6 arg7 x0 x1 x2 x3 xa0 xa1 xa2
  · exact out11 c arg4 arg5 arg6 arg7 x0 x1 x2 x3 xa0 xa1 xa2
  · exact out12 c arg4 arg5 arg6 arg7 x0 x1 x2 x3 xa0 xa1 xa2
  · exact out13 c arg4 arg5 arg6 arg7 x0 x1 x2 x3 xa0 xa1 xa2
  · exact out14 c arg4 arg5 arg6 arg7 x0 x1 x2 x3 xa0 xa1 xa2
  · exact out15 c arg4 arg5 arg6 arg7 x0 x1 x2 x3 xa0 xa1 xa2

theorem out (h : Fin 16) (c : Dev nD) (i : grid0.Coords) (arg4 : Memref sig .tc .vmem S16x128x1024 .bf16) (harg4 : arg4.IsWhole) (arg5 : Memref sig .tc .vmem S4x1024x128 .bf16) (harg5 : arg5.IsWhole) (arg6 : Memref sig .tc .vmem S4x144x1024 .bf16) (harg6 : arg6.IsWhole) (arg7 : Memref sig .tc .vmem S1x1x1024x1024 .bf16) (harg7 : arg7.IsWhole) (arg8 : Memref sig .tc .vmem S1024x2048 .bf16) (harg8 : arg8.IsWhole) (T0 : (S36.Idx → Elt Ideal .i32)) (T1 : (S36.Idx → Elt Ideal .i32))
     (x0 : (S16x128x1024.Idx → Elt Ideal .bf16)) (x1 : (S4x1024x128.Idx → Elt Ideal .bf16)) (x2 : (S4x144x1024.Idx → Elt Ideal .bf16)) (x3 : (S1x1x1024x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (k0_h2 : k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1) :
    col h.val h.isLt (out0_C_4 c i arg4 harg4 arg5 harg5 arg6 harg6 arg7 harg7 arg8 harg8 T0 T1 x0 x1 x2 x3 xa0 xa1 xa2 hc0 k0_h2) = tO (tA (row scM0_0.view h.val h.isLt xa0) (hX arg4 arg5 arg7 x0 x1 x3 h.val h.isLt) (hS arg4 arg5 arg7 x0 x1 x3 h.val h.isLt) (hV arg6 x2 h.val h.isLt) (row scM0_2.view h.val h.isLt xa2)) (tL (row scM0_0.view h.val h.isLt xa0) (hX arg4 arg5 arg7 x0 x1 x3 h.val h.isLt) (hS arg4 arg5 arg7 x0 x1 x3 h.val h.isLt) (hV arg6 x2 h.val h.isLt) (row scM0_1.view h.val h.isLt xa1)) := by
  unfold out0_C_4 kernelRun0_C
  exact (outs c arg4 arg5 arg6 arg7 x0 x1 x2 x3 xa0 xa1 xa2 h).trans (tO_of (list2 c arg4 arg5 arg6 arg7 x0 x1 x2 x3 xa0 xa2 h) (list1 c arg4 arg5 arg6 arg7 x0 x1 x2 x3 xa0 xa1 h))

end Cert.AttnIdeal.Leg.PC

end
-- ==== Proof.AttnPD.lean ====
module

public import proofs.«01_k».proof.Proof.AttnTile

@[expose] public section

set_option maxRecDepth 16384

noncomputable section

namespace Cert.AttnIdeal.Leg.PD

open Cert.AttnIdeal Cert.AttnIdeal.Gen Idealize.ShloMosaic Idealize.ShloMosaic.TcCoe
open Idealize.SL Idealize.SL.RA Idealize.SL.BI Idealize.SL.Sem Idealize.ShloMosaic.Pipeline

open Cert.AttnIdeal.Gen.kernelRun0_D.sl

variable (c : Dev nD) (arg4 : Memref sig .tc .vmem S16x128x1024 .bf16) (arg5 : Memref sig .tc .vmem S4x1024x128 .bf16) (arg6 : Memref sig .tc .vmem S4x144x1024 .bf16) (arg7 : Memref sig .tc .vmem S1x1x1024x1024 .bf16) (x0 : S16x128x1024.Idx → Elt Ideal .bf16) (x1 : S4x1024x128.Idx → Elt Ideal .bf16) (x2 : S4x144x1024.Idx → Elt Ideal .bf16) (x3 : S1x1x1024x1024.Idx → Elt Ideal .bf16) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2))

theorem bias : (v40 arg7 x3) = bB arg7 x3 := by
  unfold v40 HS7_1
  exact View.readCov_full _ _ _ _ _

theorem mx0 : (v184 arg4 arg5 arg7 x0 x1 x3) = hX arg4 arg5 arg7 x0 x1 x3 0 (by decide) := by
  unfold v184 HS5_1
  refine (View.readCov_full _ _ _ _ _).trans ((tX50 _ _ _).trans (tX_of rfl rfl (bias arg7 x3)))

theorem sc0 : (v189 arg4 arg5 arg7 x0 x1 x3) = hS arg4 arg5 arg7 x0 x1 x3 0 (by decide) := by
  unfold v189 HS3_1
  refine (View.readCov_full _ _ _ _ _).trans ((tS49 _ _ _).trans (tS_of rfl rfl (bias arg7 x3)))

theorem list0_0 : row scM0_0.view 0 (by decide) (w0 (HS0_16 c arg4 arg5 arg7 x0 x1 x3 xa0)) = tM (row scM0_0.view 0 (by decide) xa0) (hX arg4 arg5 arg7 x0 x1 x3 0 (by decide)) := by
  unfold HS0_16
  refine (rs_skip 0 15 _ _ _ _ _ _ (by decide)).trans ?_
  refine (rs_skip 0 14 _ _ _ _ _ _ (by decide)).trans ?_
  refine (rs_skip 0 13 _ _ _ _ _ _ (by decide)).trans ?_
  refine (rs_skip 0 12 _ _ _ _ _ _ (by decide)).trans ?_
  refine (rs_skip 0 11 _ _ _ _ _ _ (by decide)).trans ?_
  refine (rs_skip 0 10 _ _ _ _ _ _ (by decide)).trans ?_
  refine (rs_skip 0 9 _ _ _ _ _ _ (by decide)).trans ?_
  refine (rs_skip 0 8 _ _ _ _ _ _ (by decide)).trans ?_
  refine (rs_skip 0 7 _ _ _ _ _ _ (by decide)).trans ?_
  refine (rs_skip 0 6 _ _ _ _ _ _ (by decide)).trans ?_
  refine (rs_skip 0 5 _ _ _ _ _ _ (by decide)).trans ?_
  refine (rs_skip 0 4 _ _ _ _ _ _ (by decide)).trans ?_
  refine (rs_skip 0 3 _ _ _ _ _ _ (by decide)).trans ?_
  refine (rs_skip 0 2 _ _ _ _ _ _ (by decide)).trans ?_
  refine (rs_skip 0 1 _ _ _ _ _ _ (by decide)).trans ?_
  refine (rs_hit 0 _ _ _ _ _ _).trans ?_
  exact Eq.trans (b := tM (v182 c xa0) (v184 arg4 arg5 arg7 x0 x1 x3)) rfl (tM_of2 rfl (mx0 arg4 arg5 arg7 x0 x1 x3))

theorem list1_0 : row scM0_1.view 0 (by decide) (w1 (HS1_16 c arg4 arg5 arg6 arg7 x0 x1 x2 x3 xa0 xa1)) = tL (row scM0_0.view 0 (by decide) xa0) (hX arg4 arg5 arg7 x0 x1 x3 0 (by decide)) (hS arg4 arg5 arg7 x0 x1 x3 0 (by decide)) (hV arg6 x2 0 (by decide)) (row scM0_1.view 0 (by decide) xa1) := by
  unfold HS1_16
  refine (rs_skip 0 15 _ _ _ _ _ _ (by decide)).trans ?_
  refine (rs_skip 0 14 _ _ _ _ _ _ (by decide)).trans ?_
  refine (rs_skip 0 13 _ _ _ _ _ _ (by decide)).trans ?_
  refine (rs_skip 0 12 _ _ _ _ _ _ (by decide)).trans ?_
  refine (rs_skip 0 11 _ _ _ _ _ _ (by decide)).trans ?_
  refine (rs_skip 0 10 _ _ _ _ _ _ (by decide)).trans ?_
  refine (rs_skip 0 9 _ _ _ _ _ _ (by decide)).trans ?_
  refine (rs_skip 0 8 _ _ _ _ _ _ (by decide)).trans ?_
  refine (rs_skip 0 7 _ _ _ _ _ _ (by decide)).trans ?_
  refine (rs_skip 0 6 _ _ _ _ _ _ (by decide)).trans ?_
  refine (rs_skip 0 5 _ _ _ _ _ _ (by decide)).trans ?_
  refine (rs_skip 0 4 _ _ _ _ _ _ (by decide)).trans ?_
  refine (rs_skip 0 3 _ _ _ _ _ _ (by decide)).trans ?_
  refine (rs_skip 0 2 _ _ _ _ _ _ (by decide)).trans ?_
  refine (rs_skip 0 1 _ _ _ _ _ _ (by decide)).trans ?_
  refine (rs_hit 0 _ _ _ _ _ _).trans ?_
  exact Eq.trans (b := tL (v182 c xa0) (v184 arg4 arg5 arg7 x0 x1 x3) (v189 arg4 arg5 arg7 x0 x1 x3) (hV arg6 x2 0 (by decide)) (v217 c xa1)) rfl (tL_of rfl (mx0 arg4 arg5 arg7 x0 x1 x3) (sc0 arg4 arg5 arg7 x0 x1 x3) rfl)

theorem list2_0 : row scM0_2.view 0 (by decide) (w2 (HS2_16 c arg4 arg5 arg6 arg7 x0 x1 x2 x3 xa0 xa2)) = tA (row scM0_0.view 0 (by decide) xa0) (hX arg4 arg5 arg7 x0 x1 x3 0 (by decide)) (hS arg4 arg5 arg7 x0 x1 x3 0 (by decide)) (hV arg6 x2 0 (by decide)) (row scM0_2.view 0 (by decide) xa2) := by
  unfold HS2_16
  refine (ra_skip 0 15 _ _ _ _ _ _ (by decide)).trans ?_
  refine (ra_skip 0 14 _ _ _ _ _ _ (by decide)).trans ?_
  refine (ra_skip 0 13 _ _ _ _ _ _ (by decide)).trans ?_
  refine (ra_skip 0 12 _ _ _ _ _ _ (by decide)).trans ?_
  refine (ra_skip 0 11 _ _ _ _ _ _ (by decide)).trans ?_
  refine (ra_skip 0 10 _ _ _ _ _ _ (by decide)).trans ?_
  refine (ra_skip 0 9 _ _ _ _ _ _ (by decide)).trans ?_
  refine (ra_skip 0 8 _ _ _ _ _ _ (by decide)).trans ?_
  refine (ra_skip 0 7 _ _ _ _ _ _ (by decide)).trans ?_
  refine (ra_skip 0 6 _ _ _ _ _ _ (by decide)).trans ?_
  refine (ra_skip 0 5 _ _ _ _ _ _ (by decide)).trans ?_
  refine (ra_skip 0 4 _ _ _ _ _ _ (by decide)).trans ?_
  refine (ra_skip 0 3 _ _ _ _ _ _ (by decide)).trans ?_
  refine (ra_skip 0 2 _ _ _ _ _ _ (by decide)).trans ?_
  refine (ra_skip 0 1 _ _ _ _ _ _ (by decide)).trans ?_
  refine (ra_hit 0 _ _ _ _ _ _).trans ?_
  exact Eq.trans (b := tA (v182 c xa0) (v184 arg4 arg5 arg7 x0 x1 x3) (v189 arg4 arg5 arg7 x0 x1 x3) (hV arg6 x2 0 (by decide)) (v227 c xa2)) rfl (tA_of rfl (mx0 arg4 arg5 arg7 x0 x1 x3) (sc0 arg4 arg5 arg7 x0 x1 x3) rfl)

theorem mx1 : (v284 arg4 arg5 arg7 x0 x1 x3) = hX arg4 arg5 arg7 x0 x1 x3 1 (by decide) := by
  unfold v284 HS6_1
  refine (View.readCov_full _ _ _ _ _).trans ((tX10 _ _ _).trans (tX_of rfl rfl (bias arg7 x3)))

theorem sc1 : (v289 arg4 arg5 arg7 x0 x1 x3) = hS arg4 arg5 arg7 x0 x1 x3 1 (by decide) := by
  unfold v289 HS4_1
  refine (View.readCov_full _ _ _ _ _).trans ((tS8 _ _ _).trans (tS_of rfl rfl (bias arg7 x3)))

theorem list0_1 : row scM0_0.view 1 (by decide) (w0 (HS0_16 c arg4 arg5 arg7 x0 x1 x3 xa0)) = tM (row scM0_0.view 1 (by decide) xa0) (hX arg4 arg5 arg7 x0 x1 x3 1 (by decide)) := by
  unfold HS0_16
  refine (rs_skip 1 15 _ _ _ _ _ _ (by decide)).trans ?_
  refine (rs_skip 1 14 _ _ _ _ _ _ (by decide)).trans ?_
  refine (rs_skip 1 13 _ _ _ _ _ _ (by decide)).trans ?_
  refine (rs_skip 1 12 _ _ _ _ _ _ (by decide)).trans ?_
  refine (rs_skip 1 11 _ _ _ _ _ _ (by decide)).trans ?_
  refine (rs_skip 1 10 _ _ _ _ _ _ (by decide)).trans ?_
  refine (rs_skip 1 9 _ _ _ _ _ _ (by decide)).trans ?_
  refine (rs_skip 1 8 _ _ _ _ _ _ (by decide)).trans ?_
  refine (rs_skip 1 7 _ _ _ _ _ _ (by decide)).trans ?_
  refine (rs_skip 1 6 _ _ _ _ _ _ (by decide)).trans ?_
  refine (rs_skip 1 5 _ _ _ _ _ _ (by decide)).trans ?_
  refine (rs_skip 1 4 _ _ _ _ _ _ (by decide)).trans ?_
  refine (rs_skip 1 3 _ _ _ _ _ _ (by decide)).trans ?_
  refine (rs_skip 1 2 _ _ _ _ _ _ (by decide)).trans ?_
  refine (rs_hit 1 _ _ _ _ _ _).trans ?_
  exact Eq.trans (b := tM (v282 c xa0) (v284 arg4 arg5 arg7 x0 x1 x3)) rfl (tM_of2 rfl (mx1 arg4 arg5 arg7 x0 x1 x3))

theorem list1_1 : row scM0_1.view 1 (by decide) (w1 (HS1_16 c arg4 arg5 arg6 arg7 x0 x1 x2 x3 xa0 xa1)) = tL (row scM0_0.view 1 (by decide) xa0) (hX arg4 arg5 arg7 x0 x1 x3 1 (by decide)) (hS arg4 arg5 arg7 x0 x1 x3 1 (by decide)) (hV arg6 x2 1 (by decide)) (row scM0_1.view 1 (by decide) xa1) := by
  unfold HS1_16
  refine (rs_skip 1 15 _ _ _ _ _ _ (by decide)).trans ?_
  refine (rs_skip 1 14 _ _ _ _ _ _ (by decide)).trans ?_
  refine (rs_skip 1 13 _ _ _ _ _ _ (by decide)).trans ?_
  refine (rs_skip 1 12 _ _ _ _ _ _ (by decide)).trans ?_
  refine (rs_skip 1 11 _ _ _ _ _ _ (by decide)).trans ?_
  refine (rs_skip 1 10 _ _ _ _ _ _ (by decide)).trans ?_
  refine (rs_skip 1 9 _ _ _ _ _ _ (by decide)).trans ?_
  refine (rs_skip 1 8 _ _ _ _ _ _ (by decide)).trans ?_
  refine (rs_skip 1 7 _ _ _ _ _ _ (by decide)).trans ?_
  refine (rs_skip 1 6 _ _ _ _ _ _ (by decide)).trans ?_
  refine (rs_skip 1 5 _ _ _ _ _ _ (by decide)).trans ?_
  refine (rs_skip 1 4 _ _ _ _ _ _ (by decide)).trans ?_
  refine (rs_skip 1 3 _ _ _ _ _ _ (by decide)).trans ?_
  refine (rs_skip 1 2 _ _ _ _ _ _ (by decide)).trans ?_
  refine (rs_hit 1 _ _ _ _ _ _).trans ?_
  exact Eq.trans (b := tL (v282 c xa0) (v284 arg4 arg5 arg7 x0 x1 x3) (v289 arg4 arg5 arg7 x0 x1 x3) (hV arg6 x2 1 (by decide)) (v317 c xa1)) rfl (tL_of rfl (mx1 arg4 arg5 arg7 x0 x1 x3) (sc1 arg4 arg5 arg7 x0 x1 x3) rfl)

theorem list2_1 : row scM0_2.view 1 (by decide) (w2 (HS2_16 c arg4 arg5 arg6 arg7 x0 x1 x2 x3 xa0 xa2)) = tA (row scM0_0.view 1 (by decide) xa0) (hX arg4 arg5 arg7 x0 x1 x3 1 (by decide)) (hS arg4 arg5 arg7 x0 x1 x3 1 (by decide)) (hV arg6 x2 1 (by decide)) (row scM0_2.view 1 (by decide) xa2) := by
  unfold HS2_16
  refine (ra_skip 1 15 _ _ _ _ _ _ (by decide)).trans ?_
  refine (ra_skip 1 14 _ _ _ _ _ _ (by decide)).trans ?_
  refine (ra_skip 1 13 _ _ _ _ _ _ (by decide)).trans ?_
  refine (ra_skip 1 12 _ _ _ _ _ _ (by decide)).trans ?_
  refine (ra_skip 1 11 _ _ _ _ _ _ (by decide)).trans ?_
  refine (ra_skip 1 10 _ _ _ _ _ _ (by decide)).trans ?_
  refine (ra_skip 1 9 _ _ _ _ _ _ (by decide)).trans ?_
  refine (ra_skip 1 8 _ _ _ _ _ _ (by decide)).trans ?_
  refine (ra_skip 1 7 _ _ _ _ _ _ (by decide)).trans ?_
  refine (ra_skip 1 6 _ _ _ _ _ _ (by decide)).trans ?_
  refine (ra_skip 1 5 _ _ _ _ _ _ (by decide)).trans ?_
  refine (ra_skip 1 4 _ _ _ _ _ _ (by decide)).trans ?_
  refine (ra_skip 1 3 _ _ _ _ _ _ (by decide)).trans ?_
  refine (ra_skip 1 2 _ _ _ _ _ _ (by decide)).trans ?_
  refine (ra_hit 1 _ _ _ _ _ _).trans ?_
  exact Eq.trans (b := tA (v282 c xa0) (v284 arg4 arg5 arg7 x0 x1 x3) (v289 arg4 arg5 arg7 x0 x1 x3) (hV arg6 x2 1 (by decide)) (v327 c xa2)) rfl (tA_of rfl (mx1 arg4 arg5 arg7 x0 x1 x3) (sc1 arg4 arg5 arg7 x0 x1 x3) rfl)

theorem mx2 : (v184_1 arg4 arg5 arg7 x0 x1 x3) = hX arg4 arg5 arg7 x0 x1 x3 2 (by decide) := by
  unfold v184_1 HS5_2
  refine (View.readCov_full _ _ _ _ _).trans ((tX21 _ _ _).trans (tX_of rfl rfl (bias arg7 x3)))

theorem sc2 : (v189_1 arg4 arg5 arg7 x0 x1 x3) = hS arg4 arg5 arg7 x0 x1 x3 2 (by decide) := by
  unfold v189_1 HS3_2
  refine (View.readCov_full _ _ _ _ _).trans ((tS20 _ _ _).trans (tS_of rfl rfl (bias arg7 x3)))

theorem list0_2 : row scM0_0.view 2 (by decide) (w0 (HS0_16 c arg4 arg5 arg7 x0 x1 x3 xa0)) = tM (row scM0_0.view 2 (by decide) xa0) (hX arg4 arg5 arg7 x0 x1 x3 2 (by decide)) := by
  unfold HS0_16
  refine (rs_skip 2 15 _ _ _ _ _ _ (by decide)).trans ?_
  refine (rs_skip 2 14 _ _ _ _ _ _ (by decide)).trans ?_
  refine (rs_skip 2 13 _ _ _ _ _ _ (by decide)).trans ?_
  refine (rs_skip 2 12 _ _ _ _ _ _ (by decide)).trans ?_
  refine (rs_skip 2 11 _ _ _ _ _ _ (by decide)).trans ?_
  refine (rs_skip 2 10 _ _ _ _ _ _ (by decide)).trans ?_
  refine (rs_skip 2 9 _ _ _ _ _ _ (by decide)).trans ?_
  refine (rs_skip 2 8 _ _ _ _ _ _ (by decide)).trans ?_
  refine (rs_skip 2 7 _ _ _ _ _ _ (by decide)).trans ?_
  refine (rs_skip 2 6 _ _ _ _ _ _ (by decide)).trans ?_
  refine (rs_skip 2 5 _ _ _ _ _ _ (by decide)).trans ?_
  refine (rs_skip 2 4 _ _ _ _ _ _ (by decide)).trans ?_
  refine (rs_skip 2 3 _ _ _ _ _ _ (by decide)).trans ?_
  refine (rs_hit 2 _ _ _ _ _ _).trans ?_
  exact Eq.trans (b := tM (v182_1 c xa0) (v184_1 arg4 arg5 arg7 x0 x1 x3)) rfl (tM_of2 rfl (mx2 arg4 arg5 arg7 x0 x1 x3))

theorem list1_2 : row scM0_1.view 2 (by decide) (w1 (HS1_16 c arg4 arg5 arg6 arg7 x0 x1 x2 x3 xa0 xa1)) = tL (row scM0_0.view 2 (by decide) xa0) (hX arg4 arg5 arg7 x0 x1 x3 2 (by decide)) (hS arg4 arg5 arg7 x0 x1 x3 2 (by decide)) (hV arg6 x2 2 (by decide)) (row scM0_1.view 2 (by decide) xa1) := by
  unfold HS1_16
  refine (rs_skip 2 15 _ _ _ _ _ _ (by decide)).trans ?_
  refine (rs_skip 2 14 _ _ _ _ _ _ (by decide)).trans ?_
  refine (rs_skip 2 13 _ _ _ _ _ _ (by decide)).trans ?_
  refine (rs_skip 2 12 _ _ _ _ _ _ (by decide)).trans ?_
  refine (rs_skip 2 11 _ _ _ _ _ _ (by decide)).trans ?_
  refine (rs_skip 2 10 _ _ _ _ _ _ (by decide)).trans ?_
  refine (rs_skip 2 9 _ _ _ _ _ _ (by decide)).trans ?_
  refine (rs_skip 2 8 _ _ _ _ _ _ (by decide)).trans ?_
  refine (rs_skip 2 7 _ _ _ _ _ _ (by decide)).trans ?_
  refine (rs_skip 2 6 _ _ _ _ _ _ (by decide)).trans ?_
  refine (rs_skip 2 5 _ _ _ _ _ _ (by decide)).trans ?_
  refine (rs_skip 2 4 _ _ _ _ _ _ (by decide)).trans ?_
  refine (rs_skip 2 3 _ _ _ _ _ _ (by decide)).trans ?_
  refine (rs_hit 2 _ _ _ _ _ _).trans ?_
  exact Eq.trans (b := tL (v182_1 c xa0) (v184_1 arg4 arg5 arg7 x0 x1 x3) (v189_1 arg4 arg5 arg7 x0 x1 x3) (hV arg6 x2 2 (by decide)) (v217_1 c xa1)) rfl (tL_of rfl (mx2 arg4 arg5 arg7 x0 x1 x3) (sc2 arg4 arg5 arg7 x0 x1 x3) rfl)

theorem list2_2 : row scM0_2.view 2 (by decide) (w2 (HS2_16 c arg4 arg5 arg6 arg7 x0 x1 x2 x3 xa0 xa2)) = tA (row scM0_0.view 2 (by decide) xa0) (hX arg4 arg5 arg7 x0 x1 x3 2 (by decide)) (hS arg4 arg5 arg7 x0 x1 x3 2 (by decide)) (hV arg6 x2 2 (by decide)) (row scM0_2.view 2 (by decide) xa2) := by
  unfold HS2_16
  refine (ra_skip 2 15 _ _ _ _ _ _ (by decide)).trans ?_
  refine (ra_skip 2 14 _ _ _ _ _ _ (by decide)).trans ?_
  refine (ra_skip 2 13 _ _ _ _ _ _ (by decide)).trans ?_
  refine (ra_skip 2 12 _ _ _ _ _ _ (by decide)).trans ?_
  refine (ra_skip 2 11 _ _ _ _ _ _ (by decide)).trans ?_
  refine (ra_skip 2 10 _ _ _ _ _ _ (by decide)).trans ?_
  refine (ra_skip 2 9 _ _ _ _ _ _ (by decide)).trans ?_
  refine (ra_skip 2 8 _ _ _ _ _ _ (by decide)).trans ?_
  refine (ra_skip 2 7 _ _ _ _ _ _ (by decide)).trans ?_
  refine (ra_skip 2 6 _ _ _ _ _ _ (by decide)).trans ?_
  refine (ra_skip 2 5 _ _ _ _ _ _ (by decide)).trans ?_
  refine (ra_skip 2 4 _ _ _ _ _ _ (by decide)).trans ?_
  refine (ra_skip 2 3 _ _ _ _ _ _ (by decide)).trans ?_
  refine (ra_hit 2 _ _ _ _ _ _).trans ?_
  exact Eq.trans (b := tA (v182_1 c xa0) (v184_1 arg4 arg5 arg7 x0 x1 x3) (v189_1 arg4 arg5 arg7 x0 x1 x3) (hV arg6 x2 2 (by decide)) (v227_1 c xa2)) rfl (tA_of rfl (mx2 arg4 arg5 arg7 x0 x1 x3) (sc2 arg4 arg5 arg7 x0 x1 x3) rfl)

theorem mx3 : (v284_1 arg4 arg5 arg7 x0 x1 x3) = hX arg4 arg5 arg7 x0 x1 x3 3 (by decide) := by
  unfold v284_1 HS6_2
  refine (View.readCov_full _ _ _ _ _).trans ((tX10 _ _ _).trans (tX_of rfl rfl (bias arg7 x3)))

theorem sc3 : (v289_1 arg4 arg5 arg7 x0 x1 x3) = hS arg4 arg5 arg7 x0 x1 x3 3 (by decide) := by
  unfold v289_1 HS4_2
  refine (View.readCov_full _ _ _ _ _).trans ((tS8 _ _ _).trans (tS_of rfl rfl (bias arg7 x3)))

theorem list0_3 : row scM0_0.view 3 (by decide) (w0 (HS0_16 c arg4 arg5 arg7 x0 x1 x3 xa0)) = tM (row scM0_0.view 3 (by decide) xa0) (hX arg4 arg5 arg7 x0 x1 x3 3 (by decide)) := by
  unfold HS0_16
  refine (rs_skip 3 15 _ _ _ _ _ _ (by decide)).trans ?_
  refine (rs_skip 3 14 _ _ _ _ _ _ (by decide)).trans ?_
  refine (rs_skip 3 13 _ _ _ _ _ _ (by decide)).trans ?_
  refine (rs_skip 3 12 _ _ _ _ _ _ (by decide)).trans ?_
  refine (rs_skip 3 11 _ _ _ _ _ _ (by decide)).trans ?_
  refine (rs_skip 3 10 _ _ _ _ _ _ (by decide)).trans ?_
  refine (rs_skip 3 9 _ _ _ _ _ _ (by decide)).trans ?_
  refine (rs_skip 3 8 _ _ _ _ _ _ (by decide)).trans ?_
  refine (rs_skip 3 7 _ _ _ _ _ _ (by decide)).trans ?_
  refine (rs_skip 3 6 _ _ _ _ _ _ (by decide)).trans ?_
  refine (rs_skip 3 5 _ _ _ _ _ _ (by decide)).trans ?_
  refine (rs_skip 3 4 _ _ _ _ _ _ (by decide)).trans ?_
  refine (rs_hit 3 _ _ _ _ _ _).trans ?_
  exact Eq.trans (b := tM (v282_1 c xa0) (v284_1 arg4 arg5 arg7 x0 x1 x3)) rfl (tM_of2 rfl (mx3 arg4 arg5 arg7 x0 x1 x3))

theorem list1_3 : row scM0_1.view 3 (by decide) (w1 (HS1_16 c arg4 arg5 arg6 arg7 x0 x1 x2 x3 xa0 xa1)) = tL (row scM0_0.view 3 (by decide) xa0) (hX arg4 arg5 arg7 x0 x1 x3 3 (by decide)) (hS arg4 arg5 arg7 x0 x1 x3 3 (by decide)) (hV arg6 x2 3 (by decide)) (row scM0_1.view 3 (by decide) xa1) := by
  unfold HS1_16
  refine (rs_skip 3 15 _ _ _ _ _ _ (by decide)).trans ?_
  refine (rs_skip 3 14 _ _ _ _ _ _ (by decide)).trans ?_
  refine (rs_skip 3 13 _ _ _ _ _ _ (by decide)).trans ?_
  refine (rs_skip 3 12 _ _ _ _ _ _ (by decide)).trans ?_
  refine (rs_skip 3 11 _ _ _ _ _ _ (by decide)).trans ?_
  refine (rs_skip 3 10 _ _ _ _ _ _ (by decide)).trans ?_
  refine (rs_skip 3 9 _ _ _ _ _ _ (by decide)).trans ?_
  refine (rs_skip 3 8 _ _ _ _ _ _ (by decide)).trans ?_
  refine (rs_skip 3 7 _ _ _ _ _ _ (by decide)).trans ?_
  refine (rs_skip 3 6 _ _ _ _ _ _ (by decide)).trans ?_
  refine (rs_skip 3 5 _ _ _ _ _ _ (by decide)).trans ?_
  refine (rs_skip 3 4 _ _ _ _ _ _ (by decide)).trans ?_
  refine (rs_hit 3 _ _ _ _ _ _).trans ?_
  exact Eq.trans (b := tL (v282_1 c xa0) (v284_1 arg4 arg5 arg7 x0 x1 x3) (v289_1 arg4 arg5 arg7 x0 x1 x3) (hV arg6 x2 3 (by decide)) (v317_1 c xa1)) rfl (tL_of rfl (mx3 arg4 arg5 arg7 x0 x1 x3) (sc3 arg4 arg5 arg7 x0 x1 x3) rfl)

theorem list2_3 : row scM0_2.view 3 (by decide) (w2 (HS2_16 c arg4 arg5 arg6 arg7 x0 x1 x2 x3 xa0 xa2)) = tA (row scM0_0.view 3 (by decide) xa0) (hX arg4 arg5 arg7 x0 x1 x3 3 (by decide)) (hS arg4 arg5 arg7 x0 x1 x3 3 (by decide)) (hV arg6 x2 3 (by decide)) (row scM0_2.view 3 (by decide) xa2) := by
  unfold HS2_16
  refine (ra_skip 3 15 _ _ _ _ _ _ (by decide)).trans ?_
  refine (ra_skip 3 14 _ _ _ _ _ _ (by decide)).trans ?_
  refine (ra_skip 3 13 _ _ _ _ _ _ (by decide)).trans ?_
  refine (ra_skip 3 12 _ _ _ _ _ _ (by decide)).trans ?_
  refine (ra_skip 3 11 _ _ _ _ _ _ (by decide)).trans ?_
  refine (ra_skip 3 10 _ _ _ _ _ _ (by decide)).trans ?_
  refine (ra_skip 3 9 _ _ _ _ _ _ (by decide)).trans ?_
  refine (ra_skip 3 8 _ _ _ _ _ _ (by decide)).trans ?_
  refine (ra_skip 3 7 _ _ _ _ _ _ (by decide)).trans ?_
  refine (ra_skip 3 6 _ _ _ _ _ _ (by decide)).trans ?_
  refine (ra_skip 3 5 _ _ _ _ _ _ (by decide)).trans ?_
  refine (ra_skip 3 4 _ _ _ _ _ _ (by decide)).trans ?_
  refine (ra_hit 3 _ _ _ _ _ _).trans ?_
  exact Eq.trans (b := tA (v282_1 c xa0) (v284_1 arg4 arg5 arg7 x0 x1 x3) (v289_1 arg4 arg5 arg7 x0 x1 x3) (hV arg6 x2 3 (by decide)) (v327_1 c xa2)) rfl (tA_of rfl (mx3 arg4 arg5 arg7 x0 x1 x3) (sc3 arg4 arg5 arg7 x0 x1 x3) rfl)

theorem mx4 : (v184_2 arg4 arg5 arg7 x0 x1 x3) = hX arg4 arg5 arg7 x0 x1 x3 4 (by decide) := by
  unfold v184_2 HS5_3
  refine (View.readCov_full _ _ _ _ _).trans ((tX21 _ _ _).trans (tX_of rfl rfl (bias arg7 x3)))

theorem sc4 : (v189_2 arg4 arg5 arg7 x0 x1 x3) = hS arg4 arg5 arg7 x0 x1 x3 4 (by decide) := by
  unfold v189_2 HS3_3
  refine (View.readCov_full _ _ _ _ _).trans ((tS20 _ _ _).trans (tS_of rfl rfl (bias arg7 x3)))

theorem list0_4 : row scM0_0.view 4 (by decide) (w0 (HS0_16 c arg4 arg5 arg7 x0 x1 x3 xa0)) = tM (row scM0_0.view 4 (by decide) xa0) (hX arg4 arg5 arg7 x0 x1 x3 4 (by decide)) := by
  unfold HS0_16
  refine (rs_skip 4 15 _ _ _ _ _ _ (by decide)).trans ?_
  refine (rs_skip 4 14 _ _ _ _ _ _ (by decide)).trans ?_
  refine (rs_skip 4 13 _ _ _ _ _ _ (by decide)).trans ?_
  refine (rs_skip 4 12 _ _ _ _ _ _ (by decide)).trans ?_
  refine (rs_skip 4 11 _ _ _ _ _ _ (by decide)).trans ?_
  refine (rs_skip 4 10 _ _ _ _ _ _ (by decide)).trans ?_
  refine (rs_skip 4 9 _ _ _ _ _ _ (by decide)).trans ?_
  refine (rs_skip 4 8 _ _ _ _ _ _ (by decide)).trans ?_
  refine (rs_skip 4 7 _ _ _ _ _ _ (by decide)).trans ?_
  refine (rs_skip 4 6 _ _ _ _ _ _ (by decide)).trans ?_
  refine (rs_skip 4 5 _ _ _ _ _ _ (by decide)).trans ?_
  refine (rs_hit 4 _ _ _ _ _ _).trans ?_
  exact Eq.trans (b := tM (v182_2 c xa0) (v184_2 arg4 arg5 arg7 x0 x1 x3)) rfl (tM_of2 rfl (mx4 arg4 arg5 arg7 x0 x1 x3))

theorem list1_4 : row scM0_1.view 4 (by decide) (w1 (HS1_16 c arg4 arg5 arg6 arg7 x0 x1 x2 x3 xa0 xa1)) = tL (row scM0_0.view 4 (by decide) xa0) (hX arg4 arg5 arg7 x0 x1 x3 4 (by decide)) (hS arg4 arg5 arg7 x0 x1 x3 4 (by decide)) (hV arg6 x2 4 (by decide)) (row scM0_1.view 4 (by decide) xa1) := by
  unfold HS1_16
  refine (rs_skip 4 15 _ _ _ _ _ _ (by decide)).trans ?_
  refine (rs_skip 4 14 _ _ _ _ _ _ (by decide)).trans ?_
  refine (rs_skip 4 13 _ _ _ _ _ _ (by decide)).trans ?_
  refine (rs_skip 4 12 _ _ _ _ _ _ (by decide)).trans ?_
  refine (rs_skip 4 11 _ _ _ _ _ _ (by decide)).trans ?_
  refine (rs_skip 4 10 _ _ _ _ _ _ (by decide)).trans ?_
  refine (rs_skip 4 9 _ _ _ _ _ _ (by decide)).trans ?_
  refine (rs_skip 4 8 _ _ _ _ _ _ (by decide)).trans ?_
  refine (rs_skip 4 7 _ _ _ _ _ _ (by decide)).trans ?_
  refine (rs_skip 4 6 _ _ _ _ _ _ (by decide)).trans ?_
  refine (rs_skip 4 5 _ _ _ _ _ _ (by decide)).trans ?_
  refine (rs_hit 4 _ _ _ _ _ _).trans ?_
  exact Eq.trans (b := tL (v182_2 c xa0) (v184_2 arg4 arg5 arg7 x0 x1 x3) (v189_2 arg4 arg5 arg7 x0 x1 x3) (hV arg6 x2 4 (by decide)) (v217_2 c xa1)) rfl (tL_of rfl (mx4 arg4 arg5 arg7 x0 x1 x3) (sc4 arg4 arg5 arg7 x0 x1 x3) rfl)

theorem list2_4 : row scM0_2.view 4 (by decide) (w2 (HS2_16 c arg4 arg5 arg6 arg7 x0 x1 x2 x3 xa0 xa2)) = tA (row scM0_0.view 4 (by decide) xa0) (hX arg4 arg5 arg7 x0 x1 x3 4 (by decide)) (hS arg4 arg5 arg7 x0 x1 x3 4 (by decide)) (hV arg6 x2 4 (by decide)) (row scM0_2.view 4 (by decide) xa2) := by
  unfold HS2_16
  refine (ra_skip 4 15 _ _ _ _ _ _ (by decide)).trans ?_
  refine (ra_skip 4 14 _ _ _ _ _ _ (by decide)).trans ?_
  refine (ra_skip 4 13 _ _ _ _ _ _ (by decide)).trans ?_
  refine (ra_skip 4 12 _ _ _ _ _ _ (by decide)).trans ?_
  refine (ra_skip 4 11 _ _ _ _ _ _ (by decide)).trans ?_
  refine (ra_skip 4 10 _ _ _ _ _ _ (by decide)).trans ?_
  refine (ra_skip 4 9 _ _ _ _ _ _ (by decide)).trans ?_
  refine (ra_skip 4 8 _ _ _ _ _ _ (by decide)).trans ?_
  refine (ra_skip 4 7 _ _ _ _ _ _ (by decide)).trans ?_
  refine (ra_skip 4 6 _ _ _ _ _ _ (by decide)).trans ?_
  refine (ra_skip 4 5 _ _ _ _ _ _ (by decide)).trans ?_
  refine (ra_hit 4 _ _ _ _ _ _).trans ?_
  exact Eq.trans (b := tA (v182_2 c xa0) (v184_2 arg4 arg5 arg7 x0 x1 x3) (v189_2 arg4 arg5 arg7 x0 x1 x3) (hV arg6 x2 4 (by decide)) (v227_2 c xa2)) rfl (tA_of rfl (mx4 arg4 arg5 arg7 x0 x1 x3) (sc4 arg4 arg5 arg7 x0 x1 x3) rfl)

theorem mx5 : (v284_2 arg4 arg5 arg7 x0 x1 x3) = hX arg4 arg5 arg7 x0 x1 x3 5 (by decide) := by
  unfold v284_2 HS6_3
  refine (View.readCov_full _ _ _ _ _).trans ((tX10 _ _ _).trans (tX_of rfl rfl (bias arg7 x3)))

theorem sc5 : (v289_2 arg4 arg5 arg7 x0 x1 x3) = hS arg4 arg5 arg7 x0 x1 x3 5 (by decide) := by
  unfold v289_2 HS4_3
  refine (View.readCov_full _ _ _ _ _).trans ((tS8 _ _ _).trans (tS_of rfl rfl (bias arg7 x3)))

theorem list0_5 : row scM0_0.view 5 (by decide) (w0 (HS0_16 c arg4 arg5 arg7 x0 x1 x3 xa0)) = tM (row scM0_0.view 5 (by decide) xa0) (hX arg4 arg5 arg7 x0 x1 x3 5 (by decide)) := by
  unfold HS0_16
  refine (rs_skip 5 15 _ _ _ _ _ _ (by decide)).trans ?_
  refine (rs_skip 5 14 _ _ _ _ _ _ (by decide)).trans ?_
  refine (rs_skip 5 13 _ _ _ _ _ _ (by decide)).trans ?_
  refine (rs_skip 5 12 _ _ _ _ _ _ (by decide)).trans ?_
  refine (rs_skip 5 11 _ _ _ _ _ _ (by decide)).trans ?_
  refine (rs_skip 5 10 _ _ _ _ _ _ (by decide)).trans ?_
  refine (rs_skip 5 9 _ _ _ _ _ _ (by decide)).trans ?_
  refine (rs_skip 5 8 _ _ _ _ _ _ (by decide)).trans ?_
  refine (rs_skip 5 7 _ _ _ _ _ _ (by decide)).trans ?_
  refine (rs_skip 5 6 _ _ _ _ _ _ (by decide)).trans ?_
  refine (rs_hit 5 _ _ _ _ _ _).trans ?_
  exact Eq.trans (b := tM (v282_2 c xa0) (v284_2 arg4 arg5 arg7 x0 x1 x3)) rfl (tM_of2 rfl (mx5 arg4 arg5 arg7 x0 x1 x3))

theorem list1_5 : row scM0_1.view 5 (by decide) (w1 (HS1_16 c arg4 arg5 arg6 arg7 x0 x1 x2 x3 xa0 xa1)) = tL (row scM0_0.view 5 (by decide) xa0) (hX arg4 arg5 arg7 x0 x1 x3 5 (by decide)) (hS arg4 arg5 arg7 x0 x1 x3 5 (by decide)) (hV arg6 x2 5 (by decide)) (row scM0_1.view 5 (by decide) xa1) := by
  unfold HS1_16
  refine (rs_skip 5 15 _ _ _ _ _ _ (by decide)).trans ?_
  refine (rs_skip 5 14 _ _ _ _ _ _ (by decide)).trans ?_
  refine (rs_skip 5 13 _ _ _ _ _ _ (by decide)).trans ?_
  refine (rs_skip 5 12 _ _ _ _ _ _ (by decide)).trans ?_
  refine (rs_skip 5 11 _ _ _ _ _ _ (by decide)).trans ?_
  refine (rs_skip 5 10 _ _ _ _ _ _ (by decide)).trans ?_
  refine (rs_skip 5 9 _ _ _ _ _ _ (by decide)).trans ?_
  refine (rs_skip 5 8 _ _ _ _ _ _ (by decide)).trans ?_
  refine (rs_skip 5 7 _ _ _ _ _ _ (by decide)).trans ?_
  refine (rs_skip 5 6 _ _ _ _ _ _ (by decide)).trans ?_
  refine (rs_hit 5 _ _ _ _ _ _).trans ?_
  exact Eq.trans (b := tL (v282_2 c xa0) (v284_2 arg4 arg5 arg7 x0 x1 x3) (v289_2 arg4 arg5 arg7 x0 x1 x3) (hV arg6 x2 5 (by decide)) (v317_2 c xa1)) rfl (tL_of rfl (mx5 arg4 arg5 arg7 x0 x1 x3) (sc5 arg4 arg5 arg7 x0 x1 x3) rfl)

theorem list2_5 : row scM0_2.view 5 (by decide) (w2 (HS2_16 c arg4 arg5 arg6 arg7 x0 x1 x2 x3 xa0 xa2)) = tA (row scM0_0.view 5 (by decide) xa0) (hX arg4 arg5 arg7 x0 x1 x3 5 (by decide)) (hS arg4 arg5 arg7 x0 x1 x3 5 (by decide)) (hV arg6 x2 5 (by decide)) (row scM0_2.view 5 (by decide) xa2) := by
  unfold HS2_16
  refine (ra_skip 5 15 _ _ _ _ _ _ (by decide)).trans ?_
  refine (ra_skip 5 14 _ _ _ _ _ _ (by decide)).trans ?_
  refine (ra_skip 5 13 _ _ _ _ _ _ (by decide)).trans ?_
  refine (ra_skip 5 12 _ _ _ _ _ _ (by decide)).trans ?_
  refine (ra_skip 5 11 _ _ _ _ _ _ (by decide)).trans ?_
  refine (ra_skip 5 10 _ _ _ _ _ _ (by decide)).trans ?_
  refine (ra_skip 5 9 _ _ _ _ _ _ (by decide)).trans ?_
  refine (ra_skip 5 8 _ _ _ _ _ _ (by decide)).trans ?_
  refine (ra_skip 5 7 _ _ _ _ _ _ (by decide)).trans ?_
  refine (ra_skip 5 6 _ _ _ _ _ _ (by decide)).trans ?_
  refine (ra_hit 5 _ _ _ _ _ _).trans ?_
  exact Eq.trans (b := tA (v282_2 c xa0) (v284_2 arg4 arg5 arg7 x0 x1 x3) (v289_2 arg4 arg5 arg7 x0 x1 x3) (hV arg6 x2 5 (by decide)) (v327_2 c xa2)) rfl (tA_of rfl (mx5 arg4 arg5 arg7 x0 x1 x3) (sc5 arg4 arg5 arg7 x0 x1 x3) rfl)

theorem mx6 : (v184_3 arg4 arg5 arg7 x0 x1 x3) = hX arg4 arg5 arg7 x0 x1 x3 6 (by decide) := by
  unfold v184_3 HS5_4
  refine (View.readCov_full _ _ _ _ _).trans ((tX21 _ _ _).trans (tX_of rfl rfl (bias arg7 x3)))

theorem sc6 : (v189_3 arg4 arg5 arg7 x0 x1 x3) = hS arg4 arg5 arg7 x0 x1 x3 6 (by decide) := by
  unfold v189_3 HS3_4
  refine (View.readCov_full _ _ _ _ _).trans ((tS20 _ _ _).trans (tS_of rfl rfl (bias arg7 x3)))

theorem list0_6 : row scM0_0.view 6 (by decide) (w0 (HS0_16 c arg4 arg5 arg7 x0 x1 x3 xa0)) = tM (row scM0_0.view 6 (by decide) xa0) (hX arg4 arg5 arg7 x0 x1 x3 6 (by decide)) := by
  unfold HS0_16
  refine (rs_skip 6 15 _ _ _ _ _ _ (by decide)).trans ?_
  refine (rs_skip 6 14 _ _ _ _ _ _ (by decide)).trans ?_
  refine (rs_skip 6 13 _ _ _ _ _ _ (by decide)).trans ?_
  refine (rs_skip 6 12 _ _ _ _ _ _ (by decide)).trans ?_
  refine (rs_skip 6 11 _ _ _ _ _ _ (by decide)).trans ?_
  refine (rs_skip 6 10 _ _ _ _ _ _ (by decide)).trans ?_
  refine (rs_skip 6 9 _ _ _ _ _ _ (by decide)).trans ?_
  refine (rs_skip 6 8 _ _ _ _ _ _ (by decide)).trans ?_
  refine (rs_skip 6 7 _ _ _ _ _ _ (by decide)).trans ?_
  refine (rs_hit 6 _ _ _ _ _ _).trans ?_
  exact Eq.trans (b := tM (v182_3 c xa0) (v184_3 arg4 arg5 arg7 x0 x1 x3)) rfl (tM_of2 rfl (mx6 arg4 arg5 arg7 x0 x1 x3))

theorem list1_6 : row scM0_1.view 6 (by decide) (w1 (HS1_16 c arg4 arg5 arg6 arg7 x0 x1 x2 x3 xa0 xa1)) = tL (row scM0_0.view 6 (by decide) xa0) (hX arg4 arg5 arg7 x0 x1 x3 6 (by decide)) (hS arg4 arg5 arg7 x0 x1 x3 6 (by decide)) (hV arg6 x2 6 (by decide)) (row scM0_1.view 6 (by decide) xa1) := by
  unfold HS1_16
  refine (rs_skip 6 15 _ _ _ _ _ _ (by decide)).trans ?_
  refine (rs_skip 6 14 _ _ _ _ _ _ (by decide)).trans ?_
  refine (rs_skip 6 13 _ _ _ _ _ _ (by decide)).trans ?_
  refine (rs_skip 6 12 _ _ _ _ _ _ (by decide)).trans ?_
  refine (rs_skip 6 11 _ _ _ _ _ _ (by decide)).trans ?_
  refine (rs_skip 6 10 _ _ _ _ _ _ (by decide)).trans ?_
  refine (rs_skip 6 9 _ _ _ _ _ _ (by decide)).trans ?_
  refine (rs_skip 6 8 _ _ _ _ _ _ (by decide)).trans ?_
  refine (rs_skip 6 7 _ _ _ _ _ _ (by decide)).trans ?_
  refine (rs_hit 6 _ _ _ _ _ _).trans ?_
  exact Eq.trans (b := tL (v182_3 c xa0) (v184_3 arg4 arg5 arg7 x0 x1 x3) (v189_3 arg4 arg5 arg7 x0 x1 x3) (hV arg6 x2 6 (by decide)) (v217_3 c xa1)) rfl (tL_of rfl (mx6 arg4 arg5 arg7 x0 x1 x3) (sc6 arg4 arg5 arg7 x0 x1 x3) rfl)

theorem list2_6 : row scM0_2.view 6 (by decide) (w2 (HS2_16 c arg4 arg5 arg6 arg7 x0 x1 x2 x3 xa0 xa2)) = tA (row scM0_0.view 6 (by decide) xa0) (hX arg4 arg5 arg7 x0 x1 x3 6 (by decide)) (hS arg4 arg5 arg7 x0 x1 x3 6 (by decide)) (hV arg6 x2 6 (by decide)) (row scM0_2.view 6 (by decide) xa2) := by
  unfold HS2_16
  refine (ra_skip 6 15 _ _ _ _ _ _ (by decide)).trans ?_
  refine (ra_skip 6 14 _ _ _ _ _ _ (by decide)).trans ?_
  refine (ra_skip 6 13 _ _ _ _ _ _ (by decide)).trans ?_
  refine (ra_skip 6 12 _ _ _ _ _ _ (by decide)).trans ?_
  refine (ra_skip 6 11 _ _ _ _ _ _ (by decide)).trans ?_
  refine (ra_skip 6 10 _ _ _ _ _ _ (by decide)).trans ?_
  refine (ra_skip 6 9 _ _ _ _ _ _ (by decide)).trans ?_
  refine (ra_skip 6 8 _ _ _ _ _ _ (by decide)).trans ?_
  refine (ra_skip 6 7 _ _ _ _ _ _ (by decide)).trans ?_
  refine (ra_hit 6 _ _ _ _ _ _).trans ?_
  exact Eq.trans (b := tA (v182_3 c xa0) (v184_3 arg4 arg5 arg7 x0 x1 x3) (v189_3 arg4 arg5 arg7 x0 x1 x3) (hV arg6 x2 6 (by decide)) (v227_3 c xa2)) rfl (tA_of rfl (mx6 arg4 arg5 arg7 x0 x1 x3) (sc6 arg4 arg5 arg7 x0 x1 x3) rfl)

theorem mx7 : (v284_3 arg4 arg5 arg7 x0 x1 x3) = hX arg4 arg5 arg7 x0 x1 x3 7 (by decide) := by
  unfold v284_3 HS6_4
  refine (View.readCov_full _ _ _ _ _).trans ((tX10 _ _ _).trans (tX_of rfl rfl (bias arg7 x3)))

theorem sc7 : (v289_3 arg4 arg5 arg7 x0 x1 x3) = hS arg4 arg5 arg7 x0 x1 x3 7 (by decide) := by
  unfold v289_3 HS4_4
  refine (View.readCov_full _ _ _ _ _).trans ((tS8 _ _ _).trans (tS_of rfl rfl (bias arg7 x3)))

theorem list0_7 : row scM0_0.view 7 (by decide) (w0 (HS0_16 c arg4 arg5 arg7 x0 x1 x3 xa0)) = tM (row scM0_0.view 7 (by decide) xa0) (hX arg4 arg5 arg7 x0 x1 x3 7 (by decide)) := by
  unfold HS0_16
  refine (rs_skip 7 15 _ _ _ _ _ _ (by decide)).trans ?_
  refine (rs_skip 7 14 _ _ _ _ _ _ (by decide)).trans ?_
  refine (rs_skip 7 13 _ _ _ _ _ _ (by decide)).trans ?_
  refine (rs_skip 7 12 _ _ _ _ _ _ (by decide)).trans ?_
  refine (rs_skip 7 11 _ _ _ _ _ _ (by decide)).trans ?_
  refine (rs_skip 7 10 _ _ _ _ _ _ (by decide)).trans ?_
  refine (rs_skip 7 9 _ _ _ _ _ _ (by decide)).trans ?_
  refine (rs_skip 7 8 _ _ _ _ _ _ (by decide)).trans ?_
  refine (rs_hit 7 _ _ _ _ _ _).trans ?_
  exact Eq.trans (b := tM (v282_3 c xa0) (v284_3 arg4 arg5 arg7 x0 x1 x3)) rfl (tM_of2 rfl (mx7 arg4 arg5 arg7 x0 x1 x3))

theorem list1_7 : row scM0_1.view 7 (by decide) (w1 (HS1_16 c arg4 arg5 arg6 arg7 x0 x1 x2 x3 xa0 xa1)) = tL (row scM0_0.view 7 (by decide) xa0) (hX arg4 arg5 arg7 x0 x1 x3 7 (by decide)) (hS arg4 arg5 arg7 x0 x1 x3 7 (by decide)) (hV arg6 x2 7 (by decide)) (row scM0_1.view 7 (by decide) xa1) := by
  unfold HS1_16
  refine (rs_skip 7 15 _ _ _ _ _ _ (by decide)).trans ?_
  refine (rs_skip 7 14 _ _ _ _ _ _ (by decide)).trans ?_
  refine (rs_skip 7 13 _ _ _ _ _ _ (by decide)).trans ?_
  refine (rs_skip 7 12 _ _ _ _ _ _ (by decide)).trans ?_
  refine (rs_skip 7 11 _ _ _ _ _ _ (by decide)).trans ?_
  refine (rs_skip 7 10 _ _ _ _ _ _ (by decide)).trans ?_
  refine (rs_skip 7 9 _ _ _ _ _ _ (by decide)).trans ?_
  refine (rs_skip 7 8 _ _ _ _ _ _ (by decide)).trans ?_
  refine (rs_hit 7 _ _ _ _ _ _).trans ?_
  exact Eq.trans (b := tL (v282_3 c xa0) (v284_3 arg4 arg5 arg7 x0 x1 x3) (v289_3 arg4 arg5 arg7 x0 x1 x3) (hV arg6 x2 7 (by decide)) (v317_3 c xa1)) rfl (tL_of rfl (mx7 arg4 arg5 arg7 x0 x1 x3) (sc7 arg4 arg5 arg7 x0 x1 x3) rfl)

theorem list2_7 : row scM0_2.view 7 (by decide) (w2 (HS2_16 c arg4 arg5 arg6 arg7 x0 x1 x2 x3 xa0 xa2)) = tA (row scM0_0.view 7 (by decide) xa0) (hX arg4 arg5 arg7 x0 x1 x3 7 (by decide)) (hS arg4 arg5 arg7 x0 x1 x3 7 (by decide)) (hV arg6 x2 7 (by decide)) (row scM0_2.view 7 (by decide) xa2) := by
  unfold HS2_16
  refine (ra_skip 7 15 _ _ _ _ _ _ (by decide)).trans ?_
  refine (ra_skip 7 14 _ _ _ _ _ _ (by decide)).trans ?_
  refine (ra_skip 7 13 _ _ _ _ _ _ (by decide)).trans ?_
  refine (ra_skip 7 12 _ _ _ _ _ _ (by decide)).trans ?_
  refine (ra_skip 7 11 _ _ _ _ _ _ (by decide)).trans ?_
  refine (ra_skip 7 10 _ _ _ _ _ _ (by decide)).trans ?_
  refine (ra_skip 7 9 _ _ _ _ _ _ (by decide)).trans ?_
  refine (ra_skip 7 8 _ _ _ _ _ _ (by decide)).trans ?_
  refine (ra_hit 7 _ _ _ _ _ _).trans ?_
  exact Eq.trans (b := tA (v282_3 c xa0) (v284_3 arg4 arg5 arg7 x0 x1 x3) (v289_3 arg4 arg5 arg7 x0 x1 x3) (hV arg6 x2 7 (by decide)) (v327_3 c xa2)) rfl (tA_of rfl (mx7 arg4 arg5 arg7 x0 x1 x3) (sc7 arg4 arg5 arg7 x0 x1 x3) rfl)

theorem mx8 : (v184_4 arg4 arg5 arg7 x0 x1 x3) = hX arg4 arg5 arg7 x0 x1 x3 8 (by decide) := by
  unfold v184_4 HS5_5
  refine (View.readCov_full _ _ _ _ _).trans ((tX21 _ _ _).trans (tX_of rfl rfl (bias arg7 x3)))

theorem sc8 : (v189_4 arg4 arg5 arg7 x0 x1 x3) = hS arg4 arg5 arg7 x0 x1 x3 8 (by decide) := by
  unfold v189_4 HS3_5
  refine (View.readCov_full _ _ _ _ _).trans ((tS20 _ _ _).trans (tS_of rfl rfl (bias arg7 x3)))

theorem list0_8 : row scM0_0.view 8 (by decide) (w0 (HS0_16 c arg4 arg5 arg7 x0 x1 x3 xa0)) = tM (row scM0_0.view 8 (by decide) xa0) (hX arg4 arg5 arg7 x0 x1 x3 8 (by decide)) := by
  unfold HS0_16
  refine (rs_skip 8 15 _ _ _ _ _ _ (by decide)).trans ?_
  refine (rs_skip 8 14 _ _ _ _ _ _ (by decide)).trans ?_
  refine (rs_skip 8 13 _ _ _ _ _ _ (by decide)).trans ?_
  refine (rs_skip 8 12 _ _ _ _ _ _ (by decide)).trans ?_
  refine (rs_skip 8 11 _ _ _ _ _ _ (by decide)).trans ?_
  refine (rs_skip 8 10 _ _ _ _ _ _ (by decide)).trans ?_
  refine (rs_skip 8 9 _ _ _ _ _ _ (by decide)).trans ?_
  refine (rs_hit 8 _ _ _ _ _ _).trans ?_
  exact Eq.trans (b := tM (v182_4 c xa0) (v184_4 arg4 arg5 arg7 x0 x1 x3)) rfl (tM_of2 rfl (mx8 arg4 arg5 arg7 x0 x1 x3))

theorem list1_8 : row scM0_1.view 8 (by decide) (w1 (HS1_16 c arg4 arg5 arg6 arg7 x0 x1 x2 x3 xa0 xa1)) = tL (row scM0_0.view 8 (by decide) xa0) (hX arg4 arg5 arg7 x0 x1 x3 8 (by decide)) (hS arg4 arg5 arg7 x0 x1 x3 8 (by decide)) (hV arg6 x2 8 (by decide)) (row scM0_1.view 8 (by decide) xa1) := by
  unfold HS1_16
  refine (rs_skip 8 15 _ _ _ _ _ _ (by decide)).trans ?_
  refine (rs_skip 8 14 _ _ _ _ _ _ (by decide)).trans ?_
  refine (rs_skip 8 13 _ _ _ _ _ _ (by decide)).trans ?_
  refine (rs_skip 8 12 _ _ _ _ _ _ (by decide)).trans ?_
  refine (rs_skip 8 11 _ _ _ _ _ _ (by decide)).trans ?_
  refine (rs_skip 8 10 _ _ _ _ _ _ (by decide)).trans ?_
  refine (rs_skip 8 9 _ _ _ _ _ _ (by decide)).trans ?_
  refine (rs_hit 8 _ _ _ _ _ _).trans ?_
  exact Eq.trans (b := tL (v182_4 c xa0) (v184_4 arg4 arg5 arg7 x0 x1 x3) (v189_4 arg4 arg5 arg7 x0 x1 x3) (hV arg6 x2 8 (by decide)) (v217_4 c xa1)) rfl (tL_of rfl (mx8 arg4 arg5 arg7 x0 x1 x3) (sc8 arg4 arg5 arg7 x0 x1 x3) rfl)

theorem list2_8 : row scM0_2.view 8 (by decide) (w2 (HS2_16 c arg4 arg5 arg6 arg7 x0 x1 x2 x3 xa0 xa2)) = tA (row scM0_0.view 8 (by decide) xa0) (hX arg4 arg5 arg7 x0 x1 x3 8 (by decide)) (hS arg4 arg5 arg7 x0 x1 x3 8 (by decide)) (hV arg6 x2 8 (by decide)) (row scM0_2.view 8 (by decide) xa2) := by
  unfold HS2_16
  refine (ra_skip 8 15 _ _ _ _ _ _ (by decide)).trans ?_
  refine (ra_skip 8 14 _ _ _ _ _ _ (by decide)).trans ?_
  refine (ra_skip 8 13 _ _ _ _ _ _ (by decide)).trans ?_
  refine (ra_skip 8 12 _ _ _ _ _ _ (by decide)).trans ?_
  refine (ra_skip 8 11 _ _ _ _ _ _ (by decide)).trans ?_
  refine (ra_skip 8 10 _ _ _ _ _ _ (by decide)).trans ?_
  refine (ra_skip 8 9 _ _ _ _ _ _ (by decide)).trans ?_
  refine (ra_hit 8 _ _ _ _ _ _).trans ?_
  exact Eq.trans (b := tA (v182_4 c xa0) (v184_4 arg4 arg5 arg7 x0 x1 x3) (v189_4 arg4 arg5 arg7 x0 x1 x3) (hV arg6 x2 8 (by decide)) (v227_4 c xa2)) rfl (tA_of rfl (mx8 arg4 arg5 arg7 x0 x1 x3) (sc8 arg4 arg5 arg7 x0 x1 x3) rfl)

theorem mx9 : (v284_4 arg4 arg5 arg7 x0 x1 x3) = hX arg4 arg5 arg7 x0 x1 x3 9 (by decide) := by
  unfold v284_4 HS6_5
  refine (View.readCov_full _ _ _ _ _).trans ((tX10 _ _ _).trans (tX_of rfl rfl (bias arg7 x3)))

theorem sc9 : (v289_4 arg4 arg5 arg7 x0 x1 x3) = hS arg4 arg5 arg7 x0 x1 x3 9 (by decide) := by
  unfold v289_4 HS4_5
  refine (View.readCov_full _ _ _ _ _).trans ((tS8 _ _ _).trans (tS_of rfl rfl (bias arg7 x3)))

theorem list0_9 : row scM0_0.view 9 (by decide) (w0 (HS0_16 c arg4 arg5 arg7 x0 x1 x3 xa0)) = tM (row scM0_0.view 9 (by decide) xa0) (hX arg4 arg5 arg7 x0 x1 x3 9 (by decide)) := by
  unfold HS0_16
  refine (rs_skip 9 15 _ _ _ _ _ _ (by decide)).trans ?_
  refine (rs_skip 9 14 _ _ _ _ _ _ (by decide)).trans ?_
  refine (rs_skip 9 13 _ _ _ _ _ _ (by decide)).trans ?_
  refine (rs_skip 9 12 _ _ _ _ _ _ (by decide)).trans ?_
  refine (rs_skip 9 11 _ _ _ _ _ _ (by decide)).trans ?_
  refine (rs_skip 9 10 _ _ _ _ _ _ (by decide)).trans ?_
  refine (rs_hit 9 _ _ _ _ _ _).trans ?_
  exact Eq.trans (b := tM (v282_4 c xa0) (v284_4 arg4 arg5 arg7 x0 x1 x3)) rfl (tM_of2 rfl (mx9 arg4 arg5 arg7 x0 x1 x3))

theorem list1_9 : row scM0_1.view 9 (by decide) (w1 (HS1_16 c arg4 arg5 arg6 arg7 x0 x1 x2 x3 xa0 xa1)) = tL (row scM0_0.view 9 (by decide) xa0) (hX arg4 arg5 arg7 x0 x1 x3 9 (by decide)) (hS arg4 arg5 arg7 x0 x1 x3 9 (by decide)) (hV arg6 x2 9 (by decide)) (row scM0_1.view 9 (by decide) xa1) := by
  unfold HS1_16
  refine (rs_skip 9 15 _ _ _ _ _ _ (by decide)).trans ?_
  refine (rs_skip 9 14 _ _ _ _ _ _ (by decide)).trans ?_
  refine (rs_skip 9 13 _ _ _ _ _ _ (by decide)).trans ?_
  refine (rs_skip 9 12 _ _ _ _ _ _ (by decide)).trans ?_
  refine (rs_skip 9 11 _ _ _ _ _ _ (by decide)).trans ?_
  refine (rs_skip 9 10 _ _ _ _ _ _ (by decide)).trans ?_
  refine (rs_hit 9 _ _ _ _ _ _).trans ?_
  exact Eq.trans (b := tL (v282_4 c xa0) (v284_4 arg4 arg5 arg7 x0 x1 x3) (v289_4 arg4 arg5 arg7 x0 x1 x3) (hV arg6 x2 9 (by decide)) (v317_4 c xa1)) rfl (tL_of rfl (mx9 arg4 arg5 arg7 x0 x1 x3) (sc9 arg4 arg5 arg7 x0 x1 x3) rfl)

theorem list2_9 : row scM0_2.view 9 (by decide) (w2 (HS2_16 c arg4 arg5 arg6 arg7 x0 x1 x2 x3 xa0 xa2)) = tA (row scM0_0.view 9 (by decide) xa0) (hX arg4 arg5 arg7 x0 x1 x3 9 (by decide)) (hS arg4 arg5 arg7 x0 x1 x3 9 (by decide)) (hV arg6 x2 9 (by decide)) (row scM0_2.view 9 (by decide) xa2) := by
  unfold HS2_16
  refine (ra_skip 9 15 _ _ _ _ _ _ (by decide)).trans ?_
  refine (ra_skip 9 14 _ _ _ _ _ _ (by decide)).trans ?_
  refine (ra_skip 9 13 _ _ _ _ _ _ (by decide)).trans ?_
  refine (ra_skip 9 12 _ _ _ _ _ _ (by decide)).trans ?_
  refine (ra_skip 9 11 _ _ _ _ _ _ (by decide)).trans ?_
  refine (ra_skip 9 10 _ _ _ _ _ _ (by decide)).trans ?_
  refine (ra_hit 9 _ _ _ _ _ _).trans ?_
  exact Eq.trans (b := tA (v282_4 c xa0) (v284_4 arg4 arg5 arg7 x0 x1 x3) (v289_4 arg4 arg5 arg7 x0 x1 x3) (hV arg6 x2 9 (by decide)) (v327_4 c xa2)) rfl (tA_of rfl (mx9 arg4 arg5 arg7 x0 x1 x3) (sc9 arg4 arg5 arg7 x0 x1 x3) rfl)

theorem mx10 : (v184_5 arg4 arg5 arg7 x0 x1 x3) = hX arg4 arg5 arg7 x0 x1 x3 10 (by decide) := by
  unfold v184_5 HS5_6
  refine (View.readCov_full _ _ _ _ _).trans ((tX21 _ _ _).trans (tX_of rfl rfl (bias arg7 x3)))

theorem sc10 : (v189_5 arg4 arg5 arg7 x0 x1 x3) = hS arg4 arg5 arg7 x0 x1 x3 10 (by decide) := by
  unfold v189_5 HS3_6
  refine (View.readCov_full _ _ _ _ _).trans ((tS20 _ _ _).trans (tS_of rfl rfl (bias arg7 x3)))

theorem list0_10 : row scM0_0.view 10 (by decide) (w0 (HS0_16 c arg4 arg5 arg7 x0 x1 x3 xa0)) = tM (row scM0_0.view 10 (by decide) xa0) (hX arg4 arg5 arg7 x0 x1 x3 10 (by decide)) := by
  unfold HS0_16
  refine (rs_skip 10 15 _ _ _ _ _ _ (by decide)).trans ?_
  refine (rs_skip 10 14 _ _ _ _ _ _ (by decide)).trans ?_
  refine (rs_skip 10 13 _ _ _ _ _ _ (by decide)).trans ?_
  refine (rs_skip 10 12 _ _ _ _ _ _ (by decide)).trans ?_
  refine (rs_skip 10 11 _ _ _ _ _ _ (by decide)).trans ?_
  refine (rs_hit 10 _ _ _ _ _ _).trans ?_
  exact Eq.trans (b := tM (v182_5 c xa0) (v184_5 arg4 arg5 arg7 x0 x1 x3)) rfl (tM_of2 rfl (mx10 arg4 arg5 arg7 x0 x1 x3))

theorem list1_10 : row scM0_1.view 10 (by decide) (w1 (HS1_16 c arg4 arg5 arg6 arg7 x0 x1 x2 x3 xa0 xa1)) = tL (row scM0_0.view 10 (by decide) xa0) (hX arg4 arg5 arg7 x0 x1 x3 10 (by decide)) (hS arg4 arg5 arg7 x0 x1 x3 10 (by decide)) (hV arg6 x2 10 (by decide)) (row scM0_1.view 10 (by decide) xa1) := by
  unfold HS1_16
  refine (rs_skip 10 15 _ _ _ _ _ _ (by decide)).trans ?_
  refine (rs_skip 10 14 _ _ _ _ _ _ (by decide)).trans ?_
  refine (rs_skip 10 13 _ _ _ _ _ _ (by decide)).trans ?_
  refine (rs_skip 10 12 _ _ _ _ _ _ (by decide)).trans ?_
  refine (rs_skip 10 11 _ _ _ _ _ _ (by decide)).trans ?_
  refine (rs_hit 10 _ _ _ _ _ _).trans ?_
  exact Eq.trans (b := tL (v182_5 c xa0) (v184_5 arg4 arg5 arg7 x0 x1 x3) (v189_5 arg4 arg5 arg7 x0 x1 x3) (hV arg6 x2 10 (by decide)) (v217_5 c xa1)) rfl (tL_of rfl (mx10 arg4 arg5 arg7 x0 x1 x3) (sc10 arg4 arg5 arg7 x0 x1 x3) rfl)

theorem list2_10 : row scM0_2.view 10 (by decide) (w2 (HS2_16 c arg4 arg5 arg6 arg7 x0 x1 x2 x3 xa0 xa2)) = tA (row scM0_0.view 10 (by decide) xa0) (hX arg4 arg5 arg7 x0 x1 x3 10 (by decide)) (hS arg4 arg5 arg7 x0 x1 x3 10 (by decide)) (hV arg6 x2 10 (by decide)) (row scM0_2.view 10 (by decide) xa2) := by
  unfold HS2_16
  refine (ra_skip 10 15 _ _ _ _ _ _ (by decide)).trans ?_
  refine (ra_skip 10 14 _ _ _ _ _ _ (by decide)).trans ?_
  refine (ra_skip 10 13 _ _ _ _ _ _ (by decide)).trans ?_
  refine (ra_skip 10 12 _ _ _ _ _ _ (by decide)).trans ?_
  refine (ra_skip 10 11 _ _ _ _ _ _ (by decide)).trans ?_
  refine (ra_hit 10 _ _ _ _ _ _).trans ?_
  exact Eq.trans (b := tA (v182_5 c xa0) (v184_5 arg4 arg5 arg7 x0 x1 x3) (v189_5 arg4 arg5 arg7 x0 x1 x3) (hV arg6 x2 10 (by decide)) (v227_5 c xa2)) rfl (tA_of rfl (mx10 arg4 arg5 arg7 x0 x1 x3) (sc10 arg4 arg5 arg7 x0 x1 x3) rfl)

theorem mx11 : (v284_5 arg4 arg5 arg7 x0 x1 x3) = hX arg4 arg5 arg7 x0 x1 x3 11 (by decide) := by
  unfold v284_5 HS6_6
  refine (View.readCov_full _ _ _ _ _).trans ((tX10 _ _ _).trans (tX_of rfl rfl (bias arg7 x3)))

theorem sc11 : (v289_5 arg4 arg5 arg7 x0 x1 x3) = hS arg4 arg5 arg7 x0 x1 x3 11 (by decide) := by
  unfold v289_5 HS4_6
  refine (View.readCov_full _ _ _ _ _).trans ((tS8 _ _ _).trans (tS_of rfl rfl (bias arg7 x3)))

theorem list0_11 : row scM0_0.view 11 (by decide) (w0 (HS0_16 c arg4 arg5 arg7 x0 x1 x3 xa0)) = tM (row scM0_0.view 11 (by decide) xa0) (hX arg4 arg5 arg7 x0 x1 x3 11 (by decide)) := by
  unfold HS0_16
  refine (rs_skip 11 15 _ _ _ _ _ _ (by decide)).trans ?_
  refine (rs_skip 11 14 _ _ _ _ _ _ (by decide)).trans ?_
  refine (rs_skip 11 13 _ _ _ _ _ _ (by decide)).trans ?_
  refine (rs_skip 11 12 _ _ _ _ _ _ (by decide)).trans ?_
  refine (rs_hit 11 _ _ _ _ _ _).trans ?_
  exact Eq.trans (b := tM (v282_5 c xa0) (v284_5 arg4 arg5 arg7 x0 x1 x3)) rfl (tM_of2 rfl (mx11 arg4 arg5 arg7 x0 x1 x3))

theorem list1_11 : row scM0_1.view 11 (by decide) (w1 (HS1_16 c arg4 arg5 arg6 arg7 x0 x1 x2 x3 xa0 xa1)) = tL (row scM0_0.view 11 (by decide) xa0) (hX arg4 arg5 arg7 x0 x1 x3 11 (by decide)) (hS arg4 arg5 arg7 x0 x1 x3 11 (by decide)) (hV arg6 x2 11 (by decide)) (row scM0_1.view 11 (by decide) xa1) := by
  unfold HS1_16
  refine (rs_skip 11 15 _ _ _ _ _ _ (by decide)).trans ?_
  refine (rs_skip 11 14 _ _ _ _ _ _ (by decide)).trans ?_
  refine (rs_skip 11 13 _ _ _ _ _ _ (by decide)).trans ?_
  refine (rs_skip 11 12 _ _ _ _ _ _ (by decide)).trans ?_
  refine (rs_hit 11 _ _ _ _ _ _).trans ?_
  exact Eq.trans (b := tL (v282_5 c xa0) (v284_5 arg4 arg5 arg7 x0 x1 x3) (v289_5 arg4 arg5 arg7 x0 x1 x3) (hV arg6 x2 11 (by decide)) (v317_5 c xa1)) rfl (tL_of rfl (mx11 arg4 arg5 arg7 x0 x1 x3) (sc11 arg4 arg5 arg7 x0 x1 x3) rfl)

theorem list2_11 : row scM0_2.view 11 (by decide) (w2 (HS2_16 c arg4 arg5 arg6 arg7 x0 x1 x2 x3 xa0 xa2)) = tA (row scM0_0.view 11 (by decide) xa0) (hX arg4 arg5 arg7 x0 x1 x3 11 (by decide)) (hS arg4 arg5 arg7 x0 x1 x3 11 (by decide)) (hV arg6 x2 11 (by decide)) (row scM0_2.view 11 (by decide) xa2) := by
  unfold HS2_16
  refine (ra_skip 11 15 _ _ _ _ _ _ (by decide)).trans ?_
  refine (ra_skip 11 14 _ _ _ _ _ _ (by decide)).trans ?_
  refine (ra_skip 11 13 _ _ _ _ _ _ (by decide)).trans ?_
  refine (ra_skip 11 12 _ _ _ _ _ _ (by decide)).trans ?_
  refine (ra_hit 11 _ _ _ _ _ _).trans ?_
  exact Eq.trans (b := tA (v282_5 c xa0) (v284_5 arg4 arg5 arg7 x0 x1 x3) (v289_5 arg4 arg5 arg7 x0 x1 x3) (hV arg6 x2 11 (by decide)) (v327_5 c xa2)) rfl (tA_of rfl (mx11 arg4 arg5 arg7 x0 x1 x3) (sc11 arg4 arg5 arg7 x0 x1 x3) rfl)

theorem mx12 : (v184_6 arg4 arg5 arg7 x0 x1 x3) = hX arg4 arg5 arg7 x0 x1 x3 12 (by decide) := by
  unfold v184_6 HS5_7
  refine (View.readCov_full _ _ _ _ _).trans ((tX21 _ _ _).trans (tX_of rfl rfl (bias arg7 x3)))

theorem sc12 : (v189_6 arg4 arg5 arg7 x0 x1 x3) = hS arg4 arg5 arg7 x0 x1 x3 12 (by decide) := by
  unfold v189_6 HS3_7
  refine (View.readCov_full _ _ _ _ _).trans ((tS20 _ _ _).trans (tS_of rfl rfl (bias arg7 x3)))

theorem list0_12 : row scM0_0.view 12 (by decide) (w0 (HS0_16 c arg4 arg5 arg7 x0 x1 x3 xa0)) = tM (row scM0_0.view 12 (by decide) xa0) (hX arg4 arg5 arg7 x0 x1 x3 12 (by decide)) := by
  unfold HS0_16
  refine (rs_skip 12 15 _ _ _ _ _ _ (by decide)).trans ?_
  refine (rs_skip 12 14 _ _ _ _ _ _ (by decide)).trans ?_
  refine (rs_skip 12 13 _ _ _ _ _ _ (by decide)).trans ?_
  refine (rs_hit 12 _ _ _ _ _ _).trans ?_
  exact Eq.trans (b := tM (v182_6 c xa0) (v184_6 arg4 arg5 arg7 x0 x1 x3)) rfl (tM_of2 rfl (mx12 arg4 arg5 arg7 x0 x1 x3))

theorem list1_12 : row scM0_1.view 12 (by decide) (w1 (HS1_16 c arg4 arg5 arg6 arg7 x0 x1 x2 x3 xa0 xa1)) = tL (row scM0_0.view 12 (by decide) xa0) (hX arg4 arg5 arg7 x0 x1 x3 12 (by decide)) (hS arg4 arg5 arg7 x0 x1 x3 12 (by decide)) (hV arg6 x2 12 (by decide)) (row scM0_1.view 12 (by decide) xa1) := by
  unfold HS1_16
  refine (rs_skip 12 15 _ _ _ _ _ _ (by decide)).trans ?_
  refine (rs_skip 12 14 _ _ _ _ _ _ (by decide)).trans ?_
  refine (rs_skip 12 13 _ _ _ _ _ _ (by decide)).trans ?_
  refine (rs_hit 12 _ _ _ _ _ _).trans ?_
  exact Eq.trans (b := tL (v182_6 c xa0) (v184_6 arg4 arg5 arg7 x0 x1 x3) (v189_6 arg4 arg5 arg7 x0 x1 x3) (hV arg6 x2 12 (by decide)) (v217_6 c xa1)) rfl (tL_of rfl (mx12 arg4 arg5 arg7 x0 x1 x3) (sc12 arg4 arg5 arg7 x0 x1 x3) rfl)

theorem list2_12 : row scM0_2.view 12 (by decide) (w2 (HS2_16 c arg4 arg5 arg6 arg7 x0 x1 x2 x3 xa0 xa2)) = tA (row scM0_0.view 12 (by decide) xa0) (hX arg4 arg5 arg7 x0 x1 x3 12 (by decide)) (hS arg4 arg5 arg7 x0 x1 x3 12 (by decide)) (hV arg6 x2 12 (by decide)) (row scM0_2.view 12 (by decide) xa2) := by
  unfold HS2_16
  refine (ra_skip 12 15 _ _ _ _ _ _ (by decide)).trans ?_
  refine (ra_skip 12 14 _ _ _ _ _ _ (by decide)).trans ?_
  refine (ra_skip 12 13 _ _ _ _ _ _ (by decide)).trans ?_
  refine (ra_hit 12 _ _ _ _ _ _).trans ?_
  exact Eq.trans (b := tA (v182_6 c xa0) (v184_6 arg4 arg5 arg7 x0 x1 x3) (v189_6 arg4 arg5 arg7 x0 x1 x3) (hV arg6 x2 12 (by decide)) (v227_6 c xa2)) rfl (tA_of rfl (mx12 arg4 arg5 arg7 x0 x1 x3) (sc12 arg4 arg5 arg7 x0 x1 x3) rfl)

theorem mx13 : (v284_6 arg4 arg5 arg7 x0 x1 x3) = hX arg4 arg5 arg7 x0 x1 x3 13 (by decide) := by
  unfold v284_6 HS6_7
  refine (View.readCov_full _ _ _ _ _).trans ((tX10 _ _ _).trans (tX_of rfl rfl (bias arg7 x3)))

theorem sc13 : (v289_6 arg4 arg5 arg7 x0 x1 x3) = hS arg4 arg5 arg7 x0 x1 x3 13 (by decide) := by
  unfold v289_6 HS4_7
  refine (View.readCov_full _ _ _ _ _).trans ((tS8 _ _ _).trans (tS_of rfl rfl (bias arg7 x3)))

theorem list0_13 : row scM0_0.view 13 (by decide) (w0 (HS0_16 c arg4 arg5 arg7 x0 x1 x3 xa0)) = tM (row scM0_0.view 13 (by decide) xa0) (hX arg4 arg5 arg7 x0 x1 x3 13 (by decide)) := by
  unfold HS0_16
  refine (rs_skip 13 15 _ _ _ _ _ _ (by decide)).trans ?_
  refine (rs_skip 13 14 _ _ _ _ _ _ (by decide)).trans ?_
  refine (rs_hit 13 _ _ _ _ _ _).trans ?_
  exact Eq.trans (b := tM (v282_6 c xa0) (v284_6 arg4 arg5 arg7 x0 x1 x3)) rfl (tM_of2 rfl (mx13 arg4 arg5 arg7 x0 x1 x3))

theorem list1_13 : row scM0_1.view 13 (by decide) (w1 (HS1_16 c arg4 arg5 arg6 arg7 x0 x1 x2 x3 xa0 xa1)) = tL (row scM0_0.view 13 (by decide) xa0) (hX arg4 arg5 arg7 x0 x1 x3 13 (by decide)) (hS arg4 arg5 arg7 x0 x1 x3 13 (by decide)) (hV arg6 x2 13 (by decide)) (row scM0_1.view 13 (by decide) xa1) := by
  unfold HS1_16
  refine (rs_skip 13 15 _ _ _ _ _ _ (by decide)).trans ?_
  refine (rs_skip 13 14 _ _ _ _ _ _ (by decide)).trans ?_
  refine (rs_hit 13 _ _ _ _ _ _).trans ?_
  exact Eq.trans (b := tL (v282_6 c xa0) (v284_6 arg4 arg5 arg7 x0 x1 x3) (v289_6 arg4 arg5 arg7 x0 x1 x3) (hV arg6 x2 13 (by decide)) (v317_6 c xa1)) rfl (tL_of rfl (mx13 arg4 arg5 arg7 x0 x1 x3) (sc13 arg4 arg5 arg7 x0 x1 x3) rfl)

theorem list2_13 : row scM0_2.view 13 (by decide) (w2 (HS2_16 c arg4 arg5 arg6 arg7 x0 x1 x2 x3 xa0 xa2)) = tA (row scM0_0.view 13 (by decide) xa0) (hX arg4 arg5 arg7 x0 x1 x3 13 (by decide)) (hS arg4 arg5 arg7 x0 x1 x3 13 (by decide)) (hV arg6 x2 13 (by decide)) (row scM0_2.view 13 (by decide) xa2) := by
  unfold HS2_16
  refine (ra_skip 13 15 _ _ _ _ _ _ (by decide)).trans ?_
  refine (ra_skip 13 14 _ _ _ _ _ _ (by decide)).trans ?_
  refine (ra_hit 13 _ _ _ _ _ _).trans ?_
  exact Eq.trans (b := tA (v282_6 c xa0) (v284_6 arg4 arg5 arg7 x0 x1 x3) (v289_6 arg4 arg5 arg7 x0 x1 x3) (hV arg6 x2 13 (by decide)) (v327_6 c xa2)) rfl (tA_of rfl (mx13 arg4 arg5 arg7 x0 x1 x3) (sc13 arg4 arg5 arg7 x0 x1 x3) rfl)

theorem mx14 : (v68 arg4 arg5 arg7 x0 x1 x3) = hX arg4 arg5 arg7 x0 x1 x3 14 (by decide) := by
  unfold v68 HS5_8
  refine (View.readCov_full _ _ _ _ _).trans ((tX21 _ _ _).trans (tX_of rfl rfl (bias arg7 x3)))

theorem sc14 : (v73 arg4 arg5 arg7 x0 x1 x3) = hS arg4 arg5 arg7 x0 x1 x3 14 (by decide) := by
  unfold v73 HS3_8
  refine (View.readCov_full _ _ _ _ _).trans ((tS20 _ _ _).trans (tS_of rfl rfl (bias arg7 x3)))

theorem list0_14 : row scM0_0.view 14 (by decide) (w0 (HS0_16 c arg4 arg5 arg7 x0 x1 x3 xa0)) = tM (row scM0_0.view 14 (by decide) xa0) (hX arg4 arg5 arg7 x0 x1 x3 14 (by decide)) := by
  unfold HS0_16
  refine (rs_skip 14 15 _ _ _ _ _ _ (by decide)).trans ?_
  refine (rs_hit 14 _ _ _ _ _ _).trans ?_
  exact Eq.trans (b := tM (v66 c xa0) (v68 arg4 arg5 arg7 x0 x1 x3)) rfl (tM_of2 rfl (mx14 arg4 arg5 arg7 x0 x1 x3))

theorem list1_14 : row scM0_1.view 14 (by decide) (w1 (HS1_16 c arg4 arg5 arg6 arg7 x0 x1 x2 x3 xa0 xa1)) = tL (row scM0_0.view 14 (by decide) xa0) (hX arg4 arg5 arg7 x0 x1 x3 14 (by decide)) (hS arg4 arg5 arg7 x0 x1 x3 14 (by decide)) (hV arg6 x2 14 (by decide)) (row scM0_1.view 14 (by decide) xa1) := by
  unfold HS1_16
  refine (rs_skip 14 15 _ _ _ _ _ _ (by decide)).trans ?_
  refine (rs_hit 14 _ _ _ _ _ _).trans ?_
  exact Eq.trans (b := tL (v66 c xa0) (v68 arg4 arg5 arg7 x0 x1 x3) (v73 arg4 arg5 arg7 x0 x1 x3) (hV arg6 x2 14 (by decide)) (v82 c xa1)) rfl (tL_of rfl (mx14 arg4 arg5 arg7 x0 x1 x3) (sc14 arg4 arg5 arg7 x0 x1 x3) rfl)

theorem list2_14 : row scM0_2.view 14 (by decide) (w2 (HS2_16 c arg4 arg5 arg6 arg7 x0 x1 x2 x3 xa0 xa2)) = tA (row scM0_0.view 14 (by decide) xa0) (hX arg4 arg5 arg7 x0 x1 x3 14 (by decide)) (hS arg4 arg5 arg7 x0 x1 x3 14 (by decide)) (hV arg6 x2 14 (by decide)) (row scM0_2.view 14 (by decide) xa2) := by
  unfold HS2_16
  refine (ra_skip 14 15 _ _ _ _ _ _ (by decide)).trans ?_
  refine (ra_hit 14 _ _ _ _ _ _).trans ?_
  exact Eq.trans (b := tA (v66 c xa0) (v68 arg4 arg5 arg7 x0 x1 x3) (v73 arg4 arg5 arg7 x0 x1 x3) (hV arg6 x2 14 (by decide)) (v90 c xa2)) rfl (tA_of rfl (mx14 arg4 arg5 arg7 x0 x1 x3) (sc14 arg4 arg5 arg7 x0 x1 x3) rfl)

theorem mx15 : (v104 arg4 arg5 arg7 x0 x1 x3) = hX arg4 arg5 arg7 x0 x1 x3 15 (by decide) := by
  unfold v104 HS6_8
  refine (View.readCov_full _ _ _ _ _).trans ((tX55 _ _ _).trans (tX_of rfl rfl (bias arg7 x3)))

theorem sc15 : (v109 arg4 arg5 arg7 x0 x1 x3) = hS arg4 arg5 arg7 x0 x1 x3 15 (by decide) := by
  unfold v109 HS4_8
  refine (View.readCov_full _ _ _ _ _).trans ((tS54 _ _ _).trans (tS_of rfl rfl (bias arg7 x3)))

theorem list0_15 : row scM0_0.view 15 (by decide) (w0 (HS0_16 c arg4 arg5 arg7 x0 x1 x3 xa0)) = tM (row scM0_0.view 15 (by decide) xa0) (hX arg4 arg5 arg7 x0 x1 x3 15 (by decide)) := by
  unfold HS0_16
  refine (rs_hit 15 _ _ _ _ _ _).trans ?_
  exact Eq.trans (b := tM (v102 c xa0) (v104 arg4 arg5 arg7 x0 x1 x3)) rfl (tM_of2 rfl (mx15 arg4 arg5 arg7 x0 x1 x3))

theorem list1_15 : row scM0_1.view 15 (by decide) (w1 (HS1_16 c arg4 arg5 arg6 arg7 x0 x1 x2 x3 xa0 xa1)) = tL (row scM0_0.view 15 (by decide) xa0) (hX arg4 arg5 arg7 x0 x1 x3 15 (by decide)) (hS arg4 arg5 arg7 x0 x1 x3 15 (by decide)) (hV arg6 x2 15 (by decide)) (row scM0_1.view 15 (by decide) xa1) := by
  unfold HS1_16
  refine (rs_hit 15 _ _ _ _ _ _).trans ?_
  exact Eq.trans (b := tL (v102 c xa0) (v104 arg4 arg5 arg7 x0 x1 x3) (v109 arg4 arg5 arg7 x0 x1 x3) (hV arg6 x2 15 (by decide)) (v118 c xa1)) rfl (tL_of rfl (mx15 arg4 arg5 arg7 x0 x1 x3) (sc15 arg4 arg5 arg7 x0 x1 x3) rfl)

theorem list2_15 : row scM0_2.view 15 (by decide) (w2 (HS2_16 c arg4 arg5 arg6 arg7 x0 x1 x2 x3 xa0 xa2)) = tA (row scM0_0.view 15 (by decide) xa0) (hX arg4 arg5 arg7 x0 x1 x3 15 (by decide)) (hS arg4 arg5 arg7 x0 x1 x3 15 (by decide)) (hV arg6 x2 15 (by decide)) (row scM0_2.view 15 (by decide) xa2) := by
  unfold HS2_16
  refine (ra_hit 15 _ _ _ _ _ _).trans ?_
  exact Eq.trans (b := tA (v102 c xa0) (v104 arg4 arg5 arg7 x0 x1 x3) (v109 arg4 arg5 arg7 x0 x1 x3) (hV arg6 x2 15 (by decide)) (v126 c xa2)) rfl (tA_of rfl (mx15 arg4 arg5 arg7 x0 x1 x3) (sc15 arg4 arg5 arg7 x0 x1 x3) rfl)

theorem list0 (h : Fin 16) : row scM0_0.view h.val h.isLt (w0 (HS0_16 c arg4 arg5 arg7 x0 x1 x3 xa0)) = tM (row scM0_0.view h.val h.isLt xa0) (hX arg4 arg5 arg7 x0 x1 x3 h.val h.isLt) := by
  obtain ⟨h, hh⟩ := h
  interval_cases h
  · exact list0_0 c arg4 arg5 arg7 x0 x1 x3 xa0
  · exact list0_1 c arg4 arg5 arg7 x0 x1 x3 xa0
  · exact list0_2 c arg4 arg5 arg7 x0 x1 x3 xa0
  · exact list0_3 c arg4 arg5 arg7 x0 x1 x3 xa0
  · exact list0_4 c arg4 arg5 arg7 x0 x1 x3 xa0
  · exact list0_5 c arg4 arg5 arg7 x0 x1 x3 xa0
  · exact list0_6 c arg4 arg5 arg7 x0 x1 x3 xa0
  · exact list0_7 c arg4 arg5 arg7 x0 x1 x3 xa0
  · exact list0_8 c arg4 arg5 arg7 x0 x1 x3 xa0
  · exact list0_9 c arg4 arg5 arg7 x0 x1 x3 xa0
  · exact list0_10 c arg4 arg5 arg7 x0 x1 x3 xa0
  · exact list0_11 c arg4 arg5 arg7 x0 x1 x3 xa0
  · exact list0_12 c arg4 arg5 arg7 x0 x1 x3 xa0
  · exact list0_13 c arg4 arg5 arg7 x0 x1 x3 xa0
  · exact list0_14 c arg4 arg5 arg7 x0 x1 x3 xa0
  · exact list0_15 c arg4 arg5 arg7 x0 x1 x3 xa0

theorem max (h : Fin 16) (c : Dev nD) (i : grid0.Coords) (arg4 : Memref sig .tc .vmem S16x128x1024 .bf16) (harg4 : arg4.IsWhole) (arg5 : Memref sig .tc .vmem S4x1024x128 .bf16) (harg5 : arg5.IsWhole) (arg6 : Memref sig .tc .vmem S4x144x1024 .bf16) (harg6 : arg6.IsWhole) (arg7 : Memref sig .tc .vmem S1x1x1024x1024 .bf16) (harg7 : arg7.IsWhole) (arg8 : Memref sig .tc .vmem S1024x2048 .bf16) (harg8 : arg8.IsWhole) (T0 : (S36.Idx → Elt Ideal .i32)) (T1 : (S36.Idx → Elt Ideal .i32))
     (x0 : (S16x128x1024.Idx → Elt Ideal .bf16)) (x1 : (S4x1024x128.Idx → Elt Ideal .bf16)) (x2 : (S4x144x1024.Idx → Elt Ideal .bf16)) (x3 : (S1x1x1024x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (k0_h2 : ¬(k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) :
    row scM0_0.view h.val h.isLt (kernelRun0_D c i arg4 harg4 arg5 harg5 arg6 harg6 arg7 harg7 arg8 harg8 T0 T1 x0 x1 x2 x3 xa0 xa1 xa2 hc0 k0_h2).1 = tM (row scM0_0.view h.val h.isLt xa0) (hX arg4 arg5 arg7 x0 x1 x3 h.val h.isLt) := by
  unfold kernelRun0_D
  dsimp only
  exact list0 c arg4 arg5 arg7 x0 x1 x3 xa0 h

theorem list1 (h : Fin 16) : row scM0_1.view h.val h.isLt (w1 (HS1_16 c arg4 arg5 arg6 arg7 x0 x1 x2 x3 xa0 xa1)) = tL (row scM0_0.view h.val h.isLt xa0) (hX arg4 arg5 arg7 x0 x1 x3 h.val h.isLt) (hS arg4 arg5 arg7 x0 x1 x3 h.val h.isLt) (hV arg6 x2 h.val h.isLt) (row scM0_1.view h.val h.isLt xa1) := by
  obtain ⟨h, hh⟩ := h
  interval_cases h
  · exact list1_0 c arg4 arg5 arg6 arg7 x0 x1 x2 x3 xa0 xa1
  · exact list1_1 c arg4 arg5 arg6 arg7 x0 x1 x2 x3 xa0 xa1
  · exact list1_2 c arg4 arg5 arg6 arg7 x0 x1 x2 x3 xa0 xa1
  · exact list1_3 c arg4 arg5 arg6 arg7 x0 x1 x2 x3 xa0 xa1
  · exact list1_4 c arg4 arg5 arg6 arg7 x0 x1 x2 x3 xa0 xa1
  · exact list1_5 c arg4 arg5 arg6 arg7 x0 x1 x2 x3 xa0 xa1
  · exact list1_6 c arg4 arg5 arg6 arg7 x0 x1 x2 x3 xa0 xa1
  · exact list1_7 c arg4 arg5 arg6 arg7 x0 x1 x2 x3 xa0 xa1
  · exact list1_8 c arg4 arg5 arg6 arg7 x0 x1 x2 x3 xa0 xa1
  · exact list1_9 c arg4 arg5 arg6 arg7 x0 x1 x2 x3 xa0 xa1
  · exact list1_10 c arg4 arg5 arg6 arg7 x0 x1 x2 x3 xa0 xa1
  · exact list1_11 c arg4 arg5 arg6 arg7 x0 x1 x2 x3 xa0 xa1
  · exact list1_12 c arg4 arg5 arg6 arg7 x0 x1 x2 x3 xa0 xa1
  · exact list1_13 c arg4 arg5 arg6 arg7 x0 x1 x2 x3 xa0 xa1
  · exact list1_14 c arg4 arg5 arg6 arg7 x0 x1 x2 x3 xa0 xa1
  · exact list1_15 c arg4 arg5 arg6 arg7 x0 x1 x2 x3 xa0 xa1

theorem den (h : Fin 16) (c : Dev nD) (i : grid0.Coords) (arg4 : Memref sig .tc .vmem S16x128x1024 .bf16) (harg4 : arg4.IsWhole) (arg5 : Memref sig .tc .vmem S4x1024x128 .bf16) (harg5 : arg5.IsWhole) (arg6 : Memref sig .tc .vmem S4x144x1024 .bf16) (harg6 : arg6.IsWhole) (arg7 : Memref sig .tc .vmem S1x1x1024x1024 .bf16) (harg7 : arg7.IsWhole) (arg8 : Memref sig .tc .vmem S1024x2048 .bf16) (harg8 : arg8.IsWhole) (T0 : (S36.Idx → Elt Ideal .i32)) (T1 : (S36.Idx → Elt Ideal .i32))
     (x0 : (S16x128x1024.Idx → Elt Ideal .bf16)) (x1 : (S4x1024x128.Idx → Elt Ideal .bf16)) (x2 : (S4x144x1024.Idx → Elt Ideal .bf16)) (x3 : (S1x1x1024x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (k0_h2 : ¬(k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) :
    row scM0_1.view h.val h.isLt (kernelRun0_D c i arg4 harg4 arg5 harg5 arg6 harg6 arg7 harg7 arg8 harg8 T0 T1 x0 x1 x2 x3 xa0 xa1 xa2 hc0 k0_h2).2.1 = tL (row scM0_0.view h.val h.isLt xa0) (hX arg4 arg5 arg7 x0 x1 x3 h.val h.isLt) (hS arg4 arg5 arg7 x0 x1 x3 h.val h.isLt) (hV arg6 x2 h.val h.isLt) (row scM0_1.view h.val h.isLt xa1) := by
  unfold kernelRun0_D
  dsimp only
  exact list1 c arg4 arg5 arg6 arg7 x0 x1 x2 x3 xa0 xa1 h

theorem list2 (h : Fin 16) : row scM0_2.view h.val h.isLt (w2 (HS2_16 c arg4 arg5 arg6 arg7 x0 x1 x2 x3 xa0 xa2)) = tA (row scM0_0.view h.val h.isLt xa0) (hX arg4 arg5 arg7 x0 x1 x3 h.val h.isLt) (hS arg4 arg5 arg7 x0 x1 x3 h.val h.isLt) (hV arg6 x2 h.val h.isLt) (row scM0_2.view h.val h.isLt xa2) := by
  obtain ⟨h, hh⟩ := h
  interval_cases h
  · exact list2_0 c arg4 arg5 arg6 arg7 x0 x1 x2 x3 xa0 xa2
  · exact list2_1 c arg4 arg5 arg6 arg7 x0 x1 x2 x3 xa0 xa2
  · exact list2_2 c arg4 arg5 arg6 arg7 x0 x1 x2 x3 xa0 xa2
  · exact list2_3 c arg4 arg5 arg6 arg7 x0 x1 x2 x3 xa0 xa2
  · exact list2_4 c arg4 arg5 arg6 arg7 x0 x1 x2 x3 xa0 xa2
  · exact list2_5 c arg4 arg5 arg6 arg7 x0 x1 x2 x3 xa0 xa2
  · exact list2_6 c arg4 arg5 arg6 arg7 x0 x1 x2 x3 xa0 xa2
  · exact list2_7 c arg4 arg5 arg6 arg7 x0 x1 x2 x3 xa0 xa2
  · exact list2_8 c arg4 arg5 arg6 arg7 x0 x1 x2 x3 xa0 xa2
  · exact list2_9 c arg4 arg5 arg6 arg7 x0 x1 x2 x3 xa0 xa2
  · exact list2_10 c arg4 arg5 arg6 arg7 x0 x1 x2 x3 xa0 xa2
  · exact list2_11 c arg4 arg5 arg6 arg7 x0 x1 x2 x3 xa0 xa2
  · exact list2_12 c arg4 arg5 arg6 arg7 x0 x1 x2 x3 xa0 xa2
  · exact list2_13 c arg4 arg5 arg6 arg7 x0 x1 x2 x3 xa0 xa2
  · exact list2_14 c arg4 arg5 arg6 arg7 x0 x1 x2 x3 xa0 xa2
  · exact list2_15 c arg4 arg5 arg6 arg7 x0 x1 x2 x3 xa0 xa2

theorem num (h : Fin 16) (c : Dev nD) (i : grid0.Coords) (arg4 : Memref sig .tc .vmem S16x128x1024 .bf16) (harg4 : arg4.IsWhole) (arg5 : Memref sig .tc .vmem S4x1024x128 .bf16) (harg5 : arg5.IsWhole) (arg6 : Memref sig .tc .vmem S4x144x1024 .bf16) (harg6 : arg6.IsWhole) (arg7 : Memref sig .tc .vmem S1x1x1024x1024 .bf16) (harg7 : arg7.IsWhole) (arg8 : Memref sig .tc .vmem S1024x2048 .bf16) (harg8 : arg8.IsWhole) (T0 : (S36.Idx → Elt Ideal .i32)) (T1 : (S36.Idx → Elt Ideal .i32))
     (x0 : (S16x128x1024.Idx → Elt Ideal .bf16)) (x1 : (S4x1024x128.Idx → Elt Ideal .bf16)) (x2 : (S4x144x1024.Idx → Elt Ideal .bf16)) (x3 : (S1x1x1024x1024.Idx → Elt Ideal .bf16)) (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬((Scalar.cmpi .ne (Scalar.extui (Scalar.cmpi .eq (View.readAt (Elt Ideal) (tbM0_1).view (Rect.unit (s := S36) (k0_off1 i) S1.size (k0_off1_inb i)).toLoadRect T1 (Shape.Idx.first (numel1_S1.symm ▸ Nat.one_pos))) 0#32)) 0#32) = 1#1)) (k0_h2 : ¬(k0_cond2 (View.readAt (Elt Ideal) (tbM0_0).view (Rect.unit (s := S36) (k0_off1 i) S1.size (k0_off1_inb i)).toLoadRect T0 (Shape.Idx.first (numel1_S1.symm ▸ Nat.one_pos))) (View.readAt (Elt Ideal) (tbM0_1).view (Rect.unit (s := S36) (k0_off1 i) S1.size (k0_off1_inb i)).toLoadRect T1 (Shape.Idx.first (numel1_S1.symm ▸ Nat.one_pos))) = 1#1)) :
    row scM0_2.view h.val h.isLt (kernelRun0_D c i arg4 harg4 arg5 harg5 arg6 harg6 arg7 harg7 arg8 harg8 T0 T1 x0 x1 x2 x3 xa0 xa1 xa2 hc0 k0_h2).2.2.1 = tA (row scM0_0.view h.val h.isLt xa0) (hX arg4 arg5 arg7 x0 x1 x3 h.val h.isLt) (hS arg4 arg5 arg7 x0 x1 x3 h.val h.isLt) (hV arg6 x2 h.val h.isLt) (row scM0_2.view h.val h.isLt xa2) := by
  unfold kernelRun0_D
  dsimp only
  exact list2 c arg4 arg5 arg6 arg7 x0 x1 x2 x3 xa0 xa2 h

end Cert.AttnIdeal.Leg.PD

end
-- ==== Proof.AttnStep.lean ====
module

public import proofs.«01_k».proof.Proof.AttnBlk
public import proofs.«01_k».proof.Proof.AttnPA
public import proofs.«01_k».proof.Proof.AttnPB
public import proofs.«01_k».proof.Proof.AttnPC
public import proofs.«01_k».proof.Proof.AttnPD

@[expose] public section

set_option maxRecDepth 16384

noncomputable section

namespace Cert.AttnIdeal.Leg

open Cert.AttnIdeal Cert.AttnIdeal.Gen Idealize.ShloMosaic Idealize.ShloMosaic.TcCoe Idealize.SL.Sem

variable (m : (ℓ : Loc nD τ sig) → Buf (Elt Ideal) ℓ) (ρ : Dev nD → PrngReg) (c : Dev nD)

/-- What the arguments' contents are assumed to be: real numbers, and a row of ones. -/
structure Reals : Prop where
  q : ∀ i, ∃ r : ℝ, a2 m c i = (r : EReal)
  k : ∀ i, ∃ r : ℝ, a3 m c i = (r : EReal)
  v : ∀ i, ∃ r : ℝ, a4 m c i = (r : EReal)
  b : ∀ i, ∃ r : ℝ, a5 m c i = (r : EReal)
  one : ∀ (a : Fin 4) (s : Fin 32768), a4 m c (ix3 a 128 s) = 1

/-- The score of a key at a head and a query, among the extended reals. -/
def sc (b : Fin 4) (i : Fin 8) (h : Fin 16) (l : Fin 1024) (s : Fin 8192) : EReal :=
  (∑ d : Fin 128, a3 m c (ix3 ⟨h.val / 4, by omega⟩ ⟨b.val * 8192 + s.val, by omega⟩ d) * a2 m c (ix3 h d ⟨b.val * 8192 + i.val * 1024 + l.val, by omega⟩))
    + a5 m c (ix4 b i s l)

/-- The same as a real number, by the key's position. -/
def sg (b : Fin 4) (i : Fin 8) (h : Fin 16) (l : Fin 1024) (s : ℕ) : ℝ := if hs : s < 8192 then (sc m c b i h l ⟨s, hs⟩).toReal else 0

/-- A value's feature as a real number, by the key's position. -/
def vw (b : Fin 4) (h : Fin 16) (d : Fin 128) (s : ℕ) : ℝ :=
  if hs : s < 8192 then (a4 m c (ix3 ⟨h.val / 4, by omega⟩ ⟨d.val, by omega⟩ ⟨b.val * 8192 + s, by omega⟩)).toReal else 0

/-- The denominator over the first `n` keys. -/
def den (b : Fin 4) (i : Fin 8) (h : Fin 16) (l : Fin 1024) (n : ℕ) : ℝ := ∑ s ∈ Finset.range n, (2 : ℝ) ^ sg m c b i h l s
/-- The numerator over the first `n` keys. -/
def num (b : Fin 4) (i : Fin 8) (h : Fin 16) (l : Fin 1024) (n : ℕ) (d : Fin 128) : ℝ := ∑ s ∈ Finset.range n, vw m c b h d s * (2 : ℝ) ^ sg m c b i h l s

variable {m c}

theorem sc_real (H : Reals m c) (b : Fin 4) (i : Fin 8) (h : Fin 16) (l : Fin 1024) (s : Fin 8192) : sc m c b i h l s = (sg m c b i h l s.val : EReal) := by
  have h1 : ∃ r : ℝ, sc m c b i h l s = (r : EReal) := by
    choose q hq using H.q
    choose k hk using H.k
    choose v hv using H.b
    refine ⟨(∑ d : Fin 128, k (ix3 ⟨h.val / 4, by omega⟩ ⟨b.val * 8192 + s.val, by omega⟩ d) * q (ix3 h d ⟨b.val * 8192 + i.val * 1024 + l.val, by omega⟩)) + v (ix4 b i s l), ?_⟩
    unfold sc
    rw [hv, EReal.coe_add, ← coe_sum]
    refine congrArg₂ _ (Finset.sum_congr rfl fun d _ => ?_) rfl
    rw [hk, hq, EReal.coe_mul]
  obtain ⟨r, hr⟩ := h1
  unfold sg
  rw [dif_pos s.isLt, Fin.eta, hr, EReal.toReal_coe]

theorem vw_real (H : Reals m c) (b : Fin 4) (h : Fin 16) (d : Fin 128) (s : Fin 8192) :
    a4 m c (ix3 ⟨h.val / 4, by omega⟩ ⟨d.val, by omega⟩ ⟨b.val * 8192 + s.val, by omega⟩) = (vw m c b h d s.val : EReal) := by
  obtain ⟨r, hr⟩ := H.v (ix3 ⟨h.val / 4, by omega⟩ ⟨d.val, by omega⟩ ⟨b.val * 8192 + s.val, by omega⟩)
  unfold vw
  rw [dif_pos s.isLt, hr, EReal.toReal_coe]

theorem den_pos (b : Fin 4) (i : Fin 8) (h : Fin 16) (l : Fin 1024) {n : ℕ} (hn : 0 < n) : den m c b i h l n ≠ 0 :=
  (Finset.sum_pos (fun _ _ => Real.rpow_pos_of_pos two_pos _) ⟨0, Finset.mem_range.2 hn⟩).ne'

/-- One tile's step at a point: the sums grow by the tile's keys. -/
theorem tile (H : Reals m c) (t : Fin (cfgA 0).N) (b : Fin 4) (i : Fin 8) (hb : tb t.val = b.val) (hi : ti t.val = i.val) (h : Fin 16) (l : Fin 1024)
    {m0 l0 : Vec Ideal S1x1x1024 .f32} {a0 : Vec Ideal S1x128x1024 .f32}
    (hg : Good m0 l0 a0 l (den m c b i h l (1024 * tj t.val)) (num m c b i h l (1024 * tj t.val))) :
    Good (tM m0 (hX (ms0_0 0 t) (ms0_1 0 t) (ms0_3 0 t) (iblk 0 m ρ c (0 : Fin 5) t) (iblk 0 m ρ c (1 : Fin 5) t) (iblk 0 m ρ c (3 : Fin 5) t) h.val h.isLt))
      (tL m0 (hX (ms0_0 0 t) (ms0_1 0 t) (ms0_3 0 t) (iblk 0 m ρ c (0 : Fin 5) t) (iblk 0 m ρ c (1 : Fin 5) t) (iblk 0 m ρ c (3 : Fin 5) t) h.val h.isLt)
        (hS (ms0_0 0 t) (ms0_1 0 t) (ms0_3 0 t) (iblk 0 m ρ c (0 : Fin 5) t) (iblk 0 m ρ c (1 : Fin 5) t) (iblk 0 m ρ c (3 : Fin 5) t) h.val h.isLt)
        (hV (ms0_2 0 t) (iblk 0 m ρ c (2 : Fin 5) t) h.val h.isLt) l0)
      (tA m0 (hX (ms0_0 0 t) (ms0_1 0 t) (ms0_3 0 t) (iblk 0 m ρ c (0 : Fin 5) t) (iblk 0 m ρ c (1 : Fin 5) t) (iblk 0 m ρ c (3 : Fin 5) t) h.val h.isLt)
        (hS (ms0_0 0 t) (ms0_1 0 t) (ms0_3 0 t) (iblk 0 m ρ c (0 : Fin 5) t) (iblk 0 m ρ c (1 : Fin 5) t) (iblk 0 m ρ c (3 : Fin 5) t) h.val h.isLt)
        (hV (ms0_2 0 t) (iblk 0 m ρ c (2 : Fin 5) t) h.val h.isLt) a0)
      l (den m c b i h l (1024 * (tj t.val + 1))) (num m c b i h l (1024 * (tj t.val + 1))) := by
  have ho := order ⟨t.val, lt_N t⟩
  obtain ⟨o1, o2, o3, -⟩ := ho
  dsimp only at o1 o2 o3
  have hr : ∀ r : Fin 1024, 1024 * tj t.val + r.val < 8192 := fun r => by omega
  have e1 : den m c b i h l (1024 * (tj t.val + 1)) = den m c b i h l (1024 * tj t.val) + ∑ r : Fin 1024, (2 : ℝ) ^ sg m c b i h l (1024 * tj t.val + r.val) := sum_tile _ _
  have e2 : num m c b i h l (1024 * (tj t.val + 1)) = fun d => num m c b i h l (1024 * tj t.val) d
      + ∑ r : Fin 1024, vw m c b h d (1024 * tj t.val + r.val) * (2 : ℝ) ^ sg m c b i h l (1024 * tj t.val + r.val) := funext fun d => sum_tile _ _
  rw [e1, e2]
  refine good_step hg (hX_at _ _ _ _ _ _ h l) (fun r => ?_) (fun r => ?_) (fun d r => ?_)
  · refine Eq.trans ?_ (sc_real H b i h l ⟨_, hr r⟩)
    rw [hS_at, blk3 m ρ c t r l o1 o2 (by omega)]
    unfold sc
    refine congrArg₂ _ (Finset.sum_congr rfl fun d _ => ?_) ?_
    · rw [blk1 m ρ c t _ r d (by omega), blk0 m ρ c t h d l (by omega)]
      refine congrArg₂ _ (congrArg (a3 m c) ?_) (congrArg (a2 m c) ?_)
      · exact congrArg (fun x => ix3 _ x d) (Fin.ext (by show (tb t.val * 8 + tj t.val) * 1024 + r.val = b.val * 8192 + (1024 * tj t.val + r.val); omega))
      · exact congrArg (fun x => ix3 h d x) (Fin.ext (by show (tb t.val * 8 + ti t.val) * 1024 + l.val = b.val * 8192 + i.val * 1024 + l.val; omega))
    · refine congrArg (a5 m c) ?_
      have f1 : (⟨tb t.val, o1⟩ : Fin 4) = b := Fin.ext hb
      have f2 : (⟨ti t.val, o2⟩ : Fin 8) = i := Fin.ext hi
      rw [f1, f2]
      exact congrArg (fun x => ix4 b i x l) (Fin.ext (by show tj t.val * 1024 + r.val = 1024 * tj t.val + r.val; omega))
  · rw [hV_at, blk2 m ρ c t _ _ r (by omega)]
    exact H.one _ _
  · rw [hV_at, blk2 m ρ c t _ _ r (by omega)]
    refine Eq.trans (congrArg (a4 m c) ?_) (vw_real H b h d ⟨_, hr r⟩)
    exact congrArg (fun x => ix3 _ _ x) (Fin.ext (by show (tb t.val * 8 + tj t.val) * 1024 + r.val = b.val * 8192 + (1024 * tj t.val + r.val); omega))

/-! ## Along the grid -/

/-- A head's running values in the scratch buffers after a point. -/
def At (t : ℕ) (ht : t < (cfgA 0).N) (b : Fin 4) (i : Fin 8) (h : Fin 16) (l : Fin 1024) (n : ℕ) : Prop :=
  Good (row scM0_0.view h.val h.isLt (traj0 0 m ρ c t ht).2.1) (row scM0_1.view h.val h.isLt (traj0 0 m ρ c t ht).2.2.1)
    (row scM0_2.view h.val h.isLt (traj0 0 m ρ c t ht).2.2.2.1) l (den m c b i h l n) (num m c b i h l n)

section Tuple
variable {α β γ δ ε : Type} {a : α} {b : β} {g : γ} {d : δ} {e : ε}
theorem first {X : α × ε} (E : X = (a, e)) : X.1 = a := by rw [E]
theorem second {X : α × β × ε} (E : X = (a, b, e)) : X.2.1 = b := by rw [E]
theorem third {X : α × β × γ × ε} (E : X = (a, b, g, e)) : X.2.2.1 = g := by rw [E]
theorem fourth {X : α × β × γ × δ × ε} (E : X = (a, b, g, d, e)) : X.2.2.2.1 = d := by rw [E]
end Tuple

theorem at_of (t : ℕ) (ht : t < (cfgA 0).N) (b : Fin 4) (i : Fin 8) (h : Fin 16) (l : Fin 1024) (n : ℕ)
    {f0 : scM0_0.view.ty.Contents (Elt Ideal)} {f1 : scM0_1.view.ty.Contents (Elt Ideal)} {f2 : scM0_2.view.ty.Contents (Elt Ideal)}
    (e0 : (traj0 0 m ρ c t ht).2.1 = f0) (e1 : (traj0 0 m ρ c t ht).2.2.1 = f1) (e2 : (traj0 0 m ρ c t ht).2.2.2.1 = f2)
    {m' l' : Vec Ideal S1x1x1024 .f32} {a' : Vec Ideal S1x128x1024 .f32}
    (r0 : row scM0_0.view h.val h.isLt f0 = m') (r1 : row scM0_1.view h.val h.isLt f1 = l') (r2 : row scM0_2.view h.val h.isLt f2 = a')
    (g : Good m' l' a' l (den m c b i h l n) (num m c b i h l n)) : At (m := m) (c := c) ρ t ht b i h l n := by
  unfold At
  rw [e0, e1, e2, r0, r1, r2]
  exact g

theorem out_of (t : ℕ) (ht : t < (cfgA 0).N) (h : Fin 16) (l : Fin 1024) (d : Fin 128) (v : EReal)
    {X : S1024x2048.Idx → Elt Ideal .bf16} (e : (traj0 0 m ρ c t ht).1 = X) {Y : S1024x128.Idx → Elt Ideal .bf16}
    (r : col h.val h.isLt X = Y) (g : Y (ix2 l d) = v) : (traj0 0 m ρ c t ht).1 (ix2 l ⟨128 * h.val + d.val, by omega⟩) = v := by
  rw [e, ← g, ← r]
  exact (col_apply h.val h.isLt X l d).symm

/-- The sums before the first key. -/
theorem none (t : Fin (cfgA 0).N) (h0 : tj t.val = 0) (b : Fin 4) (i : Fin 8) (h : Fin 16) (l : Fin 1024) :
    Good (iM h.val h.isLt) (iL h.val h.isLt) (iA h.val h.isLt) l (den m c b i h l (1024 * tj t.val)) (num m c b i h l (1024 * tj t.val)) := by
  rw [h0]
  exact good_init h l

/-- The values before a point that is not a tile's first, from those after the point before. -/
theorem before (t : Fin (cfgA 0).N) (h0 : tj t.val ≠ 0) (b : Fin 4) (i : Fin 8) (h : Fin 16) (l : Fin 1024)
    (ih : ∀ (hp : t.val - 1 < (cfgA 0).N), At (m := m) (c := c) ρ (t.val - 1) hp b i h l (1024 * (tj (t.val - 1) + 1))) :
    Good (row scM0_0.view h.val h.isLt (prev0 0 m ρ c t).2.1) (row scM0_1.view h.val h.isLt (prev0 0 m ρ c t).2.2.1)
      (row scM0_2.view h.val h.isLt (prev0 0 m ρ c t).2.2.2.1) l (den m c b i h l (1024 * tj t.val)) (num m c b i h l (1024 * tj t.val)) := by
  obtain ⟨p1, -, -, p4⟩ := (order ⟨t.val, lt_N t⟩).2.2.2 h0
  dsimp only at p1 p4
  have e : prev0 0 m ρ c t = traj0 0 m ρ c (t.val - 1) (by have := t.isLt; omega) := by
    unfold prev0
    rw [dif_neg (by omega)]
  rw [e, ← p4]
  exact ih _

theorem after_A (H : Reals m c) (t : Fin (cfgA 0).N) (q0 : P0_0 0 t) (q1 : P0_1 0 t) (b : Fin 4) (i : Fin 8) (hb : tb t.val = b.val) (hi : ti t.val = i.val) (h : Fin 16) (l : Fin 1024) :
    At (m := m) (c := c) ρ t.val t.isLt b i h l (1024 * (tj t.val + 1)) := by
  have g := tile ρ H t b i hb hi h l (none t ((paths t).1.1 q0) b i h l)
  have E := (traj0_eq 0 m ρ c t).trans (step0_A 0 m ρ c t (prev0 0 m ρ c t) q0 q1)
  exact at_of ρ t.val t.isLt b i h l _ (second E) (third E) (fourth E)
    (PA.max h c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (hypsR0_A 0 t q0 q1).1 (hypsR0_A 0 t q0 q1).2.1)
    (PA.den h c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (hypsR0_A 0 t q0 q1).1 (hypsR0_A 0 t q0 q1).2.1)
    (PA.num h c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (hypsR0_A 0 t q0 q1).1 (hypsR0_A 0 t q0 q1).2.1) g

theorem after_B (H : Reals m c) (t : Fin (cfgA 0).N) (q0 : P0_0 0 t) (q1 : ¬P0_1 0 t) (b : Fin 4) (i : Fin 8) (hb : tb t.val = b.val) (hi : ti t.val = i.val) (h : Fin 16) (l : Fin 1024) :
    At (m := m) (c := c) ρ t.val t.isLt b i h l (1024 * (tj t.val + 1)) := by
  have g := tile ρ H t b i hb hi h l (none t ((paths t).1.1 q0) b i h l)
  have E := (traj0_eq 0 m ρ c t).trans (step0_B 0 m ρ c t (prev0 0 m ρ c t) q0 q1)
  exact at_of ρ t.val t.isLt b i h l _ (second E) (third E) (fourth E)
    (PB.max h c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (hypsR0_B 0 t q0 q1).1 (hypsR0_B 0 t q0 q1).2.1)
    (PB.den h c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (hypsR0_B 0 t q0 q1).1 (hypsR0_B 0 t q0 q1).2.1)
    (PB.num h c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (hypsR0_B 0 t q0 q1).1 (hypsR0_B 0 t q0 q1).2.1) g

theorem after_C (H : Reals m c) (t : Fin (cfgA 0).N) (q0 : ¬P0_0 0 t) (q1 : P0_1 0 t) (b : Fin 4) (i : Fin 8) (hb : tb t.val = b.val) (hi : ti t.val = i.val) (h : Fin 16) (l : Fin 1024)
    (ih : ∀ (hp : t.val - 1 < (cfgA 0).N), At (m := m) (c := c) ρ (t.val - 1) hp b i h l (1024 * (tj (t.val - 1) + 1))) :
    At (m := m) (c := c) ρ t.val t.isLt b i h l (1024 * (tj t.val + 1)) := by
  have g := tile ρ H t b i hb hi h l (before ρ t (fun e => q0 ((paths t).1.2 e)) b i h l ih)
  have E := (traj0_eq 0 m ρ c t).trans (step0_C 0 m ρ c t (prev0 0 m ρ c t) q0 q1)
  exact at_of ρ t.val t.isLt b i h l _ (second E) (third E) (fourth E)
    (PC.max h c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (prev0 0 m ρ c t).2.1 (prev0 0 m ρ c t).2.2.1 (prev0 0 m ρ c t).2.2.2.1 (hypsR0_C 0 t q0 q1).1 (hypsR0_C 0 t q0 q1).2.1)
    (PC.den h c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (prev0 0 m ρ c t).2.1 (prev0 0 m ρ c t).2.2.1 (prev0 0 m ρ c t).2.2.2.1 (hypsR0_C 0 t q0 q1).1 (hypsR0_C 0 t q0 q1).2.1)
    (PC.num h c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (prev0 0 m ρ c t).2.1 (prev0 0 m ρ c t).2.2.1 (prev0 0 m ρ c t).2.2.2.1 (hypsR0_C 0 t q0 q1).1 (hypsR0_C 0 t q0 q1).2.1) g

theorem after_D (H : Reals m c) (t : Fin (cfgA 0).N) (q0 : ¬P0_0 0 t) (q1 : ¬P0_1 0 t) (b : Fin 4) (i : Fin 8) (hb : tb t.val = b.val) (hi : ti t.val = i.val) (h : Fin 16) (l : Fin 1024)
    (ih : ∀ (hp : t.val - 1 < (cfgA 0).N), At (m := m) (c := c) ρ (t.val - 1) hp b i h l (1024 * (tj (t.val - 1) + 1))) :
    At (m := m) (c := c) ρ t.val t.isLt b i h l (1024 * (tj t.val + 1)) := by
  have g := tile ρ H t b i hb hi h l (before ρ t (fun e => q0 ((paths t).1.2 e)) b i h l ih)
  have E := (traj0_eq 0 m ρ c t).trans (step0_D 0 m ρ c t (prev0 0 m ρ c t) q0 q1)
  exact at_of ρ t.val t.isLt b i h l _ (second E) (third E) (fourth E)
    (PD.max h c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (prev0 0 m ρ c t).2.1 (prev0 0 m ρ c t).2.2.1 (prev0 0 m ρ c t).2.2.2.1 (hypsR0_D 0 t q0 q1).1 (hypsR0_D 0 t q0 q1).2.1)
    (PD.den h c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (prev0 0 m ρ c t).2.1 (prev0 0 m ρ c t).2.2.1 (prev0 0 m ρ c t).2.2.2.1 (hypsR0_D 0 t q0 q1).1 (hypsR0_D 0 t q0 q1).2.1)
    (PD.num h c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (prev0 0 m ρ c t).2.1 (prev0 0 m ρ c t).2.2.1 (prev0 0 m ρ c t).2.2.2.1 (hypsR0_D 0 t q0 q1).1 (hypsR0_D 0 t q0 q1).2.1) g

/-- After every point the running values are the sums over the keys seen so far. -/
theorem after (H : Reals m c) (n : ℕ) : ∀ (hn : n < (cfgA 0).N) (b : Fin 4) (i : Fin 8) (_ : tb n = b.val) (_ : ti n = i.val) (h : Fin 16) (l : Fin 1024),
    At (m := m) (c := c) ρ n hn b i h l (1024 * (tj n + 1)) := by
  induction n using Nat.strong_induction_on with
  | _ n ih =>
    intro hn b i hb hi h l
    by_cases q0 : P0_0 0 (⟨n, hn⟩ : Fin (cfgA 0).N)
    · by_cases q1 : P0_1 0 (⟨n, hn⟩ : Fin (cfgA 0).N)
      · exact after_A ρ H ⟨n, hn⟩ q0 q1 b i hb hi h l
      · exact after_B ρ H ⟨n, hn⟩ q0 q1 b i hb hi h l
    · have h0 : tj n ≠ 0 := fun e => q0 ((paths ⟨n, hn⟩).1.2 e)
      obtain ⟨p1, p2, p3, -⟩ := (order ⟨n, lt_N ⟨n, hn⟩⟩).2.2.2 h0
      dsimp only at p1 p2 p3
      have ih' : ∀ hp : n - 1 < (cfgA 0).N, At (m := m) (c := c) ρ (n - 1) hp b i h l (1024 * (tj (n - 1) + 1)) := fun hp =>
        ih (n - 1) (by omega) hp b i (p2.trans hb) (p3.trans hi) h l
      by_cases q1 : P0_1 0 (⟨n, hn⟩ : Fin (cfgA 0).N)
      · exact after_C ρ H ⟨n, hn⟩ q0 q1 b i hb hi h l ih'
      · exact after_D ρ H ⟨n, hn⟩ q0 q1 b i hb hi h l ih'

/-- The output block at a query tile's last point. -/
theorem out_at (H : Reals m c) (t : Fin (cfgA 0).N) (q1 : P0_1 0 t) (b : Fin 4) (i : Fin 8) (hb : tb t.val = b.val) (hi : ti t.val = i.val) (h : Fin 16) (l : Fin 1024) (d : Fin 128) :
    (traj0 0 m ρ c t.val t.isLt).1 (ix2 l ⟨128 * h.val + d.val, by omega⟩)
      = ((num m c b i h l (1024 * (i.val + 1)) d / den m c b i h l (1024 * (i.val + 1)) : ℝ) : EReal) := by
  have ej : tj t.val = i.val := ((paths t).2.1 q1).trans hi
  by_cases q0 : P0_0 0 t
  · have g := tile ρ H t b i hb hi h l (none t ((paths t).1.1 q0) b i h l)
    rw [ej] at g
    have E := (traj0_eq 0 m ρ c t).trans (step0_A 0 m ρ c t (prev0 0 m ρ c t) q0 q1)
    exact out_of ρ t.val t.isLt h l d _ (first E)
      (PA.out h c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (hypsR0_A 0 t q0 q1).1 (hypsR0_A 0 t q0 q1).2.1)
      (good_out g (den_pos b i h l (by omega)) d)
  · have h0 : tj t.val ≠ 0 := fun e => q0 ((paths t).1.2 e)
    obtain ⟨p1, p2, p3, -⟩ := (order ⟨t.val, lt_N t⟩).2.2.2 h0
    dsimp only at p1 p2 p3
    have g := tile ρ H t b i hb hi h l (before ρ t h0 b i h l fun hp => after ρ H _ hp b i (p2.trans hb) (p3.trans hi) h l)
    rw [ej] at g
    have E := (traj0_eq 0 m ρ c t).trans (step0_C 0 m ρ c t (prev0 0 m ρ c t) q0 q1)
    exact out_of ρ t.val t.isLt h l d _ (first E)
      (PC.out h c (crd 0 t) (ms0_0 0 t) (hs0_0 0 t) (ms0_1 0 t) (hs0_1 0 t) (ms0_2 0 t) (hs0_2 0 t) (ms0_3 0 t) (hs0_3 0 t) (ms0_4 0 t) (hs0_4 0 t) (pinT_0 0) (pinT_1 0) (iblk 0 m ρ c (0 : Fin 5) t) (iblk 0 m ρ c (1 : Fin 5) t) (iblk 0 m ρ c (2 : Fin 5) t) (iblk 0 m ρ c (3 : Fin 5) t) (prev0 0 m ρ c t).2.1 (prev0 0 m ρ c t).2.2.1 (prev0 0 m ρ c t).2.2.2.1 (hypsR0_C 0 t q0 q1).1 (hypsR0_C 0 t q0 q1).2.1)
      (good_out g (den_pos b i h l (by omega)) d)

end Cert.AttnIdeal.Leg

end
-- ==== Proof.AttnRef.lean ====
/- The attention's reference, read at an element. -/
module

public import proofs.«01_k».proof.Proof.Gen.AttnRefIdeal.Read
public import Idealize.ShloMosaic.Lib.Pointwise

@[expose] public section

set_option maxRecDepth 16384

noncomputable section

namespace Cert.AttnRefIdeal.Leg

open Cert.AttnRefIdeal Cert.AttnRefIdeal.Gen Cert.AttnRefIdeal.Read Idealize.ShloMosaic Idealize.ShloMosaic.TcCoe Idealize.SL.Sem

theorem read1 (x2 : Vec Ideal S16x128x32768 .bf16) (a b : Fin 4) (d : Fin 128) (g : Fin 4) (i : Fin 8) (t : Fin 1024) :
    val_main_v1 (F := Ideal) x2 (ix6 a g d b i t) = x2 (ix3 ⟨a.val * 4 + g.val, by omega⟩ d ⟨b.val * 8192 + i.val * 1024 + t.val, by omega⟩) := by
  pointwise [val_main_v0, val_main_v1]

theorem read3 (x3 : Vec Ideal S4x32768x128 .bf16) (a b : Fin 4) (s : Fin 8192) (d : Fin 128) :
    val_main_v3 (F := Ideal) x3 (ix4 a b s d) = x3 (ix3 a ⟨b.val * 8192 + s.val, by omega⟩ d) := by
  pointwise [val_main_v2, val_main_v3]

theorem read6 (x4 : Vec Ideal S4x144x32768 .bf16) (a b : Fin 4) (s : Fin 8192) (d : Fin 128) :
    val_main_v6 (F := Ideal) x4 (ix4 a d b s) = x4 (ix3 a ⟨d.val, by omega⟩ ⟨b.val * 8192 + s.val, by omega⟩) := by
  pointwise [val_main_v4, val_main_v5, val_main_v6]

theorem read13 (s : Fin 8192) (i : Fin 8) (t : Fin 1024) :
    val_main_v13 (F := Ideal) (ix3 s i t) = BitVec.ofBool (decide (s.val < 1024 * i.val + 1024)) := by
  pointwise [val_main_v7, val_main_v8, val_main_c, val_main_v9, val_main_v10, val_main_c_0, val_main_v11, val_main_v12, val_main_v13]
  have hs := s.isLt
  have hi := i.isLt
  have e : IntOp.muli (IntOp.addi (BitVec.ofNat 32 i.val) 1#32) 1024#32 = BitVec.ofNat 32 (1024 * i.val + 1024) := by
    apply BitVec.eq_of_toNat_eq
    simp only [IntOp.muli, IntOp.addi, BitVec.toNat_mul, BitVec.toNat_add, BitVec.toNat_ofNat]
    omega
  rw [e]
  unfold IntOp.cmpi
  congr 1
  simp only [BitVec.slt, BitVec.toInt_ofNat']
  rw [Int.bmod_eq_of_le (by omega) (by omega), Int.bmod_eq_of_le (by omega) (by omega)]
  simp only [Nat.cast_lt, decide_eq_decide]

theorem read17 (x5 : Vec Ideal S4x8x8192x1024 .bf16) (b : Fin 4) (s : Fin 8192) (i : Fin 8) (t : Fin 1024) :
    val_main_v17 (F := Ideal) x5 (ix4 b s i t) = if s.val < 1024 * i.val + 1024 then x5 (ix4 b i s t) else ⊥ := by
  pointwise [val_main_v14, val_main_v15, val_main_v16, val_main_cst, val_main_call0_v0, val_main_call0_v1, val_main_call0_v2, val_main_v17]
  rw [read13]
  by_cases h : s.val < 1024 * i.val + 1024 <;> simp [h, Scalar.select, constant, FloatOps.ofBits, Ideal.ofBits, Ideal.ieee]

/-- Dropping the key axis of a score index gives the query's index exactly when the other five coordinates agree. -/
theorem drop_key (a b g : Fin 4) (i : Fin 8) (t : Fin 1024) (q : S4x4x8192x4x8x1024.Idx) :
    reducesTo_S4x4x8192x4x8x1024_S4x4x4x8x1024_d2.drop q = ix5 a b g i t ↔ ∃ s : Fin 8192, ix6 a b s g i t = q := by
  refine ⟨fun e => ⟨q 2, funext fun n => ?_⟩, ?_⟩
  · match n with
    | ⟨0, _⟩ => exact (congrFun e (0 : Fin 5)).symm
    | ⟨1, _⟩ => exact (congrFun e (1 : Fin 5)).symm
    | ⟨2, _⟩ => rfl
    | ⟨3, _⟩ => exact (congrFun e (2 : Fin 5)).symm
    | ⟨4, _⟩ => exact (congrFun e (3 : Fin 5)).symm
    | ⟨5, _⟩ => exact (congrFun e (4 : Fin 5)).symm
  · rintro ⟨s, rfl⟩
    refine funext fun n => ?_
    match n with
    | ⟨0, _⟩ => rfl
    | ⟨1, _⟩ => rfl
    | ⟨2, _⟩ => rfl
    | ⟨3, _⟩ => rfl
    | ⟨4, _⟩ => rfl

theorem key_inj (a b g : Fin 4) (i : Fin 8) (t : Fin 1024) : Function.Injective fun s : Fin 8192 => ix6 a b s g i t :=
  fun _ _ e => congrFun e 2

/-- One score: the key against the query, with the bias, nothing for a key whose tile is later than the query's. -/
def score (x2 : Vec Ideal S16x128x32768 .bf16) (x3 : Vec Ideal S4x32768x128 .bf16) (x5 : Vec Ideal S4x8x8192x1024 .bf16)
    (a b : Fin 4) (g : Fin 4) (i : Fin 8) (t : Fin 1024) (s : Fin 8192) : EReal :=
  (∑ d : Fin 128, x3 (ix3 a ⟨b.val * 8192 + s.val, by omega⟩ d) * x2 (ix3 ⟨a.val * 4 + g.val, by omega⟩ d ⟨b.val * 8192 + i.val * 1024 + t.val, by omega⟩))
    + if s.val < 1024 * i.val + 1024 then x5 (ix4 b i s t) else ⊥

theorem read21 (x2 : Vec Ideal S16x128x32768 .bf16) (x3 : Vec Ideal S4x32768x128 .bf16) (x5 : Vec Ideal S4x8x8192x1024 .bf16)
    (a b : Fin 4) (g : Fin 4) (i : Fin 8) (t : Fin 1024) (s : Fin 8192) :
    val_main_v21 (F := Ideal) x2 x3 x5 (ix6 a b s g i t) = score x2 x3 x5 a b g i t s := by
  pointwise [val_main_v18, val_main_v19, val_main_v20, val_main_v21]
  simp only [read1, read3, read17]
  rfl

/-- A query's greatest score. -/
def top (x2 : Vec Ideal S16x128x32768 .bf16) (x3 : Vec Ideal S4x32768x128 .bf16) (x5 : Vec Ideal S4x8x8192x1024 .bf16)
    (a b : Fin 4) (g : Fin 4) (i : Fin 8) (t : Fin 1024) : EReal :=
  (Finset.univ : Finset (Fin 8192)).fold max ⊥ fun s => score x2 x3 x5 a b g i t s

theorem read23 (x2 : Vec Ideal S16x128x32768 .bf16) (x3 : Vec Ideal S4x32768x128 .bf16) (x5 : Vec Ideal S4x8x8192x1024 .bf16)
    (a b : Fin 4) (g : Fin 4) (i : Fin 8) (t : Fin 1024) :
    val_main_v23 (F := Ideal) x2 x3 x5 (ix5 a b g i t) = top x2 x3 x5 a b g i t := by
  unfold val_main_v23
  rw [Host.reduce_eq_fold]
  refine (Finset.fold_filter_eq_fold_of_fiber _ _ _ (key_inj a b g i t) (drop_key a b g i t) _ _).trans ?_
  simp only [read21]
  have hb : Ideal.ofBits .f32 4286578688#32 = ⊥ := by simp [Ideal.ofBits, Ideal.ieee]
  have hc : val_main_cst_2 (F := Ideal) (Shape.Idx.first h_S_) = ⊥ := hb
  rw [hc]
  rfl

theorem read27 (x2 : Vec Ideal S16x128x32768 .bf16) (x3 : Vec Ideal S4x32768x128 .bf16) (x5 : Vec Ideal S4x8x8192x1024 .bf16)
    (a b : Fin 4) (g : Fin 4) (i : Fin 8) (t : Fin 1024) (s : Fin 8192) :
    val_main_v27 (F := Ideal) x2 x3 x5 (ix6 a b s g i t) = Ideal.pow (Ideal.ofBits .f32 1073741824#32) (score x2 x3 x5 a b g i t s - top x2 x3 x5 a b g i t) := by
  pointwise [val_main_cst_1, val_main_v22, val_main_v24, val_main_v25, val_main_v26, val_main_v27]
  simp only [read21, read23]

/-- The reference's result at an element: row `(b, i, t)`, head `(a, g)`, entry `d`. -/
theorem read (x2 : Vec Ideal S16x128x32768 .bf16) (x3 : Vec Ideal S4x32768x128 .bf16) (x4 : Vec Ideal S4x144x32768 .bf16) (x5 : Vec Ideal S4x8x8192x1024 .bf16)
    (a b : Fin 4) (g : Fin 4) (i : Fin 8) (t : Fin 1024) (d : Fin 128) :
    val_main_v35 (F := Ideal) x2 x3 x4 x5 (ix2 ⟨b.val * 8192 + i.val * 1024 + t.val, by omega⟩ ⟨a.val * 512 + g.val * 128 + d.val, by omega⟩) =
      Ideal.div (∑ s : Fin 8192, x4 (ix3 a ⟨d.val, by omega⟩ ⟨b.val * 8192 + s.val, by omega⟩)
          * Ideal.pow (Ideal.ofBits .f32 1073741824#32) (score x2 x3 x5 a b g i t s - top x2 x3 x5 a b g i t))
        (∑ s : Fin 8192, Ideal.pow (Ideal.ofBits .f32 1073741824#32) (score x2 x3 x5 a b g i t s - top x2 x3 x5 a b g i t)) := by
  pointwise [val_main_v28, val_main_cst_3, val_main_v29, val_main_v30, val_main_v31, val_main_v32, val_main_v33, val_main_v34, val_main_v35]
  simp only [read27, read6]
  refine congrArg (Ideal.div _) ?_
  refine (zero_add _).trans ?_
  refine (Finset.sum_filter_eq_sum_of_fiber _ _ (key_inj a b g i t) (drop_key a b g i t) _).trans ?_
  simp only [read27]

end Cert.AttnRefIdeal.Leg

end
-- ==== Proof.AttnLeg.lean ====
/- Attention's result array: the kernel's flushed blocks cover it, and each of its elements is the reference's. -/
module

public import proofs.«01_k».proof.Proof.AttnStep
public import proofs.«01_k».proof.Proof.AttnRef
public import proofs.«01_k».proof.Proof.Cols
public import Idealize.ShloMosaic.Lib.Pipeline.ValueKit.Geometry

@[expose] public section

set_option maxRecDepth 16384

noncomputable section

namespace Cert.AttnIdeal.Leg

open Cert.AttnIdeal Cert.AttnIdeal.Gen Cert.Cols Idealize.ShloMosaic Idealize.ShloMosaic.TcCoe Idealize.SL.Sem

variable {m : (ℓ : Loc nD τ sig) → Buf (Elt Ideal) ℓ} (ρ : Dev nD → PrngReg) {c : Dev nD}

variable (m c) in
/-- The result array: what the reference reads from the same arguments. -/
def G : Vec Ideal S32768x2048 .bf16 := Cert.AttnRefIdeal.Read.val_main_v35 (F := Ideal) (a2 m c) (a3 m c) (a4 m c) (a5 m c)

/-- A key the query sees has the real score; a later key has none. -/
theorem score_real (H : Reals m c) (b : Fin 4) (i : Fin 8) (h : Fin 16) (l : Fin 1024) (s : Fin 8192) :
    Cert.AttnRefIdeal.Leg.score (a2 m c) (a3 m c) (a5 m c) ⟨h.val / 4, by omega⟩ b ⟨h.val % 4, by omega⟩ i l s
      = if s.val < 1024 * (i.val + 1) then (sg m c b i h l s.val : EReal) else ⊥ := by
  have e := sc_real H b i h l s
  unfold sc at e
  have hh : (⟨h.val / 4 * 4 + h.val % 4, by omega⟩ : Fin 16) = h := Fin.ext (by show h.val / 4 * 4 + h.val % 4 = h.val; omega)
  unfold Cert.AttnRefIdeal.Leg.score
  simp only [hh]
  by_cases hs : s.val < 1024 * i.val + 1024
  · rw [if_pos hs, if_pos (by omega)]; exact e
  · rw [if_neg hs, if_neg (by omega)]; exact EReal.add_bot _

/-- The reference's element: the quotient of the two sums over the keys the query sees. -/
theorem ref_at (H : Reals m c) (b : Fin 4) (i : Fin 8) (h : Fin 16) (l : Fin 1024) (d : Fin 128) :
    G m c (ix2 ⟨b.val * 8192 + i.val * 1024 + l.val, by omega⟩ ⟨128 * h.val + d.val, by omega⟩)
      = ((num m c b i h l (1024 * (i.val + 1)) d / den m c b i h l (1024 * (i.val + 1)) : ℝ) : EReal) := by
  have hc : (⟨128 * h.val + d.val, by omega⟩ : Fin 2048) = ⟨h.val / 4 * 512 + h.val % 4 * 128 + d.val, by omega⟩ := Fin.ext (by show 128 * h.val + d.val = h.val / 4 * 512 + h.val % 4 * 128 + d.val; omega)
  rw [hc]
  refine (Cert.AttnRefIdeal.Leg.read (a2 m c) (a3 m c) (a4 m c) (a5 m c) ⟨h.val / 4, by omega⟩ b ⟨h.val % 4, by omega⟩ i l d).trans ?_
  exact whole_row (1024 * (i.val + 1)) (by omega) (by omega) _ _ (sg m c b i h l) (vw m c b h d)
    (fun s => score_real H b i h l s) (fun s => vw_real H b h d s)

theorem flushed_eq (H : Reals m c) (t : Fin (cfgA 0).N) (hf : ((cfgA 0).win 4).flush t = true) :
    (dats 0 m ρ 0 c).flushed 4 t = (((cfgA 0).win 4).blk t).view.read (Elt Ideal) (G m c) := by
  have hj := (flushes t).1 hf
  obtain ⟨hb, hi, -⟩ := order ⟨t.val, lt_N t⟩
  dsimp only at hb hi
  obtain ⟨-, -, -, -, -, -, -, -, -, -, -, -, -, e0, e1⟩ := idxAll t
  show ((cfgA 0).win 4).cut (grid0.coords t) ((dats 0 m ρ 0 c).after 4 t) = _
  rw [after0_4]
  refine funext (forall_ix2 (N := 1024) (M := 2048) fun l C => ?_)
  have hl := l.isLt
  have hC := C.isLt
  rw [View.read_apply]
  have hemb : (((cfgA 0).win 4).blk t).view.emb (ix2 l C)
      = (ix2 ⟨tb t.val * 8192 + ti t.val * 1024 + l.val, by omega⟩ ⟨128 * (C.val / 128) + C.val % 128, by omega⟩ : S32768x2048.Idx) := by
    funext a
    refine Fin.ext ?_
    match a with
    | ⟨0, _⟩ => show ((cfgA 0).win 4).index t (0 : Fin 2) * 1024 + 1 * l.val = tb t.val * 8192 + ti t.val * 1024 + l.val; omega
    | ⟨1, _⟩ => show ((cfgA 0).win 4).index t (1 : Fin 2) * 2048 + 1 * C.val = 128 * (C.val / 128) + C.val % 128; omega
  refine Eq.trans ?_ (congrArg (G m c) hemb).symm
  refine Eq.trans ?_ (ref_at H ⟨tb t.val, hb⟩ ⟨ti t.val, hi⟩ ⟨C.val / 128, by omega⟩ l ⟨C.val % 128, by omega⟩).symm
  refine Eq.trans ?_ (out_at ρ H t ((paths t).2.2 hj) ⟨tb t.val, hb⟩ ⟨ti t.val, hi⟩ rfl rfl ⟨C.val / 128, by omega⟩ l ⟨C.val % 128, by omega⟩)
  have hc : C = (⟨128 * (C.val / 128) + C.val % 128, by omega⟩ : Fin 2048) := Fin.ext (by show C.val = 128 * (C.val / 128) + C.val % 128; omega)
  exact congrArg (fun x => (traj0 0 m ρ c t.val t.isLt).1 (ix2 l x)) hc

/-- A query tile's last point, by its batch and its number. -/
theorem last : ∀ b : Fin 4, ∀ i : Fin 8, ∃ t : Fin 144, tb t.val = b.val ∧ ti t.val = i.val ∧ tj t.val = ti t.val := by decide

theorem final (H : Reals m c) : (dats 0 m ρ 0 c).arrAt 4 (cfgA 0).N = G m c := by
  refine (dats 0 m ρ 0 c).arrAt_eq_of_cover 4 (G m c) (fun t hf => flushed_eq ρ H t hf) fun i => ?_
  change S32768x2048.Idx at i
  have h0 : (i 0).val < 32768 := (i 0).isLt
  have h1 : (i 1).val < 2048 := (i 1).isLt
  have hN : (cfgA 0).N = 144 := N_0
  obtain ⟨t, hb, hi, hj⟩ := last ⟨(i 0).val / 8192, by omega⟩ ⟨(i 0).val / 1024 % 8, by omega⟩
  dsimp only at hb hi
  have ht : t.val < (cfgA 0).N := lt_of_lt_of_eq t.isLt hN.symm
  refine ⟨⟨t.val, ht⟩, (flushes _).2 hj, ?_⟩
  obtain ⟨-, -, -, -, -, -, -, -, -, -, -, -, -, e0, e1⟩ := idxAll ⟨t.val, ht⟩
  replace e0 : ((cfgA 0).win 4).index ⟨t.val, ht⟩ (0 : Fin 2) = tb t.val * 8 + ti t.val := e0
  replace e1 : ((cfgA 0).win 4).index ⟨t.val, ht⟩ (1 : Fin 2) = 0 := e1
  mem_blk
  omega

theorem run (hp : Pinned 0 m) (H : ∀ c, Reals m c) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h.1 c).1 (4 : Fin 5)).trans (final ρ (H c)), h.2 c⟩)
    (θ_run_and (run_main 0 m ρ hp) (unchanged 0 m ρ hp))

end Cert.AttnIdeal.Leg

end
-- ==== Proof.AttnClaims.lean ====
/- `Attn`: what its precondition says, the frames of its three programs, and the equality of the kernel's result with the
   reference's. -/
module

public import proofs.«01_k».proof.Defs
public import proofs.«01_k».proof.Proof.AttnLeg
public import proofs.«01_k».proof.Proof.Gen.Attn
public import proofs.«01_k».proof.Proof.Gen.Attn.Flash
public import proofs.«01_k».proof.Proof.Gen.AttnRefIdeal
public import proofs.«01_k».proof.Proof.Gen.AttnRefIdeal.Run
public import proofs.«01_k».proof.Proof.Gen.Pre_attn_args
public import Idealize.ShloMosaic.Lib.QuiescentFlight

@[expose] public section

set_option maxRecDepth 16384

noncomputable section

namespace Cert.Proof.Attn

open Idealize.ShloMosaic Idealize.ShloMosaic.TcCoe Idealize.SL.Sem

theorem of_bool {p : Prop} [Decidable p] (h : BitVec.ofBool (decide p) = 1#1) : p := by
  by_contra hn
  rw [decide_eq_false hn] at h
  exact absurd h (by decide)

/-- A magnitude below infinity is a real number's. -/
theorem real_of (x : EReal) (h : Ideal.cmp .olt (max x (-x)) (Ideal.ofBits .f32 0x7F800000#32) = 1#1) : ∃ r : ℝ, x = (r : EReal) := by
  have e : Ideal.ofBits .f32 0x7F800000#32 = (⊤ : EReal) := by simp [Ideal.ofBits, Ideal.ieee]
  rw [e] at h
  have h' : max x (-x) < ⊤ := of_bool h
  induction x with
  | bot => simp at h'
  | coe r => exact ⟨r, rfl⟩
  | top => simp at h'

theorem one_of (x : EReal) (h : Ideal.cmp .oeq x (Ideal.ofBits .bf16 0x3F80#16) = 1#1) : x = 1 := by
  have e : Ideal.ofBits .bf16 0x3F80#16 = (1 : EReal) := by
    simp [Ideal.ofBits, Ideal.ieee]
    rw [← EReal.coe_mul, ← EReal.coe_one]
    exact congrArg _ (by norm_num)
  rw [e] at h
  exact of_bool h

theorem same_word {x y : BitVec 32} (h : IntOp.cmpi .eq x y = 1#1) : x = y := by
  have h' : BitVec.ofBool (x == y) = 1#1 := h
  by_contra hn
  rw [beq_eq_false_iff_ne.2 hn] at h'
  exact absurd h' (by decide)

theorem qi_table : ∀ x : Cert.Pre_attn_args.S36.Idx, Cert.Pre_attn_args.lit0 (Cert.Pre_attn_args.S36.rowMajor x) = Cert.AttnIdeal.Gen.pinT_0 0 x := by decide
theorem kj_table : ∀ x : Cert.Pre_attn_args.S36.Idx, Cert.Pre_attn_args.lit1 (Cert.Pre_attn_args.S36.rowMajor x) = Cert.AttnIdeal.Gen.pinT_1 0 x := by decide

theorem pinned (m : (ℓ : Loc Cert.Attn.nD Cert.Attn.τ Cert.Attn.sig) → Buf (Elt Bits) ℓ) (h : Cert.Pre_Attn m) : Cert.Attn.Gen.Pinned 0 m :=
  ⟨fun c => funext fun x => (same_word (congrFun (h c).1 x)).trans (qi_table x),
    fun c => funext fun x => (same_word (congrFun (h c).2.1 x)).trans (kj_table x)⟩

theorem pinned_ideal (m : (ℓ : Loc Cert.AttnIdeal.nD Cert.AttnIdeal.τ Cert.AttnIdeal.sig) → Buf (Elt Ideal) ℓ) (h : Cert.Pre_AttnIdeal m) :
    Cert.AttnIdeal.Gen.Pinned 0 m :=
  ⟨fun c => funext fun x => (same_word (congrFun (h c).1 x)).trans (qi_table x),
    fun c => funext fun x => (same_word (congrFun (h c).2.1 x)).trans (kj_table x)⟩

/-- The precondition read at the idealized numbers: the arguments are real, and the row after the features is ones. -/
theorem reals (m : (ℓ : Loc Cert.AttnIdeal.nD Cert.AttnIdeal.τ Cert.AttnIdeal.sig) → Buf (Elt Ideal) ℓ) (h : Cert.Pre_AttnIdeal m) (c : Dev Cert.AttnIdeal.nD) :
    Cert.AttnIdeal.Leg.Reals m c where
  q i := real_of _ (congrFun (h c).2.2.1 i)
  k i := real_of _ (congrFun (h c).2.2.2.1 i)
  v i := real_of _ (congrFun (h c).2.2.2.2.1 i)
  b i := real_of _ (congrFun (h c).2.2.2.2.2.1 i)
  one a s := by
    refine one_of _ (Eq.trans ?_ (congrFun (h c).2.2.2.2.2.2 (ix3 a 0 s : Cert.Pre_attn_args.S4x1x32768.Idx)))
    refine congrArg (fun x => Ideal.cmp .oeq (Cert.AttnIdeal.Leg.a4 m c x) (Ideal.ofBits .bf16 0x3F80#16)) (funext fun j => Fin.ext ?_)
    match j with
    | ⟨0, _⟩ => show a.val = 0 + a.val; omega
    | ⟨1, _⟩ => rfl
    | ⟨2, _⟩ => show s.val = 0 + s.val; omega

theorem frame : Cert.quiescent_Attn := fun m ρ h => Cert.Attn.Gen.frame 0 m ρ (pinned m h)
theorem frame_ideal : Cert.quiescent_AttnIdeal := fun m ρ h => Cert.AttnIdeal.Gen.frame 0 m ρ (pinned_ideal m h)
theorem frame_ref : Cert.quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

theorem preserves : Cert.preserves_Attn_AttnIdeal := trivial

theorem algebraic : Cert.algebraic_AttnIdeal_AttnRefIdeal := by
  intro m ρ m' ρ' hpre hagree
  refine ⟨fun c => Cert.AttnIdeal.Leg.G m c, Cert.AttnIdeal.Leg.run ρ (pinned_ideal m hpre) (reals m hpre), ?_⟩
  refine (θ_run Cert.AttnRefIdeal.defs _ _).mono (fun _ h c => ?_) (Cert.AttnRefIdeal.Value.run m' ρ')
  refine ⟨(h c).1.trans ?_, (h c).2⟩
  refine (Cert.AttnRefIdeal.Read.val_main_v35_eq _ _).trans ?_
  obtain ⟨-, -, e2, e3, e4, e5⟩ := hagree c
  rw [e2, e3, e4, e5]
  rfl

end Cert.Proof.Attn

end
-- ==== Proof.lean ====
module

public import proofs.«01_k».proof.Defs
public import proofs.«01_k».proof.Proof.Gen.Mlp0
public import proofs.«01_k».proof.Proof.Gen.Mlp0.Skeleton
public import proofs.«01_k».proof.Proof.Gen.Mlp0.Launch
public import proofs.«01_k».proof.Proof.Gen.Mlp0.Points
public import proofs.«01_k».proof.Proof.Gen.Mlp0.Frame
public import proofs.«01_k».proof.Proof.Gen.Mlp0Ideal
public import proofs.«01_k».proof.Proof.Gen.Mlp0Ideal.Skeleton
public import proofs.«01_k».proof.Proof.Gen.Mlp0Ideal.Launch
public import proofs.«01_k».proof.Proof.Gen.Mlp0Ideal.Points
public import proofs.«01_k».proof.Proof.Gen.Mlp0Ideal.Frame
public import proofs.«01_k».proof.Proof.Gen.Mlp0RefIdeal
public import proofs.«01_k».proof.Proof.Gen.Pe0
public import proofs.«01_k».proof.Proof.Gen.Pe0.Skeleton
public import proofs.«01_k».proof.Proof.Gen.Pe0.Launch
public import proofs.«01_k».proof.Proof.Gen.Pe0.Points
public import proofs.«01_k».proof.Proof.Gen.Pe0.Frame
public import proofs.«01_k».proof.Proof.Gen.Pe0Ideal
public import proofs.«01_k».proof.Proof.Gen.Pe0Ideal.Skeleton
public import proofs.«01_k».proof.Proof.Gen.Pe0Ideal.Launch
public import proofs.«01_k».proof.Proof.Gen.Pe0Ideal.Points
public import proofs.«01_k».proof.Proof.Gen.Pe0Ideal.Frame
public import proofs.«01_k».proof.Proof.Gen.Pe0RefIdeal
public import proofs.«01_k».proof.Proof.Gen.ConvIn
public import proofs.«01_k».proof.Proof.Gen.ConvIn.Skeleton
public import proofs.«01_k».proof.Proof.Gen.ConvIn.Launch
public import proofs.«01_k».proof.Proof.Gen.ConvIn.Points
public import proofs.«01_k».proof.Proof.Gen.ConvIn.Frame
public import proofs.«01_k».proof.Proof.Gen.ConvInIdeal
public import proofs.«01_k».proof.Proof.Gen.ConvInIdeal.Skeleton
public import proofs.«01_k».proof.Proof.Gen.ConvInIdeal.Launch
public import proofs.«01_k».proof.Proof.Gen.ConvInIdeal.Points
public import proofs.«01_k».proof.Proof.Gen.ConvInIdeal.Frame
public import proofs.«01_k».proof.Proof.Gen.ConvInRefIdeal
public import proofs.«01_k».proof.Proof.Gen.DsaOut
public import proofs.«01_k».proof.Proof.Gen.DsaOut.Skeleton
public import proofs.«01_k».proof.Proof.Gen.DsaOut.Launch
public import proofs.«01_k».proof.Proof.Gen.DsaOut.Points
public import proofs.«01_k».proof.Proof.Gen.DsaOut.Frame
public import proofs.«01_k».proof.Proof.Gen.DsaOutIdeal
public import proofs.«01_k».proof.Proof.Gen.DsaOutIdeal.Skeleton
public import proofs.«01_k».proof.Proof.Gen.DsaOutIdeal.Launch
public import proofs.«01_k».proof.Proof.Gen.DsaOutIdeal.Points
public import proofs.«01_k».proof.Proof.Gen.DsaOutIdeal.Frame
public import proofs.«01_k».proof.Proof.Gen.DsaOutRefIdeal
public import Idealize.ShloMosaic.Adequacy
public import Idealize.ShloMosaic.Init
public import proofs.«01_k».proof.Proof.Gen.Mlp0Ideal.Value
public import proofs.«01_k».proof.Proof.Gen.Pe0Ideal.Value
public import proofs.«01_k».proof.Proof.Gen.ConvInIdeal.Value
public import proofs.«01_k».proof.Proof.Gen.DsaOutIdeal.Value
public import proofs.«01_k».proof.Proof.Gen.Mlp0RefIdeal.Run
public import proofs.«01_k».proof.Proof.Gen.Mlp0RefIdeal.Read
public import proofs.«01_k».proof.Proof.Gen.Pe0RefIdeal.Run
public import proofs.«01_k».proof.Proof.Gen.Pe0RefIdeal.Read
public import proofs.«01_k».proof.Proof.Gen.ConvInRefIdeal.Run
public import proofs.«01_k».proof.Proof.Gen.ConvInRefIdeal.Read
public import proofs.«01_k».proof.Proof.Gen.DsaOutRefIdeal.Run
public import proofs.«01_k».proof.Proof.Gen.DsaOutRefIdeal.Read
public import proofs.«01_k».proof.Proof.Mlp0Claims
public import proofs.«01_k».proof.Proof.Pe0Claims
public import proofs.«01_k».proof.Proof.ConvInClaims
public import proofs.«01_k».proof.Proof.DsaOutClaims
public import proofs.«01_k».proof.Proof.Gen.Mlp1Ideal.Value
public import proofs.«01_k».proof.Proof.Gen.Mlp1RefIdeal.Run
public import proofs.«01_k».proof.Proof.Gen.Mlp1RefIdeal.Read
public import proofs.«01_k».proof.Proof.Gen.Pe1Ideal.Value
public import proofs.«01_k».proof.Proof.Gen.Pe1RefIdeal.Run
public import proofs.«01_k».proof.Proof.Gen.Pe1RefIdeal.Read
public import proofs.«01_k».proof.Proof.Gen.ConvOutIdeal.Value
public import proofs.«01_k».proof.Proof.Gen.ConvOutRefIdeal.Run
public import proofs.«01_k».proof.Proof.Gen.ConvOutRefIdeal.Read
public import proofs.«01_k».proof.Proof.Mlp1Claims
public import proofs.«01_k».proof.Proof.Pe1Claims
public import proofs.«01_k».proof.Proof.ConvOutClaims
public import proofs.«01_k».proof.Proof.Gen.Attn
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Attn.Flash
public import proofs.«01_k».proof.Proof.Gen.AttnIdeal
public import proofs.«01_k».proof.Proof.Gen.AttnIdeal.Flash
public import proofs.«01_k».proof.Proof.Gen.Pre_attn_args
public import proofs.«01_k».proof.Proof.Gen.Attn.Launch
public import proofs.«01_k».proof.Proof.Gen.AttnIdeal.Launch
public import proofs.«01_k».proof.Proof.Gen.Attn.Skeleton
public import proofs.«01_k».proof.Proof.Gen.AttnIdeal.Skeleton
public import proofs.«01_k».proof.Proof.AttnClaims

@[expose] public section

noncomputable section

namespace Cert.Proof

open Idealize.ShloMosaic Idealize.SL.Sem Cert.Mlp0

theorem claim : Cert.Claim := ⟨Cert.Mlp0.Gen.facts, Cert.Mlp0Ideal.Gen.facts, Cert.Mlp0RefIdeal.Gen.facts, Cert.Pe0.Gen.facts, Cert.Pe0Ideal.Gen.facts, Cert.Pe0RefIdeal.Gen.facts, Cert.ConvIn.Gen.facts, Cert.ConvInIdeal.Gen.facts, Cert.ConvInRefIdeal.Gen.facts, Cert.DsaOut.Gen.facts, Cert.DsaOutIdeal.Gen.facts, Cert.DsaOutRefIdeal.Gen.facts, Cert.Mlp1.Gen.facts, Cert.Mlp1Ideal.Gen.facts, Cert.Mlp1RefIdeal.Gen.facts, Cert.Pe1.Gen.facts, Cert.Pe1Ideal.Gen.facts, Cert.Pe1RefIdeal.Gen.facts, Cert.ConvOut.Gen.facts, Cert.ConvOutIdeal.Gen.facts, Cert.ConvOutRefIdeal.Gen.facts, Cert.Attn.Gen.facts, Cert.AttnIdeal.Gen.facts, Cert.AttnRefIdeal.Gen.facts, Cert.Pre_attn_args.Gen.facts,
  Mlp0.frame, Mlp0.frame_ideal, Mlp0.frame_ref, Pe0.frame, Pe0.frame_ideal, Pe0.frame_ref, ConvIn.frame, ConvIn.frame_ideal, ConvIn.frame_ref, DsaOut.frame, DsaOut.frame_ideal, DsaOut.frame_ref, Mlp1.frame, Mlp1.frame_ideal, Mlp1.frame_ref, Pe1.frame, Pe1.frame_ideal, Pe1.frame_ref, ConvOut.frame, ConvOut.frame_ideal, ConvOut.frame_ref, Attn.frame, Attn.frame_ideal, Attn.frame_ref,
  Mlp0.preserves, Mlp0.algebraic, Pe0.preserves, Pe0.algebraic, ConvIn.preserves, ConvIn.algebraic, DsaOut.preserves, DsaOut.algebraic, Mlp1.preserves, Mlp1.algebraic, Pe1.preserves, Pe1.algebraic, ConvOut.preserves, ConvOut.algebraic, Attn.preserves, Attn.algebraic⟩

end Cert.Proof

end
